-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def Pre_WUp (m : (ℓ : Loc Cert.WUp.nD Cert.WUp.τ Cert.WUp.sig) → Buf (Elt Bits) ℓ) : Prop :=
  True

def Pre_WUpIdeal (m : (ℓ : Loc Cert.WUpIdeal.nD Cert.WUpIdeal.τ Cert.WUpIdeal.sig) → Buf (Elt Ideal) ℓ) : Prop :=
  True

def Pre_WUpRefIdeal (m : (ℓ : Loc Cert.WUpRefIdeal.nD Cert.WUpRefIdeal.τ Cert.WUpRefIdeal.sig) → Buf (Elt Ideal) ℓ) : Prop :=
  True

def Pre_WIn (m : (ℓ : Loc Cert.WIn.nD Cert.WIn.τ Cert.WIn.sig) → Buf (Elt Bits) ℓ) : Prop :=
  True

def Pre_WInIdeal (m : (ℓ : Loc Cert.WInIdeal.nD Cert.WInIdeal.τ Cert.WInIdeal.sig) → Buf (Elt Ideal) ℓ) : Prop :=
  True

def Pre_WInRefIdeal (m : (ℓ : Loc Cert.WInRefIdeal.nD Cert.WInRefIdeal.τ Cert.WInRefIdeal.sig) → Buf (Elt Ideal) ℓ) : Prop :=
  True

def Pre_WDown (m : (ℓ : Loc Cert.WDown.nD Cert.WDown.τ Cert.WDown.sig) → Buf (Elt Bits) ℓ) : Prop :=
  True

def Pre_WDownIdeal (m : (ℓ : Loc Cert.WDownIdeal.nD Cert.WDownIdeal.τ Cert.WDownIdeal.sig) → Buf (Elt Ideal) ℓ) : Prop :=
  True

def Pre_WDownRefIdeal (m : (ℓ : Loc Cert.WDownRefIdeal.nD Cert.WDownRefIdeal.τ Cert.WDownRefIdeal.sig) → Buf (Elt Ideal) ℓ) : Prop :=
  True

def Pre_WOut (m : (ℓ : Loc Cert.WOut.nD Cert.WOut.τ Cert.WOut.sig) → Buf (Elt Bits) ℓ) : Prop :=
  True

def Pre_WOutIdeal (m : (ℓ : Loc Cert.WOutIdeal.nD Cert.WOutIdeal.τ Cert.WOutIdeal.sig) → Buf (Elt Ideal) ℓ) : Prop :=
  True

def Pre_WOutRefIdeal (m : (ℓ : Loc Cert.WOutRefIdeal.nD Cert.WOutRefIdeal.τ Cert.WOutRefIdeal.sig) → Buf (Elt Ideal) ℓ) : Prop :=
  True

def Pre_WPleGate (m : (ℓ : Loc Cert.WPleGate.nD Cert.WPleGate.τ Cert.WPleGate.sig) → Buf (Elt Bits) ℓ) : Prop :=
  True

def Pre_WPleGateIdeal (m : (ℓ : Loc Cert.WPleGateIdeal.nD Cert.WPleGateIdeal.τ Cert.WPleGateIdeal.sig) → Buf (Elt Ideal) ℓ) : Prop :=
  True

def Pre_WPleGateRefIdeal (m : (ℓ : Loc Cert.WPleGateRefIdeal.nD Cert.WPleGateRefIdeal.τ Cert.WPleGateRefIdeal.sig) → Buf (Elt Ideal) ℓ) : Prop :=
  True

def Pre_WBranchA (m : (ℓ : Loc Cert.WBranchA.nD Cert.WBranchA.τ Cert.WBranchA.sig) → Buf (Elt Bits) ℓ) : Prop :=
  True

def Pre_WBranchAIdeal (m : (ℓ : Loc Cert.WBranchAIdeal.nD Cert.WBranchAIdeal.τ Cert.WBranchAIdeal.sig) → Buf (Elt Ideal) ℓ) : Prop :=
  True

def Pre_WBranchARefIdeal (m : (ℓ : Loc Cert.WBranchARefIdeal.nD Cert.WBranchARefIdeal.τ Cert.WBranchARefIdeal.sig) → Buf (Elt Ideal) ℓ) : Prop :=
  True

def Pre_WBranchB (m : (ℓ : Loc Cert.WBranchB.nD Cert.WBranchB.τ Cert.WBranchB.sig) → Buf (Elt Bits) ℓ) : Prop :=
  True

def Pre_WBranchBIdeal (m : (ℓ : Loc Cert.WBranchBIdeal.nD Cert.WBranchBIdeal.τ Cert.WBranchBIdeal.sig) → Buf (Elt Ideal) ℓ) : Prop :=
  True

def Pre_WBranchBRefIdeal (m : (ℓ : Loc Cert.WBranchBRefIdeal.nD Cert.WBranchBRefIdeal.τ Cert.WBranchBRefIdeal.sig) → Buf (Elt Ideal) ℓ) : Prop :=
  True

def Pre_FfnAct (m : (ℓ : Loc Cert.FfnAct.nD Cert.FfnAct.τ Cert.FfnAct.sig) → Buf (Elt Bits) ℓ) : Prop :=
  True

def Pre_FfnActIdeal (m : (ℓ : Loc Cert.FfnActIdeal.nD Cert.FfnActIdeal.τ Cert.FfnActIdeal.sig) → Buf (Elt Ideal) ℓ) : Prop :=
  True

def Pre_FfnActRefIdeal (m : (ℓ : Loc Cert.FfnActRefIdeal.nD Cert.FfnActRefIdeal.τ Cert.FfnActRefIdeal.sig) → Buf (Elt Ideal) ℓ) : Prop :=
  True

def Pre_Gated (m : (ℓ : Loc Cert.Gated.nD Cert.Gated.τ Cert.Gated.sig) → Buf (Elt Bits) ℓ) : Prop :=
  True

def Pre_GatedIdeal (m : (ℓ : Loc Cert.GatedIdeal.nD Cert.GatedIdeal.τ Cert.GatedIdeal.sig) → Buf (Elt Ideal) ℓ) : Prop :=
  True

def Pre_GatedRefIdeal (m : (ℓ : Loc Cert.GatedRefIdeal.nD Cert.GatedRefIdeal.τ Cert.GatedRefIdeal.sig) → Buf (Elt Ideal) ℓ) : Prop :=
  True

def Pre_PoolOut (m : (ℓ : Loc Cert.PoolOut.nD Cert.PoolOut.τ Cert.PoolOut.sig) → Buf (Elt Bits) ℓ) : Prop :=
  True

def Pre_PoolOutIdeal (m : (ℓ : Loc Cert.PoolOutIdeal.nD Cert.PoolOutIdeal.τ Cert.PoolOutIdeal.sig) → Buf (Elt Ideal) ℓ) : Prop :=
  True

def Pre_PoolOutRefIdeal (m : (ℓ : Loc Cert.PoolOutRefIdeal.nD Cert.PoolOutRefIdeal.τ Cert.PoolOutRefIdeal.sig) → Buf (Elt Ideal) ℓ) : Prop :=
  True

def Pre_SguOut (m : (ℓ : Loc Cert.SguOut.nD Cert.SguOut.τ Cert.SguOut.sig) → Buf (Elt Bits) ℓ) : Prop :=
  True

def Pre_SguOutIdeal (m : (ℓ : Loc Cert.SguOutIdeal.nD Cert.SguOutIdeal.τ Cert.SguOutIdeal.sig) → Buf (Elt Ideal) ℓ) : Prop :=
  True

def Pre_SguOutRefIdeal (m : (ℓ : Loc Cert.SguOutRefIdeal.nD Cert.SguOutRefIdeal.τ Cert.SguOutRefIdeal.sig) → Buf (Elt Ideal) ℓ) : Prop :=
  True

def Pre_UpProj (m : (ℓ : Loc Cert.UpProj.nD Cert.UpProj.τ Cert.UpProj.sig) → Buf (Elt Bits) ℓ) : Prop :=
  True

def Pre_UpProjIdeal (m : (ℓ : Loc Cert.UpProjIdeal.nD Cert.UpProjIdeal.τ Cert.UpProjIdeal.sig) → Buf (Elt Ideal) ℓ) : Prop :=
  True

def Pre_UpProjRefIdeal (m : (ℓ : Loc Cert.UpProjRefIdeal.nD Cert.UpProjRefIdeal.τ Cert.UpProjRefIdeal.sig) → Buf (Elt Ideal) ℓ) : Prop :=
  True

def Pre_PleGateProj (m : (ℓ : Loc Cert.PleGateProj.nD Cert.PleGateProj.τ Cert.PleGateProj.sig) → Buf (Elt Bits) ℓ) : Prop :=
  True

def Pre_PleGateProjIdeal (m : (ℓ : Loc Cert.PleGateProjIdeal.nD Cert.PleGateProjIdeal.τ Cert.PleGateProjIdeal.sig) → Buf (Elt Ideal) ℓ) : Prop :=
  True

def Pre_PleGateProjRefIdeal (m : (ℓ : Loc Cert.PleGateProjRefIdeal.nD Cert.PleGateProjRefIdeal.τ Cert.PleGateProjRefIdeal.sig) → Buf (Elt Ideal) ℓ) : Prop :=
  True

def Pre_PleProj (m : (ℓ : Loc Cert.PleProj.nD Cert.PleProj.τ Cert.PleProj.sig) → Buf (Elt Bits) ℓ) : Prop :=
  True

def Pre_PleProjIdeal (m : (ℓ : Loc Cert.PleProjIdeal.nD Cert.PleProjIdeal.τ Cert.PleProjIdeal.sig) → Buf (Elt Ideal) ℓ) : Prop :=
  True

def Pre_PleProjRefIdeal (m : (ℓ : Loc Cert.PleProjRefIdeal.nD Cert.PleProjRefIdeal.τ Cert.PleProjRefIdeal.sig) → Buf (Elt Ideal) ℓ) : Prop :=
  True

def Pre_OutProj (m : (ℓ : Loc Cert.OutProj.nD Cert.OutProj.τ Cert.OutProj.sig) → Buf (Elt Bits) ℓ) : Prop :=
  True

def Pre_OutProjIdeal (m : (ℓ : Loc Cert.OutProjIdeal.nD Cert.OutProjIdeal.τ Cert.OutProjIdeal.sig) → Buf (Elt Ideal) ℓ) : Prop :=
  True

def Pre_OutProjRefIdeal (m : (ℓ : Loc Cert.OutProjRefIdeal.nD Cert.OutProjRefIdeal.τ Cert.OutProjRefIdeal.sig) → Buf (Elt Ideal) ℓ) : Prop :=
  True

def Pre_DownProj (m : (ℓ : Loc Cert.DownProj.nD Cert.DownProj.τ Cert.DownProj.sig) → Buf (Elt Bits) ℓ) : Prop :=
  True

def Pre_DownProjIdeal (m : (ℓ : Loc Cert.DownProjIdeal.nD Cert.DownProjIdeal.τ Cert.DownProjIdeal.sig) → Buf (Elt Ideal) ℓ) : Prop :=
  True

def Pre_DownProjRefIdeal (m : (ℓ : Loc Cert.DownProjRefIdeal.nD Cert.DownProjRefIdeal.τ Cert.DownProjRefIdeal.sig) → Buf (Elt Ideal) ℓ) : Prop :=
  True

def Pre_WPle (m : (ℓ : Loc Cert.WPle.nD Cert.WPle.τ Cert.WPle.sig) → Buf (Elt Bits) ℓ) : Prop :=
  True

def Pre_WPleIdeal (m : (ℓ : Loc Cert.WPleIdeal.nD Cert.WPleIdeal.τ Cert.WPleIdeal.sig) → Buf (Elt Ideal) ℓ) : Prop :=
  True

def Pre_WPleRefIdeal (m : (ℓ : Loc Cert.WPleRefIdeal.nD Cert.WPleRefIdeal.τ Cert.WPleRefIdeal.sig) → Buf (Elt Ideal) ℓ) : Prop :=
  True

def Pre_AdamIn (m : (ℓ : Loc Cert.AdamIn.nD Cert.AdamIn.τ Cert.AdamIn.sig) → Buf (Elt Bits) ℓ) : Prop :=
  True

def Pre_AdamInIdeal (m : (ℓ : Loc Cert.AdamInIdeal.nD Cert.AdamInIdeal.τ Cert.AdamInIdeal.sig) → Buf (Elt Ideal) ℓ) : Prop :=
  True

def Pre_AdamInRefIdeal (m : (ℓ : Loc Cert.AdamInRefIdeal.nD Cert.AdamInRefIdeal.τ Cert.AdamInRefIdeal.sig) → Buf (Elt Ideal) ℓ) : Prop :=
  True

def Pre_AdamPool (m : (ℓ : Loc Cert.AdamPool.nD Cert.AdamPool.τ Cert.AdamPool.sig) → Buf (Elt Bits) ℓ) : Prop :=
  True

def Pre_AdamPoolIdeal (m : (ℓ : Loc Cert.AdamPoolIdeal.nD Cert.AdamPoolIdeal.τ Cert.AdamPoolIdeal.sig) → Buf (Elt Ideal) ℓ) : Prop :=
  True

def Pre_AdamPoolRefIdeal (m : (ℓ : Loc Cert.AdamPoolRefIdeal.nD Cert.AdamPoolRefIdeal.τ Cert.AdamPoolRefIdeal.sig) → Buf (Elt Ideal) ℓ) : Prop :=
  True

def Pre_AdamOut (m : (ℓ : Loc Cert.AdamOut.nD Cert.AdamOut.τ Cert.AdamOut.sig) → Buf (Elt Bits) ℓ) : Prop :=
  True

def Pre_AdamOutIdeal (m : (ℓ : Loc Cert.AdamOutIdeal.nD Cert.AdamOutIdeal.τ Cert.AdamOutIdeal.sig) → Buf (Elt Ideal) ℓ) : Prop :=
  True

def Pre_AdamOutRefIdeal (m : (ℓ : Loc Cert.AdamOutRefIdeal.nD Cert.AdamOutRefIdeal.τ Cert.AdamOutRefIdeal.sig) → Buf (Elt Ideal) ℓ) : Prop :=
  True

def Pre_AdamUp (m : (ℓ : Loc Cert.AdamUp.nD Cert.AdamUp.τ Cert.AdamUp.sig) → Buf (Elt Bits) ℓ) : Prop :=
  True

def Pre_AdamUpIdeal (m : (ℓ : Loc Cert.AdamUpIdeal.nD Cert.AdamUpIdeal.τ Cert.AdamUpIdeal.sig) → Buf (Elt Ideal) ℓ) : Prop :=
  True

def Pre_AdamUpRefIdeal (m : (ℓ : Loc Cert.AdamUpRefIdeal.nD Cert.AdamUpRefIdeal.τ Cert.AdamUpRefIdeal.sig) → Buf (Elt Ideal) ℓ) : Prop :=
  True

def Pre_AdamDown (m : (ℓ : Loc Cert.AdamDown.nD Cert.AdamDown.τ Cert.AdamDown.sig) → Buf (Elt Bits) ℓ) : Prop :=
  True

def Pre_AdamDownIdeal (m : (ℓ : Loc Cert.AdamDownIdeal.nD Cert.AdamDownIdeal.τ Cert.AdamDownIdeal.sig) → Buf (Elt Ideal) ℓ) : Prop :=
  True

def Pre_AdamDownRefIdeal (m : (ℓ : Loc Cert.AdamDownRefIdeal.nD Cert.AdamDownRefIdeal.τ Cert.AdamDownRefIdeal.sig) → Buf (Elt Ideal) ℓ) : Prop :=
  True

def Pre_AdamSmall (m : (ℓ : Loc Cert.AdamSmall.nD Cert.AdamSmall.τ Cert.AdamSmall.sig) → Buf (Elt Bits) ℓ) : Prop :=
  True

def Pre_AdamSmallIdeal (m : (ℓ : Loc Cert.AdamSmallIdeal.nD Cert.AdamSmallIdeal.τ Cert.AdamSmallIdeal.sig) → Buf (Elt Ideal) ℓ) : Prop :=
  True

def Pre_AdamSmallRefIdeal (m : (ℓ : Loc Cert.AdamSmallRefIdeal.nD Cert.AdamSmallRefIdeal.τ Cert.AdamSmallRefIdeal.sig) → Buf (Elt Ideal) ℓ) : Prop :=
  True

def Pre_LossHead (m : (ℓ : Loc Cert.LossHead.nD Cert.LossHead.τ Cert.LossHead.sig) → Buf (Elt Bits) ℓ) : Prop :=
  True

def Pre_LossHeadIdeal (m : (ℓ : Loc Cert.LossHeadIdeal.nD Cert.LossHeadIdeal.τ Cert.LossHeadIdeal.sig) → Buf (Elt Ideal) ℓ) : Prop :=
  True

def Pre_LossHeadIdeal_finite_loss [hPre_finite_loss : Cert.Pre_finite_loss.Facts] (m : (ℓ : Loc Cert.LossHeadIdeal.nD Cert.LossHeadIdeal.τ Cert.LossHeadIdeal.sig) → Buf (Elt Ideal) ℓ) : Prop :=
  ∀ c : Dev Cert.LossHeadIdeal.nD,
    (Cert.Pre_finite_loss.fn (F := Ideal) (m ((c.tc : Thread Cert.LossHeadIdeal.nD Cert.LossHeadIdeal.τ).loc Cert.LossHeadIdeal.main_arg0)) (m ((c.tc : Thread Cert.LossHeadIdeal.nD Cert.LossHeadIdeal.τ).loc Cert.LossHeadIdeal.main_arg1)) (m ((c.tc : Thread Cert.LossHeadIdeal.nD Cert.LossHeadIdeal.τ).loc Cert.LossHeadIdeal.main_arg2))) = (fun _ => 1#1)

def Pre_LossHeadRefIdeal (m : (ℓ : Loc Cert.LossHeadRefIdeal.nD Cert.LossHeadRefIdeal.τ Cert.LossHeadRefIdeal.sig) → Buf (Elt Ideal) ℓ) : Prop :=
  True

def Pre_LossHeadRefIdeal_finite_loss [hPre_finite_loss : Cert.Pre_finite_loss.Facts] (m : (ℓ : Loc Cert.LossHeadRefIdeal.nD Cert.LossHeadRefIdeal.τ Cert.LossHeadRefIdeal.sig) → Buf (Elt Ideal) ℓ) : Prop :=
  ∀ c : Dev Cert.LossHeadRefIdeal.nD,
    (Cert.Pre_finite_loss.fn (F := Ideal) (m ((c.tc : Thread Cert.LossHeadRefIdeal.nD Cert.LossHeadRefIdeal.τ).loc Cert.LossHeadRefIdeal.main_arg0)) (m ((c.tc : Thread Cert.LossHeadRefIdeal.nD Cert.LossHeadRefIdeal.τ).loc Cert.LossHeadRefIdeal.main_arg1)) (m ((c.tc : Thread Cert.LossHeadRefIdeal.nD Cert.LossHeadRefIdeal.τ).loc Cert.LossHeadRefIdeal.main_arg2))) = (fun _ => 1#1)

def Pre_FfnNorm (m : (ℓ : Loc Cert.FfnNorm.nD Cert.FfnNorm.τ Cert.FfnNorm.sig) → Buf (Elt Bits) ℓ) : Prop :=
  True

def Pre_FfnNormIdeal (m : (ℓ : Loc Cert.FfnNormIdeal.nD Cert.FfnNormIdeal.τ Cert.FfnNormIdeal.sig) → Buf (Elt Ideal) ℓ) : Prop :=
  True

def Pre_FfnNormIdeal_finite_ffn_norm_bwd [hPre_finite_ffn_norm_bwd : Cert.Pre_finite_ffn_norm_bwd.Facts] (m : (ℓ : Loc Cert.FfnNormIdeal.nD Cert.FfnNormIdeal.τ Cert.FfnNormIdeal.sig) → Buf (Elt Ideal) ℓ) : Prop :=
  ∀ c : Dev Cert.FfnNormIdeal.nD,
    (Cert.Pre_finite_ffn_norm_bwd.fn (F := Ideal) (m ((c.tc : Thread Cert.FfnNormIdeal.nD Cert.FfnNormIdeal.τ).loc Cert.FfnNormIdeal.main_arg0)) (m ((c.tc : Thread Cert.FfnNormIdeal.nD Cert.FfnNormIdeal.τ).loc Cert.FfnNormIdeal.main_arg1)) (m ((c.tc : Thread Cert.FfnNormIdeal.nD Cert.FfnNormIdeal.τ).loc Cert.FfnNormIdeal.main_arg2)) (m ((c.tc : Thread Cert.FfnNormIdeal.nD Cert.FfnNormIdeal.τ).loc Cert.FfnNormIdeal.main_arg3)) (m ((c.tc : Thread Cert.FfnNormIdeal.nD Cert.FfnNormIdeal.τ).loc Cert.FfnNormIdeal.main_arg4))) = (fun _ => 1#1)

def Pre_FfnNormRefIdeal (m : (ℓ : Loc Cert.FfnNormRefIdeal.nD Cert.FfnNormRefIdeal.τ Cert.FfnNormRefIdeal.sig) → Buf (Elt Ideal) ℓ) : Prop :=
  True

def Pre_FfnNormRefIdeal_finite_ffn_norm_bwd [hPre_finite_ffn_norm_bwd : Cert.Pre_finite_ffn_norm_bwd.Facts] (m : (ℓ : Loc Cert.FfnNormRefIdeal.nD Cert.FfnNormRefIdeal.τ Cert.FfnNormRefIdeal.sig) → Buf (Elt Ideal) ℓ) : Prop :=
  ∀ c : Dev Cert.FfnNormRefIdeal.nD,
    (Cert.Pre_finite_ffn_norm_bwd.fn (F := Ideal) (m ((c.tc : Thread Cert.FfnNormRefIdeal.nD Cert.FfnNormRefIdeal.τ).loc Cert.FfnNormRefIdeal.main_arg0)) (m ((c.tc : Thread Cert.FfnNormRefIdeal.nD Cert.FfnNormRefIdeal.τ).loc Cert.FfnNormRefIdeal.main_arg1)) (m ((c.tc : Thread Cert.FfnNormRefIdeal.nD Cert.FfnNormRefIdeal.τ).loc Cert.FfnNormRefIdeal.main_arg2)) (m ((c.tc : Thread Cert.FfnNormRefIdeal.nD Cert.FfnNormRefIdeal.τ).loc Cert.FfnNormRefIdeal.main_arg3)) (m ((c.tc : Thread Cert.FfnNormRefIdeal.nD Cert.FfnNormRefIdeal.τ).loc Cert.FfnNormRefIdeal.main_arg4))) = (fun _ => 1#1)

def Pre_MixNorm (m : (ℓ : Loc Cert.MixNorm.nD Cert.MixNorm.τ Cert.MixNorm.sig) → Buf (Elt Bits) ℓ) : Prop :=
  True

def Pre_MixNormIdeal (m : (ℓ : Loc Cert.MixNormIdeal.nD Cert.MixNormIdeal.τ Cert.MixNormIdeal.sig) → Buf (Elt Ideal) ℓ) : Prop :=
  True

def Pre_MixNormIdeal_finite_mix_norm_bwd [hPre_finite_mix_norm_bwd : Cert.Pre_finite_mix_norm_bwd.Facts] (m : (ℓ : Loc Cert.MixNormIdeal.nD Cert.MixNormIdeal.τ Cert.MixNormIdeal.sig) → Buf (Elt Ideal) ℓ) : Prop :=
  ∀ c : Dev Cert.MixNormIdeal.nD,
    (Cert.Pre_finite_mix_norm_bwd.fn (F := Ideal) (m ((c.tc : Thread Cert.MixNormIdeal.nD Cert.MixNormIdeal.τ).loc Cert.MixNormIdeal.main_arg0)) (m ((c.tc : Thread Cert.MixNormIdeal.nD Cert.MixNormIdeal.τ).loc Cert.MixNormIdeal.main_arg1)) (m ((c.tc : Thread Cert.MixNormIdeal.nD Cert.MixNormIdeal.τ).loc Cert.MixNormIdeal.main_arg2)) (m ((c.tc : Thread Cert.MixNormIdeal.nD Cert.MixNormIdeal.τ).loc Cert.MixNormIdeal.main_arg3)) (m ((c.tc : Thread Cert.MixNormIdeal.nD Cert.MixNormIdeal.τ).loc Cert.MixNormIdeal.main_arg4))) = (fun _ => 1#1)

def Pre_MixNormRefIdeal (m : (ℓ : Loc Cert.MixNormRefIdeal.nD Cert.MixNormRefIdeal.τ Cert.MixNormRefIdeal.sig) → Buf (Elt Ideal) ℓ) : Prop :=
  True

def Pre_MixNormRefIdeal_finite_mix_norm_bwd [hPre_finite_mix_norm_bwd : Cert.Pre_finite_mix_norm_bwd.Facts] (m : (ℓ : Loc Cert.MixNormRefIdeal.nD Cert.MixNormRefIdeal.τ Cert.MixNormRefIdeal.sig) → Buf (Elt Ideal) ℓ) : Prop :=
  ∀ c : Dev Cert.MixNormRefIdeal.nD,
    (Cert.Pre_finite_mix_norm_bwd.fn (F := Ideal) (m ((c.tc : Thread Cert.MixNormRefIdeal.nD Cert.MixNormRefIdeal.τ).loc Cert.MixNormRefIdeal.main_arg0)) (m ((c.tc : Thread Cert.MixNormRefIdeal.nD Cert.MixNormRefIdeal.τ).loc Cert.MixNormRefIdeal.main_arg1)) (m ((c.tc : Thread Cert.MixNormRefIdeal.nD Cert.MixNormRefIdeal.τ).loc Cert.MixNormRefIdeal.main_arg2)) (m ((c.tc : Thread Cert.MixNormRefIdeal.nD Cert.MixNormRefIdeal.τ).loc Cert.MixNormRefIdeal.main_arg3)) (m ((c.tc : Thread Cert.MixNormRefIdeal.nD Cert.MixNormRefIdeal.τ).loc Cert.MixNormRefIdeal.main_arg4))) = (fun _ => 1#1)

def Pre_PleNorm (m : (ℓ : Loc Cert.PleNorm.nD Cert.PleNorm.τ Cert.PleNorm.sig) → Buf (Elt Bits) ℓ) : Prop :=
  True

def Pre_PleNormIdeal (m : (ℓ : Loc Cert.PleNormIdeal.nD Cert.PleNormIdeal.τ Cert.PleNormIdeal.sig) → Buf (Elt Ideal) ℓ) : Prop :=
  True

def Pre_PleNormIdeal_finite_ple_norm_bwd [hPre_finite_ple_norm_bwd : Cert.Pre_finite_ple_norm_bwd.Facts] (m : (ℓ : Loc Cert.PleNormIdeal.nD Cert.PleNormIdeal.τ Cert.PleNormIdeal.sig) → Buf (Elt Ideal) ℓ) : Prop :=
  ∀ c : Dev Cert.PleNormIdeal.nD,
    (Cert.Pre_finite_ple_norm_bwd.fn (F := Ideal) (m ((c.tc : Thread Cert.PleNormIdeal.nD Cert.PleNormIdeal.τ).loc Cert.PleNormIdeal.main_arg0)) (m ((c.tc : Thread Cert.PleNormIdeal.nD Cert.PleNormIdeal.τ).loc Cert.PleNormIdeal.main_arg1)) (m ((c.tc : Thread Cert.PleNormIdeal.nD Cert.PleNormIdeal.τ).loc Cert.PleNormIdeal.main_arg2)) (m ((c.tc : Thread Cert.PleNormIdeal.nD Cert.PleNormIdeal.τ).loc Cert.PleNormIdeal.main_arg3)) (m ((c.tc : Thread Cert.PleNormIdeal.nD Cert.PleNormIdeal.τ).loc Cert.PleNormIdeal.main_arg4))) = (fun _ => 1#1)

def Pre_PleNormRefIdeal (m : (ℓ : Loc Cert.PleNormRefIdeal.nD Cert.PleNormRefIdeal.τ Cert.PleNormRefIdeal.sig) → Buf (Elt Ideal) ℓ) : Prop :=
  True

def Pre_PleNormRefIdeal_finite_ple_norm_bwd [hPre_finite_ple_norm_bwd : Cert.Pre_finite_ple_norm_bwd.Facts] (m : (ℓ : Loc Cert.PleNormRefIdeal.nD Cert.PleNormRefIdeal.τ Cert.PleNormRefIdeal.sig) → Buf (Elt Ideal) ℓ) : Prop :=
  ∀ c : Dev Cert.PleNormRefIdeal.nD,
    (Cert.Pre_finite_ple_norm_bwd.fn (F := Ideal) (m ((c.tc : Thread Cert.PleNormRefIdeal.nD Cert.PleNormRefIdeal.τ).loc Cert.PleNormRefIdeal.main_arg0)) (m ((c.tc : Thread Cert.PleNormRefIdeal.nD Cert.PleNormRefIdeal.τ).loc Cert.PleNormRefIdeal.main_arg1)) (m ((c.tc : Thread Cert.PleNormRefIdeal.nD Cert.PleNormRefIdeal.τ).loc Cert.PleNormRefIdeal.main_arg2)) (m ((c.tc : Thread Cert.PleNormRefIdeal.nD Cert.PleNormRefIdeal.τ).loc Cert.PleNormRefIdeal.main_arg3)) (m ((c.tc : Thread Cert.PleNormRefIdeal.nD Cert.PleNormRefIdeal.τ).loc Cert.PleNormRefIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_WUp [hWUp : Cert.WUp.Facts] : Prop :=
  ∀ (m : (ℓ : Loc Cert.WUp.nD Cert.WUp.τ Cert.WUp.sig) → Buf (Elt Bits) ℓ) (g : Dev Cert.WUp.nD → PrngReg), Pre_WUp m →
    θ_run (Cert.WUp.defs (F := Bits)) (onTc (τ := Cert.WUp.τ) (Cert.WUp.main (F := Bits))) ⟨m, fun _ => 0, g⟩ (fun r => (∀ c : Dev Cert.WUp.nD,
      r.2.mem ((c.tc : Thread Cert.WUp.nD Cert.WUp.τ).loc Cert.WUp.main_arg0) = m ((c.tc : Thread Cert.WUp.nD Cert.WUp.τ).loc Cert.WUp.main_arg0)
      ∧ r.2.mem ((c.tc : Thread Cert.WUp.nD Cert.WUp.τ).loc Cert.WUp.main_arg1) = m ((c.tc : Thread Cert.WUp.nD Cert.WUp.τ).loc Cert.WUp.main_arg1))
      ∧ r.2.sem = fun _ => 0)

def quiescent_WUpIdeal [hWUpIdeal : Cert.WUpIdeal.Facts] : Prop :=
  ∀ (m : (ℓ : Loc Cert.WUpIdeal.nD Cert.WUpIdeal.τ Cert.WUpIdeal.sig) → Buf (Elt Ideal) ℓ) (g : Dev Cert.WUpIdeal.nD → PrngReg), Pre_WUpIdeal m →
    θ_run (Cert.WUpIdeal.defs (F := Ideal)) (onTc (τ := Cert.WUpIdeal.τ) (Cert.WUpIdeal.main (F := Ideal))) ⟨m, fun _ => 0, g⟩ (fun r => (∀ c : Dev Cert.WUpIdeal.nD,
      r.2.mem ((c.tc : Thread Cert.WUpIdeal.nD Cert.WUpIdeal.τ).loc Cert.WUpIdeal.main_arg0) = m ((c.tc : Thread Cert.WUpIdeal.nD Cert.WUpIdeal.τ).loc Cert.WUpIdeal.main_arg0)
      ∧ r.2.mem ((c.tc : Thread Cert.WUpIdeal.nD Cert.WUpIdeal.τ).loc Cert.WUpIdeal.main_arg1) = m ((c.tc : Thread Cert.WUpIdeal.nD Cert.WUpIdeal.τ).loc Cert.WUpIdeal.main_arg1))
      ∧ r.2.sem = fun _ => 0)

def quiescent_WUpRefIdeal [hWUpRefIdeal : Cert.WUpRefIdeal.Facts] : Prop :=
  ∀ (m : (ℓ : Loc Cert.WUpRefIdeal.nD Cert.WUpRefIdeal.τ Cert.WUpRefIdeal.sig) → Buf (Elt Ideal) ℓ) (g : Dev Cert.WUpRefIdeal.nD → PrngReg), Pre_WUpRefIdeal m →
    θ_run (Cert.WUpRefIdeal.defs (F := Ideal)) (onTc (τ := Cert.WUpRefIdeal.τ) (Cert.WUpRefIdeal.main (F := Ideal))) ⟨m, fun _ => 0, g⟩ (fun r => (∀ c : Dev Cert.WUpRefIdeal.nD,
      r.2.mem ((c.tc : Thread Cert.WUpRefIdeal.nD Cert.WUpRefIdeal.τ).loc Cert.WUpRefIdeal.main_arg0) = m ((c.tc : Thread Cert.WUpRefIdeal.nD Cert.WUpRefIdeal.τ).loc Cert.WUpRefIdeal.main_arg0)
      ∧ r.2.mem ((c.tc : Thread Cert.WUpRefIdeal.nD Cert.WUpRefIdeal.τ).loc Cert.WUpRefIdeal.main_arg1) = m ((c.tc : Thread Cert.WUpRefIdeal.nD Cert.WUpRefIdeal.τ).loc Cert.WUpRefIdeal.main_arg1))
      ∧ r.2.sem = fun _ => 0)

def quiescent_WIn [hWIn : Cert.WIn.Facts] : Prop :=
  ∀ (m : (ℓ : Loc Cert.WIn.nD Cert.WIn.τ Cert.WIn.sig) → Buf (Elt Bits) ℓ) (g : Dev Cert.WIn.nD → PrngReg), Pre_WIn m →
    θ_run (Cert.WIn.defs (F := Bits)) (onTc (τ := Cert.WIn.τ) (Cert.WIn.main (F := Bits))) ⟨m, fun _ => 0, g⟩ (fun r => (∀ c : Dev Cert.WIn.nD,
      r.2.mem ((c.tc : Thread Cert.WIn.nD Cert.WIn.τ).loc Cert.WIn.main_arg0) = m ((c.tc : Thread Cert.WIn.nD Cert.WIn.τ).loc Cert.WIn.main_arg0)
      ∧ r.2.mem ((c.tc : Thread Cert.WIn.nD Cert.WIn.τ).loc Cert.WIn.main_arg1) = m ((c.tc : Thread Cert.WIn.nD Cert.WIn.τ).loc Cert.WIn.main_arg1))
      ∧ r.2.sem = fun _ => 0)

def quiescent_WInIdeal [hWInIdeal : Cert.WInIdeal.Facts] : Prop :=
  ∀ (m : (ℓ : Loc Cert.WInIdeal.nD Cert.WInIdeal.τ Cert.WInIdeal.sig) → Buf (Elt Ideal) ℓ) (g : Dev Cert.WInIdeal.nD → PrngReg), Pre_WInIdeal m →
    θ_run (Cert.WInIdeal.defs (F := Ideal)) (onTc (τ := Cert.WInIdeal.τ) (Cert.WInIdeal.main (F := Ideal))) ⟨m, fun _ => 0, g⟩ (fun r => (∀ c : Dev Cert.WInIdeal.nD,
      r.2.mem ((c.tc : Thread Cert.WInIdeal.nD Cert.WInIdeal.τ).loc Cert.WInIdeal.main_arg0) = m ((c.tc : Thread Cert.WInIdeal.nD Cert.WInIdeal.τ).loc Cert.WInIdeal.main_arg0)
      ∧ r.2.mem ((c.tc : Thread Cert.WInIdeal.nD Cert.WInIdeal.τ).loc Cert.WInIdeal.main_arg1) = m ((c.tc : Thread Cert.WInIdeal.nD Cert.WInIdeal.τ).loc Cert.WInIdeal.main_arg1))
      ∧ r.2.sem = fun _ => 0)

def quiescent_WInRefIdeal [hWInRefIdeal : Cert.WInRefIdeal.Facts] : Prop :=
  ∀ (m : (ℓ : Loc Cert.WInRefIdeal.nD Cert.WInRefIdeal.τ Cert.WInRefIdeal.sig) → Buf (Elt Ideal) ℓ) (g : Dev Cert.WInRefIdeal.nD → PrngReg), Pre_WInRefIdeal m →
    θ_run (Cert.WInRefIdeal.defs (F := Ideal)) (onTc (τ := Cert.WInRefIdeal.τ) (Cert.WInRefIdeal.main (F := Ideal))) ⟨m, fun _ => 0, g⟩ (fun r => (∀ c : Dev Cert.WInRefIdeal.nD,
      r.2.mem ((c.tc : Thread Cert.WInRefIdeal.nD Cert.WInRefIdeal.τ).loc Cert.WInRefIdeal.main_arg0) = m ((c.tc : Thread Cert.WInRefIdeal.nD Cert.WInRefIdeal.τ).loc Cert.WInRefIdeal.main_arg0)
      ∧ r.2.mem ((c.tc : Thread Cert.WInRefIdeal.nD Cert.WInRefIdeal.τ).loc Cert.WInRefIdeal.main_arg1) = m ((c.tc : Thread Cert.WInRefIdeal.nD Cert.WInRefIdeal.τ).loc Cert.WInRefIdeal.main_arg1))
      ∧ r.2.sem = fun _ => 0)

def quiescent_WDown [hWDown : Cert.WDown.Facts] : Prop :=
  ∀ (m : (ℓ : Loc Cert.WDown.nD Cert.WDown.τ Cert.WDown.sig) → Buf (Elt Bits) ℓ) (g : Dev Cert.WDown.nD → PrngReg), Pre_WDown m →
    θ_run (Cert.WDown.defs (F := Bits)) (onTc (τ := Cert.WDown.τ) (Cert.WDown.main (F := Bits))) ⟨m, fun _ => 0, g⟩ (fun r => (∀ c : Dev Cert.WDown.nD,
      r.2.mem ((c.tc : Thread Cert.WDown.nD Cert.WDown.τ).loc Cert.WDown.main_arg0) = m ((c.tc : Thread Cert.WDown.nD Cert.WDown.τ).loc Cert.WDown.main_arg0)
      ∧ r.2.mem ((c.tc : Thread Cert.WDown.nD Cert.WDown.τ).loc Cert.WDown.main_arg1) = m ((c.tc : Thread Cert.WDown.nD Cert.WDown.τ).loc Cert.WDown.main_arg1))
      ∧ r.2.sem = fun _ => 0)

def quiescent_WDownIdeal [hWDownIdeal : Cert.WDownIdeal.Facts] : Prop :=
  ∀ (m : (ℓ : Loc Cert.WDownIdeal.nD Cert.WDownIdeal.τ Cert.WDownIdeal.sig) → Buf (Elt Ideal) ℓ) (g : Dev Cert.WDownIdeal.nD → PrngReg), Pre_WDownIdeal m →
    θ_run (Cert.WDownIdeal.defs (F := Ideal)) (onTc (τ := Cert.WDownIdeal.τ) (Cert.WDownIdeal.main (F := Ideal))) ⟨m, fun _ => 0, g⟩ (fun r => (∀ c : Dev Cert.WDownIdeal.nD,
      r.2.mem ((c.tc : Thread Cert.WDownIdeal.nD Cert.WDownIdeal.τ).loc Cert.WDownIdeal.main_arg0) = m ((c.tc : Thread Cert.WDownIdeal.nD Cert.WDownIdeal.τ).loc Cert.WDownIdeal.main_arg0)
      ∧ r.2.mem ((c.tc : Thread Cert.WDownIdeal.nD Cert.WDownIdeal.τ).loc Cert.WDownIdeal.main_arg1) = m ((c.tc : Thread Cert.WDownIdeal.nD Cert.WDownIdeal.τ).loc Cert.WDownIdeal.main_arg1))
      ∧ r.2.sem = fun _ => 0)

def quiescent_WDownRefIdeal [hWDownRefIdeal : Cert.WDownRefIdeal.Facts] : Prop :=
  ∀ (m : (ℓ : Loc Cert.WDownRefIdeal.nD Cert.WDownRefIdeal.τ Cert.WDownRefIdeal.sig) → Buf (Elt Ideal) ℓ) (g : Dev Cert.WDownRefIdeal.nD → PrngReg), Pre_WDownRefIdeal m →
    θ_run (Cert.WDownRefIdeal.defs (F := Ideal)) (onTc (τ := Cert.WDownRefIdeal.τ) (Cert.WDownRefIdeal.main (F := Ideal))) ⟨m, fun _ => 0, g⟩ (fun r => (∀ c : Dev Cert.WDownRefIdeal.nD,
      r.2.mem ((c.tc : Thread Cert.WDownRefIdeal.nD Cert.WDownRefIdeal.τ).loc Cert.WDownRefIdeal.main_arg0) = m ((c.tc : Thread Cert.WDownRefIdeal.nD Cert.WDownRefIdeal.τ).loc Cert.WDownRefIdeal.main_arg0)
      ∧ r.2.mem ((c.tc : Thread Cert.WDownRefIdeal.nD Cert.WDownRefIdeal.τ).loc Cert.WDownRefIdeal.main_arg1) = m ((c.tc : Thread Cert.WDownRefIdeal.nD Cert.WDownRefIdeal.τ).loc Cert.WDownRefIdeal.main_arg1))
      ∧ r.2.sem = fun _ => 0)

def quiescent_WOut [hWOut : Cert.WOut.Facts] : Prop :=
  ∀ (m : (ℓ : Loc Cert.WOut.nD Cert.WOut.τ Cert.WOut.sig) → Buf (Elt Bits) ℓ) (g : Dev Cert.WOut.nD → PrngReg), Pre_WOut m →
    θ_run (Cert.WOut.defs (F := Bits)) (onTc (τ := Cert.WOut.τ) (Cert.WOut.main (F := Bits))) ⟨m, fun _ => 0, g⟩ (fun r => (∀ c : Dev Cert.WOut.nD,
      r.2.mem ((c.tc : Thread Cert.WOut.nD Cert.WOut.τ).loc Cert.WOut.main_arg0) = m ((c.tc : Thread Cert.WOut.nD Cert.WOut.τ).loc Cert.WOut.main_arg0)
      ∧ r.2.mem ((c.tc : Thread Cert.WOut.nD Cert.WOut.τ).loc Cert.WOut.main_arg1) = m ((c.tc : Thread Cert.WOut.nD Cert.WOut.τ).loc Cert.WOut.main_arg1))
      ∧ r.2.sem = fun _ => 0)

def quiescent_WOutIdeal [hWOutIdeal : Cert.WOutIdeal.Facts] : Prop :=
  ∀ (m : (ℓ : Loc Cert.WOutIdeal.nD Cert.WOutIdeal.τ Cert.WOutIdeal.sig) → Buf (Elt Ideal) ℓ) (g : Dev Cert.WOutIdeal.nD → PrngReg), Pre_WOutIdeal m →
    θ_run (Cert.WOutIdeal.defs (F := Ideal)) (onTc (τ := Cert.WOutIdeal.τ) (Cert.WOutIdeal.main (F := Ideal))) ⟨m, fun _ => 0, g⟩ (fun r => (∀ c : Dev Cert.WOutIdeal.nD,
      r.2.mem ((c.tc : Thread Cert.WOutIdeal.nD Cert.WOutIdeal.τ).loc Cert.WOutIdeal.main_arg0) = m ((c.tc : Thread Cert.WOutIdeal.nD Cert.WOutIdeal.τ).loc Cert.WOutIdeal.main_arg0)
      ∧ r.2.mem ((c.tc : Thread Cert.WOutIdeal.nD Cert.WOutIdeal.τ).loc Cert.WOutIdeal.main_arg1) = m ((c.tc : Thread Cert.WOutIdeal.nD Cert.WOutIdeal.τ).loc Cert.WOutIdeal.main_arg1))
      ∧ r.2.sem = fun _ => 0)

def quiescent_WOutRefIdeal [hWOutRefIdeal : Cert.WOutRefIdeal.Facts] : Prop :=
  ∀ (m : (ℓ : Loc Cert.WOutRefIdeal.nD Cert.WOutRefIdeal.τ Cert.WOutRefIdeal.sig) → Buf (Elt Ideal) ℓ) (g : Dev Cert.WOutRefIdeal.nD → PrngReg), Pre_WOutRefIdeal m →
    θ_run (Cert.WOutRefIdeal.defs (F := Ideal)) (onTc (τ := Cert.WOutRefIdeal.τ) (Cert.WOutRefIdeal.main (F := Ideal))) ⟨m, fun _ => 0, g⟩ (fun r => (∀ c : Dev Cert.WOutRefIdeal.nD,
      r.2.mem ((c.tc : Thread Cert.WOutRefIdeal.nD Cert.WOutRefIdeal.τ).loc Cert.WOutRefIdeal.main_arg0) = m ((c.tc : Thread Cert.WOutRefIdeal.nD Cert.WOutRefIdeal.τ).loc Cert.WOutRefIdeal.main_arg0)
      ∧ r.2.mem ((c.tc : Thread Cert.WOutRefIdeal.nD Cert.WOutRefIdeal.τ).loc Cert.WOutRefIdeal.main_arg1) = m ((c.tc : Thread Cert.WOutRefIdeal.nD Cert.WOutRefIdeal.τ).loc Cert.WOutRefIdeal.main_arg1))
      ∧ r.2.sem = fun _ => 0)

def quiescent_WPleGate [hWPleGate : Cert.WPleGate.Facts] : Prop :=
  ∀ (m : (ℓ : Loc Cert.WPleGate.nD Cert.WPleGate.τ Cert.WPleGate.sig) → Buf (Elt Bits) ℓ) (g : Dev Cert.WPleGate.nD → PrngReg), Pre_WPleGate m →
    θ_run (Cert.WPleGate.defs (F := Bits)) (onTc (τ := Cert.WPleGate.τ) (Cert.WPleGate.main (F := Bits))) ⟨m, fun _ => 0, g⟩ (fun r => (∀ c : Dev Cert.WPleGate.nD,
      r.2.mem ((c.tc : Thread Cert.WPleGate.nD Cert.WPleGate.τ).loc Cert.WPleGate.main_arg0) = m ((c.tc : Thread Cert.WPleGate.nD Cert.WPleGate.τ).loc Cert.WPleGate.main_arg0)
      ∧ r.2.mem ((c.tc : Thread Cert.WPleGate.nD Cert.WPleGate.τ).loc Cert.WPleGate.main_arg1) = m ((c.tc : Thread Cert.WPleGate.nD Cert.WPleGate.τ).loc Cert.WPleGate.main_arg1))
      ∧ r.2.sem = fun _ => 0)

def quiescent_WPleGateIdeal [hWPleGateIdeal : Cert.WPleGateIdeal.Facts] : Prop :=
  ∀ (m : (ℓ : Loc Cert.WPleGateIdeal.nD Cert.WPleGateIdeal.τ Cert.WPleGateIdeal.sig) → Buf (Elt Ideal) ℓ) (g : Dev Cert.WPleGateIdeal.nD → PrngReg), Pre_WPleGateIdeal m →
    θ_run (Cert.WPleGateIdeal.defs (F := Ideal)) (onTc (τ := Cert.WPleGateIdeal.τ) (Cert.WPleGateIdeal.main (F := Ideal))) ⟨m, fun _ => 0, g⟩ (fun r => (∀ c : Dev Cert.WPleGateIdeal.nD,
      r.2.mem ((c.tc : Thread Cert.WPleGateIdeal.nD Cert.WPleGateIdeal.τ).loc Cert.WPleGateIdeal.main_arg0) = m ((c.tc : Thread Cert.WPleGateIdeal.nD Cert.WPleGateIdeal.τ).loc Cert.WPleGateIdeal.main_arg0)
      ∧ r.2.mem ((c.tc : Thread Cert.WPleGateIdeal.nD Cert.WPleGateIdeal.τ).loc Cert.WPleGateIdeal.main_arg1) = m ((c.tc : Thread Cert.WPleGateIdeal.nD Cert.WPleGateIdeal.τ).loc Cert.WPleGateIdeal.main_arg1))
      ∧ r.2.sem = fun _ => 0)

def quiescent_WPleGateRefIdeal [hWPleGateRefIdeal : Cert.WPleGateRefIdeal.Facts] : Prop :=
  ∀ (m : (ℓ : Loc Cert.WPleGateRefIdeal.nD Cert.WPleGateRefIdeal.τ Cert.WPleGateRefIdeal.sig) → Buf (Elt Ideal) ℓ) (g : Dev Cert.WPleGateRefIdeal.nD → PrngReg), Pre_WPleGateRefIdeal m →
    θ_run (Cert.WPleGateRefIdeal.defs (F := Ideal)) (onTc (τ := Cert.WPleGateRefIdeal.τ) (Cert.WPleGateRefIdeal.main (F := Ideal))) ⟨m, fun _ => 0, g⟩ (fun r => (∀ c : Dev Cert.WPleGateRefIdeal.nD,
      r.2.mem ((c.tc : Thread Cert.WPleGateRefIdeal.nD Cert.WPleGateRefIdeal.τ).loc Cert.WPleGateRefIdeal.main_arg0) = m ((c.tc : Thread Cert.WPleGateRefIdeal.nD Cert.WPleGateRefIdeal.τ).loc Cert.WPleGateRefIdeal.main_arg0)
      ∧ r.2.mem ((c.tc : Thread Cert.WPleGateRefIdeal.nD Cert.WPleGateRefIdeal.τ).loc Cert.WPleGateRefIdeal.main_arg1) = m ((c.tc : Thread Cert.WPleGateRefIdeal.nD Cert.WPleGateRefIdeal.τ).loc Cert.WPleGateRefIdeal.main_arg1))
      ∧ r.2.sem = fun _ => 0)

def quiescent_WBranchA [hWBranchA : Cert.WBranchA.Facts] : Prop :=
  ∀ (m : (ℓ : Loc Cert.WBranchA.nD Cert.WBranchA.τ Cert.WBranchA.sig) → Buf (Elt Bits) ℓ) (g : Dev Cert.WBranchA.nD → PrngReg), Pre_WBranchA m →
    θ_run (Cert.WBranchA.defs (F := Bits)) (onTc (τ := Cert.WBranchA.τ) (Cert.WBranchA.main (F := Bits))) ⟨m, fun _ => 0, g⟩ (fun r => (∀ c : Dev Cert.WBranchA.nD,
      r.2.mem ((c.tc : Thread Cert.WBranchA.nD Cert.WBranchA.τ).loc Cert.WBranchA.main_arg0) = m ((c.tc : Thread Cert.WBranchA.nD Cert.WBranchA.τ).loc Cert.WBranchA.main_arg0)
      ∧ r.2.mem ((c.tc : Thread Cert.WBranchA.nD Cert.WBranchA.τ).loc Cert.WBranchA.main_arg1) = m ((c.tc : Thread Cert.WBranchA.nD Cert.WBranchA.τ).loc Cert.WBranchA.main_arg1))
      ∧ r.2.sem = fun _ => 0)

def quiescent_WBranchAIdeal [hWBranchAIdeal : Cert.WBranchAIdeal.Facts] : Prop :=
  ∀ (m : (ℓ : Loc Cert.WBranchAIdeal.nD Cert.WBranchAIdeal.τ Cert.WBranchAIdeal.sig) → Buf (Elt Ideal) ℓ) (g : Dev Cert.WBranchAIdeal.nD → PrngReg), Pre_WBranchAIdeal m →
    θ_run (Cert.WBranchAIdeal.defs (F := Ideal)) (onTc (τ := Cert.WBranchAIdeal.τ) (Cert.WBranchAIdeal.main (F := Ideal))) ⟨m, fun _ => 0, g⟩ (fun r => (∀ c : Dev Cert.WBranchAIdeal.nD,
      r.2.mem ((c.tc : Thread Cert.WBranchAIdeal.nD Cert.WBranchAIdeal.τ).loc Cert.WBranchAIdeal.main_arg0) = m ((c.tc : Thread Cert.WBranchAIdeal.nD Cert.WBranchAIdeal.τ).loc Cert.WBranchAIdeal.main_arg0)
      ∧ r.2.mem ((c.tc : Thread Cert.WBranchAIdeal.nD Cert.WBranchAIdeal.τ).loc Cert.WBranchAIdeal.main_arg1) = m ((c.tc : Thread Cert.WBranchAIdeal.nD Cert.WBranchAIdeal.τ).loc Cert.WBranchAIdeal.main_arg1))
      ∧ r.2.sem = fun _ => 0)

def quiescent_WBranchARefIdeal [hWBranchARefIdeal : Cert.WBranchARefIdeal.Facts] : Prop :=
  ∀ (m : (ℓ : Loc Cert.WBranchARefIdeal.nD Cert.WBranchARefIdeal.τ Cert.WBranchARefIdeal.sig) → Buf (Elt Ideal) ℓ) (g : Dev Cert.WBranchARefIdeal.nD → PrngReg), Pre_WBranchARefIdeal m →
    θ_run (Cert.WBranchARefIdeal.defs (F := Ideal)) (onTc (τ := Cert.WBranchARefIdeal.τ) (Cert.WBranchARefIdeal.main (F := Ideal))) ⟨m, fun _ => 0, g⟩ (fun r => (∀ c : Dev Cert.WBranchARefIdeal.nD,
      r.2.mem ((c.tc : Thread Cert.WBranchARefIdeal.nD Cert.WBranchARefIdeal.τ).loc Cert.WBranchARefIdeal.main_arg0) = m ((c.tc : Thread Cert.WBranchARefIdeal.nD Cert.WBranchARefIdeal.τ).loc Cert.WBranchARefIdeal.main_arg0)
      ∧ r.2.mem ((c.tc : Thread Cert.WBranchARefIdeal.nD Cert.WBranchARefIdeal.τ).loc Cert.WBranchARefIdeal.main_arg1) = m ((c.tc : Thread Cert.WBranchARefIdeal.nD Cert.WBranchARefIdeal.τ).loc Cert.WBranchARefIdeal.main_arg1))
      ∧ r.2.sem = fun _ => 0)

def quiescent_WBranchB [hWBranchB : Cert.WBranchB.Facts] : Prop :=
  ∀ (m : (ℓ : Loc Cert.WBranchB.nD Cert.WBranchB.τ Cert.WBranchB.sig) → Buf (Elt Bits) ℓ) (g : Dev Cert.WBranchB.nD → PrngReg), Pre_WBranchB m →
    θ_run (Cert.WBranchB.defs (F := Bits)) (onTc (τ := Cert.WBranchB.τ) (Cert.WBranchB.main (F := Bits))) ⟨m, fun _ => 0, g⟩ (fun r => (∀ c : Dev Cert.WBranchB.nD,
      r.2.mem ((c.tc : Thread Cert.WBranchB.nD Cert.WBranchB.τ).loc Cert.WBranchB.main_arg0) = m ((c.tc : Thread Cert.WBranchB.nD Cert.WBranchB.τ).loc Cert.WBranchB.main_arg0)
      ∧ r.2.mem ((c.tc : Thread Cert.WBranchB.nD Cert.WBranchB.τ).loc Cert.WBranchB.main_arg1) = m ((c.tc : Thread Cert.WBranchB.nD Cert.WBranchB.τ).loc Cert.WBranchB.main_arg1))
      ∧ r.2.sem = fun _ => 0)

def quiescent_WBranchBIdeal [hWBranchBIdeal : Cert.WBranchBIdeal.Facts] : Prop :=
  ∀ (m : (ℓ : Loc Cert.WBranchBIdeal.nD Cert.WBranchBIdeal.τ Cert.WBranchBIdeal.sig) → Buf (Elt Ideal) ℓ) (g : Dev Cert.WBranchBIdeal.nD → PrngReg), Pre_WBranchBIdeal m →
    θ_run (Cert.WBranchBIdeal.defs (F := Ideal)) (onTc (τ := Cert.WBranchBIdeal.τ) (Cert.WBranchBIdeal.main (F := Ideal))) ⟨m, fun _ => 0, g⟩ (fun r => (∀ c : Dev Cert.WBranchBIdeal.nD,
      r.2.mem ((c.tc : Thread Cert.WBranchBIdeal.nD Cert.WBranchBIdeal.τ).loc Cert.WBranchBIdeal.main_arg0) = m ((c.tc : Thread Cert.WBranchBIdeal.nD Cert.WBranchBIdeal.τ).loc Cert.WBranchBIdeal.main_arg0)
      ∧ r.2.mem ((c.tc : Thread Cert.WBranchBIdeal.nD Cert.WBranchBIdeal.τ).loc Cert.WBranchBIdeal.main_arg1) = m ((c.tc : Thread Cert.WBranchBIdeal.nD Cert.WBranchBIdeal.τ).loc Cert.WBranchBIdeal.main_arg1))
      ∧ r.2.sem = fun _ => 0)

def quiescent_WBranchBRefIdeal [hWBranchBRefIdeal : Cert.WBranchBRefIdeal.Facts] : Prop :=
  ∀ (m : (ℓ : Loc Cert.WBranchBRefIdeal.nD Cert.WBranchBRefIdeal.τ Cert.WBranchBRefIdeal.sig) → Buf (Elt Ideal) ℓ) (g : Dev Cert.WBranchBRefIdeal.nD → PrngReg), Pre_WBranchBRefIdeal m →
    θ_run (Cert.WBranchBRefIdeal.defs (F := Ideal)) (onTc (τ := Cert.WBranchBRefIdeal.τ) (Cert.WBranchBRefIdeal.main (F := Ideal))) ⟨m, fun _ => 0, g⟩ (fun r => (∀ c : Dev Cert.WBranchBRefIdeal.nD,
      r.2.mem ((c.tc : Thread Cert.WBranchBRefIdeal.nD Cert.WBranchBRefIdeal.τ).loc Cert.WBranchBRefIdeal.main_arg0) = m ((c.tc : Thread Cert.WBranchBRefIdeal.nD Cert.WBranchBRefIdeal.τ).loc Cert.WBranchBRefIdeal.main_arg0)
      ∧ r.2.mem ((c.tc : Thread Cert.WBranchBRefIdeal.nD Cert.WBranchBRefIdeal.τ).loc Cert.WBranchBRefIdeal.main_arg1) = m ((c.tc : Thread Cert.WBranchBRefIdeal.nD Cert.WBranchBRefIdeal.τ).loc Cert.WBranchBRefIdeal.main_arg1))
      ∧ r.2.sem = fun _ => 0)

def quiescent_FfnAct [hFfnAct : Cert.FfnAct.Facts] : Prop :=
  ∀ (m : (ℓ : Loc Cert.FfnAct.nD Cert.FfnAct.τ Cert.FfnAct.sig) → Buf (Elt Bits) ℓ) (g : Dev Cert.FfnAct.nD → PrngReg), Pre_FfnAct m →
    θ_run (Cert.FfnAct.defs (F := Bits)) (onTc (τ := Cert.FfnAct.τ) (Cert.FfnAct.main (F := Bits))) ⟨m, fun _ => 0, g⟩ (fun r => (∀ c : Dev Cert.FfnAct.nD,
      r.2.mem ((c.tc : Thread Cert.FfnAct.nD Cert.FfnAct.τ).loc Cert.FfnAct.main_arg0) = m ((c.tc : Thread Cert.FfnAct.nD Cert.FfnAct.τ).loc Cert.FfnAct.main_arg0)
      ∧ r.2.mem ((c.tc : Thread Cert.FfnAct.nD Cert.FfnAct.τ).loc Cert.FfnAct.main_arg1) = m ((c.tc : Thread Cert.FfnAct.nD Cert.FfnAct.τ).loc Cert.FfnAct.main_arg1))
      ∧ r.2.sem = fun _ => 0)

def quiescent_FfnActIdeal [hFfnActIdeal : Cert.FfnActIdeal.Facts] : Prop :=
  ∀ (m : (ℓ : Loc Cert.FfnActIdeal.nD Cert.FfnActIdeal.τ Cert.FfnActIdeal.sig) → Buf (Elt Ideal) ℓ) (g : Dev Cert.FfnActIdeal.nD → PrngReg), Pre_FfnActIdeal m →
    θ_run (Cert.FfnActIdeal.defs (F := Ideal)) (onTc (τ := Cert.FfnActIdeal.τ) (Cert.FfnActIdeal.main (F := Ideal))) ⟨m, fun _ => 0, g⟩ (fun r => (∀ c : Dev Cert.FfnActIdeal.nD,
      r.2.mem ((c.tc : Thread Cert.FfnActIdeal.nD Cert.FfnActIdeal.τ).loc Cert.FfnActIdeal.main_arg0) = m ((c.tc : Thread Cert.FfnActIdeal.nD Cert.FfnActIdeal.τ).loc Cert.FfnActIdeal.main_arg0)
      ∧ r.2.mem ((c.tc : Thread Cert.FfnActIdeal.nD Cert.FfnActIdeal.τ).loc Cert.FfnActIdeal.main_arg1) = m ((c.tc : Thread Cert.FfnActIdeal.nD Cert.FfnActIdeal.τ).loc Cert.FfnActIdeal.main_arg1))
      ∧ r.2.sem = fun _ => 0)

def quiescent_FfnActRefIdeal [hFfnActRefIdeal : Cert.FfnActRefIdeal.Facts] : Prop :=
  ∀ (m : (ℓ : Loc Cert.FfnActRefIdeal.nD Cert.FfnActRefIdeal.τ Cert.FfnActRefIdeal.sig) → Buf (Elt Ideal) ℓ) (g : Dev Cert.FfnActRefIdeal.nD → PrngReg), Pre_FfnActRefIdeal m →
    θ_run (Cert.FfnActRefIdeal.defs (F := Ideal)) (onTc (τ := Cert.FfnActRefIdeal.τ) (Cert.FfnActRefIdeal.main (F := Ideal))) ⟨m, fun _ => 0, g⟩ (fun r => (∀ c : Dev Cert.FfnActRefIdeal.nD,
      r.2.mem ((c.tc : Thread Cert.FfnActRefIdeal.nD Cert.FfnActRefIdeal.τ).loc Cert.FfnActRefIdeal.main_arg0) = m ((c.tc : Thread Cert.FfnActRefIdeal.nD Cert.FfnActRefIdeal.τ).loc Cert.FfnActRefIdeal.main_arg0)
      ∧ r.2.mem ((c.tc : Thread Cert.FfnActRefIdeal.nD Cert.FfnActRefIdeal.τ).loc Cert.FfnActRefIdeal.main_arg1) = m ((c.tc : Thread Cert.FfnActRefIdeal.nD Cert.FfnActRefIdeal.τ).loc Cert.FfnActRefIdeal.main_arg1))
      ∧ r.2.sem = fun _ => 0)

def quiescent_Gated [hGated : Cert.Gated.Facts] : Prop :=
  ∀ (m : (ℓ : Loc Cert.Gated.nD Cert.Gated.τ Cert.Gated.sig) → Buf (Elt Bits) ℓ) (g : Dev Cert.Gated.nD → PrngReg), Pre_Gated m →
    θ_run (Cert.Gated.defs (F := Bits)) (onTc (τ := Cert.Gated.τ) (Cert.Gated.main (F := Bits))) ⟨m, fun _ => 0, g⟩ (fun r => (∀ c : Dev Cert.Gated.nD,
      r.2.mem ((c.tc : Thread Cert.Gated.nD Cert.Gated.τ).loc Cert.Gated.main_arg0) = m ((c.tc : Thread Cert.Gated.nD Cert.Gated.τ).loc Cert.Gated.main_arg0)
      ∧ r.2.mem ((c.tc : Thread Cert.Gated.nD Cert.Gated.τ).loc Cert.Gated.main_arg1) = m ((c.tc : Thread Cert.Gated.nD Cert.Gated.τ).loc Cert.Gated.main_arg1))
      ∧ r.2.sem = fun _ => 0)

def quiescent_GatedIdeal [hGatedIdeal : Cert.GatedIdeal.Facts] : Prop :=
  ∀ (m : (ℓ : Loc Cert.GatedIdeal.nD Cert.GatedIdeal.τ Cert.GatedIdeal.sig) → Buf (Elt Ideal) ℓ) (g : Dev Cert.GatedIdeal.nD → PrngReg), Pre_GatedIdeal m →
    θ_run (Cert.GatedIdeal.defs (F := Ideal)) (onTc (τ := Cert.GatedIdeal.τ) (Cert.GatedIdeal.main (F := Ideal))) ⟨m, fun _ => 0, g⟩ (fun r => (∀ c : Dev Cert.GatedIdeal.nD,
      r.2.mem ((c.tc : Thread Cert.GatedIdeal.nD Cert.GatedIdeal.τ).loc Cert.GatedIdeal.main_arg0) = m ((c.tc : Thread Cert.GatedIdeal.nD Cert.GatedIdeal.τ).loc Cert.GatedIdeal.main_arg0)
      ∧ r.2.mem ((c.tc : Thread Cert.GatedIdeal.nD Cert.GatedIdeal.τ).loc Cert.GatedIdeal.main_arg1) = m ((c.tc : Thread Cert.GatedIdeal.nD Cert.GatedIdeal.τ).loc Cert.GatedIdeal.main_arg1))
      ∧ r.2.sem = fun _ => 0)

def quiescent_GatedRefIdeal [hGatedRefIdeal : Cert.GatedRefIdeal.Facts] : Prop :=
  ∀ (m : (ℓ : Loc Cert.GatedRefIdeal.nD Cert.GatedRefIdeal.τ Cert.GatedRefIdeal.sig) → Buf (Elt Ideal) ℓ) (g : Dev Cert.GatedRefIdeal.nD → PrngReg), Pre_GatedRefIdeal m →
    θ_run (Cert.GatedRefIdeal.defs (F := Ideal)) (onTc (τ := Cert.GatedRefIdeal.τ) (Cert.GatedRefIdeal.main (F := Ideal))) ⟨m, fun _ => 0, g⟩ (fun r => (∀ c : Dev Cert.GatedRefIdeal.nD,
      r.2.mem ((c.tc : Thread Cert.GatedRefIdeal.nD Cert.GatedRefIdeal.τ).loc Cert.GatedRefIdeal.main_arg0) = m ((c.tc : Thread Cert.GatedRefIdeal.nD Cert.GatedRefIdeal.τ).loc Cert.GatedRefIdeal.main_arg0)
      ∧ r.2.mem ((c.tc : Thread Cert.GatedRefIdeal.nD Cert.GatedRefIdeal.τ).loc Cert.GatedRefIdeal.main_arg1) = m ((c.tc : Thread Cert.GatedRefIdeal.nD Cert.GatedRefIdeal.τ).loc Cert.GatedRefIdeal.main_arg1))
      ∧ r.2.sem = fun _ => 0)

def quiescent_PoolOut [hPoolOut : Cert.PoolOut.Facts] : Prop :=
  ∀ (m : (ℓ : Loc Cert.PoolOut.nD Cert.PoolOut.τ Cert.PoolOut.sig) → Buf (Elt Bits) ℓ) (g : Dev Cert.PoolOut.nD → PrngReg), Pre_PoolOut m →
    θ_run (Cert.PoolOut.defs (F := Bits)) (onTc (τ := Cert.PoolOut.τ) (Cert.PoolOut.main (F := Bits))) ⟨m, fun _ => 0, g⟩ (fun r => (∀ c : Dev Cert.PoolOut.nD,
      r.2.mem ((c.tc : Thread Cert.PoolOut.nD Cert.PoolOut.τ).loc Cert.PoolOut.main_arg0) = m ((c.tc : Thread Cert.PoolOut.nD Cert.PoolOut.τ).loc Cert.PoolOut.main_arg0)
      ∧ r.2.mem ((c.tc : Thread Cert.PoolOut.nD Cert.PoolOut.τ).loc Cert.PoolOut.main_arg1) = m ((c.tc : Thread Cert.PoolOut.nD Cert.PoolOut.τ).loc Cert.PoolOut.main_arg1))
      ∧ r.2.sem = fun _ => 0)

def quiescent_PoolOutIdeal [hPoolOutIdeal : Cert.PoolOutIdeal.Facts] : Prop :=
  ∀ (m : (ℓ : Loc Cert.PoolOutIdeal.nD Cert.PoolOutIdeal.τ Cert.PoolOutIdeal.sig) → Buf (Elt Ideal) ℓ) (g : Dev Cert.PoolOutIdeal.nD → PrngReg), Pre_PoolOutIdeal m →
    θ_run (Cert.PoolOutIdeal.defs (F := Ideal)) (onTc (τ := Cert.PoolOutIdeal.τ) (Cert.PoolOutIdeal.main (F := Ideal))) ⟨m, fun _ => 0, g⟩ (fun r => (∀ c : Dev Cert.PoolOutIdeal.nD,
      r.2.mem ((c.tc : Thread Cert.PoolOutIdeal.nD Cert.PoolOutIdeal.τ).loc Cert.PoolOutIdeal.main_arg0) = m ((c.tc : Thread Cert.PoolOutIdeal.nD Cert.PoolOutIdeal.τ).loc Cert.PoolOutIdeal.main_arg0)
      ∧ r.2.mem ((c.tc : Thread Cert.PoolOutIdeal.nD Cert.PoolOutIdeal.τ).loc Cert.PoolOutIdeal.main_arg1) = m ((c.tc : Thread Cert.PoolOutIdeal.nD Cert.PoolOutIdeal.τ).loc Cert.PoolOutIdeal.main_arg1))
      ∧ r.2.sem = fun _ => 0)

def quiescent_PoolOutRefIdeal [hPoolOutRefIdeal : Cert.PoolOutRefIdeal.Facts] : Prop :=
  ∀ (m : (ℓ : Loc Cert.PoolOutRefIdeal.nD Cert.PoolOutRefIdeal.τ Cert.PoolOutRefIdeal.sig) → Buf (Elt Ideal) ℓ) (g : Dev Cert.PoolOutRefIdeal.nD → PrngReg), Pre_PoolOutRefIdeal m →
    θ_run (Cert.PoolOutRefIdeal.defs (F := Ideal)) (onTc (τ := Cert.PoolOutRefIdeal.τ) (Cert.PoolOutRefIdeal.main (F := Ideal))) ⟨m, fun _ => 0, g⟩ (fun r => (∀ c : Dev Cert.PoolOutRefIdeal.nD,
      r.2.mem ((c.tc : Thread Cert.PoolOutRefIdeal.nD Cert.PoolOutRefIdeal.τ).loc Cert.PoolOutRefIdeal.main_arg0) = m ((c.tc : Thread Cert.PoolOutRefIdeal.nD Cert.PoolOutRefIdeal.τ).loc Cert.PoolOutRefIdeal.main_arg0)
      ∧ r.2.mem ((c.tc : Thread Cert.PoolOutRefIdeal.nD Cert.PoolOutRefIdeal.τ).loc Cert.PoolOutRefIdeal.main_arg1) = m ((c.tc : Thread Cert.PoolOutRefIdeal.nD Cert.PoolOutRefIdeal.τ).loc Cert.PoolOutRefIdeal.main_arg1))
      ∧ r.2.sem = fun _ => 0)

def quiescent_SguOut [hSguOut : Cert.SguOut.Facts] : Prop :=
  ∀ (m : (ℓ : Loc Cert.SguOut.nD Cert.SguOut.τ Cert.SguOut.sig) → Buf (Elt Bits) ℓ) (g : Dev Cert.SguOut.nD → PrngReg), Pre_SguOut m →
    θ_run (Cert.SguOut.defs (F := Bits)) (onTc (τ := Cert.SguOut.τ) (Cert.SguOut.main (F := Bits))) ⟨m, fun _ => 0, g⟩ (fun r => (∀ c : Dev Cert.SguOut.nD,
      r.2.mem ((c.tc : Thread Cert.SguOut.nD Cert.SguOut.τ).loc Cert.SguOut.main_arg0) = m ((c.tc : Thread Cert.SguOut.nD Cert.SguOut.τ).loc Cert.SguOut.main_arg0)
      ∧ r.2.mem ((c.tc : Thread Cert.SguOut.nD Cert.SguOut.τ).loc Cert.SguOut.main_arg1) = m ((c.tc : Thread Cert.SguOut.nD Cert.SguOut.τ).loc Cert.SguOut.main_arg1))
      ∧ r.2.sem = fun _ => 0)

def quiescent_SguOutIdeal [hSguOutIdeal : Cert.SguOutIdeal.Facts] : Prop :=
  ∀ (m : (ℓ : Loc Cert.SguOutIdeal.nD Cert.SguOutIdeal.τ Cert.SguOutIdeal.sig) → Buf (Elt Ideal) ℓ) (g : Dev Cert.SguOutIdeal.nD → PrngReg), Pre_SguOutIdeal m →
    θ_run (Cert.SguOutIdeal.defs (F := Ideal)) (onTc (τ := Cert.SguOutIdeal.τ) (Cert.SguOutIdeal.main (F := Ideal))) ⟨m, fun _ => 0, g⟩ (fun r => (∀ c : Dev Cert.SguOutIdeal.nD,
      r.2.mem ((c.tc : Thread Cert.SguOutIdeal.nD Cert.SguOutIdeal.τ).loc Cert.SguOutIdeal.main_arg0) = m ((c.tc : Thread Cert.SguOutIdeal.nD Cert.SguOutIdeal.τ).loc Cert.SguOutIdeal.main_arg0)
      ∧ r.2.mem ((c.tc : Thread Cert.SguOutIdeal.nD Cert.SguOutIdeal.τ).loc Cert.SguOutIdeal.main_arg1) = m ((c.tc : Thread Cert.SguOutIdeal.nD Cert.SguOutIdeal.τ).loc Cert.SguOutIdeal.main_arg1))
      ∧ r.2.sem = fun _ => 0)

def quiescent_SguOutRefIdeal [hSguOutRefIdeal : Cert.SguOutRefIdeal.Facts] : Prop :=
  ∀ (m : (ℓ : Loc Cert.SguOutRefIdeal.nD Cert.SguOutRefIdeal.τ Cert.SguOutRefIdeal.sig) → Buf (Elt Ideal) ℓ) (g : Dev Cert.SguOutRefIdeal.nD → PrngReg), Pre_SguOutRefIdeal m →
    θ_run (Cert.SguOutRefIdeal.defs (F := Ideal)) (onTc (τ := Cert.SguOutRefIdeal.τ) (Cert.SguOutRefIdeal.main (F := Ideal))) ⟨m, fun _ => 0, g⟩ (fun r => (∀ c : Dev Cert.SguOutRefIdeal.nD,
      r.2.mem ((c.tc : Thread Cert.SguOutRefIdeal.nD Cert.SguOutRefIdeal.τ).loc Cert.SguOutRefIdeal.main_arg0) = m ((c.tc : Thread Cert.SguOutRefIdeal.nD Cert.SguOutRefIdeal.τ).loc Cert.SguOutRefIdeal.main_arg0)
      ∧ r.2.mem ((c.tc : Thread Cert.SguOutRefIdeal.nD Cert.SguOutRefIdeal.τ).loc Cert.SguOutRefIdeal.main_arg1) = m ((c.tc : Thread Cert.SguOutRefIdeal.nD Cert.SguOutRefIdeal.τ).loc Cert.SguOutRefIdeal.main_arg1))
      ∧ r.2.sem = fun _ => 0)

def quiescent_UpProj [hUpProj : Cert.UpProj.Facts] : Prop :=
  ∀ (m : (ℓ : Loc Cert.UpProj.nD Cert.UpProj.τ Cert.UpProj.sig) → Buf (Elt Bits) ℓ) (g : Dev Cert.UpProj.nD → PrngReg), Pre_UpProj m →
    θ_run (Cert.UpProj.defs (F := Bits)) (onTc (τ := Cert.UpProj.τ) (Cert.UpProj.main (F := Bits))) ⟨m, fun _ => 0, g⟩ (fun r => (∀ c : Dev Cert.UpProj.nD,
      r.2.mem ((c.tc : Thread Cert.UpProj.nD Cert.UpProj.τ).loc Cert.UpProj.main_arg0) = m ((c.tc : Thread Cert.UpProj.nD Cert.UpProj.τ).loc Cert.UpProj.main_arg0)
      ∧ r.2.mem ((c.tc : Thread Cert.UpProj.nD Cert.UpProj.τ).loc Cert.UpProj.main_arg1) = m ((c.tc : Thread Cert.UpProj.nD Cert.UpProj.τ).loc Cert.UpProj.main_arg1))
      ∧ r.2.sem = fun _ => 0)

def quiescent_UpProjIdeal [hUpProjIdeal : Cert.UpProjIdeal.Facts] : Prop :=
  ∀ (m : (ℓ : Loc Cert.UpProjIdeal.nD Cert.UpProjIdeal.τ Cert.UpProjIdeal.sig) → Buf (Elt Ideal) ℓ) (g : Dev Cert.UpProjIdeal.nD → PrngReg), Pre_UpProjIdeal m →
    θ_run (Cert.UpProjIdeal.defs (F := Ideal)) (onTc (τ := Cert.UpProjIdeal.τ) (Cert.UpProjIdeal.main (F := Ideal))) ⟨m, fun _ => 0, g⟩ (fun r => (∀ c : Dev Cert.UpProjIdeal.nD,
      r.2.mem ((c.tc : Thread Cert.UpProjIdeal.nD Cert.UpProjIdeal.τ).loc Cert.UpProjIdeal.main_arg0) = m ((c.tc : Thread Cert.UpProjIdeal.nD Cert.UpProjIdeal.τ).loc Cert.UpProjIdeal.main_arg0)
      ∧ r.2.mem ((c.tc : Thread Cert.UpProjIdeal.nD Cert.UpProjIdeal.τ).loc Cert.UpProjIdeal.main_arg1) = m ((c.tc : Thread Cert.UpProjIdeal.nD Cert.UpProjIdeal.τ).loc Cert.UpProjIdeal.main_arg1))
      ∧ r.2.sem = fun _ => 0)

def quiescent_UpProjRefIdeal [hUpProjRefIdeal : Cert.UpProjRefIdeal.Facts] : Prop :=
  ∀ (m : (ℓ : Loc Cert.UpProjRefIdeal.nD Cert.UpProjRefIdeal.τ Cert.UpProjRefIdeal.sig) → Buf (Elt Ideal) ℓ) (g : Dev Cert.UpProjRefIdeal.nD → PrngReg), Pre_UpProjRefIdeal m →
    θ_run (Cert.UpProjRefIdeal.defs (F := Ideal)) (onTc (τ := Cert.UpProjRefIdeal.τ) (Cert.UpProjRefIdeal.main (F := Ideal))) ⟨m, fun _ => 0, g⟩ (fun r => (∀ c : Dev Cert.UpProjRefIdeal.nD,
      r.2.mem ((c.tc : Thread Cert.UpProjRefIdeal.nD Cert.UpProjRefIdeal.τ).loc Cert.UpProjRefIdeal.main_arg0) = m ((c.tc : Thread Cert.UpProjRefIdeal.nD Cert.UpProjRefIdeal.τ).loc Cert.UpProjRefIdeal.main_arg0)
      ∧ r.2.mem ((c.tc : Thread Cert.UpProjRefIdeal.nD Cert.UpProjRefIdeal.τ).loc Cert.UpProjRefIdeal.main_arg1) = m ((c.tc : Thread Cert.UpProjRefIdeal.nD Cert.UpProjRefIdeal.τ).loc Cert.UpProjRefIdeal.main_arg1))
      ∧ r.2.sem = fun _ => 0)

def quiescent_PleGateProj [hPleGateProj : Cert.PleGateProj.Facts] : Prop :=
  ∀ (m : (ℓ : Loc Cert.PleGateProj.nD Cert.PleGateProj.τ Cert.PleGateProj.sig) → Buf (Elt Bits) ℓ) (g : Dev Cert.PleGateProj.nD → PrngReg), Pre_PleGateProj m →
    θ_run (Cert.PleGateProj.defs (F := Bits)) (onTc (τ := Cert.PleGateProj.τ) (Cert.PleGateProj.main (F := Bits))) ⟨m, fun _ => 0, g⟩ (fun r => (∀ c : Dev Cert.PleGateProj.nD,
      r.2.mem ((c.tc : Thread Cert.PleGateProj.nD Cert.PleGateProj.τ).loc Cert.PleGateProj.main_arg0) = m ((c.tc : Thread Cert.PleGateProj.nD Cert.PleGateProj.τ).loc Cert.PleGateProj.main_arg0)
      ∧ r.2.mem ((c.tc : Thread Cert.PleGateProj.nD Cert.PleGateProj.τ).loc Cert.PleGateProj.main_arg1) = m ((c.tc : Thread Cert.PleGateProj.nD Cert.PleGateProj.τ).loc Cert.PleGateProj.main_arg1))
      ∧ r.2.sem = fun _ => 0)

def quiescent_PleGateProjIdeal [hPleGateProjIdeal : Cert.PleGateProjIdeal.Facts] : Prop :=
  ∀ (m : (ℓ : Loc Cert.PleGateProjIdeal.nD Cert.PleGateProjIdeal.τ Cert.PleGateProjIdeal.sig) → Buf (Elt Ideal) ℓ) (g : Dev Cert.PleGateProjIdeal.nD → PrngReg), Pre_PleGateProjIdeal m →
    θ_run (Cert.PleGateProjIdeal.defs (F := Ideal)) (onTc (τ := Cert.PleGateProjIdeal.τ) (Cert.PleGateProjIdeal.main (F := Ideal))) ⟨m, fun _ => 0, g⟩ (fun r => (∀ c : Dev Cert.PleGateProjIdeal.nD,
      r.2.mem ((c.tc : Thread Cert.PleGateProjIdeal.nD Cert.PleGateProjIdeal.τ).loc Cert.PleGateProjIdeal.main_arg0) = m ((c.tc : Thread Cert.PleGateProjIdeal.nD Cert.PleGateProjIdeal.τ).loc Cert.PleGateProjIdeal.main_arg0)
      ∧ r.2.mem ((c.tc : Thread Cert.PleGateProjIdeal.nD Cert.PleGateProjIdeal.τ).loc Cert.PleGateProjIdeal.main_arg1) = m ((c.tc : Thread Cert.PleGateProjIdeal.nD Cert.PleGateProjIdeal.τ).loc Cert.PleGateProjIdeal.main_arg1))
      ∧ r.2.sem = fun _ => 0)

def quiescent_PleGateProjRefIdeal [hPleGateProjRefIdeal : Cert.PleGateProjRefIdeal.Facts] : Prop :=
  ∀ (m : (ℓ : Loc Cert.PleGateProjRefIdeal.nD Cert.PleGateProjRefIdeal.τ Cert.PleGateProjRefIdeal.sig) → Buf (Elt Ideal) ℓ) (g : Dev Cert.PleGateProjRefIdeal.nD → PrngReg), Pre_PleGateProjRefIdeal m →
    θ_run (Cert.PleGateProjRefIdeal.defs (F := Ideal)) (onTc (τ := Cert.PleGateProjRefIdeal.τ) (Cert.PleGateProjRefIdeal.main (F := Ideal))) ⟨m, fun _ => 0, g⟩ (fun r => (∀ c : Dev Cert.PleGateProjRefIdeal.nD,
      r.2.mem ((c.tc : Thread Cert.PleGateProjRefIdeal.nD Cert.PleGateProjRefIdeal.τ).loc Cert.PleGateProjRefIdeal.main_arg0) = m ((c.tc : Thread Cert.PleGateProjRefIdeal.nD Cert.PleGateProjRefIdeal.τ).loc Cert.PleGateProjRefIdeal.main_arg0)
      ∧ r.2.mem ((c.tc : Thread Cert.PleGateProjRefIdeal.nD Cert.PleGateProjRefIdeal.τ).loc Cert.PleGateProjRefIdeal.main_arg1) = m ((c.tc : Thread Cert.PleGateProjRefIdeal.nD Cert.PleGateProjRefIdeal.τ).loc Cert.PleGateProjRefIdeal.main_arg1))
      ∧ r.2.sem = fun _ => 0)

def quiescent_PleProj [hPleProj : Cert.PleProj.Facts] : Prop :=
  ∀ (m : (ℓ : Loc Cert.PleProj.nD Cert.PleProj.τ Cert.PleProj.sig) → Buf (Elt Bits) ℓ) (g : Dev Cert.PleProj.nD → PrngReg), Pre_PleProj m →
    θ_run (Cert.PleProj.defs (F := Bits)) (onTc (τ := Cert.PleProj.τ) (Cert.PleProj.main (F := Bits))) ⟨m, fun _ => 0, g⟩ (fun r => (∀ c : Dev Cert.PleProj.nD,
      r.2.mem ((c.tc : Thread Cert.PleProj.nD Cert.PleProj.τ).loc Cert.PleProj.main_arg0) = m ((c.tc : Thread Cert.PleProj.nD Cert.PleProj.τ).loc Cert.PleProj.main_arg0)
      ∧ r.2.mem ((c.tc : Thread Cert.PleProj.nD Cert.PleProj.τ).loc Cert.PleProj.main_arg1) = m ((c.tc : Thread Cert.PleProj.nD Cert.PleProj.τ).loc Cert.PleProj.main_arg1))
      ∧ r.2.sem = fun _ => 0)

def quiescent_PleProjIdeal [hPleProjIdeal : Cert.PleProjIdeal.Facts] : Prop :=
  ∀ (m : (ℓ : Loc Cert.PleProjIdeal.nD Cert.PleProjIdeal.τ Cert.PleProjIdeal.sig) → Buf (Elt Ideal) ℓ) (g : Dev Cert.PleProjIdeal.nD → PrngReg), Pre_PleProjIdeal m →
    θ_run (Cert.PleProjIdeal.defs (F := Ideal)) (onTc (τ := Cert.PleProjIdeal.τ) (Cert.PleProjIdeal.main (F := Ideal))) ⟨m, fun _ => 0, g⟩ (fun r => (∀ c : Dev Cert.PleProjIdeal.nD,
      r.2.mem ((c.tc : Thread Cert.PleProjIdeal.nD Cert.PleProjIdeal.τ).loc Cert.PleProjIdeal.main_arg0) = m ((c.tc : Thread Cert.PleProjIdeal.nD Cert.PleProjIdeal.τ).loc Cert.PleProjIdeal.main_arg0)
      ∧ r.2.mem ((c.tc : Thread Cert.PleProjIdeal.nD Cert.PleProjIdeal.τ).loc Cert.PleProjIdeal.main_arg1) = m ((c.tc : Thread Cert.PleProjIdeal.nD Cert.PleProjIdeal.τ).loc Cert.PleProjIdeal.main_arg1))
      ∧ r.2.sem = fun _ => 0)

def quiescent_PleProjRefIdeal [hPleProjRefIdeal : Cert.PleProjRefIdeal.Facts] : Prop :=
  ∀ (m : (ℓ : Loc Cert.PleProjRefIdeal.nD Cert.PleProjRefIdeal.τ Cert.PleProjRefIdeal.sig) → Buf (Elt Ideal) ℓ) (g : Dev Cert.PleProjRefIdeal.nD → PrngReg), Pre_PleProjRefIdeal m →
    θ_run (Cert.PleProjRefIdeal.defs (F := Ideal)) (onTc (τ := Cert.PleProjRefIdeal.τ) (Cert.PleProjRefIdeal.main (F := Ideal))) ⟨m, fun _ => 0, g⟩ (fun r => (∀ c : Dev Cert.PleProjRefIdeal.nD,
      r.2.mem ((c.tc : Thread Cert.PleProjRefIdeal.nD Cert.PleProjRefIdeal.τ).loc Cert.PleProjRefIdeal.main_arg0) = m ((c.tc : Thread Cert.PleProjRefIdeal.nD Cert.PleProjRefIdeal.τ).loc Cert.PleProjRefIdeal.main_arg0)
      ∧ r.2.mem ((c.tc : Thread Cert.PleProjRefIdeal.nD Cert.PleProjRefIdeal.τ).loc Cert.PleProjRefIdeal.main_arg1) = m ((c.tc : Thread Cert.PleProjRefIdeal.nD Cert.PleProjRefIdeal.τ).loc Cert.PleProjRefIdeal.main_arg1))
      ∧ r.2.sem = fun _ => 0)

def quiescent_OutProj [hOutProj : Cert.OutProj.Facts] : Prop :=
  ∀ (m : (ℓ : Loc Cert.OutProj.nD Cert.OutProj.τ Cert.OutProj.sig) → Buf (Elt Bits) ℓ) (g : Dev Cert.OutProj.nD → PrngReg), Pre_OutProj m →
    θ_run (Cert.OutProj.defs (F := Bits)) (onTc (τ := Cert.OutProj.τ) (Cert.OutProj.main (F := Bits))) ⟨m, fun _ => 0, g⟩ (fun r => (∀ c : Dev Cert.OutProj.nD,
      r.2.mem ((c.tc : Thread Cert.OutProj.nD Cert.OutProj.τ).loc Cert.OutProj.main_arg0) = m ((c.tc : Thread Cert.OutProj.nD Cert.OutProj.τ).loc Cert.OutProj.main_arg0)
      ∧ r.2.mem ((c.tc : Thread Cert.OutProj.nD Cert.OutProj.τ).loc Cert.OutProj.main_arg1) = m ((c.tc : Thread Cert.OutProj.nD Cert.OutProj.τ).loc Cert.OutProj.main_arg1)
      ∧ r.2.mem ((c.tc : Thread Cert.OutProj.nD Cert.OutProj.τ).loc Cert.OutProj.main_arg2) = m ((c.tc : Thread Cert.OutProj.nD Cert.OutProj.τ).loc Cert.OutProj.main_arg2)
      ∧ r.2.mem ((c.tc : Thread Cert.OutProj.nD Cert.OutProj.τ).loc Cert.OutProj.main_arg3) = m ((c.tc : Thread Cert.OutProj.nD Cert.OutProj.τ).loc Cert.OutProj.main_arg3))
      ∧ r.2.sem = fun _ => 0)

def quiescent_OutProjIdeal [hOutProjIdeal : Cert.OutProjIdeal.Facts] : Prop :=
  ∀ (m : (ℓ : Loc Cert.OutProjIdeal.nD Cert.OutProjIdeal.τ Cert.OutProjIdeal.sig) → Buf (Elt Ideal) ℓ) (g : Dev Cert.OutProjIdeal.nD → PrngReg), Pre_OutProjIdeal m →
    θ_run (Cert.OutProjIdeal.defs (F := Ideal)) (onTc (τ := Cert.OutProjIdeal.τ) (Cert.OutProjIdeal.main (F := Ideal))) ⟨m, fun _ => 0, g⟩ (fun r => (∀ c : Dev Cert.OutProjIdeal.nD,
      r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
      ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
      ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2)
      ∧ r.2.mem ((c.tc : Thread Cert.OutProjIdeal.nD Cert.OutProjIdeal.τ).loc Cert.OutProjIdeal.main_arg3) = m ((c.tc : Thread Cert.OutProjIdeal.nD Cert.OutProjIdeal.τ).loc Cert.OutProjIdeal.main_arg3))
      ∧ r.2.sem = fun _ => 0)

def quiescent_OutProjRefIdeal [hOutProjRefIdeal : Cert.OutProjRefIdeal.Facts] : Prop :=
  ∀ (m : (ℓ : Loc Cert.OutProjRefIdeal.nD Cert.OutProjRefIdeal.τ Cert.OutProjRefIdeal.sig) → Buf (Elt Ideal) ℓ) (g : Dev Cert.OutProjRefIdeal.nD → PrngReg), Pre_OutProjRefIdeal m →
    θ_run (Cert.OutProjRefIdeal.defs (F := Ideal)) (onTc (τ := Cert.OutProjRefIdeal.τ) (Cert.OutProjRefIdeal.main (F := Ideal))) ⟨m, fun _ => 0, g⟩ (fun r => (∀ c : Dev Cert.OutProjRefIdeal.nD,
      r.2.mem ((c.tc : Thread Cert.OutProjRefIdeal.nD Cert.OutProjRefIdeal.τ).loc Cert.OutProjRefIdeal.main_arg0) = m ((c.tc : Thread Cert.OutProjRefIdeal.nD Cert.OutProjRefIdeal.τ).loc Cert.OutProjRefIdeal.main_arg0)
      ∧ r.2.mem ((c.tc : Thread Cert.OutProjRefIdeal.nD Cert.OutProjRefIdeal.τ).loc Cert.OutProjRefIdeal.main_arg1) = m ((c.tc : Thread Cert.OutProjRefIdeal.nD Cert.OutProjRefIdeal.τ).loc Cert.OutProjRefIdeal.main_arg1)
      ∧ r.2.mem ((c.tc : Thread Cert.OutProjRefIdeal.nD Cert.OutProjRefIdeal.τ).loc Cert.OutProjRefIdeal.main_arg2) = m ((c.tc : Thread Cert.OutProjRefIdeal.nD Cert.OutProjRefIdeal.τ).loc Cert.OutProjRefIdeal.main_arg2)
      ∧ r.2.mem ((c.tc : Thread Cert.OutProjRefIdeal.nD Cert.OutProjRefIdeal.τ).loc Cert.OutProjRefIdeal.main_arg3) = m ((c.tc : Thread Cert.OutProjRefIdeal.nD Cert.OutProjRefIdeal.τ).loc Cert.OutProjRefIdeal.main_arg3))
      ∧ r.2.sem = fun _ => 0)

def quiescent_DownProj [hDownProj : Cert.DownProj.Facts] : Prop :=
  ∀ (m : (ℓ : Loc Cert.DownProj.nD Cert.DownProj.τ Cert.DownProj.sig) → Buf (Elt Bits) ℓ) (g : Dev Cert.DownProj.nD → PrngReg), Pre_DownProj m →
    θ_run (Cert.DownProj.defs (F := Bits)) (onTc (τ := Cert.DownProj.τ) (Cert.DownProj.main (F := Bits))) ⟨m, fun _ => 0, g⟩ (fun r => (∀ c : Dev Cert.DownProj.nD,
      r.2.mem ((c.tc : Thread Cert.DownProj.nD Cert.DownProj.τ).loc Cert.DownProj.main_arg0) = m ((c.tc : Thread Cert.DownProj.nD Cert.DownProj.τ).loc Cert.DownProj.main_arg0)
      ∧ r.2.mem ((c.tc : Thread Cert.DownProj.nD Cert.DownProj.τ).loc Cert.DownProj.main_arg1) = m ((c.tc : Thread Cert.DownProj.nD Cert.DownProj.τ).loc Cert.DownProj.main_arg1)
      ∧ r.2.mem ((c.tc : Thread Cert.DownProj.nD Cert.DownProj.τ).loc Cert.DownProj.main_arg2) = m ((c.tc : Thread Cert.DownProj.nD Cert.DownProj.τ).loc Cert.DownProj.main_arg2)
      ∧ r.2.mem ((c.tc : Thread Cert.DownProj.nD Cert.DownProj.τ).loc Cert.DownProj.main_arg3) = m ((c.tc : Thread Cert.DownProj.nD Cert.DownProj.τ).loc Cert.DownProj.main_arg3))
      ∧ r.2.sem = fun _ => 0)

def quiescent_DownProjIdeal [hDownProjIdeal : Cert.DownProjIdeal.Facts] : Prop :=
  ∀ (m : (ℓ : Loc Cert.DownProjIdeal.nD Cert.DownProjIdeal.τ Cert.DownProjIdeal.sig) → Buf (Elt Ideal) ℓ) (g : Dev Cert.DownProjIdeal.nD → PrngReg), Pre_DownProjIdeal m →
    θ_run (Cert.DownProjIdeal.defs (F := Ideal)) (onTc (τ := Cert.DownProjIdeal.τ) (Cert.DownProjIdeal.main (F := Ideal))) ⟨m, fun _ => 0, g⟩ (fun r => (∀ c : Dev Cert.DownProjIdeal.nD,
      r.2.mem ((c.tc : Thread Cert.DownProjIdeal.nD Cert.DownProjIdeal.τ).loc Cert.DownProjIdeal.main_arg0) = m ((c.tc : Thread Cert.DownProjIdeal.nD Cert.DownProjIdeal.τ).loc Cert.DownProjIdeal.main_arg0)
      ∧ r.2.mem ((c.tc : Thread Cert.DownProjIdeal.nD Cert.DownProjIdeal.τ).loc Cert.DownProjIdeal.main_arg1) = m ((c.tc : Thread Cert.DownProjIdeal.nD Cert.DownProjIdeal.τ).loc Cert.DownProjIdeal.main_arg1)
      ∧ r.2.mem ((c.tc : Thread Cert.DownProjIdeal.nD Cert.DownProjIdeal.τ).loc Cert.DownProjIdeal.main_arg2) = m ((c.tc : Thread Cert.DownProjIdeal.nD Cert.DownProjIdeal.τ).loc Cert.DownProjIdeal.main_arg2)
      ∧ r.2.mem ((c.tc : Thread Cert.DownProjIdeal.nD Cert.DownProjIdeal.τ).loc Cert.DownProjIdeal.main_arg3) = m ((c.tc : Thread Cert.DownProjIdeal.nD Cert.DownProjIdeal.τ).loc Cert.DownProjIdeal.main_arg3))
      ∧ r.2.sem = fun _ => 0)

def quiescent_DownProjRefIdeal [hDownProjRefIdeal : Cert.DownProjRefIdeal.Facts] : Prop :=
  ∀ (m : (ℓ : Loc Cert.DownProjRefIdeal.nD Cert.DownProjRefIdeal.τ Cert.DownProjRefIdeal.sig) → Buf (Elt Ideal) ℓ) (g : Dev Cert.DownProjRefIdeal.nD → PrngReg), Pre_DownProjRefIdeal m →
    θ_run (Cert.DownProjRefIdeal.defs (F := Ideal)) (onTc (τ := Cert.DownProjRefIdeal.τ) (Cert.DownProjRefIdeal.main (F := Ideal))) ⟨m, fun _ => 0, g⟩ (fun r => (∀ c : Dev Cert.DownProjRefIdeal.nD,
      r.2.mem ((c.tc : Thread Cert.DownProjRefIdeal.nD Cert.DownProjRefIdeal.τ).loc Cert.DownProjRefIdeal.main_arg0) = m ((c.tc : Thread Cert.DownProjRefIdeal.nD Cert.DownProjRefIdeal.τ).loc Cert.DownProjRefIdeal.main_arg0)
      ∧ r.2.mem ((c.tc : Thread Cert.DownProjRefIdeal.nD Cert.DownProjRefIdeal.τ).loc Cert.DownProjRefIdeal.main_arg1) = m ((c.tc : Thread Cert.DownProjRefIdeal.nD Cert.DownProjRefIdeal.τ).loc Cert.DownProjRefIdeal.main_arg1)
      ∧ r.2.mem ((c.tc : Thread Cert.DownProjRefIdeal.nD Cert.DownProjRefIdeal.τ).loc Cert.DownProjRefIdeal.main_arg2) = m ((c.tc : Thread Cert.DownProjRefIdeal.nD Cert.DownProjRefIdeal.τ).loc Cert.DownProjRefIdeal.main_arg2)
      ∧ r.2.mem ((c.tc : Thread Cert.DownProjRefIdeal.nD Cert.DownProjRefIdeal.τ).loc Cert.DownProjRefIdeal.main_arg3) = m ((c.tc : Thread Cert.DownProjRefIdeal.nD Cert.DownProjRefIdeal.τ).loc Cert.DownProjRefIdeal.main_arg3))
      ∧ r.2.sem = fun _ => 0)

def quiescent_WPle [hWPle : Cert.WPle.Facts] : Prop :=
  ∀ (m : (ℓ : Loc Cert.WPle.nD Cert.WPle.τ Cert.WPle.sig) → Buf (Elt Bits) ℓ) (g : Dev Cert.WPle.nD → PrngReg), Pre_WPle m →
    θ_run (Cert.WPle.defs (F := Bits)) (onTc (τ := Cert.WPle.τ) (Cert.WPle.main (F := Bits))) ⟨m, fun _ => 0, g⟩ (fun r => (∀ c : Dev Cert.WPle.nD,
      r.2.mem ((c.tc : Thread Cert.WPle.nD Cert.WPle.τ).loc Cert.WPle.main_arg0) = m ((c.tc : Thread Cert.WPle.nD Cert.WPle.τ).loc Cert.WPle.main_arg0)
      ∧ r.2.mem ((c.tc : Thread Cert.WPle.nD Cert.WPle.τ).loc Cert.WPle.main_arg1) = m ((c.tc : Thread Cert.WPle.nD Cert.WPle.τ).loc Cert.WPle.main_arg1))
      ∧ r.2.sem = fun _ => 0)

def quiescent_WPleIdeal [hWPleIdeal : Cert.WPleIdeal.Facts] : Prop :=
  ∀ (m : (ℓ : Loc Cert.WPleIdeal.nD Cert.WPleIdeal.τ Cert.WPleIdeal.sig) → Buf (Elt Ideal) ℓ) (g : Dev Cert.WPleIdeal.nD → PrngReg), Pre_WPleIdeal m →
    θ_run (Cert.WPleIdeal.defs (F := Ideal)) (onTc (τ := Cert.WPleIdeal.τ) (Cert.WPleIdeal.main (F := Ideal))) ⟨m, fun _ => 0, g⟩ (fun r => (∀ c : Dev Cert.WPleIdeal.nD,
      r.2.mem ((c.tc : Thread Cert.WPleIdeal.nD Cert.WPleIdeal.τ).loc Cert.WPleIdeal.main_arg0) = m ((c.tc : Thread Cert.WPleIdeal.nD Cert.WPleIdeal.τ).loc Cert.WPleIdeal.main_arg0)
      ∧ r.2.mem ((c.tc : Thread Cert.WPleIdeal.nD Cert.WPleIdeal.τ).loc Cert.WPleIdeal.main_arg1) = m ((c.tc : Thread Cert.WPleIdeal.nD Cert.WPleIdeal.τ).loc Cert.WPleIdeal.main_arg1))
      ∧ r.2.sem = fun _ => 0)

def quiescent_WPleRefIdeal [hWPleRefIdeal : Cert.WPleRefIdeal.Facts] : Prop :=
  ∀ (m : (ℓ : Loc Cert.WPleRefIdeal.nD Cert.WPleRefIdeal.τ Cert.WPleRefIdeal.sig) → Buf (Elt Ideal) ℓ) (g : Dev Cert.WPleRefIdeal.nD → PrngReg), Pre_WPleRefIdeal m →
    θ_run (Cert.WPleRefIdeal.defs (F := Ideal)) (onTc (τ := Cert.WPleRefIdeal.τ) (Cert.WPleRefIdeal.main (F := Ideal))) ⟨m, fun _ => 0, g⟩ (fun r => (∀ c : Dev Cert.WPleRefIdeal.nD,
      r.2.mem ((c.tc : Thread Cert.WPleRefIdeal.nD Cert.WPleRefIdeal.τ).loc Cert.WPleRefIdeal.main_arg0) = m ((c.tc : Thread Cert.WPleRefIdeal.nD Cert.WPleRefIdeal.τ).loc Cert.WPleRefIdeal.main_arg0)
      ∧ r.2.mem ((c.tc : Thread Cert.WPleRefIdeal.nD Cert.WPleRefIdeal.τ).loc Cert.WPleRefIdeal.main_arg1) = m ((c.tc : Thread Cert.WPleRefIdeal.nD Cert.WPleRefIdeal.τ).loc Cert.WPleRefIdeal.main_arg1))
      ∧ r.2.sem = fun _ => 0)

def quiescent_AdamIn [hAdamIn : Cert.AdamIn.Facts] : Prop :=
  ∀ (m : (ℓ : Loc Cert.AdamIn.nD Cert.AdamIn.τ Cert.AdamIn.sig) → Buf (Elt Bits) ℓ) (g : Dev Cert.AdamIn.nD → PrngReg), Pre_AdamIn m →
    θ_run (Cert.AdamIn.defs (F := Bits)) (onTc (τ := Cert.AdamIn.τ) (Cert.AdamIn.main (F := Bits))) ⟨m, fun _ => 0, g⟩ (fun r => (∀ c : Dev Cert.AdamIn.nD,
      r.2.mem ((c.tc : Thread Cert.AdamIn.nD Cert.AdamIn.τ).loc Cert.AdamIn.main_arg0) = m ((c.tc : Thread Cert.AdamIn.nD Cert.AdamIn.τ).loc Cert.AdamIn.main_arg0)
      ∧ r.2.mem ((c.tc : Thread Cert.AdamIn.nD Cert.AdamIn.τ).loc Cert.AdamIn.main_arg1) = m ((c.tc : Thread Cert.AdamIn.nD Cert.AdamIn.τ).loc Cert.AdamIn.main_arg1)
      ∧ r.2.mem ((c.tc : Thread Cert.AdamIn.nD Cert.AdamIn.τ).loc Cert.AdamIn.main_arg2) = m ((c.tc : Thread Cert.AdamIn.nD Cert.AdamIn.τ).loc Cert.AdamIn.main_arg2)
      ∧ r.2.mem ((c.tc : Thread Cert.AdamIn.nD Cert.AdamIn.τ).loc Cert.AdamIn.main_arg3) = m ((c.tc : Thread Cert.AdamIn.nD Cert.AdamIn.τ).loc Cert.AdamIn.main_arg3))
      ∧ r.2.sem = fun _ => 0)

def quiescent_AdamInIdeal [hAdamInIdeal : Cert.AdamInIdeal.Facts] : Prop :=
  ∀ (m : (ℓ : Loc Cert.AdamInIdeal.nD Cert.AdamInIdeal.τ Cert.AdamInIdeal.sig) → Buf (Elt Ideal) ℓ) (g : Dev Cert.AdamInIdeal.nD → PrngReg), Pre_AdamInIdeal m →
    θ_run (Cert.AdamInIdeal.defs (F := Ideal)) (onTc (τ := Cert.AdamInIdeal.τ) (Cert.AdamInIdeal.main (F := Ideal))) ⟨m, fun _ => 0, g⟩ (fun r => (∀ c : Dev Cert.AdamInIdeal.nD,
      r.2.mem ((c.tc : Thread Cert.AdamInIdeal.nD Cert.AdamInIdeal.τ).loc Cert.AdamInIdeal.main_arg0) = m ((c.tc : Thread Cert.AdamInIdeal.nD Cert.AdamInIdeal.τ).loc Cert.AdamInIdeal.main_arg0)
      ∧ r.2.mem ((c.tc : Thread Cert.AdamInIdeal.nD Cert.AdamInIdeal.τ).loc Cert.AdamInIdeal.main_arg1) = m ((c.tc : Thread Cert.AdamInIdeal.nD Cert.AdamInIdeal.τ).loc Cert.AdamInIdeal.main_arg1)
      ∧ r.2.mem ((c.tc : Thread Cert.AdamInIdeal.nD Cert.AdamInIdeal.τ).loc Cert.AdamInIdeal.main_arg2) = m ((c.tc : Thread Cert.AdamInIdeal.nD Cert.AdamInIdeal.τ).loc Cert.AdamInIdeal.main_arg2)
      ∧ r.2.mem ((c.tc : Thread Cert.AdamInIdeal.nD Cert.AdamInIdeal.τ).loc Cert.AdamInIdeal.main_arg3) = m ((c.tc : Thread Cert.AdamInIdeal.nD Cert.AdamInIdeal.τ).loc Cert.AdamInIdeal.main_arg3))
      ∧ r.2.sem = fun _ => 0)

def quiescent_AdamInRefIdeal [hAdamInRefIdeal : Cert.AdamInRefIdeal.Facts] : Prop :=
  ∀ (m : (ℓ : Loc Cert.AdamInRefIdeal.nD Cert.AdamInRefIdeal.τ Cert.AdamInRefIdeal.sig) → Buf (Elt Ideal) ℓ) (g : Dev Cert.AdamInRefIdeal.nD → PrngReg), Pre_AdamInRefIdeal m →
    θ_run (Cert.AdamInRefIdeal.defs (F := Ideal)) (onTc (τ := Cert.AdamInRefIdeal.τ) (Cert.AdamInRefIdeal.main (F := Ideal))) ⟨m, fun _ => 0, g⟩ (fun r => (∀ c : Dev Cert.AdamInRefIdeal.nD,
      r.2.mem ((c.tc : Thread Cert.AdamInRefIdeal.nD Cert.AdamInRefIdeal.τ).loc Cert.AdamInRefIdeal.main_arg0) = m ((c.tc : Thread Cert.AdamInRefIdeal.nD Cert.AdamInRefIdeal.τ).loc Cert.AdamInRefIdeal.main_arg0)
      ∧ r.2.mem ((c.tc : Thread Cert.AdamInRefIdeal.nD Cert.AdamInRefIdeal.τ).loc Cert.AdamInRefIdeal.main_arg1) = m ((c.tc : Thread Cert.AdamInRefIdeal.nD Cert.AdamInRefIdeal.τ).loc Cert.AdamInRefIdeal.main_arg1)
      ∧ r.2.mem ((c.tc : Thread Cert.AdamInRefIdeal.nD Cert.AdamInRefIdeal.τ).loc Cert.AdamInRefIdeal.main_arg2) = m ((c.tc : Thread Cert.AdamInRefIdeal.nD Cert.AdamInRefIdeal.τ).loc Cert.AdamInRefIdeal.main_arg2)
      ∧ r.2.mem ((c.tc : Thread Cert.AdamInRefIdeal.nD Cert.AdamInRefIdeal.τ).loc Cert.AdamInRefIdeal.main_arg3) = m ((c.tc : Thread Cert.AdamInRefIdeal.nD Cert.AdamInRefIdeal.τ).loc Cert.AdamInRefIdeal.main_arg3))
      ∧ r.2.sem = fun _ => 0)

def quiescent_AdamPool [hAdamPool : Cert.AdamPool.Facts] : Prop :=
  ∀ (m : (ℓ : Loc Cert.AdamPool.nD Cert.AdamPool.τ Cert.AdamPool.sig) → Buf (Elt Bits) ℓ) (g : Dev Cert.AdamPool.nD → PrngReg), Pre_AdamPool m →
    θ_run (Cert.AdamPool.defs (F := Bits)) (onTc (τ := Cert.AdamPool.τ) (Cert.AdamPool.main (F := Bits))) ⟨m, fun _ => 0, g⟩ (fun r => (∀ c : Dev Cert.AdamPool.nD,
      r.2.mem ((c.tc : Thread Cert.AdamPool.nD Cert.AdamPool.τ).loc Cert.AdamPool.main_arg0) = m ((c.tc : Thread Cert.AdamPool.nD Cert.AdamPool.τ).loc Cert.AdamPool.main_arg0)
      ∧ r.2.mem ((c.tc : Thread Cert.AdamPool.nD Cert.AdamPool.τ).loc Cert.AdamPool.main_arg1) = m ((c.tc : Thread Cert.AdamPool.nD Cert.AdamPool.τ).loc Cert.AdamPool.main_arg1)
      ∧ r.2.mem ((c.tc : Thread Cert.AdamPool.nD Cert.AdamPool.τ).loc Cert.AdamPool.main_arg2) = m ((c.tc : Thread Cert.AdamPool.nD Cert.AdamPool.τ).loc Cert.AdamPool.main_arg2)
      ∧ r.2.mem ((c.tc : Thread Cert.AdamPool.nD Cert.AdamPool.τ).loc Cert.AdamPool.main_arg3) = m ((c.tc : Thread Cert.AdamPool.nD Cert.AdamPool.τ).loc Cert.AdamPool.main_arg3))
      ∧ r.2.sem = fun _ => 0)

def quiescent_AdamPoolIdeal [hAdamPoolIdeal : Cert.AdamPoolIdeal.Facts] : Prop :=
  ∀ (m : (ℓ : Loc Cert.AdamPoolIdeal.nD Cert.AdamPoolIdeal.τ Cert.AdamPoolIdeal.sig) → Buf (Elt Ideal) ℓ) (g : Dev Cert.AdamPoolIdeal.nD → PrngReg), Pre_AdamPoolIdeal m →
    θ_run (Cert.AdamPoolIdeal.defs (F := Ideal)) (onTc (τ := Cert.AdamPoolIdeal.τ) (Cert.AdamPoolIdeal.main (F := Ideal))) ⟨m, fun _ => 0, g⟩ (fun r => (∀ c : Dev Cert.AdamPoolIdeal.nD,
      r.2.mem ((c.tc : Thread Cert.AdamPoolIdeal.nD Cert.AdamPoolIdeal.τ).loc Cert.AdamPoolIdeal.main_arg0) = m ((c.tc : Thread Cert.AdamPoolIdeal.nD Cert.AdamPoolIdeal.τ).loc Cert.AdamPoolIdeal.main_arg0)
      ∧ r.2.mem ((c.tc : Thread Cert.AdamPoolIdeal.nD Cert.AdamPoolIdeal.τ).loc Cert.AdamPoolIdeal.main_arg1) = m ((c.tc : Thread Cert.AdamPoolIdeal.nD Cert.AdamPoolIdeal.τ).loc Cert.AdamPoolIdeal.main_arg1)
      ∧ r.2.mem ((c.tc : Thread Cert.AdamPoolIdeal.nD Cert.AdamPoolIdeal.τ).loc Cert.AdamPoolIdeal.main_arg2) = m ((c.tc : Thread Cert.AdamPoolIdeal.nD Cert.AdamPoolIdeal.τ).loc Cert.AdamPoolIdeal.main_arg2)
      ∧ r.2.mem ((c.tc : Thread Cert.AdamPoolIdeal.nD Cert.AdamPoolIdeal.τ).loc Cert.AdamPoolIdeal.main_arg3) = m ((c.tc : Thread Cert.AdamPoolIdeal.nD Cert.AdamPoolIdeal.τ).loc Cert.AdamPoolIdeal.main_arg3))
      ∧ r.2.sem = fun _ => 0)

def quiescent_AdamPoolRefIdeal [hAdamPoolRefIdeal : Cert.AdamPoolRefIdeal.Facts] : Prop :=
  ∀ (m : (ℓ : Loc Cert.AdamPoolRefIdeal.nD Cert.AdamPoolRefIdeal.τ Cert.AdamPoolRefIdeal.sig) → Buf (Elt Ideal) ℓ) (g : Dev Cert.AdamPoolRefIdeal.nD → PrngReg), Pre_AdamPoolRefIdeal m →
    θ_run (Cert.AdamPoolRefIdeal.defs (F := Ideal)) (onTc (τ := Cert.AdamPoolRefIdeal.τ) (Cert.AdamPoolRefIdeal.main (F := Ideal))) ⟨m, fun _ => 0, g⟩ (fun r => (∀ c : Dev Cert.AdamPoolRefIdeal.nD,
      r.2.mem ((c.tc : Thread Cert.AdamPoolRefIdeal.nD Cert.AdamPoolRefIdeal.τ).loc Cert.AdamPoolRefIdeal.main_arg0) = m ((c.tc : Thread Cert.AdamPoolRefIdeal.nD Cert.AdamPoolRefIdeal.τ).loc Cert.AdamPoolRefIdeal.main_arg0)
      ∧ r.2.mem ((c.tc : Thread Cert.AdamPoolRefIdeal.nD Cert.AdamPoolRefIdeal.τ).loc Cert.AdamPoolRefIdeal.main_arg1) = m ((c.tc : Thread Cert.AdamPoolRefIdeal.nD Cert.AdamPoolRefIdeal.τ).loc Cert.AdamPoolRefIdeal.main_arg1)
      ∧ r.2.mem ((c.tc : Thread Cert.AdamPoolRefIdeal.nD Cert.AdamPoolRefIdeal.τ).loc Cert.AdamPoolRefIdeal.main_arg2) = m ((c.tc : Thread Cert.AdamPoolRefIdeal.nD Cert.AdamPoolRefIdeal.τ).loc Cert.AdamPoolRefIdeal.main_arg2)
      ∧ r.2.mem ((c.tc : Thread Cert.AdamPoolRefIdeal.nD Cert.AdamPoolRefIdeal.τ).loc Cert.AdamPoolRefIdeal.main_arg3) = m ((c.tc : Thread Cert.AdamPoolRefIdeal.nD Cert.AdamPoolRefIdeal.τ).loc Cert.AdamPoolRefIdeal.main_arg3))
      ∧ r.2.sem = fun _ => 0)

def quiescent_AdamOut [hAdamOut : Cert.AdamOut.Facts] : Prop :=
  ∀ (m : (ℓ : Loc Cert.AdamOut.nD Cert.AdamOut.τ Cert.AdamOut.sig) → Buf (Elt Bits) ℓ) (g : Dev Cert.AdamOut.nD → PrngReg), Pre_AdamOut m →
    θ_run (Cert.AdamOut.defs (F := Bits)) (onTc (τ := Cert.AdamOut.τ) (Cert.AdamOut.main (F := Bits))) ⟨m, fun _ => 0, g⟩ (fun r => (∀ c : Dev Cert.AdamOut.nD,
      r.2.mem ((c.tc : Thread Cert.AdamOut.nD Cert.AdamOut.τ).loc Cert.AdamOut.main_arg0) = m ((c.tc : Thread Cert.AdamOut.nD Cert.AdamOut.τ).loc Cert.AdamOut.main_arg0)
      ∧ r.2.mem ((c.tc : Thread Cert.AdamOut.nD Cert.AdamOut.τ).loc Cert.AdamOut.main_arg1) = m ((c.tc : Thread Cert.AdamOut.nD Cert.AdamOut.τ).loc Cert.AdamOut.main_arg1)
      ∧ r.2.mem ((c.tc : Thread Cert.AdamOut.nD Cert.AdamOut.τ).loc Cert.AdamOut.main_arg2) = m ((c.tc : Thread Cert.AdamOut.nD Cert.AdamOut.τ).loc Cert.AdamOut.main_arg2)
      ∧ r.2.mem ((c.tc : Thread Cert.AdamOut.nD Cert.AdamOut.τ).loc Cert.AdamOut.main_arg3) = m ((c.tc : Thread Cert.AdamOut.nD Cert.AdamOut.τ).loc Cert.AdamOut.main_arg3))
      ∧ r.2.sem = fun _ => 0)

def quiescent_AdamOutIdeal [hAdamOutIdeal : Cert.AdamOutIdeal.Facts] : Prop :=
  ∀ (m : (ℓ : Loc Cert.AdamOutIdeal.nD Cert.AdamOutIdeal.τ Cert.AdamOutIdeal.sig) → Buf (Elt Ideal) ℓ) (g : Dev Cert.AdamOutIdeal.nD → PrngReg), Pre_AdamOutIdeal m →
    θ_run (Cert.AdamOutIdeal.defs (F := Ideal)) (onTc (τ := Cert.AdamOutIdeal.τ) (Cert.AdamOutIdeal.main (F := Ideal))) ⟨m, fun _ => 0, g⟩ (fun r => (∀ c : Dev Cert.AdamOutIdeal.nD,
      r.2.mem ((c.tc : Thread Cert.AdamOutIdeal.nD Cert.AdamOutIdeal.τ).loc Cert.AdamOutIdeal.main_arg0) = m ((c.tc : Thread Cert.AdamOutIdeal.nD Cert.AdamOutIdeal.τ).loc Cert.AdamOutIdeal.main_arg0)
      ∧ r.2.mem ((c.tc : Thread Cert.AdamOutIdeal.nD Cert.AdamOutIdeal.τ).loc Cert.AdamOutIdeal.main_arg1) = m ((c.tc : Thread Cert.AdamOutIdeal.nD Cert.AdamOutIdeal.τ).loc Cert.AdamOutIdeal.main_arg1)
      ∧ r.2.mem ((c.tc : Thread Cert.AdamOutIdeal.nD Cert.AdamOutIdeal.τ).loc Cert.AdamOutIdeal.main_arg2) = m ((c.tc : Thread Cert.AdamOutIdeal.nD Cert.AdamOutIdeal.τ).loc Cert.AdamOutIdeal.main_arg2)
      ∧ r.2.mem ((c.tc : Thread Cert.AdamOutIdeal.nD Cert.AdamOutIdeal.τ).loc Cert.AdamOutIdeal.main_arg3) = m ((c.tc : Thread Cert.AdamOutIdeal.nD Cert.AdamOutIdeal.τ).loc Cert.AdamOutIdeal.main_arg3))
      ∧ r.2.sem = fun _ => 0)

def quiescent_AdamOutRefIdeal [hAdamOutRefIdeal : Cert.AdamOutRefIdeal.Facts] : Prop :=
  ∀ (m : (ℓ : Loc Cert.AdamOutRefIdeal.nD Cert.AdamOutRefIdeal.τ Cert.AdamOutRefIdeal.sig) → Buf (Elt Ideal) ℓ) (g : Dev Cert.AdamOutRefIdeal.nD → PrngReg), Pre_AdamOutRefIdeal m →
    θ_run (Cert.AdamOutRefIdeal.defs (F := Ideal)) (onTc (τ := Cert.AdamOutRefIdeal.τ) (Cert.AdamOutRefIdeal.main (F := Ideal))) ⟨m, fun _ => 0, g⟩ (fun r => (∀ c : Dev Cert.AdamOutRefIdeal.nD,
      r.2.mem ((c.tc : Thread Cert.AdamOutRefIdeal.nD Cert.AdamOutRefIdeal.τ).loc Cert.AdamOutRefIdeal.main_arg0) = m ((c.tc : Thread Cert.AdamOutRefIdeal.nD Cert.AdamOutRefIdeal.τ).loc Cert.AdamOutRefIdeal.main_arg0)
      ∧ r.2.mem ((c.tc : Thread Cert.AdamOutRefIdeal.nD Cert.AdamOutRefIdeal.τ).loc Cert.AdamOutRefIdeal.main_arg1) = m ((c.tc : Thread Cert.AdamOutRefIdeal.nD Cert.AdamOutRefIdeal.τ).loc Cert.AdamOutRefIdeal.main_arg1)
      ∧ r.2.mem ((c.tc : Thread Cert.AdamOutRefIdeal.nD Cert.AdamOutRefIdeal.τ).loc Cert.AdamOutRefIdeal.main_arg2) = m ((c.tc : Thread Cert.AdamOutRefIdeal.nD Cert.AdamOutRefIdeal.τ).loc Cert.AdamOutRefIdeal.main_arg2)
      ∧ r.2.mem ((c.tc : Thread Cert.AdamOutRefIdeal.nD Cert.AdamOutRefIdeal.τ).loc Cert.AdamOutRefIdeal.main_arg3) = m ((c.tc : Thread Cert.AdamOutRefIdeal.nD Cert.AdamOutRefIdeal.τ).loc Cert.AdamOutRefIdeal.main_arg3))
      ∧ r.2.sem = fun _ => 0)

def quiescent_AdamUp [hAdamUp : Cert.AdamUp.Facts] : Prop :=
  ∀ (m : (ℓ : Loc Cert.AdamUp.nD Cert.AdamUp.τ Cert.AdamUp.sig) → Buf (Elt Bits) ℓ) (g : Dev Cert.AdamUp.nD → PrngReg), Pre_AdamUp m →
    θ_run (Cert.AdamUp.defs (F := Bits)) (onTc (τ := Cert.AdamUp.τ) (Cert.AdamUp.main (F := Bits))) ⟨m, fun _ => 0, g⟩ (fun r => (∀ c : Dev Cert.AdamUp.nD,
      r.2.mem ((c.tc : Thread Cert.AdamUp.nD Cert.AdamUp.τ).loc Cert.AdamUp.main_arg0) = m ((c.tc : Thread Cert.AdamUp.nD Cert.AdamUp.τ).loc Cert.AdamUp.main_arg0)
      ∧ r.2.mem ((c.tc : Thread Cert.AdamUp.nD Cert.AdamUp.τ).loc Cert.AdamUp.main_arg1) = m ((c.tc : Thread Cert.AdamUp.nD Cert.AdamUp.τ).loc Cert.AdamUp.main_arg1)
      ∧ r.2.mem ((c.tc : Thread Cert.AdamUp.nD Cert.AdamUp.τ).loc Cert.AdamUp.main_arg2) = m ((c.tc : Thread Cert.AdamUp.nD Cert.AdamUp.τ).loc Cert.AdamUp.main_arg2)
      ∧ r.2.mem ((c.tc : Thread Cert.AdamUp.nD Cert.AdamUp.τ).loc Cert.AdamUp.main_arg3) = m ((c.tc : Thread Cert.AdamUp.nD Cert.AdamUp.τ).loc Cert.AdamUp.main_arg3))
      ∧ r.2.sem = fun _ => 0)

def quiescent_AdamUpIdeal [hAdamUpIdeal : Cert.AdamUpIdeal.Facts] : Prop :=
  ∀ (m : (ℓ : Loc Cert.AdamUpIdeal.nD Cert.AdamUpIdeal.τ Cert.AdamUpIdeal.sig) → Buf (Elt Ideal) ℓ) (g : Dev Cert.AdamUpIdeal.nD → PrngReg), Pre_AdamUpIdeal m →
    θ_run (Cert.AdamUpIdeal.defs (F := Ideal)) (onTc (τ := Cert.AdamUpIdeal.τ) (Cert.AdamUpIdeal.main (F := Ideal))) ⟨m, fun _ => 0, g⟩ (fun r => (∀ c : Dev Cert.AdamUpIdeal.nD,
      r.2.mem ((c.tc : Thread Cert.AdamUpIdeal.nD Cert.AdamUpIdeal.τ).loc Cert.AdamUpIdeal.main_arg0) = m ((c.tc : Thread Cert.AdamUpIdeal.nD Cert.AdamUpIdeal.τ).loc Cert.AdamUpIdeal.main_arg0)
      ∧ r.2.mem ((c.tc : Thread Cert.AdamUpIdeal.nD Cert.AdamUpIdeal.τ).loc Cert.AdamUpIdeal.main_arg1) = m ((c.tc : Thread Cert.AdamUpIdeal.nD Cert.AdamUpIdeal.τ).loc Cert.AdamUpIdeal.main_arg1)
      ∧ r.2.mem ((c.tc : Thread Cert.AdamUpIdeal.nD Cert.AdamUpIdeal.τ).loc Cert.AdamUpIdeal.main_arg2) = m ((c.tc : Thread Cert.AdamUpIdeal.nD Cert.AdamUpIdeal.τ).loc Cert.AdamUpIdeal.main_arg2)
      ∧ r.2.mem ((c.tc : Thread Cert.AdamUpIdeal.nD Cert.AdamUpIdeal.τ).loc Cert.AdamUpIdeal.main_arg3) = m ((c.tc : Thread Cert.AdamUpIdeal.nD Cert.AdamUpIdeal.τ).loc Cert.AdamUpIdeal.main_arg3))
      ∧ r.2.sem = fun _ => 0)

def quiescent_AdamUpRefIdeal [hAdamUpRefIdeal : Cert.AdamUpRefIdeal.Facts] : Prop :=
  ∀ (m : (ℓ : Loc Cert.AdamUpRefIdeal.nD Cert.AdamUpRefIdeal.τ Cert.AdamUpRefIdeal.sig) → Buf (Elt Ideal) ℓ) (g : Dev Cert.AdamUpRefIdeal.nD → PrngReg), Pre_AdamUpRefIdeal m →
    θ_run (Cert.AdamUpRefIdeal.defs (F := Ideal)) (onTc (τ := Cert.AdamUpRefIdeal.τ) (Cert.AdamUpRefIdeal.main (F := Ideal))) ⟨m, fun _ => 0, g⟩ (fun r => (∀ c : Dev Cert.AdamUpRefIdeal.nD,
      r.2.mem ((c.tc : Thread Cert.AdamUpRefIdeal.nD Cert.AdamUpRefIdeal.τ).loc Cert.AdamUpRefIdeal.main_arg0) = m ((c.tc : Thread Cert.AdamUpRefIdeal.nD Cert.AdamUpRefIdeal.τ).loc Cert.AdamUpRefIdeal.main_arg0)
      ∧ r.2.mem ((c.tc : Thread Cert.AdamUpRefIdeal.nD Cert.AdamUpRefIdeal.τ).loc Cert.AdamUpRefIdeal.main_arg1) = m ((c.tc : Thread Cert.AdamUpRefIdeal.nD Cert.AdamUpRefIdeal.τ).loc Cert.AdamUpRefIdeal.main_arg1)
      ∧ r.2.mem ((c.tc : Thread Cert.AdamUpRefIdeal.nD Cert.AdamUpRefIdeal.τ).loc Cert.AdamUpRefIdeal.main_arg2) = m ((c.tc : Thread Cert.AdamUpRefIdeal.nD Cert.AdamUpRefIdeal.τ).loc Cert.AdamUpRefIdeal.main_arg2)
      ∧ r.2.mem ((c.tc : Thread Cert.AdamUpRefIdeal.nD Cert.AdamUpRefIdeal.τ).loc Cert.AdamUpRefIdeal.main_arg3) = m ((c.tc : Thread Cert.AdamUpRefIdeal.nD Cert.AdamUpRefIdeal.τ).loc Cert.AdamUpRefIdeal.main_arg3))
      ∧ r.2.sem = fun _ => 0)

def quiescent_AdamDown [hAdamDown : Cert.AdamDown.Facts] : Prop :=
  ∀ (m : (ℓ : Loc Cert.AdamDown.nD Cert.AdamDown.τ Cert.AdamDown.sig) → Buf (Elt Bits) ℓ) (g : Dev Cert.AdamDown.nD → PrngReg), Pre_AdamDown m →
    θ_run (Cert.AdamDown.defs (F := Bits)) (onTc (τ := Cert.AdamDown.τ) (Cert.AdamDown.main (F := Bits))) ⟨m, fun _ => 0, g⟩ (fun r => (∀ c : Dev Cert.AdamDown.nD,
      r.2.mem ((c.tc : Thread Cert.AdamDown.nD Cert.AdamDown.τ).loc Cert.AdamDown.main_arg0) = m ((c.tc : Thread Cert.AdamDown.nD Cert.AdamDown.τ).loc Cert.AdamDown.main_arg0)
      ∧ r.2.mem ((c.tc : Thread Cert.AdamDown.nD Cert.AdamDown.τ).loc Cert.AdamDown.main_arg1) = m ((c.tc : Thread Cert.AdamDown.nD Cert.AdamDown.τ).loc Cert.AdamDown.main_arg1)
      ∧ r.2.mem ((c.tc : Thread Cert.AdamDown.nD Cert.AdamDown.τ).loc Cert.AdamDown.main_arg2) = m ((c.tc : Thread Cert.AdamDown.nD Cert.AdamDown.τ).loc Cert.AdamDown.main_arg2)
      ∧ r.2.mem ((c.tc : Thread Cert.AdamDown.nD Cert.AdamDown.τ).loc Cert.AdamDown.main_arg3) = m ((c.tc : Thread Cert.AdamDown.nD Cert.AdamDown.τ).loc Cert.AdamDown.main_arg3))
      ∧ r.2.sem = fun _ => 0)

def quiescent_AdamDownIdeal [hAdamDownIdeal : Cert.AdamDownIdeal.Facts] : Prop :=
  ∀ (m : (ℓ : Loc Cert.AdamDownIdeal.nD Cert.AdamDownIdeal.τ Cert.AdamDownIdeal.sig) → Buf (Elt Ideal) ℓ) (g : Dev Cert.AdamDownIdeal.nD → PrngReg), Pre_AdamDownIdeal m →
    θ_run (Cert.AdamDownIdeal.defs (F := Ideal)) (onTc (τ := Cert.AdamDownIdeal.τ) (Cert.AdamDownIdeal.main (F := Ideal))) ⟨m, fun _ => 0, g⟩ (fun r => (∀ c : Dev Cert.AdamDownIdeal.nD,
      r.2.mem ((c.tc : Thread Cert.AdamDownIdeal.nD Cert.AdamDownIdeal.τ).loc Cert.AdamDownIdeal.main_arg0) = m ((c.tc : Thread Cert.AdamDownIdeal.nD Cert.AdamDownIdeal.τ).loc Cert.AdamDownIdeal.main_arg0)
      ∧ r.2.mem ((c.tc : Thread Cert.AdamDownIdeal.nD Cert.AdamDownIdeal.τ).loc Cert.AdamDownIdeal.main_arg1) = m ((c.tc : Thread Cert.AdamDownIdeal.nD Cert.AdamDownIdeal.τ).loc Cert.AdamDownIdeal.main_arg1)
      ∧ r.2.mem ((c.tc : Thread Cert.AdamDownIdeal.nD Cert.AdamDownIdeal.τ).loc Cert.AdamDownIdeal.main_arg2) = m ((c.tc : Thread Cert.AdamDownIdeal.nD Cert.AdamDownIdeal.τ).loc Cert.AdamDownIdeal.main_arg2)
      ∧ r.2.mem ((c.tc : Thread Cert.AdamDownIdeal.nD Cert.AdamDownIdeal.τ).loc Cert.AdamDownIdeal.main_arg3) = m ((c.tc : Thread Cert.AdamDownIdeal.nD Cert.AdamDownIdeal.τ).loc Cert.AdamDownIdeal.main_arg3))
      ∧ r.2.sem = fun _ => 0)

def quiescent_AdamDownRefIdeal [hAdamDownRefIdeal : Cert.AdamDownRefIdeal.Facts] : Prop :=
  ∀ (m : (ℓ : Loc Cert.AdamDownRefIdeal.nD Cert.AdamDownRefIdeal.τ Cert.AdamDownRefIdeal.sig) → Buf (Elt Ideal) ℓ) (g : Dev Cert.AdamDownRefIdeal.nD → PrngReg), Pre_AdamDownRefIdeal m →
    θ_run (Cert.AdamDownRefIdeal.defs (F := Ideal)) (onTc (τ := Cert.AdamDownRefIdeal.τ) (Cert.AdamDownRefIdeal.main (F := Ideal))) ⟨m, fun _ => 0, g⟩ (fun r => (∀ c : Dev Cert.AdamDownRefIdeal.nD,
      r.2.mem ((c.tc : Thread Cert.AdamDownRefIdeal.nD Cert.AdamDownRefIdeal.τ).loc Cert.AdamDownRefIdeal.main_arg0) = m ((c.tc : Thread Cert.AdamDownRefIdeal.nD Cert.AdamDownRefIdeal.τ).loc Cert.AdamDownRefIdeal.main_arg0)
      ∧ r.2.mem ((c.tc : Thread Cert.AdamDownRefIdeal.nD Cert.AdamDownRefIdeal.τ).loc Cert.AdamDownRefIdeal.main_arg1) = m ((c.tc : Thread Cert.AdamDownRefIdeal.nD Cert.AdamDownRefIdeal.τ).loc Cert.AdamDownRefIdeal.main_arg1)
      ∧ r.2.mem ((c.tc : Thread Cert.AdamDownRefIdeal.nD Cert.AdamDownRefIdeal.τ).loc Cert.AdamDownRefIdeal.main_arg2) = m ((c.tc : Thread Cert.AdamDownRefIdeal.nD Cert.AdamDownRefIdeal.τ).loc Cert.AdamDownRefIdeal.main_arg2)
      ∧ r.2.mem ((c.tc : Thread Cert.AdamDownRefIdeal.nD Cert.AdamDownRefIdeal.τ).loc Cert.AdamDownRefIdeal.main_arg3) = m ((c.tc : Thread Cert.AdamDownRefIdeal.nD Cert.AdamDownRefIdeal.τ).loc Cert.AdamDownRefIdeal.main_arg3))
      ∧ r.2.sem = fun _ => 0)

def quiescent_AdamSmall [hAdamSmall : Cert.AdamSmall.Facts] : Prop :=
  ∀ (m : (ℓ : Loc Cert.AdamSmall.nD Cert.AdamSmall.τ Cert.AdamSmall.sig) → Buf (Elt Bits) ℓ) (g : Dev Cert.AdamSmall.nD → PrngReg), Pre_AdamSmall m →
    θ_run (Cert.AdamSmall.defs (F := Bits)) (onTc (τ := Cert.AdamSmall.τ) (Cert.AdamSmall.main (F := Bits))) ⟨m, fun _ => 0, g⟩ (fun r => (∀ c : Dev Cert.AdamSmall.nD,
      r.2.mem ((c.tc : Thread Cert.AdamSmall.nD Cert.AdamSmall.τ).loc Cert.AdamSmall.main_arg0) = m ((c.tc : Thread Cert.AdamSmall.nD Cert.AdamSmall.τ).loc Cert.AdamSmall.main_arg0)
      ∧ r.2.mem ((c.tc : Thread Cert.AdamSmall.nD Cert.AdamSmall.τ).loc Cert.AdamSmall.main_arg1) = m ((c.tc : Thread Cert.AdamSmall.nD Cert.AdamSmall.τ).loc Cert.AdamSmall.main_arg1)
      ∧ r.2.mem ((c.tc : Thread Cert.AdamSmall.nD Cert.AdamSmall.τ).loc Cert.AdamSmall.main_arg2) = m ((c.tc : Thread Cert.AdamSmall.nD Cert.AdamSmall.τ).loc Cert.AdamSmall.main_arg2)
      ∧ r.2.mem ((c.tc : Thread Cert.AdamSmall.nD Cert.AdamSmall.τ).loc Cert.AdamSmall.main_arg3) = m ((c.tc : Thread Cert.AdamSmall.nD Cert.AdamSmall.τ).loc Cert.AdamSmall.main_arg3))
      ∧ r.2.sem = fun _ => 0)

def quiescent_AdamSmallIdeal [hAdamSmallIdeal : Cert.AdamSmallIdeal.Facts] : Prop :=
  ∀ (m : (ℓ : Loc Cert.AdamSmallIdeal.nD Cert.AdamSmallIdeal.τ Cert.AdamSmallIdeal.sig) → Buf (Elt Ideal) ℓ) (g : Dev Cert.AdamSmallIdeal.nD → PrngReg), Pre_AdamSmallIdeal m →
    θ_run (Cert.AdamSmallIdeal.defs (F := Ideal)) (onTc (τ := Cert.AdamSmallIdeal.τ) (Cert.AdamSmallIdeal.main (F := Ideal))) ⟨m, fun _ => 0, g⟩ (fun r => (∀ c : Dev Cert.AdamSmallIdeal.nD,
      r.2.mem ((c.tc : Thread Cert.AdamSmallIdeal.nD Cert.AdamSmallIdeal.τ).loc Cert.AdamSmallIdeal.main_arg0) = m ((c.tc : Thread Cert.AdamSmallIdeal.nD Cert.AdamSmallIdeal.τ).loc Cert.AdamSmallIdeal.main_arg0)
      ∧ r.2.mem ((c.tc : Thread Cert.AdamSmallIdeal.nD Cert.AdamSmallIdeal.τ).loc Cert.AdamSmallIdeal.main_arg1) = m ((c.tc : Thread Cert.AdamSmallIdeal.nD Cert.AdamSmallIdeal.τ).loc Cert.AdamSmallIdeal.main_arg1)
      ∧ r.2.mem ((c.tc : Thread Cert.AdamSmallIdeal.nD Cert.AdamSmallIdeal.τ).loc Cert.AdamSmallIdeal.main_arg2) = m ((c.tc : Thread Cert.AdamSmallIdeal.nD Cert.AdamSmallIdeal.τ).loc Cert.AdamSmallIdeal.main_arg2)
      ∧ r.2.mem ((c.tc : Thread Cert.AdamSmallIdeal.nD Cert.AdamSmallIdeal.τ).loc Cert.AdamSmallIdeal.main_arg3) = m ((c.tc : Thread Cert.AdamSmallIdeal.nD Cert.AdamSmallIdeal.τ).loc Cert.AdamSmallIdeal.main_arg3))
      ∧ r.2.sem = fun _ => 0)

def quiescent_AdamSmallRefIdeal [hAdamSmallRefIdeal : Cert.AdamSmallRefIdeal.Facts] : Prop :=
  ∀ (m : (ℓ : Loc Cert.AdamSmallRefIdeal.nD Cert.AdamSmallRefIdeal.τ Cert.AdamSmallRefIdeal.sig) → Buf (Elt Ideal) ℓ) (g : Dev Cert.AdamSmallRefIdeal.nD → PrngReg), Pre_AdamSmallRefIdeal m →
    θ_run (Cert.AdamSmallRefIdeal.defs (F := Ideal)) (onTc (τ := Cert.AdamSmallRefIdeal.τ) (Cert.AdamSmallRefIdeal.main (F := Ideal))) ⟨m, fun _ => 0, g⟩ (fun r => (∀ c : Dev Cert.AdamSmallRefIdeal.nD,
      r.2.mem ((c.tc : Thread Cert.AdamSmallRefIdeal.nD Cert.AdamSmallRefIdeal.τ).loc Cert.AdamSmallRefIdeal.main_arg0) = m ((c.tc : Thread Cert.AdamSmallRefIdeal.nD Cert.AdamSmallRefIdeal.τ).loc Cert.AdamSmallRefIdeal.main_arg0)
      ∧ r.2.mem ((c.tc : Thread Cert.AdamSmallRefIdeal.nD Cert.AdamSmallRefIdeal.τ).loc Cert.AdamSmallRefIdeal.main_arg1) = m ((c.tc : Thread Cert.AdamSmallRefIdeal.nD Cert.AdamSmallRefIdeal.τ).loc Cert.AdamSmallRefIdeal.main_arg1)
      ∧ r.2.mem ((c.tc : Thread Cert.AdamSmallRefIdeal.nD Cert.AdamSmallRefIdeal.τ).loc Cert.AdamSmallRefIdeal.main_arg2) = m ((c.tc : Thread Cert.AdamSmallRefIdeal.nD Cert.AdamSmallRefIdeal.τ).loc Cert.AdamSmallRefIdeal.main_arg2)
      ∧ r.2.mem ((c.tc : Thread Cert.AdamSmallRefIdeal.nD Cert.AdamSmallRefIdeal.τ).loc Cert.AdamSmallRefIdeal.main_arg3) = m ((c.tc : Thread Cert.AdamSmallRefIdeal.nD Cert.AdamSmallRefIdeal.τ).loc Cert.AdamSmallRefIdeal.main_arg3))
      ∧ r.2.sem = fun _ => 0)

def quiescent_LossHead [hLossHead : Cert.LossHead.Facts] : Prop :=
  ∀ (m : (ℓ : Loc Cert.LossHead.nD Cert.LossHead.τ Cert.LossHead.sig) → Buf (Elt Bits) ℓ) (g : Dev Cert.LossHead.nD → PrngReg), Pre_LossHead m →
    θ_run (Cert.LossHead.defs (F := Bits)) (onTc (τ := Cert.LossHead.τ) (Cert.LossHead.main (F := Bits))) ⟨m, fun _ => 0, g⟩ (fun r => (∀ c : Dev Cert.LossHead.nD,
      r.2.mem ((c.tc : Thread Cert.LossHead.nD Cert.LossHead.τ).loc Cert.LossHead.main_arg0) = m ((c.tc : Thread Cert.LossHead.nD Cert.LossHead.τ).loc Cert.LossHead.main_arg0)
      ∧ r.2.mem ((c.tc : Thread Cert.LossHead.nD Cert.LossHead.τ).loc Cert.LossHead.main_arg1) = m ((c.tc : Thread Cert.LossHead.nD Cert.LossHead.τ).loc Cert.LossHead.main_arg1)
      ∧ r.2.mem ((c.tc : Thread Cert.LossHead.nD Cert.LossHead.τ).loc Cert.LossHead.main_arg2) = m ((c.tc : Thread Cert.LossHead.nD Cert.LossHead.τ).loc Cert.LossHead.main_arg2))
      ∧ r.2.sem = fun _ => 0)

def quiescent_LossHeadIdeal [hLossHeadIdeal : Cert.LossHeadIdeal.Facts] : Prop :=
  ∀ (m : (ℓ : Loc Cert.LossHeadIdeal.nD Cert.LossHeadIdeal.τ Cert.LossHeadIdeal.sig) → Buf (Elt Ideal) ℓ) (g : Dev Cert.LossHeadIdeal.nD → PrngReg), Pre_LossHeadIdeal m →
    θ_run (Cert.LossHeadIdeal.defs (F := Ideal)) (onTc (τ := Cert.LossHeadIdeal.τ) (Cert.LossHeadIdeal.main (F := Ideal))) ⟨m, fun _ => 0, g⟩ (fun r => (∀ c : Dev Cert.LossHeadIdeal.nD,
      r.2.mem ((c.tc : Thread Cert.LossHeadIdeal.nD Cert.LossHeadIdeal.τ).loc Cert.LossHeadIdeal.main_arg0) = m ((c.tc : Thread Cert.LossHeadIdeal.nD Cert.LossHeadIdeal.τ).loc Cert.LossHeadIdeal.main_arg0)
      ∧ r.2.mem ((c.tc : Thread Cert.LossHeadIdeal.nD Cert.LossHeadIdeal.τ).loc Cert.LossHeadIdeal.main_arg1) = m ((c.tc : Thread Cert.LossHeadIdeal.nD Cert.LossHeadIdeal.τ).loc Cert.LossHeadIdeal.main_arg1)
      ∧ r.2.mem ((c.tc : Thread Cert.LossHeadIdeal.nD Cert.LossHeadIdeal.τ).loc Cert.LossHeadIdeal.main_arg2) = m ((c.tc : Thread Cert.LossHeadIdeal.nD Cert.LossHeadIdeal.τ).loc Cert.LossHeadIdeal.main_arg2))
      ∧ r.2.sem = fun _ => 0)

def quiescent_LossHeadIdeal_pre_finite_loss [hLossHeadIdeal : Cert.LossHeadIdeal.Facts] [hPre_finite_loss : Cert.Pre_finite_loss.Facts] : Prop :=
  ∀ (m : (ℓ : Loc Cert.LossHeadIdeal.nD Cert.LossHeadIdeal.τ Cert.LossHeadIdeal.sig) → Buf (Elt Ideal) ℓ) (g : Dev Cert.LossHeadIdeal.nD → PrngReg), Pre_LossHeadIdeal_finite_loss m →
    θ_run (Cert.LossHeadIdeal.defs (F := Ideal)) (onTc (τ := Cert.LossHeadIdeal.τ) (Cert.LossHeadIdeal.main (F := Ideal))) ⟨m, fun _ => 0, g⟩ (fun r => (∀ c : Dev Cert.LossHeadIdeal.nD,
      r.2.mem ((c.tc : Thread Cert.LossHeadIdeal.nD Cert.LossHeadIdeal.τ).loc Cert.LossHeadIdeal.main_arg0) = m ((c.tc : Thread Cert.LossHeadIdeal.nD Cert.LossHeadIdeal.τ).loc Cert.LossHeadIdeal.main_arg0)
      ∧ r.2.mem ((c.tc : Thread Cert.LossHeadIdeal.nD Cert.LossHeadIdeal.τ).loc Cert.LossHeadIdeal.main_arg1) = m ((c.tc : Thread Cert.LossHeadIdeal.nD Cert.LossHeadIdeal.τ).loc Cert.LossHeadIdeal.main_arg1)
      ∧ r.2.mem ((c.tc : Thread Cert.LossHeadIdeal.nD Cert.LossHeadIdeal.τ).loc Cert.LossHeadIdeal.main_arg2) = m ((c.tc : Thread Cert.LossHeadIdeal.nD Cert.LossHeadIdeal.τ).loc Cert.LossHeadIdeal.main_arg2))
      ∧ r.2.sem = fun _ => 0)

def quiescent_LossHeadRefIdeal [hLossHeadRefIdeal : Cert.LossHeadRefIdeal.Facts] : Prop :=
  ∀ (m : (ℓ : Loc Cert.LossHeadRefIdeal.nD Cert.LossHeadRefIdeal.τ Cert.LossHeadRefIdeal.sig) → Buf (Elt Ideal) ℓ) (g : Dev Cert.LossHeadRefIdeal.nD → PrngReg), Pre_LossHeadRefIdeal m →
    θ_run (Cert.LossHeadRefIdeal.defs (F := Ideal)) (onTc (τ := Cert.LossHeadRefIdeal.τ) (Cert.LossHeadRefIdeal.main (F := Ideal))) ⟨m, fun _ => 0, g⟩ (fun r => (∀ c : Dev Cert.LossHeadRefIdeal.nD,
      r.2.mem ((c.tc : Thread Cert.LossHeadRefIdeal.nD Cert.LossHeadRefIdeal.τ).loc Cert.LossHeadRefIdeal.main_arg0) = m ((c.tc : Thread Cert.LossHeadRefIdeal.nD Cert.LossHeadRefIdeal.τ).loc Cert.LossHeadRefIdeal.main_arg0)
      ∧ r.2.mem ((c.tc : Thread Cert.LossHeadRefIdeal.nD Cert.LossHeadRefIdeal.τ).loc Cert.LossHeadRefIdeal.main_arg1) = m ((c.tc : Thread Cert.LossHeadRefIdeal.nD Cert.LossHeadRefIdeal.τ).loc Cert.LossHeadRefIdeal.main_arg1)
      ∧ r.2.mem ((c.tc : Thread Cert.LossHeadRefIdeal.nD Cert.LossHeadRefIdeal.τ).loc Cert.LossHeadRefIdeal.main_arg2) = m ((c.tc : Thread Cert.LossHeadRefIdeal.nD Cert.LossHeadRefIdeal.τ).loc Cert.LossHeadRefIdeal.main_arg2))
      ∧ r.2.sem = fun _ => 0)

def quiescent_LossHeadRefIdeal_pre_finite_loss [hLossHeadRefIdeal : Cert.LossHeadRefIdeal.Facts] [hPre_finite_loss : Cert.Pre_finite_loss.Facts] : Prop :=
  ∀ (m : (ℓ : Loc Cert.LossHeadRefIdeal.nD Cert.LossHeadRefIdeal.τ Cert.LossHeadRefIdeal.sig) → Buf (Elt Ideal) ℓ) (g : Dev Cert.LossHeadRefIdeal.nD → PrngReg), Pre_LossHeadRefIdeal_finite_loss m →
    θ_run (Cert.LossHeadRefIdeal.defs (F := Ideal)) (onTc (τ := Cert.LossHeadRefIdeal.τ) (Cert.LossHeadRefIdeal.main (F := Ideal))) ⟨m, fun _ => 0, g⟩ (fun r => (∀ c : Dev Cert.LossHeadRefIdeal.nD,
      r.2.mem ((c.tc : Thread Cert.LossHeadRefIdeal.nD Cert.LossHeadRefIdeal.τ).loc Cert.LossHeadRefIdeal.main_arg0) = m ((c.tc : Thread Cert.LossHeadRefIdeal.nD Cert.LossHeadRefIdeal.τ).loc Cert.LossHeadRefIdeal.main_arg0)
      ∧ r.2.mem ((c.tc : Thread Cert.LossHeadRefIdeal.nD Cert.LossHeadRefIdeal.τ).loc Cert.LossHeadRefIdeal.main_arg1) = m ((c.tc : Thread Cert.LossHeadRefIdeal.nD Cert.LossHeadRefIdeal.τ).loc Cert.LossHeadRefIdeal.main_arg1)
      ∧ r.2.mem ((c.tc : Thread Cert.LossHeadRefIdeal.nD Cert.LossHeadRefIdeal.τ).loc Cert.LossHeadRefIdeal.main_arg2) = m ((c.tc : Thread Cert.LossHeadRefIdeal.nD Cert.LossHeadRefIdeal.τ).loc Cert.LossHeadRefIdeal.main_arg2))
      ∧ r.2.sem = fun _ => 0)

def quiescent_FfnNorm [hFfnNorm : Cert.FfnNorm.Facts] : Prop :=
  ∀ (m : (ℓ : Loc Cert.FfnNorm.nD Cert.FfnNorm.τ Cert.FfnNorm.sig) → Buf (Elt Bits) ℓ) (g : Dev Cert.FfnNorm.nD → PrngReg), Pre_FfnNorm m →
    θ_run (Cert.FfnNorm.defs (F := Bits)) (onTc (τ := Cert.FfnNorm.τ) (Cert.FfnNorm.main (F := Bits))) ⟨m, fun _ => 0, g⟩ (fun r => (∀ c : Dev Cert.FfnNorm.nD,
      r.2.mem ((c.tc : Thread Cert.FfnNorm.nD Cert.FfnNorm.τ).loc Cert.FfnNorm.main_arg0) = m ((c.tc : Thread Cert.FfnNorm.nD Cert.FfnNorm.τ).loc Cert.FfnNorm.main_arg0)
      ∧ r.2.mem ((c.tc : Thread Cert.FfnNorm.nD Cert.FfnNorm.τ).loc Cert.FfnNorm.main_arg1) = m ((c.tc : Thread Cert.FfnNorm.nD Cert.FfnNorm.τ).loc Cert.FfnNorm.main_arg1)
      ∧ r.2.mem ((c.tc : Thread Cert.FfnNorm.nD Cert.FfnNorm.τ).loc Cert.FfnNorm.main_arg2) = m ((c.tc : Thread Cert.FfnNorm.nD Cert.FfnNorm.τ).loc Cert.FfnNorm.main_arg2)
      ∧ r.2.mem ((c.tc : Thread Cert.FfnNorm.nD Cert.FfnNorm.τ).loc Cert.FfnNorm.main_arg3) = m ((c.tc : Thread Cert.FfnNorm.nD Cert.FfnNorm.τ).loc Cert.FfnNorm.main_arg3)
      ∧ r.2.mem ((c.tc : Thread Cert.FfnNorm.nD Cert.FfnNorm.τ).loc Cert.FfnNorm.main_arg4) = m ((c.tc : Thread Cert.FfnNorm.nD Cert.FfnNorm.τ).loc Cert.FfnNorm.main_arg4))
      ∧ r.2.sem = fun _ => 0)

def quiescent_FfnNormIdeal [hFfnNormIdeal : Cert.FfnNormIdeal.Facts] : Prop :=
  ∀ (m : (ℓ : Loc Cert.FfnNormIdeal.nD Cert.FfnNormIdeal.τ Cert.FfnNormIdeal.sig) → Buf (Elt Ideal) ℓ) (g : Dev Cert.FfnNormIdeal.nD → PrngReg), Pre_FfnNormIdeal m →
    θ_run (Cert.FfnNormIdeal.defs (F := Ideal)) (onTc (τ := Cert.FfnNormIdeal.τ) (Cert.FfnNormIdeal.main (F := Ideal))) ⟨m, fun _ => 0, g⟩ (fun r => (∀ c : Dev Cert.FfnNormIdeal.nD,
      r.2.mem ((c.tc : Thread Cert.FfnNormIdeal.nD Cert.FfnNormIdeal.τ).loc Cert.FfnNormIdeal.main_arg0) = m ((c.tc : Thread Cert.FfnNormIdeal.nD Cert.FfnNormIdeal.τ).loc Cert.FfnNormIdeal.main_arg0)
      ∧ r.2.mem ((c.tc : Thread Cert.FfnNormIdeal.nD Cert.FfnNormIdeal.τ).loc Cert.FfnNormIdeal.main_arg1) = m ((c.tc : Thread Cert.FfnNormIdeal.nD Cert.FfnNormIdeal.τ).loc Cert.FfnNormIdeal.main_arg1)
      ∧ r.2.mem ((c.tc : Thread Cert.FfnNormIdeal.nD Cert.FfnNormIdeal.τ).loc Cert.FfnNormIdeal.main_arg2) = m ((c.tc : Thread Cert.FfnNormIdeal.nD Cert.FfnNormIdeal.τ).loc Cert.FfnNormIdeal.main_arg2)
      ∧ r.2.mem ((c.tc : Thread Cert.FfnNormIdeal.nD Cert.FfnNormIdeal.τ).loc Cert.FfnNormIdeal.main_arg3) = m ((c.tc : Thread Cert.FfnNormIdeal.nD Cert.FfnNormIdeal.τ).loc Cert.FfnNormIdeal.main_arg3)
      ∧ r.2.mem ((c.tc : Thread Cert.FfnNormIdeal.nD Cert.FfnNormIdeal.τ).loc Cert.FfnNormIdeal.main_arg4) = m ((c.tc : Thread Cert.FfnNormIdeal.nD Cert.FfnNormIdeal.τ).loc Cert.FfnNormIdeal.main_arg4))
      ∧ r.2.sem = fun _ => 0)

def quiescent_FfnNormIdeal_pre_finite_ffn_norm_bwd [hFfnNormIdeal : Cert.FfnNormIdeal.Facts] [hPre_finite_ffn_norm_bwd : Cert.Pre_finite_ffn_norm_bwd.Facts] : Prop :=
  ∀ (m : (ℓ : Loc Cert.FfnNormIdeal.nD Cert.FfnNormIdeal.τ Cert.FfnNormIdeal.sig) → Buf (Elt Ideal) ℓ) (g : Dev Cert.FfnNormIdeal.nD → PrngReg), Pre_FfnNormIdeal_finite_ffn_norm_bwd m →
    θ_run (Cert.FfnNormIdeal.defs (F := Ideal)) (onTc (τ := Cert.FfnNormIdeal.τ) (Cert.FfnNormIdeal.main (F := Ideal))) ⟨m, fun _ => 0, g⟩ (fun r => (∀ c : Dev Cert.FfnNormIdeal.nD,
      r.2.mem ((c.tc : Thread Cert.FfnNormIdeal.nD Cert.FfnNormIdeal.τ).loc Cert.FfnNormIdeal.main_arg0) = m ((c.tc : Thread Cert.FfnNormIdeal.nD Cert.FfnNormIdeal.τ).loc Cert.FfnNormIdeal.main_arg0)
      ∧ r.2.mem ((c.tc : Thread Cert.FfnNormIdeal.nD Cert.FfnNormIdeal.τ).loc Cert.FfnNormIdeal.main_arg1) = m ((c.tc : Thread Cert.FfnNormIdeal.nD Cert.FfnNormIdeal.τ).loc Cert.FfnNormIdeal.main_arg1)
      ∧ r.2.mem ((c.tc : Thread Cert.FfnNormIdeal.nD Cert.FfnNormIdeal.τ).loc Cert.FfnNormIdeal.main_arg2) = m ((c.tc : Thread Cert.FfnNormIdeal.nD Cert.FfnNormIdeal.τ).loc Cert.FfnNormIdeal.main_arg2)
      ∧ r.2.mem ((c.tc : Thread Cert.FfnNormIdeal.nD Cert.FfnNormIdeal.τ).loc Cert.FfnNormIdeal.main_arg3) = m ((c.tc : Thread Cert.FfnNormIdeal.nD Cert.FfnNormIdeal.τ).loc Cert.FfnNormIdeal.main_arg3)
      ∧ r.2.mem ((c.tc : Thread Cert.FfnNormIdeal.nD Cert.FfnNormIdeal.τ).loc Cert.FfnNormIdeal.main_arg4) = m ((c.tc : Thread Cert.FfnNormIdeal.nD Cert.FfnNormIdeal.τ).loc Cert.FfnNormIdeal.main_arg4))
      ∧ r.2.sem = fun _ => 0)

def quiescent_FfnNormRefIdeal [hFfnNormRefIdeal : Cert.FfnNormRefIdeal.Facts] : Prop :=
  ∀ (m : (ℓ : Loc Cert.FfnNormRefIdeal.nD Cert.FfnNormRefIdeal.τ Cert.FfnNormRefIdeal.sig) → Buf (Elt Ideal) ℓ) (g : Dev Cert.FfnNormRefIdeal.nD → PrngReg), Pre_FfnNormRefIdeal m →
    θ_run (Cert.FfnNormRefIdeal.defs (F := Ideal)) (onTc (τ := Cert.FfnNormRefIdeal.τ) (Cert.FfnNormRefIdeal.main (F := Ideal))) ⟨m, fun _ => 0, g⟩ (fun r => (∀ c : Dev Cert.FfnNormRefIdeal.nD,
      r.2.mem ((c.tc : Thread Cert.FfnNormRefIdeal.nD Cert.FfnNormRefIdeal.τ).loc Cert.FfnNormRefIdeal.main_arg0) = m ((c.tc : Thread Cert.FfnNormRefIdeal.nD Cert.FfnNormRefIdeal.τ).loc Cert.FfnNormRefIdeal.main_arg0)
      ∧ r.2.mem ((c.tc : Thread Cert.FfnNormRefIdeal.nD Cert.FfnNormRefIdeal.τ).loc Cert.FfnNormRefIdeal.main_arg1) = m ((c.tc : Thread Cert.FfnNormRefIdeal.nD Cert.FfnNormRefIdeal.τ).loc Cert.FfnNormRefIdeal.main_arg1)
      ∧ r.2.mem ((c.tc : Thread Cert.FfnNormRefIdeal.nD Cert.FfnNormRefIdeal.τ).loc Cert.FfnNormRefIdeal.main_arg2) = m ((c.tc : Thread Cert.FfnNormRefIdeal.nD Cert.FfnNormRefIdeal.τ).loc Cert.FfnNormRefIdeal.main_arg2)
      ∧ r.2.mem ((c.tc : Thread Cert.FfnNormRefIdeal.nD Cert.FfnNormRefIdeal.τ).loc Cert.FfnNormRefIdeal.main_arg3) = m ((c.tc : Thread Cert.FfnNormRefIdeal.nD Cert.FfnNormRefIdeal.τ).loc Cert.FfnNormRefIdeal.main_arg3)
      ∧ r.2.mem ((c.tc : Thread Cert.FfnNormRefIdeal.nD Cert.FfnNormRefIdeal.τ).loc Cert.FfnNormRefIdeal.main_arg4) = m ((c.tc : Thread Cert.FfnNormRefIdeal.nD Cert.FfnNormRefIdeal.τ).loc Cert.FfnNormRefIdeal.main_arg4))
      ∧ r.2.sem = fun _ => 0)

def quiescent_FfnNormRefIdeal_pre_finite_ffn_norm_bwd [hFfnNormRefIdeal : Cert.FfnNormRefIdeal.Facts] [hPre_finite_ffn_norm_bwd : Cert.Pre_finite_ffn_norm_bwd.Facts] : Prop :=
  ∀ (m : (ℓ : Loc Cert.FfnNormRefIdeal.nD Cert.FfnNormRefIdeal.τ Cert.FfnNormRefIdeal.sig) → Buf (Elt Ideal) ℓ) (g : Dev Cert.FfnNormRefIdeal.nD → PrngReg), Pre_FfnNormRefIdeal_finite_ffn_norm_bwd m →
    θ_run (Cert.FfnNormRefIdeal.defs (F := Ideal)) (onTc (τ := Cert.FfnNormRefIdeal.τ) (Cert.FfnNormRefIdeal.main (F := Ideal))) ⟨m, fun _ => 0, g⟩ (fun r => (∀ c : Dev Cert.FfnNormRefIdeal.nD,
      r.2.mem ((c.tc : Thread Cert.FfnNormRefIdeal.nD Cert.FfnNormRefIdeal.τ).loc Cert.FfnNormRefIdeal.main_arg0) = m ((c.tc : Thread Cert.FfnNormRefIdeal.nD Cert.FfnNormRefIdeal.τ).loc Cert.FfnNormRefIdeal.main_arg0)
      ∧ r.2.mem ((c.tc : Thread Cert.FfnNormRefIdeal.nD Cert.FfnNormRefIdeal.τ).loc Cert.FfnNormRefIdeal.main_arg1) = m ((c.tc : Thread Cert.FfnNormRefIdeal.nD Cert.FfnNormRefIdeal.τ).loc Cert.FfnNormRefIdeal.main_arg1)
      ∧ r.2.mem ((c.tc : Thread Cert.FfnNormRefIdeal.nD Cert.FfnNormRefIdeal.τ).loc Cert.FfnNormRefIdeal.main_arg2) = m ((c.tc : Thread Cert.FfnNormRefIdeal.nD Cert.FfnNormRefIdeal.τ).loc Cert.FfnNormRefIdeal.main_arg2)
      ∧ r.2.mem ((c.tc : Thread Cert.FfnNormRefIdeal.nD Cert.FfnNormRefIdeal.τ).loc Cert.FfnNormRefIdeal.main_arg3) = m ((c.tc : Thread Cert.FfnNormRefIdeal.nD Cert.FfnNormRefIdeal.τ).loc Cert.FfnNormRefIdeal.main_arg3)
      ∧ r.2.mem ((c.tc : Thread Cert.FfnNormRefIdeal.nD Cert.FfnNormRefIdeal.τ).loc Cert.FfnNormRefIdeal.main_arg4) = m ((c.tc : Thread Cert.FfnNormRefIdeal.nD Cert.FfnNormRefIdeal.τ).loc Cert.FfnNormRefIdeal.main_arg4))
      ∧ r.2.sem = fun _ => 0)

def quiescent_MixNorm [hMixNorm : Cert.MixNorm.Facts] : Prop :=
  ∀ (m : (ℓ : Loc Cert.MixNorm.nD Cert.MixNorm.τ Cert.MixNorm.sig) → Buf (Elt Bits) ℓ) (g : Dev Cert.MixNorm.nD → PrngReg), Pre_MixNorm m →
    θ_run (Cert.MixNorm.defs (F := Bits)) (onTc (τ := Cert.MixNorm.τ) (Cert.MixNorm.main (F := Bits))) ⟨m, fun _ => 0, g⟩ (fun r => (∀ c : Dev Cert.MixNorm.nD,
      r.2.mem ((c.tc : Thread Cert.MixNorm.nD Cert.MixNorm.τ).loc Cert.MixNorm.main_arg0) = m ((c.tc : Thread Cert.MixNorm.nD Cert.MixNorm.τ).loc Cert.MixNorm.main_arg0)
      ∧ r.2.mem ((c.tc : Thread Cert.MixNorm.nD Cert.MixNorm.τ).loc Cert.MixNorm.main_arg1) = m ((c.tc : Thread Cert.MixNorm.nD Cert.MixNorm.τ).loc Cert.MixNorm.main_arg1)
      ∧ r.2.mem ((c.tc : Thread Cert.MixNorm.nD Cert.MixNorm.τ).loc Cert.MixNorm.main_arg2) = m ((c.tc : Thread Cert.MixNorm.nD Cert.MixNorm.τ).loc Cert.MixNorm.main_arg2)
      ∧ r.2.mem ((c.tc : Thread Cert.MixNorm.nD Cert.MixNorm.τ).loc Cert.MixNorm.main_arg3) = m ((c.tc : Thread Cert.MixNorm.nD Cert.MixNorm.τ).loc Cert.MixNorm.main_arg3)
      ∧ r.2.mem ((c.tc : Thread Cert.MixNorm.nD Cert.MixNorm.τ).loc Cert.MixNorm.main_arg4) = m ((c.tc : Thread Cert.MixNorm.nD Cert.MixNorm.τ).loc Cert.MixNorm.main_arg4))
      ∧ r.2.sem = fun _ => 0)

def quiescent_MixNormIdeal [hMixNormIdeal : Cert.MixNormIdeal.Facts] : Prop :=
  ∀ (m : (ℓ : Loc Cert.MixNormIdeal.nD Cert.MixNormIdeal.τ Cert.MixNormIdeal.sig) → Buf (Elt Ideal) ℓ) (g : Dev Cert.MixNormIdeal.nD → PrngReg), Pre_MixNormIdeal m →
    θ_run (Cert.MixNormIdeal.defs (F := Ideal)) (onTc (τ := Cert.MixNormIdeal.τ) (Cert.MixNormIdeal.main (F := Ideal))) ⟨m, fun _ => 0, g⟩ (fun r => (∀ c : Dev Cert.MixNormIdeal.nD,
      r.2.mem ((c.tc : Thread Cert.MixNormIdeal.nD Cert.MixNormIdeal.τ).loc Cert.MixNormIdeal.main_arg0) = m ((c.tc : Thread Cert.MixNormIdeal.nD Cert.MixNormIdeal.τ).loc Cert.MixNormIdeal.main_arg0)
      ∧ r.2.mem ((c.tc : Thread Cert.MixNormIdeal.nD Cert.MixNormIdeal.τ).loc Cert.MixNormIdeal.main_arg1) = m ((c.tc : Thread Cert.MixNormIdeal.nD Cert.MixNormIdeal.τ).loc Cert.MixNormIdeal.main_arg1)
      ∧ r.2.mem ((c.tc : Thread Cert.MixNormIdeal.nD Cert.MixNormIdeal.τ).loc Cert.MixNormIdeal.main_arg2) = m ((c.tc : Thread Cert.MixNormIdeal.nD Cert.MixNormIdeal.τ).loc Cert.MixNormIdeal.main_arg2)
      ∧ r.2.mem ((c.tc : Thread Cert.MixNormIdeal.nD Cert.MixNormIdeal.τ).loc Cert.MixNormIdeal.main_arg3) = m ((c.tc : Thread Cert.MixNormIdeal.nD Cert.MixNormIdeal.τ).loc Cert.MixNormIdeal.main_arg3)
      ∧ r.2.mem ((c.tc : Thread Cert.MixNormIdeal.nD Cert.MixNormIdeal.τ).loc Cert.MixNormIdeal.main_arg4) = m ((c.tc : Thread Cert.MixNormIdeal.nD Cert.MixNormIdeal.τ).loc Cert.MixNormIdeal.main_arg4))
      ∧ r.2.sem = fun _ => 0)

def quiescent_MixNormIdeal_pre_finite_mix_norm_bwd [hMixNormIdeal : Cert.MixNormIdeal.Facts] [hPre_finite_mix_norm_bwd : Cert.Pre_finite_mix_norm_bwd.Facts] : Prop :=
  ∀ (m : (ℓ : Loc Cert.MixNormIdeal.nD Cert.MixNormIdeal.τ Cert.MixNormIdeal.sig) → Buf (Elt Ideal) ℓ) (g : Dev Cert.MixNormIdeal.nD → PrngReg), Pre_MixNormIdeal_finite_mix_norm_bwd m →
    θ_run (Cert.MixNormIdeal.defs (F := Ideal)) (onTc (τ := Cert.MixNormIdeal.τ) (Cert.MixNormIdeal.main (F := Ideal))) ⟨m, fun _ => 0, g⟩ (fun r => (∀ c : Dev Cert.MixNormIdeal.nD,
      r.2.mem ((c.tc : Thread Cert.MixNormIdeal.nD Cert.MixNormIdeal.τ).loc Cert.MixNormIdeal.main_arg0) = m ((c.tc : Thread Cert.MixNormIdeal.nD Cert.MixNormIdeal.τ).loc Cert.MixNormIdeal.main_arg0)
      ∧ r.2.mem ((c.tc : Thread Cert.MixNormIdeal.nD Cert.MixNormIdeal.τ).loc Cert.MixNormIdeal.main_arg1) = m ((c.tc : Thread Cert.MixNormIdeal.nD Cert.MixNormIdeal.τ).loc Cert.MixNormIdeal.main_arg1)
      ∧ r.2.mem ((c.tc : Thread Cert.MixNormIdeal.nD Cert.MixNormIdeal.τ).loc Cert.MixNormIdeal.main_arg2) = m ((c.tc : Thread Cert.MixNormIdeal.nD Cert.MixNormIdeal.τ).loc Cert.MixNormIdeal.main_arg2)
      ∧ r.2.mem ((c.tc : Thread Cert.MixNormIdeal.nD Cert.MixNormIdeal.τ).loc Cert.MixNormIdeal.main_arg3) = m ((c.tc : Thread Cert.MixNormIdeal.nD Cert.MixNormIdeal.τ).loc Cert.MixNormIdeal.main_arg3)
      ∧ r.2.mem ((c.tc : Thread Cert.MixNormIdeal.nD Cert.MixNormIdeal.τ).loc Cert.MixNormIdeal.main_arg4) = m ((c.tc : Thread Cert.MixNormIdeal.nD Cert.MixNormIdeal.τ).loc Cert.MixNormIdeal.main_arg4))
      ∧ r.2.sem = fun _ => 0)

def quiescent_MixNormRefIdeal [hMixNormRefIdeal : Cert.MixNormRefIdeal.Facts] : Prop :=
  ∀ (m : (ℓ : Loc Cert.MixNormRefIdeal.nD Cert.MixNormRefIdeal.τ Cert.MixNormRefIdeal.sig) → Buf (Elt Ideal) ℓ) (g : Dev Cert.MixNormRefIdeal.nD → PrngReg), Pre_MixNormRefIdeal m →
    θ_run (Cert.MixNormRefIdeal.defs (F := Ideal)) (onTc (τ := Cert.MixNormRefIdeal.τ) (Cert.MixNormRefIdeal.main (F := Ideal))) ⟨m, fun _ => 0, g⟩ (fun r => (∀ c : Dev Cert.MixNormRefIdeal.nD,
      r.2.mem ((c.tc : Thread Cert.MixNormRefIdeal.nD Cert.MixNormRefIdeal.τ).loc Cert.MixNormRefIdeal.main_arg0) = m ((c.tc : Thread Cert.MixNormRefIdeal.nD Cert.MixNormRefIdeal.τ).loc Cert.MixNormRefIdeal.main_arg0)
      ∧ r.2.mem ((c.tc : Thread Cert.MixNormRefIdeal.nD Cert.MixNormRefIdeal.τ).loc Cert.MixNormRefIdeal.main_arg1) = m ((c.tc : Thread Cert.MixNormRefIdeal.nD Cert.MixNormRefIdeal.τ).loc Cert.MixNormRefIdeal.main_arg1)
      ∧ r.2.mem ((c.tc : Thread Cert.MixNormRefIdeal.nD Cert.MixNormRefIdeal.τ).loc Cert.MixNormRefIdeal.main_arg2) = m ((c.tc : Thread Cert.MixNormRefIdeal.nD Cert.MixNormRefIdeal.τ).loc Cert.MixNormRefIdeal.main_arg2)
      ∧ r.2.mem ((c.tc : Thread Cert.MixNormRefIdeal.nD Cert.MixNormRefIdeal.τ).loc Cert.MixNormRefIdeal.main_arg3) = m ((c.tc : Thread Cert.MixNormRefIdeal.nD Cert.MixNormRefIdeal.τ).loc Cert.MixNormRefIdeal.main_arg3)
      ∧ r.2.mem ((c.tc : Thread Cert.MixNormRefIdeal.nD Cert.MixNormRefIdeal.τ).loc Cert.MixNormRefIdeal.main_arg4) = m ((c.tc : Thread Cert.MixNormRefIdeal.nD Cert.MixNormRefIdeal.τ).loc Cert.MixNormRefIdeal.main_arg4))
      ∧ r.2.sem = fun _ => 0)

def quiescent_MixNormRefIdeal_pre_finite_mix_norm_bwd [hMixNormRefIdeal : Cert.MixNormRefIdeal.Facts] [hPre_finite_mix_norm_bwd : Cert.Pre_finite_mix_norm_bwd.Facts] : Prop :=
  ∀ (m : (ℓ : Loc Cert.MixNormRefIdeal.nD Cert.MixNormRefIdeal.τ Cert.MixNormRefIdeal.sig) → Buf (Elt Ideal) ℓ) (g : Dev Cert.MixNormRefIdeal.nD → PrngReg), Pre_MixNormRefIdeal_finite_mix_norm_bwd m →
    θ_run (Cert.MixNormRefIdeal.defs (F := Ideal)) (onTc (τ := Cert.MixNormRefIdeal.τ) (Cert.MixNormRefIdeal.main (F := Ideal))) ⟨m, fun _ => 0, g⟩ (fun r => (∀ c : Dev Cert.MixNormRefIdeal.nD,
      r.2.mem ((c.tc : Thread Cert.MixNormRefIdeal.nD Cert.MixNormRefIdeal.τ).loc Cert.MixNormRefIdeal.main_arg0) = m ((c.tc : Thread Cert.MixNormRefIdeal.nD Cert.MixNormRefIdeal.τ).loc Cert.MixNormRefIdeal.main_arg0)
      ∧ r.2.mem ((c.tc : Thread Cert.MixNormRefIdeal.nD Cert.MixNormRefIdeal.τ).loc Cert.MixNormRefIdeal.main_arg1) = m ((c.tc : Thread Cert.MixNormRefIdeal.nD Cert.MixNormRefIdeal.τ).loc Cert.MixNormRefIdeal.main_arg1)
      ∧ r.2.mem ((c.tc : Thread Cert.MixNormRefIdeal.nD Cert.MixNormRefIdeal.τ).loc Cert.MixNormRefIdeal.main_arg2) = m ((c.tc : Thread Cert.MixNormRefIdeal.nD Cert.MixNormRefIdeal.τ).loc Cert.MixNormRefIdeal.main_arg2)
      ∧ r.2.mem ((c.tc : Thread Cert.MixNormRefIdeal.nD Cert.MixNormRefIdeal.τ).loc Cert.MixNormRefIdeal.main_arg3) = m ((c.tc : Thread Cert.MixNormRefIdeal.nD Cert.MixNormRefIdeal.τ).loc Cert.MixNormRefIdeal.main_arg3)
      ∧ r.2.mem ((c.tc : Thread Cert.MixNormRefIdeal.nD Cert.MixNormRefIdeal.τ).loc Cert.MixNormRefIdeal.main_arg4) = m ((c.tc : Thread Cert.MixNormRefIdeal.nD Cert.MixNormRefIdeal.τ).loc Cert.MixNormRefIdeal.main_arg4))
      ∧ r.2.sem = fun _ => 0)

def quiescent_PleNorm [hPleNorm : Cert.PleNorm.Facts] : Prop :=
  ∀ (m : (ℓ : Loc Cert.PleNorm.nD Cert.PleNorm.τ Cert.PleNorm.sig) → Buf (Elt Bits) ℓ) (g : Dev Cert.PleNorm.nD → PrngReg), Pre_PleNorm m →
    θ_run (Cert.PleNorm.defs (F := Bits)) (onTc (τ := Cert.PleNorm.τ) (Cert.PleNorm.main (F := Bits))) ⟨m, fun _ => 0, g⟩ (fun r => (∀ c : Dev Cert.PleNorm.nD,
      r.2.mem ((c.tc : Thread Cert.PleNorm.nD Cert.PleNorm.τ).loc Cert.PleNorm.main_arg0) = m ((c.tc : Thread Cert.PleNorm.nD Cert.PleNorm.τ).loc Cert.PleNorm.main_arg0)
      ∧ r.2.mem ((c.tc : Thread Cert.PleNorm.nD Cert.PleNorm.τ).loc Cert.PleNorm.main_arg1) = m ((c.tc : Thread Cert.PleNorm.nD Cert.PleNorm.τ).loc Cert.PleNorm.main_arg1)
      ∧ r.2.mem ((c.tc : Thread Cert.PleNorm.nD Cert.PleNorm.τ).loc Cert.PleNorm.main_arg2) = m ((c.tc : Thread Cert.PleNorm.nD Cert.PleNorm.τ).loc Cert.PleNorm.main_arg2)
      ∧ r.2.mem ((c.tc : Thread Cert.PleNorm.nD Cert.PleNorm.τ).loc Cert.PleNorm.main_arg3) = m ((c.tc : Thread Cert.PleNorm.nD Cert.PleNorm.τ).loc Cert.PleNorm.main_arg3)
      ∧ r.2.mem ((c.tc : Thread Cert.PleNorm.nD Cert.PleNorm.τ).loc Cert.PleNorm.main_arg4) = m ((c.tc : Thread Cert.PleNorm.nD Cert.PleNorm.τ).loc Cert.PleNorm.main_arg4))
      ∧ r.2.sem = fun _ => 0)

def quiescent_PleNormIdeal [hPleNormIdeal : Cert.PleNormIdeal.Facts] : Prop :=
  ∀ (m : (ℓ : Loc Cert.PleNormIdeal.nD Cert.PleNormIdeal.τ Cert.PleNormIdeal.sig) → Buf (Elt Ideal) ℓ) (g : Dev Cert.PleNormIdeal.nD → PrngReg), Pre_PleNormIdeal m →
    θ_run (Cert.PleNormIdeal.defs (F := Ideal)) (onTc (τ := Cert.PleNormIdeal.τ) (Cert.PleNormIdeal.main (F := Ideal))) ⟨m, fun _ => 0, g⟩ (fun r => (∀ c : Dev Cert.PleNormIdeal.nD,
      r.2.mem ((c.tc : Thread Cert.PleNormIdeal.nD Cert.PleNormIdeal.τ).loc Cert.PleNormIdeal.main_arg0) = m ((c.tc : Thread Cert.PleNormIdeal.nD Cert.PleNormIdeal.τ).loc Cert.PleNormIdeal.main_arg0)
      ∧ r.2.mem ((c.tc : Thread Cert.PleNormIdeal.nD Cert.PleNormIdeal.τ).loc Cert.PleNormIdeal.main_arg1) = m ((c.tc : Thread Cert.PleNormIdeal.nD Cert.PleNormIdeal.τ).loc Cert.PleNormIdeal.main_arg1)
      ∧ r.2.mem ((c.tc : Thread Cert.PleNormIdeal.nD Cert.PleNormIdeal.τ).loc Cert.PleNormIdeal.main_arg2) = m ((c.tc : Thread Cert.PleNormIdeal.nD Cert.PleNormIdeal.τ).loc Cert.PleNormIdeal.main_arg2)
      ∧ r.2.mem ((c.tc : Thread Cert.PleNormIdeal.nD Cert.PleNormIdeal.τ).loc Cert.PleNormIdeal.main_arg3) = m ((c.tc : Thread Cert.PleNormIdeal.nD Cert.PleNormIdeal.τ).loc Cert.PleNormIdeal.main_arg3)
      ∧ r.2.mem ((c.tc : Thread Cert.PleNormIdeal.nD Cert.PleNormIdeal.τ).loc Cert.PleNormIdeal.main_arg4) = m ((c.tc : Thread Cert.PleNormIdeal.nD Cert.PleNormIdeal.τ).loc Cert.PleNormIdeal.main_arg4))
      ∧ r.2.sem = fun _ => 0)

def quiescent_PleNormIdeal_pre_finite_ple_norm_bwd [hPleNormIdeal : Cert.PleNormIdeal.Facts] [hPre_finite_ple_norm_bwd : Cert.Pre_finite_ple_norm_bwd.Facts] : Prop :=
  ∀ (m : (ℓ : Loc Cert.PleNormIdeal.nD Cert.PleNormIdeal.τ Cert.PleNormIdeal.sig) → Buf (Elt Ideal) ℓ) (g : Dev Cert.PleNormIdeal.nD → PrngReg), Pre_PleNormIdeal_finite_ple_norm_bwd m →
    θ_run (Cert.PleNormIdeal.defs (F := Ideal)) (onTc (τ := Cert.PleNormIdeal.τ) (Cert.PleNormIdeal.main (F := Ideal))) ⟨m, fun _ => 0, g⟩ (fun r => (∀ c : Dev Cert.PleNormIdeal.nD,
      r.2.mem ((c.tc : Thread Cert.PleNormIdeal.nD Cert.PleNormIdeal.τ).loc Cert.PleNormIdeal.main_arg0) = m ((c.tc : Thread Cert.PleNormIdeal.nD Cert.PleNormIdeal.τ).loc Cert.PleNormIdeal.main_arg0)
      ∧ r.2.mem ((c.tc : Thread Cert.PleNormIdeal.nD Cert.PleNormIdeal.τ).loc Cert.PleNormIdeal.main_arg1) = m ((c.tc : Thread Cert.PleNormIdeal.nD Cert.PleNormIdeal.τ).loc Cert.PleNormIdeal.main_arg1)
      ∧ r.2.mem ((c.tc : Thread Cert.PleNormIdeal.nD Cert.PleNormIdeal.τ).loc Cert.PleNormIdeal.main_arg2) = m ((c.tc : Thread Cert.PleNormIdeal.nD Cert.PleNormIdeal.τ).loc Cert.PleNormIdeal.main_arg2)
      ∧ r.2.mem ((c.tc : Thread Cert.PleNormIdeal.nD Cert.PleNormIdeal.τ).loc Cert.PleNormIdeal.main_arg3) = m ((c.tc : Thread Cert.PleNormIdeal.nD Cert.PleNormIdeal.τ).loc Cert.PleNormIdeal.main_arg3)
      ∧ r.2.mem ((c.tc : Thread Cert.PleNormIdeal.nD Cert.PleNormIdeal.τ).loc Cert.PleNormIdeal.main_arg4) = m ((c.tc : Thread Cert.PleNormIdeal.nD Cert.PleNormIdeal.τ).loc Cert.PleNormIdeal.main_arg4))
      ∧ r.2.sem = fun _ => 0)

def quiescent_PleNormRefIdeal [hPleNormRefIdeal : Cert.PleNormRefIdeal.Facts] : Prop :=
  ∀ (m : (ℓ : Loc Cert.PleNormRefIdeal.nD Cert.PleNormRefIdeal.τ Cert.PleNormRefIdeal.sig) → Buf (Elt Ideal) ℓ) (g : Dev Cert.PleNormRefIdeal.nD → PrngReg), Pre_PleNormRefIdeal m →
    θ_run (Cert.PleNormRefIdeal.defs (F := Ideal)) (onTc (τ := Cert.PleNormRefIdeal.τ) (Cert.PleNormRefIdeal.main (F := Ideal))) ⟨m, fun _ => 0, g⟩ (fun r => (∀ c : Dev Cert.PleNormRefIdeal.nD,
      r.2.mem ((c.tc : Thread Cert.PleNormRefIdeal.nD Cert.PleNormRefIdeal.τ).loc Cert.PleNormRefIdeal.main_arg0) = m ((c.tc : Thread Cert.PleNormRefIdeal.nD Cert.PleNormRefIdeal.τ).loc Cert.PleNormRefIdeal.main_arg0)
      ∧ r.2.mem ((c.tc : Thread Cert.PleNormRefIdeal.nD Cert.PleNormRefIdeal.τ).loc Cert.PleNormRefIdeal.main_arg1) = m ((c.tc : Thread Cert.PleNormRefIdeal.nD Cert.PleNormRefIdeal.τ).loc Cert.PleNormRefIdeal.main_arg1)
      ∧ r.2.mem ((c.tc : Thread Cert.PleNormRefIdeal.nD Cert.PleNormRefIdeal.τ).loc Cert.PleNormRefIdeal.main_arg2) = m ((c.tc : Thread Cert.PleNormRefIdeal.nD Cert.PleNormRefIdeal.τ).loc Cert.PleNormRefIdeal.main_arg2)
      ∧ r.2.mem ((c.tc : Thread Cert.PleNormRefIdeal.nD Cert.PleNormRefIdeal.τ).loc Cert.PleNormRefIdeal.main_arg3) = m ((c.tc : Thread Cert.PleNormRefIdeal.nD Cert.PleNormRefIdeal.τ).loc Cert.PleNormRefIdeal.main_arg3)
      ∧ r.2.mem ((c.tc : Thread Cert.PleNormRefIdeal.nD Cert.PleNormRefIdeal.τ).loc Cert.PleNormRefIdeal.main_arg4) = m ((c.tc : Thread Cert.PleNormRefIdeal.nD Cert.PleNormRefIdeal.τ).loc Cert.PleNormRefIdeal.main_arg4))
      ∧ r.2.sem = fun _ => 0)

def quiescent_PleNormRefIdeal_pre_finite_ple_norm_bwd [hPleNormRefIdeal : Cert.PleNormRefIdeal.Facts] [hPre_finite_ple_norm_bwd : Cert.Pre_finite_ple_norm_bwd.Facts] : Prop :=
  ∀ (m : (ℓ : Loc Cert.PleNormRefIdeal.nD Cert.PleNormRefIdeal.τ Cert.PleNormRefIdeal.sig) → Buf (Elt Ideal) ℓ) (g : Dev Cert.PleNormRefIdeal.nD → PrngReg), Pre_PleNormRefIdeal_finite_ple_norm_bwd m →
    θ_run (Cert.PleNormRefIdeal.defs (F := Ideal)) (onTc (τ := Cert.PleNormRefIdeal.τ) (Cert.PleNormRefIdeal.main (F := Ideal))) ⟨m, fun _ => 0, g⟩ (fun r => (∀ c : Dev Cert.PleNormRefIdeal.nD,
      r.2.mem ((c.tc : Thread Cert.PleNormRefIdeal.nD Cert.PleNormRefIdeal.τ).loc Cert.PleNormRefIdeal.main_arg0) = m ((c.tc : Thread Cert.PleNormRefIdeal.nD Cert.PleNormRefIdeal.τ).loc Cert.PleNormRefIdeal.main_arg0)
      ∧ r.2.mem ((c.tc : Thread Cert.PleNormRefIdeal.nD Cert.PleNormRefIdeal.τ).loc Cert.PleNormRefIdeal.main_arg1) = m ((c.tc : Thread Cert.PleNormRefIdeal.nD Cert.PleNormRefIdeal.τ).loc Cert.PleNormRefIdeal.main_arg1)
      ∧ r.2.mem ((c.tc : Thread Cert.PleNormRefIdeal.nD Cert.PleNormRefIdeal.τ).loc Cert.PleNormRefIdeal.main_arg2) = m ((c.tc : Thread Cert.PleNormRefIdeal.nD Cert.PleNormRefIdeal.τ).loc Cert.PleNormRefIdeal.main_arg2)
      ∧ r.2.mem ((c.tc : Thread Cert.PleNormRefIdeal.nD Cert.PleNormRefIdeal.τ).loc Cert.PleNormRefIdeal.main_arg3) = m ((c.tc : Thread Cert.PleNormRefIdeal.nD Cert.PleNormRefIdeal.τ).loc Cert.PleNormRefIdeal.main_arg3)
      ∧ r.2.mem ((c.tc : Thread Cert.PleNormRefIdeal.nD Cert.PleNormRefIdeal.τ).loc Cert.PleNormRefIdeal.main_arg4) = m ((c.tc : Thread Cert.PleNormRefIdeal.nD Cert.PleNormRefIdeal.τ).loc Cert.PleNormRefIdeal.main_arg4))
      ∧ r.2.sem = fun _ => 0)

def preserves_Kernel_KernelIdeal : Prop :=
  IdealRules.named_const.Statement Cert.KernelIdeal.κ "inv_sqrt2" .f32 0x3F3504F3#32 (((Real.sqrt 2)⁻¹ : ℝ) : EReal)
  ∧ IdealRules.named_const.Statement Cert.KernelIdeal.κ "inv_sqrt_2pi" .f32 0x3ECC422A#32 (((Real.sqrt (2 * Real.pi))⁻¹ : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v11_0)) (v1 : (c : Dev Cert.KernelIdeal.nD) → Buf (Elt Ideal) ((c.tc : Thread Cert.KernelIdeal.nD Cert.KernelIdeal.τ).loc Cert.KernelIdeal.main_v11_1)) (v2 : (c : Dev Cert.KernelIdeal.nD) → Buf (Elt Ideal) ((c.tc : Thread Cert.KernelIdeal.nD Cert.KernelIdeal.τ).loc Cert.KernelIdeal.main_v11_2)) (v3 : (c : Dev Cert.KernelIdeal.nD) → Buf (Elt Ideal) ((c.tc : Thread Cert.KernelIdeal.nD Cert.KernelIdeal.τ).loc Cert.KernelIdeal.main_v11_3)) (v4 : (c : Dev Cert.KernelIdeal.nD) → Buf (Elt Ideal) ((c.tc : Thread Cert.KernelIdeal.nD Cert.KernelIdeal.τ).loc Cert.KernelIdeal.main_v11_4)) (v5 : (c : Dev Cert.KernelIdeal.nD) → Buf (Elt Ideal) ((c.tc : Thread Cert.KernelIdeal.nD Cert.KernelIdeal.τ).loc Cert.KernelIdeal.main_v11_5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11_0) = v0 c
          ∧ r.2.mem ((c.tc : Thread Cert.KernelIdeal.nD Cert.KernelIdeal.τ).loc Cert.KernelIdeal.main_v11_1) = v1 c
          ∧ r.2.mem ((c.tc : Thread Cert.KernelIdeal.nD Cert.KernelIdeal.τ).loc Cert.KernelIdeal.main_v11_2) = v2 c
          ∧ r.2.mem ((c.tc : Thread Cert.KernelIdeal.nD Cert.KernelIdeal.τ).loc Cert.KernelIdeal.main_v11_3) = v3 c
          ∧ r.2.mem ((c.tc : Thread Cert.KernelIdeal.nD Cert.KernelIdeal.τ).loc Cert.KernelIdeal.main_v11_4) = v4 c
          ∧ r.2.mem ((c.tc : Thread Cert.KernelIdeal.nD Cert.KernelIdeal.τ).loc Cert.KernelIdeal.main_v11_5) = v5 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v260) = v0 c
          ∧ r.2.mem ((c.tc : Thread Cert.ReferenceIdeal.nD Cert.ReferenceIdeal.τ).loc Cert.ReferenceIdeal.main_v199) = v1 c
          ∧ r.2.mem ((c.tc : Thread Cert.ReferenceIdeal.nD Cert.ReferenceIdeal.τ).loc Cert.ReferenceIdeal.main_v263) = v2 c
          ∧ r.2.mem ((c.tc : Thread Cert.ReferenceIdeal.nD Cert.ReferenceIdeal.τ).loc Cert.ReferenceIdeal.main_v151) = v3 c
          ∧ r.2.mem ((c.tc : Thread Cert.ReferenceIdeal.nD Cert.ReferenceIdeal.τ).loc Cert.ReferenceIdeal.main_v264) = v4 c
          ∧ r.2.mem ((c.tc : Thread Cert.ReferenceIdeal.nD Cert.ReferenceIdeal.τ).loc Cert.ReferenceIdeal.main_v267) = v5 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def preserves_WUp_WUpIdeal : Prop :=
  True

def algebraic_WUpIdeal_WUpRefIdeal [hWUpIdeal : Cert.WUpIdeal.Facts] [hWUpRefIdeal : Cert.WUpRefIdeal.Facts] : Prop :=
  ∀ (m : (ℓ : Loc Cert.WUpIdeal.nD Cert.WUpIdeal.τ Cert.WUpIdeal.sig) → Buf (Elt Ideal) ℓ) (g : Dev Cert.WUpIdeal.nD → PrngReg)
    (m' : (ℓ : Loc Cert.WUpRefIdeal.nD Cert.WUpRefIdeal.τ Cert.WUpRefIdeal.sig) → Buf (Elt Ideal) ℓ) (g' : Dev Cert.WUpRefIdeal.nD → PrngReg), Pre_WUpIdeal m →
    (∀ c : Dev Cert.WUpIdeal.nD,
      m' ((c.tc : Thread Cert.WUpRefIdeal.nD Cert.WUpRefIdeal.τ).loc Cert.WUpRefIdeal.main_arg0) = m ((c.tc : Thread Cert.WUpIdeal.nD Cert.WUpIdeal.τ).loc Cert.WUpIdeal.main_arg0)
      ∧ m' ((c.tc : Thread Cert.WUpRefIdeal.nD Cert.WUpRefIdeal.τ).loc Cert.WUpRefIdeal.main_arg1) = m ((c.tc : Thread Cert.WUpIdeal.nD Cert.WUpIdeal.τ).loc Cert.WUpIdeal.main_arg1)) →
    ∃ (v0 : (c : Dev Cert.WUpIdeal.nD) → Buf (Elt Ideal) ((c.tc : Thread Cert.WUpIdeal.nD Cert.WUpIdeal.τ).loc Cert.WUpIdeal.main_v0)),
      θ_run (Cert.WUpIdeal.defs (F := Ideal)) (onTc (τ := Cert.WUpIdeal.τ) (Cert.WUpIdeal.main (F := Ideal))) ⟨m, fun _ => 0, g⟩ (fun r => ∀ c : Dev Cert.WUpIdeal.nD,
          r.2.mem ((c.tc : Thread Cert.WUpIdeal.nD Cert.WUpIdeal.τ).loc Cert.WUpIdeal.main_v0) = v0 c
          ∧ r.2.mem ((c.tc : Thread Cert.WUpIdeal.nD Cert.WUpIdeal.τ).loc Cert.WUpIdeal.main_arg0) = m ((c.tc : Thread Cert.WUpIdeal.nD Cert.WUpIdeal.τ).loc Cert.WUpIdeal.main_arg0)
          ∧ r.2.mem ((c.tc : Thread Cert.WUpIdeal.nD Cert.WUpIdeal.τ).loc Cert.WUpIdeal.main_arg1) = m ((c.tc : Thread Cert.WUpIdeal.nD Cert.WUpIdeal.τ).loc Cert.WUpIdeal.main_arg1))
      ∧ θ_run (Cert.WUpRefIdeal.defs (F := Ideal)) (onTc (τ := Cert.WUpRefIdeal.τ) (Cert.WUpRefIdeal.main (F := Ideal))) ⟨m', fun _ => 0, g'⟩ (fun r => ∀ c : Dev Cert.WUpRefIdeal.nD,
          r.2.mem ((c.tc : Thread Cert.WUpRefIdeal.nD Cert.WUpRefIdeal.τ).loc Cert.WUpRefIdeal.main_v12) = v0 c
          ∧ r.2.mem ((c.tc : Thread Cert.WUpRefIdeal.nD Cert.WUpRefIdeal.τ).loc Cert.WUpRefIdeal.main_arg0) = m' ((c.tc : Thread Cert.WUpRefIdeal.nD Cert.WUpRefIdeal.τ).loc Cert.WUpRefIdeal.main_arg0)
          ∧ r.2.mem ((c.tc : Thread Cert.WUpRefIdeal.nD Cert.WUpRefIdeal.τ).loc Cert.WUpRefIdeal.main_arg1) = m' ((c.tc : Thread Cert.WUpRefIdeal.nD Cert.WUpRefIdeal.τ).loc Cert.WUpRefIdeal.main_arg1))

def preserves_WIn_WInIdeal : Prop :=
  True

def algebraic_WInIdeal_WInRefIdeal [hWInIdeal : Cert.WInIdeal.Facts] [hWInRefIdeal : Cert.WInRefIdeal.Facts] : Prop :=
  ∀ (m : (ℓ : Loc Cert.WInIdeal.nD Cert.WInIdeal.τ Cert.WInIdeal.sig) → Buf (Elt Ideal) ℓ) (g : Dev Cert.WInIdeal.nD → PrngReg)
    (m' : (ℓ : Loc Cert.WInRefIdeal.nD Cert.WInRefIdeal.τ Cert.WInRefIdeal.sig) → Buf (Elt Ideal) ℓ) (g' : Dev Cert.WInRefIdeal.nD → PrngReg), Pre_WInIdeal m →
    (∀ c : Dev Cert.WInIdeal.nD,
      m' ((c.tc : Thread Cert.WInRefIdeal.nD Cert.WInRefIdeal.τ).loc Cert.WInRefIdeal.main_arg0) = m ((c.tc : Thread Cert.WInIdeal.nD Cert.WInIdeal.τ).loc Cert.WInIdeal.main_arg0)
      ∧ m' ((c.tc : Thread Cert.WInRefIdeal.nD Cert.WInRefIdeal.τ).loc Cert.WInRefIdeal.main_arg1) = m ((c.tc : Thread Cert.WInIdeal.nD Cert.WInIdeal.τ).loc Cert.WInIdeal.main_arg1)) →
    ∃ (v0 : (c : Dev Cert.WInIdeal.nD) → Buf (Elt Ideal) ((c.tc : Thread Cert.WInIdeal.nD Cert.WInIdeal.τ).loc Cert.WInIdeal.main_v0)),
      θ_run (Cert.WInIdeal.defs (F := Ideal)) (onTc (τ := Cert.WInIdeal.τ) (Cert.WInIdeal.main (F := Ideal))) ⟨m, fun _ => 0, g⟩ (fun r => ∀ c : Dev Cert.WInIdeal.nD,
          r.2.mem ((c.tc : Thread Cert.WInIdeal.nD Cert.WInIdeal.τ).loc Cert.WInIdeal.main_v0) = v0 c
          ∧ r.2.mem ((c.tc : Thread Cert.WInIdeal.nD Cert.WInIdeal.τ).loc Cert.WInIdeal.main_arg0) = m ((c.tc : Thread Cert.WInIdeal.nD Cert.WInIdeal.τ).loc Cert.WInIdeal.main_arg0)
          ∧ r.2.mem ((c.tc : Thread Cert.WInIdeal.nD Cert.WInIdeal.τ).loc Cert.WInIdeal.main_arg1) = m ((c.tc : Thread Cert.WInIdeal.nD Cert.WInIdeal.τ).loc Cert.WInIdeal.main_arg1))
      ∧ θ_run (Cert.WInRefIdeal.defs (F := Ideal)) (onTc (τ := Cert.WInRefIdeal.τ) (Cert.WInRefIdeal.main (F := Ideal))) ⟨m', fun _ => 0, g'⟩ (fun r => ∀ c : Dev Cert.WInRefIdeal.nD,
          r.2.mem ((c.tc : Thread Cert.WInRefIdeal.nD Cert.WInRefIdeal.τ).loc Cert.WInRefIdeal.main_v7) = v0 c
          ∧ r.2.mem ((c.tc : Thread Cert.WInRefIdeal.nD Cert.WInRefIdeal.τ).loc Cert.WInRefIdeal.main_arg0) = m' ((c.tc : Thread Cert.WInRefIdeal.nD Cert.WInRefIdeal.τ).loc Cert.WInRefIdeal.main_arg0)
          ∧ r.2.mem ((c.tc : Thread Cert.WInRefIdeal.nD Cert.WInRefIdeal.τ).loc Cert.WInRefIdeal.main_arg1) = m' ((c.tc : Thread Cert.WInRefIdeal.nD Cert.WInRefIdeal.τ).loc Cert.WInRefIdeal.main_arg1))

def preserves_WDown_WDownIdeal : Prop :=
  True

def algebraic_WDownIdeal_WDownRefIdeal [hWDownIdeal : Cert.WDownIdeal.Facts] [hWDownRefIdeal : Cert.WDownRefIdeal.Facts] : Prop :=
  ∀ (m : (ℓ : Loc Cert.WDownIdeal.nD Cert.WDownIdeal.τ Cert.WDownIdeal.sig) → Buf (Elt Ideal) ℓ) (g : Dev Cert.WDownIdeal.nD → PrngReg)
    (m' : (ℓ : Loc Cert.WDownRefIdeal.nD Cert.WDownRefIdeal.τ Cert.WDownRefIdeal.sig) → Buf (Elt Ideal) ℓ) (g' : Dev Cert.WDownRefIdeal.nD → PrngReg), Pre_WDownIdeal m →
    (∀ c : Dev Cert.WDownIdeal.nD,
      m' ((c.tc : Thread Cert.WDownRefIdeal.nD Cert.WDownRefIdeal.τ).loc Cert.WDownRefIdeal.main_arg0) = m ((c.tc : Thread Cert.WDownIdeal.nD Cert.WDownIdeal.τ).loc Cert.WDownIdeal.main_arg0)
      ∧ m' ((c.tc : Thread Cert.WDownRefIdeal.nD Cert.WDownRefIdeal.τ).loc Cert.WDownRefIdeal.main_arg1) = m ((c.tc : Thread Cert.WDownIdeal.nD Cert.WDownIdeal.τ).loc Cert.WDownIdeal.main_arg1)) →
    ∃ (v0 : (c : Dev Cert.WDownIdeal.nD) → Buf (Elt Ideal) ((c.tc : Thread Cert.WDownIdeal.nD Cert.WDownIdeal.τ).loc Cert.WDownIdeal.main_v0)),
      θ_run (Cert.WDownIdeal.defs (F := Ideal)) (onTc (τ := Cert.WDownIdeal.τ) (Cert.WDownIdeal.main (F := Ideal))) ⟨m, fun _ => 0, g⟩ (fun r => ∀ c : Dev Cert.WDownIdeal.nD,
          r.2.mem ((c.tc : Thread Cert.WDownIdeal.nD Cert.WDownIdeal.τ).loc Cert.WDownIdeal.main_v0) = v0 c
          ∧ r.2.mem ((c.tc : Thread Cert.WDownIdeal.nD Cert.WDownIdeal.τ).loc Cert.WDownIdeal.main_arg0) = m ((c.tc : Thread Cert.WDownIdeal.nD Cert.WDownIdeal.τ).loc Cert.WDownIdeal.main_arg0)
          ∧ r.2.mem ((c.tc : Thread Cert.WDownIdeal.nD Cert.WDownIdeal.τ).loc Cert.WDownIdeal.main_arg1) = m ((c.tc : Thread Cert.WDownIdeal.nD Cert.WDownIdeal.τ).loc Cert.WDownIdeal.main_arg1))
      ∧ θ_run (Cert.WDownRefIdeal.defs (F := Ideal)) (onTc (τ := Cert.WDownRefIdeal.τ) (Cert.WDownRefIdeal.main (F := Ideal))) ⟨m', fun _ => 0, g'⟩ (fun r => ∀ c : Dev Cert.WDownRefIdeal.nD,
          r.2.mem ((c.tc : Thread Cert.WDownRefIdeal.nD Cert.WDownRefIdeal.τ).loc Cert.WDownRefIdeal.main_v6) = v0 c
          ∧ r.2.mem ((c.tc : Thread Cert.WDownRefIdeal.nD Cert.WDownRefIdeal.τ).loc Cert.WDownRefIdeal.main_arg0) = m' ((c.tc : Thread Cert.WDownRefIdeal.nD Cert.WDownRefIdeal.τ).loc Cert.WDownRefIdeal.main_arg0)
          ∧ r.2.mem ((c.tc : Thread Cert.WDownRefIdeal.nD Cert.WDownRefIdeal.τ).loc Cert.WDownRefIdeal.main_arg1) = m' ((c.tc : Thread Cert.WDownRefIdeal.nD Cert.WDownRefIdeal.τ).loc Cert.WDownRefIdeal.main_arg1))

def preserves_WOut_WOutIdeal : Prop :=
  True

def algebraic_WOutIdeal_WOutRefIdeal [hWOutIdeal : Cert.WOutIdeal.Facts] [hWOutRefIdeal : Cert.WOutRefIdeal.Facts] : Prop :=
  ∀ (m : (ℓ : Loc Cert.WOutIdeal.nD Cert.WOutIdeal.τ Cert.WOutIdeal.sig) → Buf (Elt Ideal) ℓ) (g : Dev Cert.WOutIdeal.nD → PrngReg)
    (m' : (ℓ : Loc Cert.WOutRefIdeal.nD Cert.WOutRefIdeal.τ Cert.WOutRefIdeal.sig) → Buf (Elt Ideal) ℓ) (g' : Dev Cert.WOutRefIdeal.nD → PrngReg), Pre_WOutIdeal m →
    (∀ c : Dev Cert.WOutIdeal.nD,
      m' ((c.tc : Thread Cert.WOutRefIdeal.nD Cert.WOutRefIdeal.τ).loc Cert.WOutRefIdeal.main_arg0) = m ((c.tc : Thread Cert.WOutIdeal.nD Cert.WOutIdeal.τ).loc Cert.WOutIdeal.main_arg0)
      ∧ m' ((c.tc : Thread Cert.WOutRefIdeal.nD Cert.WOutRefIdeal.τ).loc Cert.WOutRefIdeal.main_arg1) = m ((c.tc : Thread Cert.WOutIdeal.nD Cert.WOutIdeal.τ).loc Cert.WOutIdeal.main_arg1)) →
    ∃ (v0 : (c : Dev Cert.WOutIdeal.nD) → Buf (Elt Ideal) ((c.tc : Thread Cert.WOutIdeal.nD Cert.WOutIdeal.τ).loc Cert.WOutIdeal.main_v0)),
      θ_run (Cert.WOutIdeal.defs (F := Ideal)) (onTc (τ := Cert.WOutIdeal.τ) (Cert.WOutIdeal.main (F := Ideal))) ⟨m, fun _ => 0, g⟩ (fun r => ∀ c : Dev Cert.WOutIdeal.nD,
          r.2.mem ((c.tc : Thread Cert.WOutIdeal.nD Cert.WOutIdeal.τ).loc Cert.WOutIdeal.main_v0) = v0 c
          ∧ r.2.mem ((c.tc : Thread Cert.WOutIdeal.nD Cert.WOutIdeal.τ).loc Cert.WOutIdeal.main_arg0) = m ((c.tc : Thread Cert.WOutIdeal.nD Cert.WOutIdeal.τ).loc Cert.WOutIdeal.main_arg0)
          ∧ r.2.mem ((c.tc : Thread Cert.WOutIdeal.nD Cert.WOutIdeal.τ).loc Cert.WOutIdeal.main_arg1) = m ((c.tc : Thread Cert.WOutIdeal.nD Cert.WOutIdeal.τ).loc Cert.WOutIdeal.main_arg1))
      ∧ θ_run (Cert.WOutRefIdeal.defs (F := Ideal)) (onTc (τ := Cert.WOutRefIdeal.τ) (Cert.WOutRefIdeal.main (F := Ideal))) ⟨m', fun _ => 0, g'⟩ (fun r => ∀ c : Dev Cert.WOutRefIdeal.nD,
          r.2.mem ((c.tc : Thread Cert.WOutRefIdeal.nD Cert.WOutRefIdeal.τ).loc Cert.WOutRefIdeal.main_v6) = v0 c
          ∧ r.2.mem ((c.tc : Thread Cert.WOutRefIdeal.nD Cert.WOutRefIdeal.τ).loc Cert.WOutRefIdeal.main_arg0) = m' ((c.tc : Thread Cert.WOutRefIdeal.nD Cert.WOutRefIdeal.τ).loc Cert.WOutRefIdeal.main_arg0)
          ∧ r.2.mem ((c.tc : Thread Cert.WOutRefIdeal.nD Cert.WOutRefIdeal.τ).loc Cert.WOutRefIdeal.main_arg1) = m' ((c.tc : Thread Cert.WOutRefIdeal.nD Cert.WOutRefIdeal.τ).loc Cert.WOutRefIdeal.main_arg1))

def preserves_WPleGate_WPleGateIdeal : Prop :=
  True

def algebraic_WPleGateIdeal_WPleGateRefIdeal [hWPleGateIdeal : Cert.WPleGateIdeal.Facts] [hWPleGateRefIdeal : Cert.WPleGateRefIdeal.Facts] : Prop :=
  ∀ (m : (ℓ : Loc Cert.WPleGateIdeal.nD Cert.WPleGateIdeal.τ Cert.WPleGateIdeal.sig) → Buf (Elt Ideal) ℓ) (g : Dev Cert.WPleGateIdeal.nD → PrngReg)
    (m' : (ℓ : Loc Cert.WPleGateRefIdeal.nD Cert.WPleGateRefIdeal.τ Cert.WPleGateRefIdeal.sig) → Buf (Elt Ideal) ℓ) (g' : Dev Cert.WPleGateRefIdeal.nD → PrngReg), Pre_WPleGateIdeal m →
    (∀ c : Dev Cert.WPleGateIdeal.nD,
      m' ((c.tc : Thread Cert.WPleGateRefIdeal.nD Cert.WPleGateRefIdeal.τ).loc Cert.WPleGateRefIdeal.main_arg0) = m ((c.tc : Thread Cert.WPleGateIdeal.nD Cert.WPleGateIdeal.τ).loc Cert.WPleGateIdeal.main_arg0)
      ∧ m' ((c.tc : Thread Cert.WPleGateRefIdeal.nD Cert.WPleGateRefIdeal.τ).loc Cert.WPleGateRefIdeal.main_arg1) = m ((c.tc : Thread Cert.WPleGateIdeal.nD Cert.WPleGateIdeal.τ).loc Cert.WPleGateIdeal.main_arg1)) →
    ∃ (v0 : (c : Dev Cert.WPleGateIdeal.nD) → Buf (Elt Ideal) ((c.tc : Thread Cert.WPleGateIdeal.nD Cert.WPleGateIdeal.τ).loc Cert.WPleGateIdeal.main_v0)),
      θ_run (Cert.WPleGateIdeal.defs (F := Ideal)) (onTc (τ := Cert.WPleGateIdeal.τ) (Cert.WPleGateIdeal.main (F := Ideal))) ⟨m, fun _ => 0, g⟩ (fun r => ∀ c : Dev Cert.WPleGateIdeal.nD,
          r.2.mem ((c.tc : Thread Cert.WPleGateIdeal.nD Cert.WPleGateIdeal.τ).loc Cert.WPleGateIdeal.main_v0) = v0 c
          ∧ r.2.mem ((c.tc : Thread Cert.WPleGateIdeal.nD Cert.WPleGateIdeal.τ).loc Cert.WPleGateIdeal.main_arg0) = m ((c.tc : Thread Cert.WPleGateIdeal.nD Cert.WPleGateIdeal.τ).loc Cert.WPleGateIdeal.main_arg0)
          ∧ r.2.mem ((c.tc : Thread Cert.WPleGateIdeal.nD Cert.WPleGateIdeal.τ).loc Cert.WPleGateIdeal.main_arg1) = m ((c.tc : Thread Cert.WPleGateIdeal.nD Cert.WPleGateIdeal.τ).loc Cert.WPleGateIdeal.main_arg1))
      ∧ θ_run (Cert.WPleGateRefIdeal.defs (F := Ideal)) (onTc (τ := Cert.WPleGateRefIdeal.τ) (Cert.WPleGateRefIdeal.main (F := Ideal))) ⟨m', fun _ => 0, g'⟩ (fun r => ∀ c : Dev Cert.WPleGateRefIdeal.nD,
          r.2.mem ((c.tc : Thread Cert.WPleGateRefIdeal.nD Cert.WPleGateRefIdeal.τ).loc Cert.WPleGateRefIdeal.main_v7) = v0 c
          ∧ r.2.mem ((c.tc : Thread Cert.WPleGateRefIdeal.nD Cert.WPleGateRefIdeal.τ).loc Cert.WPleGateRefIdeal.main_arg0) = m' ((c.tc : Thread Cert.WPleGateRefIdeal.nD Cert.WPleGateRefIdeal.τ).loc Cert.WPleGateRefIdeal.main_arg0)
          ∧ r.2.mem ((c.tc : Thread Cert.WPleGateRefIdeal.nD Cert.WPleGateRefIdeal.τ).loc Cert.WPleGateRefIdeal.main_arg1) = m' ((c.tc : Thread Cert.WPleGateRefIdeal.nD Cert.WPleGateRefIdeal.τ).loc Cert.WPleGateRefIdeal.main_arg1))

def preserves_WBranchA_WBranchAIdeal : Prop :=
  True

def algebraic_WBranchAIdeal_WBranchARefIdeal [hWBranchAIdeal : Cert.WBranchAIdeal.Facts] [hWBranchARefIdeal : Cert.WBranchARefIdeal.Facts] : Prop :=
  ∀ (m : (ℓ : Loc Cert.WBranchAIdeal.nD Cert.WBranchAIdeal.τ Cert.WBranchAIdeal.sig) → Buf (Elt Ideal) ℓ) (g : Dev Cert.WBranchAIdeal.nD → PrngReg)
    (m' : (ℓ : Loc Cert.WBranchARefIdeal.nD Cert.WBranchARefIdeal.τ Cert.WBranchARefIdeal.sig) → Buf (Elt Ideal) ℓ) (g' : Dev Cert.WBranchARefIdeal.nD → PrngReg), Pre_WBranchAIdeal m →
    (∀ c : Dev Cert.WBranchAIdeal.nD,
      m' ((c.tc : Thread Cert.WBranchARefIdeal.nD Cert.WBranchARefIdeal.τ).loc Cert.WBranchARefIdeal.main_arg0) = m ((c.tc : Thread Cert.WBranchAIdeal.nD Cert.WBranchAIdeal.τ).loc Cert.WBranchAIdeal.main_arg0)
      ∧ m' ((c.tc : Thread Cert.WBranchARefIdeal.nD Cert.WBranchARefIdeal.τ).loc Cert.WBranchARefIdeal.main_arg1) = m ((c.tc : Thread Cert.WBranchAIdeal.nD Cert.WBranchAIdeal.τ).loc Cert.WBranchAIdeal.main_arg1)) →
    ∃ (v0 : (c : Dev Cert.WBranchAIdeal.nD) → Buf (Elt Ideal) ((c.tc : Thread Cert.WBranchAIdeal.nD Cert.WBranchAIdeal.τ).loc Cert.WBranchAIdeal.main_v0)),
      θ_run (Cert.WBranchAIdeal.defs (F := Ideal)) (onTc (τ := Cert.WBranchAIdeal.τ) (Cert.WBranchAIdeal.main (F := Ideal))) ⟨m, fun _ => 0, g⟩ (fun r => ∀ c : Dev Cert.WBranchAIdeal.nD,
          r.2.mem ((c.tc : Thread Cert.WBranchAIdeal.nD Cert.WBranchAIdeal.τ).loc Cert.WBranchAIdeal.main_v0) = v0 c
          ∧ r.2.mem ((c.tc : Thread Cert.WBranchAIdeal.nD Cert.WBranchAIdeal.τ).loc Cert.WBranchAIdeal.main_arg0) = m ((c.tc : Thread Cert.WBranchAIdeal.nD Cert.WBranchAIdeal.τ).loc Cert.WBranchAIdeal.main_arg0)
          ∧ r.2.mem ((c.tc : Thread Cert.WBranchAIdeal.nD Cert.WBranchAIdeal.τ).loc Cert.WBranchAIdeal.main_arg1) = m ((c.tc : Thread Cert.WBranchAIdeal.nD Cert.WBranchAIdeal.τ).loc Cert.WBranchAIdeal.main_arg1))
      ∧ θ_run (Cert.WBranchARefIdeal.defs (F := Ideal)) (onTc (τ := Cert.WBranchARefIdeal.τ) (Cert.WBranchARefIdeal.main (F := Ideal))) ⟨m', fun _ => 0, g'⟩ (fun r => ∀ c : Dev Cert.WBranchARefIdeal.nD,
          r.2.mem ((c.tc : Thread Cert.WBranchARefIdeal.nD Cert.WBranchARefIdeal.τ).loc Cert.WBranchARefIdeal.main_v8) = v0 c
          ∧ r.2.mem ((c.tc : Thread Cert.WBranchARefIdeal.nD Cert.WBranchARefIdeal.τ).loc Cert.WBranchARefIdeal.main_arg0) = m' ((c.tc : Thread Cert.WBranchARefIdeal.nD Cert.WBranchARefIdeal.τ).loc Cert.WBranchARefIdeal.main_arg0)
          ∧ r.2.mem ((c.tc : Thread Cert.WBranchARefIdeal.nD Cert.WBranchARefIdeal.τ).loc Cert.WBranchARefIdeal.main_arg1) = m' ((c.tc : Thread Cert.WBranchARefIdeal.nD Cert.WBranchARefIdeal.τ).loc Cert.WBranchARefIdeal.main_arg1))

def preserves_WBranchB_WBranchBIdeal : Prop :=
  True

def algebraic_WBranchBIdeal_WBranchBRefIdeal [hWBranchBIdeal : Cert.WBranchBIdeal.Facts] [hWBranchBRefIdeal : Cert.WBranchBRefIdeal.Facts] : Prop :=
  ∀ (m : (ℓ : Loc Cert.WBranchBIdeal.nD Cert.WBranchBIdeal.τ Cert.WBranchBIdeal.sig) → Buf (Elt Ideal) ℓ) (g : Dev Cert.WBranchBIdeal.nD → PrngReg)
    (m' : (ℓ : Loc Cert.WBranchBRefIdeal.nD Cert.WBranchBRefIdeal.τ Cert.WBranchBRefIdeal.sig) → Buf (Elt Ideal) ℓ) (g' : Dev Cert.WBranchBRefIdeal.nD → PrngReg), Pre_WBranchBIdeal m →
    (∀ c : Dev Cert.WBranchBIdeal.nD,
      m' ((c.tc : Thread Cert.WBranchBRefIdeal.nD Cert.WBranchBRefIdeal.τ).loc Cert.WBranchBRefIdeal.main_arg0) = m ((c.tc : Thread Cert.WBranchBIdeal.nD Cert.WBranchBIdeal.τ).loc Cert.WBranchBIdeal.main_arg0)
      ∧ m' ((c.tc : Thread Cert.WBranchBRefIdeal.nD Cert.WBranchBRefIdeal.τ).loc Cert.WBranchBRefIdeal.main_arg1) = m ((c.tc : Thread Cert.WBranchBIdeal.nD Cert.WBranchBIdeal.τ).loc Cert.WBranchBIdeal.main_arg1)) →
    ∃ (v0 : (c : Dev Cert.WBranchBIdeal.nD) → Buf (Elt Ideal) ((c.tc : Thread Cert.WBranchBIdeal.nD Cert.WBranchBIdeal.τ).loc Cert.WBranchBIdeal.main_v0)),
      θ_run (Cert.WBranchBIdeal.defs (F := Ideal)) (onTc (τ := Cert.WBranchBIdeal.τ) (Cert.WBranchBIdeal.main (F := Ideal))) ⟨m, fun _ => 0, g⟩ (fun r => ∀ c : Dev Cert.WBranchBIdeal.nD,
          r.2.mem ((c.tc : Thread Cert.WBranchBIdeal.nD Cert.WBranchBIdeal.τ).loc Cert.WBranchBIdeal.main_v0) = v0 c
          ∧ r.2.mem ((c.tc : Thread Cert.WBranchBIdeal.nD Cert.WBranchBIdeal.τ).loc Cert.WBranchBIdeal.main_arg0) = m ((c.tc : Thread Cert.WBranchBIdeal.nD Cert.WBranchBIdeal.τ).loc Cert.WBranchBIdeal.main_arg0)
          ∧ r.2.mem ((c.tc : Thread Cert.WBranchBIdeal.nD Cert.WBranchBIdeal.τ).loc Cert.WBranchBIdeal.main_arg1) = m ((c.tc : Thread Cert.WBranchBIdeal.nD Cert.WBranchBIdeal.τ).loc Cert.WBranchBIdeal.main_arg1))
      ∧ θ_run (Cert.WBranchBRefIdeal.defs (F := Ideal)) (onTc (τ := Cert.WBranchBRefIdeal.τ) (Cert.WBranchBRefIdeal.main (F := Ideal))) ⟨m', fun _ => 0, g'⟩ (fun r => ∀ c : Dev Cert.WBranchBRefIdeal.nD,
          r.2.mem ((c.tc : Thread Cert.WBranchBRefIdeal.nD Cert.WBranchBRefIdeal.τ).loc Cert.WBranchBRefIdeal.main_v8) = v0 c
          ∧ r.2.mem ((c.tc : Thread Cert.WBranchBRefIdeal.nD Cert.WBranchBRefIdeal.τ).loc Cert.WBranchBRefIdeal.main_arg0) = m' ((c.tc : Thread Cert.WBranchBRefIdeal.nD Cert.WBranchBRefIdeal.τ).loc Cert.WBranchBRefIdeal.main_arg0)
          ∧ r.2.mem ((c.tc : Thread Cert.WBranchBRefIdeal.nD Cert.WBranchBRefIdeal.τ).loc Cert.WBranchBRefIdeal.main_arg1) = m' ((c.tc : Thread Cert.WBranchBRefIdeal.nD Cert.WBranchBRefIdeal.τ).loc Cert.WBranchBRefIdeal.main_arg1))

def preserves_FfnAct_FfnActIdeal : Prop :=
  True

def algebraic_FfnActIdeal_FfnActRefIdeal [hFfnActIdeal : Cert.FfnActIdeal.Facts] [hFfnActRefIdeal : Cert.FfnActRefIdeal.Facts] : Prop :=
  ∀ (m : (ℓ : Loc Cert.FfnActIdeal.nD Cert.FfnActIdeal.τ Cert.FfnActIdeal.sig) → Buf (Elt Ideal) ℓ) (g : Dev Cert.FfnActIdeal.nD → PrngReg)
    (m' : (ℓ : Loc Cert.FfnActRefIdeal.nD Cert.FfnActRefIdeal.τ Cert.FfnActRefIdeal.sig) → Buf (Elt Ideal) ℓ) (g' : Dev Cert.FfnActRefIdeal.nD → PrngReg), Pre_FfnActIdeal m →
    (∀ c : Dev Cert.FfnActIdeal.nD,
      m' ((c.tc : Thread Cert.FfnActRefIdeal.nD Cert.FfnActRefIdeal.τ).loc Cert.FfnActRefIdeal.main_arg0) = m ((c.tc : Thread Cert.FfnActIdeal.nD Cert.FfnActIdeal.τ).loc Cert.FfnActIdeal.main_arg0)
      ∧ m' ((c.tc : Thread Cert.FfnActRefIdeal.nD Cert.FfnActRefIdeal.τ).loc Cert.FfnActRefIdeal.main_arg1) = m ((c.tc : Thread Cert.FfnActIdeal.nD Cert.FfnActIdeal.τ).loc Cert.FfnActIdeal.main_arg1)) →
    ∃ (v0 : (c : Dev Cert.FfnActIdeal.nD) → Buf (Elt Ideal) ((c.tc : Thread Cert.FfnActIdeal.nD Cert.FfnActIdeal.τ).loc Cert.FfnActIdeal.main_v0)),
      θ_run (Cert.FfnActIdeal.defs (F := Ideal)) (onTc (τ := Cert.FfnActIdeal.τ) (Cert.FfnActIdeal.main (F := Ideal))) ⟨m, fun _ => 0, g⟩ (fun r => ∀ c : Dev Cert.FfnActIdeal.nD,
          r.2.mem ((c.tc : Thread Cert.FfnActIdeal.nD Cert.FfnActIdeal.τ).loc Cert.FfnActIdeal.main_v0) = v0 c
          ∧ r.2.mem ((c.tc : Thread Cert.FfnActIdeal.nD Cert.FfnActIdeal.τ).loc Cert.FfnActIdeal.main_arg0) = m ((c.tc : Thread Cert.FfnActIdeal.nD Cert.FfnActIdeal.τ).loc Cert.FfnActIdeal.main_arg0)
          ∧ r.2.mem ((c.tc : Thread Cert.FfnActIdeal.nD Cert.FfnActIdeal.τ).loc Cert.FfnActIdeal.main_arg1) = m ((c.tc : Thread Cert.FfnActIdeal.nD Cert.FfnActIdeal.τ).loc Cert.FfnActIdeal.main_arg1))
      ∧ θ_run (Cert.FfnActRefIdeal.defs (F := Ideal)) (onTc (τ := Cert.FfnActRefIdeal.τ) (Cert.FfnActRefIdeal.main (F := Ideal))) ⟨m', fun _ => 0, g'⟩ (fun r => ∀ c : Dev Cert.FfnActRefIdeal.nD,
          r.2.mem ((c.tc : Thread Cert.FfnActRefIdeal.nD Cert.FfnActRefIdeal.τ).loc Cert.FfnActRefIdeal.main_v4) = v0 c
          ∧ r.2.mem ((c.tc : Thread Cert.FfnActRefIdeal.nD Cert.FfnActRefIdeal.τ).loc Cert.FfnActRefIdeal.main_arg0) = m' ((c.tc : Thread Cert.FfnActRefIdeal.nD Cert.FfnActRefIdeal.τ).loc Cert.FfnActRefIdeal.main_arg0)
          ∧ r.2.mem ((c.tc : Thread Cert.FfnActRefIdeal.nD Cert.FfnActRefIdeal.τ).loc Cert.FfnActRefIdeal.main_arg1) = m' ((c.tc : Thread Cert.FfnActRefIdeal.nD Cert.FfnActRefIdeal.τ).loc Cert.FfnActRefIdeal.main_arg1))

def preserves_Gated_GatedIdeal : Prop :=
  True

def algebraic_GatedIdeal_GatedRefIdeal [hGatedIdeal : Cert.GatedIdeal.Facts] [hGatedRefIdeal : Cert.GatedRefIdeal.Facts] : Prop :=
  ∀ (m : (ℓ : Loc Cert.GatedIdeal.nD Cert.GatedIdeal.τ Cert.GatedIdeal.sig) → Buf (Elt Ideal) ℓ) (g : Dev Cert.GatedIdeal.nD → PrngReg)
    (m' : (ℓ : Loc Cert.GatedRefIdeal.nD Cert.GatedRefIdeal.τ Cert.GatedRefIdeal.sig) → Buf (Elt Ideal) ℓ) (g' : Dev Cert.GatedRefIdeal.nD → PrngReg), Pre_GatedIdeal m →
    (∀ c : Dev Cert.GatedIdeal.nD,
      m' ((c.tc : Thread Cert.GatedRefIdeal.nD Cert.GatedRefIdeal.τ).loc Cert.GatedRefIdeal.main_arg0) = m ((c.tc : Thread Cert.GatedIdeal.nD Cert.GatedIdeal.τ).loc Cert.GatedIdeal.main_arg0)
      ∧ m' ((c.tc : Thread Cert.GatedRefIdeal.nD Cert.GatedRefIdeal.τ).loc Cert.GatedRefIdeal.main_arg1) = m ((c.tc : Thread Cert.GatedIdeal.nD Cert.GatedIdeal.τ).loc Cert.GatedIdeal.main_arg1)) →
    ∃ (v0 : (c : Dev Cert.GatedIdeal.nD) → Buf (Elt Ideal) ((c.tc : Thread Cert.GatedIdeal.nD Cert.GatedIdeal.τ).loc Cert.GatedIdeal.main_v0)),
      θ_run (Cert.GatedIdeal.defs (F := Ideal)) (onTc (τ := Cert.GatedIdeal.τ) (Cert.GatedIdeal.main (F := Ideal))) ⟨m, fun _ => 0, g⟩ (fun r => ∀ c : Dev Cert.GatedIdeal.nD,
          r.2.mem ((c.tc : Thread Cert.GatedIdeal.nD Cert.GatedIdeal.τ).loc Cert.GatedIdeal.main_v0) = v0 c
          ∧ r.2.mem ((c.tc : Thread Cert.GatedIdeal.nD Cert.GatedIdeal.τ).loc Cert.GatedIdeal.main_arg0) = m ((c.tc : Thread Cert.GatedIdeal.nD Cert.GatedIdeal.τ).loc Cert.GatedIdeal.main_arg0)
          ∧ r.2.mem ((c.tc : Thread Cert.GatedIdeal.nD Cert.GatedIdeal.τ).loc Cert.GatedIdeal.main_arg1) = m ((c.tc : Thread Cert.GatedIdeal.nD Cert.GatedIdeal.τ).loc Cert.GatedIdeal.main_arg1))
      ∧ θ_run (Cert.GatedRefIdeal.defs (F := Ideal)) (onTc (τ := Cert.GatedRefIdeal.τ) (Cert.GatedRefIdeal.main (F := Ideal))) ⟨m', fun _ => 0, g'⟩ (fun r => ∀ c : Dev Cert.GatedRefIdeal.nD,
          r.2.mem ((c.tc : Thread Cert.GatedRefIdeal.nD Cert.GatedRefIdeal.τ).loc Cert.GatedRefIdeal.main_v5) = v0 c
          ∧ r.2.mem ((c.tc : Thread Cert.GatedRefIdeal.nD Cert.GatedRefIdeal.τ).loc Cert.GatedRefIdeal.main_arg0) = m' ((c.tc : Thread Cert.GatedRefIdeal.nD Cert.GatedRefIdeal.τ).loc Cert.GatedRefIdeal.main_arg0)
          ∧ r.2.mem ((c.tc : Thread Cert.GatedRefIdeal.nD Cert.GatedRefIdeal.τ).loc Cert.GatedRefIdeal.main_arg1) = m' ((c.tc : Thread Cert.GatedRefIdeal.nD Cert.GatedRefIdeal.τ).loc Cert.GatedRefIdeal.main_arg1))

def preserves_PoolOut_PoolOutIdeal : Prop :=
  True

def algebraic_PoolOutIdeal_PoolOutRefIdeal [hPoolOutIdeal : Cert.PoolOutIdeal.Facts] [hPoolOutRefIdeal : Cert.PoolOutRefIdeal.Facts] : Prop :=
  ∀ (m : (ℓ : Loc Cert.PoolOutIdeal.nD Cert.PoolOutIdeal.τ Cert.PoolOutIdeal.sig) → Buf (Elt Ideal) ℓ) (g : Dev Cert.PoolOutIdeal.nD → PrngReg)
    (m' : (ℓ : Loc Cert.PoolOutRefIdeal.nD Cert.PoolOutRefIdeal.τ Cert.PoolOutRefIdeal.sig) → Buf (Elt Ideal) ℓ) (g' : Dev Cert.PoolOutRefIdeal.nD → PrngReg), Pre_PoolOutIdeal m →
    (∀ c : Dev Cert.PoolOutIdeal.nD,
      m' ((c.tc : Thread Cert.PoolOutRefIdeal.nD Cert.PoolOutRefIdeal.τ).loc Cert.PoolOutRefIdeal.main_arg0) = m ((c.tc : Thread Cert.PoolOutIdeal.nD Cert.PoolOutIdeal.τ).loc Cert.PoolOutIdeal.main_arg0)
      ∧ m' ((c.tc : Thread Cert.PoolOutRefIdeal.nD Cert.PoolOutRefIdeal.τ).loc Cert.PoolOutRefIdeal.main_arg1) = m ((c.tc : Thread Cert.PoolOutIdeal.nD Cert.PoolOutIdeal.τ).loc Cert.PoolOutIdeal.main_arg1)) →
    ∃ (v0 : (c : Dev Cert.PoolOutIdeal.nD) → Buf (Elt Ideal) ((c.tc : Thread Cert.PoolOutIdeal.nD Cert.PoolOutIdeal.τ).loc Cert.PoolOutIdeal.main_v0)),
      θ_run (Cert.PoolOutIdeal.defs (F := Ideal)) (onTc (τ := Cert.PoolOutIdeal.τ) (Cert.PoolOutIdeal.main (F := Ideal))) ⟨m, fun _ => 0, g⟩ (fun r => ∀ c : Dev Cert.PoolOutIdeal.nD,
          r.2.mem ((c.tc : Thread Cert.PoolOutIdeal.nD Cert.PoolOutIdeal.τ).loc Cert.PoolOutIdeal.main_v0) = v0 c
          ∧ r.2.mem ((c.tc : Thread Cert.PoolOutIdeal.nD Cert.PoolOutIdeal.τ).loc Cert.PoolOutIdeal.main_arg0) = m ((c.tc : Thread Cert.PoolOutIdeal.nD Cert.PoolOutIdeal.τ).loc Cert.PoolOutIdeal.main_arg0)
          ∧ r.2.mem ((c.tc : Thread Cert.PoolOutIdeal.nD Cert.PoolOutIdeal.τ).loc Cert.PoolOutIdeal.main_arg1) = m ((c.tc : Thread Cert.PoolOutIdeal.nD Cert.PoolOutIdeal.τ).loc Cert.PoolOutIdeal.main_arg1))
      ∧ θ_run (Cert.PoolOutRefIdeal.defs (F := Ideal)) (onTc (τ := Cert.PoolOutRefIdeal.τ) (Cert.PoolOutRefIdeal.main (F := Ideal))) ⟨m', fun _ => 0, g'⟩ (fun r => ∀ c : Dev Cert.PoolOutRefIdeal.nD,
          r.2.mem ((c.tc : Thread Cert.PoolOutRefIdeal.nD Cert.PoolOutRefIdeal.τ).loc Cert.PoolOutRefIdeal.main_v7) = v0 c
          ∧ r.2.mem ((c.tc : Thread Cert.PoolOutRefIdeal.nD Cert.PoolOutRefIdeal.τ).loc Cert.PoolOutRefIdeal.main_arg0) = m' ((c.tc : Thread Cert.PoolOutRefIdeal.nD Cert.PoolOutRefIdeal.τ).loc Cert.PoolOutRefIdeal.main_arg0)
          ∧ r.2.mem ((c.tc : Thread Cert.PoolOutRefIdeal.nD Cert.PoolOutRefIdeal.τ).loc Cert.PoolOutRefIdeal.main_arg1) = m' ((c.tc : Thread Cert.PoolOutRefIdeal.nD Cert.PoolOutRefIdeal.τ).loc Cert.PoolOutRefIdeal.main_arg1))

def preserves_SguOut_SguOutIdeal : Prop :=
  True

def algebraic_SguOutIdeal_SguOutRefIdeal [hSguOutIdeal : Cert.SguOutIdeal.Facts] [hSguOutRefIdeal : Cert.SguOutRefIdeal.Facts] : Prop :=
  ∀ (m : (ℓ : Loc Cert.SguOutIdeal.nD Cert.SguOutIdeal.τ Cert.SguOutIdeal.sig) → Buf (Elt Ideal) ℓ) (g : Dev Cert.SguOutIdeal.nD → PrngReg)
    (m' : (ℓ : Loc Cert.SguOutRefIdeal.nD Cert.SguOutRefIdeal.τ Cert.SguOutRefIdeal.sig) → Buf (Elt Ideal) ℓ) (g' : Dev Cert.SguOutRefIdeal.nD → PrngReg), Pre_SguOutIdeal m →
    (∀ c : Dev Cert.SguOutIdeal.nD,
      m' ((c.tc : Thread Cert.SguOutRefIdeal.nD Cert.SguOutRefIdeal.τ).loc Cert.SguOutRefIdeal.main_arg0) = m ((c.tc : Thread Cert.SguOutIdeal.nD Cert.SguOutIdeal.τ).loc Cert.SguOutIdeal.main_arg0)
      ∧ m' ((c.tc : Thread Cert.SguOutRefIdeal.nD Cert.SguOutRefIdeal.τ).loc Cert.SguOutRefIdeal.main_arg1) = m ((c.tc : Thread Cert.SguOutIdeal.nD Cert.SguOutIdeal.τ).loc Cert.SguOutIdeal.main_arg1)) →
    ∃ (v0 : (c : Dev Cert.SguOutIdeal.nD) → Buf (Elt Ideal) ((c.tc : Thread Cert.SguOutIdeal.nD Cert.SguOutIdeal.τ).loc Cert.SguOutIdeal.main_v0)),
      θ_run (Cert.SguOutIdeal.defs (F := Ideal)) (onTc (τ := Cert.SguOutIdeal.τ) (Cert.SguOutIdeal.main (F := Ideal))) ⟨m, fun _ => 0, g⟩ (fun r => ∀ c : Dev Cert.SguOutIdeal.nD,
          r.2.mem ((c.tc : Thread Cert.SguOutIdeal.nD Cert.SguOutIdeal.τ).loc Cert.SguOutIdeal.main_v0) = v0 c
          ∧ r.2.mem ((c.tc : Thread Cert.SguOutIdeal.nD Cert.SguOutIdeal.τ).loc Cert.SguOutIdeal.main_arg0) = m ((c.tc : Thread Cert.SguOutIdeal.nD Cert.SguOutIdeal.τ).loc Cert.SguOutIdeal.main_arg0)
          ∧ r.2.mem ((c.tc : Thread Cert.SguOutIdeal.nD Cert.SguOutIdeal.τ).loc Cert.SguOutIdeal.main_arg1) = m ((c.tc : Thread Cert.SguOutIdeal.nD Cert.SguOutIdeal.τ).loc Cert.SguOutIdeal.main_arg1))
      ∧ θ_run (Cert.SguOutRefIdeal.defs (F := Ideal)) (onTc (τ := Cert.SguOutRefIdeal.τ) (Cert.SguOutRefIdeal.main (F := Ideal))) ⟨m', fun _ => 0, g'⟩ (fun r => ∀ c : Dev Cert.SguOutRefIdeal.nD,
          r.2.mem ((c.tc : Thread Cert.SguOutRefIdeal.nD Cert.SguOutRefIdeal.τ).loc Cert.SguOutRefIdeal.main_v7) = v0 c
          ∧ r.2.mem ((c.tc : Thread Cert.SguOutRefIdeal.nD Cert.SguOutRefIdeal.τ).loc Cert.SguOutRefIdeal.main_arg0) = m' ((c.tc : Thread Cert.SguOutRefIdeal.nD Cert.SguOutRefIdeal.τ).loc Cert.SguOutRefIdeal.main_arg0)
          ∧ r.2.mem ((c.tc : Thread Cert.SguOutRefIdeal.nD Cert.SguOutRefIdeal.τ).loc Cert.SguOutRefIdeal.main_arg1) = m' ((c.tc : Thread Cert.SguOutRefIdeal.nD Cert.SguOutRefIdeal.τ).loc Cert.SguOutRefIdeal.main_arg1))

def preserves_UpProj_UpProjIdeal : Prop :=
  True

def algebraic_UpProjIdeal_UpProjRefIdeal [hUpProjIdeal : Cert.UpProjIdeal.Facts] [hUpProjRefIdeal : Cert.UpProjRefIdeal.Facts] : Prop :=
  ∀ (m : (ℓ : Loc Cert.UpProjIdeal.nD Cert.UpProjIdeal.τ Cert.UpProjIdeal.sig) → Buf (Elt Ideal) ℓ) (g : Dev Cert.UpProjIdeal.nD → PrngReg)
    (m' : (ℓ : Loc Cert.UpProjRefIdeal.nD Cert.UpProjRefIdeal.τ Cert.UpProjRefIdeal.sig) → Buf (Elt Ideal) ℓ) (g' : Dev Cert.UpProjRefIdeal.nD → PrngReg), Pre_UpProjIdeal m →
    (∀ c : Dev Cert.UpProjIdeal.nD,
      m' ((c.tc : Thread Cert.UpProjRefIdeal.nD Cert.UpProjRefIdeal.τ).loc Cert.UpProjRefIdeal.main_arg0) = m ((c.tc : Thread Cert.UpProjIdeal.nD Cert.UpProjIdeal.τ).loc Cert.UpProjIdeal.main_arg0)
      ∧ m' ((c.tc : Thread Cert.UpProjRefIdeal.nD Cert.UpProjRefIdeal.τ).loc Cert.UpProjRefIdeal.main_arg1) = m ((c.tc : Thread Cert.UpProjIdeal.nD Cert.UpProjIdeal.τ).loc Cert.UpProjIdeal.main_arg1)) →
    ∃ (v0 : (c : Dev Cert.UpProjIdeal.nD) → Buf (Elt Ideal) ((c.tc : Thread Cert.UpProjIdeal.nD Cert.UpProjIdeal.τ).loc Cert.UpProjIdeal.main_v0)),
      θ_run (Cert.UpProjIdeal.defs (F := Ideal)) (onTc (τ := Cert.UpProjIdeal.τ) (Cert.UpProjIdeal.main (F := Ideal))) ⟨m, fun _ => 0, g⟩ (fun r => ∀ c : Dev Cert.UpProjIdeal.nD,
          r.2.mem ((c.tc : Thread Cert.UpProjIdeal.nD Cert.UpProjIdeal.τ).loc Cert.UpProjIdeal.main_v0) = v0 c
          ∧ r.2.mem ((c.tc : Thread Cert.UpProjIdeal.nD Cert.UpProjIdeal.τ).loc Cert.UpProjIdeal.main_arg0) = m ((c.tc : Thread Cert.UpProjIdeal.nD Cert.UpProjIdeal.τ).loc Cert.UpProjIdeal.main_arg0)
          ∧ r.2.mem ((c.tc : Thread Cert.UpProjIdeal.nD Cert.UpProjIdeal.τ).loc Cert.UpProjIdeal.main_arg1) = m ((c.tc : Thread Cert.UpProjIdeal.nD Cert.UpProjIdeal.τ).loc Cert.UpProjIdeal.main_arg1))
      ∧ θ_run (Cert.UpProjRefIdeal.defs (F := Ideal)) (onTc (τ := Cert.UpProjRefIdeal.τ) (Cert.UpProjRefIdeal.main (F := Ideal))) ⟨m', fun _ => 0, g'⟩ (fun r => ∀ c : Dev Cert.UpProjRefIdeal.nD,
          r.2.mem ((c.tc : Thread Cert.UpProjRefIdeal.nD Cert.UpProjRefIdeal.τ).loc Cert.UpProjRefIdeal.main_v3) = v0 c
          ∧ r.2.mem ((c.tc : Thread Cert.UpProjRefIdeal.nD Cert.UpProjRefIdeal.τ).loc Cert.UpProjRefIdeal.main_arg0) = m' ((c.tc : Thread Cert.UpProjRefIdeal.nD Cert.UpProjRefIdeal.τ).loc Cert.UpProjRefIdeal.main_arg0)
          ∧ r.2.mem ((c.tc : Thread Cert.UpProjRefIdeal.nD Cert.UpProjRefIdeal.τ).loc Cert.UpProjRefIdeal.main_arg1) = m' ((c.tc : Thread Cert.UpProjRefIdeal.nD Cert.UpProjRefIdeal.τ).loc Cert.UpProjRefIdeal.main_arg1))

def preserves_PleGateProj_PleGateProjIdeal : Prop :=
  True

def algebraic_PleGateProjIdeal_PleGateProjRefIdeal [hPleGateProjIdeal : Cert.PleGateProjIdeal.Facts] [hPleGateProjRefIdeal : Cert.PleGateProjRefIdeal.Facts] : Prop :=
  ∀ (m : (ℓ : Loc Cert.PleGateProjIdeal.nD Cert.PleGateProjIdeal.τ Cert.PleGateProjIdeal.sig) → Buf (Elt Ideal) ℓ) (g : Dev Cert.PleGateProjIdeal.nD → PrngReg)
    (m' : (ℓ : Loc Cert.PleGateProjRefIdeal.nD Cert.PleGateProjRefIdeal.τ Cert.PleGateProjRefIdeal.sig) → Buf (Elt Ideal) ℓ) (g' : Dev Cert.PleGateProjRefIdeal.nD → PrngReg), Pre_PleGateProjIdeal m →
    (∀ c : Dev Cert.PleGateProjIdeal.nD,
      m' ((c.tc : Thread Cert.PleGateProjRefIdeal.nD Cert.PleGateProjRefIdeal.τ).loc Cert.PleGateProjRefIdeal.main_arg0) = m ((c.tc : Thread Cert.PleGateProjIdeal.nD Cert.PleGateProjIdeal.τ).loc Cert.PleGateProjIdeal.main_arg0)
      ∧ m' ((c.tc : Thread Cert.PleGateProjRefIdeal.nD Cert.PleGateProjRefIdeal.τ).loc Cert.PleGateProjRefIdeal.main_arg1) = m ((c.tc : Thread Cert.PleGateProjIdeal.nD Cert.PleGateProjIdeal.τ).loc Cert.PleGateProjIdeal.main_arg1)) →
    ∃ (v0 : (c : Dev Cert.PleGateProjIdeal.nD) → Buf (Elt Ideal) ((c.tc : Thread Cert.PleGateProjIdeal.nD Cert.PleGateProjIdeal.τ).loc Cert.PleGateProjIdeal.main_v0)),
      θ_run (Cert.PleGateProjIdeal.defs (F := Ideal)) (onTc (τ := Cert.PleGateProjIdeal.τ) (Cert.PleGateProjIdeal.main (F := Ideal))) ⟨m, fun _ => 0, g⟩ (fun r => ∀ c : Dev Cert.PleGateProjIdeal.nD,
          r.2.mem ((c.tc : Thread Cert.PleGateProjIdeal.nD Cert.PleGateProjIdeal.τ).loc Cert.PleGateProjIdeal.main_v0) = v0 c
          ∧ r.2.mem ((c.tc : Thread Cert.PleGateProjIdeal.nD Cert.PleGateProjIdeal.τ).loc Cert.PleGateProjIdeal.main_arg0) = m ((c.tc : Thread Cert.PleGateProjIdeal.nD Cert.PleGateProjIdeal.τ).loc Cert.PleGateProjIdeal.main_arg0)
          ∧ r.2.mem ((c.tc : Thread Cert.PleGateProjIdeal.nD Cert.PleGateProjIdeal.τ).loc Cert.PleGateProjIdeal.main_arg1) = m ((c.tc : Thread Cert.PleGateProjIdeal.nD Cert.PleGateProjIdeal.τ).loc Cert.PleGateProjIdeal.main_arg1))
      ∧ θ_run (Cert.PleGateProjRefIdeal.defs (F := Ideal)) (onTc (τ := Cert.PleGateProjRefIdeal.τ) (Cert.PleGateProjRefIdeal.main (F := Ideal))) ⟨m', fun _ => 0, g'⟩ (fun r => ∀ c : Dev Cert.PleGateProjRefIdeal.nD,
          r.2.mem ((c.tc : Thread Cert.PleGateProjRefIdeal.nD Cert.PleGateProjRefIdeal.τ).loc Cert.PleGateProjRefIdeal.main_v4) = v0 c
          ∧ r.2.mem ((c.tc : Thread Cert.PleGateProjRefIdeal.nD Cert.PleGateProjRefIdeal.τ).loc Cert.PleGateProjRefIdeal.main_arg0) = m' ((c.tc : Thread Cert.PleGateProjRefIdeal.nD Cert.PleGateProjRefIdeal.τ).loc Cert.PleGateProjRefIdeal.main_arg0)
          ∧ r.2.mem ((c.tc : Thread Cert.PleGateProjRefIdeal.nD Cert.PleGateProjRefIdeal.τ).loc Cert.PleGateProjRefIdeal.main_arg1) = m' ((c.tc : Thread Cert.PleGateProjRefIdeal.nD Cert.PleGateProjRefIdeal.τ).loc Cert.PleGateProjRefIdeal.main_arg1))

def preserves_PleProj_PleProjIdeal : Prop :=
  True

def algebraic_PleProjIdeal_PleProjRefIdeal [hPleProjIdeal : Cert.PleProjIdeal.Facts] [hPleProjRefIdeal : Cert.PleProjRefIdeal.Facts] : Prop :=
  ∀ (m : (ℓ : Loc Cert.PleProjIdeal.nD Cert.PleProjIdeal.τ Cert.PleProjIdeal.sig) → Buf (Elt Ideal) ℓ) (g : Dev Cert.PleProjIdeal.nD → PrngReg)
    (m' : (ℓ : Loc Cert.PleProjRefIdeal.nD Cert.PleProjRefIdeal.τ Cert.PleProjRefIdeal.sig) → Buf (Elt Ideal) ℓ) (g' : Dev Cert.PleProjRefIdeal.nD → PrngReg), Pre_PleProjIdeal m →
    (∀ c : Dev Cert.PleProjIdeal.nD,
      m' ((c.tc : Thread Cert.PleProjRefIdeal.nD Cert.PleProjRefIdeal.τ).loc Cert.PleProjRefIdeal.main_arg0) = m ((c.tc : Thread Cert.PleProjIdeal.nD Cert.PleProjIdeal.τ).loc Cert.PleProjIdeal.main_arg0)
      ∧ m' ((c.tc : Thread Cert.PleProjRefIdeal.nD Cert.PleProjRefIdeal.τ).loc Cert.PleProjRefIdeal.main_arg1) = m ((c.tc : Thread Cert.PleProjIdeal.nD Cert.PleProjIdeal.τ).loc Cert.PleProjIdeal.main_arg1)) →
    ∃ (v0 : (c : Dev Cert.PleProjIdeal.nD) → Buf (Elt Ideal) ((c.tc : Thread Cert.PleProjIdeal.nD Cert.PleProjIdeal.τ).loc Cert.PleProjIdeal.main_v0)),
      θ_run (Cert.PleProjIdeal.defs (F := Ideal)) (onTc (τ := Cert.PleProjIdeal.τ) (Cert.PleProjIdeal.main (F := Ideal))) ⟨m, fun _ => 0, g⟩ (fun r => ∀ c : Dev Cert.PleProjIdeal.nD,
          r.2.mem ((c.tc : Thread Cert.PleProjIdeal.nD Cert.PleProjIdeal.τ).loc Cert.PleProjIdeal.main_v0) = v0 c
          ∧ r.2.mem ((c.tc : Thread Cert.PleProjIdeal.nD Cert.PleProjIdeal.τ).loc Cert.PleProjIdeal.main_arg0) = m ((c.tc : Thread Cert.PleProjIdeal.nD Cert.PleProjIdeal.τ).loc Cert.PleProjIdeal.main_arg0)
          ∧ r.2.mem ((c.tc : Thread Cert.PleProjIdeal.nD Cert.PleProjIdeal.τ).loc Cert.PleProjIdeal.main_arg1) = m ((c.tc : Thread Cert.PleProjIdeal.nD Cert.PleProjIdeal.τ).loc Cert.PleProjIdeal.main_arg1))
      ∧ θ_run (Cert.PleProjRefIdeal.defs (F := Ideal)) (onTc (τ := Cert.PleProjRefIdeal.τ) (Cert.PleProjRefIdeal.main (F := Ideal))) ⟨m', fun _ => 0, g'⟩ (fun r => ∀ c : Dev Cert.PleProjRefIdeal.nD,
          r.2.mem ((c.tc : Thread Cert.PleProjRefIdeal.nD Cert.PleProjRefIdeal.τ).loc Cert.PleProjRefIdeal.main_v4) = v0 c
          ∧ r.2.mem ((c.tc : Thread Cert.PleProjRefIdeal.nD Cert.PleProjRefIdeal.τ).loc Cert.PleProjRefIdeal.main_arg0) = m' ((c.tc : Thread Cert.PleProjRefIdeal.nD Cert.PleProjRefIdeal.τ).loc Cert.PleProjRefIdeal.main_arg0)
          ∧ r.2.mem ((c.tc : Thread Cert.PleProjRefIdeal.nD Cert.PleProjRefIdeal.τ).loc Cert.PleProjRefIdeal.main_arg1) = m' ((c.tc : Thread Cert.PleProjRefIdeal.nD Cert.PleProjRefIdeal.τ).loc Cert.PleProjRefIdeal.main_arg1))

def preserves_OutProj_OutProjIdeal : Prop :=
  True

def algebraic_OutProjIdeal_OutProjRefIdeal [hOutProjIdeal : Cert.OutProjIdeal.Facts] [hOutProjRefIdeal : Cert.OutProjRefIdeal.Facts] : Prop :=
  ∀ (m : (ℓ : Loc Cert.OutProjIdeal.nD Cert.OutProjIdeal.τ Cert.OutProjIdeal.sig) → Buf (Elt Ideal) ℓ) (g : Dev Cert.OutProjIdeal.nD → PrngReg)
    (m' : (ℓ : Loc Cert.OutProjRefIdeal.nD Cert.OutProjRefIdeal.τ Cert.OutProjRefIdeal.sig) → Buf (Elt Ideal) ℓ) (g' : Dev Cert.OutProjRefIdeal.nD → PrngReg), Pre_OutProjIdeal m →
    (∀ c : Dev Cert.OutProjIdeal.nD,
      m' ((c.tc : Thread Cert.OutProjRefIdeal.nD Cert.OutProjRefIdeal.τ).loc Cert.OutProjRefIdeal.main_arg0) = m ((c.tc : Thread Cert.OutProjIdeal.nD Cert.OutProjIdeal.τ).loc Cert.OutProjIdeal.main_arg0)
      ∧ m' ((c.tc : Thread Cert.OutProjRefIdeal.nD Cert.OutProjRefIdeal.τ).loc Cert.OutProjRefIdeal.main_arg1) = m ((c.tc : Thread Cert.OutProjIdeal.nD Cert.OutProjIdeal.τ).loc Cert.OutProjIdeal.main_arg1)
      ∧ m' ((c.tc : Thread Cert.OutProjRefIdeal.nD Cert.OutProjRefIdeal.τ).loc Cert.OutProjRefIdeal.main_arg2) = m ((c.tc : Thread Cert.OutProjIdeal.nD Cert.OutProjIdeal.τ).loc Cert.OutProjIdeal.main_arg2)
      ∧ m' ((c.tc : Thread Cert.OutProjRefIdeal.nD Cert.OutProjRefIdeal.τ).loc Cert.OutProjRefIdeal.main_arg3) = m ((c.tc : Thread Cert.OutProjIdeal.nD Cert.OutProjIdeal.τ).loc Cert.OutProjIdeal.main_arg3)) →
    ∃ (v0 : (c : Dev Cert.OutProjIdeal.nD) → Buf (Elt Ideal) ((c.tc : Thread Cert.OutProjIdeal.nD Cert.OutProjIdeal.τ).loc Cert.OutProjIdeal.main_v0_0)) (v1 : (c : Dev Cert.OutProjIdeal.nD) → Buf (Elt Ideal) ((c.tc : Thread Cert.OutProjIdeal.nD Cert.OutProjIdeal.τ).loc Cert.OutProjIdeal.main_v0_1)),
      θ_run (Cert.OutProjIdeal.defs (F := Ideal)) (onTc (τ := Cert.OutProjIdeal.τ) (Cert.OutProjIdeal.main (F := Ideal))) ⟨m, fun _ => 0, g⟩ (fun r => ∀ c : Dev Cert.OutProjIdeal.nD,
          r.2.mem ((c.tc : Thread Cert.OutProjIdeal.nD Cert.OutProjIdeal.τ).loc Cert.OutProjIdeal.main_v0_0) = v0 c
          ∧ r.2.mem ((c.tc : Thread Cert.OutProjIdeal.nD Cert.OutProjIdeal.τ).loc Cert.OutProjIdeal.main_v0_1) = v1 c
          ∧ r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
          ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
          ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2)
          ∧ r.2.mem ((c.tc : Thread Cert.OutProjIdeal.nD Cert.OutProjIdeal.τ).loc Cert.OutProjIdeal.main_arg3) = m ((c.tc : Thread Cert.OutProjIdeal.nD Cert.OutProjIdeal.τ).loc Cert.OutProjIdeal.main_arg3))
      ∧ θ_run (Cert.OutProjRefIdeal.defs (F := Ideal)) (onTc (τ := Cert.OutProjRefIdeal.τ) (Cert.OutProjRefIdeal.main (F := Ideal))) ⟨m', fun _ => 0, g'⟩ (fun r => ∀ c : Dev Cert.OutProjRefIdeal.nD,
          r.2.mem ((c.tc : Thread Cert.OutProjRefIdeal.nD Cert.OutProjRefIdeal.τ).loc Cert.OutProjRefIdeal.main_v4) = v0 c
          ∧ r.2.mem ((c.tc : Thread Cert.OutProjRefIdeal.nD Cert.OutProjRefIdeal.τ).loc Cert.OutProjRefIdeal.main_v19) = v1 c
          ∧ r.2.mem ((c.tc : Thread Cert.OutProjRefIdeal.nD Cert.OutProjRefIdeal.τ).loc Cert.OutProjRefIdeal.main_arg0) = m' ((c.tc : Thread Cert.OutProjRefIdeal.nD Cert.OutProjRefIdeal.τ).loc Cert.OutProjRefIdeal.main_arg0)
          ∧ r.2.mem ((c.tc : Thread Cert.OutProjRefIdeal.nD Cert.OutProjRefIdeal.τ).loc Cert.OutProjRefIdeal.main_arg1) = m' ((c.tc : Thread Cert.OutProjRefIdeal.nD Cert.OutProjRefIdeal.τ).loc Cert.OutProjRefIdeal.main_arg1)
          ∧ r.2.mem ((c.tc : Thread Cert.OutProjRefIdeal.nD Cert.OutProjRefIdeal.τ).loc Cert.OutProjRefIdeal.main_arg2) = m' ((c.tc : Thread Cert.OutProjRefIdeal.nD Cert.OutProjRefIdeal.τ).loc Cert.OutProjRefIdeal.main_arg2)
          ∧ r.2.mem ((c.tc : Thread Cert.OutProjRefIdeal.nD Cert.OutProjRefIdeal.τ).loc Cert.OutProjRefIdeal.main_arg3) = m' ((c.tc : Thread Cert.OutProjRefIdeal.nD Cert.OutProjRefIdeal.τ).loc Cert.OutProjRefIdeal.main_arg3))

def preserves_DownProj_DownProjIdeal : Prop :=
  True

def algebraic_DownProjIdeal_DownProjRefIdeal [hDownProjIdeal : Cert.DownProjIdeal.Facts] [hDownProjRefIdeal : Cert.DownProjRefIdeal.Facts] : Prop :=
  ∀ (m : (ℓ : Loc Cert.DownProjIdeal.nD Cert.DownProjIdeal.τ Cert.DownProjIdeal.sig) → Buf (Elt Ideal) ℓ) (g : Dev Cert.DownProjIdeal.nD → PrngReg)
    (m' : (ℓ : Loc Cert.DownProjRefIdeal.nD Cert.DownProjRefIdeal.τ Cert.DownProjRefIdeal.sig) → Buf (Elt Ideal) ℓ) (g' : Dev Cert.DownProjRefIdeal.nD → PrngReg), Pre_DownProjIdeal m →
    (∀ c : Dev Cert.DownProjIdeal.nD,
      m' ((c.tc : Thread Cert.DownProjRefIdeal.nD Cert.DownProjRefIdeal.τ).loc Cert.DownProjRefIdeal.main_arg0) = m ((c.tc : Thread Cert.DownProjIdeal.nD Cert.DownProjIdeal.τ).loc Cert.DownProjIdeal.main_arg0)
      ∧ m' ((c.tc : Thread Cert.DownProjRefIdeal.nD Cert.DownProjRefIdeal.τ).loc Cert.DownProjRefIdeal.main_arg1) = m ((c.tc : Thread Cert.DownProjIdeal.nD Cert.DownProjIdeal.τ).loc Cert.DownProjIdeal.main_arg1)
      ∧ m' ((c.tc : Thread Cert.DownProjRefIdeal.nD Cert.DownProjRefIdeal.τ).loc Cert.DownProjRefIdeal.main_arg2) = m ((c.tc : Thread Cert.DownProjIdeal.nD Cert.DownProjIdeal.τ).loc Cert.DownProjIdeal.main_arg2)
      ∧ m' ((c.tc : Thread Cert.DownProjRefIdeal.nD Cert.DownProjRefIdeal.τ).loc Cert.DownProjRefIdeal.main_arg3) = m ((c.tc : Thread Cert.DownProjIdeal.nD Cert.DownProjIdeal.τ).loc Cert.DownProjIdeal.main_arg3)) →
    ∃ (v0 : (c : Dev Cert.DownProjIdeal.nD) → Buf (Elt Ideal) ((c.tc : Thread Cert.DownProjIdeal.nD Cert.DownProjIdeal.τ).loc Cert.DownProjIdeal.main_v0_0)) (v1 : (c : Dev Cert.DownProjIdeal.nD) → Buf (Elt Ideal) ((c.tc : Thread Cert.DownProjIdeal.nD Cert.DownProjIdeal.τ).loc Cert.DownProjIdeal.main_v0_1)),
      θ_run (Cert.DownProjIdeal.defs (F := Ideal)) (onTc (τ := Cert.DownProjIdeal.τ) (Cert.DownProjIdeal.main (F := Ideal))) ⟨m, fun _ => 0, g⟩ (fun r => ∀ c : Dev Cert.DownProjIdeal.nD,
          r.2.mem ((c.tc : Thread Cert.DownProjIdeal.nD Cert.DownProjIdeal.τ).loc Cert.DownProjIdeal.main_v0_0) = v0 c
          ∧ r.2.mem ((c.tc : Thread Cert.DownProjIdeal.nD Cert.DownProjIdeal.τ).loc Cert.DownProjIdeal.main_v0_1) = v1 c
          ∧ r.2.mem ((c.tc : Thread Cert.DownProjIdeal.nD Cert.DownProjIdeal.τ).loc Cert.DownProjIdeal.main_arg0) = m ((c.tc : Thread Cert.DownProjIdeal.nD Cert.DownProjIdeal.τ).loc Cert.DownProjIdeal.main_arg0)
          ∧ r.2.mem ((c.tc : Thread Cert.DownProjIdeal.nD Cert.DownProjIdeal.τ).loc Cert.DownProjIdeal.main_arg1) = m ((c.tc : Thread Cert.DownProjIdeal.nD Cert.DownProjIdeal.τ).loc Cert.DownProjIdeal.main_arg1)
          ∧ r.2.mem ((c.tc : Thread Cert.DownProjIdeal.nD Cert.DownProjIdeal.τ).loc Cert.DownProjIdeal.main_arg2) = m ((c.tc : Thread Cert.DownProjIdeal.nD Cert.DownProjIdeal.τ).loc Cert.DownProjIdeal.main_arg2)
          ∧ r.2.mem ((c.tc : Thread Cert.DownProjIdeal.nD Cert.DownProjIdeal.τ).loc Cert.DownProjIdeal.main_arg3) = m ((c.tc : Thread Cert.DownProjIdeal.nD Cert.DownProjIdeal.τ).loc Cert.DownProjIdeal.main_arg3))
      ∧ θ_run (Cert.DownProjRefIdeal.defs (F := Ideal)) (onTc (τ := Cert.DownProjRefIdeal.τ) (Cert.DownProjRefIdeal.main (F := Ideal))) ⟨m', fun _ => 0, g'⟩ (fun r => ∀ c : Dev Cert.DownProjRefIdeal.nD,
          r.2.mem ((c.tc : Thread Cert.DownProjRefIdeal.nD Cert.DownProjRefIdeal.τ).loc Cert.DownProjRefIdeal.main_v4) = v0 c
          ∧ r.2.mem ((c.tc : Thread Cert.DownProjRefIdeal.nD Cert.DownProjRefIdeal.τ).loc Cert.DownProjRefIdeal.main_v19) = v1 c
          ∧ r.2.mem ((c.tc : Thread Cert.DownProjRefIdeal.nD Cert.DownProjRefIdeal.τ).loc Cert.DownProjRefIdeal.main_arg0) = m' ((c.tc : Thread Cert.DownProjRefIdeal.nD Cert.DownProjRefIdeal.τ).loc Cert.DownProjRefIdeal.main_arg0)
          ∧ r.2.mem ((c.tc : Thread Cert.DownProjRefIdeal.nD Cert.DownProjRefIdeal.τ).loc Cert.DownProjRefIdeal.main_arg1) = m' ((c.tc : Thread Cert.DownProjRefIdeal.nD Cert.DownProjRefIdeal.τ).loc Cert.DownProjRefIdeal.main_arg1)
          ∧ r.2.mem ((c.tc : Thread Cert.DownProjRefIdeal.nD Cert.DownProjRefIdeal.τ).loc Cert.DownProjRefIdeal.main_arg2) = m' ((c.tc : Thread Cert.DownProjRefIdeal.nD Cert.DownProjRefIdeal.τ).loc Cert.DownProjRefIdeal.main_arg2)
          ∧ r.2.mem ((c.tc : Thread Cert.DownProjRefIdeal.nD Cert.DownProjRefIdeal.τ).loc Cert.DownProjRefIdeal.main_arg3) = m' ((c.tc : Thread Cert.DownProjRefIdeal.nD Cert.DownProjRefIdeal.τ).loc Cert.DownProjRefIdeal.main_arg3))

def preserves_WPle_WPleIdeal : Prop :=
  True

def algebraic_WPleIdeal_WPleRefIdeal [hWPleIdeal : Cert.WPleIdeal.Facts] [hWPleRefIdeal : Cert.WPleRefIdeal.Facts] : Prop :=
  ∀ (m : (ℓ : Loc Cert.WPleIdeal.nD Cert.WPleIdeal.τ Cert.WPleIdeal.sig) → Buf (Elt Ideal) ℓ) (g : Dev Cert.WPleIdeal.nD → PrngReg)
    (m' : (ℓ : Loc Cert.WPleRefIdeal.nD Cert.WPleRefIdeal.τ Cert.WPleRefIdeal.sig) → Buf (Elt Ideal) ℓ) (g' : Dev Cert.WPleRefIdeal.nD → PrngReg), Pre_WPleIdeal m →
    (∀ c : Dev Cert.WPleIdeal.nD,
      m' ((c.tc : Thread Cert.WPleRefIdeal.nD Cert.WPleRefIdeal.τ).loc Cert.WPleRefIdeal.main_arg0) = m ((c.tc : Thread Cert.WPleIdeal.nD Cert.WPleIdeal.τ).loc Cert.WPleIdeal.main_arg0)
      ∧ m' ((c.tc : Thread Cert.WPleRefIdeal.nD Cert.WPleRefIdeal.τ).loc Cert.WPleRefIdeal.main_arg1) = m ((c.tc : Thread Cert.WPleIdeal.nD Cert.WPleIdeal.τ).loc Cert.WPleIdeal.main_arg1)) →
    ∃ (v0 : (c : Dev Cert.WPleIdeal.nD) → Buf (Elt Ideal) ((c.tc : Thread Cert.WPleIdeal.nD Cert.WPleIdeal.τ).loc Cert.WPleIdeal.main_v0)),
      θ_run (Cert.WPleIdeal.defs (F := Ideal)) (onTc (τ := Cert.WPleIdeal.τ) (Cert.WPleIdeal.main (F := Ideal))) ⟨m, fun _ => 0, g⟩ (fun r => ∀ c : Dev Cert.WPleIdeal.nD,
          r.2.mem ((c.tc : Thread Cert.WPleIdeal.nD Cert.WPleIdeal.τ).loc Cert.WPleIdeal.main_v0) = v0 c
          ∧ r.2.mem ((c.tc : Thread Cert.WPleIdeal.nD Cert.WPleIdeal.τ).loc Cert.WPleIdeal.main_arg0) = m ((c.tc : Thread Cert.WPleIdeal.nD Cert.WPleIdeal.τ).loc Cert.WPleIdeal.main_arg0)
          ∧ r.2.mem ((c.tc : Thread Cert.WPleIdeal.nD Cert.WPleIdeal.τ).loc Cert.WPleIdeal.main_arg1) = m ((c.tc : Thread Cert.WPleIdeal.nD Cert.WPleIdeal.τ).loc Cert.WPleIdeal.main_arg1))
      ∧ θ_run (Cert.WPleRefIdeal.defs (F := Ideal)) (onTc (τ := Cert.WPleRefIdeal.τ) (Cert.WPleRefIdeal.main (F := Ideal))) ⟨m', fun _ => 0, g'⟩ (fun r => ∀ c : Dev Cert.WPleRefIdeal.nD,
          r.2.mem ((c.tc : Thread Cert.WPleRefIdeal.nD Cert.WPleRefIdeal.τ).loc Cert.WPleRefIdeal.main_v7) = v0 c
          ∧ r.2.mem ((c.tc : Thread Cert.WPleRefIdeal.nD Cert.WPleRefIdeal.τ).loc Cert.WPleRefIdeal.main_arg0) = m' ((c.tc : Thread Cert.WPleRefIdeal.nD Cert.WPleRefIdeal.τ).loc Cert.WPleRefIdeal.main_arg0)
          ∧ r.2.mem ((c.tc : Thread Cert.WPleRefIdeal.nD Cert.WPleRefIdeal.τ).loc Cert.WPleRefIdeal.main_arg1) = m' ((c.tc : Thread Cert.WPleRefIdeal.nD Cert.WPleRefIdeal.τ).loc Cert.WPleRefIdeal.main_arg1))

def preserves_AdamIn_AdamInIdeal : Prop :=
  True

def algebraic_AdamInIdeal_AdamInRefIdeal [hAdamInIdeal : Cert.AdamInIdeal.Facts] [hAdamInRefIdeal : Cert.AdamInRefIdeal.Facts] : Prop :=
  ∀ (m : (ℓ : Loc Cert.AdamInIdeal.nD Cert.AdamInIdeal.τ Cert.AdamInIdeal.sig) → Buf (Elt Ideal) ℓ) (g : Dev Cert.AdamInIdeal.nD → PrngReg)
    (m' : (ℓ : Loc Cert.AdamInRefIdeal.nD Cert.AdamInRefIdeal.τ Cert.AdamInRefIdeal.sig) → Buf (Elt Ideal) ℓ) (g' : Dev Cert.AdamInRefIdeal.nD → PrngReg), Pre_AdamInIdeal m →
    (∀ c : Dev Cert.AdamInIdeal.nD,
      m' ((c.tc : Thread Cert.AdamInRefIdeal.nD Cert.AdamInRefIdeal.τ).loc Cert.AdamInRefIdeal.main_arg0) = m ((c.tc : Thread Cert.AdamInIdeal.nD Cert.AdamInIdeal.τ).loc Cert.AdamInIdeal.main_arg0)
      ∧ m' ((c.tc : Thread Cert.AdamInRefIdeal.nD Cert.AdamInRefIdeal.τ).loc Cert.AdamInRefIdeal.main_arg1) = m ((c.tc : Thread Cert.AdamInIdeal.nD Cert.AdamInIdeal.τ).loc Cert.AdamInIdeal.main_arg1)
      ∧ m' ((c.tc : Thread Cert.AdamInRefIdeal.nD Cert.AdamInRefIdeal.τ).loc Cert.AdamInRefIdeal.main_arg2) = m ((c.tc : Thread Cert.AdamInIdeal.nD Cert.AdamInIdeal.τ).loc Cert.AdamInIdeal.main_arg2)
      ∧ m' ((c.tc : Thread Cert.AdamInRefIdeal.nD Cert.AdamInRefIdeal.τ).loc Cert.AdamInRefIdeal.main_arg3) = m ((c.tc : Thread Cert.AdamInIdeal.nD Cert.AdamInIdeal.τ).loc Cert.AdamInIdeal.main_arg3)) →
    ∃ (v0 : (c : Dev Cert.AdamInIdeal.nD) → Buf (Elt Ideal) ((c.tc : Thread Cert.AdamInIdeal.nD Cert.AdamInIdeal.τ).loc Cert.AdamInIdeal.main_v0_0)) (v1 : (c : Dev Cert.AdamInIdeal.nD) → Buf (Elt Ideal) ((c.tc : Thread Cert.AdamInIdeal.nD Cert.AdamInIdeal.τ).loc Cert.AdamInIdeal.main_v0_1)) (v2 : (c : Dev Cert.AdamInIdeal.nD) → Buf (Elt Ideal) ((c.tc : Thread Cert.AdamInIdeal.nD Cert.AdamInIdeal.τ).loc Cert.AdamInIdeal.main_v0_2)) (v3 : (c : Dev Cert.AdamInIdeal.nD) → Buf (Elt Ideal) ((c.tc : Thread Cert.AdamInIdeal.nD Cert.AdamInIdeal.τ).loc Cert.AdamInIdeal.main_v0_3)),
      θ_run (Cert.AdamInIdeal.defs (F := Ideal)) (onTc (τ := Cert.AdamInIdeal.τ) (Cert.AdamInIdeal.main (F := Ideal))) ⟨m, fun _ => 0, g⟩ (fun r => ∀ c : Dev Cert.AdamInIdeal.nD,
          r.2.mem ((c.tc : Thread Cert.AdamInIdeal.nD Cert.AdamInIdeal.τ).loc Cert.AdamInIdeal.main_v0_0) = v0 c
          ∧ r.2.mem ((c.tc : Thread Cert.AdamInIdeal.nD Cert.AdamInIdeal.τ).loc Cert.AdamInIdeal.main_v0_1) = v1 c
          ∧ r.2.mem ((c.tc : Thread Cert.AdamInIdeal.nD Cert.AdamInIdeal.τ).loc Cert.AdamInIdeal.main_v0_2) = v2 c
          ∧ r.2.mem ((c.tc : Thread Cert.AdamInIdeal.nD Cert.AdamInIdeal.τ).loc Cert.AdamInIdeal.main_v0_3) = v3 c
          ∧ r.2.mem ((c.tc : Thread Cert.AdamInIdeal.nD Cert.AdamInIdeal.τ).loc Cert.AdamInIdeal.main_arg0) = m ((c.tc : Thread Cert.AdamInIdeal.nD Cert.AdamInIdeal.τ).loc Cert.AdamInIdeal.main_arg0)
          ∧ r.2.mem ((c.tc : Thread Cert.AdamInIdeal.nD Cert.AdamInIdeal.τ).loc Cert.AdamInIdeal.main_arg1) = m ((c.tc : Thread Cert.AdamInIdeal.nD Cert.AdamInIdeal.τ).loc Cert.AdamInIdeal.main_arg1)
          ∧ r.2.mem ((c.tc : Thread Cert.AdamInIdeal.nD Cert.AdamInIdeal.τ).loc Cert.AdamInIdeal.main_arg2) = m ((c.tc : Thread Cert.AdamInIdeal.nD Cert.AdamInIdeal.τ).loc Cert.AdamInIdeal.main_arg2)
          ∧ r.2.mem ((c.tc : Thread Cert.AdamInIdeal.nD Cert.AdamInIdeal.τ).loc Cert.AdamInIdeal.main_arg3) = m ((c.tc : Thread Cert.AdamInIdeal.nD Cert.AdamInIdeal.τ).loc Cert.AdamInIdeal.main_arg3))
      ∧ θ_run (Cert.AdamInRefIdeal.defs (F := Ideal)) (onTc (τ := Cert.AdamInRefIdeal.τ) (Cert.AdamInRefIdeal.main (F := Ideal))) ⟨m', fun _ => 0, g'⟩ (fun r => ∀ c : Dev Cert.AdamInRefIdeal.nD,
          r.2.mem ((c.tc : Thread Cert.AdamInRefIdeal.nD Cert.AdamInRefIdeal.τ).loc Cert.AdamInRefIdeal.main_v23) = v0 c
          ∧ r.2.mem ((c.tc : Thread Cert.AdamInRefIdeal.nD Cert.AdamInRefIdeal.τ).loc Cert.AdamInRefIdeal.main_v4) = v1 c
          ∧ r.2.mem ((c.tc : Thread Cert.AdamInRefIdeal.nD Cert.AdamInRefIdeal.τ).loc Cert.AdamInRefIdeal.main_v10) = v2 c
          ∧ r.2.mem ((c.tc : Thread Cert.AdamInRefIdeal.nD Cert.AdamInRefIdeal.τ).loc Cert.AdamInRefIdeal.main_arg1) = v3 c
          ∧ r.2.mem ((c.tc : Thread Cert.AdamInRefIdeal.nD Cert.AdamInRefIdeal.τ).loc Cert.AdamInRefIdeal.main_arg0) = m' ((c.tc : Thread Cert.AdamInRefIdeal.nD Cert.AdamInRefIdeal.τ).loc Cert.AdamInRefIdeal.main_arg0)
          ∧ r.2.mem ((c.tc : Thread Cert.AdamInRefIdeal.nD Cert.AdamInRefIdeal.τ).loc Cert.AdamInRefIdeal.main_arg1) = m' ((c.tc : Thread Cert.AdamInRefIdeal.nD Cert.AdamInRefIdeal.τ).loc Cert.AdamInRefIdeal.main_arg1)
          ∧ r.2.mem ((c.tc : Thread Cert.AdamInRefIdeal.nD Cert.AdamInRefIdeal.τ).loc Cert.AdamInRefIdeal.main_arg2) = m' ((c.tc : Thread Cert.AdamInRefIdeal.nD Cert.AdamInRefIdeal.τ).loc Cert.AdamInRefIdeal.main_arg2)
          ∧ r.2.mem ((c.tc : Thread Cert.AdamInRefIdeal.nD Cert.AdamInRefIdeal.τ).loc Cert.AdamInRefIdeal.main_arg3) = m' ((c.tc : Thread Cert.AdamInRefIdeal.nD Cert.AdamInRefIdeal.τ).loc Cert.AdamInRefIdeal.main_arg3))

def preserves_AdamPool_AdamPoolIdeal : Prop :=
  True

def algebraic_AdamPoolIdeal_AdamPoolRefIdeal [hAdamPoolIdeal : Cert.AdamPoolIdeal.Facts] [hAdamPoolRefIdeal : Cert.AdamPoolRefIdeal.Facts] : Prop :=
  ∀ (m : (ℓ : Loc Cert.AdamPoolIdeal.nD Cert.AdamPoolIdeal.τ Cert.AdamPoolIdeal.sig) → Buf (Elt Ideal) ℓ) (g : Dev Cert.AdamPoolIdeal.nD → PrngReg)
    (m' : (ℓ : Loc Cert.AdamPoolRefIdeal.nD Cert.AdamPoolRefIdeal.τ Cert.AdamPoolRefIdeal.sig) → Buf (Elt Ideal) ℓ) (g' : Dev Cert.AdamPoolRefIdeal.nD → PrngReg), Pre_AdamPoolIdeal m →
    (∀ c : Dev Cert.AdamPoolIdeal.nD,
      m' ((c.tc : Thread Cert.AdamPoolRefIdeal.nD Cert.AdamPoolRefIdeal.τ).loc Cert.AdamPoolRefIdeal.main_arg0) = m ((c.tc : Thread Cert.AdamPoolIdeal.nD Cert.AdamPoolIdeal.τ).loc Cert.AdamPoolIdeal.main_arg0)
      ∧ m' ((c.tc : Thread Cert.AdamPoolRefIdeal.nD Cert.AdamPoolRefIdeal.τ).loc Cert.AdamPoolRefIdeal.main_arg1) = m ((c.tc : Thread Cert.AdamPoolIdeal.nD Cert.AdamPoolIdeal.τ).loc Cert.AdamPoolIdeal.main_arg1)
      ∧ m' ((c.tc : Thread Cert.AdamPoolRefIdeal.nD Cert.AdamPoolRefIdeal.τ).loc Cert.AdamPoolRefIdeal.main_arg2) = m ((c.tc : Thread Cert.AdamPoolIdeal.nD Cert.AdamPoolIdeal.τ).loc Cert.AdamPoolIdeal.main_arg2)
      ∧ m' ((c.tc : Thread Cert.AdamPoolRefIdeal.nD Cert.AdamPoolRefIdeal.τ).loc Cert.AdamPoolRefIdeal.main_arg3) = m ((c.tc : Thread Cert.AdamPoolIdeal.nD Cert.AdamPoolIdeal.τ).loc Cert.AdamPoolIdeal.main_arg3)) →
    ∃ (v0 : (c : Dev Cert.AdamPoolIdeal.nD) → Buf (Elt Ideal) ((c.tc : Thread Cert.AdamPoolIdeal.nD Cert.AdamPoolIdeal.τ).loc Cert.AdamPoolIdeal.main_v0_0)) (v1 : (c : Dev Cert.AdamPoolIdeal.nD) → Buf (Elt Ideal) ((c.tc : Thread Cert.AdamPoolIdeal.nD Cert.AdamPoolIdeal.τ).loc Cert.AdamPoolIdeal.main_v0_1)) (v2 : (c : Dev Cert.AdamPoolIdeal.nD) → Buf (Elt Ideal) ((c.tc : Thread Cert.AdamPoolIdeal.nD Cert.AdamPoolIdeal.τ).loc Cert.AdamPoolIdeal.main_v0_2)) (v3 : (c : Dev Cert.AdamPoolIdeal.nD) → Buf (Elt Ideal) ((c.tc : Thread Cert.AdamPoolIdeal.nD Cert.AdamPoolIdeal.τ).loc Cert.AdamPoolIdeal.main_v0_3)),
      θ_run (Cert.AdamPoolIdeal.defs (F := Ideal)) (onTc (τ := Cert.AdamPoolIdeal.τ) (Cert.AdamPoolIdeal.main (F := Ideal))) ⟨m, fun _ => 0, g⟩ (fun r => ∀ c : Dev Cert.AdamPoolIdeal.nD,
          r.2.mem ((c.tc : Thread Cert.AdamPoolIdeal.nD Cert.AdamPoolIdeal.τ).loc Cert.AdamPoolIdeal.main_v0_0) = v0 c
          ∧ r.2.mem ((c.tc : Thread Cert.AdamPoolIdeal.nD Cert.AdamPoolIdeal.τ).loc Cert.AdamPoolIdeal.main_v0_1) = v1 c
          ∧ r.2.mem ((c.tc : Thread Cert.AdamPoolIdeal.nD Cert.AdamPoolIdeal.τ).loc Cert.AdamPoolIdeal.main_v0_2) = v2 c
          ∧ r.2.mem ((c.tc : Thread Cert.AdamPoolIdeal.nD Cert.AdamPoolIdeal.τ).loc Cert.AdamPoolIdeal.main_v0_3) = v3 c
          ∧ r.2.mem ((c.tc : Thread Cert.AdamPoolIdeal.nD Cert.AdamPoolIdeal.τ).loc Cert.AdamPoolIdeal.main_arg0) = m ((c.tc : Thread Cert.AdamPoolIdeal.nD Cert.AdamPoolIdeal.τ).loc Cert.AdamPoolIdeal.main_arg0)
          ∧ r.2.mem ((c.tc : Thread Cert.AdamPoolIdeal.nD Cert.AdamPoolIdeal.τ).loc Cert.AdamPoolIdeal.main_arg1) = m ((c.tc : Thread Cert.AdamPoolIdeal.nD Cert.AdamPoolIdeal.τ).loc Cert.AdamPoolIdeal.main_arg1)
          ∧ r.2.mem ((c.tc : Thread Cert.AdamPoolIdeal.nD Cert.AdamPoolIdeal.τ).loc Cert.AdamPoolIdeal.main_arg2) = m ((c.tc : Thread Cert.AdamPoolIdeal.nD Cert.AdamPoolIdeal.τ).loc Cert.AdamPoolIdeal.main_arg2)
          ∧ r.2.mem ((c.tc : Thread Cert.AdamPoolIdeal.nD Cert.AdamPoolIdeal.τ).loc Cert.AdamPoolIdeal.main_arg3) = m ((c.tc : Thread Cert.AdamPoolIdeal.nD Cert.AdamPoolIdeal.τ).loc Cert.AdamPoolIdeal.main_arg3))
      ∧ θ_run (Cert.AdamPoolRefIdeal.defs (F := Ideal)) (onTc (τ := Cert.AdamPoolRefIdeal.τ) (Cert.AdamPoolRefIdeal.main (F := Ideal))) ⟨m', fun _ => 0, g'⟩ (fun r => ∀ c : Dev Cert.AdamPoolRefIdeal.nD,
          r.2.mem ((c.tc : Thread Cert.AdamPoolRefIdeal.nD Cert.AdamPoolRefIdeal.τ).loc Cert.AdamPoolRefIdeal.main_v23) = v0 c
          ∧ r.2.mem ((c.tc : Thread Cert.AdamPoolRefIdeal.nD Cert.AdamPoolRefIdeal.τ).loc Cert.AdamPoolRefIdeal.main_v4) = v1 c
          ∧ r.2.mem ((c.tc : Thread Cert.AdamPoolRefIdeal.nD Cert.AdamPoolRefIdeal.τ).loc Cert.AdamPoolRefIdeal.main_v10) = v2 c
          ∧ r.2.mem ((c.tc : Thread Cert.AdamPoolRefIdeal.nD Cert.AdamPoolRefIdeal.τ).loc Cert.AdamPoolRefIdeal.main_arg1) = v3 c
          ∧ r.2.mem ((c.tc : Thread Cert.AdamPoolRefIdeal.nD Cert.AdamPoolRefIdeal.τ).loc Cert.AdamPoolRefIdeal.main_arg0) = m' ((c.tc : Thread Cert.AdamPoolRefIdeal.nD Cert.AdamPoolRefIdeal.τ).loc Cert.AdamPoolRefIdeal.main_arg0)
          ∧ r.2.mem ((c.tc : Thread Cert.AdamPoolRefIdeal.nD Cert.AdamPoolRefIdeal.τ).loc Cert.AdamPoolRefIdeal.main_arg1) = m' ((c.tc : Thread Cert.AdamPoolRefIdeal.nD Cert.AdamPoolRefIdeal.τ).loc Cert.AdamPoolRefIdeal.main_arg1)
          ∧ r.2.mem ((c.tc : Thread Cert.AdamPoolRefIdeal.nD Cert.AdamPoolRefIdeal.τ).loc Cert.AdamPoolRefIdeal.main_arg2) = m' ((c.tc : Thread Cert.AdamPoolRefIdeal.nD Cert.AdamPoolRefIdeal.τ).loc Cert.AdamPoolRefIdeal.main_arg2)
          ∧ r.2.mem ((c.tc : Thread Cert.AdamPoolRefIdeal.nD Cert.AdamPoolRefIdeal.τ).loc Cert.AdamPoolRefIdeal.main_arg3) = m' ((c.tc : Thread Cert.AdamPoolRefIdeal.nD Cert.AdamPoolRefIdeal.τ).loc Cert.AdamPoolRefIdeal.main_arg3))

def preserves_AdamOut_AdamOutIdeal : Prop :=
  True

def algebraic_AdamOutIdeal_AdamOutRefIdeal [hAdamOutIdeal : Cert.AdamOutIdeal.Facts] [hAdamOutRefIdeal : Cert.AdamOutRefIdeal.Facts] : Prop :=
  ∀ (m : (ℓ : Loc Cert.AdamOutIdeal.nD Cert.AdamOutIdeal.τ Cert.AdamOutIdeal.sig) → Buf (Elt Ideal) ℓ) (g : Dev Cert.AdamOutIdeal.nD → PrngReg)
    (m' : (ℓ : Loc Cert.AdamOutRefIdeal.nD Cert.AdamOutRefIdeal.τ Cert.AdamOutRefIdeal.sig) → Buf (Elt Ideal) ℓ) (g' : Dev Cert.AdamOutRefIdeal.nD → PrngReg), Pre_AdamOutIdeal m →
    (∀ c : Dev Cert.AdamOutIdeal.nD,
      m' ((c.tc : Thread Cert.AdamOutRefIdeal.nD Cert.AdamOutRefIdeal.τ).loc Cert.AdamOutRefIdeal.main_arg0) = m ((c.tc : Thread Cert.AdamOutIdeal.nD Cert.AdamOutIdeal.τ).loc Cert.AdamOutIdeal.main_arg0)
      ∧ m' ((c.tc : Thread Cert.AdamOutRefIdeal.nD Cert.AdamOutRefIdeal.τ).loc Cert.AdamOutRefIdeal.main_arg1) = m ((c.tc : Thread Cert.AdamOutIdeal.nD Cert.AdamOutIdeal.τ).loc Cert.AdamOutIdeal.main_arg1)
      ∧ m' ((c.tc : Thread Cert.AdamOutRefIdeal.nD Cert.AdamOutRefIdeal.τ).loc Cert.AdamOutRefIdeal.main_arg2) = m ((c.tc : Thread Cert.AdamOutIdeal.nD Cert.AdamOutIdeal.τ).loc Cert.AdamOutIdeal.main_arg2)
      ∧ m' ((c.tc : Thread Cert.AdamOutRefIdeal.nD Cert.AdamOutRefIdeal.τ).loc Cert.AdamOutRefIdeal.main_arg3) = m ((c.tc : Thread Cert.AdamOutIdeal.nD Cert.AdamOutIdeal.τ).loc Cert.AdamOutIdeal.main_arg3)) →
    ∃ (v0 : (c : Dev Cert.AdamOutIdeal.nD) → Buf (Elt Ideal) ((c.tc : Thread Cert.AdamOutIdeal.nD Cert.AdamOutIdeal.τ).loc Cert.AdamOutIdeal.main_v0_0)) (v1 : (c : Dev Cert.AdamOutIdeal.nD) → Buf (Elt Ideal) ((c.tc : Thread Cert.AdamOutIdeal.nD Cert.AdamOutIdeal.τ).loc Cert.AdamOutIdeal.main_v0_1)) (v2 : (c : Dev Cert.AdamOutIdeal.nD) → Buf (Elt Ideal) ((c.tc : Thread Cert.AdamOutIdeal.nD Cert.AdamOutIdeal.τ).loc Cert.AdamOutIdeal.main_v0_2)) (v3 : (c : Dev Cert.AdamOutIdeal.nD) → Buf (Elt Ideal) ((c.tc : Thread Cert.AdamOutIdeal.nD Cert.AdamOutIdeal.τ).loc Cert.AdamOutIdeal.main_v0_3)),
      θ_run (Cert.AdamOutIdeal.defs (F := Ideal)) (onTc (τ := Cert.AdamOutIdeal.τ) (Cert.AdamOutIdeal.main (F := Ideal))) ⟨m, fun _ => 0, g⟩ (fun r => ∀ c : Dev Cert.AdamOutIdeal.nD,
          r.2.mem ((c.tc : Thread Cert.AdamOutIdeal.nD Cert.AdamOutIdeal.τ).loc Cert.AdamOutIdeal.main_v0_0) = v0 c
          ∧ r.2.mem ((c.tc : Thread Cert.AdamOutIdeal.nD Cert.AdamOutIdeal.τ).loc Cert.AdamOutIdeal.main_v0_1) = v1 c
          ∧ r.2.mem ((c.tc : Thread Cert.AdamOutIdeal.nD Cert.AdamOutIdeal.τ).loc Cert.AdamOutIdeal.main_v0_2) = v2 c
          ∧ r.2.mem ((c.tc : Thread Cert.AdamOutIdeal.nD Cert.AdamOutIdeal.τ).loc Cert.AdamOutIdeal.main_v0_3) = v3 c
          ∧ r.2.mem ((c.tc : Thread Cert.AdamOutIdeal.nD Cert.AdamOutIdeal.τ).loc Cert.AdamOutIdeal.main_arg0) = m ((c.tc : Thread Cert.AdamOutIdeal.nD Cert.AdamOutIdeal.τ).loc Cert.AdamOutIdeal.main_arg0)
          ∧ r.2.mem ((c.tc : Thread Cert.AdamOutIdeal.nD Cert.AdamOutIdeal.τ).loc Cert.AdamOutIdeal.main_arg1) = m ((c.tc : Thread Cert.AdamOutIdeal.nD Cert.AdamOutIdeal.τ).loc Cert.AdamOutIdeal.main_arg1)
          ∧ r.2.mem ((c.tc : Thread Cert.AdamOutIdeal.nD Cert.AdamOutIdeal.τ).loc Cert.AdamOutIdeal.main_arg2) = m ((c.tc : Thread Cert.AdamOutIdeal.nD Cert.AdamOutIdeal.τ).loc Cert.AdamOutIdeal.main_arg2)
          ∧ r.2.mem ((c.tc : Thread Cert.AdamOutIdeal.nD Cert.AdamOutIdeal.τ).loc Cert.AdamOutIdeal.main_arg3) = m ((c.tc : Thread Cert.AdamOutIdeal.nD Cert.AdamOutIdeal.τ).loc Cert.AdamOutIdeal.main_arg3))
      ∧ θ_run (Cert.AdamOutRefIdeal.defs (F := Ideal)) (onTc (τ := Cert.AdamOutRefIdeal.τ) (Cert.AdamOutRefIdeal.main (F := Ideal))) ⟨m', fun _ => 0, g'⟩ (fun r => ∀ c : Dev Cert.AdamOutRefIdeal.nD,
          r.2.mem ((c.tc : Thread Cert.AdamOutRefIdeal.nD Cert.AdamOutRefIdeal.τ).loc Cert.AdamOutRefIdeal.main_v23) = v0 c
          ∧ r.2.mem ((c.tc : Thread Cert.AdamOutRefIdeal.nD Cert.AdamOutRefIdeal.τ).loc Cert.AdamOutRefIdeal.main_v4) = v1 c
          ∧ r.2.mem ((c.tc : Thread Cert.AdamOutRefIdeal.nD Cert.AdamOutRefIdeal.τ).loc Cert.AdamOutRefIdeal.main_v10) = v2 c
          ∧ r.2.mem ((c.tc : Thread Cert.AdamOutRefIdeal.nD Cert.AdamOutRefIdeal.τ).loc Cert.AdamOutRefIdeal.main_arg1) = v3 c
          ∧ r.2.mem ((c.tc : Thread Cert.AdamOutRefIdeal.nD Cert.AdamOutRefIdeal.τ).loc Cert.AdamOutRefIdeal.main_arg0) = m' ((c.tc : Thread Cert.AdamOutRefIdeal.nD Cert.AdamOutRefIdeal.τ).loc Cert.AdamOutRefIdeal.main_arg0)
          ∧ r.2.mem ((c.tc : Thread Cert.AdamOutRefIdeal.nD Cert.AdamOutRefIdeal.τ).loc Cert.AdamOutRefIdeal.main_arg1) = m' ((c.tc : Thread Cert.AdamOutRefIdeal.nD Cert.AdamOutRefIdeal.τ).loc Cert.AdamOutRefIdeal.main_arg1)
          ∧ r.2.mem ((c.tc : Thread Cert.AdamOutRefIdeal.nD Cert.AdamOutRefIdeal.τ).loc Cert.AdamOutRefIdeal.main_arg2) = m' ((c.tc : Thread Cert.AdamOutRefIdeal.nD Cert.AdamOutRefIdeal.τ).loc Cert.AdamOutRefIdeal.main_arg2)
          ∧ r.2.mem ((c.tc : Thread Cert.AdamOutRefIdeal.nD Cert.AdamOutRefIdeal.τ).loc Cert.AdamOutRefIdeal.main_arg3) = m' ((c.tc : Thread Cert.AdamOutRefIdeal.nD Cert.AdamOutRefIdeal.τ).loc Cert.AdamOutRefIdeal.main_arg3))

def preserves_AdamUp_AdamUpIdeal : Prop :=
  True

def algebraic_AdamUpIdeal_AdamUpRefIdeal [hAdamUpIdeal : Cert.AdamUpIdeal.Facts] [hAdamUpRefIdeal : Cert.AdamUpRefIdeal.Facts] : Prop :=
  ∀ (m : (ℓ : Loc Cert.AdamUpIdeal.nD Cert.AdamUpIdeal.τ Cert.AdamUpIdeal.sig) → Buf (Elt Ideal) ℓ) (g : Dev Cert.AdamUpIdeal.nD → PrngReg)
    (m' : (ℓ : Loc Cert.AdamUpRefIdeal.nD Cert.AdamUpRefIdeal.τ Cert.AdamUpRefIdeal.sig) → Buf (Elt Ideal) ℓ) (g' : Dev Cert.AdamUpRefIdeal.nD → PrngReg), Pre_AdamUpIdeal m →
    (∀ c : Dev Cert.AdamUpIdeal.nD,
      m' ((c.tc : Thread Cert.AdamUpRefIdeal.nD Cert.AdamUpRefIdeal.τ).loc Cert.AdamUpRefIdeal.main_arg0) = m ((c.tc : Thread Cert.AdamUpIdeal.nD Cert.AdamUpIdeal.τ).loc Cert.AdamUpIdeal.main_arg0)
      ∧ m' ((c.tc : Thread Cert.AdamUpRefIdeal.nD Cert.AdamUpRefIdeal.τ).loc Cert.AdamUpRefIdeal.main_arg1) = m ((c.tc : Thread Cert.AdamUpIdeal.nD Cert.AdamUpIdeal.τ).loc Cert.AdamUpIdeal.main_arg1)
      ∧ m' ((c.tc : Thread Cert.AdamUpRefIdeal.nD Cert.AdamUpRefIdeal.τ).loc Cert.AdamUpRefIdeal.main_arg2) = m ((c.tc : Thread Cert.AdamUpIdeal.nD Cert.AdamUpIdeal.τ).loc Cert.AdamUpIdeal.main_arg2)
      ∧ m' ((c.tc : Thread Cert.AdamUpRefIdeal.nD Cert.AdamUpRefIdeal.τ).loc Cert.AdamUpRefIdeal.main_arg3) = m ((c.tc : Thread Cert.AdamUpIdeal.nD Cert.AdamUpIdeal.τ).loc Cert.AdamUpIdeal.main_arg3)) →
    ∃ (v0 : (c : Dev Cert.AdamUpIdeal.nD) → Buf (Elt Ideal) ((c.tc : Thread Cert.AdamUpIdeal.nD Cert.AdamUpIdeal.τ).loc Cert.AdamUpIdeal.main_v0_0)) (v1 : (c : Dev Cert.AdamUpIdeal.nD) → Buf (Elt Ideal) ((c.tc : Thread Cert.AdamUpIdeal.nD Cert.AdamUpIdeal.τ).loc Cert.AdamUpIdeal.main_v0_1)) (v2 : (c : Dev Cert.AdamUpIdeal.nD) → Buf (Elt Ideal) ((c.tc : Thread Cert.AdamUpIdeal.nD Cert.AdamUpIdeal.τ).loc Cert.AdamUpIdeal.main_v0_2)) (v3 : (c : Dev Cert.AdamUpIdeal.nD) → Buf (Elt Ideal) ((c.tc : Thread Cert.AdamUpIdeal.nD Cert.AdamUpIdeal.τ).loc Cert.AdamUpIdeal.main_v0_3)),
      θ_run (Cert.AdamUpIdeal.defs (F := Ideal)) (onTc (τ := Cert.AdamUpIdeal.τ) (Cert.AdamUpIdeal.main (F := Ideal))) ⟨m, fun _ => 0, g⟩ (fun r => ∀ c : Dev Cert.AdamUpIdeal.nD,
          r.2.mem ((c.tc : Thread Cert.AdamUpIdeal.nD Cert.AdamUpIdeal.τ).loc Cert.AdamUpIdeal.main_v0_0) = v0 c
          ∧ r.2.mem ((c.tc : Thread Cert.AdamUpIdeal.nD Cert.AdamUpIdeal.τ).loc Cert.AdamUpIdeal.main_v0_1) = v1 c
          ∧ r.2.mem ((c.tc : Thread Cert.AdamUpIdeal.nD Cert.AdamUpIdeal.τ).loc Cert.AdamUpIdeal.main_v0_2) = v2 c
          ∧ r.2.mem ((c.tc : Thread Cert.AdamUpIdeal.nD Cert.AdamUpIdeal.τ).loc Cert.AdamUpIdeal.main_v0_3) = v3 c
          ∧ r.2.mem ((c.tc : Thread Cert.AdamUpIdeal.nD Cert.AdamUpIdeal.τ).loc Cert.AdamUpIdeal.main_arg0) = m ((c.tc : Thread Cert.AdamUpIdeal.nD Cert.AdamUpIdeal.τ).loc Cert.AdamUpIdeal.main_arg0)
          ∧ r.2.mem ((c.tc : Thread Cert.AdamUpIdeal.nD Cert.AdamUpIdeal.τ).loc Cert.AdamUpIdeal.main_arg1) = m ((c.tc : Thread Cert.AdamUpIdeal.nD Cert.AdamUpIdeal.τ).loc Cert.AdamUpIdeal.main_arg1)
          ∧ r.2.mem ((c.tc : Thread Cert.AdamUpIdeal.nD Cert.AdamUpIdeal.τ).loc Cert.AdamUpIdeal.main_arg2) = m ((c.tc : Thread Cert.AdamUpIdeal.nD Cert.AdamUpIdeal.τ).loc Cert.AdamUpIdeal.main_arg2)
          ∧ r.2.mem ((c.tc : Thread Cert.AdamUpIdeal.nD Cert.AdamUpIdeal.τ).loc Cert.AdamUpIdeal.main_arg3) = m ((c.tc : Thread Cert.AdamUpIdeal.nD Cert.AdamUpIdeal.τ).loc Cert.AdamUpIdeal.main_arg3))
      ∧ θ_run (Cert.AdamUpRefIdeal.defs (F := Ideal)) (onTc (τ := Cert.AdamUpRefIdeal.τ) (Cert.AdamUpRefIdeal.main (F := Ideal))) ⟨m', fun _ => 0, g'⟩ (fun r => ∀ c : Dev Cert.AdamUpRefIdeal.nD,
          r.2.mem ((c.tc : Thread Cert.AdamUpRefIdeal.nD Cert.AdamUpRefIdeal.τ).loc Cert.AdamUpRefIdeal.main_v23) = v0 c
          ∧ r.2.mem ((c.tc : Thread Cert.AdamUpRefIdeal.nD Cert.AdamUpRefIdeal.τ).loc Cert.AdamUpRefIdeal.main_v4) = v1 c
          ∧ r.2.mem ((c.tc : Thread Cert.AdamUpRefIdeal.nD Cert.AdamUpRefIdeal.τ).loc Cert.AdamUpRefIdeal.main_v10) = v2 c
          ∧ r.2.mem ((c.tc : Thread Cert.AdamUpRefIdeal.nD Cert.AdamUpRefIdeal.τ).loc Cert.AdamUpRefIdeal.main_arg1) = v3 c
          ∧ r.2.mem ((c.tc : Thread Cert.AdamUpRefIdeal.nD Cert.AdamUpRefIdeal.τ).loc Cert.AdamUpRefIdeal.main_arg0) = m' ((c.tc : Thread Cert.AdamUpRefIdeal.nD Cert.AdamUpRefIdeal.τ).loc Cert.AdamUpRefIdeal.main_arg0)
          ∧ r.2.mem ((c.tc : Thread Cert.AdamUpRefIdeal.nD Cert.AdamUpRefIdeal.τ).loc Cert.AdamUpRefIdeal.main_arg1) = m' ((c.tc : Thread Cert.AdamUpRefIdeal.nD Cert.AdamUpRefIdeal.τ).loc Cert.AdamUpRefIdeal.main_arg1)
          ∧ r.2.mem ((c.tc : Thread Cert.AdamUpRefIdeal.nD Cert.AdamUpRefIdeal.τ).loc Cert.AdamUpRefIdeal.main_arg2) = m' ((c.tc : Thread Cert.AdamUpRefIdeal.nD Cert.AdamUpRefIdeal.τ).loc Cert.AdamUpRefIdeal.main_arg2)
          ∧ r.2.mem ((c.tc : Thread Cert.AdamUpRefIdeal.nD Cert.AdamUpRefIdeal.τ).loc Cert.AdamUpRefIdeal.main_arg3) = m' ((c.tc : Thread Cert.AdamUpRefIdeal.nD Cert.AdamUpRefIdeal.τ).loc Cert.AdamUpRefIdeal.main_arg3))

def preserves_AdamDown_AdamDownIdeal : Prop :=
  True

def algebraic_AdamDownIdeal_AdamDownRefIdeal [hAdamDownIdeal : Cert.AdamDownIdeal.Facts] [hAdamDownRefIdeal : Cert.AdamDownRefIdeal.Facts] : Prop :=
  ∀ (m : (ℓ : Loc Cert.AdamDownIdeal.nD Cert.AdamDownIdeal.τ Cert.AdamDownIdeal.sig) → Buf (Elt Ideal) ℓ) (g : Dev Cert.AdamDownIdeal.nD → PrngReg)
    (m' : (ℓ : Loc Cert.AdamDownRefIdeal.nD Cert.AdamDownRefIdeal.τ Cert.AdamDownRefIdeal.sig) → Buf (Elt Ideal) ℓ) (g' : Dev Cert.AdamDownRefIdeal.nD → PrngReg), Pre_AdamDownIdeal m →
    (∀ c : Dev Cert.AdamDownIdeal.nD,
      m' ((c.tc : Thread Cert.AdamDownRefIdeal.nD Cert.AdamDownRefIdeal.τ).loc Cert.AdamDownRefIdeal.main_arg0) = m ((c.tc : Thread Cert.AdamDownIdeal.nD Cert.AdamDownIdeal.τ).loc Cert.AdamDownIdeal.main_arg0)
      ∧ m' ((c.tc : Thread Cert.AdamDownRefIdeal.nD Cert.AdamDownRefIdeal.τ).loc Cert.AdamDownRefIdeal.main_arg1) = m ((c.tc : Thread Cert.AdamDownIdeal.nD Cert.AdamDownIdeal.τ).loc Cert.AdamDownIdeal.main_arg1)
      ∧ m' ((c.tc : Thread Cert.AdamDownRefIdeal.nD Cert.AdamDownRefIdeal.τ).loc Cert.AdamDownRefIdeal.main_arg2) = m ((c.tc : Thread Cert.AdamDownIdeal.nD Cert.AdamDownIdeal.τ).loc Cert.AdamDownIdeal.main_arg2)
      ∧ m' ((c.tc : Thread Cert.AdamDownRefIdeal.nD Cert.AdamDownRefIdeal.τ).loc Cert.AdamDownRefIdeal.main_arg3) = m ((c.tc : Thread Cert.AdamDownIdeal.nD Cert.AdamDownIdeal.τ).loc Cert.AdamDownIdeal.main_arg3)) →
    ∃ (v0 : (c : Dev Cert.AdamDownIdeal.nD) → Buf (Elt Ideal) ((c.tc : Thread Cert.AdamDownIdeal.nD Cert.AdamDownIdeal.τ).loc Cert.AdamDownIdeal.main_v0_0)) (v1 : (c : Dev Cert.AdamDownIdeal.nD) → Buf (Elt Ideal) ((c.tc : Thread Cert.AdamDownIdeal.nD Cert.AdamDownIdeal.τ).loc Cert.AdamDownIdeal.main_v0_1)) (v2 : (c : Dev Cert.AdamDownIdeal.nD) → Buf (Elt Ideal) ((c.tc : Thread Cert.AdamDownIdeal.nD Cert.AdamDownIdeal.τ).loc Cert.AdamDownIdeal.main_v0_2)) (v3 : (c : Dev Cert.AdamDownIdeal.nD) → Buf (Elt Ideal) ((c.tc : Thread Cert.AdamDownIdeal.nD Cert.AdamDownIdeal.τ).loc Cert.AdamDownIdeal.main_v0_3)),
      θ_run (Cert.AdamDownIdeal.defs (F := Ideal)) (onTc (τ := Cert.AdamDownIdeal.τ) (Cert.AdamDownIdeal.main (F := Ideal))) ⟨m, fun _ => 0, g⟩ (fun r => ∀ c : Dev Cert.AdamDownIdeal.nD,
          r.2.mem ((c.tc : Thread Cert.AdamDownIdeal.nD Cert.AdamDownIdeal.τ).loc Cert.AdamDownIdeal.main_v0_0) = v0 c
          ∧ r.2.mem ((c.tc : Thread Cert.AdamDownIdeal.nD Cert.AdamDownIdeal.τ).loc Cert.AdamDownIdeal.main_v0_1) = v1 c
          ∧ r.2.mem ((c.tc : Thread Cert.AdamDownIdeal.nD Cert.AdamDownIdeal.τ).loc Cert.AdamDownIdeal.main_v0_2) = v2 c
          ∧ r.2.mem ((c.tc : Thread Cert.AdamDownIdeal.nD Cert.AdamDownIdeal.τ).loc Cert.AdamDownIdeal.main_v0_3) = v3 c
          ∧ r.2.mem ((c.tc : Thread Cert.AdamDownIdeal.nD Cert.AdamDownIdeal.τ).loc Cert.AdamDownIdeal.main_arg0) = m ((c.tc : Thread Cert.AdamDownIdeal.nD Cert.AdamDownIdeal.τ).loc Cert.AdamDownIdeal.main_arg0)
          ∧ r.2.mem ((c.tc : Thread Cert.AdamDownIdeal.nD Cert.AdamDownIdeal.τ).loc Cert.AdamDownIdeal.main_arg1) = m ((c.tc : Thread Cert.AdamDownIdeal.nD Cert.AdamDownIdeal.τ).loc Cert.AdamDownIdeal.main_arg1)
          ∧ r.2.mem ((c.tc : Thread Cert.AdamDownIdeal.nD Cert.AdamDownIdeal.τ).loc Cert.AdamDownIdeal.main_arg2) = m ((c.tc : Thread Cert.AdamDownIdeal.nD Cert.AdamDownIdeal.τ).loc Cert.AdamDownIdeal.main_arg2)
          ∧ r.2.mem ((c.tc : Thread Cert.AdamDownIdeal.nD Cert.AdamDownIdeal.τ).loc Cert.AdamDownIdeal.main_arg3) = m ((c.tc : Thread Cert.AdamDownIdeal.nD Cert.AdamDownIdeal.τ).loc Cert.AdamDownIdeal.main_arg3))
      ∧ θ_run (Cert.AdamDownRefIdeal.defs (F := Ideal)) (onTc (τ := Cert.AdamDownRefIdeal.τ) (Cert.AdamDownRefIdeal.main (F := Ideal))) ⟨m', fun _ => 0, g'⟩ (fun r => ∀ c : Dev Cert.AdamDownRefIdeal.nD,
          r.2.mem ((c.tc : Thread Cert.AdamDownRefIdeal.nD Cert.AdamDownRefIdeal.τ).loc Cert.AdamDownRefIdeal.main_v23) = v0 c
          ∧ r.2.mem ((c.tc : Thread Cert.AdamDownRefIdeal.nD Cert.AdamDownRefIdeal.τ).loc Cert.AdamDownRefIdeal.main_v4) = v1 c
          ∧ r.2.mem ((c.tc : Thread Cert.AdamDownRefIdeal.nD Cert.AdamDownRefIdeal.τ).loc Cert.AdamDownRefIdeal.main_v10) = v2 c
          ∧ r.2.mem ((c.tc : Thread Cert.AdamDownRefIdeal.nD Cert.AdamDownRefIdeal.τ).loc Cert.AdamDownRefIdeal.main_arg1) = v3 c
          ∧ r.2.mem ((c.tc : Thread Cert.AdamDownRefIdeal.nD Cert.AdamDownRefIdeal.τ).loc Cert.AdamDownRefIdeal.main_arg0) = m' ((c.tc : Thread Cert.AdamDownRefIdeal.nD Cert.AdamDownRefIdeal.τ).loc Cert.AdamDownRefIdeal.main_arg0)
          ∧ r.2.mem ((c.tc : Thread Cert.AdamDownRefIdeal.nD Cert.AdamDownRefIdeal.τ).loc Cert.AdamDownRefIdeal.main_arg1) = m' ((c.tc : Thread Cert.AdamDownRefIdeal.nD Cert.AdamDownRefIdeal.τ).loc Cert.AdamDownRefIdeal.main_arg1)
          ∧ r.2.mem ((c.tc : Thread Cert.AdamDownRefIdeal.nD Cert.AdamDownRefIdeal.τ).loc Cert.AdamDownRefIdeal.main_arg2) = m' ((c.tc : Thread Cert.AdamDownRefIdeal.nD Cert.AdamDownRefIdeal.τ).loc Cert.AdamDownRefIdeal.main_arg2)
          ∧ r.2.mem ((c.tc : Thread Cert.AdamDownRefIdeal.nD Cert.AdamDownRefIdeal.τ).loc Cert.AdamDownRefIdeal.main_arg3) = m' ((c.tc : Thread Cert.AdamDownRefIdeal.nD Cert.AdamDownRefIdeal.τ).loc Cert.AdamDownRefIdeal.main_arg3))

def preserves_AdamSmall_AdamSmallIdeal : Prop :=
  True

def algebraic_AdamSmallIdeal_AdamSmallRefIdeal [hAdamSmallIdeal : Cert.AdamSmallIdeal.Facts] [hAdamSmallRefIdeal : Cert.AdamSmallRefIdeal.Facts] : Prop :=
  ∀ (m : (ℓ : Loc Cert.AdamSmallIdeal.nD Cert.AdamSmallIdeal.τ Cert.AdamSmallIdeal.sig) → Buf (Elt Ideal) ℓ) (g : Dev Cert.AdamSmallIdeal.nD → PrngReg)
    (m' : (ℓ : Loc Cert.AdamSmallRefIdeal.nD Cert.AdamSmallRefIdeal.τ Cert.AdamSmallRefIdeal.sig) → Buf (Elt Ideal) ℓ) (g' : Dev Cert.AdamSmallRefIdeal.nD → PrngReg), Pre_AdamSmallIdeal m →
    (∀ c : Dev Cert.AdamSmallIdeal.nD,
      m' ((c.tc : Thread Cert.AdamSmallRefIdeal.nD Cert.AdamSmallRefIdeal.τ).loc Cert.AdamSmallRefIdeal.main_arg0) = m ((c.tc : Thread Cert.AdamSmallIdeal.nD Cert.AdamSmallIdeal.τ).loc Cert.AdamSmallIdeal.main_arg0)
      ∧ m' ((c.tc : Thread Cert.AdamSmallRefIdeal.nD Cert.AdamSmallRefIdeal.τ).loc Cert.AdamSmallRefIdeal.main_arg1) = m ((c.tc : Thread Cert.AdamSmallIdeal.nD Cert.AdamSmallIdeal.τ).loc Cert.AdamSmallIdeal.main_arg1)
      ∧ m' ((c.tc : Thread Cert.AdamSmallRefIdeal.nD Cert.AdamSmallRefIdeal.τ).loc Cert.AdamSmallRefIdeal.main_arg2) = m ((c.tc : Thread Cert.AdamSmallIdeal.nD Cert.AdamSmallIdeal.τ).loc Cert.AdamSmallIdeal.main_arg2)
      ∧ m' ((c.tc : Thread Cert.AdamSmallRefIdeal.nD Cert.AdamSmallRefIdeal.τ).loc Cert.AdamSmallRefIdeal.main_arg3) = m ((c.tc : Thread Cert.AdamSmallIdeal.nD Cert.AdamSmallIdeal.τ).loc Cert.AdamSmallIdeal.main_arg3)) →
    ∃ (v0 : (c : Dev Cert.AdamSmallIdeal.nD) → Buf (Elt Ideal) ((c.tc : Thread Cert.AdamSmallIdeal.nD Cert.AdamSmallIdeal.τ).loc Cert.AdamSmallIdeal.main_v0_0)) (v1 : (c : Dev Cert.AdamSmallIdeal.nD) → Buf (Elt Ideal) ((c.tc : Thread Cert.AdamSmallIdeal.nD Cert.AdamSmallIdeal.τ).loc Cert.AdamSmallIdeal.main_v0_1)) (v2 : (c : Dev Cert.AdamSmallIdeal.nD) → Buf (Elt Ideal) ((c.tc : Thread Cert.AdamSmallIdeal.nD Cert.AdamSmallIdeal.τ).loc Cert.AdamSmallIdeal.main_v0_2)),
      θ_run (Cert.AdamSmallIdeal.defs (F := Ideal)) (onTc (τ := Cert.AdamSmallIdeal.τ) (Cert.AdamSmallIdeal.main (F := Ideal))) ⟨m, fun _ => 0, g⟩ (fun r => ∀ c : Dev Cert.AdamSmallIdeal.nD,
          r.2.mem ((c.tc : Thread Cert.AdamSmallIdeal.nD Cert.AdamSmallIdeal.τ).loc Cert.AdamSmallIdeal.main_v0_0) = v0 c
          ∧ r.2.mem ((c.tc : Thread Cert.AdamSmallIdeal.nD Cert.AdamSmallIdeal.τ).loc Cert.AdamSmallIdeal.main_v0_1) = v1 c
          ∧ r.2.mem ((c.tc : Thread Cert.AdamSmallIdeal.nD Cert.AdamSmallIdeal.τ).loc Cert.AdamSmallIdeal.main_v0_2) = v2 c
          ∧ r.2.mem ((c.tc : Thread Cert.AdamSmallIdeal.nD Cert.AdamSmallIdeal.τ).loc Cert.AdamSmallIdeal.main_arg0) = m ((c.tc : Thread Cert.AdamSmallIdeal.nD Cert.AdamSmallIdeal.τ).loc Cert.AdamSmallIdeal.main_arg0)
          ∧ r.2.mem ((c.tc : Thread Cert.AdamSmallIdeal.nD Cert.AdamSmallIdeal.τ).loc Cert.AdamSmallIdeal.main_arg1) = m ((c.tc : Thread Cert.AdamSmallIdeal.nD Cert.AdamSmallIdeal.τ).loc Cert.AdamSmallIdeal.main_arg1)
          ∧ r.2.mem ((c.tc : Thread Cert.AdamSmallIdeal.nD Cert.AdamSmallIdeal.τ).loc Cert.AdamSmallIdeal.main_arg2) = m ((c.tc : Thread Cert.AdamSmallIdeal.nD Cert.AdamSmallIdeal.τ).loc Cert.AdamSmallIdeal.main_arg2)
          ∧ r.2.mem ((c.tc : Thread Cert.AdamSmallIdeal.nD Cert.AdamSmallIdeal.τ).loc Cert.AdamSmallIdeal.main_arg3) = m ((c.tc : Thread Cert.AdamSmallIdeal.nD Cert.AdamSmallIdeal.τ).loc Cert.AdamSmallIdeal.main_arg3))
      ∧ θ_run (Cert.AdamSmallRefIdeal.defs (F := Ideal)) (onTc (τ := Cert.AdamSmallRefIdeal.τ) (Cert.AdamSmallRefIdeal.main (F := Ideal))) ⟨m', fun _ => 0, g'⟩ (fun r => ∀ c : Dev Cert.AdamSmallRefIdeal.nD,
          r.2.mem ((c.tc : Thread Cert.AdamSmallRefIdeal.nD Cert.AdamSmallRefIdeal.τ).loc Cert.AdamSmallRefIdeal.main_v23) = v0 c
          ∧ r.2.mem ((c.tc : Thread Cert.AdamSmallRefIdeal.nD Cert.AdamSmallRefIdeal.τ).loc Cert.AdamSmallRefIdeal.main_v4) = v1 c
          ∧ r.2.mem ((c.tc : Thread Cert.AdamSmallRefIdeal.nD Cert.AdamSmallRefIdeal.τ).loc Cert.AdamSmallRefIdeal.main_v10) = v2 c
          ∧ r.2.mem ((c.tc : Thread Cert.AdamSmallRefIdeal.nD Cert.AdamSmallRefIdeal.τ).loc Cert.AdamSmallRefIdeal.main_arg0) = m' ((c.tc : Thread Cert.AdamSmallRefIdeal.nD Cert.AdamSmallRefIdeal.τ).loc Cert.AdamSmallRefIdeal.main_arg0)
          ∧ r.2.mem ((c.tc : Thread Cert.AdamSmallRefIdeal.nD Cert.AdamSmallRefIdeal.τ).loc Cert.AdamSmallRefIdeal.main_arg1) = m' ((c.tc : Thread Cert.AdamSmallRefIdeal.nD Cert.AdamSmallRefIdeal.τ).loc Cert.AdamSmallRefIdeal.main_arg1)
          ∧ r.2.mem ((c.tc : Thread Cert.AdamSmallRefIdeal.nD Cert.AdamSmallRefIdeal.τ).loc Cert.AdamSmallRefIdeal.main_arg2) = m' ((c.tc : Thread Cert.AdamSmallRefIdeal.nD Cert.AdamSmallRefIdeal.τ).loc Cert.AdamSmallRefIdeal.main_arg2)
          ∧ r.2.mem ((c.tc : Thread Cert.AdamSmallRefIdeal.nD Cert.AdamSmallRefIdeal.τ).loc Cert.AdamSmallRefIdeal.main_arg3) = m' ((c.tc : Thread Cert.AdamSmallRefIdeal.nD Cert.AdamSmallRefIdeal.τ).loc Cert.AdamSmallRefIdeal.main_arg3))

def preserves_LossHead_LossHeadIdeal : Prop :=
  True

def algebraic_LossHeadIdeal_LossHeadRefIdeal_pre_finite_loss [hLossHeadIdeal : Cert.LossHeadIdeal.Facts] [hLossHeadRefIdeal : Cert.LossHeadRefIdeal.Facts] [hPre_finite_loss : Cert.Pre_finite_loss.Facts] : Prop :=
  ∀ (m : (ℓ : Loc Cert.LossHeadIdeal.nD Cert.LossHeadIdeal.τ Cert.LossHeadIdeal.sig) → Buf (Elt Ideal) ℓ) (g : Dev Cert.LossHeadIdeal.nD → PrngReg)
    (m' : (ℓ : Loc Cert.LossHeadRefIdeal.nD Cert.LossHeadRefIdeal.τ Cert.LossHeadRefIdeal.sig) → Buf (Elt Ideal) ℓ) (g' : Dev Cert.LossHeadRefIdeal.nD → PrngReg), Pre_LossHeadIdeal_finite_loss m →
    (∀ c : Dev Cert.LossHeadIdeal.nD,
      m' ((c.tc : Thread Cert.LossHeadRefIdeal.nD Cert.LossHeadRefIdeal.τ).loc Cert.LossHeadRefIdeal.main_arg0) = m ((c.tc : Thread Cert.LossHeadIdeal.nD Cert.LossHeadIdeal.τ).loc Cert.LossHeadIdeal.main_arg0)
      ∧ m' ((c.tc : Thread Cert.LossHeadRefIdeal.nD Cert.LossHeadRefIdeal.τ).loc Cert.LossHeadRefIdeal.main_arg1) = m ((c.tc : Thread Cert.LossHeadIdeal.nD Cert.LossHeadIdeal.τ).loc Cert.LossHeadIdeal.main_arg1)
      ∧ m' ((c.tc : Thread Cert.LossHeadRefIdeal.nD Cert.LossHeadRefIdeal.τ).loc Cert.LossHeadRefIdeal.main_arg2) = m ((c.tc : Thread Cert.LossHeadIdeal.nD Cert.LossHeadIdeal.τ).loc Cert.LossHeadIdeal.main_arg2)) →
    ∃ (v0 : (c : Dev Cert.LossHeadIdeal.nD) → Buf (Elt Ideal) ((c.tc : Thread Cert.LossHeadIdeal.nD Cert.LossHeadIdeal.τ).loc Cert.LossHeadIdeal.main_v0_0)) (v1 : (c : Dev Cert.LossHeadIdeal.nD) → Buf (Elt Ideal) ((c.tc : Thread Cert.LossHeadIdeal.nD Cert.LossHeadIdeal.τ).loc Cert.LossHeadIdeal.main_v0_1)) (v2 : (c : Dev Cert.LossHeadIdeal.nD) → Buf (Elt Ideal) ((c.tc : Thread Cert.LossHeadIdeal.nD Cert.LossHeadIdeal.τ).loc Cert.LossHeadIdeal.main_v0_2)),
      θ_run (Cert.LossHeadIdeal.defs (F := Ideal)) (onTc (τ := Cert.LossHeadIdeal.τ) (Cert.LossHeadIdeal.main (F := Ideal))) ⟨m, fun _ => 0, g⟩ (fun r => ∀ c : Dev Cert.LossHeadIdeal.nD,
          r.2.mem ((c.tc : Thread Cert.LossHeadIdeal.nD Cert.LossHeadIdeal.τ).loc Cert.LossHeadIdeal.main_v0_0) = v0 c
          ∧ r.2.mem ((c.tc : Thread Cert.LossHeadIdeal.nD Cert.LossHeadIdeal.τ).loc Cert.LossHeadIdeal.main_v0_1) = v1 c
          ∧ r.2.mem ((c.tc : Thread Cert.LossHeadIdeal.nD Cert.LossHeadIdeal.τ).loc Cert.LossHeadIdeal.main_v0_2) = v2 c
          ∧ r.2.mem ((c.tc : Thread Cert.LossHeadIdeal.nD Cert.LossHeadIdeal.τ).loc Cert.LossHeadIdeal.main_arg0) = m ((c.tc : Thread Cert.LossHeadIdeal.nD Cert.LossHeadIdeal.τ).loc Cert.LossHeadIdeal.main_arg0)
          ∧ r.2.mem ((c.tc : Thread Cert.LossHeadIdeal.nD Cert.LossHeadIdeal.τ).loc Cert.LossHeadIdeal.main_arg1) = m ((c.tc : Thread Cert.LossHeadIdeal.nD Cert.LossHeadIdeal.τ).loc Cert.LossHeadIdeal.main_arg1)
          ∧ r.2.mem ((c.tc : Thread Cert.LossHeadIdeal.nD Cert.LossHeadIdeal.τ).loc Cert.LossHeadIdeal.main_arg2) = m ((c.tc : Thread Cert.LossHeadIdeal.nD Cert.LossHeadIdeal.τ).loc Cert.LossHeadIdeal.main_arg2))
      ∧ θ_run (Cert.LossHeadRefIdeal.defs (F := Ideal)) (onTc (τ := Cert.LossHeadRefIdeal.τ) (Cert.LossHeadRefIdeal.main (F := Ideal))) ⟨m', fun _ => 0, g'⟩ (fun r => ∀ c : Dev Cert.LossHeadRefIdeal.nD,
          r.2.mem ((c.tc : Thread Cert.LossHeadRefIdeal.nD Cert.LossHeadRefIdeal.τ).loc Cert.LossHeadRefIdeal.main_v52) = v0 c
          ∧ r.2.mem ((c.tc : Thread Cert.LossHeadRefIdeal.nD Cert.LossHeadRefIdeal.τ).loc Cert.LossHeadRefIdeal.main_v51) = v1 c
          ∧ r.2.mem ((c.tc : Thread Cert.LossHeadRefIdeal.nD Cert.LossHeadRefIdeal.τ).loc Cert.LossHeadRefIdeal.main_v55) = v2 c
          ∧ r.2.mem ((c.tc : Thread Cert.LossHeadRefIdeal.nD Cert.LossHeadRefIdeal.τ).loc Cert.LossHeadRefIdeal.main_arg0) = m' ((c.tc : Thread Cert.LossHeadRefIdeal.nD Cert.LossHeadRefIdeal.τ).loc Cert.LossHeadRefIdeal.main_arg0)
          ∧ r.2.mem ((c.tc : Thread Cert.LossHeadRefIdeal.nD Cert.LossHeadRefIdeal.τ).loc Cert.LossHeadRefIdeal.main_arg1) = m' ((c.tc : Thread Cert.LossHeadRefIdeal.nD Cert.LossHeadRefIdeal.τ).loc Cert.LossHeadRefIdeal.main_arg1)
          ∧ r.2.mem ((c.tc : Thread Cert.LossHeadRefIdeal.nD Cert.LossHeadRefIdeal.τ).loc Cert.LossHeadRefIdeal.main_arg2) = m' ((c.tc : Thread Cert.LossHeadRefIdeal.nD Cert.LossHeadRefIdeal.τ).loc Cert.LossHeadRefIdeal.main_arg2))

def preserves_FfnNorm_FfnNormIdeal : Prop :=
  True

def algebraic_FfnNormIdeal_FfnNormRefIdeal_pre_finite_ffn_norm_bwd [hFfnNormIdeal : Cert.FfnNormIdeal.Facts] [hFfnNormRefIdeal : Cert.FfnNormRefIdeal.Facts] [hPre_finite_ffn_norm_bwd : Cert.Pre_finite_ffn_norm_bwd.Facts] : Prop :=
  ∀ (m : (ℓ : Loc Cert.FfnNormIdeal.nD Cert.FfnNormIdeal.τ Cert.FfnNormIdeal.sig) → Buf (Elt Ideal) ℓ) (g : Dev Cert.FfnNormIdeal.nD → PrngReg)
    (m' : (ℓ : Loc Cert.FfnNormRefIdeal.nD Cert.FfnNormRefIdeal.τ Cert.FfnNormRefIdeal.sig) → Buf (Elt Ideal) ℓ) (g' : Dev Cert.FfnNormRefIdeal.nD → PrngReg), Pre_FfnNormIdeal_finite_ffn_norm_bwd m →
    (∀ c : Dev Cert.FfnNormIdeal.nD,
      m' ((c.tc : Thread Cert.FfnNormRefIdeal.nD Cert.FfnNormRefIdeal.τ).loc Cert.FfnNormRefIdeal.main_arg0) = m ((c.tc : Thread Cert.FfnNormIdeal.nD Cert.FfnNormIdeal.τ).loc Cert.FfnNormIdeal.main_arg0)
      ∧ m' ((c.tc : Thread Cert.FfnNormRefIdeal.nD Cert.FfnNormRefIdeal.τ).loc Cert.FfnNormRefIdeal.main_arg1) = m ((c.tc : Thread Cert.FfnNormIdeal.nD Cert.FfnNormIdeal.τ).loc Cert.FfnNormIdeal.main_arg1)
      ∧ m' ((c.tc : Thread Cert.FfnNormRefIdeal.nD Cert.FfnNormRefIdeal.τ).loc Cert.FfnNormRefIdeal.main_arg2) = m ((c.tc : Thread Cert.FfnNormIdeal.nD Cert.FfnNormIdeal.τ).loc Cert.FfnNormIdeal.main_arg2)
      ∧ m' ((c.tc : Thread Cert.FfnNormRefIdeal.nD Cert.FfnNormRefIdeal.τ).loc Cert.FfnNormRefIdeal.main_arg3) = m ((c.tc : Thread Cert.FfnNormIdeal.nD Cert.FfnNormIdeal.τ).loc Cert.FfnNormIdeal.main_arg3)
      ∧ m' ((c.tc : Thread Cert.FfnNormRefIdeal.nD Cert.FfnNormRefIdeal.τ).loc Cert.FfnNormRefIdeal.main_arg4) = m ((c.tc : Thread Cert.FfnNormIdeal.nD Cert.FfnNormIdeal.τ).loc Cert.FfnNormIdeal.main_arg4)) →
    ∃ (v0 : (c : Dev Cert.FfnNormIdeal.nD) → Buf (Elt Ideal) ((c.tc : Thread Cert.FfnNormIdeal.nD Cert.FfnNormIdeal.τ).loc Cert.FfnNormIdeal.main_v0_0)) (v1 : (c : Dev Cert.FfnNormIdeal.nD) → Buf (Elt Ideal) ((c.tc : Thread Cert.FfnNormIdeal.nD Cert.FfnNormIdeal.τ).loc Cert.FfnNormIdeal.main_v0_1)),
      θ_run (Cert.FfnNormIdeal.defs (F := Ideal)) (onTc (τ := Cert.FfnNormIdeal.τ) (Cert.FfnNormIdeal.main (F := Ideal))) ⟨m, fun _ => 0, g⟩ (fun r => ∀ c : Dev Cert.FfnNormIdeal.nD,
          r.2.mem ((c.tc : Thread Cert.FfnNormIdeal.nD Cert.FfnNormIdeal.τ).loc Cert.FfnNormIdeal.main_v0_0) = v0 c
          ∧ r.2.mem ((c.tc : Thread Cert.FfnNormIdeal.nD Cert.FfnNormIdeal.τ).loc Cert.FfnNormIdeal.main_v0_1) = v1 c
          ∧ r.2.mem ((c.tc : Thread Cert.FfnNormIdeal.nD Cert.FfnNormIdeal.τ).loc Cert.FfnNormIdeal.main_arg0) = m ((c.tc : Thread Cert.FfnNormIdeal.nD Cert.FfnNormIdeal.τ).loc Cert.FfnNormIdeal.main_arg0)
          ∧ r.2.mem ((c.tc : Thread Cert.FfnNormIdeal.nD Cert.FfnNormIdeal.τ).loc Cert.FfnNormIdeal.main_arg1) = m ((c.tc : Thread Cert.FfnNormIdeal.nD Cert.FfnNormIdeal.τ).loc Cert.FfnNormIdeal.main_arg1)
          ∧ r.2.mem ((c.tc : Thread Cert.FfnNormIdeal.nD Cert.FfnNormIdeal.τ).loc Cert.FfnNormIdeal.main_arg2) = m ((c.tc : Thread Cert.FfnNormIdeal.nD Cert.FfnNormIdeal.τ).loc Cert.FfnNormIdeal.main_arg2)
          ∧ r.2.mem ((c.tc : Thread Cert.FfnNormIdeal.nD Cert.FfnNormIdeal.τ).loc Cert.FfnNormIdeal.main_arg3) = m ((c.tc : Thread Cert.FfnNormIdeal.nD Cert.FfnNormIdeal.τ).loc Cert.FfnNormIdeal.main_arg3)
          ∧ r.2.mem ((c.tc : Thread Cert.FfnNormIdeal.nD Cert.FfnNormIdeal.τ).loc Cert.FfnNormIdeal.main_arg4) = m ((c.tc : Thread Cert.FfnNormIdeal.nD Cert.FfnNormIdeal.τ).loc Cert.FfnNormIdeal.main_arg4))
      ∧ θ_run (Cert.FfnNormRefIdeal.defs (F := Ideal)) (onTc (τ := Cert.FfnNormRefIdeal.τ) (Cert.FfnNormRefIdeal.main (F := Ideal))) ⟨m', fun _ => 0, g'⟩ (fun r => ∀ c : Dev Cert.FfnNormRefIdeal.nD,
          r.2.mem ((c.tc : Thread Cert.FfnNormRefIdeal.nD Cert.FfnNormRefIdeal.τ).loc Cert.FfnNormRefIdeal.main_v48) = v0 c
          ∧ r.2.mem ((c.tc : Thread Cert.FfnNormRefIdeal.nD Cert.FfnNormRefIdeal.τ).loc Cert.FfnNormRefIdeal.main_v51) = v1 c
          ∧ r.2.mem ((c.tc : Thread Cert.FfnNormRefIdeal.nD Cert.FfnNormRefIdeal.τ).loc Cert.FfnNormRefIdeal.main_arg0) = m' ((c.tc : Thread Cert.FfnNormRefIdeal.nD Cert.FfnNormRefIdeal.τ).loc Cert.FfnNormRefIdeal.main_arg0)
          ∧ r.2.mem ((c.tc : Thread Cert.FfnNormRefIdeal.nD Cert.FfnNormRefIdeal.τ).loc Cert.FfnNormRefIdeal.main_arg1) = m' ((c.tc : Thread Cert.FfnNormRefIdeal.nD Cert.FfnNormRefIdeal.τ).loc Cert.FfnNormRefIdeal.main_arg1)
          ∧ r.2.mem ((c.tc : Thread Cert.FfnNormRefIdeal.nD Cert.FfnNormRefIdeal.τ).loc Cert.FfnNormRefIdeal.main_arg2) = m' ((c.tc : Thread Cert.FfnNormRefIdeal.nD Cert.FfnNormRefIdeal.τ).loc Cert.FfnNormRefIdeal.main_arg2)
          ∧ r.2.mem ((c.tc : Thread Cert.FfnNormRefIdeal.nD Cert.FfnNormRefIdeal.τ).loc Cert.FfnNormRefIdeal.main_arg3) = m' ((c.tc : Thread Cert.FfnNormRefIdeal.nD Cert.FfnNormRefIdeal.τ).loc Cert.FfnNormRefIdeal.main_arg3)
          ∧ r.2.mem ((c.tc : Thread Cert.FfnNormRefIdeal.nD Cert.FfnNormRefIdeal.τ).loc Cert.FfnNormRefIdeal.main_arg4) = m' ((c.tc : Thread Cert.FfnNormRefIdeal.nD Cert.FfnNormRefIdeal.τ).loc Cert.FfnNormRefIdeal.main_arg4))

def preserves_MixNorm_MixNormIdeal : Prop :=
  True

def algebraic_MixNormIdeal_MixNormRefIdeal_pre_finite_mix_norm_bwd [hMixNormIdeal : Cert.MixNormIdeal.Facts] [hMixNormRefIdeal : Cert.MixNormRefIdeal.Facts] [hPre_finite_mix_norm_bwd : Cert.Pre_finite_mix_norm_bwd.Facts] : Prop :=
  ∀ (m : (ℓ : Loc Cert.MixNormIdeal.nD Cert.MixNormIdeal.τ Cert.MixNormIdeal.sig) → Buf (Elt Ideal) ℓ) (g : Dev Cert.MixNormIdeal.nD → PrngReg)
    (m' : (ℓ : Loc Cert.MixNormRefIdeal.nD Cert.MixNormRefIdeal.τ Cert.MixNormRefIdeal.sig) → Buf (Elt Ideal) ℓ) (g' : Dev Cert.MixNormRefIdeal.nD → PrngReg), Pre_MixNormIdeal_finite_mix_norm_bwd m →
    (∀ c : Dev Cert.MixNormIdeal.nD,
      m' ((c.tc : Thread Cert.MixNormRefIdeal.nD Cert.MixNormRefIdeal.τ).loc Cert.MixNormRefIdeal.main_arg0) = m ((c.tc : Thread Cert.MixNormIdeal.nD Cert.MixNormIdeal.τ).loc Cert.MixNormIdeal.main_arg0)
      ∧ m' ((c.tc : Thread Cert.MixNormRefIdeal.nD Cert.MixNormRefIdeal.τ).loc Cert.MixNormRefIdeal.main_arg1) = m ((c.tc : Thread Cert.MixNormIdeal.nD Cert.MixNormIdeal.τ).loc Cert.MixNormIdeal.main_arg1)
      ∧ m' ((c.tc : Thread Cert.MixNormRefIdeal.nD Cert.MixNormRefIdeal.τ).loc Cert.MixNormRefIdeal.main_arg2) = m ((c.tc : Thread Cert.MixNormIdeal.nD Cert.MixNormIdeal.τ).loc Cert.MixNormIdeal.main_arg2)
      ∧ m' ((c.tc : Thread Cert.MixNormRefIdeal.nD Cert.MixNormRefIdeal.τ).loc Cert.MixNormRefIdeal.main_arg3) = m ((c.tc : Thread Cert.MixNormIdeal.nD Cert.MixNormIdeal.τ).loc Cert.MixNormIdeal.main_arg3)
      ∧ m' ((c.tc : Thread Cert.MixNormRefIdeal.nD Cert.MixNormRefIdeal.τ).loc Cert.MixNormRefIdeal.main_arg4) = m ((c.tc : Thread Cert.MixNormIdeal.nD Cert.MixNormIdeal.τ).loc Cert.MixNormIdeal.main_arg4)) →
    ∃ (v0 : (c : Dev Cert.MixNormIdeal.nD) → Buf (Elt Ideal) ((c.tc : Thread Cert.MixNormIdeal.nD Cert.MixNormIdeal.τ).loc Cert.MixNormIdeal.main_v0_0)) (v1 : (c : Dev Cert.MixNormIdeal.nD) → Buf (Elt Ideal) ((c.tc : Thread Cert.MixNormIdeal.nD Cert.MixNormIdeal.τ).loc Cert.MixNormIdeal.main_v0_1)),
      θ_run (Cert.MixNormIdeal.defs (F := Ideal)) (onTc (τ := Cert.MixNormIdeal.τ) (Cert.MixNormIdeal.main (F := Ideal))) ⟨m, fun _ => 0, g⟩ (fun r => ∀ c : Dev Cert.MixNormIdeal.nD,
          r.2.mem ((c.tc : Thread Cert.MixNormIdeal.nD Cert.MixNormIdeal.τ).loc Cert.MixNormIdeal.main_v0_0) = v0 c
          ∧ r.2.mem ((c.tc : Thread Cert.MixNormIdeal.nD Cert.MixNormIdeal.τ).loc Cert.MixNormIdeal.main_v0_1) = v1 c
          ∧ r.2.mem ((c.tc : Thread Cert.MixNormIdeal.nD Cert.MixNormIdeal.τ).loc Cert.MixNormIdeal.main_arg0) = m ((c.tc : Thread Cert.MixNormIdeal.nD Cert.MixNormIdeal.τ).loc Cert.MixNormIdeal.main_arg0)
          ∧ r.2.mem ((c.tc : Thread Cert.MixNormIdeal.nD Cert.MixNormIdeal.τ).loc Cert.MixNormIdeal.main_arg1) = m ((c.tc : Thread Cert.MixNormIdeal.nD Cert.MixNormIdeal.τ).loc Cert.MixNormIdeal.main_arg1)
          ∧ r.2.mem ((c.tc : Thread Cert.MixNormIdeal.nD Cert.MixNormIdeal.τ).loc Cert.MixNormIdeal.main_arg2) = m ((c.tc : Thread Cert.MixNormIdeal.nD Cert.MixNormIdeal.τ).loc Cert.MixNormIdeal.main_arg2)
          ∧ r.2.mem ((c.tc : Thread Cert.MixNormIdeal.nD Cert.MixNormIdeal.τ).loc Cert.MixNormIdeal.main_arg3) = m ((c.tc : Thread Cert.MixNormIdeal.nD Cert.MixNormIdeal.τ).loc Cert.MixNormIdeal.main_arg3)
          ∧ r.2.mem ((c.tc : Thread Cert.MixNormIdeal.nD Cert.MixNormIdeal.τ).loc Cert.MixNormIdeal.main_arg4) = m ((c.tc : Thread Cert.MixNormIdeal.nD Cert.MixNormIdeal.τ).loc Cert.MixNormIdeal.main_arg4))
      ∧ θ_run (Cert.MixNormRefIdeal.defs (F := Ideal)) (onTc (τ := Cert.MixNormRefIdeal.τ) (Cert.MixNormRefIdeal.main (F := Ideal))) ⟨m', fun _ => 0, g'⟩ (fun r => ∀ c : Dev Cert.MixNormRefIdeal.nD,
          r.2.mem ((c.tc : Thread Cert.MixNormRefIdeal.nD Cert.MixNormRefIdeal.τ).loc Cert.MixNormRefIdeal.main_v43) = v0 c
          ∧ r.2.mem ((c.tc : Thread Cert.MixNormRefIdeal.nD Cert.MixNormRefIdeal.τ).loc Cert.MixNormRefIdeal.main_v46) = v1 c
          ∧ r.2.mem ((c.tc : Thread Cert.MixNormRefIdeal.nD Cert.MixNormRefIdeal.τ).loc Cert.MixNormRefIdeal.main_arg0) = m' ((c.tc : Thread Cert.MixNormRefIdeal.nD Cert.MixNormRefIdeal.τ).loc Cert.MixNormRefIdeal.main_arg0)
          ∧ r.2.mem ((c.tc : Thread Cert.MixNormRefIdeal.nD Cert.MixNormRefIdeal.τ).loc Cert.MixNormRefIdeal.main_arg1) = m' ((c.tc : Thread Cert.MixNormRefIdeal.nD Cert.MixNormRefIdeal.τ).loc Cert.MixNormRefIdeal.main_arg1)
          ∧ r.2.mem ((c.tc : Thread Cert.MixNormRefIdeal.nD Cert.MixNormRefIdeal.τ).loc Cert.MixNormRefIdeal.main_arg2) = m' ((c.tc : Thread Cert.MixNormRefIdeal.nD Cert.MixNormRefIdeal.τ).loc Cert.MixNormRefIdeal.main_arg2)
          ∧ r.2.mem ((c.tc : Thread Cert.MixNormRefIdeal.nD Cert.MixNormRefIdeal.τ).loc Cert.MixNormRefIdeal.main_arg3) = m' ((c.tc : Thread Cert.MixNormRefIdeal.nD Cert.MixNormRefIdeal.τ).loc Cert.MixNormRefIdeal.main_arg3)
          ∧ r.2.mem ((c.tc : Thread Cert.MixNormRefIdeal.nD Cert.MixNormRefIdeal.τ).loc Cert.MixNormRefIdeal.main_arg4) = m' ((c.tc : Thread Cert.MixNormRefIdeal.nD Cert.MixNormRefIdeal.τ).loc Cert.MixNormRefIdeal.main_arg4))

def preserves_PleNorm_PleNormIdeal : Prop :=
  True

def algebraic_PleNormIdeal_PleNormRefIdeal_pre_finite_ple_norm_bwd [hPleNormIdeal : Cert.PleNormIdeal.Facts] [hPleNormRefIdeal : Cert.PleNormRefIdeal.Facts] [hPre_finite_ple_norm_bwd : Cert.Pre_finite_ple_norm_bwd.Facts] : Prop :=
  ∀ (m : (ℓ : Loc Cert.PleNormIdeal.nD Cert.PleNormIdeal.τ Cert.PleNormIdeal.sig) → Buf (Elt Ideal) ℓ) (g : Dev Cert.PleNormIdeal.nD → PrngReg)
    (m' : (ℓ : Loc Cert.PleNormRefIdeal.nD Cert.PleNormRefIdeal.τ Cert.PleNormRefIdeal.sig) → Buf (Elt Ideal) ℓ) (g' : Dev Cert.PleNormRefIdeal.nD → PrngReg), Pre_PleNormIdeal_finite_ple_norm_bwd m →
    (∀ c : Dev Cert.PleNormIdeal.nD,
      m' ((c.tc : Thread Cert.PleNormRefIdeal.nD Cert.PleNormRefIdeal.τ).loc Cert.PleNormRefIdeal.main_arg0) = m ((c.tc : Thread Cert.PleNormIdeal.nD Cert.PleNormIdeal.τ).loc Cert.PleNormIdeal.main_arg0)
      ∧ m' ((c.tc : Thread Cert.PleNormRefIdeal.nD Cert.PleNormRefIdeal.τ).loc Cert.PleNormRefIdeal.main_arg1) = m ((c.tc : Thread Cert.PleNormIdeal.nD Cert.PleNormIdeal.τ).loc Cert.PleNormIdeal.main_arg1)
      ∧ m' ((c.tc : Thread Cert.PleNormRefIdeal.nD Cert.PleNormRefIdeal.τ).loc Cert.PleNormRefIdeal.main_arg2) = m ((c.tc : Thread Cert.PleNormIdeal.nD Cert.PleNormIdeal.τ).loc Cert.PleNormIdeal.main_arg2)
      ∧ m' ((c.tc : Thread Cert.PleNormRefIdeal.nD Cert.PleNormRefIdeal.τ).loc Cert.PleNormRefIdeal.main_arg3) = m ((c.tc : Thread Cert.PleNormIdeal.nD Cert.PleNormIdeal.τ).loc Cert.PleNormIdeal.main_arg3)
      ∧ m' ((c.tc : Thread Cert.PleNormRefIdeal.nD Cert.PleNormRefIdeal.τ).loc Cert.PleNormRefIdeal.main_arg4) = m ((c.tc : Thread Cert.PleNormIdeal.nD Cert.PleNormIdeal.τ).loc Cert.PleNormIdeal.main_arg4)) →
    ∃ (v0 : (c : Dev Cert.PleNormIdeal.nD) → Buf (Elt Ideal) ((c.tc : Thread Cert.PleNormIdeal.nD Cert.PleNormIdeal.τ).loc Cert.PleNormIdeal.main_v0_0)) (v1 : (c : Dev Cert.PleNormIdeal.nD) → Buf (Elt Ideal) ((c.tc : Thread Cert.PleNormIdeal.nD Cert.PleNormIdeal.τ).loc Cert.PleNormIdeal.main_v0_1)),
      θ_run (Cert.PleNormIdeal.defs (F := Ideal)) (onTc (τ := Cert.PleNormIdeal.τ) (Cert.PleNormIdeal.main (F := Ideal))) ⟨m, fun _ => 0, g⟩ (fun r => ∀ c : Dev Cert.PleNormIdeal.nD,
          r.2.mem ((c.tc : Thread Cert.PleNormIdeal.nD Cert.PleNormIdeal.τ).loc Cert.PleNormIdeal.main_v0_0) = v0 c
          ∧ r.2.mem ((c.tc : Thread Cert.PleNormIdeal.nD Cert.PleNormIdeal.τ).loc Cert.PleNormIdeal.main_v0_1) = v1 c
          ∧ r.2.mem ((c.tc : Thread Cert.PleNormIdeal.nD Cert.PleNormIdeal.τ).loc Cert.PleNormIdeal.main_arg0) = m ((c.tc : Thread Cert.PleNormIdeal.nD Cert.PleNormIdeal.τ).loc Cert.PleNormIdeal.main_arg0)
          ∧ r.2.mem ((c.tc : Thread Cert.PleNormIdeal.nD Cert.PleNormIdeal.τ).loc Cert.PleNormIdeal.main_arg1) = m ((c.tc : Thread Cert.PleNormIdeal.nD Cert.PleNormIdeal.τ).loc Cert.PleNormIdeal.main_arg1)
          ∧ r.2.mem ((c.tc : Thread Cert.PleNormIdeal.nD Cert.PleNormIdeal.τ).loc Cert.PleNormIdeal.main_arg2) = m ((c.tc : Thread Cert.PleNormIdeal.nD Cert.PleNormIdeal.τ).loc Cert.PleNormIdeal.main_arg2)
          ∧ r.2.mem ((c.tc : Thread Cert.PleNormIdeal.nD Cert.PleNormIdeal.τ).loc Cert.PleNormIdeal.main_arg3) = m ((c.tc : Thread Cert.PleNormIdeal.nD Cert.PleNormIdeal.τ).loc Cert.PleNormIdeal.main_arg3)
          ∧ r.2.mem ((c.tc : Thread Cert.PleNormIdeal.nD Cert.PleNormIdeal.τ).loc Cert.PleNormIdeal.main_arg4) = m ((c.tc : Thread Cert.PleNormIdeal.nD Cert.PleNormIdeal.τ).loc Cert.PleNormIdeal.main_arg4))
      ∧ θ_run (Cert.PleNormRefIdeal.defs (F := Ideal)) (onTc (τ := Cert.PleNormRefIdeal.τ) (Cert.PleNormRefIdeal.main (F := Ideal))) ⟨m', fun _ => 0, g'⟩ (fun r => ∀ c : Dev Cert.PleNormRefIdeal.nD,
          r.2.mem ((c.tc : Thread Cert.PleNormRefIdeal.nD Cert.PleNormRefIdeal.τ).loc Cert.PleNormRefIdeal.main_v43) = v0 c
          ∧ r.2.mem ((c.tc : Thread Cert.PleNormRefIdeal.nD Cert.PleNormRefIdeal.τ).loc Cert.PleNormRefIdeal.main_v46) = v1 c
          ∧ r.2.mem ((c.tc : Thread Cert.PleNormRefIdeal.nD Cert.PleNormRefIdeal.τ).loc Cert.PleNormRefIdeal.main_arg0) = m' ((c.tc : Thread Cert.PleNormRefIdeal.nD Cert.PleNormRefIdeal.τ).loc Cert.PleNormRefIdeal.main_arg0)
          ∧ r.2.mem ((c.tc : Thread Cert.PleNormRefIdeal.nD Cert.PleNormRefIdeal.τ).loc Cert.PleNormRefIdeal.main_arg1) = m' ((c.tc : Thread Cert.PleNormRefIdeal.nD Cert.PleNormRefIdeal.τ).loc Cert.PleNormRefIdeal.main_arg1)
          ∧ r.2.mem ((c.tc : Thread Cert.PleNormRefIdeal.nD Cert.PleNormRefIdeal.τ).loc Cert.PleNormRefIdeal.main_arg2) = m' ((c.tc : Thread Cert.PleNormRefIdeal.nD Cert.PleNormRefIdeal.τ).loc Cert.PleNormRefIdeal.main_arg2)
          ∧ r.2.mem ((c.tc : Thread Cert.PleNormRefIdeal.nD Cert.PleNormRefIdeal.τ).loc Cert.PleNormRefIdeal.main_arg3) = m' ((c.tc : Thread Cert.PleNormRefIdeal.nD Cert.PleNormRefIdeal.τ).loc Cert.PleNormRefIdeal.main_arg3)
          ∧ r.2.mem ((c.tc : Thread Cert.PleNormRefIdeal.nD Cert.PleNormRefIdeal.τ).loc Cert.PleNormRefIdeal.main_arg4) = m' ((c.tc : Thread Cert.PleNormRefIdeal.nD Cert.PleNormRefIdeal.τ).loc Cert.PleNormRefIdeal.main_arg4))

def Claim : Prop :=
  ∃ (hKernel : Cert.Kernel.Facts) (hKernelIdeal : Cert.KernelIdeal.Facts) (hReferenceIdeal : Cert.ReferenceIdeal.Facts) (hWUp : Cert.WUp.Facts) (hWUpIdeal : Cert.WUpIdeal.Facts) (hWUpRefIdeal : Cert.WUpRefIdeal.Facts) (hWIn : Cert.WIn.Facts) (hWInIdeal : Cert.WInIdeal.Facts) (hWInRefIdeal : Cert.WInRefIdeal.Facts) (hWDown : Cert.WDown.Facts) (hWDownIdeal : Cert.WDownIdeal.Facts) (hWDownRefIdeal : Cert.WDownRefIdeal.Facts) (hWOut : Cert.WOut.Facts) (hWOutIdeal : Cert.WOutIdeal.Facts) (hWOutRefIdeal : Cert.WOutRefIdeal.Facts) (hWPleGate : Cert.WPleGate.Facts) (hWPleGateIdeal : Cert.WPleGateIdeal.Facts) (hWPleGateRefIdeal : Cert.WPleGateRefIdeal.Facts) (hWBranchA : Cert.WBranchA.Facts) (hWBranchAIdeal : Cert.WBranchAIdeal.Facts) (hWBranchARefIdeal : Cert.WBranchARefIdeal.Facts) (hWBranchB : Cert.WBranchB.Facts) (hWBranchBIdeal : Cert.WBranchBIdeal.Facts) (hWBranchBRefIdeal : Cert.WBranchBRefIdeal.Facts) (hFfnAct : Cert.FfnAct.Facts) (hFfnActIdeal : Cert.FfnActIdeal.Facts) (hFfnActRefIdeal : Cert.FfnActRefIdeal.Facts) (hGated : Cert.Gated.Facts) (hGatedIdeal : Cert.GatedIdeal.Facts) (hGatedRefIdeal : Cert.GatedRefIdeal.Facts) (hPoolOut : Cert.PoolOut.Facts) (hPoolOutIdeal : Cert.PoolOutIdeal.Facts) (hPoolOutRefIdeal : Cert.PoolOutRefIdeal.Facts) (hSguOut : Cert.SguOut.Facts) (hSguOutIdeal : Cert.SguOutIdeal.Facts) (hSguOutRefIdeal : Cert.SguOutRefIdeal.Facts) (hUpProj : Cert.UpProj.Facts) (hUpProjIdeal : Cert.UpProjIdeal.Facts) (hUpProjRefIdeal : Cert.UpProjRefIdeal.Facts) (hPleGateProj : Cert.PleGateProj.Facts) (hPleGateProjIdeal : Cert.PleGateProjIdeal.Facts) (hPleGateProjRefIdeal : Cert.PleGateProjRefIdeal.Facts) (hPleProj : Cert.PleProj.Facts) (hPleProjIdeal : Cert.PleProjIdeal.Facts) (hPleProjRefIdeal : Cert.PleProjRefIdeal.Facts) (hOutProj : Cert.OutProj.Facts) (hOutProjIdeal : Cert.OutProjIdeal.Facts) (hOutProjRefIdeal : Cert.OutProjRefIdeal.Facts) (hDownProj : Cert.DownProj.Facts) (hDownProjIdeal : Cert.DownProjIdeal.Facts) (hDownProjRefIdeal : Cert.DownProjRefIdeal.Facts) (hWPle : Cert.WPle.Facts) (hWPleIdeal : Cert.WPleIdeal.Facts) (hWPleRefIdeal : Cert.WPleRefIdeal.Facts) (hAdamIn : Cert.AdamIn.Facts) (hAdamInIdeal : Cert.AdamInIdeal.Facts) (hAdamInRefIdeal : Cert.AdamInRefIdeal.Facts) (hAdamPool : Cert.AdamPool.Facts) (hAdamPoolIdeal : Cert.AdamPoolIdeal.Facts) (hAdamPoolRefIdeal : Cert.AdamPoolRefIdeal.Facts) (hAdamOut : Cert.AdamOut.Facts) (hAdamOutIdeal : Cert.AdamOutIdeal.Facts) (hAdamOutRefIdeal : Cert.AdamOutRefIdeal.Facts) (hAdamUp : Cert.AdamUp.Facts) (hAdamUpIdeal : Cert.AdamUpIdeal.Facts) (hAdamUpRefIdeal : Cert.AdamUpRefIdeal.Facts) (hAdamDown : Cert.AdamDown.Facts) (hAdamDownIdeal : Cert.AdamDownIdeal.Facts) (hAdamDownRefIdeal : Cert.AdamDownRefIdeal.Facts) (hAdamSmall : Cert.AdamSmall.Facts) (hAdamSmallIdeal : Cert.AdamSmallIdeal.Facts) (hAdamSmallRefIdeal : Cert.AdamSmallRefIdeal.Facts) (hLossHead : Cert.LossHead.Facts) (hLossHeadIdeal : Cert.LossHeadIdeal.Facts) (hLossHeadRefIdeal : Cert.LossHeadRefIdeal.Facts) (hFfnNorm : Cert.FfnNorm.Facts) (hFfnNormIdeal : Cert.FfnNormIdeal.Facts) (hFfnNormRefIdeal : Cert.FfnNormRefIdeal.Facts) (hMixNorm : Cert.MixNorm.Facts) (hMixNormIdeal : Cert.MixNormIdeal.Facts) (hMixNormRefIdeal : Cert.MixNormRefIdeal.Facts) (hPleNorm : Cert.PleNorm.Facts) (hPleNormIdeal : Cert.PleNormIdeal.Facts) (hPleNormRefIdeal : Cert.PleNormRefIdeal.Facts) (hPre_finite : Cert.Pre_finite.Facts) (hPre_finite_loss : Cert.Pre_finite_loss.Facts) (hPre_finite_ffn_norm_bwd : Cert.Pre_finite_ffn_norm_bwd.Facts) (hPre_finite_mix_norm_bwd : Cert.Pre_finite_mix_norm_bwd.Facts) (hPre_finite_ple_norm_bwd : Cert.Pre_finite_ple_norm_bwd.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_WUp (hWUp := hWUp)
    ∧ quiescent_WUpIdeal (hWUpIdeal := hWUpIdeal)
    ∧ quiescent_WUpRefIdeal (hWUpRefIdeal := hWUpRefIdeal)
    ∧ quiescent_WIn (hWIn := hWIn)
    ∧ quiescent_WInIdeal (hWInIdeal := hWInIdeal)
    ∧ quiescent_WInRefIdeal (hWInRefIdeal := hWInRefIdeal)
    ∧ quiescent_WDown (hWDown := hWDown)
    ∧ quiescent_WDownIdeal (hWDownIdeal := hWDownIdeal)
    ∧ quiescent_WDownRefIdeal (hWDownRefIdeal := hWDownRefIdeal)
    ∧ quiescent_WOut (hWOut := hWOut)
    ∧ quiescent_WOutIdeal (hWOutIdeal := hWOutIdeal)
    ∧ quiescent_WOutRefIdeal (hWOutRefIdeal := hWOutRefIdeal)
    ∧ quiescent_WPleGate (hWPleGate := hWPleGate)
    ∧ quiescent_WPleGateIdeal (hWPleGateIdeal := hWPleGateIdeal)
    ∧ quiescent_WPleGateRefIdeal (hWPleGateRefIdeal := hWPleGateRefIdeal)
    ∧ quiescent_WBranchA (hWBranchA := hWBranchA)
    ∧ quiescent_WBranchAIdeal (hWBranchAIdeal := hWBranchAIdeal)
    ∧ quiescent_WBranchARefIdeal (hWBranchARefIdeal := hWBranchARefIdeal)
    ∧ quiescent_WBranchB (hWBranchB := hWBranchB)
    ∧ quiescent_WBranchBIdeal (hWBranchBIdeal := hWBranchBIdeal)
    ∧ quiescent_WBranchBRefIdeal (hWBranchBRefIdeal := hWBranchBRefIdeal)
    ∧ quiescent_FfnAct (hFfnAct := hFfnAct)
    ∧ quiescent_FfnActIdeal (hFfnActIdeal := hFfnActIdeal)
    ∧ quiescent_FfnActRefIdeal (hFfnActRefIdeal := hFfnActRefIdeal)
    ∧ quiescent_Gated (hGated := hGated)
    ∧ quiescent_GatedIdeal (hGatedIdeal := hGatedIdeal)
    ∧ quiescent_GatedRefIdeal (hGatedRefIdeal := hGatedRefIdeal)
    ∧ quiescent_PoolOut (hPoolOut := hPoolOut)
    ∧ quiescent_PoolOutIdeal (hPoolOutIdeal := hPoolOutIdeal)
    ∧ quiescent_PoolOutRefIdeal (hPoolOutRefIdeal := hPoolOutRefIdeal)
    ∧ quiescent_SguOut (hSguOut := hSguOut)
    ∧ quiescent_SguOutIdeal (hSguOutIdeal := hSguOutIdeal)
    ∧ quiescent_SguOutRefIdeal (hSguOutRefIdeal := hSguOutRefIdeal)
    ∧ quiescent_UpProj (hUpProj := hUpProj)
    ∧ quiescent_UpProjIdeal (hUpProjIdeal := hUpProjIdeal)
    ∧ quiescent_UpProjRefIdeal (hUpProjRefIdeal := hUpProjRefIdeal)
    ∧ quiescent_PleGateProj (hPleGateProj := hPleGateProj)
    ∧ quiescent_PleGateProjIdeal (hPleGateProjIdeal := hPleGateProjIdeal)
    ∧ quiescent_PleGateProjRefIdeal (hPleGateProjRefIdeal := hPleGateProjRefIdeal)
    ∧ quiescent_PleProj (hPleProj := hPleProj)
    ∧ quiescent_PleProjIdeal (hPleProjIdeal := hPleProjIdeal)
    ∧ quiescent_PleProjRefIdeal (hPleProjRefIdeal := hPleProjRefIdeal)
    ∧ quiescent_OutProj (hOutProj := hOutProj)
    ∧ quiescent_OutProjIdeal (hOutProjIdeal := hOutProjIdeal)
    ∧ quiescent_OutProjRefIdeal (hOutProjRefIdeal := hOutProjRefIdeal)
    ∧ quiescent_DownProj (hDownProj := hDownProj)
    ∧ quiescent_DownProjIdeal (hDownProjIdeal := hDownProjIdeal)
    ∧ quiescent_DownProjRefIdeal (hDownProjRefIdeal := hDownProjRefIdeal)
    ∧ quiescent_WPle (hWPle := hWPle)
    ∧ quiescent_WPleIdeal (hWPleIdeal := hWPleIdeal)
    ∧ quiescent_WPleRefIdeal (hWPleRefIdeal := hWPleRefIdeal)
    ∧ quiescent_AdamIn (hAdamIn := hAdamIn)
    ∧ quiescent_AdamInIdeal (hAdamInIdeal := hAdamInIdeal)
    ∧ quiescent_AdamInRefIdeal (hAdamInRefIdeal := hAdamInRefIdeal)
    ∧ quiescent_AdamPool (hAdamPool := hAdamPool)
    ∧ quiescent_AdamPoolIdeal (hAdamPoolIdeal := hAdamPoolIdeal)
    ∧ quiescent_AdamPoolRefIdeal (hAdamPoolRefIdeal := hAdamPoolRefIdeal)
    ∧ quiescent_AdamOut (hAdamOut := hAdamOut)
    ∧ quiescent_AdamOutIdeal (hAdamOutIdeal := hAdamOutIdeal)
    ∧ quiescent_AdamOutRefIdeal (hAdamOutRefIdeal := hAdamOutRefIdeal)
    ∧ quiescent_AdamUp (hAdamUp := hAdamUp)
    ∧ quiescent_AdamUpIdeal (hAdamUpIdeal := hAdamUpIdeal)
    ∧ quiescent_AdamUpRefIdeal (hAdamUpRefIdeal := hAdamUpRefIdeal)
    ∧ quiescent_AdamDown (hAdamDown := hAdamDown)
    ∧ quiescent_AdamDownIdeal (hAdamDownIdeal := hAdamDownIdeal)
    ∧ quiescent_AdamDownRefIdeal (hAdamDownRefIdeal := hAdamDownRefIdeal)
    ∧ quiescent_AdamSmall (hAdamSmall := hAdamSmall)
    ∧ quiescent_AdamSmallIdeal (hAdamSmallIdeal := hAdamSmallIdeal)
    ∧ quiescent_AdamSmallRefIdeal (hAdamSmallRefIdeal := hAdamSmallRefIdeal)
    ∧ quiescent_LossHead (hLossHead := hLossHead)
    ∧ quiescent_LossHeadIdeal (hLossHeadIdeal := hLossHeadIdeal)
    ∧ quiescent_LossHeadIdeal_pre_finite_loss (hLossHeadIdeal := hLossHeadIdeal) (hPre_finite_loss := hPre_finite_loss)
    ∧ quiescent_LossHeadRefIdeal (hLossHeadRefIdeal := hLossHeadRefIdeal)
    ∧ quiescent_LossHeadRefIdeal_pre_finite_loss (hLossHeadRefIdeal := hLossHeadRefIdeal) (hPre_finite_loss := hPre_finite_loss)
    ∧ quiescent_FfnNorm (hFfnNorm := hFfnNorm)
    ∧ quiescent_FfnNormIdeal (hFfnNormIdeal := hFfnNormIdeal)
    ∧ quiescent_FfnNormIdeal_pre_finite_ffn_norm_bwd (hFfnNormIdeal := hFfnNormIdeal) (hPre_finite_ffn_norm_bwd := hPre_finite_ffn_norm_bwd)
    ∧ quiescent_FfnNormRefIdeal (hFfnNormRefIdeal := hFfnNormRefIdeal)
    ∧ quiescent_FfnNormRefIdeal_pre_finite_ffn_norm_bwd (hFfnNormRefIdeal := hFfnNormRefIdeal) (hPre_finite_ffn_norm_bwd := hPre_finite_ffn_norm_bwd)
    ∧ quiescent_MixNorm (hMixNorm := hMixNorm)
    ∧ quiescent_MixNormIdeal (hMixNormIdeal := hMixNormIdeal)
    ∧ quiescent_MixNormIdeal_pre_finite_mix_norm_bwd (hMixNormIdeal := hMixNormIdeal) (hPre_finite_mix_norm_bwd := hPre_finite_mix_norm_bwd)
    ∧ quiescent_MixNormRefIdeal (hMixNormRefIdeal := hMixNormRefIdeal)
    ∧ quiescent_MixNormRefIdeal_pre_finite_mix_norm_bwd (hMixNormRefIdeal := hMixNormRefIdeal) (hPre_finite_mix_norm_bwd := hPre_finite_mix_norm_bwd)
    ∧ quiescent_PleNorm (hPleNorm := hPleNorm)
    ∧ quiescent_PleNormIdeal (hPleNormIdeal := hPleNormIdeal)
    ∧ quiescent_PleNormIdeal_pre_finite_ple_norm_bwd (hPleNormIdeal := hPleNormIdeal) (hPre_finite_ple_norm_bwd := hPre_finite_ple_norm_bwd)
    ∧ quiescent_PleNormRefIdeal (hPleNormRefIdeal := hPleNormRefIdeal)
    ∧ quiescent_PleNormRefIdeal_pre_finite_ple_norm_bwd (hPleNormRefIdeal := hPleNormRefIdeal) (hPre_finite_ple_norm_bwd := hPre_finite_ple_norm_bwd)
    ∧ preserves_Kernel_KernelIdeal
    ∧ algebraic_KernelIdeal_ReferenceIdeal_pre_finite (hKernelIdeal := hKernelIdeal) (hReferenceIdeal := hReferenceIdeal) (hPre_finite := hPre_finite)
    ∧ preserves_WUp_WUpIdeal
    ∧ algebraic_WUpIdeal_WUpRefIdeal (hWUpIdeal := hWUpIdeal) (hWUpRefIdeal := hWUpRefIdeal)
    ∧ preserves_WIn_WInIdeal
    ∧ algebraic_WInIdeal_WInRefIdeal (hWInIdeal := hWInIdeal) (hWInRefIdeal := hWInRefIdeal)
    ∧ preserves_WDown_WDownIdeal
    ∧ algebraic_WDownIdeal_WDownRefIdeal (hWDownIdeal := hWDownIdeal) (hWDownRefIdeal := hWDownRefIdeal)
    ∧ preserves_WOut_WOutIdeal
    ∧ algebraic_WOutIdeal_WOutRefIdeal (hWOutIdeal := hWOutIdeal) (hWOutRefIdeal := hWOutRefIdeal)
    ∧ preserves_WPleGate_WPleGateIdeal
    ∧ algebraic_WPleGateIdeal_WPleGateRefIdeal (hWPleGateIdeal := hWPleGateIdeal) (hWPleGateRefIdeal := hWPleGateRefIdeal)
    ∧ preserves_WBranchA_WBranchAIdeal
    ∧ algebraic_WBranchAIdeal_WBranchARefIdeal (hWBranchAIdeal := hWBranchAIdeal) (hWBranchARefIdeal := hWBranchARefIdeal)
    ∧ preserves_WBranchB_WBranchBIdeal
    ∧ algebraic_WBranchBIdeal_WBranchBRefIdeal (hWBranchBIdeal := hWBranchBIdeal) (hWBranchBRefIdeal := hWBranchBRefIdeal)
    ∧ preserves_FfnAct_FfnActIdeal
    ∧ algebraic_FfnActIdeal_FfnActRefIdeal (hFfnActIdeal := hFfnActIdeal) (hFfnActRefIdeal := hFfnActRefIdeal)
    ∧ preserves_Gated_GatedIdeal
    ∧ algebraic_GatedIdeal_GatedRefIdeal (hGatedIdeal := hGatedIdeal) (hGatedRefIdeal := hGatedRefIdeal)
    ∧ preserves_PoolOut_PoolOutIdeal
    ∧ algebraic_PoolOutIdeal_PoolOutRefIdeal (hPoolOutIdeal := hPoolOutIdeal) (hPoolOutRefIdeal := hPoolOutRefIdeal)
    ∧ preserves_SguOut_SguOutIdeal
    ∧ algebraic_SguOutIdeal_SguOutRefIdeal (hSguOutIdeal := hSguOutIdeal) (hSguOutRefIdeal := hSguOutRefIdeal)
    ∧ preserves_UpProj_UpProjIdeal
    ∧ algebraic_UpProjIdeal_UpProjRefIdeal (hUpProjIdeal := hUpProjIdeal) (hUpProjRefIdeal := hUpProjRefIdeal)
    ∧ preserves_PleGateProj_PleGateProjIdeal
    ∧ algebraic_PleGateProjIdeal_PleGateProjRefIdeal (hPleGateProjIdeal := hPleGateProjIdeal) (hPleGateProjRefIdeal := hPleGateProjRefIdeal)
    ∧ preserves_PleProj_PleProjIdeal
    ∧ algebraic_PleProjIdeal_PleProjRefIdeal (hPleProjIdeal := hPleProjIdeal) (hPleProjRefIdeal := hPleProjRefIdeal)
    ∧ preserves_OutProj_OutProjIdeal
    ∧ algebraic_OutProjIdeal_OutProjRefIdeal (hOutProjIdeal := hOutProjIdeal) (hOutProjRefIdeal := hOutProjRefIdeal)
    ∧ preserves_DownProj_DownProjIdeal
    ∧ algebraic_DownProjIdeal_DownProjRefIdeal (hDownProjIdeal := hDownProjIdeal) (hDownProjRefIdeal := hDownProjRefIdeal)
    ∧ preserves_WPle_WPleIdeal
    ∧ algebraic_WPleIdeal_WPleRefIdeal (hWPleIdeal := hWPleIdeal) (hWPleRefIdeal := hWPleRefIdeal)
    ∧ preserves_AdamIn_AdamInIdeal
    ∧ algebraic_AdamInIdeal_AdamInRefIdeal (hAdamInIdeal := hAdamInIdeal) (hAdamInRefIdeal := hAdamInRefIdeal)
    ∧ preserves_AdamPool_AdamPoolIdeal
    ∧ algebraic_AdamPoolIdeal_AdamPoolRefIdeal (hAdamPoolIdeal := hAdamPoolIdeal) (hAdamPoolRefIdeal := hAdamPoolRefIdeal)
    ∧ preserves_AdamOut_AdamOutIdeal
    ∧ algebraic_AdamOutIdeal_AdamOutRefIdeal (hAdamOutIdeal := hAdamOutIdeal) (hAdamOutRefIdeal := hAdamOutRefIdeal)
    ∧ preserves_AdamUp_AdamUpIdeal
    ∧ algebraic_AdamUpIdeal_AdamUpRefIdeal (hAdamUpIdeal := hAdamUpIdeal) (hAdamUpRefIdeal := hAdamUpRefIdeal)
    ∧ preserves_AdamDown_AdamDownIdeal
    ∧ algebraic_AdamDownIdeal_AdamDownRefIdeal (hAdamDownIdeal := hAdamDownIdeal) (hAdamDownRefIdeal := hAdamDownRefIdeal)
    ∧ preserves_AdamSmall_AdamSmallIdeal
    ∧ algebraic_AdamSmallIdeal_AdamSmallRefIdeal (hAdamSmallIdeal := hAdamSmallIdeal) (hAdamSmallRefIdeal := hAdamSmallRefIdeal)
    ∧ preserves_LossHead_LossHeadIdeal
    ∧ algebraic_LossHeadIdeal_LossHeadRefIdeal_pre_finite_loss (hLossHeadIdeal := hLossHeadIdeal) (hLossHeadRefIdeal := hLossHeadRefIdeal) (hPre_finite_loss := hPre_finite_loss)
    ∧ preserves_FfnNorm_FfnNormIdeal
    ∧ algebraic_FfnNormIdeal_FfnNormRefIdeal_pre_finite_ffn_norm_bwd (hFfnNormIdeal := hFfnNormIdeal) (hFfnNormRefIdeal := hFfnNormRefIdeal) (hPre_finite_ffn_norm_bwd := hPre_finite_ffn_norm_bwd)
    ∧ preserves_MixNorm_MixNormIdeal
    ∧ algebraic_MixNormIdeal_MixNormRefIdeal_pre_finite_mix_norm_bwd (hMixNormIdeal := hMixNormIdeal) (hMixNormRefIdeal := hMixNormRefIdeal) (hPre_finite_mix_norm_bwd := hPre_finite_mix_norm_bwd)
    ∧ preserves_PleNorm_PleNormIdeal
    ∧ algebraic_PleNormIdeal_PleNormRefIdeal_pre_finite_ple_norm_bwd (hPleNormIdeal := hPleNormIdeal) (hPleNormRefIdeal := hPleNormRefIdeal) (hPre_finite_ple_norm_bwd := hPre_finite_ple_norm_bwd)
-- ==== Pre_finite.lean ====
abbrev S8192x1024 : Shape := ⟨2, ![8192, 1024]⟩
abbrev S8192x5120 : Shape := ⟨2, ![8192, 5120]⟩
abbrev S1x4x256x256 : Shape := ⟨4, ![1, 4, 256, 256]⟩
abbrev S2x1024 : Shape := ⟨2, ![2, 1024]⟩
abbrev S2x8x128x128 : Shape := ⟨4, ![2, 8, 128, 128]⟩
abbrev S2x8x128 : Shape := ⟨3, ![2, 8, 128]⟩
abbrev S_ : Shape := ⟨0, ![]⟩

class Facts : Prop where
  bitsLt_bf16_f32 : FTy.bits .bf16 < FTy.bits .f32
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S8192x5120 : S_.BroadcastsInDim S8192x5120 (![] : Fin 0 → Fin S8192x5120.rank)
  reducesTo_S8192x5120_S_d0_1 : S8192x5120.ReducesTo [0, 1] S_
  bcast_S_S1x4x256x256 : S_.BroadcastsInDim S1x4x256x256 (![] : Fin 0 → Fin S1x4x256x256.rank)
  reducesTo_S1x4x256x256_S_d0_1_2_3 : S1x4x256x256.ReducesTo [0, 1, 2, 3] S_
  bcast_S_S2x1024 : S_.BroadcastsInDim S2x1024 (![] : Fin 0 → Fin S2x1024.rank)
  reducesTo_S2x1024_S_d0_1 : S2x1024.ReducesTo [0, 1] S_
  bcast_S_S2x8x128x128 : S_.BroadcastsInDim S2x8x128x128 (![] : Fin 0 → Fin S2x8x128x128.rank)
  reducesTo_S2x8x128x128_S_d0_1_2_3 : S2x8x128x128.ReducesTo [0, 1, 2, 3] S_
  bcast_S_S2x8x128 : S_.BroadcastsInDim S2x8x128 (![] : Fin 0 → Fin S2x8x128.rank)
  reducesTo_S2x8x128_S_d0_1_2 : S2x8x128.ReducesTo [0, 1, 2] S_

variable [Facts]

def fn_part2 {F : FTy → Type} [FloatOps F] (main_arg8 : FVec F S2x8x128 .f32) (main_v32 : IVec S_ 1) (main_v33 : FVec F S2x8x128x128 .f32) (main_v34 : FVec F S2x8x128x128 .f32) : IVec S_ 1 :=
  let main_v35 : IVec S2x8x128x128 1 := cmpf .olt main_v33 main_v34
  let main_c_11 : IVec S_ 1 := constantI S_ 1 1#1
  let main_v36 : IVec S_ 1 := (fun x v => Host.reduce IntOp.andi x v reducesTo_S2x8x128x128_S_d0_1_2_3 h_S_) main_v35 main_c_11
  let main_v37 : IVec S_ 1 := andi main_v32 main_v36
  let main_v38 : FVec F S2x8x128 .f32 := Host.absf main_arg8
  let main_cst_12 : FVec F S_ .f32 := constant S_ .f32 0x7F800000#32
  let main_v39 : FVec F S2x8x128 .f32 := broadcastInDim S2x8x128 ![] bcast_S_S2x8x128 main_cst_12
  let main_v40 : IVec S2x8x128 1 := cmpf .olt main_v38 main_v39
  let main_c_13 : IVec S_ 1 := constantI S_ 1 1#1
  let main_v41 : IVec S_ 1 := (fun x v => Host.reduce IntOp.andi x v reducesTo_S2x8x128_S_d0_1_2 h_S_) main_v40 main_c_13
  let main_v42 : IVec S_ 1 := andi main_v37 main_v41
  main_v42

def fn_part1 {F : FTy → Type} [FloatOps F] (main_arg5 : FVec F S2x1024 .f32) (main_arg6 : FVec F S2x1024 .f32) (main_arg7 : FVec F S2x8x128x128 .f32) (main_arg8 : FVec F S2x8x128 .f32) (main_v16 : IVec S_ 1) (main_v17 : FVec F S1x4x256x256 .f32) : IVec S_ 1 :=
  let main_v18 : FVec F S1x4x256x256 .f32 := Host.absf main_v17
  let main_cst_4 : FVec F S_ .f32 := constant S_ .f32 0x7F800000#32
  let main_v19 : FVec F S1x4x256x256 .f32 := broadcastInDim S1x4x256x256 ![] bcast_S_S1x4x256x256 main_cst_4
  let main_v20 : IVec S1x4x256x256 1 := cmpf .olt main_v18 main_v19
  let main_c_5 : IVec S_ 1 := constantI S_ 1 1#1
  let main_v21 : IVec S_ 1 := (fun x v => Host.reduce IntOp.andi x v reducesTo_S1x4x256x256_S_d0_1_2_3 h_S_) main_v20 main_c_5
  let main_v22 : IVec S_ 1 := andi main_v16 main_v21
  let main_v23 : FVec F S2x1024 .f32 := Host.absf main_arg5
  let main_cst_6 : FVec F S_ .f32 := constant S_ .f32 0x7F800000#32
  let main_v24 : FVec F S2x1024 .f32 := broadcastInDim S2x1024 ![] bcast_S_S2x1024 main_cst_6
  let main_v25 : IVec S2x1024 1 := cmpf .olt main_v23 main_v24
  let main_c_7 : IVec S_ 1 := constantI S_ 1 1#1
  let main_v26 : IVec S_ 1 := (fun x v => Host.reduce IntOp.andi x v reducesTo_S2x1024_S_d0_1 h_S_) main_v25 main_c_7
  let main_v27 : IVec S_ 1 := andi main_v22 main_v26
  let main_v28 : FVec F S2x1024 .f32 := Host.absf main_arg6
  let main_cst_8 : FVec F S_ .f32 := constant S_ .f32 0x7F800000#32
  let main_v29 : FVec F S2x1024 .f32 := broadcastInDim S2x1024 ![] bcast_S_S2x1024 main_cst_8
  let main_v30 : IVec S2x1024 1 := cmpf .olt main_v28 main_v29
  let main_c_9 : IVec S_ 1 := constantI S_ 1 1#1
  let main_v31 : IVec S_ 1 := (fun x v => Host.reduce IntOp.andi x v reducesTo_S2x1024_S_d0_1 h_S_) main_v30 main_c_9
  let main_v32 : IVec S_ 1 := andi main_v27 main_v31
  let main_v33 : FVec F S2x8x128x128 .f32 := Host.absf main_arg7
  let main_cst_10 : FVec F S_ .f32 := constant S_ .f32 0x7F800000#32
  let main_v34 : FVec F S2x8x128x128 .f32 := broadcastInDim S2x8x128x128 ![] bcast_S_S2x8x128x128 main_cst_10
  fn_part2 (F := F) main_arg8 main_v32 main_v33 main_v34

def fn {F : FTy → Type} [FloatOps F] (main_arg0 : FVec F S8192x1024 .bf16) (main_arg1 : FVec F S8192x1024 .bf16) (main_arg2 : FVec F S8192x5120 .bf16) (main_arg3 : FVec F S8192x5120 .bf16) (main_arg4 : FVec F S1x4x256x256 .bf16) (main_arg5 : FVec F S2x1024 .f32) (main_arg6 : FVec F S2x1024 .f32) (main_arg7 : FVec F S2x8x128x128 .f32) (main_arg8 : FVec F S2x8x128 .f32) : IVec S_ 1 :=
  let main_v0 : FVec F S8192x1024 .f32 := (extf .f32 · bitsLt_bf16_f32) main_arg0
  let main_v1 : FVec F S8192x1024 .f32 := Host.absf main_v0
  let main_cst : FVec F S_ .f32 := constant S_ .f32 0x7F800000#32
  let main_v2 : FVec F S8192x1024 .f32 := broadcastInDim S8192x1024 ![] bcast_S_S8192x1024 main_cst
  let main_v3 : IVec S8192x1024 1 := cmpf .olt main_v1 main_v2
  let main_c : IVec S_ 1 := constantI S_ 1 1#1
  let main_v4 : IVec S_ 1 := (fun x v => Host.reduce IntOp.andi x v reducesTo_S8192x1024_S_d0_1 h_S_) main_v3 main_c
  let main_v5 : FVec F S8192x1024 .f32 := (extf .f32 · bitsLt_bf16_f32) main_arg1
  let main_v6 : FVec F S8192x1024 .f32 := Host.absf main_v5
  let main_cst_0 : FVec F S_ .f32 := constant S_ .f32 0x7F800000#32
  let main_v7 : FVec F S8192x1024 .f32 := broadcastInDim S8192x1024 ![] bcast_S_S8192x1024 main_cst_0
  let main_v8 : IVec S8192x1024 1 := cmpf .olt main_v6 main_v7
  let main_c_1 : IVec S_ 1 := constantI S_ 1 1#1
  let main_v9 : IVec S_ 1 := (fun x v => Host.reduce IntOp.andi x v reducesTo_S8192x1024_S_d0_1 h_S_) main_v8 main_c_1
  let main_v10 : IVec S_ 1 := andi main_v4 main_v9
  let main_v11 : FVec F S8192x5120 .f32 := (extf .f32 · bitsLt_bf16_f32) main_arg2
  let main_v12 : FVec F S8192x5120 .f32 := Host.absf main_v11
  let main_cst_2 : FVec F S_ .f32 := constant S_ .f32 0x7F800000#32
  let main_v13 : FVec F S8192x5120 .f32 := broadcastInDim S8192x5120 ![] bcast_S_S8192x5120 main_cst_2
  let main_v14 : IVec S8192x5120 1 := cmpf .olt main_v12 main_v13
  let main_c_3 : IVec S_ 1 := constantI S_ 1 1#1
  let main_v15 : IVec S_ 1 := (fun x v => Host.reduce IntOp.andi x v reducesTo_S8192x5120_S_d0_1 h_S_) main_v14 main_c_3
  let main_v16 : IVec S_ 1 := andi main_v10 main_v15
  let main_v17 : FVec F S1x4x256x256 .f32 := (extf .f32 · bitsLt_bf16_f32) main_arg4
  fn_part1 (F := F) main_arg5 main_arg6 main_arg7 main_arg8 main_v16 main_v17
-- ==== Pre_finite_ffn_norm_bwd.lean ====
abbrev S2x8192x2816 : Shape := ⟨3, ![2, 8192, 2816]⟩
abbrev S1x1024x5632 : Shape := ⟨3, ![1, 1024, 5632]⟩
abbrev S8192x1024 : Shape := ⟨2, ![8192, 1024]⟩
abbrev S2x1x1024 : Shape := ⟨3, ![2, 1, 1024]⟩
abbrev S_ : Shape := ⟨0, ![]⟩

class Facts : Prop where
  bitsLt_bf16_f32 : FTy.bits .bf16 < FTy.bits .f32
  bcast_S_S2x8192x2816 : S_.BroadcastsInDim S2x8192x2816 (![] : Fin 0 → Fin S2x8192x2816.rank)
  reducesTo_S2x8192x2816_S_d0_1_2 : S2x8192x2816.ReducesTo [0, 1, 2] S_
  h_S_ : 0 < S_.numel
  bcast_S_S1x1024x5632 : S_.BroadcastsInDim S1x1024x5632 (![] : Fin 0 → Fin S1x1024x5632.rank)
  reducesTo_S1x1024x5632_S_d0_1_2 : S1x1024x5632.ReducesTo [0, 1, 2] S_
  bcast_S_S8192x1024 : S_.BroadcastsInDim S8192x1024 (![] : Fin 0 → Fin S8192x1024.rank)
  reducesTo_S8192x1024_S_d0_1 : S8192x1024.ReducesTo [0, 1] S_
  bcast_S_S2x1x1024 : S_.BroadcastsInDim S2x1x1024 (![] : Fin 0 → Fin S2x1x1024.rank)
  reducesTo_S2x1x1024_S_d0_1_2 : S2x1x1024.ReducesTo [0, 1, 2] S_

variable [Facts]

def fn_part1 {F : FTy → Type} [FloatOps F] (main_v15 : IVec S_ 1) (main_v16 : FVec F S2x1x1024 .f32) (main_cst_4 : FVec F S_ .f32) : IVec S_ 1 :=
  let main_v17 : FVec F S2x1x1024 .f32 := broadcastInDim S2x1x1024 ![] bcast_S_S2x1x1024 main_cst_4
  let main_v18 : IVec S2x1x1024 1 := cmpf .olt main_v16 main_v17
  let main_c_5 : IVec S_ 1 := constantI S_ 1 1#1
  let main_v19 : IVec S_ 1 := (fun x v => Host.reduce IntOp.andi x v reducesTo_S2x1x1024_S_d0_1_2 h_S_) main_v18 main_c_5
  let main_v20 : IVec S_ 1 := andi main_v15 main_v19
  main_v20

def fn {F : FTy → Type} [FloatOps F] (main_arg0 : FVec F S2x8192x2816 .bf16) (main_arg1 : FVec F S1x1024x5632 .bf16) (main_arg2 : FVec F S8192x1024 .f32) (main_arg3 : FVec F S2x1x1024 .f32) (main_arg4 : FVec F S8192x1024 .f32) : IVec S_ 1 :=
  let main_v0 : FVec F S2x8192x2816 .f32 := (extf .f32 · bitsLt_bf16_f32) main_arg0
  let main_v1 : FVec F S2x8192x2816 .f32 := Host.absf main_v0
  let main_cst : FVec F S_ .f32 := constant S_ .f32 0x7F800000#32
  let main_v2 : FVec F S2x8192x2816 .f32 := broadcastInDim S2x8192x2816 ![] bcast_S_S2x8192x2816 main_cst
  let main_v3 : IVec S2x8192x2816 1 := cmpf .olt main_v1 main_v2
  let main_c : IVec S_ 1 := constantI S_ 1 1#1
  let main_v4 : IVec S_ 1 := (fun x v => Host.reduce IntOp.andi x v reducesTo_S2x8192x2816_S_d0_1_2 h_S_) main_v3 main_c
  let main_v5 : FVec F S1x1024x5632 .f32 := (extf .f32 · bitsLt_bf16_f32) main_arg1
  let main_v6 : FVec F S1x1024x5632 .f32 := Host.absf main_v5
  let main_cst_0 : FVec F S_ .f32 := constant S_ .f32 0x7F800000#32
  let main_v7 : FVec F S1x1024x5632 .f32 := broadcastInDim S1x1024x5632 ![] bcast_S_S1x1024x5632 main_cst_0
  let main_v8 : IVec S1x1024x5632 1 := cmpf .olt main_v6 main_v7
  let main_c_1 : IVec S_ 1 := constantI S_ 1 1#1
  let main_v9 : IVec S_ 1 := (fun x v => Host.reduce IntOp.andi x v reducesTo_S1x1024x5632_S_d0_1_2 h_S_) main_v8 main_c_1
  let main_v10 : IVec S_ 1 := andi main_v4 main_v9
  let main_v11 : FVec F S8192x1024 .f32 := Host.absf main_arg2
  let main_cst_2 : FVec F S_ .f32 := constant S_ .f32 0x7F800000#32
  let main_v12 : FVec F S8192x1024 .f32 := broadcastInDim S8192x1024 ![] bcast_S_S8192x1024 main_cst_2
  let main_v13 : IVec S8192x1024 1 := cmpf .olt main_v11 main_v12
  let main_c_3 : IVec S_ 1 := constantI S_ 1 1#1
  let main_v14 : IVec S_ 1 := (fun x v => Host.reduce IntOp.andi x v reducesTo_S8192x1024_S_d0_1 h_S_) main_v13 main_c_3
  let main_v15 : IVec S_ 1 := andi main_v10 main_v14
  let main_v16 : FVec F S2x1x1024 .f32 := Host.absf main_arg3
  let main_cst_4 : FVec F S_ .f32 := constant S_ .f32 0x7F800000#32
  fn_part1 (F := F) main_v15 main_v16 main_cst_4
-- ==== Pre_finite_loss.lean ====
abbrev S8192x1024 : Shape := ⟨2, ![8192, 1024]⟩
abbrev S1x1024 : Shape := ⟨2, ![1, 1024]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S1x1024 : S_.BroadcastsInDim S1x1024 (![] : Fin 0 → Fin S1x1024.rank)
  reducesTo_S1x1024_S_d0_1 : S1x1024.ReducesTo [0, 1] S_

variable [Facts]

def fn {F : FTy → Type} [FloatOps F] (main_arg0 : FVec F S8192x1024 .f32) (main_arg1 : FVec F S1x1024 .f32) (main_arg2 : FVec F S8192x1024 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S1x1024 .f32 := Host.absf main_arg1
  let main_cst_0 : FVec F S_ .f32 := constant S_ .f32 0x7F800000#32
  let main_v5 : FVec F S1x1024 .f32 := broadcastInDim S1x1024 ![] bcast_S_S1x1024 main_cst_0
  let main_v6 : IVec S1x1024 1 := cmpf .olt main_v4 main_v5
  let main_c_1 : IVec S_ 1 := constantI S_ 1 1#1
  let main_v7 : IVec S_ 1 := (fun x v => Host.reduce IntOp.andi x v reducesTo_S1x1024_S_d0_1 h_S_) main_v6 main_c_1
  let main_v8 : IVec S_ 1 := andi main_v3 main_v7
  let main_v9 : FVec F S8192x1024 .f32 := Host.absf main_arg2
  let main_cst_2 : FVec F S_ .f32 := constant S_ .f32 0x7F800000#32
  let main_v10 : FVec F S8192x1024 .f32 := broadcastInDim S8192x1024 ![] bcast_S_S8192x1024 main_cst_2
  let main_v11 : IVec S8192x1024 1 := cmpf .olt main_v9 main_v10
  let main_c_3 : IVec S_ 1 := constantI S_ 1 1#1
  let main_v12 : IVec S_ 1 := (fun x v => Host.reduce IntOp.andi x v reducesTo_S8192x1024_S_d0_1 h_S_) main_v11 main_c_3
  let main_v13 : IVec S_ 1 := andi main_v8 main_v12
  main_v13
-- ==== Pre_finite_mix_norm_bwd.lean ====
abbrev S8192x5120 : Shape := ⟨2, ![8192, 5120]⟩
abbrev S1x1024x5120 : Shape := ⟨3, ![1, 1024, 5120]⟩
abbrev S8192x1024 : Shape := ⟨2, ![8192, 1024]⟩
abbrev S2x1x1024 : Shape := ⟨3, ![2, 1, 1024]⟩
abbrev S_ : Shape := ⟨0, ![]⟩

class Facts : Prop where
  bitsLt_bf16_f32 : FTy.bits .bf16 < FTy.bits .f32
  bcast_S_S8192x5120 : S_.BroadcastsInDim S8192x5120 (![] : Fin 0 → Fin S8192x5120.rank)
  reducesTo_S8192x5120_S_d0_1 : S8192x5120.ReducesTo [0, 1] S_
  h_S_ : 0 < S_.numel
  bcast_S_S1x1024x5120 : S_.BroadcastsInDim S1x1024x5120 (![] : Fin 0 → Fin S1x1024x5120.rank)
  reducesTo_S1x1024x5120_S_d0_1_2 : S1x1024x5120.ReducesTo [0, 1, 2] S_
  bcast_S_S8192x1024 : S_.BroadcastsInDim S8192x1024 (![] : Fin 0 → Fin S8192x1024.rank)
  reducesTo_S8192x1024_S_d0_1 : S8192x1024.ReducesTo [0, 1] S_
  bcast_S_S2x1x1024 : S_.BroadcastsInDim S2x1x1024 (![] : Fin 0 → Fin S2x1x1024.rank)
  reducesTo_S2x1x1024_S_d0_1_2 : S2x1x1024.ReducesTo [0, 1, 2] S_

variable [Facts]

def fn_part1 {F : FTy → Type} [FloatOps F] (main_v15 : IVec S_ 1) (main_v16 : FVec F S2x1x1024 .f32) (main_cst_4 : FVec F S_ .f32) : IVec S_ 1 :=
  let main_v17 : FVec F S2x1x1024 .f32 := broadcastInDim S2x1x1024 ![] bcast_S_S2x1x1024 main_cst_4
  let main_v18 : IVec S2x1x1024 1 := cmpf .olt main_v16 main_v17
  let main_c_5 : IVec S_ 1 := constantI S_ 1 1#1
  let main_v19 : IVec S_ 1 := (fun x v => Host.reduce IntOp.andi x v reducesTo_S2x1x1024_S_d0_1_2 h_S_) main_v18 main_c_5
  let main_v20 : IVec S_ 1 := andi main_v15 main_v19
  main_v20

def fn {F : FTy → Type} [FloatOps F] (main_arg0 : FVec F S8192x5120 .bf16) (main_arg1 : FVec F S1x1024x5120 .bf16) (main_arg2 : FVec F S8192x1024 .f32) (main_arg3 : FVec F S2x1x1024 .f32) (main_arg4 : FVec F S8192x1024 .f32) : IVec S_ 1 :=
  let main_v0 : FVec F S8192x5120 .f32 := (extf .f32 · bitsLt_bf16_f32) main_arg0
  let main_v1 : FVec F S8192x5120 .f32 := Host.absf main_v0
  let main_cst : FVec F S_ .f32 := constant S_ .f32 0x7F800000#32
  let main_v2 : FVec F S8192x5120 .f32 := broadcastInDim S8192x5120 ![] bcast_S_S8192x5120 main_cst
  let main_v3 : IVec S8192x5120 1 := cmpf .olt main_v1 main_v2
  let main_c : IVec S_ 1 := constantI S_ 1 1#1
  let main_v4 : IVec S_ 1 := (fun x v => Host.reduce IntOp.andi x v reducesTo_S8192x5120_S_d0_1 h_S_) main_v3 main_c
  let main_v5 : FVec F S1x1024x5120 .f32 := (extf .f32 · bitsLt_bf16_f32) main_arg1
  let main_v6 : FVec F S1x1024x5120 .f32 := Host.absf main_v5
  let main_cst_0 : FVec F S_ .f32 := constant S_ .f32 0x7F800000#32
  let main_v7 : FVec F S1x1024x5120 .f32 := broadcastInDim S1x1024x5120 ![] bcast_S_S1x1024x5120 main_cst_0
  let main_v8 : IVec S1x1024x5120 1 := cmpf .olt main_v6 main_v7
  let main_c_1 : IVec S_ 1 := constantI S_ 1 1#1
  let main_v9 : IVec S_ 1 := (fun x v => Host.reduce IntOp.andi x v reducesTo_S1x1024x5120_S_d0_1_2 h_S_) main_v8 main_c_1
  let main_v10 : IVec S_ 1 := andi main_v4 main_v9
  let main_v11 : FVec F S8192x1024 .f32 := Host.absf main_arg2
  let main_cst_2 : FVec F S_ .f32 := constant S_ .f32 0x7F800000#32
  let main_v12 : FVec F S8192x1024 .f32 := broadcastInDim S8192x1024 ![] bcast_S_S8192x1024 main_cst_2
  let main_v13 : IVec S8192x1024 1 := cmpf .olt main_v11 main_v12
  let main_c_3 : IVec S_ 1 := constantI S_ 1 1#1
  let main_v14 : IVec S_ 1 := (fun x v => Host.reduce IntOp.andi x v reducesTo_S8192x1024_S_d0_1 h_S_) main_v13 main_c_3
  let main_v15 : IVec S_ 1 := andi main_v10 main_v14
  let main_v16 : FVec F S2x1x1024 .f32 := Host.absf main_arg3
  let main_cst_4 : FVec F S_ .f32 := constant S_ .f32 0x7F800000#32
  fn_part1 (F := F) main_v15 main_v16 main_cst_4
-- ==== Pre_finite_ple_norm_bwd.lean ====
abbrev S8192x1024 : Shape := ⟨2, ![8192, 1024]⟩
abbrev S1x1024x1024 : Shape := ⟨3, ![1, 1024, 1024]⟩
abbrev S2x1x1024 : Shape := ⟨3, ![2, 1, 1024]⟩
abbrev S_ : Shape := ⟨0, ![]⟩

class Facts : Prop where
  bitsLt_bf16_f32 : FTy.bits .bf16 < FTy.bits .f32
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S1x1024x1024 : S_.BroadcastsInDim S1x1024x1024 (![] : Fin 0 → Fin S1x1024x1024.rank)
  reducesTo_S1x1024x1024_S_d0_1_2 : S1x1024x1024.ReducesTo [0, 1, 2] S_
  bcast_S_S2x1x1024 : S_.BroadcastsInDim S2x1x1024 (![] : Fin 0 → Fin S2x1x1024.rank)
  reducesTo_S2x1x1024_S_d0_1_2 : S2x1x1024.ReducesTo [0, 1, 2] S_

variable [Facts]

def fn_part1 {F : FTy → Type} [FloatOps F] (main_v15 : IVec S_ 1) (main_v16 : FVec F S2x1x1024 .f32) (main_cst_4 : FVec F S_ .f32) : IVec S_ 1 :=
  let main_v17 : FVec F S2x1x1024 .f32 := broadcastInDim S2x1x1024 ![] bcast_S_S2x1x1024 main_cst_4
  let main_v18 : IVec S2x1x1024 1 := cmpf .olt main_v16 main_v17
  let main_c_5 : IVec S_ 1 := constantI S_ 1 1#1
  let main_v19 : IVec S_ 1 := (fun x v => Host.reduce IntOp.andi x v reducesTo_S2x1x1024_S_d0_1_2 h_S_) main_v18 main_c_5
  let main_v20 : IVec S_ 1 := andi main_v15 main_v19
  main_v20

def fn {F : FTy → Type} [FloatOps F] (main_arg0 : FVec F S8192x1024 .bf16) (main_arg1 : FVec F S1x1024x1024 .bf16) (main_arg2 : FVec F S8192x1024 .f32) (main_arg3 : FVec F S2x1x1024 .f32) (main_arg4 : FVec F S8192x1024 .f32) : IVec S_ 1 :=
  let main_v0 : FVec F S8192x1024 .f32 := (extf .f32 · bitsLt_bf16_f32) main_arg0
  let main_v1 : FVec F S8192x1024 .f32 := Host.absf main_v0
  let main_cst : FVec F S_ .f32 := constant S_ .f32 0x7F800000#32
  let main_v2 : FVec F S8192x1024 .f32 := broadcastInDim S8192x1024 ![] bcast_S_S8192x1024 main_cst
  let main_v3 : IVec S8192x1024 1 := cmpf .olt main_v1 main_v2
  let main_c : IVec S_ 1 := constantI S_ 1 1#1
  let main_v4 : IVec S_ 1 := (fun x v => Host.reduce IntOp.andi x v reducesTo_S8192x1024_S_d0_1 h_S_) main_v3 main_c
  let main_v5 : FVec F S1x1024x1024 .f32 := (extf .f32 · bitsLt_bf16_f32) main_arg1
  let main_v6 : FVec F S1x1024x1024 .f32 := Host.absf main_v5
  let main_cst_0 : FVec F S_ .f32 := constant S_ .f32 0x7F800000#32
  let main_v7 : FVec F S1x1024x1024 .f32 := broadcastInDim S1x1024x1024 ![] bcast_S_S1x1024x1024 main_cst_0
  let main_v8 : IVec S1x1024x1024 1 := cmpf .olt main_v6 main_v7
  let main_c_1 : IVec S_ 1 := constantI S_ 1 1#1
  let main_v9 : IVec S_ 1 := (fun x v => Host.reduce IntOp.andi x v reducesTo_S1x1024x1024_S_d0_1_2 h_S_) main_v8 main_c_1
  let main_v10 : IVec S_ 1 := andi main_v4 main_v9
  let main_v11 : FVec F S8192x1024 .f32 := Host.absf main_arg2
  let main_cst_2 : FVec F S_ .f32 := constant S_ .f32 0x7F800000#32
  let main_v12 : FVec F S8192x1024 .f32 := broadcastInDim S8192x1024 ![] bcast_S_S8192x1024 main_cst_2
  let main_v13 : IVec S8192x1024 1 := cmpf .olt main_v11 main_v12
  let main_c_3 : IVec S_ 1 := constantI S_ 1 1#1
  let main_v14 : IVec S_ 1 := (fun x v => Host.reduce IntOp.andi x v reducesTo_S8192x1024_S_d0_1 h_S_) main_v13 main_c_3
  let main_v15 : IVec S_ 1 := andi main_v10 main_v14
  let main_v16 : FVec F S2x1x1024 .f32 := Host.absf main_arg3
  let main_cst_4 : FVec F S_ .f32 := constant S_ .f32 0x7F800000#32
  fn_part1 (F := F) main_v15 main_v16 main_cst_4
-- ==== Kernel.lean ====
abbrev S8192x1024 : Shape := ⟨2, ![8192, 1024]⟩
abbrev S8192x5120 : Shape := ⟨2, ![8192, 5120]⟩
abbrev S1x4x256x256 : Shape := ⟨4, ![1, 4, 256, 256]⟩
abbrev S2x1024 : Shape := ⟨2, ![2, 1024]⟩
abbrev S2x8x128x128 : Shape := ⟨4, ![2, 8, 128, 128]⟩
abbrev S2x8x128 : Shape := ⟨3, ![2, 8, 128]⟩
abbrev S2x1x1024 : Shape := ⟨3, ![2, 1, 1024]⟩
abbrev S_ : Shape := ⟨0, ![]⟩
abbrev S128x128 : Shape := ⟨2, ![128, 128]⟩
abbrev S1x1x128x128 : Shape := ⟨4, ![1, 1, 128, 128]⟩
abbrev S2x128x8 : Shape := ⟨3, ![2, 128, 8]⟩
abbrev S4x256x256 : Shape := ⟨3, ![4, 256, 256]⟩
abbrev S8x1024 : Shape := ⟨2, ![8, 1024]⟩
abbrev S8x128x128 : Shape := ⟨3, ![8, 128, 128]⟩
abbrev S128x8 : Shape := ⟨2, ![128, 8]⟩
abbrev S256x1024 : Shape := ⟨2, ![256, 1024]⟩
abbrev S16x1024 : Shape := ⟨2, ![16, 1024]⟩
abbrev S1x1x1024 : Shape := ⟨3, ![1, 1, 1024]⟩
abbrev S1x8x128x128 : Shape := ⟨4, ![1, 8, 128, 128]⟩
abbrev S1x128x8 : Shape := ⟨3, ![1, 128, 8]⟩
abbrev S256x3072 : Shape := ⟨2, ![256, 3072]⟩
abbrev S128x1024 : Shape := ⟨2, ![128, 1024]⟩
abbrev S272x1024 : Shape := ⟨2, ![272, 1024]⟩
abbrev S256x1 : Shape := ⟨2, ![256, 1]⟩
abbrev S272x1 : Shape := ⟨2, ![272, 1]⟩
abbrev S272x256 : Shape := ⟨2, ![272, 256]⟩
abbrev S256x256 : Shape := ⟨2, ![256, 256]⟩
abbrev S1x1x256x256 : Shape := ⟨4, ![1, 1, 256, 256]⟩
abbrev S1x256 : Shape := ⟨2, ![1, 256]⟩
abbrev S256 : Shape := ⟨1, ![256]⟩
abbrev S1x1x256 : Shape := ⟨3, ![1, 1, 256]⟩
abbrev S1x256x256 : Shape := ⟨3, ![1, 256, 256]⟩
abbrev S1x1024 : Shape := ⟨2, ![1, 1024]⟩
abbrev S1x128x1 : Shape := ⟨3, ![1, 128, 1]⟩
abbrev S128x1 : Shape := ⟨2, ![128, 1]⟩
abbrev S1x128x128 : Shape := ⟨3, ![1, 128, 128]⟩
abbrev S1024 : Shape := ⟨1, ![1024]⟩
abbrev S128 : Shape := ⟨1, ![128]⟩

abbrev nBuf : Space → Nat
  | .hbm => 35
  | .vmem => 30
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S8192x5120, .bf16⟩
  | .hbm, ⟨3, _⟩ => ⟨S8192x5120, .bf16⟩
  | .hbm, ⟨4, _⟩ => ⟨S1x4x256x256, .bf16⟩
  | .hbm, ⟨5, _⟩ => ⟨S2x1024, .f32⟩
  | .hbm, ⟨6, _⟩ => ⟨S2x1024, .f32⟩
  | .hbm, ⟨7, _⟩ => ⟨S2x8x128x128, .f32⟩
  | .hbm, ⟨8, _⟩ => ⟨S2x8x128, .f32⟩
  | .hbm, ⟨9, _⟩ => ⟨S2x1x1024, .f32⟩
  | .hbm, ⟨10, _⟩ => ⟨S2x1x1024, .f32⟩
  | .hbm, ⟨11, _⟩ => ⟨S_, .f32⟩
  | .hbm, ⟨12, _⟩ => ⟨S128x128, .f32⟩
  | .hbm, ⟨13, _⟩ => ⟨S128x128, .i32⟩
  | .hbm, ⟨14, _⟩ => ⟨S_, .i32⟩
  | .hbm, ⟨15, _⟩ => ⟨S128x128, .i32⟩
  | .hbm, ⟨16, _⟩ => ⟨S128x128, .i32⟩
  | .hbm, ⟨17, _⟩ => ⟨S128x128, .i32⟩
  | .hbm, ⟨18, _⟩ => ⟨S128x128, .i1⟩
  | .hbm, ⟨19, _⟩ => ⟨S_, .f32⟩
  | .hbm, ⟨20, _⟩ => ⟨S128x128, .f32⟩
  | .hbm, ⟨21, _⟩ => ⟨S128x128, .f32⟩
  | .hbm, ⟨22, _⟩ => ⟨S1x1x128x128, .f32⟩
  | .hbm, ⟨23, _⟩ => ⟨S2x8x128x128, .f32⟩
  | .hbm, ⟨24, _⟩ => ⟨S2x8x128x128, .f32⟩
  | .hbm, ⟨25, _⟩ => ⟨S2x8x128x128, .bf16⟩
  | .hbm, ⟨26, _⟩ => ⟨S2x8x128x128, .f32⟩
  | .hbm, ⟨27, _⟩ => ⟨S2x8x128x128, .bf16⟩
  | .hbm, ⟨28, _⟩ => ⟨S2x128x8, .f32⟩
  | .hbm, ⟨29, _⟩ => ⟨S8192x5120, .bf16⟩
  | .hbm, ⟨30, _⟩ => ⟨S4x256x256, .f32⟩
  | .hbm, ⟨31, _⟩ => ⟨S8x1024, .f32⟩
  | .hbm, ⟨32, _⟩ => ⟨S8x128x128, .f32⟩
  | .hbm, ⟨33, _⟩ => ⟨S128x8, .f32⟩
  | .hbm, ⟨34, _⟩ => ⟨S8x1024, .f32⟩
  | .local _ .vmem, ⟨0, _⟩ => ⟨S256x1024, .bf16⟩
  | .local _ .vmem, ⟨1, _⟩ => ⟨S256x1024, .bf16⟩
  | .local _ .vmem, ⟨2, _⟩ => ⟨S16x1024, .bf16⟩
  | .local _ .vmem, ⟨3, _⟩ => ⟨S16x1024, .bf16⟩
  | .local _ .vmem, ⟨4, _⟩ => ⟨S256x1024, .bf16⟩
  | .local _ .vmem, ⟨5, _⟩ => ⟨S256x1024, .bf16⟩
  | .local _ .vmem, ⟨6, _⟩ => ⟨S256x1024, .bf16⟩
  | .local _ .vmem, ⟨7, _⟩ => ⟨S256x1024, .bf16⟩
  | .local _ .vmem, ⟨8, _⟩ => ⟨S16x1024, .bf16⟩
  | .local _ .vmem, ⟨9, _⟩ => ⟨S16x1024, .bf16⟩
  | .local _ .vmem, ⟨10, _⟩ => ⟨S256x1024, .bf16⟩
  | .local _ .vmem, ⟨11, _⟩ => ⟨S256x1024, .bf16⟩
  | .local _ .vmem, ⟨12, _⟩ => ⟨S256x1024, .bf16⟩
  | .local _ .vmem, ⟨13, _⟩ => ⟨S256x1024, .bf16⟩
  | .local _ .vmem, ⟨14, _⟩ => ⟨S1x4x256x256, .bf16⟩
  | .local _ .vmem, ⟨15, _⟩ => ⟨S1x1x1024, .f32⟩
  | .local _ .vmem, ⟨16, _⟩ => ⟨S1x1x1024, .f32⟩
  | .local _ .vmem, ⟨17, _⟩ => ⟨S1x8x128x128, .bf16⟩
  | .local _ .vmem, ⟨18, _⟩ => ⟨S1x8x128x128, .bf16⟩
  | .local _ .vmem, ⟨19, _⟩ => ⟨S1x128x8, .f32⟩
  | .local _ .vmem, ⟨20, _⟩ => ⟨S256x3072, .bf16⟩
  | .local _ .vmem, ⟨21, _⟩ => ⟨S256x3072, .bf16⟩
  | .local _ .vmem, ⟨22, _⟩ => ⟨S4x256x256, .f32⟩
  | .local _ .vmem, ⟨23, _⟩ => ⟨S8x1024, .f32⟩
  | .local _ .vmem, ⟨24, _⟩ => ⟨S8x128x128, .f32⟩
  | .local _ .vmem, ⟨25, _⟩ => ⟨S128x8, .f32⟩
  | .local _ .vmem, ⟨26, _⟩ => ⟨S8x1024, .f32⟩
  | .local _ .vmem, ⟨27, _⟩ => ⟨S256x1024, .f32⟩
  | .local _ .vmem, ⟨28, _⟩ => ⟨S256x1024, .f32⟩
  | .local _ .vmem, ⟨29, _⟩ => ⟨S128x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_cst : Ref sig .tc := ⟨.hbm, 11, rfl⟩
abbrev main_v2 : Ref sig .tc := ⟨.hbm, 12, rfl⟩
abbrev main_call0_v0 : Ref sig .tc := ⟨.hbm, 13, rfl⟩
abbrev main_call0_c : Ref sig .tc := ⟨.hbm, 14, rfl⟩
abbrev main_call0_v1 : Ref sig .tc := ⟨.hbm, 15, rfl⟩
abbrev main_call0_v2 : Ref sig .tc := ⟨.hbm, 16, rfl⟩
abbrev main_call0_v3 : Ref sig .tc := ⟨.hbm, 17, rfl⟩
abbrev main_call0_v4 : Ref sig .tc := ⟨.hbm, 18, rfl⟩
abbrev main_call0_cst : Ref sig .tc := ⟨.hbm, 19, rfl⟩
abbrev main_call0_v5 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11_0 : Ref sig .tc := ⟨.hbm, 29, rfl⟩
abbrev main_v11_1 : Ref sig .tc := ⟨.hbm, 30, rfl⟩
abbrev main_v11_2 : Ref sig .tc := ⟨.hbm, 31, rfl⟩
abbrev main_v11_3 : Ref sig .tc := ⟨.hbm, 32, rfl⟩
abbrev main_v11_4 : Ref sig .tc := ⟨.hbm, 33, rfl⟩
abbrev main_v11_5 : Ref sig .tc := ⟨.hbm, 34, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg10_0 : Ref sig .tc := ⟨.vmem, 17, rfl⟩
abbrev cc0_stg11_0 : Ref sig .tc := ⟨.vmem, 18, rfl⟩
abbrev cc0_stg12_0 : Ref sig .tc := ⟨.vmem, 19, rfl⟩
abbrev cc0_stg13_0 : Ref sig .tc := ⟨.vmem, 20, rfl⟩
abbrev cc0_stg13_1 : Ref sig .tc := ⟨.vmem, 21, rfl⟩
abbrev cc0_stg14_0 : Ref sig .tc := ⟨.vmem, 22, rfl⟩
abbrev cc0_stg15_0 : Ref sig .tc := ⟨.vmem, 23, rfl⟩
abbrev cc0_stg16_0 : Ref sig .tc := ⟨.vmem, 24, rfl⟩
abbrev cc0_stg17_0 : Ref sig .tc := ⟨.vmem, 25, rfl⟩
abbrev cc0_stg18_0 : Ref sig .tc := ⟨.vmem, 26, rfl⟩
abbrev cc0_scratch0 : Ref sig .tc := ⟨.vmem, 27, rfl⟩
abbrev cc0_scratch1 : Ref sig .tc := ⟨.vmem, 28, rfl⟩
abbrev cc0_scratch2 : Ref sig .tc := ⟨.vmem, 29, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem9_0 : DmaSem sig := 16
abbrev cc0_sem10_0 : DmaSem sig := 17
abbrev cc0_sem11_0 : DmaSem sig := 18
abbrev cc0_sem12_0 : DmaSem sig := 19
abbrev cc0_sem13_0 : DmaSem sig := 20
abbrev cc0_sem13_1 : DmaSem sig := 21
abbrev cc0_sem14_0 : DmaSem sig := 22
abbrev cc0_sem15_0 : DmaSem sig := 23
abbrev cc0_sem16_0 : DmaSem sig := 24
abbrev cc0_sem17_0 : DmaSem sig := 25
abbrev cc0_sem18_0 : DmaSem sig := 26

abbrev nD : Nat := 1
abbrev τ : Topo := Topo.v7x

variable {F : FTy → Type} [FloatOps F]

abbrev grid0 : Pipeline.Grid := ⟨1, ![32], ![false]⟩

def k0_cond2 (i : grid0.Coords) : BitVec 1 :=
  let arg0 : BitVec 32 := BitVec.ofNat 32 (i 0).val
  let c31_i32_565 : BitVec 32 := 31#32
  let v816 : BitVec 1 := Scalar.cmpi .eq arg0 c31_i32_565
  let v817 : BitVec 32 := Scalar.extui v816
  let c0_i32_566 : BitVec 32 := 0#32
  let v818 : BitVec 1 := Scalar.cmpi .ne v817 c0_i32_566
  v818

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let v0 : BitVec 32 := Scalar.addi arg0 c1_i32
  let c16_i32 : BitVec 32 := 16#32
  let v1 : BitVec 32 := Scalar.muli v0 c16_i32
  let c511_i32 : BitVec 32 := 511#32
  let v2 : BitVec 32 := Scalar.minsi v1 c511_i32
  let c0_i32 : BitVec 32 := 0#32
  let c0_i32_0 : BitVec 32 := 0#32
  ![v2.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c16_i32 : BitVec 32 := 16#32
  let v0 : BitVec 32 := Scalar.muli arg0 c16_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_5 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_6 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_7 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_8 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_9 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_10 (i : grid0.Coords) : Fin 4 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  let c0_i32_2 : BitVec 32 := 0#32
  ![c1_i32.toNat, c0_i32.toNat, c0_i32_0.toNat, c0_i32_1.toNat]

def cc0_transform_11 (i : grid0.Coords) : Fin 4 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  let c0_i32_2 : BitVec 32 := 0#32
  ![c1_i32.toNat, c0_i32.toNat, c0_i32_0.toNat, c0_i32_1.toNat]

def cc0_transform_12 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S16x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x4x256x256 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x8x128x128 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x8x128x128 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x128x8 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S256x3072 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 1 → Memref sig .tc .vmem S4x256x256 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S8x1024 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S8x128x128 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S128x8 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S8x1024 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]
-- ==== KernelIdeal.lean ====
variable {F : FTy → Type} [FloatOps F] [Named F]
def κ : String → Option EReal := fun
  | "inv_sqrt2" => some (((Real.sqrt 2)⁻¹ : ℝ) : EReal)
  | "inv_sqrt_2pi" => some (((Real.sqrt (2 * Real.pi))⁻¹ : ℝ) : EReal)
  | _ => none
-- ==== ReferenceIdeal.lean ====
abbrev S8192x1024 : Shape := ⟨2, ![8192, 1024]⟩
abbrev S8192x5120 : Shape := ⟨2, ![8192, 5120]⟩
abbrev S1x4x256x256 : Shape := ⟨4, ![1, 4, 256, 256]⟩
abbrev S2x1024 : Shape := ⟨2, ![2, 1024]⟩
abbrev S2x8x128x128 : Shape := ⟨4, ![2, 8, 128, 128]⟩
abbrev S2x8x128 : Shape := ⟨3, ![2, 8, 128]⟩
abbrev S8192x3072 : Shape := ⟨2, ![8192, 3072]⟩
abbrev S4x256x256 : Shape := ⟨3, ![4, 256, 256]⟩
abbrev S1x1024 : Shape := ⟨2, ![1, 1024]⟩
abbrev S1024 : Shape := ⟨1, ![1024]⟩
abbrev S1x8x128x128 : Shape := ⟨4, ![1, 8, 128, 128]⟩
abbrev S8x128x128 : Shape := ⟨3, ![8, 128, 128]⟩
abbrev S1x8x128 : Shape := ⟨3, ![1, 8, 128]⟩
abbrev S8x128 : Shape := ⟨2, ![8, 128]⟩
abbrev S_ : Shape := ⟨0, ![]⟩
abbrev S8192 : Shape := ⟨1, ![8192]⟩
abbrev S8192x256 : Shape := ⟨2, ![8192, 256]⟩
abbrev S2x256 : Shape := ⟨2, ![2, 256]⟩
abbrev S8190x256 : Shape := ⟨2, ![8190, 256]⟩
abbrev S8192x1 : Shape := ⟨2, ![8192, 1]⟩
abbrev S4x256 : Shape := ⟨2, ![4, 256]⟩
abbrev S8188x256 : Shape := ⟨2, ![8188, 256]⟩
abbrev S8x256 : Shape := ⟨2, ![8, 256]⟩
abbrev S8184x256 : Shape := ⟨2, ![8184, 256]⟩
abbrev S16x256 : Shape := ⟨2, ![16, 256]⟩
abbrev S8176x256 : Shape := ⟨2, ![8176, 256]⟩
abbrev S8192x1x256 : Shape := ⟨3, ![8192, 1, 256]⟩
abbrev S8192x4x256 : Shape := ⟨3, ![8192, 4, 256]⟩
abbrev S4x256x8192 : Shape := ⟨3, ![4, 256, 8192]⟩
abbrev S8192x2048 : Shape := ⟨2, ![8192, 2048]⟩
abbrev S64x128x8x128 : Shape := ⟨4, ![64, 128, 8, 128]⟩
abbrev S128x128 : Shape := ⟨2, ![128, 128]⟩
abbrev S1x128x128 : Shape := ⟨3, ![1, 128, 128]⟩
abbrev S8x64x128x128 : Shape := ⟨4, ![8, 64, 128, 128]⟩
abbrev S128x8 : Shape := ⟨2, ![128, 8]⟩
abbrev S1x128x8x1 : Shape := ⟨4, ![1, 128, 8, 1]⟩
abbrev S4x8192x256 : Shape := ⟨3, ![4, 8192, 256]⟩
abbrev S7x1024 : Shape := ⟨2, ![7, 1024]⟩
abbrev S8x1024 : Shape := ⟨2, ![8, 1024]⟩

abbrev nBuf : Space → Nat
  | .hbm => 343
  | .vmem => 0
  | .smem => 0
  | _ => 0

abbrev hbmTy0_0 (i : Nat) : BufTy := match i % 128 with
  | 0 => ⟨S8192x1024, .bf16⟩
  | 1 => ⟨S8192x1024, .bf16⟩
  | 2 => ⟨S8192x5120, .bf16⟩
  | 3 => ⟨S8192x5120, .bf16⟩
  | 4 => ⟨S1x4x256x256, .bf16⟩
  | 5 => ⟨S2x1024, .f32⟩
  | 6 => ⟨S2x1024, .f32⟩
  | 7 => ⟨S2x8x128x128, .f32⟩
  | 8 => ⟨S2x8x128, .f32⟩
  | 9 => ⟨S8192x3072, .bf16⟩
  | 10 => ⟨S8192x3072, .f32⟩
  | 11 => ⟨S4x256x256, .bf16⟩
  | 12 => ⟨S4x256x256, .f32⟩
  | 13 => ⟨S1x1024, .f32⟩
  | 14 => ⟨S1024, .f32⟩
  | 15 => ⟨S1x1024, .f32⟩
  | 16 => ⟨S1024, .f32⟩
  | 17 => ⟨S1x8x128x128, .f32⟩
  | 18 => ⟨S8x128x128, .f32⟩
  | 19 => ⟨S1x8x128, .f32⟩
  | 20 => ⟨S8x128, .f32⟩
  | 21 => ⟨S8192x1024, .f32⟩
  | 22 => ⟨S_, .f32⟩
  | 23 => ⟨S_, .f32⟩
  | 24 => ⟨S8192x1024, .f32⟩
  | 25 => ⟨S8192, .i32⟩
  | 26 => ⟨S8192x256, .f32⟩
  | 27 => ⟨S_, .f32⟩
  | 28 => ⟨S2x256, .f32⟩
  | 29 => ⟨S8190x256, .f32⟩
  | 30 => ⟨S8192x256, .f32⟩
  | 31 => ⟨S_, .f32⟩
  | 32 => ⟨S2x256, .f32⟩
  | 33 => ⟨S_, .i32⟩
  | 34 => ⟨S8192, .i32⟩
  | 35 => ⟨S8192, .i32⟩
  | 36 => ⟨S_, .i32⟩
  | 37 => ⟨S8192, .i32⟩
  | 38 => ⟨S8192, .i32⟩
  | 39 => ⟨S8192, .f32⟩
  | 40 => ⟨S8192x1, .f32⟩
  | 41 => ⟨S8192x256, .f32⟩
  | 42 => ⟨S8192x256, .f32⟩
  | 43 => ⟨S8192x256, .f32⟩
  | 44 => ⟨S8192x256, .f32⟩
  | 45 => ⟨S8192x256, .f32⟩
  | 46 => ⟨S8192x256, .f32⟩
  | 47 => ⟨S_, .f32⟩
  | 48 => ⟨S4x256, .f32⟩
  | 49 => ⟨S8188x256, .f32⟩
  | 50 => ⟨S8192x256, .f32⟩
  | 51 => ⟨S_, .f32⟩
  | 52 => ⟨S4x256, .f32⟩
  | 53 => ⟨S_, .i32⟩
  | 54 => ⟨S8192, .i32⟩
  | 55 => ⟨S8192, .i32⟩
  | 56 => ⟨S_, .i32⟩
  | 57 => ⟨S8192, .i32⟩
  | 58 => ⟨S8192, .i32⟩
  | 59 => ⟨S8192, .f32⟩
  | 60 => ⟨S8192x1, .f32⟩
  | 61 => ⟨S8192x256, .f32⟩
  | 62 => ⟨S8192x256, .f32⟩
  | 63 => ⟨S8192x256, .f32⟩
  | 64 => ⟨S8192x256, .f32⟩
  | 65 => ⟨S8192x256, .f32⟩
  | 66 => ⟨S8192x256, .f32⟩
  | 67 => ⟨S_, .f32⟩
  | 68 => ⟨S8x256, .f32⟩
  | 69 => ⟨S8184x256, .f32⟩
  | 70 => ⟨S8192x256, .f32⟩
  | 71 => ⟨S_, .f32⟩
  | 72 => ⟨S8x256, .f32⟩
  | 73 => ⟨S_, .i32⟩
  | 74 => ⟨S8192, .i32⟩
  | 75 => ⟨S8192, .i32⟩
  | 76 => ⟨S_, .i32⟩
  | 77 => ⟨S8192, .i32⟩
  | 78 => ⟨S8192, .i32⟩
  | 79 => ⟨S8192, .f32⟩
  | 80 => ⟨S8192x1, .f32⟩
  | 81 => ⟨S8192x256, .f32⟩
  | 82 => ⟨S8192x256, .f32⟩
  | 83 => ⟨S8192x256, .f32⟩
  | 84 => ⟨S8192x256, .f32⟩
  | 85 => ⟨S8192x256, .f32⟩
  | 86 => ⟨S8192x256, .f32⟩
  | 87 => ⟨S_, .f32⟩
  | 88 => ⟨S16x256, .f32⟩
  | 89 => ⟨S8176x256, .f32⟩
  | 90 => ⟨S8192x256, .f32⟩
  | 91 => ⟨S_, .f32⟩
  | 92 => ⟨S16x256, .f32⟩
  | 93 => ⟨S_, .i32⟩
  | 94 => ⟨S8192, .i32⟩
  | 95 => ⟨S8192, .i32⟩
  | 96 => ⟨S_, .i32⟩
  | 97 => ⟨S8192, .i32⟩
  | 98 => ⟨S8192, .i32⟩
  | 99 => ⟨S8192, .f32⟩
  | 100 => ⟨S8192x1, .f32⟩
  | 101 => ⟨S8192x256, .f32⟩
  | 102 => ⟨S8192x256, .f32⟩
  | 103 => ⟨S8192x256, .f32⟩
  | 104 => ⟨S8192x256, .f32⟩
  | 105 => ⟨S8192x256, .f32⟩
  | 106 => ⟨S8192x1x256, .f32⟩
  | 107 => ⟨S8192x1x256, .f32⟩
  | 108 => ⟨S8192x1x256, .f32⟩
  | 109 => ⟨S8192x1x256, .f32⟩
  | 110 => ⟨S8192x4x256, .f32⟩
  | 111 => ⟨S4x256x8192, .f32⟩
  | 112 => ⟨S8192x4x256, .f32⟩
  | 113 => ⟨S8192x1024, .f32⟩
  | 114 => ⟨S1x1024, .f32⟩
  | 115 => ⟨S8192x1024, .f32⟩
  | 116 => ⟨S8192x1024, .f32⟩
  | 117 => ⟨S8192x2048, .f32⟩
  | 118 => ⟨S_, .f32⟩
  | 119 => ⟨S8192x2048, .f32⟩
  | 120 => ⟨S8192x2048, .f32⟩
  | 121 => ⟨S8192x2048, .f32⟩
  | 122 => ⟨S_, .f32⟩
  | 123 => ⟨S_, .f32⟩
  | 124 => ⟨S8192x2048, .f32⟩
  | 125 => ⟨S8192x2048, .f32⟩
  | 126 => ⟨S8192x2048, .f32⟩
  | 127 => ⟨S_, .f32⟩
  | _ => ⟨S8192x1024, .bf16⟩

abbrev hbmTy0_1 (i : Nat) : BufTy := match i % 128 with
  | 0 => ⟨S_, .f32⟩
  | 1 => ⟨S_, .f32⟩
  | 2 => ⟨S_, .f32⟩
  | 3 => ⟨S_, .f32⟩
  | 4 => ⟨S_, .f32⟩
  | 5 => ⟨S8192x2048, .f32⟩
  | 6 => ⟨S8192x2048, .f32⟩
  | 7 => ⟨S8192x2048, .f32⟩
  | 8 => ⟨S8192x2048, .f32⟩
  | 9 => ⟨S8192x1024, .f32⟩
  | 10 => ⟨S8192x1024, .f32⟩
  | 11 => ⟨S8192x1024, .f32⟩
  | 12 => ⟨S_, .f32⟩
  | 13 => ⟨S8192, .f32⟩
  | 14 => ⟨S8192x1, .f32⟩
  | 15 => ⟨S_, .f32⟩
  | 16 => ⟨S8192x1, .f32⟩
  | 17 => ⟨S8192x1, .f32⟩
  | 18 => ⟨S_, .f32⟩
  | 19 => ⟨S8192x1, .f32⟩
  | 20 => ⟨S8192x1, .f32⟩
  | 21 => ⟨S8192x1, .f32⟩
  | 22 => ⟨S8192x1, .f32⟩
  | 23 => ⟨S_, .f32⟩
  | 24 => ⟨S8192x1, .f32⟩
  | 25 => ⟨S8192x1, .f32⟩
  | 26 => ⟨S8192x1024, .f32⟩
  | 27 => ⟨S8192x1024, .f32⟩
  | 28 => ⟨S1x1024, .f32⟩
  | 29 => ⟨S8192x1024, .f32⟩
  | 30 => ⟨S8192x1024, .f32⟩
  | 31 => ⟨S64x128x8x128, .f32⟩
  | 32 => ⟨S_, .f32⟩
  | 33 => ⟨S128x128, .f32⟩
  | 34 => ⟨S128x128, .i32⟩
  | 35 => ⟨S_, .i32⟩
  | 36 => ⟨S128x128, .i32⟩
  | 37 => ⟨S128x128, .i32⟩
  | 38 => ⟨S128x128, .i32⟩
  | 39 => ⟨S128x128, .i1⟩
  | 40 => ⟨S_, .f32⟩
  | 41 => ⟨S128x128, .f32⟩
  | 42 => ⟨S128x128, .f32⟩
  | 43 => ⟨S1x128x128, .f32⟩
  | 44 => ⟨S8x128x128, .f32⟩
  | 45 => ⟨S8x128x128, .f32⟩
  | 46 => ⟨S8x64x128x128, .f32⟩
  | 47 => ⟨S64x128x8x128, .f32⟩
  | 48 => ⟨S128x8, .f32⟩
  | 49 => ⟨S1x128x8x1, .f32⟩
  | 50 => ⟨S64x128x8x128, .f32⟩
  | 51 => ⟨S64x128x8x128, .f32⟩
  | 52 => ⟨S8192x1024, .f32⟩
  | 53 => ⟨S8192x1024, .f32⟩
  | 54 => ⟨S8192x1024, .f32⟩
  | 55 => ⟨S8192x1024, .f32⟩
  | 56 => ⟨S8192x1024, .f32⟩
  | 57 => ⟨S8192x1024, .f32⟩
  | 58 => ⟨S64x128x8x128, .f32⟩
  | 59 => ⟨S_, .f32⟩
  | 60 => ⟨S128x8, .f32⟩
  | 61 => ⟨S1x128x8x1, .f32⟩
  | 62 => ⟨S_, .f32⟩
  | 63 => ⟨S128x8, .f32⟩
  | 64 => ⟨S8x128, .f32⟩
  | 65 => ⟨S8x64x128x128, .f32⟩
  | 66 => ⟨S8x128x128, .f32⟩
  | 67 => ⟨S8x64x128x128, .f32⟩
  | 68 => ⟨S64x128x8x128, .f32⟩
  | 69 => ⟨S8x128x128, .f32⟩
  | 70 => ⟨S8x128x128, .f32⟩
  | 71 => ⟨S8192x1024, .f32⟩
  | 72 => ⟨S8192x1024, .f32⟩
  | 73 => ⟨S_, .f32⟩
  | 74 => ⟨S1024, .f32⟩
  | 75 => ⟨S1x1024, .f32⟩
  | 76 => ⟨S8192x1024, .f32⟩
  | 77 => ⟨S8192x1024, .f32⟩
  | 78 => ⟨S_, .f32⟩
  | 79 => ⟨S1024, .f32⟩
  | 80 => ⟨S8192x1024, .f32⟩
  | 81 => ⟨S_, .f32⟩
  | 82 => ⟨S8192, .f32⟩
  | 83 => ⟨S8192x1, .f32⟩
  | 84 => ⟨S8192x1024, .f32⟩
  | 85 => ⟨S8192x1024, .f32⟩
  | 86 => ⟨S8192x1, .f32⟩
  | 87 => ⟨S_, .f32⟩
  | 88 => ⟨S8192x1, .f32⟩
  | 89 => ⟨S8192x1, .f32⟩
  | 90 => ⟨S_, .f32⟩
  | 91 => ⟨S8192, .f32⟩
  | 92 => ⟨S8192x1024, .f32⟩
  | 93 => ⟨S8192x1024, .f32⟩
  | 94 => ⟨S8192x1024, .f32⟩
  | 95 => ⟨S8192x1024, .f32⟩
  | 96 => ⟨S8192x1024, .f32⟩
  | 97 => ⟨S_, .f32⟩
  | 98 => ⟨S8192x2048, .f32⟩
  | 99 => ⟨S_, .f32⟩
  | 100 => ⟨S8192x2048, .f32⟩
  | 101 => ⟨S8192x2048, .f32⟩
  | 102 => ⟨S8192x2048, .f32⟩
  | 103 => ⟨S8192x2048, .f32⟩
  | 104 => ⟨S8192x2048, .f32⟩
  | 105 => ⟨S8192x2048, .f32⟩
  | 106 => ⟨S8192x2048, .f32⟩
  | 107 => ⟨S8192x2048, .f32⟩
  | 108 => ⟨S8192x2048, .f32⟩
  | 109 => ⟨S8192x2048, .f32⟩
  | 110 => ⟨S_, .f32⟩
  | 111 => ⟨S8192x2048, .f32⟩
  | 112 => ⟨S8192x2048, .f32⟩
  | 113 => ⟨S8192x2048, .f32⟩
  | 114 => ⟨S_, .f32⟩
  | 115 => ⟨S8192x3072, .f32⟩
  | 116 => ⟨S8192x1024, .f32⟩
  | 117 => ⟨S_, .f32⟩
  | 118 => ⟨S1024, .f32⟩
  | 119 => ⟨S1x1024, .f32⟩
  | 120 => ⟨S8192x1024, .f32⟩
  | 121 => ⟨S8192x1024, .f32⟩
  | 122 => ⟨S_, .f32⟩
  | 123 => ⟨S1024, .f32⟩
  | 124 => ⟨S8192x4x256, .f32⟩
  | 125 => ⟨S4x256x8192, .f32⟩
  | 126 => ⟨S4x8192x256, .f32⟩
  | 127 => ⟨S8192x4x256, .f32⟩
  | _ => ⟨S8192x1024, .bf16⟩

abbrev hbmTy0_2 (i : Nat) : BufTy := match i % 128 with
  | 0 => ⟨S4x256x256, .f32⟩
  | 1 => ⟨S4x256x256, .f32⟩
  | 2 => ⟨S8192x1x256, .f32⟩
  | 3 => ⟨S8192x256, .f32⟩
  | 4 => ⟨S8192x1x256, .f32⟩
  | 5 => ⟨S8192x256, .f32⟩
  | 6 => ⟨S8192x1x256, .f32⟩
  | 7 => ⟨S8192x256, .f32⟩
  | 8 => ⟨S8192x1x256, .f32⟩
  | 9 => ⟨S8192x256, .f32⟩
  | 10 => ⟨S8192x256, .f32⟩
  | 11 => ⟨S_, .f32⟩
  | 12 => ⟨S8192x1024, .f32⟩
  | 13 => ⟨S8192x256, .f32⟩
  | 14 => ⟨S8192x256, .f32⟩
  | 15 => ⟨S8192x256, .f32⟩
  | 16 => ⟨S16x256, .f32⟩
  | 17 => ⟨S8176x256, .f32⟩
  | 18 => ⟨S_, .f32⟩
  | 19 => ⟨S8192x256, .f32⟩
  | 20 => ⟨S8192x256, .f32⟩
  | 21 => ⟨S_, .f32⟩
  | 22 => ⟨S8192x1024, .f32⟩
  | 23 => ⟨S8192x256, .f32⟩
  | 24 => ⟨S_, .f32⟩
  | 25 => ⟨S8192x1024, .f32⟩
  | 26 => ⟨S8192x1024, .f32⟩
  | 27 => ⟨S8192x256, .f32⟩
  | 28 => ⟨S8192x256, .f32⟩
  | 29 => ⟨S8192x256, .f32⟩
  | 30 => ⟨S8x256, .f32⟩
  | 31 => ⟨S8184x256, .f32⟩
  | 32 => ⟨S_, .f32⟩
  | 33 => ⟨S8192x256, .f32⟩
  | 34 => ⟨S8192x256, .f32⟩
  | 35 => ⟨S_, .f32⟩
  | 36 => ⟨S8192x1024, .f32⟩
  | 37 => ⟨S8192x1024, .f32⟩
  | 38 => ⟨S8192x256, .f32⟩
  | 39 => ⟨S_, .f32⟩
  | 40 => ⟨S8192x1024, .f32⟩
  | 41 => ⟨S8192x1024, .f32⟩
  | 42 => ⟨S8192x256, .f32⟩
  | 43 => ⟨S8192x256, .f32⟩
  | 44 => ⟨S8192x256, .f32⟩
  | 45 => ⟨S4x256, .f32⟩
  | 46 => ⟨S8188x256, .f32⟩
  | 47 => ⟨S_, .f32⟩
  | 48 => ⟨S8192x256, .f32⟩
  | 49 => ⟨S8192x256, .f32⟩
  | 50 => ⟨S_, .f32⟩
  | 51 => ⟨S8192x1024, .f32⟩
  | 52 => ⟨S8192x1024, .f32⟩
  | 53 => ⟨S8192x256, .f32⟩
  | 54 => ⟨S_, .f32⟩
  | 55 => ⟨S8192x1024, .f32⟩
  | 56 => ⟨S8192x1024, .f32⟩
  | 57 => ⟨S8192x256, .f32⟩
  | 58 => ⟨S8192x256, .f32⟩
  | 59 => ⟨S8192x256, .f32⟩
  | 60 => ⟨S2x256, .f32⟩
  | 61 => ⟨S8190x256, .f32⟩
  | 62 => ⟨S_, .f32⟩
  | 63 => ⟨S8192x256, .f32⟩
  | 64 => ⟨S8192x256, .f32⟩
  | 65 => ⟨S_, .f32⟩
  | 66 => ⟨S8192x1024, .f32⟩
  | 67 => ⟨S8192x1024, .f32⟩
  | 68 => ⟨S_, .f32⟩
  | 69 => ⟨S_, .f32⟩
  | 70 => ⟨S8192x1024, .f32⟩
  | 71 => ⟨S8192x1024, .f32⟩
  | 72 => ⟨S_, .f32⟩
  | 73 => ⟨S8192x3072, .f32⟩
  | 74 => ⟨S8192x3072, .f32⟩
  | 75 => ⟨S8192x3072, .bf16⟩
  | 76 => ⟨S8192x2048, .bf16⟩
  | 77 => ⟨S8192x5120, .bf16⟩
  | 78 => ⟨S1x1024, .f32⟩
  | 79 => ⟨S_, .f32⟩
  | 80 => ⟨S7x1024, .f32⟩
  | 81 => ⟨S8x1024, .f32⟩
  | 82 => ⟨S128x8, .f32⟩
  | 83 => ⟨S1x1024, .f32⟩
  | 84 => ⟨S_, .f32⟩
  | 85 => ⟨S7x1024, .f32⟩
  | 86 => ⟨S8x1024, .f32⟩
  | _ => ⟨S8192x1024, .bf16⟩

abbrev hbmTy (i : Nat) : BufTy := match i / 128 with
  | 0 => hbmTy0_0 i
  | 1 => hbmTy0_1 i
  | 2 => hbmTy0_2 i
  | _ => ⟨S8192x1024, .bf16⟩

abbrev bufTy : (tb : Table) → Fin (tcTables nBuf tb) → BufTy
  | .hbm, ⟨i, _⟩ => hbmTy i
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_call0_call0_cst : Ref sig .tc := ⟨.hbm, 22, rfl⟩
abbrev main_call0_call0_v0 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_cst_0 : Ref sig .tc := ⟨.hbm, 31, rfl⟩
abbrev main_v19 : Ref sig .tc := ⟨.hbm, 32, rfl⟩
abbrev main_c : Ref sig .tc := ⟨.hbm, 33, rfl⟩
abbrev main_v20 : Ref sig .tc := ⟨.hbm, 34, rfl⟩
abbrev main_v21 : Ref sig .tc := ⟨.hbm, 35, rfl⟩
abbrev main_c_1 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_cst_2 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_cst_3 : Ref sig .tc := ⟨.hbm, 51, rfl⟩
abbrev main_v35 : Ref sig .tc := ⟨.hbm, 52, rfl⟩
abbrev main_c_4 : Ref sig .tc := ⟨.hbm, 53, rfl⟩
abbrev main_v36 : Ref sig .tc := ⟨.hbm, 54, rfl⟩
abbrev main_v37 : Ref sig .tc := ⟨.hbm, 55, rfl⟩
abbrev main_c_5 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_cst_6 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_cst_7 : Ref sig .tc := ⟨.hbm, 71, rfl⟩
abbrev main_v51 : Ref sig .tc := ⟨.hbm, 72, rfl⟩
abbrev main_c_8 : Ref sig .tc := ⟨.hbm, 73, rfl⟩
abbrev main_v52 : Ref sig .tc := ⟨.hbm, 74, rfl⟩
abbrev main_v53 : Ref sig .tc := ⟨.hbm, 75, rfl⟩
abbrev main_c_9 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_cst_10 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_cst_11 : Ref sig .tc := ⟨.hbm, 91, rfl⟩
abbrev main_v67 : Ref sig .tc := ⟨.hbm, 92, rfl⟩
abbrev main_c_12 : Ref sig .tc := ⟨.hbm, 93, rfl⟩
abbrev main_v68 : Ref sig .tc := ⟨.hbm, 94, rfl⟩
abbrev main_v69 : Ref sig .tc := ⟨.hbm, 95, rfl⟩
abbrev main_c_13 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_v78 : Ref sig .tc := ⟨.hbm, 105, rfl⟩
abbrev main_v79 : Ref sig .tc := ⟨.hbm, 106, rfl⟩
abbrev main_v80 : Ref sig .tc := ⟨.hbm, 107, rfl⟩
abbrev main_v81 : Ref sig .tc := ⟨.hbm, 108, rfl⟩
abbrev main_v82 : Ref sig .tc := ⟨.hbm, 109, rfl⟩
abbrev main_v83 : Ref sig .tc := ⟨.hbm, 110, rfl⟩
abbrev main_v84 : Ref sig .tc := ⟨.hbm, 111, rfl⟩
abbrev main_v85 : Ref sig .tc := ⟨.hbm, 112, rfl⟩
abbrev main_v86 : Ref sig .tc := ⟨.hbm, 113, rfl⟩
abbrev main_v87 : Ref sig .tc := ⟨.hbm, 114, rfl⟩
abbrev main_v88 : Ref sig .tc := ⟨.hbm, 115, rfl⟩
abbrev main_v89 : Ref sig .tc := ⟨.hbm, 116, rfl⟩
abbrev main_v90 : Ref sig .tc := ⟨.hbm, 117, rfl⟩
abbrev main_cst_14 : Ref sig .tc := ⟨.hbm, 118, rfl⟩
abbrev main_v91 : Ref sig .tc := ⟨.hbm, 119, rfl⟩
abbrev main_v92 : Ref sig .tc := ⟨.hbm, 120, rfl⟩
abbrev main_v93 : Ref sig .tc := ⟨.hbm, 121, rfl⟩
abbrev main_cst_15 : Ref sig .tc := ⟨.hbm, 122, rfl⟩
abbrev main_v94 : Ref sig .tc := ⟨.hbm, 123, rfl⟩
abbrev main_v95 : Ref sig .tc := ⟨.hbm, 124, rfl⟩
abbrev main_v96 : Ref sig .tc := ⟨.hbm, 125, rfl⟩
abbrev main_v97 : Ref sig .tc := ⟨.hbm, 126, rfl⟩
abbrev main_cst_16 : Ref sig .tc := ⟨.hbm, 127, rfl⟩
abbrev main_cst_17 : Ref sig .tc := ⟨.hbm, 128, rfl⟩
abbrev main_v98 : Ref sig .tc := ⟨.hbm, 129, rfl⟩
abbrev main_v99 : Ref sig .tc := ⟨.hbm, 130, rfl⟩
abbrev main_cst_18 : Ref sig .tc := ⟨.hbm, 131, rfl⟩
abbrev main_v100 : Ref sig .tc := ⟨.hbm, 132, rfl⟩
abbrev main_v101 : Ref sig .tc := ⟨.hbm, 133, rfl⟩
abbrev main_v102 : Ref sig .tc := ⟨.hbm, 134, rfl⟩
abbrev main_v103 : Ref sig .tc := ⟨.hbm, 135, rfl⟩
abbrev main_v104 : Ref sig .tc := ⟨.hbm, 136, rfl⟩
abbrev main_v105 : Ref sig .tc := ⟨.hbm, 137, rfl⟩
abbrev main_v106 : Ref sig .tc := ⟨.hbm, 138, rfl⟩
abbrev main_v107 : Ref sig .tc := ⟨.hbm, 139, rfl⟩
abbrev main_cst_19 : Ref sig .tc := ⟨.hbm, 140, rfl⟩
abbrev main_v108 : Ref sig .tc := ⟨.hbm, 141, rfl⟩
abbrev main_v109 : Ref sig .tc := ⟨.hbm, 142, rfl⟩
abbrev main_cst_20 : Ref sig .tc := ⟨.hbm, 143, rfl⟩
abbrev main_v110 : Ref sig .tc := ⟨.hbm, 144, rfl⟩
abbrev main_v111 : Ref sig .tc := ⟨.hbm, 145, rfl⟩
abbrev main_cst_21 : Ref sig .tc := ⟨.hbm, 146, rfl⟩
abbrev main_v112 : Ref sig .tc := ⟨.hbm, 147, rfl⟩
abbrev main_v113 : Ref sig .tc := ⟨.hbm, 148, rfl⟩
abbrev main_v114 : Ref sig .tc := ⟨.hbm, 149, rfl⟩
abbrev main_v115 : Ref sig .tc := ⟨.hbm, 150, rfl⟩
abbrev main_cst_22 : Ref sig .tc := ⟨.hbm, 151, rfl⟩
abbrev main_v116 : Ref sig .tc := ⟨.hbm, 152, rfl⟩
abbrev main_v117 : Ref sig .tc := ⟨.hbm, 153, rfl⟩
abbrev main_v118 : Ref sig .tc := ⟨.hbm, 154, rfl⟩
abbrev main_v119 : Ref sig .tc := ⟨.hbm, 155, rfl⟩
abbrev main_v120 : Ref sig .tc := ⟨.hbm, 156, rfl⟩
abbrev main_v121 : Ref sig .tc := ⟨.hbm, 157, rfl⟩
abbrev main_v122 : Ref sig .tc := ⟨.hbm, 158, rfl⟩
abbrev main_v123 : Ref sig .tc := ⟨.hbm, 159, rfl⟩
abbrev main_cst_23 : Ref sig .tc := ⟨.hbm, 160, rfl⟩
abbrev main_v124 : Ref sig .tc := ⟨.hbm, 161, rfl⟩
abbrev main_call1_v0 : Ref sig .tc := ⟨.hbm, 162, rfl⟩
abbrev main_call1_c : Ref sig .tc := ⟨.hbm, 163, rfl⟩
abbrev main_call1_v1 : Ref sig .tc := ⟨.hbm, 164, rfl⟩
abbrev main_call1_v2 : Ref sig .tc := ⟨.hbm, 165, rfl⟩
abbrev main_call1_v3 : Ref sig .tc := ⟨.hbm, 166, rfl⟩
abbrev main_call1_v4 : Ref sig .tc := ⟨.hbm, 167, rfl⟩
abbrev main_call1_cst : Ref sig .tc := ⟨.hbm, 168, rfl⟩
abbrev main_call1_v5 : Ref sig .tc := ⟨.hbm, 169, rfl⟩
abbrev main_v125 : Ref sig .tc := ⟨.hbm, 170, rfl⟩
abbrev main_v126 : Ref sig .tc := ⟨.hbm, 171, rfl⟩
abbrev main_v127 : Ref sig .tc := ⟨.hbm, 172, rfl⟩
abbrev main_v128 : Ref sig .tc := ⟨.hbm, 173, rfl⟩
abbrev main_v129 : Ref sig .tc := ⟨.hbm, 174, rfl⟩
abbrev main_v130 : Ref sig .tc := ⟨.hbm, 175, rfl⟩
abbrev main_v131 : Ref sig .tc := ⟨.hbm, 176, rfl⟩
abbrev main_v132 : Ref sig .tc := ⟨.hbm, 177, rfl⟩
abbrev main_v133 : Ref sig .tc := ⟨.hbm, 178, rfl⟩
abbrev main_v134 : Ref sig .tc := ⟨.hbm, 179, rfl⟩
abbrev main_v135 : Ref sig .tc := ⟨.hbm, 180, rfl⟩
abbrev main_v136 : Ref sig .tc := ⟨.hbm, 181, rfl⟩
abbrev main_v137 : Ref sig .tc := ⟨.hbm, 182, rfl⟩
abbrev main_v138 : Ref sig .tc := ⟨.hbm, 183, rfl⟩
abbrev main_v139 : Ref sig .tc := ⟨.hbm, 184, rfl⟩
abbrev main_v140 : Ref sig .tc := ⟨.hbm, 185, rfl⟩
abbrev main_v141 : Ref sig .tc := ⟨.hbm, 186, rfl⟩
abbrev main_cst_24 : Ref sig .tc := ⟨.hbm, 187, rfl⟩
abbrev main_v142 : Ref sig .tc := ⟨.hbm, 188, rfl⟩
abbrev main_v143 : Ref sig .tc := ⟨.hbm, 189, rfl⟩
abbrev main_cst_25 : Ref sig .tc := ⟨.hbm, 190, rfl⟩
abbrev main_v144 : Ref sig .tc := ⟨.hbm, 191, rfl⟩
abbrev main_v145 : Ref sig .tc := ⟨.hbm, 192, rfl⟩
abbrev main_v146 : Ref sig .tc := ⟨.hbm, 193, rfl⟩
abbrev main_v147 : Ref sig .tc := ⟨.hbm, 194, rfl⟩
abbrev main_v148 : Ref sig .tc := ⟨.hbm, 195, rfl⟩
abbrev main_v149 : Ref sig .tc := ⟨.hbm, 196, rfl⟩
abbrev main_v150 : Ref sig .tc := ⟨.hbm, 197, rfl⟩
abbrev main_v151 : Ref sig .tc := ⟨.hbm, 198, rfl⟩
abbrev main_v152 : Ref sig .tc := ⟨.hbm, 199, rfl⟩
abbrev main_v153 : Ref sig .tc := ⟨.hbm, 200, rfl⟩
abbrev main_cst_26 : Ref sig .tc := ⟨.hbm, 201, rfl⟩
abbrev main_v154 : Ref sig .tc := ⟨.hbm, 202, rfl⟩
abbrev main_v155 : Ref sig .tc := ⟨.hbm, 203, rfl⟩
abbrev main_v156 : Ref sig .tc := ⟨.hbm, 204, rfl⟩
abbrev main_v157 : Ref sig .tc := ⟨.hbm, 205, rfl⟩
abbrev main_cst_27 : Ref sig .tc := ⟨.hbm, 206, rfl⟩
abbrev main_v158 : Ref sig .tc := ⟨.hbm, 207, rfl⟩
abbrev main_v159 : Ref sig .tc := ⟨.hbm, 208, rfl⟩
abbrev main_cst_28 : Ref sig .tc := ⟨.hbm, 209, rfl⟩
abbrev main_v160 : Ref sig .tc := ⟨.hbm, 210, rfl⟩
abbrev main_v161 : Ref sig .tc := ⟨.hbm, 211, rfl⟩
abbrev main_v162 : Ref sig .tc := ⟨.hbm, 212, rfl⟩
abbrev main_v163 : Ref sig .tc := ⟨.hbm, 213, rfl⟩
abbrev main_v164 : Ref sig .tc := ⟨.hbm, 214, rfl⟩
abbrev main_cst_29 : Ref sig .tc := ⟨.hbm, 215, rfl⟩
abbrev main_v165 : Ref sig .tc := ⟨.hbm, 216, rfl⟩
abbrev main_v166 : Ref sig .tc := ⟨.hbm, 217, rfl⟩
abbrev main_cst_30 : Ref sig .tc := ⟨.hbm, 218, rfl⟩
abbrev main_v167 : Ref sig .tc := ⟨.hbm, 219, rfl⟩
abbrev main_v168 : Ref sig .tc := ⟨.hbm, 220, rfl⟩
abbrev main_v169 : Ref sig .tc := ⟨.hbm, 221, rfl⟩
abbrev main_v170 : Ref sig .tc := ⟨.hbm, 222, rfl⟩
abbrev main_v171 : Ref sig .tc := ⟨.hbm, 223, rfl⟩
abbrev main_v172 : Ref sig .tc := ⟨.hbm, 224, rfl⟩
abbrev main_cst_31 : Ref sig .tc := ⟨.hbm, 225, rfl⟩
abbrev main_v173 : Ref sig .tc := ⟨.hbm, 226, rfl⟩
abbrev main_cst_32 : Ref sig .tc := ⟨.hbm, 227, rfl⟩
abbrev main_v174 : Ref sig .tc := ⟨.hbm, 228, rfl⟩
abbrev main_v175 : Ref sig .tc := ⟨.hbm, 229, rfl⟩
abbrev main_v176 : Ref sig .tc := ⟨.hbm, 230, rfl⟩
abbrev main_v177 : Ref sig .tc := ⟨.hbm, 231, rfl⟩
abbrev main_v178 : Ref sig .tc := ⟨.hbm, 232, rfl⟩
abbrev main_v179 : Ref sig .tc := ⟨.hbm, 233, rfl⟩
abbrev main_v180 : Ref sig .tc := ⟨.hbm, 234, rfl⟩
abbrev main_v181 : Ref sig .tc := ⟨.hbm, 235, rfl⟩
abbrev main_v182 : Ref sig .tc := ⟨.hbm, 236, rfl⟩
abbrev main_v183 : Ref sig .tc := ⟨.hbm, 237, rfl⟩
abbrev main_cst_33 : Ref sig .tc := ⟨.hbm, 238, rfl⟩
abbrev main_v184 : Ref sig .tc := ⟨.hbm, 239, rfl⟩
abbrev main_v185 : Ref sig .tc := ⟨.hbm, 240, rfl⟩
abbrev main_v186 : Ref sig .tc := ⟨.hbm, 241, rfl⟩
abbrev main_cst_34 : Ref sig .tc := ⟨.hbm, 242, rfl⟩
abbrev main_v187 : Ref sig .tc := ⟨.hbm, 243, rfl⟩
abbrev main_v188 : Ref sig .tc := ⟨.hbm, 244, rfl⟩
abbrev main_cst_35 : Ref sig .tc := ⟨.hbm, 245, rfl⟩
abbrev main_v189 : Ref sig .tc := ⟨.hbm, 246, rfl⟩
abbrev main_v190 : Ref sig .tc := ⟨.hbm, 247, rfl⟩
abbrev main_v191 : Ref sig .tc := ⟨.hbm, 248, rfl⟩
abbrev main_v192 : Ref sig .tc := ⟨.hbm, 249, rfl⟩
abbrev main_cst_36 : Ref sig .tc := ⟨.hbm, 250, rfl⟩
abbrev main_v193 : Ref sig .tc := ⟨.hbm, 251, rfl⟩
abbrev main_v194 : Ref sig .tc := ⟨.hbm, 252, rfl⟩
abbrev main_v195 : Ref sig .tc := ⟨.hbm, 253, rfl⟩
abbrev main_v196 : Ref sig .tc := ⟨.hbm, 254, rfl⟩
abbrev main_v197 : Ref sig .tc := ⟨.hbm, 255, rfl⟩
abbrev main_v198 : Ref sig .tc := ⟨.hbm, 256, rfl⟩
abbrev main_v199 : Ref sig .tc := ⟨.hbm, 257, rfl⟩
abbrev main_v200 : Ref sig .tc := ⟨.hbm, 258, rfl⟩
abbrev main_v201 : Ref sig .tc := ⟨.hbm, 259, rfl⟩
abbrev main_v202 : Ref sig .tc := ⟨.hbm, 260, rfl⟩
abbrev main_v203 : Ref sig .tc := ⟨.hbm, 261, rfl⟩
abbrev main_v204 : Ref sig .tc := ⟨.hbm, 262, rfl⟩
abbrev main_v205 : Ref sig .tc := ⟨.hbm, 263, rfl⟩
abbrev main_v206 : Ref sig .tc := ⟨.hbm, 264, rfl⟩
abbrev main_v207 : Ref sig .tc := ⟨.hbm, 265, rfl⟩
abbrev main_v208 : Ref sig .tc := ⟨.hbm, 266, rfl⟩
abbrev main_cst_37 : Ref sig .tc := ⟨.hbm, 267, rfl⟩
abbrev main_v209 : Ref sig .tc := ⟨.hbm, 268, rfl⟩
abbrev main_v210 : Ref sig .tc := ⟨.hbm, 269, rfl⟩
abbrev main_v211 : Ref sig .tc := ⟨.hbm, 270, rfl⟩
abbrev main_v212 : Ref sig .tc := ⟨.hbm, 271, rfl⟩
abbrev main_v213 : Ref sig .tc := ⟨.hbm, 272, rfl⟩
abbrev main_v214 : Ref sig .tc := ⟨.hbm, 273, rfl⟩
abbrev main_cst_38 : Ref sig .tc := ⟨.hbm, 274, rfl⟩
abbrev main_v215 : Ref sig .tc := ⟨.hbm, 275, rfl⟩
abbrev main_v216 : Ref sig .tc := ⟨.hbm, 276, rfl⟩
abbrev main_cst_39 : Ref sig .tc := ⟨.hbm, 277, rfl⟩
abbrev main_v217 : Ref sig .tc := ⟨.hbm, 278, rfl⟩
abbrev main_v218 : Ref sig .tc := ⟨.hbm, 279, rfl⟩
abbrev main_cst_40 : Ref sig .tc := ⟨.hbm, 280, rfl⟩
abbrev main_v219 : Ref sig .tc := ⟨.hbm, 281, rfl⟩
abbrev main_v220 : Ref sig .tc := ⟨.hbm, 282, rfl⟩
abbrev main_v221 : Ref sig .tc := ⟨.hbm, 283, rfl⟩
abbrev main_v222 : Ref sig .tc := ⟨.hbm, 284, rfl⟩
abbrev main_v223 : Ref sig .tc := ⟨.hbm, 285, rfl⟩
abbrev main_v224 : Ref sig .tc := ⟨.hbm, 286, rfl⟩
abbrev main_v225 : Ref sig .tc := ⟨.hbm, 287, rfl⟩
abbrev main_cst_41 : Ref sig .tc := ⟨.hbm, 288, rfl⟩
abbrev main_v226 : Ref sig .tc := ⟨.hbm, 289, rfl⟩
abbrev main_v227 : Ref sig .tc := ⟨.hbm, 290, rfl⟩
abbrev main_cst_42 : Ref sig .tc := ⟨.hbm, 291, rfl⟩
abbrev main_v228 : Ref sig .tc := ⟨.hbm, 292, rfl⟩
abbrev main_v229 : Ref sig .tc := ⟨.hbm, 293, rfl⟩
abbrev main_v230 : Ref sig .tc := ⟨.hbm, 294, rfl⟩
abbrev main_cst_43 : Ref sig .tc := ⟨.hbm, 295, rfl⟩
abbrev main_v231 : Ref sig .tc := ⟨.hbm, 296, rfl⟩
abbrev main_v232 : Ref sig .tc := ⟨.hbm, 297, rfl⟩
abbrev main_v233 : Ref sig .tc := ⟨.hbm, 298, rfl⟩
abbrev main_v234 : Ref sig .tc := ⟨.hbm, 299, rfl⟩
abbrev main_v235 : Ref sig .tc := ⟨.hbm, 300, rfl⟩
abbrev main_v236 : Ref sig .tc := ⟨.hbm, 301, rfl⟩
abbrev main_v237 : Ref sig .tc := ⟨.hbm, 302, rfl⟩
abbrev main_cst_44 : Ref sig .tc := ⟨.hbm, 303, rfl⟩
abbrev main_v238 : Ref sig .tc := ⟨.hbm, 304, rfl⟩
abbrev main_v239 : Ref sig .tc := ⟨.hbm, 305, rfl⟩
abbrev main_cst_45 : Ref sig .tc := ⟨.hbm, 306, rfl⟩
abbrev main_v240 : Ref sig .tc := ⟨.hbm, 307, rfl⟩
abbrev main_v241 : Ref sig .tc := ⟨.hbm, 308, rfl⟩
abbrev main_v242 : Ref sig .tc := ⟨.hbm, 309, rfl⟩
abbrev main_cst_46 : Ref sig .tc := ⟨.hbm, 310, rfl⟩
abbrev main_v243 : Ref sig .tc := ⟨.hbm, 311, rfl⟩
abbrev main_v244 : Ref sig .tc := ⟨.hbm, 312, rfl⟩
abbrev main_v245 : Ref sig .tc := ⟨.hbm, 313, rfl⟩
abbrev main_v246 : Ref sig .tc := ⟨.hbm, 314, rfl⟩
abbrev main_v247 : Ref sig .tc := ⟨.hbm, 315, rfl⟩
abbrev main_v248 : Ref sig .tc := ⟨.hbm, 316, rfl⟩
abbrev main_v249 : Ref sig .tc := ⟨.hbm, 317, rfl⟩
abbrev main_cst_47 : Ref sig .tc := ⟨.hbm, 318, rfl⟩
abbrev main_v250 : Ref sig .tc := ⟨.hbm, 319, rfl⟩
abbrev main_v251 : Ref sig .tc := ⟨.hbm, 320, rfl⟩
abbrev main_cst_48 : Ref sig .tc := ⟨.hbm, 321, rfl⟩
abbrev main_v252 : Ref sig .tc := ⟨.hbm, 322, rfl⟩
abbrev main_v253 : Ref sig .tc := ⟨.hbm, 323, rfl⟩
abbrev main_call2_call0_cst : Ref sig .tc := ⟨.hbm, 324, rfl⟩
abbrev main_call2_call0_v0 : Ref sig .tc := ⟨.hbm, 325, rfl⟩
abbrev main_v254 : Ref sig .tc := ⟨.hbm, 326, rfl⟩
abbrev main_v255 : Ref sig .tc := ⟨.hbm, 327, rfl⟩
abbrev main_cst_49 : Ref sig .tc := ⟨.hbm, 328, rfl⟩
abbrev main_v256 : Ref sig .tc := ⟨.hbm, 329, rfl⟩
abbrev main_v257 : Ref sig .tc := ⟨.hbm, 330, rfl⟩
abbrev main_v258 : Ref sig .tc := ⟨.hbm, 331, rfl⟩
abbrev main_v259 : Ref sig .tc := ⟨.hbm, 332, rfl⟩
abbrev main_v260 : Ref sig .tc := ⟨.hbm, 333, rfl⟩
abbrev main_v261 : Ref sig .tc := ⟨.hbm, 334, rfl⟩
abbrev main_cst_50 : Ref sig .tc := ⟨.hbm, 335, rfl⟩
abbrev main_v262 : Ref sig .tc := ⟨.hbm, 336, rfl⟩
abbrev main_v263 : Ref sig .tc := ⟨.hbm, 337, rfl⟩
abbrev main_v264 : Ref sig .tc := ⟨.hbm, 338, rfl⟩
abbrev main_v265 : Ref sig .tc := ⟨.hbm, 339, rfl⟩
abbrev main_cst_51 : Ref sig .tc := ⟨.hbm, 340, rfl⟩
abbrev main_v266 : Ref sig .tc := ⟨.hbm, 341, rfl⟩
abbrev main_v267 : Ref sig .tc := ⟨.hbm, 342, rfl⟩

abbrev nD : Nat := 1
abbrev τ : Topo := Topo.v7x

variable {F : FTy → Type} [FloatOps F]
-- ==== WUp.lean ====
abbrev S8192x1024 : Shape := ⟨2, ![8192, 1024]⟩
abbrev S2x8192x2816 : Shape := ⟨3, ![2, 8192, 2816]⟩
abbrev S1x1024x5632 : Shape := ⟨3, ![1, 1024, 5632]⟩
abbrev S1024x1024 : Shape := ⟨2, ![1024, 1024]⟩
abbrev S1x1024x2816 : Shape := ⟨3, ![1, 1024, 2816]⟩
abbrev S1024x2816 : Shape := ⟨2, ![1024, 2816]⟩

abbrev nBuf : Space → Nat
  | .hbm => 3
  | .vmem => 7
  | .smem => 0
  | _ => 0

abbrev bufTy : (tb : Table) → Fin (tcTables nBuf tb) → BufTy
  | .hbm, ⟨0, _⟩ => ⟨S8192x1024, .bf16⟩
  | .hbm, ⟨1, _⟩ => ⟨S2x8192x2816, .bf16⟩
  | .hbm, ⟨2, _⟩ => ⟨S1x1024x5632, .bf16⟩
  | .local _ .vmem, ⟨0, _⟩ => ⟨S1024x1024, .bf16⟩
  | .local _ .vmem, ⟨1, _⟩ => ⟨S1024x1024, .bf16⟩
  | .local _ .vmem, ⟨2, _⟩ => ⟨S1x1024x2816, .bf16⟩
  | .local _ .vmem, ⟨3, _⟩ => ⟨S1x1024x2816, .bf16⟩
  | .local _ .vmem, ⟨4, _⟩ => ⟨S1x1024x2816, .bf16⟩
  | .local _ .vmem, ⟨5, _⟩ => ⟨S1x1024x2816, .bf16⟩
  | .local _ .vmem, ⟨6, _⟩ => ⟨S1024x2816, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 8], ![false, false, false]⟩

def k0_cond3 (i : grid0.Coords) : BitVec 1 :=
  let arg2 : BitVec 32 := BitVec.ofNat 32 (i 2).val
  let c7_i32 : BitVec 32 := 7#32
  let v10 : BitVec 1 := Scalar.cmpi .eq arg2 c7_i32
  let v11 : BitVec 32 := Scalar.extui v10
  let c0_i32_7 : BitVec 32 := 0#32
  let v12 : BitVec 1 := Scalar.cmpi .ne v11 c0_i32_7
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![v0.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg0 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg2.toNat, v26.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat, arg0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S1x1024x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x1024x2816 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== WUpRefIdeal.lean ====
abbrev S8192x1024 : Shape := ⟨2, ![8192, 1024]⟩
abbrev S2x8192x2816 : Shape := ⟨3, ![2, 8192, 2816]⟩
abbrev S1x8192x2816 : Shape := ⟨3, ![1, 8192, 2816]⟩
abbrev S8192x2816 : Shape := ⟨2, ![8192, 2816]⟩
abbrev S8192x5632 : Shape := ⟨2, ![8192, 5632]⟩
abbrev S_ : Shape := ⟨0, ![]⟩
abbrev S1024x5632 : Shape := ⟨2, ![1024, 5632]⟩
abbrev S5632x1024 : Shape := ⟨2, ![5632, 1024]⟩
abbrev S1x1024x5632 : Shape := ⟨3, ![1, 1024, 5632]⟩

abbrev nBuf : Space → Nat
  | .hbm => 16
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S2x8192x2816, .bf16⟩
  | .hbm, ⟨2, _⟩ => ⟨S1x8192x2816, .bf16⟩
  | .hbm, ⟨3, _⟩ => ⟨S8192x2816, .bf16⟩
  | .hbm, ⟨4, _⟩ => ⟨S1x8192x2816, .bf16⟩
  | .hbm, ⟨5, _⟩ => ⟨S8192x2816, .bf16⟩
  | .hbm, ⟨6, _⟩ => ⟨S8192x5632, .bf16⟩
  | .hbm, ⟨7, _⟩ => ⟨S_, .f32⟩
  | .hbm, ⟨8, _⟩ => ⟨S1024x5632, .f32⟩
  | .hbm, ⟨9, _⟩ => ⟨S8192x1024, .f32⟩
  | .hbm, ⟨10, _⟩ => ⟨S8192x5632, .f32⟩
  | .hbm, ⟨11, _⟩ => ⟨S8192x5632, .f32⟩
  | .hbm, ⟨12, _⟩ => ⟨S5632x1024, .f32⟩
  | .hbm, ⟨13, _⟩ => ⟨S1024x5632, .f32⟩
  | .hbm, ⟨14, _⟩ => ⟨S1024x5632, .bf16⟩
  | .hbm, ⟨15, _⟩ => ⟨S1x1024x5632, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_cst : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩

abbrev nD : Nat := 1
abbrev τ : Topo := Topo.v7x

variable {F : FTy → Type} [FloatOps F]
-- ==== WIn.lean ====
abbrev S8192x1024 : Shape := ⟨2, ![8192, 1024]⟩
abbrev S8192x5120 : Shape := ⟨2, ![8192, 5120]⟩
abbrev S1x1024x5120 : Shape := ⟨3, ![1, 1024, 5120]⟩
abbrev S2048x1024 : Shape := ⟨2, ![2048, 1024]⟩
abbrev S2048x1280 : Shape := ⟨2, ![2048, 1280]⟩
abbrev S1x1024x1280 : Shape := ⟨3, ![1, 1024, 1280]⟩
abbrev S1024x1280 : Shape := ⟨2, ![1024, 1280]⟩

abbrev nBuf : Space → Nat
  | .hbm => 3
  | .vmem => 7
  | .smem => 0
  | _ => 0

abbrev bufTy : (tb : Table) → Fin (tcTables nBuf tb) → BufTy
  | .hbm, ⟨0, _⟩ => ⟨S8192x1024, .bf16⟩
  | .hbm, ⟨1, _⟩ => ⟨S8192x5120, .bf16⟩
  | .hbm, ⟨2, _⟩ => ⟨S1x1024x5120, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1280, .bf16⟩
  | .local _ .vmem, ⟨3, _⟩ => ⟨S2048x1280, .bf16⟩
  | .local _ .vmem, ⟨4, _⟩ => ⟨S1x1024x1280, .bf16⟩
  | .local _ .vmem, ⟨5, _⟩ => ⟨S1x1024x1280, .bf16⟩
  | .local _ .vmem, ⟨6, _⟩ => ⟨S1024x1280, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 4], ![false, false, false]⟩

def k0_cond3 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![v0.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![arg2.toNat, v0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat, arg0.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S2048x1280 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x1024x1280 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== WInRefIdeal.lean ====
abbrev S8192x1024 : Shape := ⟨2, ![8192, 1024]⟩
abbrev S8192x5120 : Shape := ⟨2, ![8192, 5120]⟩
abbrev S_ : Shape := ⟨0, ![]⟩
abbrev S1024x5120 : Shape := ⟨2, ![1024, 5120]⟩
abbrev S5120x1024 : Shape := ⟨2, ![5120, 1024]⟩
abbrev S1x1024x5120 : Shape := ⟨3, ![1, 1024, 5120]⟩

abbrev nBuf : Space → Nat
  | .hbm => 11
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x5120, .bf16⟩
  | .hbm, ⟨2, _⟩ => ⟨S_, .f32⟩
  | .hbm, ⟨3, _⟩ => ⟨S1024x5120, .f32⟩
  | .hbm, ⟨4, _⟩ => ⟨S8192x1024, .f32⟩
  | .hbm, ⟨5, _⟩ => ⟨S8192x5120, .f32⟩
  | .hbm, ⟨6, _⟩ => ⟨S8192x5120, .f32⟩
  | .hbm, ⟨7, _⟩ => ⟨S5120x1024, .f32⟩
  | .hbm, ⟨8, _⟩ => ⟨S1024x5120, .f32⟩
  | .hbm, ⟨9, _⟩ => ⟨S1024x5120, .bf16⟩
  | .hbm, ⟨10, _⟩ => ⟨S1x1024x5120, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== WDown.lean ====
abbrev S8192x2816 : Shape := ⟨2, ![8192, 2816]⟩
abbrev S8192x1024 : Shape := ⟨2, ![8192, 1024]⟩
abbrev S1x2816x1024 : Shape := ⟨3, ![1, 2816, 1024]⟩
abbrev S2048x1408 : Shape := ⟨2, ![2048, 1408]⟩
abbrev S2048x1024 : Shape := ⟨2, ![2048, 1024]⟩
abbrev S1x1408x1024 : Shape := ⟨3, ![1, 1408, 1024]⟩
abbrev S1408x1024 : Shape := ⟨2, ![1408, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x2816, .bf16⟩
  | .hbm, ⟨1, _⟩ => ⟨S8192x1024, .f32⟩
  | .hbm, ⟨2, _⟩ => ⟨S1x2816x1024, .bf16⟩
  | .local _ .vmem, ⟨0, _⟩ => ⟨S2048x1408, .bf16⟩
  | .local _ .vmem, ⟨1, _⟩ => ⟨S2048x1408, .bf16⟩
  | .local _ .vmem, ⟨2, _⟩ => ⟨S2048x1024, .f32⟩
  | .local _ .vmem, ⟨3, _⟩ => ⟨S2048x1024, .f32⟩
  | .local _ .vmem, ⟨4, _⟩ => ⟨S1x1408x1024, .bf16⟩
  | .local _ .vmem, ⟨5, _⟩ => ⟨S1x1408x1024, .bf16⟩
  | .local _ .vmem, ⟨6, _⟩ => ⟨S1408x1024, .f32⟩
  | _, _ => ⟨S8192x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 4], ![false, false, false]⟩

def k0_cond3 (i : grid0.Coords) : BitVec 1 :=
  let arg2 : BitVec 32 := BitVec.ofNat 32 (i 2).val
  let c3_i32 : BitVec 32 := 3#32
  let v10 : BitVec 1 := Scalar.cmpi .eq arg2 c3_i32
  let v11 : BitVec 32 := Scalar.extui v10
  let c0_i32_6 : BitVec 32 := 0#32
  let v12 : BitVec 1 := Scalar.cmpi .ne v11 c0_i32_6
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![v0.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![arg2.toNat, v0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat, arg0.toNat]

abbrev stage0_0 : Fin 2 → Memref sig .tc .vmem S2048x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== WDownRefIdeal.lean ====
abbrev S8192x2816 : Shape := ⟨2, ![8192, 2816]⟩
abbrev S8192x1024 : Shape := ⟨2, ![8192, 1024]⟩
abbrev S_ : Shape := ⟨0, ![]⟩
abbrev S2816x1024 : Shape := ⟨2, ![2816, 1024]⟩
abbrev S1024x2816 : Shape := ⟨2, ![1024, 2816]⟩
abbrev S1x2816x1024 : Shape := ⟨3, ![1, 2816, 1024]⟩

abbrev nBuf : Space → Nat
  | .hbm => 10
  | .vmem => 0
  | .smem => 0
  | _ => 0

abbrev bufTy : (tb : Table) → Fin (tcTables nBuf tb) → BufTy
  | .hbm, ⟨0, _⟩ => ⟨S8192x2816, .bf16⟩
  | .hbm, ⟨1, _⟩ => ⟨S8192x1024, .f32⟩
  | .hbm, ⟨2, _⟩ => ⟨S_, .f32⟩
  | .hbm, ⟨3, _⟩ => ⟨S2816x1024, .f32⟩
  | .hbm, ⟨4, _⟩ => ⟨S8192x2816, .f32⟩
  | .hbm, ⟨5, _⟩ => ⟨S8192x1024, .f32⟩
  | .hbm, ⟨6, _⟩ => ⟨S1024x2816, .f32⟩
  | .hbm, ⟨7, _⟩ => ⟨S2816x1024, .f32⟩
  | .hbm, ⟨8, _⟩ => ⟨S2816x1024, .bf16⟩
  | .hbm, ⟨9, _⟩ => ⟨S1x2816x1024, .bf16⟩
  | _, _ => ⟨S8192x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== WOut.lean ====
abbrev S8192x1024 : Shape := ⟨2, ![8192, 1024]⟩
abbrev S1x1024x1024 : Shape := ⟨3, ![1, 1024, 1024]⟩
abbrev S2048x1024 : Shape := ⟨2, ![2048, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .f32⟩
  | .hbm, ⟨2, _⟩ => ⟨S1x1024x1024, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .f32⟩
  | .local _ .vmem, ⟨3, _⟩ => ⟨S2048x1024, .f32⟩
  | .local _ .vmem, ⟨4, _⟩ => ⟨S1x1024x1024, .bf16⟩
  | .local _ .vmem, ⟨5, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def k0_cond3 (i : grid0.Coords) : BitVec 1 :=
  let arg2 : BitVec 32 := BitVec.ofNat 32 (i 2).val
  let c3_i32 : BitVec 32 := 3#32
  let v10 : BitVec 1 := Scalar.cmpi .eq arg2 c3_i32
  let v11 : BitVec 32 := Scalar.extui v10
  let c0_i32_6 : BitVec 32 := 0#32
  let v12 : BitVec 1 := Scalar.cmpi .ne v11 c0_i32_6
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![v0.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![arg2.toNat, v0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat, arg0.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 1 → Memref sig .tc .vmem S1x1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== WOutRefIdeal.lean ====
abbrev S8192x1024 : Shape := ⟨2, ![8192, 1024]⟩
abbrev S_ : Shape := ⟨0, ![]⟩
abbrev S1024x1024 : Shape := ⟨2, ![1024, 1024]⟩
abbrev S1x1024x1024 : Shape := ⟨3, ![1, 1024, 1024]⟩

abbrev nBuf : Space → Nat
  | .hbm => 10
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .f32⟩
  | .hbm, ⟨2, _⟩ => ⟨S_, .f32⟩
  | .hbm, ⟨3, _⟩ => ⟨S1024x1024, .f32⟩
  | .hbm, ⟨4, _⟩ => ⟨S8192x1024, .f32⟩
  | .hbm, ⟨5, _⟩ => ⟨S8192x1024, .f32⟩
  | .hbm, ⟨6, _⟩ => ⟨S1024x1024, .f32⟩
  | .hbm, ⟨7, _⟩ => ⟨S1024x1024, .f32⟩
  | .hbm, ⟨8, _⟩ => ⟨S1024x1024, .bf16⟩
  | .hbm, ⟨9, _⟩ => ⟨S1x1024x1024, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== WPleGate.lean ====
abbrev S8192x1024 : Shape := ⟨2, ![8192, 1024]⟩
abbrev S1x1024x1024 : Shape := ⟨3, ![1, 1024, 1024]⟩
abbrev S2048x1024 : Shape := ⟨2, ![2048, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S1x1024x1024, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1x1024x1024, .bf16⟩
  | .local _ .vmem, ⟨5, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def k0_cond3 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![v0.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![arg2.toNat, v0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat, arg0.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 1 → Memref sig .tc .vmem S1x1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== WPleGateRefIdeal.lean ====
abbrev S8192x1024 : Shape := ⟨2, ![8192, 1024]⟩
abbrev S_ : Shape := ⟨0, ![]⟩
abbrev S1024x1024 : Shape := ⟨2, ![1024, 1024]⟩
abbrev S1x1024x1024 : Shape := ⟨3, ![1, 1024, 1024]⟩

abbrev nBuf : Space → Nat
  | .hbm => 11
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S_, .f32⟩
  | .hbm, ⟨3, _⟩ => ⟨S1024x1024, .f32⟩
  | .hbm, ⟨4, _⟩ => ⟨S8192x1024, .f32⟩
  | .hbm, ⟨5, _⟩ => ⟨S8192x1024, .f32⟩
  | .hbm, ⟨6, _⟩ => ⟨S8192x1024, .f32⟩
  | .hbm, ⟨7, _⟩ => ⟨S1024x1024, .f32⟩
  | .hbm, ⟨8, _⟩ => ⟨S1024x1024, .f32⟩
  | .hbm, ⟨9, _⟩ => ⟨S1024x1024, .bf16⟩
  | .hbm, ⟨10, _⟩ => ⟨S1x1024x1024, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== WBranchA.lean ====
abbrev S8192x1024 : Shape := ⟨2, ![8192, 1024]⟩
abbrev S8192x2048 : Shape := ⟨2, ![8192, 2048]⟩
abbrev S1x1024x1024 : Shape := ⟨3, ![1, 1024, 1024]⟩
abbrev S2048x1024 : Shape := ⟨2, ![2048, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S8192x2048, .bf16⟩
  | .hbm, ⟨2, _⟩ => ⟨S1x1024x1024, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1x1024x1024, .bf16⟩
  | .local _ .vmem, ⟨5, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def k0_cond3 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![v0.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![arg2.toNat, v0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat, arg0.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 1 → Memref sig .tc .vmem S1x1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== WBranchARefIdeal.lean ====
abbrev S8192x1024 : Shape := ⟨2, ![8192, 1024]⟩
abbrev S8192x2048 : Shape := ⟨2, ![8192, 2048]⟩
abbrev S_ : Shape := ⟨0, ![]⟩
abbrev S1024x1024 : Shape := ⟨2, ![1024, 1024]⟩
abbrev S1x1024x1024 : Shape := ⟨3, ![1, 1024, 1024]⟩

abbrev nBuf : Space → Nat
  | .hbm => 12
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x2048, .bf16⟩
  | .hbm, ⟨2, _⟩ => ⟨S8192x1024, .bf16⟩
  | .hbm, ⟨3, _⟩ => ⟨S_, .f32⟩
  | .hbm, ⟨4, _⟩ => ⟨S1024x1024, .f32⟩
  | .hbm, ⟨5, _⟩ => ⟨S8192x1024, .f32⟩
  | .hbm, ⟨6, _⟩ => ⟨S8192x1024, .f32⟩
  | .hbm, ⟨7, _⟩ => ⟨S8192x1024, .f32⟩
  | .hbm, ⟨8, _⟩ => ⟨S1024x1024, .f32⟩
  | .hbm, ⟨9, _⟩ => ⟨S1024x1024, .f32⟩
  | .hbm, ⟨10, _⟩ => ⟨S1024x1024, .bf16⟩
  | .hbm, ⟨11, _⟩ => ⟨S1x1024x1024, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== WBranchB.lean ====
abbrev S8192x1024 : Shape := ⟨2, ![8192, 1024]⟩
abbrev S8192x2048 : Shape := ⟨2, ![8192, 2048]⟩
abbrev S1x1024x1024 : Shape := ⟨3, ![1, 1024, 1024]⟩
abbrev S2048x1024 : Shape := ⟨2, ![2048, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S8192x2048, .bf16⟩
  | .hbm, ⟨2, _⟩ => ⟨S1x1024x1024, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1x1024x1024, .bf16⟩
  | .local _ .vmem, ⟨5, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def k0_cond3 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![v0.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.addi arg0 c1_i32
  let c0_i32 : BitVec 32 := 0#32
  ![arg2.toNat, v0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat, arg0.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 1 → Memref sig .tc .vmem S1x1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== WBranchBRefIdeal.lean ====
abbrev S8192x1024 : Shape := ⟨2, ![8192, 1024]⟩
abbrev S8192x2048 : Shape := ⟨2, ![8192, 2048]⟩
abbrev S_ : Shape := ⟨0, ![]⟩
abbrev S1024x1024 : Shape := ⟨2, ![1024, 1024]⟩
abbrev S1x1024x1024 : Shape := ⟨3, ![1, 1024, 1024]⟩

abbrev nBuf : Space → Nat
  | .hbm => 12
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x2048, .bf16⟩
  | .hbm, ⟨2, _⟩ => ⟨S8192x1024, .bf16⟩
  | .hbm, ⟨3, _⟩ => ⟨S_, .f32⟩
  | .hbm, ⟨4, _⟩ => ⟨S1024x1024, .f32⟩
  | .hbm, ⟨5, _⟩ => ⟨S8192x1024, .f32⟩
  | .hbm, ⟨6, _⟩ => ⟨S8192x1024, .f32⟩
  | .hbm, ⟨7, _⟩ => ⟨S8192x1024, .f32⟩
  | .hbm, ⟨8, _⟩ => ⟨S1024x1024, .f32⟩
  | .hbm, ⟨9, _⟩ => ⟨S1024x1024, .f32⟩
  | .hbm, ⟨10, _⟩ => ⟨S1024x1024, .bf16⟩
  | .hbm, ⟨11, _⟩ => ⟨S1x1024x1024, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== FfnAct.lean ====
abbrev S8192x1024 : Shape := ⟨2, ![8192, 1024]⟩
abbrev S1x2816x1024 : Shape := ⟨3, ![1, 2816, 1024]⟩
abbrev S8192x2816 : Shape := ⟨2, ![8192, 2816]⟩
abbrev S1024x1024 : Shape := ⟨2, ![1024, 1024]⟩
abbrev S1024x2816 : Shape := ⟨2, ![1024, 2816]⟩
abbrev S2816x1024 : Shape := ⟨2, ![2816, 1024]⟩

abbrev nBuf : Space → Nat
  | .hbm => 3
  | .vmem => 5
  | .smem => 0
  | _ => 0

abbrev bufTy : (tb : Table) → Fin (tcTables nBuf tb) → BufTy
  | .hbm, ⟨0, _⟩ => ⟨S8192x1024, .f32⟩
  | .hbm, ⟨1, _⟩ => ⟨S1x2816x1024, .bf16⟩
  | .hbm, ⟨2, _⟩ => ⟨S8192x2816, .f32⟩
  | .local _ .vmem, ⟨0, _⟩ => ⟨S1024x1024, .f32⟩
  | .local _ .vmem, ⟨1, _⟩ => ⟨S1024x1024, .f32⟩
  | .local _ .vmem, ⟨2, _⟩ => ⟨S1x2816x1024, .bf16⟩
  | .local _ .vmem, ⟨3, _⟩ => ⟨S1024x2816, .f32⟩
  | .local _ .vmem, ⟨4, _⟩ => ⟨S1024x2816, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![arg1.toNat, v0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 1 → Memref sig .tc .vmem S1x2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false, true]

abbrev stage0_2 : Fin 2 → Memref sig .tc .vmem S1024x2816 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== FfnActRefIdeal.lean ====
abbrev S8192x1024 : Shape := ⟨2, ![8192, 1024]⟩
abbrev S1x2816x1024 : Shape := ⟨3, ![1, 2816, 1024]⟩
abbrev S_ : Shape := ⟨0, ![]⟩
abbrev S8192x2816 : Shape := ⟨2, ![8192, 2816]⟩
abbrev S2816x1024 : Shape := ⟨2, ![2816, 1024]⟩

abbrev nBuf : Space → Nat
  | .hbm => 8
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x2816x1024, .bf16⟩
  | .hbm, ⟨2, _⟩ => ⟨S_, .f32⟩
  | .hbm, ⟨3, _⟩ => ⟨S8192x2816, .f32⟩
  | .hbm, ⟨4, _⟩ => ⟨S2816x1024, .bf16⟩
  | .hbm, ⟨5, _⟩ => ⟨S2816x1024, .f32⟩
  | .hbm, ⟨6, _⟩ => ⟨S8192x1024, .f32⟩
  | .hbm, ⟨7, _⟩ => ⟨S8192x2816, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Gated.lean ====
abbrev S8192x1024 : Shape := ⟨2, ![8192, 1024]⟩
abbrev S1x1024x1024 : Shape := ⟨3, ![1, 1024, 1024]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S8192x1024, .f32⟩
  | .hbm, ⟨1, _⟩ => ⟨S1x1024x1024, .bf16⟩
  | .hbm, ⟨2, _⟩ => ⟨S8192x1024, .bf16⟩
  | .local _ .vmem, ⟨0, _⟩ => ⟨S1024x1024, .f32⟩
  | .local _ .vmem, ⟨1, _⟩ => ⟨S1024x1024, .f32⟩
  | .local _ .vmem, ⟨2, _⟩ => ⟨S1x1024x1024, .bf16⟩
  | .local _ .vmem, ⟨3, _⟩ => ⟨S1024x1024, .bf16⟩
  | .local _ .vmem, ⟨4, _⟩ => ⟨S1024x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![arg1.toNat, v0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 1 → Memref sig .tc .vmem S1x1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== GatedRefIdeal.lean ====
abbrev S8192x1024 : Shape := ⟨2, ![8192, 1024]⟩
abbrev S1x1024x1024 : Shape := ⟨3, ![1, 1024, 1024]⟩
abbrev S_ : Shape := ⟨0, ![]⟩
abbrev S1024x1024 : Shape := ⟨2, ![1024, 1024]⟩

abbrev nBuf : Space → Nat
  | .hbm => 9
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x1024x1024, .bf16⟩
  | .hbm, ⟨2, _⟩ => ⟨S_, .f32⟩
  | .hbm, ⟨3, _⟩ => ⟨S8192x1024, .f32⟩
  | .hbm, ⟨4, _⟩ => ⟨S1024x1024, .bf16⟩
  | .hbm, ⟨5, _⟩ => ⟨S1024x1024, .f32⟩
  | .hbm, ⟨6, _⟩ => ⟨S8192x1024, .f32⟩
  | .hbm, ⟨7, _⟩ => ⟨S8192x1024, .f32⟩
  | .hbm, ⟨8, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== PoolOut.lean ====
abbrev S8192x2048 : Shape := ⟨2, ![8192, 2048]⟩
abbrev S1x1024x1024 : Shape := ⟨3, ![1, 1024, 1024]⟩
abbrev S8192x1024 : Shape := ⟨2, ![8192, 1024]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S8192x2048, .bf16⟩
  | .hbm, ⟨1, _⟩ => ⟨S1x1024x1024, .bf16⟩
  | .hbm, ⟨2, _⟩ => ⟨S8192x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1x1024x1024, .bf16⟩
  | .local _ .vmem, ⟨3, _⟩ => ⟨S1024x1024, .bf16⟩
  | .local _ .vmem, ⟨4, _⟩ => ⟨S1024x1024, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![arg1.toNat, v0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 1 → Memref sig .tc .vmem S1x1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== PoolOutRefIdeal.lean ====
abbrev S8192x2048 : Shape := ⟨2, ![8192, 2048]⟩
abbrev S1x1024x1024 : Shape := ⟨3, ![1, 1024, 1024]⟩
abbrev S8192x1024 : Shape := ⟨2, ![8192, 1024]⟩
abbrev S_ : Shape := ⟨0, ![]⟩
abbrev S1024x1024 : Shape := ⟨2, ![1024, 1024]⟩

abbrev nBuf : Space → Nat
  | .hbm => 11
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S1x1024x1024, .bf16⟩
  | .hbm, ⟨2, _⟩ => ⟨S8192x1024, .bf16⟩
  | .hbm, ⟨3, _⟩ => ⟨S_, .f32⟩
  | .hbm, ⟨4, _⟩ => ⟨S8192x1024, .f32⟩
  | .hbm, ⟨5, _⟩ => ⟨S1024x1024, .bf16⟩
  | .hbm, ⟨6, _⟩ => ⟨S1024x1024, .f32⟩
  | .hbm, ⟨7, _⟩ => ⟨S8192x1024, .f32⟩
  | .hbm, ⟨8, _⟩ => ⟨S8192x1024, .f32⟩
  | .hbm, ⟨9, _⟩ => ⟨S8192x1024, .f32⟩
  | .hbm, ⟨10, _⟩ => ⟨S8192x1024, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== SguOut.lean ====
abbrev S8192x2048 : Shape := ⟨2, ![8192, 2048]⟩
abbrev S1x1024x1024 : Shape := ⟨3, ![1, 1024, 1024]⟩
abbrev S8192x1024 : Shape := ⟨2, ![8192, 1024]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S8192x2048, .bf16⟩
  | .hbm, ⟨1, _⟩ => ⟨S1x1024x1024, .bf16⟩
  | .hbm, ⟨2, _⟩ => ⟨S8192x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1x1024x1024, .bf16⟩
  | .local _ .vmem, ⟨3, _⟩ => ⟨S1024x1024, .bf16⟩
  | .local _ .vmem, ⟨4, _⟩ => ⟨S1024x1024, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.addi arg2 c1_i32
  let c0_i32 : BitVec 32 := 0#32
  ![arg1.toNat, v0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 1 → Memref sig .tc .vmem S1x1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== SguOutRefIdeal.lean ====
abbrev S8192x2048 : Shape := ⟨2, ![8192, 2048]⟩
abbrev S1x1024x1024 : Shape := ⟨3, ![1, 1024, 1024]⟩
abbrev S8192x1024 : Shape := ⟨2, ![8192, 1024]⟩
abbrev S_ : Shape := ⟨0, ![]⟩
abbrev S1024x1024 : Shape := ⟨2, ![1024, 1024]⟩

abbrev nBuf : Space → Nat
  | .hbm => 11
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S1x1024x1024, .bf16⟩
  | .hbm, ⟨2, _⟩ => ⟨S8192x1024, .bf16⟩
  | .hbm, ⟨3, _⟩ => ⟨S_, .f32⟩
  | .hbm, ⟨4, _⟩ => ⟨S8192x1024, .f32⟩
  | .hbm, ⟨5, _⟩ => ⟨S1024x1024, .bf16⟩
  | .hbm, ⟨6, _⟩ => ⟨S1024x1024, .f32⟩
  | .hbm, ⟨7, _⟩ => ⟨S8192x1024, .f32⟩
  | .hbm, ⟨8, _⟩ => ⟨S8192x1024, .f32⟩
  | .hbm, ⟨9, _⟩ => ⟨S8192x1024, .f32⟩
  | .hbm, ⟨10, _⟩ => ⟨S8192x1024, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== UpProj.lean ====
abbrev S8192x1024 : Shape := ⟨2, ![8192, 1024]⟩
abbrev S1x1024x5632 : Shape := ⟨3, ![1, 1024, 5632]⟩
abbrev S8192x5632 : Shape := ⟨2, ![8192, 5632]⟩
abbrev S1024x1024 : Shape := ⟨2, ![1024, 1024]⟩
abbrev S1x1024x2816 : Shape := ⟨3, ![1, 1024, 2816]⟩
abbrev S1024x2816 : Shape := ⟨2, ![1024, 2816]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S1x1024x5632, .bf16⟩
  | .hbm, ⟨2, _⟩ => ⟨S8192x5632, .f32⟩
  | .local _ .vmem, ⟨0, _⟩ => ⟨S1024x1024, .bf16⟩
  | .local _ .vmem, ⟨1, _⟩ => ⟨S1024x1024, .bf16⟩
  | .local _ .vmem, ⟨2, _⟩ => ⟨S1x1024x2816, .bf16⟩
  | .local _ .vmem, ⟨3, _⟩ => ⟨S1x1024x2816, .bf16⟩
  | .local _ .vmem, ⟨4, _⟩ => ⟨S1024x2816, .f32⟩
  | .local _ .vmem, ⟨5, _⟩ => ⟨S1024x2816, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![v0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S1x1024x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1024x2816 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== UpProjRefIdeal.lean ====
abbrev S8192x1024 : Shape := ⟨2, ![8192, 1024]⟩
abbrev S1x1024x5632 : Shape := ⟨3, ![1, 1024, 5632]⟩
abbrev S1024x5632 : Shape := ⟨2, ![1024, 5632]⟩
abbrev S8192x5632 : Shape := ⟨2, ![8192, 5632]⟩

abbrev nBuf : Space → Nat
  | .hbm => 6
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1x1024x5632, .bf16⟩
  | .hbm, ⟨2, _⟩ => ⟨S8192x1024, .f32⟩
  | .hbm, ⟨3, _⟩ => ⟨S1024x5632, .bf16⟩
  | .hbm, ⟨4, _⟩ => ⟨S1024x5632, .f32⟩
  | .hbm, ⟨5, _⟩ => ⟨S8192x5632, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== PleGateProj.lean ====
abbrev S8192x1024 : Shape := ⟨2, ![8192, 1024]⟩
abbrev S1x1024x1024 : Shape := ⟨3, ![1, 1024, 1024]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S8192x1024, .bf16⟩
  | .hbm, ⟨1, _⟩ => ⟨S1x1024x1024, .bf16⟩
  | .hbm, ⟨2, _⟩ => ⟨S8192x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1x1024x1024, .bf16⟩
  | .local _ .vmem, ⟨3, _⟩ => ⟨S1024x1024, .bf16⟩
  | .local _ .vmem, ⟨4, _⟩ => ⟨S1024x1024, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![v0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 1 → Memref sig .tc .vmem S1x1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== PleGateProjRefIdeal.lean ====
abbrev S8192x1024 : Shape := ⟨2, ![8192, 1024]⟩
abbrev S1x1024x1024 : Shape := ⟨3, ![1, 1024, 1024]⟩
abbrev S1024x1024 : Shape := ⟨2, ![1024, 1024]⟩

abbrev nBuf : Space → Nat
  | .hbm => 7
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1x1024x1024, .bf16⟩
  | .hbm, ⟨2, _⟩ => ⟨S8192x1024, .f32⟩
  | .hbm, ⟨3, _⟩ => ⟨S1024x1024, .bf16⟩
  | .hbm, ⟨4, _⟩ => ⟨S1024x1024, .f32⟩
  | .hbm, ⟨5, _⟩ => ⟨S8192x1024, .f32⟩
  | .hbm, ⟨6, _⟩ => ⟨S8192x1024, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== PleProj.lean ====
abbrev S16384x256 : Shape := ⟨2, ![16384, 256]⟩
abbrev S1x256x1024 : Shape := ⟨3, ![1, 256, 1024]⟩
abbrev S8192x1024 : Shape := ⟨2, ![8192, 1024]⟩
abbrev S1024x256 : Shape := ⟨2, ![1024, 256]⟩
abbrev S1024x1024 : Shape := ⟨2, ![1024, 1024]⟩
abbrev S256x1024 : Shape := ⟨2, ![256, 1024]⟩

abbrev nBuf : Space → Nat
  | .hbm => 3
  | .vmem => 5
  | .smem => 0
  | _ => 0

abbrev bufTy : (tb : Table) → Fin (tcTables nBuf tb) → BufTy
  | .hbm, ⟨0, _⟩ => ⟨S16384x256, .f32⟩
  | .hbm, ⟨1, _⟩ => ⟨S1x256x1024, .bf16⟩
  | .hbm, ⟨2, _⟩ => ⟨S8192x1024, .bf16⟩
  | .local _ .vmem, ⟨0, _⟩ => ⟨S1024x256, .f32⟩
  | .local _ .vmem, ⟨1, _⟩ => ⟨S1024x256, .f32⟩
  | .local _ .vmem, ⟨2, _⟩ => ⟨S1x256x1024, .bf16⟩
  | .local _ .vmem, ⟨3, _⟩ => ⟨S1024x1024, .bf16⟩
  | .local _ .vmem, ⟨4, _⟩ => ⟨S1024x1024, .bf16⟩
  | _, _ => ⟨S16384x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.addi arg1 c8_i32
  let c0_i32 : BitVec 32 := 0#32
  ![v0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S1024x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 1 → Memref sig .tc .vmem S1x256x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== PleProjRefIdeal.lean ====
abbrev S16384x256 : Shape := ⟨2, ![16384, 256]⟩
abbrev S1x256x1024 : Shape := ⟨3, ![1, 256, 1024]⟩
abbrev S8192x256 : Shape := ⟨2, ![8192, 256]⟩
abbrev S256x1024 : Shape := ⟨2, ![256, 1024]⟩
abbrev S8192x1024 : Shape := ⟨2, ![8192, 1024]⟩

abbrev nBuf : Space → Nat
  | .hbm => 7
  | .vmem => 0
  | .smem => 0
  | _ => 0

abbrev bufTy : (tb : Table) → Fin (tcTables nBuf tb) → BufTy
  | .hbm, ⟨0, _⟩ => ⟨S16384x256, .f32⟩
  | .hbm, ⟨1, _⟩ => ⟨S1x256x1024, .bf16⟩
  | .hbm, ⟨2, _⟩ => ⟨S8192x256, .f32⟩
  | .hbm, ⟨3, _⟩ => ⟨S256x1024, .bf16⟩
  | .hbm, ⟨4, _⟩ => ⟨S256x1024, .f32⟩
  | .hbm, ⟨5, _⟩ => ⟨S8192x1024, .f32⟩
  | .hbm, ⟨6, _⟩ => ⟨S8192x1024, .bf16⟩
  | _, _ => ⟨S16384x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== OutProj.lean ====
abbrev S8192x1024 : Shape := ⟨2, ![8192, 1024]⟩
abbrev S1x1024x1024 : Shape := ⟨3, ![1, 1024, 1024]⟩
abbrev S1x1x1024 : Shape := ⟨3, ![1, 1, 1024]⟩
abbrev S1024x1024 : Shape := ⟨2, ![1024, 1024]⟩
abbrev S1024 : Shape := ⟨1, ![1024]⟩
abbrev S1024x1 : Shape := ⟨2, ![1024, 1]⟩
abbrev S1x1024 : Shape := ⟨2, ![1, 1024]⟩

abbrev nBuf : Space → Nat
  | .hbm => 6
  | .vmem => 10
  | .smem => 0
  | _ => 0

abbrev bufTy : (tb : Table) → Fin (tcTables nBuf tb) → BufTy
  | .hbm, ⟨0, _⟩ => ⟨S8192x1024, .bf16⟩
  | .hbm, ⟨1, _⟩ => ⟨S1x1024x1024, .bf16⟩
  | .hbm, ⟨2, _⟩ => ⟨S8192x1024, .f32⟩
  | .hbm, ⟨3, _⟩ => ⟨S1x1x1024, .f32⟩
  | .hbm, ⟨4, _⟩ => ⟨S8192x1024, .f32⟩
  | .hbm, ⟨5, _⟩ => ⟨S8192x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1x1024x1024, .bf16⟩
  | .local _ .vmem, ⟨3, _⟩ => ⟨S1024x1024, .f32⟩
  | .local _ .vmem, ⟨4, _⟩ => ⟨S1024x1024, .f32⟩
  | .local _ .vmem, ⟨5, _⟩ => ⟨S1x1x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .bf16⟩
  | .local _ .vmem, ⟨9, _⟩ => ⟨S1024x1024, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨3, ![1, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![v0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 1 → Memref sig .tc .vmem S1x1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 1 → Memref sig .tc .vmem S1x1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]
-- ==== OutProjRefIdeal.lean ====
abbrev S8192x1024 : Shape := ⟨2, ![8192, 1024]⟩
abbrev S1x1024x1024 : Shape := ⟨3, ![1, 1024, 1024]⟩
abbrev S1x1x1024 : Shape := ⟨3, ![1, 1, 1024]⟩
abbrev S1024x1024 : Shape := ⟨2, ![1024, 1024]⟩
abbrev S1024 : Shape := ⟨1, ![1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩

abbrev nBuf : Space → Nat
  | .hbm => 27
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1x1024x1024, .bf16⟩
  | .hbm, ⟨2, _⟩ => ⟨S8192x1024, .f32⟩
  | .hbm, ⟨3, _⟩ => ⟨S1x1x1024, .f32⟩
  | .hbm, ⟨4, _⟩ => ⟨S8192x1024, .f32⟩
  | .hbm, ⟨5, _⟩ => ⟨S1024x1024, .bf16⟩
  | .hbm, ⟨6, _⟩ => ⟨S1024x1024, .f32⟩
  | .hbm, ⟨7, _⟩ => ⟨S8192x1024, .f32⟩
  | .hbm, ⟨8, _⟩ => ⟨S8192x1024, .f32⟩
  | .hbm, ⟨9, _⟩ => ⟨S1024, .f32⟩
  | .hbm, ⟨10, _⟩ => ⟨S8192x1024, .f32⟩
  | .hbm, ⟨11, _⟩ => ⟨S_, .f32⟩
  | .hbm, ⟨12, _⟩ => ⟨S8192, .f32⟩
  | .hbm, ⟨13, _⟩ => ⟨S8192x1, .f32⟩
  | .hbm, ⟨14, _⟩ => ⟨S_, .f32⟩
  | .hbm, ⟨15, _⟩ => ⟨S8192x1, .f32⟩
  | .hbm, ⟨16, _⟩ => ⟨S8192x1, .f32⟩
  | .hbm, ⟨17, _⟩ => ⟨S_, .f32⟩
  | .hbm, ⟨18, _⟩ => ⟨S8192x1, .f32⟩
  | .hbm, ⟨19, _⟩ => ⟨S8192x1, .f32⟩
  | .hbm, ⟨20, _⟩ => ⟨S8192x1, .f32⟩
  | .hbm, ⟨21, _⟩ => ⟨S8192x1024, .f32⟩
  | .hbm, ⟨22, _⟩ => ⟨S8192x1024, .f32⟩
  | .hbm, ⟨23, _⟩ => ⟨S1x1024, .f32⟩
  | .hbm, ⟨24, _⟩ => ⟨S8192x1024, .f32⟩
  | .hbm, ⟨25, _⟩ => ⟨S8192x1024, .f32⟩
  | .hbm, ⟨26, _⟩ => ⟨S8192x1024, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_v8 : Ref sig .tc := ⟨.hbm, 13, rfl⟩
abbrev main_cst_0 : Ref sig .tc := ⟨.hbm, 14, rfl⟩
abbrev main_v9 : Ref sig .tc := ⟨.hbm, 15, rfl⟩
abbrev main_v10 : Ref sig .tc := ⟨.hbm, 16, rfl⟩
abbrev main_cst_1 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩

abbrev nD : Nat := 1
abbrev τ : Topo := Topo.v7x

variable {F : FTy → Type} [FloatOps F]
-- ==== DownProj.lean ====
abbrev S8192x2816 : Shape := ⟨2, ![8192, 2816]⟩
abbrev S1x2816x1024 : Shape := ⟨3, ![1, 2816, 1024]⟩
abbrev S8192x1024 : Shape := ⟨2, ![8192, 1024]⟩
abbrev S1x1x1024 : Shape := ⟨3, ![1, 1, 1024]⟩
abbrev S1024x2816 : Shape := ⟨2, ![1024, 2816]⟩
abbrev S1024x1024 : Shape := ⟨2, ![1024, 1024]⟩
abbrev S2816x1024 : Shape := ⟨2, ![2816, 1024]⟩
abbrev S1024 : Shape := ⟨1, ![1024]⟩
abbrev S1024x1 : Shape := ⟨2, ![1024, 1]⟩
abbrev S1x1024 : Shape := ⟨2, ![1, 1024]⟩

abbrev nBuf : Space → Nat
  | .hbm => 6
  | .vmem => 10
  | .smem => 0
  | _ => 0

abbrev bufTy : (tb : Table) → Fin (tcTables nBuf tb) → BufTy
  | .hbm, ⟨0, _⟩ => ⟨S8192x2816, .bf16⟩
  | .hbm, ⟨1, _⟩ => ⟨S1x2816x1024, .bf16⟩
  | .hbm, ⟨2, _⟩ => ⟨S8192x1024, .f32⟩
  | .hbm, ⟨3, _⟩ => ⟨S1x1x1024, .f32⟩
  | .hbm, ⟨4, _⟩ => ⟨S8192x1024, .f32⟩
  | .hbm, ⟨5, _⟩ => ⟨S8192x1024, .bf16⟩
  | .local _ .vmem, ⟨0, _⟩ => ⟨S1024x2816, .bf16⟩
  | .local _ .vmem, ⟨1, _⟩ => ⟨S1024x2816, .bf16⟩
  | .local _ .vmem, ⟨2, _⟩ => ⟨S1x2816x1024, .bf16⟩
  | .local _ .vmem, ⟨3, _⟩ => ⟨S1024x1024, .f32⟩
  | .local _ .vmem, ⟨4, _⟩ => ⟨S1024x1024, .f32⟩
  | .local _ .vmem, ⟨5, _⟩ => ⟨S1x1x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .bf16⟩
  | .local _ .vmem, ⟨9, _⟩ => ⟨S1024x1024, .bf16⟩
  | _, _ => ⟨S8192x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨3, ![1, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![v0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S1024x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 1 → Memref sig .tc .vmem S1x2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 1 → Memref sig .tc .vmem S1x1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]
-- ==== DownProjRefIdeal.lean ====
abbrev S8192x2816 : Shape := ⟨2, ![8192, 2816]⟩
abbrev S1x2816x1024 : Shape := ⟨3, ![1, 2816, 1024]⟩
abbrev S8192x1024 : Shape := ⟨2, ![8192, 1024]⟩
abbrev S1x1x1024 : Shape := ⟨3, ![1, 1, 1024]⟩
abbrev S2816x1024 : Shape := ⟨2, ![2816, 1024]⟩
abbrev S1024 : Shape := ⟨1, ![1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩

abbrev nBuf : Space → Nat
  | .hbm => 27
  | .vmem => 0
  | .smem => 0
  | _ => 0

abbrev bufTy : (tb : Table) → Fin (tcTables nBuf tb) → BufTy
  | .hbm, ⟨0, _⟩ => ⟨S8192x2816, .bf16⟩
  | .hbm, ⟨1, _⟩ => ⟨S1x2816x1024, .bf16⟩
  | .hbm, ⟨2, _⟩ => ⟨S8192x1024, .f32⟩
  | .hbm, ⟨3, _⟩ => ⟨S1x1x1024, .f32⟩
  | .hbm, ⟨4, _⟩ => ⟨S8192x2816, .f32⟩
  | .hbm, ⟨5, _⟩ => ⟨S2816x1024, .bf16⟩
  | .hbm, ⟨6, _⟩ => ⟨S2816x1024, .f32⟩
  | .hbm, ⟨7, _⟩ => ⟨S8192x1024, .f32⟩
  | .hbm, ⟨8, _⟩ => ⟨S8192x1024, .f32⟩
  | .hbm, ⟨9, _⟩ => ⟨S1024, .f32⟩
  | .hbm, ⟨10, _⟩ => ⟨S8192x1024, .f32⟩
  | .hbm, ⟨11, _⟩ => ⟨S_, .f32⟩
  | .hbm, ⟨12, _⟩ => ⟨S8192, .f32⟩
  | .hbm, ⟨13, _⟩ => ⟨S8192x1, .f32⟩
  | .hbm, ⟨14, _⟩ => ⟨S_, .f32⟩
  | .hbm, ⟨15, _⟩ => ⟨S8192x1, .f32⟩
  | .hbm, ⟨16, _⟩ => ⟨S8192x1, .f32⟩
  | .hbm, ⟨17, _⟩ => ⟨S_, .f32⟩
  | .hbm, ⟨18, _⟩ => ⟨S8192x1, .f32⟩
  | .hbm, ⟨19, _⟩ => ⟨S8192x1, .f32⟩
  | .hbm, ⟨20, _⟩ => ⟨S8192x1, .f32⟩
  | .hbm, ⟨21, _⟩ => ⟨S8192x1024, .f32⟩
  | .hbm, ⟨22, _⟩ => ⟨S8192x1024, .f32⟩
  | .hbm, ⟨23, _⟩ => ⟨S1x1024, .f32⟩
  | .hbm, ⟨24, _⟩ => ⟨S8192x1024, .f32⟩
  | .hbm, ⟨25, _⟩ => ⟨S8192x1024, .f32⟩
  | .hbm, ⟨26, _⟩ => ⟨S8192x1024, .bf16⟩
  | _, _ => ⟨S8192x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_v8 : Ref sig .tc := ⟨.hbm, 13, rfl⟩
abbrev main_cst_0 : Ref sig .tc := ⟨.hbm, 14, rfl⟩
abbrev main_v9 : Ref sig .tc := ⟨.hbm, 15, rfl⟩
abbrev main_v10 : Ref sig .tc := ⟨.hbm, 16, rfl⟩
abbrev main_cst_1 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩

abbrev nD : Nat := 1
abbrev τ : Topo := Topo.v7x

variable {F : FTy → Type} [FloatOps F]
-- ==== WPle.lean ====
abbrev S16384x256 : Shape := ⟨2, ![16384, 256]⟩
abbrev S8192x1024 : Shape := ⟨2, ![8192, 1024]⟩
abbrev S1x256x1024 : Shape := ⟨3, ![1, 256, 1024]⟩
abbrev S2048x256 : Shape := ⟨2, ![2048, 256]⟩
abbrev S2048x1024 : Shape := ⟨2, ![2048, 1024]⟩
abbrev S256x1024 : Shape := ⟨2, ![256, 1024]⟩

abbrev nBuf : Space → Nat
  | .hbm => 3
  | .vmem => 6
  | .smem => 0
  | _ => 0

abbrev bufTy : (tb : Table) → Fin (tcTables nBuf tb) → BufTy
  | .hbm, ⟨0, _⟩ => ⟨S16384x256, .f32⟩
  | .hbm, ⟨1, _⟩ => ⟨S8192x1024, .bf16⟩
  | .hbm, ⟨2, _⟩ => ⟨S1x256x1024, .bf16⟩
  | .local _ .vmem, ⟨0, _⟩ => ⟨S2048x256, .f32⟩
  | .local _ .vmem, ⟨1, _⟩ => ⟨S2048x256, .f32⟩
  | .local _ .vmem, ⟨2, _⟩ => ⟨S2048x1024, .bf16⟩
  | .local _ .vmem, ⟨3, _⟩ => ⟨S2048x1024, .bf16⟩
  | .local _ .vmem, ⟨4, _⟩ => ⟨S1x256x1024, .bf16⟩
  | .local _ .vmem, ⟨5, _⟩ => ⟨S256x1024, .f32⟩
  | _, _ => ⟨S16384x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def k0_cond3 (i : grid0.Coords) : BitVec 1 :=
  let arg2 : BitVec 32 := BitVec.ofNat 32 (i 2).val
  let c3_i32 : BitVec 32 := 3#32
  let v10 : BitVec 1 := Scalar.cmpi .eq arg2 c3_i32
  let v11 : BitVec 32 := Scalar.extui v10
  let c0_i32_6 : BitVec 32 := 0#32
  let v12 : BitVec 1 := Scalar.cmpi .ne v11 c0_i32_6
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.addi arg2 c4_i32
  let c0_i32 : BitVec 32 := 0#32
  ![v0.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![arg2.toNat, v0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat, arg0.toNat]

abbrev stage0_0 : Fin 2 → Memref sig .tc .vmem S2048x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 1 → Memref sig .tc .vmem S1x256x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== WPleRefIdeal.lean ====
abbrev S16384x256 : Shape := ⟨2, ![16384, 256]⟩
abbrev S8192x1024 : Shape := ⟨2, ![8192, 1024]⟩
abbrev S8192x256 : Shape := ⟨2, ![8192, 256]⟩
abbrev S_ : Shape := ⟨0, ![]⟩
abbrev S256x1024 : Shape := ⟨2, ![256, 1024]⟩
abbrev S1024x256 : Shape := ⟨2, ![1024, 256]⟩
abbrev S1x256x1024 : Shape := ⟨3, ![1, 256, 1024]⟩

abbrev nBuf : Space → Nat
  | .hbm => 11
  | .vmem => 0
  | .smem => 0
  | _ => 0

abbrev bufTy : (tb : Table) → Fin (tcTables nBuf tb) → BufTy
  | .hbm, ⟨0, _⟩ => ⟨S16384x256, .f32⟩
  | .hbm, ⟨1, _⟩ => ⟨S8192x1024, .bf16⟩
  | .hbm, ⟨2, _⟩ => ⟨S8192x256, .f32⟩
  | .hbm, ⟨3, _⟩ => ⟨S_, .f32⟩
  | .hbm, ⟨4, _⟩ => ⟨S256x1024, .f32⟩
  | .hbm, ⟨5, _⟩ => ⟨S8192x1024, .f32⟩
  | .hbm, ⟨6, _⟩ => ⟨S8192x1024, .f32⟩
  | .hbm, ⟨7, _⟩ => ⟨S1024x256, .f32⟩
  | .hbm, ⟨8, _⟩ => ⟨S256x1024, .f32⟩
  | .hbm, ⟨9, _⟩ => ⟨S256x1024, .bf16⟩
  | .hbm, ⟨10, _⟩ => ⟨S1x256x1024, .bf16⟩
  | _, _ => ⟨S16384x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== AdamIn.lean ====
abbrev S2048x1280 : Shape := ⟨2, ![2048, 1280]⟩
abbrev S256x1280 : Shape := ⟨2, ![256, 1280]⟩

abbrev nBuf : Space → Nat
  | .hbm => 8
  | .vmem => 16
  | .smem => 0
  | _ => 0

abbrev bufTy : (tb : Table) → Fin (tcTables nBuf tb) → BufTy
  | .hbm, ⟨0, _⟩ => ⟨S2048x1280, .f32⟩
  | .hbm, ⟨1, _⟩ => ⟨S2048x1280, .f32⟩
  | .hbm, ⟨2, _⟩ => ⟨S2048x1280, .f32⟩
  | .hbm, ⟨3, _⟩ => ⟨S2048x1280, .f32⟩
  | .hbm, ⟨4, _⟩ => ⟨S2048x1280, .f32⟩
  | .hbm, ⟨5, _⟩ => ⟨S2048x1280, .f32⟩
  | .hbm, ⟨6, _⟩ => ⟨S2048x1280, .f32⟩
  | .hbm, ⟨7, _⟩ => ⟨S2048x1280, .f32⟩
  | .local _ .vmem, ⟨0, _⟩ => ⟨S256x1280, .f32⟩
  | .local _ .vmem, ⟨1, _⟩ => ⟨S256x1280, .f32⟩
  | .local _ .vmem, ⟨2, _⟩ => ⟨S256x1280, .f32⟩
  | .local _ .vmem, ⟨3, _⟩ => ⟨S256x1280, .f32⟩
  | .local _ .vmem, ⟨4, _⟩ => ⟨S256x1280, .f32⟩
  | .local _ .vmem, ⟨5, _⟩ => ⟨S256x1280, .f32⟩
  | .local _ .vmem, ⟨6, _⟩ => ⟨S256x1280, .f32⟩
  | .local _ .vmem, ⟨7, _⟩ => ⟨S256x1280, .f32⟩
  | .local _ .vmem, ⟨8, _⟩ => ⟨S256x1280, .f32⟩
  | .local _ .vmem, ⟨9, _⟩ => ⟨S256x1280, .f32⟩
  | .local _ .vmem, ⟨10, _⟩ => ⟨S256x1280, .f32⟩
  | .local _ .vmem, ⟨11, _⟩ => ⟨S256x1280, .f32⟩
  | .local _ .vmem, ⟨12, _⟩ => ⟨S256x1280, .f32⟩
  | .local _ .vmem, ⟨13, _⟩ => ⟨S256x1280, .f32⟩
  | .local _ .vmem, ⟨14, _⟩ => ⟨S256x1280, .f32⟩
  | .local _ .vmem, ⟨15, _⟩ => ⟨S256x1280, .f32⟩
  | _, _ => ⟨S2048x1280, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_1 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_2 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_3 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1280 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1280 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1280 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1280 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1280 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1280 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1280 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1280 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamInRefIdeal.lean ====
abbrev S2048x1280 : Shape := ⟨2, ![2048, 1280]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2048x1280, .f32⟩
  | .hbm, ⟨1, _⟩ => ⟨S2048x1280, .f32⟩
  | .hbm, ⟨2, _⟩ => ⟨S2048x1280, .f32⟩
  | .hbm, ⟨3, _⟩ => ⟨S2048x1280, .f32⟩
  | .hbm, ⟨4, _⟩ => ⟨S_, .f32⟩
  | .hbm, ⟨5, _⟩ => ⟨S2048x1280, .f32⟩
  | .hbm, ⟨6, _⟩ => ⟨S2048x1280, .f32⟩
  | .hbm, ⟨7, _⟩ => ⟨S_, .f32⟩
  | .hbm, ⟨8, _⟩ => ⟨S2048x1280, .f32⟩
  | .hbm, ⟨9, _⟩ => ⟨S2048x1280, .f32⟩
  | .hbm, ⟨10, _⟩ => ⟨S2048x1280, .f32⟩
  | .hbm, ⟨11, _⟩ => ⟨S_, .f32⟩
  | .hbm, ⟨12, _⟩ => ⟨S2048x1280, .f32⟩
  | .hbm, ⟨13, _⟩ => ⟨S2048x1280, .f32⟩
  | .hbm, ⟨14, _⟩ => ⟨S2048x1280, .f32⟩
  | .hbm, ⟨15, _⟩ => ⟨S_, .f32⟩
  | .hbm, ⟨16, _⟩ => ⟨S2048x1280, .f32⟩
  | .hbm, ⟨17, _⟩ => ⟨S2048x1280, .f32⟩
  | .hbm, ⟨18, _⟩ => ⟨S2048x1280, .f32⟩
  | .hbm, ⟨19, _⟩ => ⟨S_, .f32⟩
  | .hbm, ⟨20, _⟩ => ⟨S2048x1280, .f32⟩
  | .hbm, ⟨21, _⟩ => ⟨S2048x1280, .f32⟩
  | .hbm, ⟨22, _⟩ => ⟨S_, .f32⟩
  | .hbm, ⟨23, _⟩ => ⟨S2048x1280, .f32⟩
  | .hbm, ⟨24, _⟩ => ⟨S2048x1280, .f32⟩
  | .hbm, ⟨25, _⟩ => ⟨S2048x1280, .f32⟩
  | .hbm, ⟨26, _⟩ => ⟨S_, .f32⟩
  | .hbm, ⟨27, _⟩ => ⟨S2048x1280, .f32⟩
  | .hbm, ⟨28, _⟩ => ⟨S2048x1280, .f32⟩
  | .hbm, ⟨29, _⟩ => ⟨S2048x1280, .f32⟩
  | .hbm, ⟨30, _⟩ => ⟨S_, .f32⟩
  | .hbm, ⟨31, _⟩ => ⟨S2048x1280, .f32⟩
  | .hbm, ⟨32, _⟩ => ⟨S2048x1280, .f32⟩
  | .hbm, ⟨33, _⟩ => ⟨S2048x1280, .f32⟩
  | .hbm, ⟨34, _⟩ => ⟨S_, .f32⟩
  | .hbm, ⟨35, _⟩ => ⟨S2048x1280, .f32⟩
  | .hbm, ⟨36, _⟩ => ⟨S2048x1280, .f32⟩
  | _, _ => ⟨S2048x1280, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamPool.lean ====
abbrev S512x256 : Shape := ⟨2, ![512, 256]⟩

abbrev nBuf : Space → Nat
  | .hbm => 8
  | .vmem => 8
  | .smem => 0
  | _ => 0

abbrev bufTy : (tb : Table) → Fin (tcTables nBuf tb) → BufTy
  | .hbm, ⟨0, _⟩ => ⟨S512x256, .f32⟩
  | .hbm, ⟨1, _⟩ => ⟨S512x256, .f32⟩
  | .hbm, ⟨2, _⟩ => ⟨S512x256, .f32⟩
  | .hbm, ⟨3, _⟩ => ⟨S512x256, .f32⟩
  | .hbm, ⟨4, _⟩ => ⟨S512x256, .f32⟩
  | .hbm, ⟨5, _⟩ => ⟨S512x256, .f32⟩
  | .hbm, ⟨6, _⟩ => ⟨S512x256, .f32⟩
  | .hbm, ⟨7, _⟩ => ⟨S512x256, .f32⟩
  | .local _ .vmem, ⟨0, _⟩ => ⟨S512x256, .f32⟩
  | .local _ .vmem, ⟨1, _⟩ => ⟨S512x256, .f32⟩
  | .local _ .vmem, ⟨2, _⟩ => ⟨S512x256, .f32⟩
  | .local _ .vmem, ⟨3, _⟩ => ⟨S512x256, .f32⟩
  | .local _ .vmem, ⟨4, _⟩ => ⟨S512x256, .f32⟩
  | .local _ .vmem, ⟨5, _⟩ => ⟨S512x256, .f32⟩
  | .local _ .vmem, ⟨6, _⟩ => ⟨S512x256, .f32⟩
  | .local _ .vmem, ⟨7, _⟩ => ⟨S512x256, .f32⟩
  | _, _ => ⟨S512x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_1 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_2 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_3 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S512x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S512x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S512x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S512x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S512x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S512x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S512x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S512x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== AdamPoolRefIdeal.lean ====
abbrev S512x256 : Shape := ⟨2, ![512, 256]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S512x256, .f32⟩
  | .hbm, ⟨1, _⟩ => ⟨S512x256, .f32⟩
  | .hbm, ⟨2, _⟩ => ⟨S512x256, .f32⟩
  | .hbm, ⟨3, _⟩ => ⟨S512x256, .f32⟩
  | .hbm, ⟨4, _⟩ => ⟨S_, .f32⟩
  | .hbm, ⟨5, _⟩ => ⟨S512x256, .f32⟩
  | .hbm, ⟨6, _⟩ => ⟨S512x256, .f32⟩
  | .hbm, ⟨7, _⟩ => ⟨S_, .f32⟩
  | .hbm, ⟨8, _⟩ => ⟨S512x256, .f32⟩
  | .hbm, ⟨9, _⟩ => ⟨S512x256, .f32⟩
  | .hbm, ⟨10, _⟩ => ⟨S512x256, .f32⟩
  | .hbm, ⟨11, _⟩ => ⟨S_, .f32⟩
  | .hbm, ⟨12, _⟩ => ⟨S512x256, .f32⟩
  | .hbm, ⟨13, _⟩ => ⟨S512x256, .f32⟩
  | .hbm, ⟨14, _⟩ => ⟨S512x256, .f32⟩
  | .hbm, ⟨15, _⟩ => ⟨S_, .f32⟩
  | .hbm, ⟨16, _⟩ => ⟨S512x256, .f32⟩
  | .hbm, ⟨17, _⟩ => ⟨S512x256, .f32⟩
  | .hbm, ⟨18, _⟩ => ⟨S512x256, .f32⟩
  | .hbm, ⟨19, _⟩ => ⟨S_, .f32⟩
  | .hbm, ⟨20, _⟩ => ⟨S512x256, .f32⟩
  | .hbm, ⟨21, _⟩ => ⟨S512x256, .f32⟩
  | .hbm, ⟨22, _⟩ => ⟨S_, .f32⟩
  | .hbm, ⟨23, _⟩ => ⟨S512x256, .f32⟩
  | .hbm, ⟨24, _⟩ => ⟨S512x256, .f32⟩
  | .hbm, ⟨25, _⟩ => ⟨S512x256, .f32⟩
  | .hbm, ⟨26, _⟩ => ⟨S_, .f32⟩
  | .hbm, ⟨27, _⟩ => ⟨S512x256, .f32⟩
  | .hbm, ⟨28, _⟩ => ⟨S512x256, .f32⟩
  | .hbm, ⟨29, _⟩ => ⟨S512x256, .f32⟩
  | .hbm, ⟨30, _⟩ => ⟨S_, .f32⟩
  | .hbm, ⟨31, _⟩ => ⟨S512x256, .f32⟩
  | .hbm, ⟨32, _⟩ => ⟨S512x256, .f32⟩
  | .hbm, ⟨33, _⟩ => ⟨S512x256, .f32⟩
  | .hbm, ⟨34, _⟩ => ⟨S_, .f32⟩
  | .hbm, ⟨35, _⟩ => ⟨S512x256, .f32⟩
  | .hbm, ⟨36, _⟩ => ⟨S512x256, .f32⟩
  | _, _ => ⟨S512x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamOut.lean ====
abbrev S512x1024 : Shape := ⟨2, ![512, 1024]⟩

abbrev nBuf : Space → Nat
  | .hbm => 8
  | .vmem => 8
  | .smem => 0
  | _ => 0

abbrev bufTy : (tb : Table) → Fin (tcTables nBuf tb) → BufTy
  | .hbm, ⟨0, _⟩ => ⟨S512x1024, .f32⟩
  | .hbm, ⟨1, _⟩ => ⟨S512x1024, .f32⟩
  | .hbm, ⟨2, _⟩ => ⟨S512x1024, .f32⟩
  | .hbm, ⟨3, _⟩ => ⟨S512x1024, .f32⟩
  | .hbm, ⟨4, _⟩ => ⟨S512x1024, .f32⟩
  | .hbm, ⟨5, _⟩ => ⟨S512x1024, .f32⟩
  | .hbm, ⟨6, _⟩ => ⟨S512x1024, .f32⟩
  | .hbm, ⟨7, _⟩ => ⟨S512x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | _, _ => ⟨S512x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_1 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_2 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_3 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S512x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S512x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S512x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S512x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S512x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S512x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S512x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S512x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== AdamOutRefIdeal.lean ====
abbrev S512x1024 : Shape := ⟨2, ![512, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S512x1024, .f32⟩
  | .hbm, ⟨1, _⟩ => ⟨S512x1024, .f32⟩
  | .hbm, ⟨2, _⟩ => ⟨S512x1024, .f32⟩
  | .hbm, ⟨3, _⟩ => ⟨S512x1024, .f32⟩
  | .hbm, ⟨4, _⟩ => ⟨S_, .f32⟩
  | .hbm, ⟨5, _⟩ => ⟨S512x1024, .f32⟩
  | .hbm, ⟨6, _⟩ => ⟨S512x1024, .f32⟩
  | .hbm, ⟨7, _⟩ => ⟨S_, .f32⟩
  | .hbm, ⟨8, _⟩ => ⟨S512x1024, .f32⟩
  | .hbm, ⟨9, _⟩ => ⟨S512x1024, .f32⟩
  | .hbm, ⟨10, _⟩ => ⟨S512x1024, .f32⟩
  | .hbm, ⟨11, _⟩ => ⟨S_, .f32⟩
  | .hbm, ⟨12, _⟩ => ⟨S512x1024, .f32⟩
  | .hbm, ⟨13, _⟩ => ⟨S512x1024, .f32⟩
  | .hbm, ⟨14, _⟩ => ⟨S512x1024, .f32⟩
  | .hbm, ⟨15, _⟩ => ⟨S_, .f32⟩
  | .hbm, ⟨16, _⟩ => ⟨S512x1024, .f32⟩
  | .hbm, ⟨17, _⟩ => ⟨S512x1024, .f32⟩
  | .hbm, ⟨18, _⟩ => ⟨S512x1024, .f32⟩
  | .hbm, ⟨19, _⟩ => ⟨S_, .f32⟩
  | .hbm, ⟨20, _⟩ => ⟨S512x1024, .f32⟩
  | .hbm, ⟨21, _⟩ => ⟨S512x1024, .f32⟩
  | .hbm, ⟨22, _⟩ => ⟨S_, .f32⟩
  | .hbm, ⟨23, _⟩ => ⟨S512x1024, .f32⟩
  | .hbm, ⟨24, _⟩ => ⟨S512x1024, .f32⟩
  | .hbm, ⟨25, _⟩ => ⟨S512x1024, .f32⟩
  | .hbm, ⟨26, _⟩ => ⟨S_, .f32⟩
  | .hbm, ⟨27, _⟩ => ⟨S512x1024, .f32⟩
  | .hbm, ⟨28, _⟩ => ⟨S512x1024, .f32⟩
  | .hbm, ⟨29, _⟩ => ⟨S512x1024, .f32⟩
  | .hbm, ⟨30, _⟩ => ⟨S_, .f32⟩
  | .hbm, ⟨31, _⟩ => ⟨S512x1024, .f32⟩
  | .hbm, ⟨32, _⟩ => ⟨S512x1024, .f32⟩
  | .hbm, ⟨33, _⟩ => ⟨S512x1024, .f32⟩
  | .hbm, ⟨34, _⟩ => ⟨S_, .f32⟩
  | .hbm, ⟨35, _⟩ => ⟨S512x1024, .f32⟩
  | .hbm, ⟨36, _⟩ => ⟨S512x1024, .f32⟩
  | _, _ => ⟨S512x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamUp.lean ====
abbrev S2048x1408 : Shape := ⟨2, ![2048, 1408]⟩
abbrev S256x1408 : Shape := ⟨2, ![256, 1408]⟩

abbrev nBuf : Space → Nat
  | .hbm => 8
  | .vmem => 16
  | .smem => 0
  | _ => 0

abbrev bufTy : (tb : Table) → Fin (tcTables nBuf tb) → BufTy
  | .hbm, ⟨0, _⟩ => ⟨S2048x1408, .f32⟩
  | .hbm, ⟨1, _⟩ => ⟨S2048x1408, .f32⟩
  | .hbm, ⟨2, _⟩ => ⟨S2048x1408, .f32⟩
  | .hbm, ⟨3, _⟩ => ⟨S2048x1408, .f32⟩
  | .hbm, ⟨4, _⟩ => ⟨S2048x1408, .f32⟩
  | .hbm, ⟨5, _⟩ => ⟨S2048x1408, .f32⟩
  | .hbm, ⟨6, _⟩ => ⟨S2048x1408, .f32⟩
  | .hbm, ⟨7, _⟩ => ⟨S2048x1408, .f32⟩
  | .local _ .vmem, ⟨0, _⟩ => ⟨S256x1408, .f32⟩
  | .local _ .vmem, ⟨1, _⟩ => ⟨S256x1408, .f32⟩
  | .local _ .vmem, ⟨2, _⟩ => ⟨S256x1408, .f32⟩
  | .local _ .vmem, ⟨3, _⟩ => ⟨S256x1408, .f32⟩
  | .local _ .vmem, ⟨4, _⟩ => ⟨S256x1408, .f32⟩
  | .local _ .vmem, ⟨5, _⟩ => ⟨S256x1408, .f32⟩
  | .local _ .vmem, ⟨6, _⟩ => ⟨S256x1408, .f32⟩
  | .local _ .vmem, ⟨7, _⟩ => ⟨S256x1408, .f32⟩
  | .local _ .vmem, ⟨8, _⟩ => ⟨S256x1408, .f32⟩
  | .local _ .vmem, ⟨9, _⟩ => ⟨S256x1408, .f32⟩
  | .local _ .vmem, ⟨10, _⟩ => ⟨S256x1408, .f32⟩
  | .local _ .vmem, ⟨11, _⟩ => ⟨S256x1408, .f32⟩
  | .local _ .vmem, ⟨12, _⟩ => ⟨S256x1408, .f32⟩
  | .local _ .vmem, ⟨13, _⟩ => ⟨S256x1408, .f32⟩
  | .local _ .vmem, ⟨14, _⟩ => ⟨S256x1408, .f32⟩
  | .local _ .vmem, ⟨15, _⟩ => ⟨S256x1408, .f32⟩
  | _, _ => ⟨S2048x1408, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_1 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_2 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_3 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1408 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1408 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1408 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1408 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1408 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1408 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1408 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamUpRefIdeal.lean ====
abbrev S2048x1408 : Shape := ⟨2, ![2048, 1408]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2048x1408, .f32⟩
  | .hbm, ⟨1, _⟩ => ⟨S2048x1408, .f32⟩
  | .hbm, ⟨2, _⟩ => ⟨S2048x1408, .f32⟩
  | .hbm, ⟨3, _⟩ => ⟨S2048x1408, .f32⟩
  | .hbm, ⟨4, _⟩ => ⟨S_, .f32⟩
  | .hbm, ⟨5, _⟩ => ⟨S2048x1408, .f32⟩
  | .hbm, ⟨6, _⟩ => ⟨S2048x1408, .f32⟩
  | .hbm, ⟨7, _⟩ => ⟨S_, .f32⟩
  | .hbm, ⟨8, _⟩ => ⟨S2048x1408, .f32⟩
  | .hbm, ⟨9, _⟩ => ⟨S2048x1408, .f32⟩
  | .hbm, ⟨10, _⟩ => ⟨S2048x1408, .f32⟩
  | .hbm, ⟨11, _⟩ => ⟨S_, .f32⟩
  | .hbm, ⟨12, _⟩ => ⟨S2048x1408, .f32⟩
  | .hbm, ⟨13, _⟩ => ⟨S2048x1408, .f32⟩
  | .hbm, ⟨14, _⟩ => ⟨S2048x1408, .f32⟩
  | .hbm, ⟨15, _⟩ => ⟨S_, .f32⟩
  | .hbm, ⟨16, _⟩ => ⟨S2048x1408, .f32⟩
  | .hbm, ⟨17, _⟩ => ⟨S2048x1408, .f32⟩
  | .hbm, ⟨18, _⟩ => ⟨S2048x1408, .f32⟩
  | .hbm, ⟨19, _⟩ => ⟨S_, .f32⟩
  | .hbm, ⟨20, _⟩ => ⟨S2048x1408, .f32⟩
  | .hbm, ⟨21, _⟩ => ⟨S2048x1408, .f32⟩
  | .hbm, ⟨22, _⟩ => ⟨S_, .f32⟩
  | .hbm, ⟨23, _⟩ => ⟨S2048x1408, .f32⟩
  | .hbm, ⟨24, _⟩ => ⟨S2048x1408, .f32⟩
  | .hbm, ⟨25, _⟩ => ⟨S2048x1408, .f32⟩
  | .hbm, ⟨26, _⟩ => ⟨S_, .f32⟩
  | .hbm, ⟨27, _⟩ => ⟨S2048x1408, .f32⟩
  | .hbm, ⟨28, _⟩ => ⟨S2048x1408, .f32⟩
  | .hbm, ⟨29, _⟩ => ⟨S2048x1408, .f32⟩
  | .hbm, ⟨30, _⟩ => ⟨S_, .f32⟩
  | .hbm, ⟨31, _⟩ => ⟨S2048x1408, .f32⟩
  | .hbm, ⟨32, _⟩ => ⟨S2048x1408, .f32⟩
  | .hbm, ⟨33, _⟩ => ⟨S2048x1408, .f32⟩
  | .hbm, ⟨34, _⟩ => ⟨S_, .f32⟩
  | .hbm, ⟨35, _⟩ => ⟨S2048x1408, .f32⟩
  | .hbm, ⟨36, _⟩ => ⟨S2048x1408, .f32⟩
  | _, _ => ⟨S2048x1408, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamDown.lean ====
abbrev S1408x1024 : Shape := ⟨2, ![1408, 1024]⟩
abbrev S352x1024 : Shape := ⟨2, ![352, 1024]⟩

abbrev nBuf : Space → Nat
  | .hbm => 8
  | .vmem => 16
  | .smem => 0
  | _ => 0

abbrev bufTy : (tb : Table) → Fin (tcTables nBuf tb) → BufTy
  | .hbm, ⟨0, _⟩ => ⟨S1408x1024, .f32⟩
  | .hbm, ⟨1, _⟩ => ⟨S1408x1024, .f32⟩
  | .hbm, ⟨2, _⟩ => ⟨S1408x1024, .f32⟩
  | .hbm, ⟨3, _⟩ => ⟨S1408x1024, .f32⟩
  | .hbm, ⟨4, _⟩ => ⟨S1408x1024, .f32⟩
  | .hbm, ⟨5, _⟩ => ⟨S1408x1024, .f32⟩
  | .hbm, ⟨6, _⟩ => ⟨S1408x1024, .f32⟩
  | .hbm, ⟨7, _⟩ => ⟨S1408x1024, .f32⟩
  | .local _ .vmem, ⟨0, _⟩ => ⟨S352x1024, .f32⟩
  | .local _ .vmem, ⟨1, _⟩ => ⟨S352x1024, .f32⟩
  | .local _ .vmem, ⟨2, _⟩ => ⟨S352x1024, .f32⟩
  | .local _ .vmem, ⟨3, _⟩ => ⟨S352x1024, .f32⟩
  | .local _ .vmem, ⟨4, _⟩ => ⟨S352x1024, .f32⟩
  | .local _ .vmem, ⟨5, _⟩ => ⟨S352x1024, .f32⟩
  | .local _ .vmem, ⟨6, _⟩ => ⟨S352x1024, .f32⟩
  | .local _ .vmem, ⟨7, _⟩ => ⟨S352x1024, .f32⟩
  | .local _ .vmem, ⟨8, _⟩ => ⟨S352x1024, .f32⟩
  | .local _ .vmem, ⟨9, _⟩ => ⟨S352x1024, .f32⟩
  | .local _ .vmem, ⟨10, _⟩ => ⟨S352x1024, .f32⟩
  | .local _ .vmem, ⟨11, _⟩ => ⟨S352x1024, .f32⟩
  | .local _ .vmem, ⟨12, _⟩ => ⟨S352x1024, .f32⟩
  | .local _ .vmem, ⟨13, _⟩ => ⟨S352x1024, .f32⟩
  | .local _ .vmem, ⟨14, _⟩ => ⟨S352x1024, .f32⟩
  | .local _ .vmem, ⟨15, _⟩ => ⟨S352x1024, .f32⟩
  | _, _ => ⟨S1408x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_1 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_2 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_3 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S352x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S352x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S352x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S352x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S352x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S352x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S352x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S352x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamDownRefIdeal.lean ====
abbrev S1408x1024 : Shape := ⟨2, ![1408, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1408x1024, .f32⟩
  | .hbm, ⟨1, _⟩ => ⟨S1408x1024, .f32⟩
  | .hbm, ⟨2, _⟩ => ⟨S1408x1024, .f32⟩
  | .hbm, ⟨3, _⟩ => ⟨S1408x1024, .f32⟩
  | .hbm, ⟨4, _⟩ => ⟨S_, .f32⟩
  | .hbm, ⟨5, _⟩ => ⟨S1408x1024, .f32⟩
  | .hbm, ⟨6, _⟩ => ⟨S1408x1024, .f32⟩
  | .hbm, ⟨7, _⟩ => ⟨S_, .f32⟩
  | .hbm, ⟨8, _⟩ => ⟨S1408x1024, .f32⟩
  | .hbm, ⟨9, _⟩ => ⟨S1408x1024, .f32⟩
  | .hbm, ⟨10, _⟩ => ⟨S1408x1024, .f32⟩
  | .hbm, ⟨11, _⟩ => ⟨S_, .f32⟩
  | .hbm, ⟨12, _⟩ => ⟨S1408x1024, .f32⟩
  | .hbm, ⟨13, _⟩ => ⟨S1408x1024, .f32⟩
  | .hbm, ⟨14, _⟩ => ⟨S1408x1024, .f32⟩
  | .hbm, ⟨15, _⟩ => ⟨S_, .f32⟩
  | .hbm, ⟨16, _⟩ => ⟨S1408x1024, .f32⟩
  | .hbm, ⟨17, _⟩ => ⟨S1408x1024, .f32⟩
  | .hbm, ⟨18, _⟩ => ⟨S1408x1024, .f32⟩
  | .hbm, ⟨19, _⟩ => ⟨S_, .f32⟩
  | .hbm, ⟨20, _⟩ => ⟨S1408x1024, .f32⟩
  | .hbm, ⟨21, _⟩ => ⟨S1408x1024, .f32⟩
  | .hbm, ⟨22, _⟩ => ⟨S_, .f32⟩
  | .hbm, ⟨23, _⟩ => ⟨S1408x1024, .f32⟩
  | .hbm, ⟨24, _⟩ => ⟨S1408x1024, .f32⟩
  | .hbm, ⟨25, _⟩ => ⟨S1408x1024, .f32⟩
  | .hbm, ⟨26, _⟩ => ⟨S_, .f32⟩
  | .hbm, ⟨27, _⟩ => ⟨S1408x1024, .f32⟩
  | .hbm, ⟨28, _⟩ => ⟨S1408x1024, .f32⟩
  | .hbm, ⟨29, _⟩ => ⟨S1408x1024, .f32⟩
  | .hbm, ⟨30, _⟩ => ⟨S_, .f32⟩
  | .hbm, ⟨31, _⟩ => ⟨S1408x1024, .f32⟩
  | .hbm, ⟨32, _⟩ => ⟨S1408x1024, .f32⟩
  | .hbm, ⟨33, _⟩ => ⟨S1408x1024, .f32⟩
  | .hbm, ⟨34, _⟩ => ⟨S_, .f32⟩
  | .hbm, ⟨35, _⟩ => ⟨S1408x1024, .f32⟩
  | .hbm, ⟨36, _⟩ => ⟨S1408x1024, .f32⟩
  | _, _ => ⟨S1408x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamSmall.lean ====
abbrev S2312x128 : Shape := ⟨2, ![2312, 128]⟩

abbrev nBuf : Space → Nat
  | .hbm => 7
  | .vmem => 7
  | .smem => 0
  | _ => 0

abbrev bufTy : (tb : Table) → Fin (tcTables nBuf tb) → BufTy
  | .hbm, ⟨0, _⟩ => ⟨S2312x128, .f32⟩
  | .hbm, ⟨1, _⟩ => ⟨S2312x128, .f32⟩
  | .hbm, ⟨2, _⟩ => ⟨S2312x128, .f32⟩
  | .hbm, ⟨3, _⟩ => ⟨S2312x128, .f32⟩
  | .hbm, ⟨4, _⟩ => ⟨S2312x128, .f32⟩
  | .hbm, ⟨5, _⟩ => ⟨S2312x128, .f32⟩
  | .hbm, ⟨6, _⟩ => ⟨S2312x128, .f32⟩
  | .local _ .vmem, ⟨0, _⟩ => ⟨S2312x128, .f32⟩
  | .local _ .vmem, ⟨1, _⟩ => ⟨S2312x128, .f32⟩
  | .local _ .vmem, ⟨2, _⟩ => ⟨S2312x128, .f32⟩
  | .local _ .vmem, ⟨3, _⟩ => ⟨S2312x128, .f32⟩
  | .local _ .vmem, ⟨4, _⟩ => ⟨S2312x128, .f32⟩
  | .local _ .vmem, ⟨5, _⟩ => ⟨S2312x128, .f32⟩
  | .local _ .vmem, ⟨6, _⟩ => ⟨S2312x128, .f32⟩
  | _, _ => ⟨S2312x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_1 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_2 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_3 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S2312x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S2312x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S2312x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S2312x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S2312x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S2312x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S2312x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamSmallRefIdeal.lean ====
abbrev S2312x128 : Shape := ⟨2, ![2312, 128]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2312x128, .f32⟩
  | .hbm, ⟨1, _⟩ => ⟨S2312x128, .f32⟩
  | .hbm, ⟨2, _⟩ => ⟨S2312x128, .f32⟩
  | .hbm, ⟨3, _⟩ => ⟨S2312x128, .f32⟩
  | .hbm, ⟨4, _⟩ => ⟨S_, .f32⟩
  | .hbm, ⟨5, _⟩ => ⟨S2312x128, .f32⟩
  | .hbm, ⟨6, _⟩ => ⟨S2312x128, .f32⟩
  | .hbm, ⟨7, _⟩ => ⟨S_, .f32⟩
  | .hbm, ⟨8, _⟩ => ⟨S2312x128, .f32⟩
  | .hbm, ⟨9, _⟩ => ⟨S2312x128, .f32⟩
  | .hbm, ⟨10, _⟩ => ⟨S2312x128, .f32⟩
  | .hbm, ⟨11, _⟩ => ⟨S_, .f32⟩
  | .hbm, ⟨12, _⟩ => ⟨S2312x128, .f32⟩
  | .hbm, ⟨13, _⟩ => ⟨S2312x128, .f32⟩
  | .hbm, ⟨14, _⟩ => ⟨S2312x128, .f32⟩
  | .hbm, ⟨15, _⟩ => ⟨S_, .f32⟩
  | .hbm, ⟨16, _⟩ => ⟨S2312x128, .f32⟩
  | .hbm, ⟨17, _⟩ => ⟨S2312x128, .f32⟩
  | .hbm, ⟨18, _⟩ => ⟨S2312x128, .f32⟩
  | .hbm, ⟨19, _⟩ => ⟨S_, .f32⟩
  | .hbm, ⟨20, _⟩ => ⟨S2312x128, .f32⟩
  | .hbm, ⟨21, _⟩ => ⟨S2312x128, .f32⟩
  | .hbm, ⟨22, _⟩ => ⟨S_, .f32⟩
  | .hbm, ⟨23, _⟩ => ⟨S2312x128, .f32⟩
  | .hbm, ⟨24, _⟩ => ⟨S2312x128, .f32⟩
  | .hbm, ⟨25, _⟩ => ⟨S2312x128, .f32⟩
  | .hbm, ⟨26, _⟩ => ⟨S_, .f32⟩
  | .hbm, ⟨27, _⟩ => ⟨S2312x128, .f32⟩
  | .hbm, ⟨28, _⟩ => ⟨S2312x128, .f32⟩
  | .hbm, ⟨29, _⟩ => ⟨S2312x128, .f32⟩
  | .hbm, ⟨30, _⟩ => ⟨S_, .f32⟩
  | .hbm, ⟨31, _⟩ => ⟨S2312x128, .f32⟩
  | .hbm, ⟨32, _⟩ => ⟨S2312x128, .f32⟩
  | .hbm, ⟨33, _⟩ => ⟨S2312x128, .f32⟩
  | .hbm, ⟨34, _⟩ => ⟨S_, .f32⟩
  | .hbm, ⟨35, _⟩ => ⟨S2312x128, .f32⟩
  | .hbm, ⟨36, _⟩ => ⟨S2312x128, .f32⟩
  | _, _ => ⟨S2312x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== LossHead.lean ====
abbrev S8192x1024 : Shape := ⟨2, ![8192, 1024]⟩
abbrev S1x1024 : Shape := ⟨2, ![1, 1024]⟩
abbrev S8x128 : Shape := ⟨2, ![8, 128]⟩
abbrev S8x1024 : Shape := ⟨2, ![8, 1024]⟩
abbrev S1024x1024 : Shape := ⟨2, ![1024, 1024]⟩
abbrev S1024 : Shape := ⟨1, ![1024]⟩
abbrev S1024x1 : Shape := ⟨2, ![1024, 1]⟩
abbrev S1x1024x1 : Shape := ⟨3, ![1, 1024, 1]⟩
abbrev S1 : Shape := ⟨1, ![1]⟩
abbrev S1x1x1 : Shape := ⟨3, ![1, 1, 1]⟩

abbrev nBuf : Space → Nat
  | .hbm => 6
  | .vmem => 9
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S8192x1024, .f32⟩
  | .hbm, ⟨3, _⟩ => ⟨S8x128, .f32⟩
  | .hbm, ⟨4, _⟩ => ⟨S8192x1024, .f32⟩
  | .hbm, ⟨5, _⟩ => ⟨S8x1024, .f32⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x1024, .f32⟩
  | .local _ .vmem, ⟨4, _⟩ => ⟨S1024x1024, .f32⟩
  | .local _ .vmem, ⟨5, _⟩ => ⟨S8x128, .f32⟩
  | .local _ .vmem, ⟨6, _⟩ => ⟨S1024x1024, .f32⟩
  | .local _ .vmem, ⟨7, _⟩ => ⟨S1024x1024, .f32⟩
  | .local _ .vmem, ⟨8, _⟩ => ⟨S8x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S8x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S8x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== LossHeadRefIdeal.lean ====
abbrev S8192x1024 : Shape := ⟨2, ![8192, 1024]⟩
abbrev S1x1024 : Shape := ⟨2, ![1, 1024]⟩
abbrev S1024 : Shape := ⟨1, ![1024]⟩
abbrev S_ : Shape := ⟨0, ![]⟩
abbrev S8192 : Shape := ⟨1, ![8192]⟩
abbrev S8192x1 : Shape := ⟨2, ![8192, 1]⟩
abbrev S8x128 : Shape := ⟨2, ![8, 128]⟩
abbrev S7x1024 : Shape := ⟨2, ![7, 1024]⟩
abbrev S8x1024 : Shape := ⟨2, ![8, 1024]⟩

abbrev nBuf : Space → Nat
  | .hbm => 77
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S8192x1024, .f32⟩
  | .hbm, ⟨3, _⟩ => ⟨S1024, .f32⟩
  | .hbm, ⟨4, _⟩ => ⟨S8192x1024, .f32⟩
  | .hbm, ⟨5, _⟩ => ⟨S_, .f32⟩
  | .hbm, ⟨6, _⟩ => ⟨S8192, .f32⟩
  | .hbm, ⟨7, _⟩ => ⟨S8192x1, .f32⟩
  | .hbm, ⟨8, _⟩ => ⟨S_, .f32⟩
  | .hbm, ⟨9, _⟩ => ⟨S8192x1, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S_, .f32⟩
  | .hbm, ⟨17, _⟩ => ⟨S8192x1, .f32⟩
  | .hbm, ⟨18, _⟩ => ⟨S8192x1, .f32⟩
  | .hbm, ⟨19, _⟩ => ⟨S8192x1024, .f32⟩
  | .hbm, ⟨20, _⟩ => ⟨S8192x1024, .f32⟩
  | .hbm, ⟨21, _⟩ => ⟨S1x1024, .f32⟩
  | .hbm, ⟨22, _⟩ => ⟨S8192x1024, .f32⟩
  | .hbm, ⟨23, _⟩ => ⟨S8192x1024, .f32⟩
  | .hbm, ⟨24, _⟩ => ⟨S8192x1024, .f32⟩
  | .hbm, ⟨25, _⟩ => ⟨S8192x1024, .f32⟩
  | .hbm, ⟨26, _⟩ => ⟨S_, .f32⟩
  | .hbm, ⟨27, _⟩ => ⟨S8192x1024, .f32⟩
  | .hbm, ⟨28, _⟩ => ⟨S8192x1024, .f32⟩
  | .hbm, ⟨29, _⟩ => ⟨S_, .f32⟩
  | .hbm, ⟨30, _⟩ => ⟨S8192, .f32⟩
  | .hbm, ⟨31, _⟩ => ⟨S_, .f32⟩
  | .hbm, ⟨32, _⟩ => ⟨S8192, .f32⟩
  | .hbm, ⟨33, _⟩ => ⟨S8192, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S8192, .f32⟩
  | .hbm, ⟨42, _⟩ => ⟨S_, .f32⟩
  | .hbm, ⟨43, _⟩ => ⟨S8192, .f32⟩
  | .hbm, ⟨44, _⟩ => ⟨S8192, .f32⟩
  | .hbm, ⟨45, _⟩ => ⟨S8192x1024, .f32⟩
  | .hbm, ⟨46, _⟩ => ⟨S8192x1024, .f32⟩
  | .hbm, ⟨47, _⟩ => ⟨S8192x1024, .f32⟩
  | .hbm, ⟨48, _⟩ => ⟨S_, .f32⟩
  | .hbm, ⟨49, _⟩ => ⟨S1024, .f32⟩
  | .hbm, ⟨50, _⟩ => ⟨S1x1024, .f32⟩
  | .hbm, ⟨51, _⟩ => ⟨S8192x1024, .f32⟩
  | .hbm, ⟨52, _⟩ => ⟨S8192x1024, .f32⟩
  | .hbm, ⟨53, _⟩ => ⟨S_, .f32⟩
  | .hbm, ⟨54, _⟩ => ⟨S1024, .f32⟩
  | .hbm, ⟨55, _⟩ => ⟨S8192x1024, .f32⟩
  | .hbm, ⟨56, _⟩ => ⟨S_, .f32⟩
  | .hbm, ⟨57, _⟩ => ⟨S8192, .f32⟩
  | .hbm, ⟨58, _⟩ => ⟨S8192x1, .f32⟩
  | .hbm, ⟨59, _⟩ => ⟨S8192x1024, .f32⟩
  | .hbm, ⟨60, _⟩ => ⟨S8192x1024, .f32⟩
  | .hbm, ⟨61, _⟩ => ⟨S8192x1, .f32⟩
  | .hbm, ⟨62, _⟩ => ⟨S_, .f32⟩
  | .hbm, ⟨63, _⟩ => ⟨S8192x1, .f32⟩
  | .hbm, ⟨64, _⟩ => ⟨S8192x1, .f32⟩
  | .hbm, ⟨65, _⟩ => ⟨S_, .f32⟩
  | .hbm, ⟨66, _⟩ => ⟨S8192, .f32⟩
  | .hbm, ⟨67, _⟩ => ⟨S8192x1024, .f32⟩
  | .hbm, ⟨68, _⟩ => ⟨S8192x1024, .f32⟩
  | .hbm, ⟨69, _⟩ => ⟨S8192x1024, .f32⟩
  | .hbm, ⟨70, _⟩ => ⟨S8192x1024, .f32⟩
  | .hbm, ⟨71, _⟩ => ⟨S8192x1024, .f32⟩
  | .hbm, ⟨72, _⟩ => ⟨S8x128, .f32⟩
  | .hbm, ⟨73, _⟩ => ⟨S1x1024, .f32⟩
  | .hbm, ⟨74, _⟩ => ⟨S_, .f32⟩
  | .hbm, ⟨75, _⟩ => ⟨S7x1024, .f32⟩
  | .hbm, ⟨76, _⟩ => ⟨S8x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst_2 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_cst_3 : Ref sig .tc := ⟨.hbm, 26, rfl⟩
abbrev main_v19 : Ref sig .tc := ⟨.hbm, 27, rfl⟩
abbrev main_v20 : Ref sig .tc := ⟨.hbm, 28, rfl⟩
abbrev main_cst_4 : Ref sig .tc := ⟨.hbm, 29, rfl⟩
abbrev main_v21 : Ref sig .tc := ⟨.hbm, 30, rfl⟩
abbrev main_cst_5 : Ref sig .tc := ⟨.hbm, 31, rfl⟩
abbrev main_v22 : Ref sig .tc := ⟨.hbm, 32, rfl⟩
abbrev main_v23 : Ref sig .tc := ⟨.hbm, 33, rfl⟩
abbrev main_cst_6 : Ref sig .tc := ⟨.hbm, 34, rfl⟩
abbrev main_v24 : Ref sig .tc := ⟨.hbm, 35, rfl⟩
abbrev main_cst_7 : Ref sig .tc := ⟨.hbm, 36, rfl⟩
abbrev main_v25 : Ref sig .tc := ⟨.hbm, 37, rfl⟩
abbrev main_cst_8 : Ref sig .tc := ⟨.hbm, 38, rfl⟩
abbrev main_cst_9 : Ref sig .tc := ⟨.hbm, 39, rfl⟩
abbrev main_v26 : Ref sig .tc := ⟨.hbm, 40, rfl⟩
abbrev main_v27 : Ref sig .tc := ⟨.hbm, 41, rfl⟩
abbrev main_cst_10 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_cst_11 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_cst_12 : Ref sig .tc := ⟨.hbm, 53, rfl⟩
abbrev main_v37 : Ref sig .tc := ⟨.hbm, 54, rfl⟩
abbrev main_v38 : Ref sig .tc := ⟨.hbm, 55, rfl⟩
abbrev main_cst_13 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_cst_14 : Ref sig .tc := ⟨.hbm, 62, rfl⟩
abbrev main_v44 : Ref sig .tc := ⟨.hbm, 63, rfl⟩
abbrev main_v45 : Ref sig .tc := ⟨.hbm, 64, rfl⟩
abbrev main_cst_15 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_cst_16 : Ref sig .tc := ⟨.hbm, 74, rfl⟩
abbrev main_v54 : Ref sig .tc := ⟨.hbm, 75, rfl⟩
abbrev main_v55 : Ref sig .tc := ⟨.hbm, 76, rfl⟩

abbrev nD : Nat := 1
abbrev τ : Topo := Topo.v7x

variable {F : FTy → Type} [FloatOps F]
-- ==== FfnNorm.lean ====
abbrev S2x8192x2816 : Shape := ⟨3, ![2, 8192, 2816]⟩
abbrev S1x1024x5632 : Shape := ⟨3, ![1, 1024, 5632]⟩
abbrev S8192x1024 : Shape := ⟨2, ![8192, 1024]⟩
abbrev S2x1x1024 : Shape := ⟨3, ![2, 1, 1024]⟩
abbrev S8x1024 : Shape := ⟨2, ![8, 1024]⟩
abbrev S1x1024x1408 : Shape := ⟨3, ![1, 1024, 1408]⟩
abbrev S1024x1024 : Shape := ⟨2, ![1024, 1024]⟩
abbrev S1x1x1024 : Shape := ⟨3, ![1, 1, 1024]⟩
abbrev S1024x1408 : Shape := ⟨2, ![1024, 1408]⟩
abbrev S1024 : Shape := ⟨1, ![1024]⟩
abbrev S1024x1 : Shape := ⟨2, ![1024, 1]⟩
abbrev S1x1024 : Shape := ⟨2, ![1, 1024]⟩

abbrev nBuf : Space → Nat
  | .hbm => 7
  | .vmem => 13
  | .smem => 0
  | _ => 0

abbrev bufTy : (tb : Table) → Fin (tcTables nBuf tb) → BufTy
  | .hbm, ⟨0, _⟩ => ⟨S2x8192x2816, .bf16⟩
  | .hbm, ⟨1, _⟩ => ⟨S1x1024x5632, .bf16⟩
  | .hbm, ⟨2, _⟩ => ⟨S8192x1024, .f32⟩
  | .hbm, ⟨3, _⟩ => ⟨S2x1x1024, .f32⟩
  | .hbm, ⟨4, _⟩ => ⟨S8192x1024, .f32⟩
  | .hbm, ⟨5, _⟩ => ⟨S8192x1024, .f32⟩
  | .hbm, ⟨6, _⟩ => ⟨S8x1024, .f32⟩
  | .local _ .vmem, ⟨0, _⟩ => ⟨S1x1024x1408, .bf16⟩
  | .local _ .vmem, ⟨1, _⟩ => ⟨S1x1024x1408, .bf16⟩
  | .local _ .vmem, ⟨2, _⟩ => ⟨S1x1024x1408, .bf16⟩
  | .local _ .vmem, ⟨3, _⟩ => ⟨S1x1024x1408, .bf16⟩
  | .local _ .vmem, ⟨4, _⟩ => ⟨S1024x1024, .f32⟩
  | .local _ .vmem, ⟨5, _⟩ => ⟨S1024x1024, .f32⟩
  | .local _ .vmem, ⟨6, _⟩ => ⟨S1x1x1024, .f32⟩
  | .local _ .vmem, ⟨7, _⟩ => ⟨S1024x1024, .f32⟩
  | .local _ .vmem, ⟨8, _⟩ => ⟨S1024x1024, .f32⟩
  | .local _ .vmem, ⟨9, _⟩ => ⟨S1024x1024, .f32⟩
  | .local _ .vmem, ⟨10, _⟩ => ⟨S1024x1024, .f32⟩
  | .local _ .vmem, ⟨11, _⟩ => ⟨S8x1024, .f32⟩
  | .local _ .vmem, ⟨12, _⟩ => ⟨S1024x1024, .f32⟩
  | _, _ => ⟨S2x8192x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11

abbrev nD : Nat := 1
abbrev τ : Topo := Topo.v7x

variable {F : FTy → Type} [FloatOps F]

abbrev grid0 : Pipeline.Grid := ⟨3, ![1, 8, 4], ![false, false, false]⟩

def k0_cond3 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_8 : BitVec 32 := 0#32
  let v13 : BitVec 1 := Scalar.cmpi .ne v12 c0_i32_8
  v13

def k0_cond4 (i : grid0.Coords) : BitVec 1 :=
  let arg1 : BitVec 32 := BitVec.ofNat 32 (i 1).val
  let c0_i32_11 : BitVec 32 := 0#32
  let v15 : BitVec 1 := Scalar.cmpi .eq arg1 c0_i32_11
  let v16 : BitVec 32 := Scalar.extui v15
  let c0_i32_12 : BitVec 32 := 0#32
  let v17 : BitVec 1 := Scalar.cmpi .ne v16 c0_i32_12
  v17

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg2 c2_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg2 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg2 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg1.toNat, v26.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S1x1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 1 → Memref sig .tc .vmem S1x1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 1 → Memref sig .tc .vmem S8x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false, false]
-- ==== FfnNormRefIdeal.lean ====
abbrev S2x8192x2816 : Shape := ⟨3, ![2, 8192, 2816]⟩
abbrev S1x1024x5632 : Shape := ⟨3, ![1, 1024, 5632]⟩
abbrev S8192x1024 : Shape := ⟨2, ![8192, 1024]⟩
abbrev S2x1x1024 : Shape := ⟨3, ![2, 1, 1024]⟩
abbrev S1x8192x2816 : Shape := ⟨3, ![1, 8192, 2816]⟩
abbrev S8192x2816 : Shape := ⟨2, ![8192, 2816]⟩
abbrev S8192x5632 : Shape := ⟨2, ![8192, 5632]⟩
abbrev S1x1x1024 : Shape := ⟨3, ![1, 1, 1024]⟩
abbrev S1024 : Shape := ⟨1, ![1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S1024x5632 : Shape := ⟨2, ![1024, 5632]⟩
abbrev S7x1024 : Shape := ⟨2, ![7, 1024]⟩
abbrev S8x1024 : Shape := ⟨2, ![8, 1024]⟩

abbrev nBuf : Space → Nat
  | .hbm => 67
  | .vmem => 0
  | .smem => 0
  | _ => 0

abbrev bufTy : (tb : Table) → Fin (tcTables nBuf tb) → BufTy
  | .hbm, ⟨0, _⟩ => ⟨S2x8192x2816, .bf16⟩
  | .hbm, ⟨1, _⟩ => ⟨S1x1024x5632, .bf16⟩
  | .hbm, ⟨2, _⟩ => ⟨S8192x1024, .f32⟩
  | .hbm, ⟨3, _⟩ => ⟨S2x1x1024, .f32⟩
  | .hbm, ⟨4, _⟩ => ⟨S8192x1024, .f32⟩
  | .hbm, ⟨5, _⟩ => ⟨S1x8192x2816, .bf16⟩
  | .hbm, ⟨6, _⟩ => ⟨S8192x2816, .bf16⟩
  | .hbm, ⟨7, _⟩ => ⟨S1x8192x2816, .bf16⟩
  | .hbm, ⟨8, _⟩ => ⟨S8192x2816, .bf16⟩
  | .hbm, ⟨9, _⟩ => ⟨S8192x5632, .bf16⟩
  | .hbm, ⟨10, _⟩ => ⟨S1x1x1024, .f32⟩
  | .hbm, ⟨11, _⟩ => ⟨S1024, .f32⟩
  | .hbm, ⟨12, _⟩ => ⟨S8192x1024, .f32⟩
  | .hbm, ⟨13, _⟩ => ⟨S_, .f32⟩
  | .hbm, ⟨14, _⟩ => ⟨S8192, .f32⟩
  | .hbm, ⟨15, _⟩ => ⟨S8192x1, .f32⟩
  | .hbm, ⟨16, _⟩ => ⟨S_, .f32⟩
  | .hbm, ⟨17, _⟩ => ⟨S8192x1, .f32⟩
  | .hbm, ⟨18, _⟩ => ⟨S8192x1, .f32⟩
  | .hbm, ⟨19, _⟩ => ⟨S_, .f32⟩
  | .hbm, ⟨20, _⟩ => ⟨S8192x1, .f32⟩
  | .hbm, ⟨21, _⟩ => ⟨S8192x1, .f32⟩
  | .hbm, ⟨22, _⟩ => ⟨S8192x1, .f32⟩
  | .hbm, ⟨23, _⟩ => ⟨S8192x1, .f32⟩
  | .hbm, ⟨24, _⟩ => ⟨S_, .f32⟩
  | .hbm, ⟨25, _⟩ => ⟨S8192x1, .f32⟩
  | .hbm, ⟨26, _⟩ => ⟨S8192x1, .f32⟩
  | .hbm, ⟨27, _⟩ => ⟨S8192x1024, .f32⟩
  | .hbm, ⟨28, _⟩ => ⟨S8192x1024, .f32⟩
  | .hbm, ⟨29, _⟩ => ⟨S1x1024, .f32⟩
  | .hbm, ⟨30, _⟩ => ⟨S8192x1024, .f32⟩
  | .hbm, ⟨31, _⟩ => ⟨S8192x1024, .f32⟩
  | .hbm, ⟨32, _⟩ => ⟨S1024x5632, .bf16⟩
  | .hbm, ⟨33, _⟩ => ⟨S1024x5632, .f32⟩
  | .hbm, ⟨34, _⟩ => ⟨S8192x5632, .f32⟩
  | .hbm, ⟨35, _⟩ => ⟨S8192x5632, .f32⟩
  | .hbm, ⟨36, _⟩ => ⟨S8192x1024, .f32⟩
  | .hbm, ⟨37, _⟩ => ⟨S8192x1024, .f32⟩
  | .hbm, ⟨38, _⟩ => ⟨S_, .f32⟩
  | .hbm, ⟨39, _⟩ => ⟨S1024, .f32⟩
  | .hbm, ⟨40, _⟩ => ⟨S1x1024, .f32⟩
  | .hbm, ⟨41, _⟩ => ⟨S8192x1024, .f32⟩
  | .hbm, ⟨42, _⟩ => ⟨S8192x1024, .f32⟩
  | .hbm, ⟨43, _⟩ => ⟨S_, .f32⟩
  | .hbm, ⟨44, _⟩ => ⟨S1024, .f32⟩
  | .hbm, ⟨45, _⟩ => ⟨S8192x1024, .f32⟩
  | .hbm, ⟨46, _⟩ => ⟨S_, .f32⟩
  | .hbm, ⟨47, _⟩ => ⟨S8192, .f32⟩
  | .hbm, ⟨48, _⟩ => ⟨S8192x1, .f32⟩
  | .hbm, ⟨49, _⟩ => ⟨S8192x1024, .f32⟩
  | .hbm, ⟨50, _⟩ => ⟨S8192x1024, .f32⟩
  | .hbm, ⟨51, _⟩ => ⟨S8192x1, .f32⟩
  | .hbm, ⟨52, _⟩ => ⟨S_, .f32⟩
  | .hbm, ⟨53, _⟩ => ⟨S8192x1, .f32⟩
  | .hbm, ⟨54, _⟩ => ⟨S8192x1, .f32⟩
  | .hbm, ⟨55, _⟩ => ⟨S_, .f32⟩
  | .hbm, ⟨56, _⟩ => ⟨S8192, .f32⟩
  | .hbm, ⟨57, _⟩ => ⟨S8192x1024, .f32⟩
  | .hbm, ⟨58, _⟩ => ⟨S8192x1024, .f32⟩
  | .hbm, ⟨59, _⟩ => ⟨S8192x1024, .f32⟩
  | .hbm, ⟨60, _⟩ => ⟨S8192x1024, .f32⟩
  | .hbm, ⟨61, _⟩ => ⟨S8192x1024, .f32⟩
  | .hbm, ⟨62, _⟩ => ⟨S8192x1024, .f32⟩
  | .hbm, ⟨63, _⟩ => ⟨S1x1024, .f32⟩
  | .hbm, ⟨64, _⟩ => ⟨S_, .f32⟩
  | .hbm, ⟨65, _⟩ => ⟨S7x1024, .f32⟩
  | .hbm, ⟨66, _⟩ => ⟨S8x1024, .f32⟩
  | _, _ => ⟨S2x8192x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst : Ref sig .tc := ⟨.hbm, 13, rfl⟩
abbrev main_v8 : Ref sig .tc := ⟨.hbm, 14, rfl⟩
abbrev main_v9 : Ref sig .tc := ⟨.hbm, 15, rfl⟩
abbrev main_cst_0 : Ref sig .tc := ⟨.hbm, 16, rfl⟩
abbrev main_v10 : Ref sig .tc := ⟨.hbm, 17, rfl⟩
abbrev main_v11 : Ref sig .tc := ⟨.hbm, 18, rfl⟩
abbrev main_cst_1 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_2 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_cst_3 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_cst_4 : Ref sig .tc := ⟨.hbm, 43, rfl⟩
abbrev main_v33 : Ref sig .tc := ⟨.hbm, 44, rfl⟩
abbrev main_v34 : Ref sig .tc := ⟨.hbm, 45, rfl⟩
abbrev main_cst_5 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_cst_6 : Ref sig .tc := ⟨.hbm, 52, rfl⟩
abbrev main_v40 : Ref sig .tc := ⟨.hbm, 53, rfl⟩
abbrev main_v41 : Ref sig .tc := ⟨.hbm, 54, rfl⟩
abbrev main_cst_7 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_cst_8 : Ref sig .tc := ⟨.hbm, 64, rfl⟩
abbrev main_v50 : Ref sig .tc := ⟨.hbm, 65, rfl⟩
abbrev main_v51 : Ref sig .tc := ⟨.hbm, 66, rfl⟩

abbrev nD : Nat := 1
abbrev τ : Topo := Topo.v7x

variable {F : FTy → Type} [FloatOps F]
-- ==== MixNorm.lean ====
abbrev S8192x5120 : Shape := ⟨2, ![8192, 5120]⟩
abbrev S1x1024x5120 : Shape := ⟨3, ![1, 1024, 5120]⟩
abbrev S8192x1024 : Shape := ⟨2, ![8192, 1024]⟩
abbrev S2x1x1024 : Shape := ⟨3, ![2, 1, 1024]⟩
abbrev S8x1024 : Shape := ⟨2, ![8, 1024]⟩
abbrev S1024x1280 : Shape := ⟨2, ![1024, 1280]⟩
abbrev S1x1024x1280 : Shape := ⟨3, ![1, 1024, 1280]⟩
abbrev S1024x1024 : Shape := ⟨2, ![1024, 1024]⟩
abbrev S1x1x1024 : Shape := ⟨3, ![1, 1, 1024]⟩
abbrev S1024 : Shape := ⟨1, ![1024]⟩
abbrev S1024x1 : Shape := ⟨2, ![1024, 1]⟩
abbrev S1x1024 : Shape := ⟨2, ![1, 1024]⟩

abbrev nBuf : Space → Nat
  | .hbm => 7
  | .vmem => 13
  | .smem => 0
  | _ => 0

abbrev bufTy : (tb : Table) → Fin (tcTables nBuf tb) → BufTy
  | .hbm, ⟨0, _⟩ => ⟨S8192x5120, .bf16⟩
  | .hbm, ⟨1, _⟩ => ⟨S1x1024x5120, .bf16⟩
  | .hbm, ⟨2, _⟩ => ⟨S8192x1024, .f32⟩
  | .hbm, ⟨3, _⟩ => ⟨S2x1x1024, .f32⟩
  | .hbm, ⟨4, _⟩ => ⟨S8192x1024, .f32⟩
  | .hbm, ⟨5, _⟩ => ⟨S8192x1024, .f32⟩
  | .hbm, ⟨6, _⟩ => ⟨S8x1024, .f32⟩
  | .local _ .vmem, ⟨0, _⟩ => ⟨S1024x1280, .bf16⟩
  | .local _ .vmem, ⟨1, _⟩ => ⟨S1024x1280, .bf16⟩
  | .local _ .vmem, ⟨2, _⟩ => ⟨S1x1024x1280, .bf16⟩
  | .local _ .vmem, ⟨3, _⟩ => ⟨S1x1024x1280, .bf16⟩
  | .local _ .vmem, ⟨4, _⟩ => ⟨S1024x1024, .f32⟩
  | .local _ .vmem, ⟨5, _⟩ => ⟨S1024x1024, .f32⟩
  | .local _ .vmem, ⟨6, _⟩ => ⟨S1x1x1024, .f32⟩
  | .local _ .vmem, ⟨7, _⟩ => ⟨S1024x1024, .f32⟩
  | .local _ .vmem, ⟨8, _⟩ => ⟨S1024x1024, .f32⟩
  | .local _ .vmem, ⟨9, _⟩ => ⟨S1024x1024, .f32⟩
  | .local _ .vmem, ⟨10, _⟩ => ⟨S1024x1024, .f32⟩
  | .local _ .vmem, ⟨11, _⟩ => ⟨S8x1024, .f32⟩
  | .local _ .vmem, ⟨12, _⟩ => ⟨S1024x1024, .f32⟩
  | _, _ => ⟨S8192x5120, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11

abbrev nD : Nat := 1
abbrev τ : Topo := Topo.v7x

variable {F : FTy → Type} [FloatOps F]

abbrev grid0 : Pipeline.Grid := ⟨3, ![1, 8, 4], ![false, false, false]⟩

def k0_cond3 (i : grid0.Coords) : BitVec 1 :=
  let arg2 : BitVec 32 := BitVec.ofNat 32 (i 2).val
  let c3_i32 : BitVec 32 := 3#32
  let v10 : BitVec 1 := Scalar.cmpi .eq arg2 c3_i32
  let v11 : BitVec 32 := Scalar.extui v10
  let c0_i32_7 : BitVec 32 := 0#32
  let v12 : BitVec 1 := Scalar.cmpi .ne v11 c0_i32_7
  v12

def k0_cond4 (i : grid0.Coords) : BitVec 1 :=
  let arg1 : BitVec 32 := BitVec.ofNat 32 (i 1).val
  let c0_i32_10 : BitVec 32 := 0#32
  let v14 : BitVec 1 := Scalar.cmpi .eq arg1 c0_i32_10
  let v15 : BitVec 32 := Scalar.extui v14
  let c0_i32_11 : BitVec 32 := 0#32
  let v16 : BitVec 1 := Scalar.cmpi .ne v15 c0_i32_11
  v16

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![arg1.toNat, v0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x1280 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S1x1024x1280 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 1 → Memref sig .tc .vmem S1x1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 1 → Memref sig .tc .vmem S8x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false, false]
-- ==== MixNormRefIdeal.lean ====
abbrev S8192x5120 : Shape := ⟨2, ![8192, 5120]⟩
abbrev S1x1024x5120 : Shape := ⟨3, ![1, 1024, 5120]⟩
abbrev S8192x1024 : Shape := ⟨2, ![8192, 1024]⟩
abbrev S2x1x1024 : Shape := ⟨3, ![2, 1, 1024]⟩
abbrev S1x1x1024 : Shape := ⟨3, ![1, 1, 1024]⟩
abbrev S1024 : Shape := ⟨1, ![1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S1024x5120 : Shape := ⟨2, ![1024, 5120]⟩
abbrev S7x1024 : Shape := ⟨2, ![7, 1024]⟩
abbrev S8x1024 : Shape := ⟨2, ![8, 1024]⟩

abbrev nBuf : Space → Nat
  | .hbm => 62
  | .vmem => 0
  | .smem => 0
  | _ => 0

abbrev bufTy : (tb : Table) → Fin (tcTables nBuf tb) → BufTy
  | .hbm, ⟨0, _⟩ => ⟨S8192x5120, .bf16⟩
  | .hbm, ⟨1, _⟩ => ⟨S1x1024x5120, .bf16⟩
  | .hbm, ⟨2, _⟩ => ⟨S8192x1024, .f32⟩
  | .hbm, ⟨3, _⟩ => ⟨S2x1x1024, .f32⟩
  | .hbm, ⟨4, _⟩ => ⟨S8192x1024, .f32⟩
  | .hbm, ⟨5, _⟩ => ⟨S1x1x1024, .f32⟩
  | .hbm, ⟨6, _⟩ => ⟨S1024, .f32⟩
  | .hbm, ⟨7, _⟩ => ⟨S8192x1024, .f32⟩
  | .hbm, ⟨8, _⟩ => ⟨S_, .f32⟩
  | .hbm, ⟨9, _⟩ => ⟨S8192, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S_, .f32⟩
  | .hbm, ⟨15, _⟩ => ⟨S8192x1, .f32⟩
  | .hbm, ⟨16, _⟩ => ⟨S8192x1, .f32⟩
  | .hbm, ⟨17, _⟩ => ⟨S8192x1, .f32⟩
  | .hbm, ⟨18, _⟩ => ⟨S8192x1, .f32⟩
  | .hbm, ⟨19, _⟩ => ⟨S_, .f32⟩
  | .hbm, ⟨20, _⟩ => ⟨S8192x1, .f32⟩
  | .hbm, ⟨21, _⟩ => ⟨S8192x1, .f32⟩
  | .hbm, ⟨22, _⟩ => ⟨S8192x1024, .f32⟩
  | .hbm, ⟨23, _⟩ => ⟨S8192x1024, .f32⟩
  | .hbm, ⟨24, _⟩ => ⟨S1x1024, .f32⟩
  | .hbm, ⟨25, _⟩ => ⟨S8192x1024, .f32⟩
  | .hbm, ⟨26, _⟩ => ⟨S8192x1024, .f32⟩
  | .hbm, ⟨27, _⟩ => ⟨S1024x5120, .bf16⟩
  | .hbm, ⟨28, _⟩ => ⟨S1024x5120, .f32⟩
  | .hbm, ⟨29, _⟩ => ⟨S8192x5120, .f32⟩
  | .hbm, ⟨30, _⟩ => ⟨S8192x5120, .f32⟩
  | .hbm, ⟨31, _⟩ => ⟨S8192x1024, .f32⟩
  | .hbm, ⟨32, _⟩ => ⟨S8192x1024, .f32⟩
  | .hbm, ⟨33, _⟩ => ⟨S_, .f32⟩
  | .hbm, ⟨34, _⟩ => ⟨S1024, .f32⟩
  | .hbm, ⟨35, _⟩ => ⟨S1x1024, .f32⟩
  | .hbm, ⟨36, _⟩ => ⟨S8192x1024, .f32⟩
  | .hbm, ⟨37, _⟩ => ⟨S8192x1024, .f32⟩
  | .hbm, ⟨38, _⟩ => ⟨S_, .f32⟩
  | .hbm, ⟨39, _⟩ => ⟨S1024, .f32⟩
  | .hbm, ⟨40, _⟩ => ⟨S8192x1024, .f32⟩
  | .hbm, ⟨41, _⟩ => ⟨S_, .f32⟩
  | .hbm, ⟨42, _⟩ => ⟨S8192, .f32⟩
  | .hbm, ⟨43, _⟩ => ⟨S8192x1, .f32⟩
  | .hbm, ⟨44, _⟩ => ⟨S8192x1024, .f32⟩
  | .hbm, ⟨45, _⟩ => ⟨S8192x1024, .f32⟩
  | .hbm, ⟨46, _⟩ => ⟨S8192x1, .f32⟩
  | .hbm, ⟨47, _⟩ => ⟨S_, .f32⟩
  | .hbm, ⟨48, _⟩ => ⟨S8192x1, .f32⟩
  | .hbm, ⟨49, _⟩ => ⟨S8192x1, .f32⟩
  | .hbm, ⟨50, _⟩ => ⟨S_, .f32⟩
  | .hbm, ⟨51, _⟩ => ⟨S8192, .f32⟩
  | .hbm, ⟨52, _⟩ => ⟨S8192x1024, .f32⟩
  | .hbm, ⟨53, _⟩ => ⟨S8192x1024, .f32⟩
  | .hbm, ⟨54, _⟩ => ⟨S8192x1024, .f32⟩
  | .hbm, ⟨55, _⟩ => ⟨S8192x1024, .f32⟩
  | .hbm, ⟨56, _⟩ => ⟨S8192x1024, .f32⟩
  | .hbm, ⟨57, _⟩ => ⟨S8192x1024, .f32⟩
  | .hbm, ⟨58, _⟩ => ⟨S1x1024, .f32⟩
  | .hbm, ⟨59, _⟩ => ⟨S_, .f32⟩
  | .hbm, ⟨60, _⟩ => ⟨S7x1024, .f32⟩
  | .hbm, ⟨61, _⟩ => ⟨S8x1024, .f32⟩
  | _, _ => ⟨S8192x5120, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_2 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_cst_3 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_cst_4 : Ref sig .tc := ⟨.hbm, 38, rfl⟩
abbrev main_v28 : Ref sig .tc := ⟨.hbm, 39, rfl⟩
abbrev main_v29 : Ref sig .tc := ⟨.hbm, 40, rfl⟩
abbrev main_cst_5 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_cst_6 : Ref sig .tc := ⟨.hbm, 47, rfl⟩
abbrev main_v35 : Ref sig .tc := ⟨.hbm, 48, rfl⟩
abbrev main_v36 : Ref sig .tc := ⟨.hbm, 49, rfl⟩
abbrev main_cst_7 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_cst_8 : Ref sig .tc := ⟨.hbm, 59, rfl⟩
abbrev main_v45 : Ref sig .tc := ⟨.hbm, 60, rfl⟩
abbrev main_v46 : Ref sig .tc := ⟨.hbm, 61, rfl⟩

abbrev nD : Nat := 1
abbrev τ : Topo := Topo.v7x

variable {F : FTy → Type} [FloatOps F]
-- ==== PleNorm.lean ====
abbrev S8192x1024 : Shape := ⟨2, ![8192, 1024]⟩
abbrev S1x1024x1024 : Shape := ⟨3, ![1, 1024, 1024]⟩
abbrev S2x1x1024 : Shape := ⟨3, ![2, 1, 1024]⟩
abbrev S8x1024 : Shape := ⟨2, ![8, 1024]⟩
abbrev S1024x1024 : Shape := ⟨2, ![1024, 1024]⟩
abbrev S1x1x1024 : Shape := ⟨3, ![1, 1, 1024]⟩
abbrev S1024 : Shape := ⟨1, ![1024]⟩
abbrev S1024x1 : Shape := ⟨2, ![1024, 1]⟩
abbrev S1x1024 : Shape := ⟨2, ![1, 1024]⟩

abbrev nBuf : Space → Nat
  | .hbm => 7
  | .vmem => 11
  | .smem => 0
  | _ => 0

abbrev bufTy : (tb : Table) → Fin (tcTables nBuf tb) → BufTy
  | .hbm, ⟨0, _⟩ => ⟨S8192x1024, .bf16⟩
  | .hbm, ⟨1, _⟩ => ⟨S1x1024x1024, .bf16⟩
  | .hbm, ⟨2, _⟩ => ⟨S8192x1024, .f32⟩
  | .hbm, ⟨3, _⟩ => ⟨S2x1x1024, .f32⟩
  | .hbm, ⟨4, _⟩ => ⟨S8192x1024, .f32⟩
  | .hbm, ⟨5, _⟩ => ⟨S8192x1024, .f32⟩
  | .hbm, ⟨6, _⟩ => ⟨S8x1024, .f32⟩
  | .local _ .vmem, ⟨0, _⟩ => ⟨S1024x1024, .bf16⟩
  | .local _ .vmem, ⟨1, _⟩ => ⟨S1024x1024, .bf16⟩
  | .local _ .vmem, ⟨2, _⟩ => ⟨S1x1024x1024, .bf16⟩
  | .local _ .vmem, ⟨3, _⟩ => ⟨S1024x1024, .f32⟩
  | .local _ .vmem, ⟨4, _⟩ => ⟨S1024x1024, .f32⟩
  | .local _ .vmem, ⟨5, _⟩ => ⟨S1x1x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | .local _ .vmem, ⟨9, _⟩ => ⟨S1024x1024, .f32⟩
  | .local _ .vmem, ⟨10, _⟩ => ⟨S8x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10

abbrev nD : Nat := 1
abbrev τ : Topo := Topo.v7x

variable {F : FTy → Type} [FloatOps F]

abbrev grid0 : Pipeline.Grid := ⟨3, ![1, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![arg1.toNat, v0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 1 → Memref sig .tc .vmem S1x1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 1 → Memref sig .tc .vmem S1x1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 1 → Memref sig .tc .vmem S8x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false, false]
-- ==== PleNormRefIdeal.lean ====
abbrev S8192x1024 : Shape := ⟨2, ![8192, 1024]⟩
abbrev S1x1024x1024 : Shape := ⟨3, ![1, 1024, 1024]⟩
abbrev S2x1x1024 : Shape := ⟨3, ![2, 1, 1024]⟩
abbrev S1x1x1024 : Shape := ⟨3, ![1, 1, 1024]⟩
abbrev S1024 : Shape := ⟨1, ![1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S1024x1024 : Shape := ⟨2, ![1024, 1024]⟩
abbrev S7x1024 : Shape := ⟨2, ![7, 1024]⟩
abbrev S8x1024 : Shape := ⟨2, ![8, 1024]⟩

abbrev nBuf : Space → Nat
  | .hbm => 62
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1x1024x1024, .bf16⟩
  | .hbm, ⟨2, _⟩ => ⟨S8192x1024, .f32⟩
  | .hbm, ⟨3, _⟩ => ⟨S2x1x1024, .f32⟩
  | .hbm, ⟨4, _⟩ => ⟨S8192x1024, .f32⟩
  | .hbm, ⟨5, _⟩ => ⟨S1x1x1024, .f32⟩
  | .hbm, ⟨6, _⟩ => ⟨S1024, .f32⟩
  | .hbm, ⟨7, _⟩ => ⟨S8192x1024, .f32⟩
  | .hbm, ⟨8, _⟩ => ⟨S_, .f32⟩
  | .hbm, ⟨9, _⟩ => ⟨S8192, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S_, .f32⟩
  | .hbm, ⟨15, _⟩ => ⟨S8192x1, .f32⟩
  | .hbm, ⟨16, _⟩ => ⟨S8192x1, .f32⟩
  | .hbm, ⟨17, _⟩ => ⟨S8192x1, .f32⟩
  | .hbm, ⟨18, _⟩ => ⟨S8192x1, .f32⟩
  | .hbm, ⟨19, _⟩ => ⟨S_, .f32⟩
  | .hbm, ⟨20, _⟩ => ⟨S8192x1, .f32⟩
  | .hbm, ⟨21, _⟩ => ⟨S8192x1, .f32⟩
  | .hbm, ⟨22, _⟩ => ⟨S8192x1024, .f32⟩
  | .hbm, ⟨23, _⟩ => ⟨S8192x1024, .f32⟩
  | .hbm, ⟨24, _⟩ => ⟨S1x1024, .f32⟩
  | .hbm, ⟨25, _⟩ => ⟨S8192x1024, .f32⟩
  | .hbm, ⟨26, _⟩ => ⟨S8192x1024, .f32⟩
  | .hbm, ⟨27, _⟩ => ⟨S1024x1024, .bf16⟩
  | .hbm, ⟨28, _⟩ => ⟨S1024x1024, .f32⟩
  | .hbm, ⟨29, _⟩ => ⟨S8192x1024, .f32⟩
  | .hbm, ⟨30, _⟩ => ⟨S8192x1024, .f32⟩
  | .hbm, ⟨31, _⟩ => ⟨S8192x1024, .f32⟩
  | .hbm, ⟨32, _⟩ => ⟨S8192x1024, .f32⟩
  | .hbm, ⟨33, _⟩ => ⟨S_, .f32⟩
  | .hbm, ⟨34, _⟩ => ⟨S1024, .f32⟩
  | .hbm, ⟨35, _⟩ => ⟨S1x1024, .f32⟩
  | .hbm, ⟨36, _⟩ => ⟨S8192x1024, .f32⟩
  | .hbm, ⟨37, _⟩ => ⟨S8192x1024, .f32⟩
  | .hbm, ⟨38, _⟩ => ⟨S_, .f32⟩
  | .hbm, ⟨39, _⟩ => ⟨S1024, .f32⟩
  | .hbm, ⟨40, _⟩ => ⟨S8192x1024, .f32⟩
  | .hbm, ⟨41, _⟩ => ⟨S_, .f32⟩
  | .hbm, ⟨42, _⟩ => ⟨S8192, .f32⟩
  | .hbm, ⟨43, _⟩ => ⟨S8192x1, .f32⟩
  | .hbm, ⟨44, _⟩ => ⟨S8192x1024, .f32⟩
  | .hbm, ⟨45, _⟩ => ⟨S8192x1024, .f32⟩
  | .hbm, ⟨46, _⟩ => ⟨S8192x1, .f32⟩
  | .hbm, ⟨47, _⟩ => ⟨S_, .f32⟩
  | .hbm, ⟨48, _⟩ => ⟨S8192x1, .f32⟩
  | .hbm, ⟨49, _⟩ => ⟨S8192x1, .f32⟩
  | .hbm, ⟨50, _⟩ => ⟨S_, .f32⟩
  | .hbm, ⟨51, _⟩ => ⟨S8192, .f32⟩
  | .hbm, ⟨52, _⟩ => ⟨S8192x1024, .f32⟩
  | .hbm, ⟨53, _⟩ => ⟨S8192x1024, .f32⟩
  | .hbm, ⟨54, _⟩ => ⟨S8192x1024, .f32⟩
  | .hbm, ⟨55, _⟩ => ⟨S8192x1024, .f32⟩
  | .hbm, ⟨56, _⟩ => ⟨S8192x1024, .f32⟩
  | .hbm, ⟨57, _⟩ => ⟨S8192x1024, .f32⟩
  | .hbm, ⟨58, _⟩ => ⟨S1x1024, .f32⟩
  | .hbm, ⟨59, _⟩ => ⟨S_, .f32⟩
  | .hbm, ⟨60, _⟩ => ⟨S7x1024, .f32⟩
  | .hbm, ⟨61, _⟩ => ⟨S8x1024, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_2 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_cst_3 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_cst_4 : Ref sig .tc := ⟨.hbm, 38, rfl⟩
abbrev main_v28 : Ref sig .tc := ⟨.hbm, 39, rfl⟩
abbrev main_v29 : Ref sig .tc := ⟨.hbm, 40, rfl⟩
abbrev main_cst_5 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_cst_6 : Ref sig .tc := ⟨.hbm, 47, rfl⟩
abbrev main_v35 : Ref sig .tc := ⟨.hbm, 48, rfl⟩
abbrev main_v36 : Ref sig .tc := ⟨.hbm, 49, rfl⟩
abbrev main_cst_7 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_cst_8 : Ref sig .tc := ⟨.hbm, 59, rfl⟩
abbrev main_v45 : Ref sig .tc := ⟨.hbm, 60, rfl⟩
abbrev main_v46 : Ref sig .tc := ⟨.hbm, 61, rfl⟩

abbrev nD : Nat := 1
abbrev τ : Topo := Topo.v7x

variable {F : FTy → Type} [FloatOps F]
-- ==== Proof.RefRuns.lean ====
module

public import proofs.«01_k».proof.Defs
public import proofs.«01_k».proof.Proof.Gen.ReferenceIdeal.Run
public import proofs.«01_k».proof.Proof.Gen.ReferenceIdeal.Read
public import Idealize.ShloMosaic.Lib.Quiescent

/-!
The reference runs and leaves its arguments alone.
-/

@[expose] public section

set_option maxRecDepth 16384

noncomputable section

namespace Cert.Proof

open Idealize.ShloMosaic Idealize.SL.Sem

theorem refRuns : @Cert.quiescent_ReferenceIdeal Cert.ReferenceIdeal.Gen.facts := fun m g _ =>
  (θ_run _ _ _).mono (fun r h => ⟨fun c => (h c).2.2.2.2.2.2, sem_eq_zero_of_no_sems (by decide) _⟩) (Cert.ReferenceIdeal.Value.run m g)

end Cert.Proof
-- ==== Proof.RealMath.lean ====
module

public import Idealize.ShloMosaic.Lib.Pointwise
public import Idealize.ShloMosaic.Lib.Pipeline.ValueKit

/-!
Real-number facts used by both programs: extended reals that are real numbers, the error function, the trailing and
leading window sums written as differences of running sums, and the gradient of the root-mean-square normalization.
-/

@[expose] public section

set_option maxRecDepth 16384

noncomputable section

namespace Mixer

open Idealize.ShloMosaic

/-- A finite sum of real numbers, read in the extended reals, is the sum of the readings. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A choice between two real numbers, read in the extended reals. -/
theorem coe_ite (p : Prop) [Decidable p] (a b : ℝ) : ((if p then a else b : ℝ) : EReal) = if p then (a : EReal) else b := by
  split <;> rfl

/-- The quotient of two real numbers, the divisor not zero, is the real quotient. -/
theorem div_coe_coe {x y : ℝ} (h : y ≠ 0) : Ideal.div (x : EReal) (y : EReal) = ((x / y : ℝ) : EReal) := by
  rw [Ideal.div_coe h, ← EReal.coe_mul, mul_one_div]

/-- An extended real whose absolute value is below the top is a real number. -/
theorem exists_real_of_abs_lt {x : EReal} (h : max x (-x) < ⊤) : ∃ r : ℝ, x = r := by
  refine ⟨x.toReal, (EReal.coe_toReal ?_ ?_).symm⟩
  · rintro rfl; simp at h
  · rintro rfl; simp at h

/-! ### The error function -/

/-- The error function of a real number. -/
def erfR (x : ℝ) : ℝ := 2 / Real.sqrt Real.pi * ∫ t in (0 : ℝ)..x, Real.exp (-(t ^ 2))

theorem erf_coe (x : ℝ) : Ideal.erf (x : EReal) = (erfR x : EReal) := rfl

/-- The error function is odd. -/
theorem erfR_neg (x : ℝ) : erfR (-x) = -erfR x := by
  unfold erfR
  have h := intervalIntegral.integral_comp_neg (a := 0) (b := x) (f := fun t : ℝ => Real.exp (-(t ^ 2)))
  simp only [neg_sq, neg_zero] at h
  rw [intervalIntegral.integral_symm, ← h]
  ring

/-- The complement of the error function at the opposite argument. -/
theorem erfc_neg_coe (x : ℝ) : Ideal.erfc ((-x : ℝ) : EReal) = ((1 + erfR x : ℝ) : EReal) := by
  rw [Ideal.erfc, erf_coe, erfR_neg, ← EReal.coe_one, ← EReal.coe_sub, sub_neg_eq_add]

/-- `x Φ(x)`, the Gaussian error linear unit. -/
def gelu (x : ℝ) : ℝ := 1 / 2 * x * (1 + erfR (x * (Real.sqrt 2)⁻¹))

/-- Its derivative, `Φ(x) + x φ(x)`. -/
def gelu' (x : ℝ) : ℝ :=
  1 / 2 * (1 + erfR (x * (Real.sqrt 2)⁻¹)) + x * Real.exp (-1 / 2 * x * x) * (Real.sqrt (2 * Real.pi))⁻¹

/-- The derivative as the chain rule of the complementary error function writes it. -/
theorem gelu'_chain (x g : ℝ) :
    -((-2 * (Real.sqrt Real.pi)⁻¹) * ((1 / 2 * x) * g) * Real.exp (-((-x * (Real.sqrt 2)⁻¹) * (-x * (Real.sqrt 2)⁻¹)))
        * (Real.sqrt 2)⁻¹)
      + 1 / 2 * (g * (1 + erfR (x * (Real.sqrt 2)⁻¹)))
    = g * gelu' x := by
  have h2 : (Real.sqrt 2)⁻¹ * (Real.sqrt 2)⁻¹ = 1 / 2 := by
    rw [← mul_inv, Real.mul_self_sqrt (by norm_num)]; norm_num
  have hx : -((-x * (Real.sqrt 2)⁻¹) * (-x * (Real.sqrt 2)⁻¹)) = -1 / 2 * x * x := by
    have : (-x * (Real.sqrt 2)⁻¹) * (-x * (Real.sqrt 2)⁻¹) = x * x * ((Real.sqrt 2)⁻¹ * (Real.sqrt 2)⁻¹) := by ring
    rw [this, h2]; ring
  have hp : (Real.sqrt (2 * Real.pi))⁻¹ = (Real.sqrt Real.pi)⁻¹ * (Real.sqrt 2)⁻¹ := by
    rw [Real.sqrt_mul (by norm_num), mul_inv, mul_comm]
  rw [hx, gelu', hp]
  ring

/-! ### Window sums -/

/-- The sum of a sequence over the `w` places up to and including `t`, those that exist. -/
def back (w : ℕ) (f : ℕ → ℝ) (t : ℕ) : ℝ := ∑ k ∈ Finset.range w, if k ≤ t then f (t - k) else 0

/-- The sum of a sequence over the `w` places from `t` on, those below `T`. -/
def ahead (T w : ℕ) (f : ℕ → ℝ) (t : ℕ) : ℝ := ∑ k ∈ Finset.range w, if t + k < T then f (t + k) else 0

/-- The running sum up to and including `t`. -/
def cum (f : ℕ → ℝ) (t : ℕ) : ℝ := ∑ s ∈ Finset.range (t + 1), f s

/-- The trailing window sum is a difference of running sums. -/
theorem back_eq_cum (w : ℕ) (f : ℕ → ℝ) (t : ℕ) :
    back w f t = cum f t - (if t < w then 0 else cum f (t - w)) := by
  induction w with
  | zero => simp [back]
  | succ w ih =>
    unfold back at ih ⊢
    rw [Finset.sum_range_succ, ih]
    rcases lt_trichotomy t w with h | h | h
    · rw [if_pos h, if_neg (by omega), if_pos (by omega)]; ring
    · subst h
      rw [if_neg (lt_irrefl _), if_pos le_rfl, if_pos (by omega), Nat.sub_self]
      simp [cum]
    · rw [if_neg (by omega), if_pos (by omega), if_neg (by omega)]
      have : cum f (t - w) = cum f (t - (w + 1)) + f (t - w) := by
        unfold cum
        rw [show t - w + 1 = (t - (w + 1) + 1) + 1 by omega, Finset.sum_range_succ]
        congr 2
        omega
      rw [this]; ring

/-- A sum of differences at distance `w` telescopes. -/
theorem sum_sub_shift (h : ℕ → ℝ) (w n : ℕ) :
    ∑ k ∈ Finset.range n, (h k - h (k + w)) = ∑ k ∈ Finset.range w, h k - ∑ k ∈ Finset.range w, h (n + k) := by
  induction n with
  | zero => simp
  | succ n ih =>
    rw [Finset.sum_range_succ, ih]
    have e : ∑ k ∈ Finset.range w, h (n + 1 + k) = ∑ k ∈ Finset.range w, h (n + k) + h (n + w) - h n := by
      have a := Finset.sum_range_succ (fun k => h (n + k)) w
      have b := Finset.sum_range_succ' (fun k => h (n + k)) w
      rw [a] at b
      have c : ∑ k ∈ Finset.range w, h (n + (k + 1)) = ∑ k ∈ Finset.range w, h (n + 1 + k) :=
        Finset.sum_congr rfl fun k _ => by rw [show n + (k + 1) = n + 1 + k by omega]
      rw [c] at b
      simp only [Nat.add_zero] at b
      linarith
    rw [e]; ring

/-- The sum from `t` on of a sequence less its shift by the window is the leading window sum. -/
theorem suffix_eq_ahead (T w : ℕ) (f : ℕ → ℝ) (t : ℕ) :
    (∑ k ∈ Finset.range T, if t + k < T then f (t + k) - (if t + k + w < T then f (t + k + w) else 0) else 0)
      = ahead T w f t := by
  have h := sum_sub_shift (fun k => if t + k < T then f (t + k) else 0) w T
  have z : ∑ k ∈ Finset.range w, (if t + (T + k) < T then f (t + (T + k)) else 0) = 0 :=
    Finset.sum_eq_zero fun k _ => if_neg (by omega)
  rw [z, sub_zero] at h
  rw [ahead, ← h]
  refine Finset.sum_congr rfl fun k _ => ?_
  by_cases a : t + k < T
  · simp only [if_pos a, Nat.add_assoc]
  · rw [if_neg a, if_neg a, if_neg (by omega), sub_zero]

/-! ### The gradient of the normalization -/

/-- The gradient of `v ↦ v / √m`, `m` the mean square of `v` plus a constant: as the product rule writes it and as a
projection. -/
theorem rms_grad (v g s m : ℝ) (hm : 0 < m) :
    g * (Real.sqrt m)⁻¹ + v * (s * (-1 / 2 * ((Real.sqrt m)⁻¹ / m)) / 1024)
        + s * (-1 / 2 * ((Real.sqrt m)⁻¹ / m)) / 1024 * v
      = (Real.sqrt m)⁻¹ * (g - v * (Real.sqrt m)⁻¹ * (s * (Real.sqrt m)⁻¹ / 1024)) := by
  have h : (Real.sqrt m)⁻¹ / m = (Real.sqrt m)⁻¹ * ((Real.sqrt m)⁻¹ * (Real.sqrt m)⁻¹) := by
    rw [← mul_inv, Real.mul_self_sqrt hm.le, div_eq_mul_inv]
  rw [h]; ring

end Mixer
-- ==== Proof.Model.lean ====
module

public import proofs.«01_k».proof.Proof.RealMath

/-!
The gradient of the two mixers over the real numbers, entry by entry: what both programs compute.
-/

@[expose] public section

noncomputable section

namespace Mixer

/-- The numbers the mixers' gradient is a function of: the two cotangents, the saved activations, the group maps of the
pooling, its scale, the gain of the gating, its spatial weights and biases. -/
structure Inputs where
  da : ℕ → ℕ → ℝ
  ds : ℕ → ℕ → ℝ
  z : ℕ → ℕ → ℝ
  wp : ℕ → ℕ → ℕ → ℝ
  sc : ℕ → ℝ
  gn : ℕ → ℝ
  ws : ℕ → ℕ → ℕ → ℝ
  bs : ℕ → ℕ → ℝ

namespace Inputs

variable (I : Inputs)

/-! ### The pooling -/

/-- How many places a window of `w` ending at `t` holds. -/
def cnt (w t : ℕ) : ℝ := ((min (t + 1) w : ℕ) : ℝ)

/-- The window mean less the entry itself. -/
def pool (w : ℕ) (f : ℕ → ℝ) (t : ℕ) : ℝ := back w f t / cnt w t - f t

/-- The transpose of `pool`, among the first 8192 places. -/
def unpool (w : ℕ) (p : ℕ → ℝ) (t : ℕ) : ℝ := ahead 8192 w (fun s => p s / cnt w s) t - p t

/-- Column `a` of group `g`, pooled with the group's window. -/
def pooled (g t a : ℕ) : ℝ := pool (2 ^ (g + 1)) (fun s => I.z s (256 * g + a)) t

/-- The pooled group through its map. -/
def q (g t b : ℕ) : ℝ := ∑ a : Fin 256, I.pooled g t a * I.wp g a b

/-- The gradient of the scale. -/
def dsc (g b : ℕ) : ℝ := ∑ t : Fin 8192, I.da t (256 * g + b) * I.q g t b

/-- The cotangent of the mapped group. -/
def dq (g t b : ℕ) : ℝ := I.da t (256 * g + b) * I.sc (256 * g + b)

/-- The gradient of the map. -/
def dwp (g a b : ℕ) : ℝ := ∑ t : Fin 8192, I.pooled g t a * I.dq g t b

/-- The cotangent of the pooled group. -/
def dp (g t a : ℕ) : ℝ := ∑ b : Fin 256, I.dq g t b * I.wp g a b

/-- The gradient of the pooled columns. -/
def dzp (g t a : ℕ) : ℝ := unpool (2 ^ (g + 1)) (fun s => I.dp g s a) t

/-! ### The gating -/

def gu (t c : ℕ) : ℝ := gelu (I.z t (1024 + c))
def gv (t c : ℕ) : ℝ := gelu (I.z t (2048 + c))

/-- The small number under the root. -/
def eps : ℝ := 8796093 * (2 : ℝ) ^ (-43 : ℤ)

/-- The mean square of a row plus the small number. -/
def ms (t : ℕ) : ℝ := (∑ c : Fin 1024, I.gv t c * I.gv t c) / 1024 + eps

def rv (t : ℕ) : ℝ := (Real.sqrt (I.ms t))⁻¹
def vh (t c : ℕ) : ℝ := I.gv t c * I.rv t
def vn (t c : ℕ) : ℝ := I.vh t c * I.gn c
def dmix (t c : ℕ) : ℝ := I.ds t c * I.gu t c

/-- The spatial weights, causal. -/
def wm (h t s : ℕ) : ℝ := I.ws h t s * if s ≤ t then 1 else 0

/-- Row `t` of chunk `n` mixed along the positions of its chunk, head `h`, lane `d`. -/
def mixed (n t h d : ℕ) : ℝ := (∑ s : Fin 128, I.wm h t s * I.vn (128 * n + s) (128 * h + d)) + I.bs h t

/-- The transpose of the mixing. -/
def dvn (n s h d : ℕ) : ℝ := ∑ t : Fin 128, I.wm h t s * I.dmix (128 * n + t) (128 * h + d)

/-- The gradient of the spatial weights. -/
def dws (h a b : ℕ) : ℝ :=
  (∑ n : Fin 64, ∑ d : Fin 128, I.dmix (128 * n + a) (128 * h + d) * I.vn (128 * n + b) (128 * h + d))
    * if b ≤ a then 1 else 0

/-- The gradient of the spatial biases. -/
def dbs (h a : ℕ) : ℝ := ∑ n : Fin 64, ∑ d : Fin 128, I.dmix (128 * n + a) (128 * h + d)

/-- The mixed values and their transpose at a row and a column of the whole array. -/
def mix (t c : ℕ) : ℝ := I.mixed (t / 128) (t % 128) (c / 128) (c % 128)
def dvn' (t c : ℕ) : ℝ := I.dvn (t / 128) (t % 128) (c / 128) (c % 128)

/-- The gradient of the gain. -/
def dgs (c : ℕ) : ℝ := ∑ t : Fin 8192, I.dvn' t c * I.vh t c

/-- The cotangent of the normalized row's projection. -/
def dvg (t c : ℕ) : ℝ := I.dvn' t c * I.gn c
def dgv (t c : ℕ) : ℝ :=
  I.rv t * (I.dvg t c - I.vh t c * ((∑ j : Fin 1024, I.dvg t j * I.vh t j) / 1024))

def dzu (t c : ℕ) : ℝ := I.ds t c * I.mix t c * gelu' (I.z t (1024 + c))
def dzv (t c : ℕ) : ℝ := I.dgv t c * gelu' (I.z t (2048 + c))

/-- The mean square with the small number is positive. -/
theorem ms_pos (t : ℕ) : 0 < I.ms t := by
  have h : 0 ≤ ∑ c : Fin 1024, I.gv t c * I.gv t c := Finset.sum_nonneg fun c _ => mul_self_nonneg _
  have e : 0 < eps := by unfold eps; positivity
  unfold ms; positivity

end Inputs

end Mixer
-- ==== Proof.Words.lean ====
module

public import proofs.«01_k».proof.Proof.Model
public import Idealize.ShloMosaic.Lib.Pointwise

/-!
Literals, counts and masks of the two programs as real numbers.
-/

@[expose] public section

noncomputable section

namespace Mixer

open Idealize.ShloMosaic

/-! ### Literals -/

theorem lit_two : Ideal.ofBits .f32 0x40000000#32 = ((2 : ℝ) : EReal) := by
  simp [Ideal.ofBits, Ideal.ieee, -EReal.coe_mul]; norm_num
theorem lit_neg_two : Ideal.ofBits .f32 0xC0000000#32 = ((-2 : ℝ) : EReal) := by
  simp [Ideal.ofBits, Ideal.ieee, -EReal.coe_mul]; norm_num
theorem lit_neg_one : Ideal.ofBits .f32 0xBF800000#32 = ((-1 : ℝ) : EReal) := by
  simp [Ideal.ofBits, Ideal.ieee, -EReal.coe_mul]; norm_num
theorem lit_half : Ideal.ofBits .f32 0x3F000000#32 = ((1 / 2 : ℝ) : EReal) := by
  simp [Ideal.ofBits, Ideal.ieee, -EReal.coe_mul]; norm_num
theorem lit_neg_half : Ideal.ofBits .f32 0xBF000000#32 = ((-1 / 2 : ℝ) : EReal) := by
  simp [Ideal.ofBits, Ideal.ieee, -EReal.coe_mul]; norm_num
theorem lit_1024 : Ideal.ofBits .f32 0x44800000#32 = ((1024 : ℝ) : EReal) := by
  simp [Ideal.ofBits, Ideal.ieee, -EReal.coe_mul]; norm_num
theorem lit_eps : Ideal.ofBits .f32 0x358637BD#32 = (Inputs.eps : EReal) := by
  simp [Ideal.ofBits, Ideal.ieee, -EReal.coe_mul, Inputs.eps]

/-- The reciprocal root of a positive number. -/
theorem rsqrt_pos {r : ℝ} (h : 0 < r) : Ideal.rsqrt (r : EReal) = (((Real.sqrt r)⁻¹ : ℝ) : EReal) := by
  rw [Ideal.rsqrt_coe, if_neg (not_lt.mpr h.le), if_neg h.ne']

/-! ### Counts -/

/-- The number of places of a window, as a word and as a real number. -/
theorem count_word (w t : ℕ) (hw : w < 2 ^ 30) (ht : t < 2 ^ 30) :
    FloatOps.sitofp (F := Ideal) FTy.f32 (IntOp.minsi (IntOp.addi (BitVec.ofNat 32 t) 1#32) (BitVec.ofNat 32 w))
      = (Inputs.cnt w t : EReal) := by
  have h1 : (IntOp.addi (BitVec.ofNat 32 t) 1#32).toInt = (t + 1 : ℕ) := by
    unfold IntOp.addi
    rw [BitVec.toInt_eq_toNat_of_lt] <;> rw [BitVec.toNat_add, BitVec.toNat_ofNat, BitVec.toNat_ofNat] <;> omega
  have h2 : (BitVec.ofNat 32 w).toInt = (w : ℕ) := by
    rw [BitVec.toInt_eq_toNat_of_lt] <;> rw [BitVec.toNat_ofNat] <;> omega
  have h : (IntOp.minsi (IntOp.addi (BitVec.ofNat 32 t) 1#32) (BitVec.ofNat 32 w)).toInt = ((min (t + 1) w : ℕ) : ℤ) := by
    unfold IntOp.minsi
    split
    · next h => rw [BitVec.slt_iff_toInt_lt, h1, h2] at h; rw [h1]; omega
    · next h => rw [BitVec.slt_iff_toInt_lt, h1, h2] at h; rw [h2]; omega
  show (((IntOp.minsi (IntOp.addi (BitVec.ofNat 32 t) 1#32) (BitVec.ofNat 32 w)).toInt : ℝ) : EReal) = _
  rw [h, Inputs.cnt]
  push_cast
  rfl

theorem cnt_ne (w t : ℕ) (hw : 0 < w) : Inputs.cnt w t ≠ 0 := by
  unfold Inputs.cnt
  have : 0 < min (t + 1) w := by omega
  exact_mod_cast this.ne'

/-! ### The causal mask -/

/-- A choice by the comparison of two small words. -/
theorem select_sge {α : Type} (a b : ℕ) (ha : a < 2 ^ 30) (hb : b < 2 ^ 30) (x y : α) :
    Scalar.select (IntOp.cmpi .sge (BitVec.ofNat 32 a) (BitVec.ofNat 32 b)) x y = if b ≤ a then x else y := by
  have h1 : (BitVec.ofNat 32 a).toInt = (a : ℕ) := by
    rw [BitVec.toInt_eq_toNat_of_lt] <;> rw [BitVec.toNat_ofNat] <;> omega
  have h2 : (BitVec.ofNat 32 b).toInt = (b : ℕ) := by
    rw [BitVec.toInt_eq_toNat_of_lt] <;> rw [BitVec.toNat_ofNat] <;> omega
  have e : (BitVec.ofNat 32 b).sle (BitVec.ofNat 32 a) = decide (b ≤ a) := by
    rw [Bool.eq_iff_iff, BitVec.sle_iff_toInt_le, h1, h2, decide_eq_true_eq]; omega
  unfold Scalar.select IntOp.cmpi
  simp only [e]
  by_cases h : b ≤ a <;> simp [h]

end Mixer
-- ==== Proof.KernPool.lean ====
module

public import proofs.«01_k».proof.Proof.Words
public import proofs.«01_k».proof.Proof.Gen.KernelIdeal.Skeleton
public import Idealize.ShloMosaic.Lib.Pipeline.ValueKit
public import Idealize.ShloMosaic.Lib.KernelVsHost

/-!
What the pooling part of a block computes.
-/

@[expose] public section

set_option maxRecDepth 16384

noncomputable section

namespace Cert.KernelIdeal.Mix

open Idealize.ShloMosaic Idealize.ShloMosaic.TcCoe Idealize.SL.Sem
open Cert.KernelIdeal Cert.KernelIdeal.Gen
open Mixer

/-! ### The rows of a block with their neighbours -/

/-- The rows of the saved activations from sixteen before the block on, nothing before the first row. -/
def ext (I : Inputs) (n r c : ℕ) : ℝ := if 16 ≤ 256 * n + r then I.z (256 * n + r - 16) c else 0

/-- The rows of the cotangent of the pooling from the block on, nothing after the last row. -/
def dext (I : Inputs) (n r c : ℕ) : ℝ := if 256 * n + r < 8192 then I.da (256 * n + r) c else 0

theorem e25 {I : Inputs} (i : grid0.Coords) (v3 : Vec Ideal S256x1024 .bf16) (v6 : Vec Ideal S16x1024 .bf16) (n : ℕ)
    (hi : (i 0).val = n) (hn : n < 32)
    (h3 : ∀ (r : Fin 256) (c : Fin 1024), v3 (ix2 r c) = (I.z (256 * n + r) c : EReal))
    (h6 : 0 < n → ∀ (r : Fin 16) (c : Fin 1024), v6 (ix2 r c) = (I.z (256 * n - 16 + r) c : EReal))
    (r : Fin 272) (c : Fin 1024) : k0_pay25 (F := Ideal) i v3 v6 (ix2 r c) = (ext I n r c : EReal) := by
  pointwise [k0_pay25, k0_pay24, h3]
  rw [hi]
  unfold ext
  split
  · next hr =>
    rcases Nat.eq_zero_or_pos n with rfl | hp
    · rw [if_neg (by omega)]; rfl
    · have : Scalar.cmpi CmpIPredicate.eq (BitVec.ofNat 32 n) 0#32 = 0#1 := by
        interval_cases n <;> decide
      rw [this, if_pos (by omega)]
      show v6 _ = _
      rw [h6 hp]
      congr 2
      show 256 * n - 16 + r.val = _
      omega
  · next hr =>
    rw [if_pos (by omega)]
    congr 2
    omega

theorem e27 {I : Inputs} (i : grid0.Coords) (v11 : Vec Ideal S256x1024 .bf16) (v14 : Vec Ideal S16x1024 .bf16) (n : ℕ)
    (hi : (i 0).val = n) (hn : n < 32)
    (h3 : ∀ (r : Fin 256) (c : Fin 1024), v11 (ix2 r c) = (I.da (256 * n + r) c : EReal))
    (h6 : n < 31 → ∀ (r : Fin 16) (c : Fin 1024), v14 (ix2 r c) = (I.da (256 * n + 256 + r) c : EReal))
    (r : Fin 272) (c : Fin 1024) : k0_pay27 (F := Ideal) i v11 v14 (ix2 r c) = (dext I n r c : EReal) := by
  pointwise [k0_pay27, k0_pay26, h3]
  rw [hi]
  unfold dext
  split
  · next hr => rw [if_pos (by omega)]
  · next hr =>
    rcases Nat.lt_or_ge n 31 with hp | hp
    · have : Scalar.cmpi CmpIPredicate.eq (BitVec.ofNat 32 n) 31#32 = 0#1 := by
        interval_cases n <;> decide
      rw [this, if_pos (show 256 * n + r.val < 8192 by omega)]
      show v14 _ = _
      rw [h6 hp]
      congr 2
      show 256 * n + 256 + (r.val - 256) = _
      omega
    · obtain rfl : n = 31 := by omega
      rw [if_neg (show ¬ 256 * 31 + r.val < 8192 by omega)]; rfl

/-! ### Windows by doubling -/

/-- The sum of `w` places ending at `r`. -/
def down (w : ℕ) (f : ℕ → ℝ) (r : ℕ) : ℝ := ∑ k ∈ Finset.range w, f (r - k)
/-- The sum of `w` places from `r` on. -/
def up (w : ℕ) (f : ℕ → ℝ) (r : ℕ) : ℝ := ∑ k ∈ Finset.range w, f (r + k)

theorem down_double (w : ℕ) (f : ℕ → ℝ) (r : ℕ) : down w f r + down w f (r - w) = down (w + w) f r := by
  unfold down
  rw [Finset.sum_range_add]
  congr 1
  exact Finset.sum_congr rfl fun k _ => by rw [Nat.sub_sub]

theorem up_double (w : ℕ) (f : ℕ → ℝ) (r : ℕ) : up w f r + up w f (r + w) = up (w + w) f r := by
  unfold up
  rw [Finset.sum_range_add]
  congr 1
  exact Finset.sum_congr rfl fun k _ => by rw [Nat.add_assoc]

/-- Adding the rows rotated down by `w` doubles the window of the rows that far from the top. -/
theorem roll_down (w : ℕ) (b : BitVec 32) (hb : b.toNat = w) (hw : w ≤ 8) (f : ℕ → ℕ → ℝ) (x : FVec Ideal S272x256 .f32)
    (l : ℕ) (hx : ∀ (r : Fin 272) (c : Fin 256), l ≤ r.val → x (ix2 r c) = (down w (fun s => f s c) r : EReal))
    (r : Fin 272) (c : Fin 256) (hr : l + w ≤ r.val) :
    addf x (dynamicRotate 0 b none x rotates_S272x256_d0) (ix2 r c) = (down (w + w) (fun s => f s c) r : EReal) := by
  have e : dynamicRotate 0 b none x rotates_S272x256_d0 (ix2 r c) = x (ix2 ⟨r.val - w, by omega⟩ c) :=
    dynamicRotate_apply _ _ _ _ _ _ (by
      simp only [hb]
      intro a
      match a with
      | ⟨0, _⟩ => show r.val - w = (r.val + 272 - w % 272) % 272; omega
      | ⟨1, _⟩ => rfl)
  show x (ix2 r c) + dynamicRotate 0 b none x rotates_S272x256_d0 (ix2 r c) = _
  rw [e, hx r c (by omega), hx ⟨r.val - w, by omega⟩ c (by show l ≤ r.val - w; omega), ← EReal.coe_add, ← down_double]

/-- Adding the rows rotated up by `w` doubles the window of the rows that far from the bottom. -/
theorem roll_up (w : ℕ) (b : BitVec 32) (hb : b.toNat = 272 - w) (hw : w ≤ 8) (h0 : 0 < w) (f : ℕ → ℕ → ℝ) (x : FVec Ideal S272x256 .f32)
    (l : ℕ) (hx : ∀ (r : Fin 272) (c : Fin 256), r.val + l < 272 → x (ix2 r c) = (up w (fun s => f s c) r : EReal))
    (r : Fin 272) (c : Fin 256) (hr : r.val + (l + w) < 272) :
    addf x (dynamicRotate 0 b none x rotates_S272x256_d0) (ix2 r c) = (up (w + w) (fun s => f s c) r : EReal) := by
  have e : dynamicRotate 0 b none x rotates_S272x256_d0 (ix2 r c) = x (ix2 ⟨r.val + w, by omega⟩ c) :=
    dynamicRotate_apply _ _ _ _ _ _ (by
      simp only [hb]
      intro a
      match a with
      | ⟨0, _⟩ => show r.val + w = (r.val + 272 - (272 - w) % 272) % 272; omega
      | ⟨1, _⟩ => rfl)
  show x (ix2 r c) + dynamicRotate 0 b none x rotates_S272x256_d0 (ix2 r c) = _
  rw [e, hx r c (by omega), hx ⟨r.val + w, by omega⟩ c (by show r.val + w + l < 272; omega), ← EReal.coe_add, ← up_double]

/-- The window of the model, from the rows of the block with their neighbours. -/
theorem down_ext (I : Inputs) (n w r c : ℕ) (hw : w ≤ 16) :
    down w (fun s => ext I n s c) (16 + r) = back w (fun s => I.z s c) (256 * n + r) := by
  unfold down back ext
  refine Finset.sum_congr rfl fun k hk => ?_
  rw [Finset.mem_range] at hk
  dsimp only
  split <;> split
  · congr 1; omega
  · omega
  · omega
  · rfl

/-- The transposed window of the model. -/
theorem up_ext (p : ℕ → ℝ) (q : ℕ → ℝ) (n w r : ℕ) (hw : w ≤ 16)
    (hq : ∀ s, q s = if 256 * n + s < 8192 then p (256 * n + s) else 0) :
    up w q r = ahead 8192 w p (256 * n + r) := by
  unfold up ahead
  refine Finset.sum_congr rfl fun k hk => ?_
  rw [hq, Nat.add_assoc]

/-- The count of a window at a row of the block. -/
theorem count_row (w n r : ℕ) (b : BitVec 32) (hb : b = BitVec.ofNat 32 w) (hw : w ≤ 16) (hn : n < 32) (hr : r < 272) :
    FloatOps.sitofp (F := Ideal) FTy.f32
      (IntOp.minsi (IntOp.addi (IntOp.addi (Scalar.muli (BitVec.ofNat 32 n) 256#32) (BitVec.ofNat 32 r)) 1#32) b)
      = (Inputs.cnt w (256 * n + r) : EReal) := by
  have e : IntOp.addi (Scalar.muli (BitVec.ofNat 32 n) 256#32) (BitVec.ofNat 32 r) = BitVec.ofNat 32 (256 * n + r) := by
    show BitVec.ofNat 32 n * BitVec.ofNat 32 256 + BitVec.ofNat 32 r = _
    rw [← BitVec.ofNat_mul, ← BitVec.ofNat_add, Nat.mul_comm n]
  rw [e, hb, count_word w (256 * n + r) (by omega) (by omega)]

/-! ### The shapes of the block's arithmetic -/

theorem slice16 (X : FVec Ideal S272x256 .f32) (r c : Fin 256) :
    extractStridedSlice S256x256 ![16, 0] X slices_S272x256_o16_0_S256x256 (ix2 r c) = X (ix2 ⟨16 + r.val, by omega⟩ c) := by
  pointwise

theorem slice0 (X : FVec Ideal S272x256 .f32) (r c : Fin 256) :
    extractStridedSlice S256x256 ![0, 0] X slices_S272x256_o0_0_S256x256 (ix2 r c) = X (ix2 ⟨r.val, by omega⟩ c) := by
  pointwise

/-- A windowed mean less the entry. -/
theorem pool_end (I : Inputs) (n w o : ℕ) (hw : 0 < w) (hw' : w ≤ 16) (X : FVec Ideal S272x256 .f32) (k : FVec Ideal S256x1 .f32)
    (Z : FVec Ideal S256x256 .f32)
    (hX : ∀ (r : Fin 272) (c : Fin 256), 15 ≤ r.val → X (ix2 r c) = (down w (fun s => ext I n s (o + c)) r : EReal))
    (hk : ∀ r : Fin 256, k (ix2 r 0) = (Inputs.cnt w (256 * n + r) : EReal))
    (hZ : ∀ r c : Fin 256, Z (ix2 r c) = (I.z (256 * n + r) (o + c) : EReal)) (r c : Fin 256) :
    truncf .bf16 (subf (divf (extractStridedSlice S256x256 ![16, 0] X slices_S272x256_o16_0_S256x256)
      (broadcastTo S256x256 k broadcasts_S256x1_S256x256)) Z) bitsLt_bf16_f32 (ix2 r c)
      = (Inputs.pool w (fun s => I.z s (o + c)) (256 * n + r) : EReal) := by
  pointwise [hk, hZ]
  rw [hX ⟨16 + r.val, by omega⟩ c (by show 15 ≤ 16 + r.val; omega), down_ext I n w r _ hw', div_coe_coe (cnt_ne w _ hw), ← EReal.coe_sub]
  rfl

/-- The transpose of a windowed mean, less the entry. -/
theorem unpool_end (p : ℕ → ℕ → ℝ) (n w : ℕ) (hw : 0 < w) (hw' : w ≤ 16) (hn : n < 32) (X P : FVec Ideal S272x256 .f32)
    (hX : ∀ (r : Fin 272) (c : Fin 256), r.val + 15 < 272 → X (ix2 r c)
      = (up w (fun s => if 256 * n + s < 8192 then p (256 * n + s) c / Inputs.cnt w (256 * n + s) else 0) r : EReal))
    (hP : ∀ (r : Fin 272) (c : Fin 256), P (ix2 r c) = ((if 256 * n + r < 8192 then p (256 * n + r) c else 0 : ℝ) : EReal)) (r c : Fin 256) :
    truncf .bf16 (subf (extractStridedSlice S256x256 ![0, 0] X slices_S272x256_o0_0_S256x256)
      (extractStridedSlice S256x256 ![0, 0] P slices_S272x256_o0_0_S256x256)) bitsLt_bf16_f32 (ix2 r c)
      = (Inputs.unpool w (fun s => p s c) (256 * n + r) : EReal) := by
  pointwise [hP]
  rw [hX ⟨r.val, by omega⟩ c (by show r.val + 15 < 272; omega),
    up_ext (fun s => p s c / Inputs.cnt w s) _ n w r hw' (fun s => rfl), if_pos (by omega), ← EReal.coe_sub]
  rfl

/-- The block's part of the gradient of the scale, added to what was there. -/
theorem dsc_end (v44 : FVec Ideal S1x256 .f32) (D : FVec Ideal S256x256 .f32) (P : FVec Ideal S256x256 .bf16) (W : FVec Ideal S1x1x256x256 .bf16)
    (d p w : ℕ → ℕ → ℝ) (hD : ∀ r c : Fin 256, D (ix2 r c) = (d r c : EReal)) (hP : ∀ r c : Fin 256, P (ix2 r c) = (p r c : EReal))
    (hW : ∀ a b : Fin 256, W (ix4 0 0 a b) = (w a b : EReal)) (b : Fin 256) :
    addf (shapeCast S1x256 v44 shapeCasts_S1x256_S1x256)
      (shapeCast S1x256 (multiReduction .add [0] S256 (mulf D (matmul dot_S256x256_S256x256_S256x256_1_0_0_1_n_n none P
        (shapeCast S256x256 W shapeCasts_S1x1x256x256_S256x256) (constant S256x256 .f32 0x00000000#32))) 0x00000000#32
        reduces_S256x256_S256 (.inl rfl) rfl) shapeCasts_S256_S1x256) (ix2 0 b)
      = v44 (ix2 0 b) + ((∑ r : Fin 256, d r b * ∑ a : Fin 256, p r a * w a b : ℝ) : EReal) := by
  pointwise [hD, hP, hW]
  simp only [coe_sum, EReal.coe_mul]

/-- The block's part of the gradient of a map, added to what was there. -/
theorem dwp_end (v58 : FVec Ideal S1x256x256 .f32) (P : FVec Ideal S256x256 .bf16) (Q : FVec Ideal S272x256 .bf16)
    (p q : ℕ → ℕ → ℝ) (hP : ∀ r c : Fin 256, P (ix2 r c) = (p r c : EReal))
    (hQ : ∀ (r : Fin 272) (c : Fin 256), r.val < 256 → Q (ix2 r c) = (q r c : EReal)) (a b : Fin 256) :
    shapeCast S1x256x256 (addf (shapeCast S256x256 v58 shapeCasts_S1x256x256_S256x256)
      (matmul dot_S256x256_S256x256_S256x256_0_0_1_1_n_n none P (extractStridedSlice S256x256 ![0, 0] Q slices_S272x256_o0_0_S256x256)
        (constant S256x256 .f32 0x00000000#32))) shapeCasts_S256x256_S1x256x256 (ix3 0 a b)
      = v58 (ix3 0 a b) + ((∑ r : Fin 256, p r a * q r b : ℝ) : EReal) := by
  pointwise [hP]
  simp only [coe_sum, EReal.coe_mul]
  congr 1
  refine Finset.sum_congr rfl fun r _ => ?_
  rw [hQ _ _ r.isLt]

/-- The cotangent of a mapped group. -/
theorem dq_end (D : FVec Ideal S272x256 .f32) (v53 : FVec Ideal S1x1x256 .f32) (d : ℕ → ℕ → ℝ) (s : ℕ → ℝ)
    (hD : ∀ (r : Fin 272) (c : Fin 256), D (ix2 r c) = (d r c : EReal)) (hs : ∀ c : Fin 256, v53 (ix3 0 0 c) = (s c : EReal))
    (r : Fin 272) (c : Fin 256) :
    truncf .bf16 (mulf D (broadcastTo S272x256 (shapeCast S1x256 v53 shapeCasts_S1x1x256_S1x256) broadcasts_S1x256_S272x256)) bitsLt_bf16_f32 (ix2 r c)
      = ((d r c * s c : ℝ) : EReal) := by
  pointwise [hD, hs]
  rw [EReal.coe_mul]

/-- The cotangent of a pooled group. -/
theorem dp_end (Q : FVec Ideal S272x256 .bf16) (W : FVec Ideal S1x1x256x256 .bf16) (q w : ℕ → ℕ → ℝ)
    (hQ : ∀ (r : Fin 272) (c : Fin 256), Q (ix2 r c) = (q r c : EReal)) (hW : ∀ a b : Fin 256, W (ix4 0 0 a b) = (w a b : EReal))
    (r : Fin 272) (a : Fin 256) :
    matmul dot_S272x256_S256x256_S272x256_1_1_0_0_n_n none Q (shapeCast S256x256 W shapeCasts_S1x1x256x256_S256x256)
      (constant S272x256 .f32 0x00000000#32) (ix2 r a) = ((∑ b : Fin 256, q r b * w a b : ℝ) : EReal) := by
  pointwise [hQ, hW]
  simp only [coe_sum, EReal.coe_mul]

end Cert.KernelIdeal.Mix
-- ==== Proof.KernGate.lean ====
module

public import proofs.«01_k».proof.Proof.KernPool

/-!
What the gating part of a block computes.
-/

@[expose] public section

set_option maxRecDepth 16384

noncomputable section

namespace Cert.KernelIdeal.Mix

open Idealize.ShloMosaic Idealize.ShloMosaic.TcCoe Idealize.SL.Sem
open Cert.KernelIdeal Cert.KernelIdeal.Gen
open Mixer

theorem inv_sqrt2_eq : Named.named (F := Idealize.ShloMosaic.Ideal) (φ := .f32) κ "inv_sqrt2" (0x3F3504F3#32 : BitVec FTy.f32.bits) = (((Real.sqrt 2)⁻¹ : ℝ) : EReal) :=
  IdealRules.named_const.ideal_named_scalar _ _ _ _ rfl
theorem inv_sqrt_2pi_eq : Named.named (F := Idealize.ShloMosaic.Ideal) (φ := .f32) κ "inv_sqrt_2pi" (0x3ECC422A#32 : BitVec FTy.f32.bits) = (((Real.sqrt (2 * Real.pi))⁻¹ : ℝ) : EReal) :=
  IdealRules.named_const.ideal_named_scalar _ _ _ _ rfl

/-- The gating function at a real number. -/
theorem gelu_val (x : ℝ) :
    Ideal.ofBits .f32 0x3F000000#32 * (x : EReal) * ((1 : EReal)
      + Ideal.erf ((x : EReal) * (((Real.sqrt 2)⁻¹ : ℝ) : EReal))) = (gelu x : EReal) := by
  simp only [lit_half, ← EReal.coe_one, ← EReal.coe_mul, ← EReal.coe_add, erf_coe]
  rfl

/-- Its derivative at a real number. -/
theorem gelu'_val (x : ℝ) :
    Ideal.ofBits .f32 0x3F000000#32 * ((1 : EReal) + Ideal.erf ((x : EReal) * (((Real.sqrt 2)⁻¹ : ℝ) : EReal)))
      + (x : EReal) * Ideal.exp (Ideal.ofBits .f32 0xBF000000#32 * (x : EReal) * (x : EReal))
        * (((Real.sqrt (2 * Real.pi))⁻¹ : ℝ) : EReal) = (gelu' x : EReal) := by
  simp only [lit_half, lit_neg_half, ← EReal.coe_one, ← EReal.coe_mul, ← EReal.coe_add, erf_coe, Ideal.exp_coe]
  rfl

variable {I : Inputs} (n : ℕ) (v275 v277 v279 : Vec Idealize.ShloMosaic.Ideal S256x1024 .bf16) (v281 : Vec Idealize.ShloMosaic.Ideal S1x1x1024 .f32)
  (hu : ∀ (r : Fin 256) (c : Fin 1024), v275 (ix2 r c) = (I.z (256 * n + r) (1024 + c) : EReal))
  (hv : ∀ (r : Fin 256) (c : Fin 1024), v277 (ix2 r c) = (I.z (256 * n + r) (2048 + c) : EReal))
  (hs : ∀ (r : Fin 256) (c : Fin 1024), v279 (ix2 r c) = (I.ds (256 * n + r) c : EReal))
  (hg : ∀ c : Fin 1024, v281 (ix3 0 0 c) = (I.gn c : EReal))

include hu in
theorem e64 (r : Fin 256) (c : Fin 1024) : k0_pay64 (F := Idealize.ShloMosaic.Ideal) v275 (ix2 r c) = (I.gu (256 * n + r) c : EReal) := by
  pointwise [k0_pay64, k0_pay60, hu, inv_sqrt2_eq]
  exact gelu_val _

include hu hs in
theorem e70 (r : Fin 256) (c : Fin 1024) :
    k0_pay70 (F := Idealize.ShloMosaic.Ideal) (k0_pay62 v279) (k0_pay64 v275) (ix2 r c) = (I.dmix (256 * n + r) c : EReal) := by
  pointwise [k0_pay70, k0_pay62, hs, e64 n v275 hu]
  rw [← EReal.coe_mul]; rfl

include hu hs in
theorem e71 (r : Fin 256) (c : Fin 1024) :
    k0_pay71 (F := Idealize.ShloMosaic.Ideal) (k0_pay62 v279) (k0_pay64 v275) (ix2 r c) = (I.dmix (256 * n + r) c : EReal) := by
  pointwise [k0_pay71, e70 n v275 v279 hu hs]

include hv in
theorem e66 (r : Fin 256) (c : Fin 1024) :
    k0_pay66 (F := Idealize.ShloMosaic.Ideal) (k0_pay61 v277) (k0_pay65 v277) (ix2 r c) = (I.gv (256 * n + r) c : EReal) := by
  pointwise [k0_pay66, k0_pay65, k0_pay61, hv, inv_sqrt2_eq]
  exact gelu_val _

include hv in
theorem e67 (r : Fin 256) : k0_pay67 (F := Idealize.ShloMosaic.Ideal) (k0_pay61 v277) (k0_pay65 v277) (ix2 r 0) = (I.rv (256 * n + r) : EReal) := by
  pointwise [k0_pay67, e66 n v277 hv]
  have h : (∑ c : Fin 1024, (I.gv (256 * n + r) c : EReal) * (I.gv (256 * n + r) c : EReal))
      = ((∑ c : Fin 1024, I.gv (256 * n + r) c * I.gv (256 * n + r) c : ℝ) : EReal) := by
    simp only [coe_sum, EReal.coe_mul]
  rw [h, lit_1024, lit_eps, div_coe_coe (by norm_num), ← EReal.coe_add]
  exact rsqrt_pos (I.ms_pos _)

include hv in
theorem e68 (r : Fin 256) (c : Fin 1024) :
    k0_pay68 (F := Idealize.ShloMosaic.Ideal) (k0_pay61 v277) (k0_pay65 v277) (ix2 r c) = (I.vh (256 * n + r) c : EReal) := by
  pointwise [k0_pay68, e66 n v277 hv, e67 n v277 hv]
  rw [← EReal.coe_mul]; rfl

include hv hg in
theorem e69 (r : Fin 256) (c : Fin 1024) :
    k0_pay69 (F := Idealize.ShloMosaic.Ideal) (k0_pay61 v277) (k0_pay63 v281) (k0_pay65 v277) (ix2 r c) = (I.vn (256 * n + r) c : EReal) := by
  pointwise [k0_pay69, k0_pay63, hg, e68 n v277 hv]
  rw [← EReal.coe_mul]; rfl

include hu hs in
/-- The gradient of the gate's columns, from the mixed values. -/
theorem e135 (X : Vec Idealize.ShloMosaic.Ideal S256x1024 .f32) (hX : ∀ (r : Fin 256) (c : Fin 1024), X (ix2 r c) = (I.mix (256 * n + r) c : EReal))
    (r : Fin 256) (c : Fin 1024) :
    k0_pay135 (F := Idealize.ShloMosaic.Ideal) (k0_pay60 v275) (k0_pay62 v279) X (ix2 r c) = (I.dzu (256 * n + r) c : EReal) := by
  pointwise [k0_pay135, k0_pay60, k0_pay62, hu, hs, hX, inv_sqrt2_eq, inv_sqrt_2pi_eq, Ideal.erf_def]
  rw [gelu'_val, ← EReal.coe_mul, ← EReal.coe_mul]
  rfl

include hg in
theorem e137 (X : Vec Idealize.ShloMosaic.Ideal S256x1024 .f32) (hX : ∀ (r : Fin 256) (c : Fin 1024), X (ix2 r c) = (I.dvn' (256 * n + r) c : EReal))
    (r : Fin 256) (c : Fin 1024) :
    k0_pay137 (F := Idealize.ShloMosaic.Ideal) (k0_pay63 v281) X (ix2 r c) = (I.dvg (256 * n + r) c : EReal) := by
  pointwise [k0_pay137, k0_pay63, hg, hX]
  rw [← EReal.coe_mul]; rfl

include hv hg in
/-- The gradient of the gated columns, from the transposed mixing. -/
theorem e138 (X : Vec Idealize.ShloMosaic.Ideal S256x1024 .f32) (hX : ∀ (r : Fin 256) (c : Fin 1024), X (ix2 r c) = (I.dvn' (256 * n + r) c : EReal))
    (r : Fin 256) (c : Fin 1024) :
    k0_pay138 (F := Idealize.ShloMosaic.Ideal) (k0_pay61 v277) (k0_pay67 (k0_pay61 v277) (k0_pay65 v277)) (k0_pay68 (k0_pay61 v277) (k0_pay65 v277))
      (k0_pay137 (k0_pay63 v281) X) (ix2 r c) = (I.dzv (256 * n + r) c : EReal) := by
  unfold k0_pay138
  generalize hR : k0_pay67 (k0_pay61 v277) (k0_pay65 v277) = R
  generalize hS : k0_pay68 (k0_pay61 v277) (k0_pay65 v277) = S
  have e1 : ∀ r : Fin 256, R (ix2 r 0) = (I.rv (256 * n + r) : EReal) := fun r => hR ▸ e67 n v277 hv r
  have e2 : ∀ (r : Fin 256) (c : Fin 1024), S (ix2 r c) = (I.vh (256 * n + r) c : EReal) := fun r c => hS ▸ e68 n v277 hv r c
  pointwise [k0_pay61, hv, e1, e2, e137 n v281 hg X hX, inv_sqrt2_eq, inv_sqrt_2pi_eq, Ideal.erf_def]
  have h : (∑ c : Fin 1024, (I.dvg (256 * n + r) c : EReal) * (I.vh (256 * n + r) c : EReal))
      = ((∑ c : Fin 1024, I.dvg (256 * n + r) c * I.vh (256 * n + r) c : ℝ) : EReal) := by
    simp only [coe_sum, EReal.coe_mul]
  rw [gelu'_val, h, lit_1024, div_coe_coe (by norm_num), ← EReal.coe_mul, ← EReal.coe_sub, ← EReal.coe_mul, ← EReal.coe_mul]
  rfl

include hv in
/-- The block's part of the gradient of the gain, added to what was there. -/
theorem e136 (X : Vec Idealize.ShloMosaic.Ideal S256x1024 .f32) (hX : ∀ (r : Fin 256) (c : Fin 1024), X (ix2 r c) = (I.dvn' (256 * n + r) c : EReal))
    (v779 : Vec Idealize.ShloMosaic.Ideal S1x1024 .f32) (c : Fin 1024) :
    k0_pay136 (F := Idealize.ShloMosaic.Ideal) (k0_pay68 (k0_pay61 v277) (k0_pay65 v277)) X v779 (ix2 0 c)
      = v779 (ix2 0 c) + ((∑ r : Fin 256, I.dvn' (256 * n + r) c * I.vh (256 * n + r) c : ℝ) : EReal) := by
  pointwise [k0_pay136, e68 n v277 hv, hX]
  simp only [coe_sum, EReal.coe_mul]

end Cert.KernelIdeal.Mix
-- ==== Proof.KernTiles.lean ====
module

public import proofs.«01_k».proof.Proof.KernGate
public import Idealize.ShloMosaic.Lib.Pipeline.ValueKit
public import Idealize.ShloMosaic.Lib.WritesUnit
public import Idealize.ShloMosaic.Lib.Pipeline.ReadBack

/-!
Tiles of a block: the products of one chunk and one head, and a buffer read after a list of stores.
-/

@[expose] public section

set_option maxRecDepth 16384

noncomputable section

namespace Cert.KernelIdeal.Mix

open Idealize.ShloMosaic Idealize.ShloMosaic.TcCoe Idealize.SL.Sem
open Cert.KernelIdeal Cert.KernelIdeal.Gen
open Mixer

/-! ### A buffer after a list of stores -/

section Stores

variable {sig : RefSig} {k : Kind} {sp : Space} {s : Shape} {e : EltTy} {Val : EltTy → Type}

/-- The last store holds its payload under its rectangle; elsewhere the earlier stores are seen. -/
theorem read_step (v : View sig k sp s e) (f : v.ty.Contents Val) {off size : Fin s.rank → ℕ} {inb : ∀ a, off a + size a ≤ s.size a}
    {w : (Rect.unit off size inb).shape.Idx → Val e} {L : List (View.Piece Val s e)} {y : s.Idx} {u : Val e}
    (hin : ∀ x : (Rect.unit off size inb).shape.Idx, (∀ a, (y a).val = off a + (x a).val) → w x = u)
    (hout : ¬ (∀ a, off a ≤ (y a).val ∧ (y a).val < off a + size a) → v.read Val (v.writes Val f L) y = u) :
    v.read Val (v.writes Val f ((⟨Rect.unit off size inb, w⟩ : View.Piece Val s e) :: L)) y = u := by
  rw [View.read_writes_cons_unit v f inb w L y rfl]
  split
  · next h => exact hin _ fun a => by have := h a; rw [Rect.unitLocal_val]; omega
  · next h => exact hout h

/-- The same where nothing was there before the stores. -/
theorem canon_step [∀ e, Nonempty (Val e)] {off size : Fin s.rank → ℕ} {inb : ∀ a, off a + size a ≤ s.size a}
    {w : (Rect.unit off size inb).shape.Idx → Val e} {L : List (View.Piece Val s e)} {y : s.Idx} {u : Val e}
    (hin : ∀ x : (Rect.unit off size inb).shape.Idx, (∀ a, (y a).val = off a + (x a).val) → w x = u)
    (hout : ¬ (∀ a, off a ≤ (y a).val ∧ (y a).val < off a + size a) → View.canon L y = u) :
    View.canon ((⟨Rect.unit off size inb, w⟩ : View.Piece Val s e) :: L) y = u := by
  by_cases h : y ∈ (Rect.unit off size inb).set
  · obtain ⟨x, rfl⟩ := (Rect.unit off size inb).exists_idx_of_mem h
    exact (View.canon_cons_emb _ w L x).trans (hin x fun a => Rect.idx_unit_val off size inb x a)
  · rw [View.canon_cons_of_not_mem ⟨_, w⟩ L h]
    exact hout fun h' => h (Rect.mem_set_unit.mpr h')

/-- A whole buffer read back after stores. -/
theorem readCov_all [∀ e, Nonempty (Val e)] (v : View sig k sp s e) (L : List (View.Piece Val s e)) {off size : Fin s.rank → ℕ}
    (inb : ∀ a, off a + size a ≤ s.size a) (x : (Rect.unit off size inb).shape.Idx) (y : s.Idx) (u : Val e)
    (hy : ∀ a, (y a).val = off a + (x a).val) (h : View.canon L y = u) :
    v.readCov L (Rect.unit off size inb).toLoadRect x = u := by
  rw [View.readCov_eq_canon']
  rw [← h]
  exact congrArg (View.canon L) (funext fun a => Fin.ext ((Rect.idx_unit_val off size inb x a).trans (hy a).symm))

/-! The same at named coordinates. -/

section Rank2

variable {R C o0 o1 s0 s1 : ℕ}
  {inb : ∀ a, (![o0, o1] : Fin 2 → ℕ) a + (![s0, s1] : Fin 2 → ℕ) a ≤ (⟨2, ![R, C]⟩ : Shape).size a}
  {w : (Rect.unit (s := ⟨2, ![R, C]⟩) ![o0, o1] ![s0, s1] inb).shape.Idx → Val e} {L : List (View.Piece Val ⟨2, ![R, C]⟩ e)}
  {r : Fin R} {b : Fin C} {u : Val e}

theorem canon_step2 [∀ e, Nonempty (Val e)]
    (hin : ∀ (i : Fin s0) (j : Fin s1), r.val = o0 + i → b.val = o1 + j → w (ix2 i j) = u)
    (hout : ¬ ((o0 ≤ r.val ∧ r.val < o0 + s0) ∧ (o1 ≤ b.val ∧ b.val < o1 + s1)) → View.canon L (ix2 r b) = u) :
    View.canon ((⟨Rect.unit (s := ⟨2, ![R, C]⟩) ![o0, o1] ![s0, s1] inb, w⟩ : View.Piece Val ⟨2, ![R, C]⟩ e) :: L) (ix2 r b) = u :=
  canon_step (fun x hx => (congrArg w (eq_ix2 x)).trans (hin (x 0) (x 1) (hx 0) (hx 1)))
    (fun h => hout fun h' => h (Fin.forall_fin_two.mpr h'))

theorem read_step2 (v : View sig k sp ⟨2, ![R, C]⟩ e) (f : v.ty.Contents Val)
    (hin : ∀ (i : Fin s0) (j : Fin s1), r.val = o0 + i → b.val = o1 + j → w (ix2 i j) = u)
    (hout : ¬ ((o0 ≤ r.val ∧ r.val < o0 + s0) ∧ (o1 ≤ b.val ∧ b.val < o1 + s1)) → v.read Val (v.writes Val f L) (ix2 r b) = u) :
    v.read Val (v.writes Val f ((⟨Rect.unit (s := ⟨2, ![R, C]⟩) ![o0, o1] ![s0, s1] inb, w⟩ : View.Piece Val ⟨2, ![R, C]⟩ e) :: L)) (ix2 r b) = u :=
  read_step v f (fun x hx => (congrArg w (eq_ix2 x)).trans (hin (x 0) (x 1) (hx 0) (hx 1)))
    (fun h => hout fun h' => h (Fin.forall_fin_two.mpr h'))

theorem ld2 (X : (⟨2, ![R, C]⟩ : Shape).Idx → Val e) (i : Fin s0) (j : Fin s1) (h0 : o0 + i.val < R) (h1 : o1 + j.val < C) :
    View.ld X (Rect.unit (s := ⟨2, ![R, C]⟩) ![o0, o1] ![s0, s1] inb) (ix2 i j) = X (ix2 ⟨o0 + i, h0⟩ ⟨o1 + j, h1⟩) :=
  View.ld_unit_apply_of X ![o0, o1] ![s0, s1] inb (ix2 i j) _ (Fin.forall_fin_two.mpr ⟨rfl, rfl⟩)

theorem readCov2 [∀ e, Nonempty (Val e)] (v : View sig k sp ⟨2, ![R, C]⟩ e) (i : Fin s0) (j : Fin s1) (r : Fin R) (b : Fin C)
    (h0 : r.val = o0 + i) (h1 : b.val = o1 + j) (h : View.canon L (ix2 r b) = u) :
    v.readCov L (Rect.unit (s := ⟨2, ![R, C]⟩) ![o0, o1] ![s0, s1] inb).toLoadRect (ix2 i j) = u :=
  readCov_all v L inb (ix2 i j) (ix2 r b) u (Fin.forall_fin_two.mpr ⟨h0, h1⟩) h

end Rank2

section Grid

/-- Stores of the sixteen tiles of a block, the last one first. -/
theorem tile_step [∀ e, Nonempty (Val e)] {o1 o2 K : ℕ} {inb : ∀ a, (![o1, o2] : Fin 2 → ℕ) a + (![128, 128] : Fin 2 → ℕ) a ≤ (⟨2, ![256, 1024]⟩ : Shape).size a}
    {w : (Rect.unit (s := ⟨2, ![256, 1024]⟩) ![o1, o2] ![128, 128] inb).shape.Idx → Val e} {L : List (View.Piece Val ⟨2, ![256, 1024]⟩ e)}
    {r : Fin 256} {b : Fin 1024} {u : Val e} (hk : 8 * (r.val / 128) + b.val / 128 < K + 1)
    (hin : ∀ (i j : Fin 128), r.val = o1 + i → b.val = o2 + j → w (ix2 i j) = u)
    (h1 : o1 % 128 = 0) (h2 : o2 % 128 = 0) (hK : 8 * (o1 / 128) + o2 / 128 = K)
    (hout : 8 * (r.val / 128) + b.val / 128 < K → View.canon L (ix2 r b) = u) :
    View.canon ((⟨Rect.unit (s := ⟨2, ![256, 1024]⟩) ![o1, o2] ![128, 128] inb, w⟩ : View.Piece Val ⟨2, ![256, 1024]⟩ e) :: L) (ix2 r b) = u := by
  refine canon_step2 hin fun h => hout ?_
  by_contra hc
  have : 8 * (r.val / 128) + b.val / 128 = 8 * (o1 / 128) + o2 / 128 := by omega
  have hb := b.isLt
  have ho : o2 + 128 ≤ 1024 := inb 1
  omega

end Grid

section Rank3

variable {P R C o0 o1 o2 s0 s1 s2 : ℕ}
  {inb : ∀ a, (![o0, o1, o2] : Fin 3 → ℕ) a + (![s0, s1, s2] : Fin 3 → ℕ) a ≤ (⟨3, ![P, R, C]⟩ : Shape).size a}
  {w : (Rect.unit (s := ⟨3, ![P, R, C]⟩) ![o0, o1, o2] ![s0, s1, s2] inb).shape.Idx → Val e} {L : List (View.Piece Val ⟨3, ![P, R, C]⟩ e)}
  {q : Fin P} {r : Fin R} {b : Fin C} {u : Val e}

theorem canon_step3 [∀ e, Nonempty (Val e)]
    (hin : ∀ (x : Fin s0) (i : Fin s1) (j : Fin s2), q.val = o0 + x → r.val = o1 + i → b.val = o2 + j → w (ix3 x i j) = u)
    (hout : ¬ ((o0 ≤ q.val ∧ q.val < o0 + s0) ∧ (o1 ≤ r.val ∧ r.val < o1 + s1) ∧ (o2 ≤ b.val ∧ b.val < o2 + s2)) → View.canon L (ix3 q r b) = u) :
    View.canon ((⟨Rect.unit (s := ⟨3, ![P, R, C]⟩) ![o0, o1, o2] ![s0, s1, s2] inb, w⟩ : View.Piece Val ⟨3, ![P, R, C]⟩ e) :: L) (ix3 q r b) = u :=
  canon_step (fun x hx => (congrArg w (eq_ix3 x)).trans (hin (x 0) (x 1) (x 2) (hx 0) (hx 1) (hx 2)))
    (fun h => hout fun h' => h (by intro a; fin_cases a; exacts [h'.1, h'.2.1, h'.2.2]))

theorem ld3 (X : (⟨3, ![P, R, C]⟩ : Shape).Idx → Val e) (x : Fin s0) (i : Fin s1) (j : Fin s2) (h0 : o0 + x.val < P) (h1 : o1 + i.val < R) (h2 : o2 + j.val < C) :
    View.ld X (Rect.unit (s := ⟨3, ![P, R, C]⟩) ![o0, o1, o2] ![s0, s1, s2] inb) (ix3 x i j) = X (ix3 ⟨o0 + x, h0⟩ ⟨o1 + i, h1⟩ ⟨o2 + j, h2⟩) :=
  View.ld_unit_apply_of X ![o0, o1, o2] ![s0, s1, s2] inb (ix3 x i j) _ (by intro a; fin_cases a <;> rfl)

theorem readCov3 [∀ e, Nonempty (Val e)] (v : View sig k sp ⟨3, ![P, R, C]⟩ e) (x : Fin s0) (i : Fin s1) (j : Fin s2) (q : Fin P) (r : Fin R) (b : Fin C)
    (h0 : q.val = o0 + x) (h1 : r.val = o1 + i) (h2 : b.val = o2 + j) (h : View.canon L (ix3 q r b) = u) :
    v.readCov L (Rect.unit (s := ⟨3, ![P, R, C]⟩) ![o0, o1, o2] ![s0, s1, s2] inb).toLoadRect (ix3 x i j) = u :=
  readCov_all v L inb (ix3 x i j) (ix3 q r b) u (by intro a; fin_cases a; exacts [h0, h1, h2]) h

end Rank3

end Stores

/-! ### One chunk and one head -/

section Tile

variable {o1 o2 : ℕ}

/-- A tile of a block. -/
theorem tile (X : FVec Idealize.ShloMosaic.Ideal S256x1024 .bf16) (f : ℕ → ℕ → ℝ) (hX : ∀ (r : Fin 256) (c : Fin 1024), X (ix2 r c) = (f r c : EReal))
    (hs : S256x1024.Slices ![o1, o2] S128x128) (a b : Fin 128) :
    extractStridedSlice S128x128 ![o1, o2] X hs (ix2 a b) = (f (o1 + a) (o2 + b) : EReal) := by
  have e : extractStridedSlice S128x128 ![o1, o2] X hs (ix2 a b)
      = X (ix2 ⟨o1 + a.val, by have h : o1 + 128 ≤ 256 := hs.2 0; omega⟩ ⟨o2 + b.val, by have h : o2 + 128 ≤ 1024 := hs.2 1; omega⟩) := by
    pointwise
  rw [e, hX]

variable {I : Inputs} (n : ℕ) (VN DM : FVec Idealize.ShloMosaic.Ideal S256x1024 .bf16)
  (hV : ∀ (r : Fin 256) (c : Fin 1024), VN (ix2 r c) = (I.vn (256 * n + r) c : EReal))
  (hD : ∀ (r : Fin 256) (c : Fin 1024), DM (ix2 r c) = (I.dmix (256 * n + r) c : EReal))

include hV in
/-- The mixed values of one chunk and one head. -/
theorem mixed_tile (h1 : o1 % 128 = 0) (h2 : o2 % 128 = 0) (hs : S256x1024.Slices ![o1, o2] S128x128)
    (W : FVec Idealize.ShloMosaic.Ideal S1x1x128x128 .bf16) (hW : ∀ t s : Fin 128, W (ix4 0 0 t s) = (I.wm (o2 / 128) t s : EReal))
    (B : FVec Idealize.ShloMosaic.Ideal S1x128x1 .f32) (hB : ∀ t : Fin 128, B (ix3 0 t 0) = (I.bs (o2 / 128) t : EReal)) (a b : Fin 128) {r k : ℕ} (hr : r = o1 + a) (hk : k = o2 + b) :
    shapeCast S128x128 (addf (matmul dot_S128x128_S128x128_S128x128_1_0_0_1_n_n none (shapeCast S128x128 W shapeCasts_S1x1x128x128_S128x128)
      (extractStridedSlice S128x128 ![o1, o2] VN hs) (constant S128x128 .f32 0x00000000#32))
      (broadcastTo S128x128 (shapeCast S128x1 B shapeCasts_S1x128x1_S128x1) broadcasts_S128x1_S128x128)) shapeCasts_S128x128_S128x128 (ix2 a b)
      = (I.mix (256 * n + r) k : EReal) := by
  subst hr hk
  have hT := tile VN (fun r c => I.vn (256 * n + r) c) hV hs
  generalize extractStridedSlice S128x128 ![o1, o2] VN hs = T at hT ⊢
  pointwise [hT, hW, hB]
  have e1 : (256 * n + (o1 + a.val)) / 128 = (256 * n + o1) / 128 := by omega
  have e2 : (256 * n + (o1 + a.val)) % 128 = a := by omega
  have e3 : (o2 + b.val) / 128 = o2 / 128 := by omega
  have e4 : (o2 + b.val) % 128 = b := by omega
  unfold Inputs.mix Inputs.mixed
  rw [e1, e2, e3, e4]
  simp only [EReal.coe_add, coe_sum, EReal.coe_mul]
  congr 1
  refine Finset.sum_congr rfl fun s _ => ?_
  rw [show 128 * ((256 * n + o1) / 128) + s.val = 256 * n + (o1 + s.val) by omega, show 128 * (o2 / 128) = o2 by omega]

include hD in
/-- The transposed mixing of one chunk and one head. -/
theorem dvn_tile (h1 : o1 % 128 = 0) (h2 : o2 % 128 = 0) (hs : S256x1024.Slices ![o1, o2] S128x128)
    (W : FVec Idealize.ShloMosaic.Ideal S1x1x128x128 .bf16) (hW : ∀ s t : Fin 128, W (ix4 0 0 s t) = (I.wm (o2 / 128) t s : EReal)) (a b : Fin 128) {r k : ℕ} (hr : r = o1 + a) (hk : k = o2 + b) :
    shapeCast S128x128 (matmul dot_S128x128_S128x128_S128x128_1_0_0_1_n_n none (shapeCast S128x128 W shapeCasts_S1x1x128x128_S128x128)
      (extractStridedSlice S128x128 ![o1, o2] DM hs) (constant S128x128 .f32 0x00000000#32)) shapeCasts_S128x128_S128x128 (ix2 a b)
      = (I.dvn' (256 * n + r) k : EReal) := by
  subst hr hk
  have hT := tile DM (fun r c => I.dmix (256 * n + r) c) hD hs
  generalize extractStridedSlice S128x128 ![o1, o2] DM hs = T at hT ⊢
  pointwise [hT, hW]
  have e1 : (256 * n + (o1 + a.val)) / 128 = (256 * n + o1) / 128 := by omega
  have e2 : (256 * n + (o1 + a.val)) % 128 = a := by omega
  have e3 : (o2 + b.val) / 128 = o2 / 128 := by omega
  have e4 : (o2 + b.val) % 128 = b := by omega
  unfold Inputs.dvn' Inputs.dvn
  rw [e1, e2, e3, e4]
  simp only [coe_sum, EReal.coe_mul]
  refine Finset.sum_congr rfl fun s _ => ?_
  rw [show 128 * ((256 * n + o1) / 128) + s.val = 256 * n + (o1 + s.val) by omega, show 128 * (o2 / 128) = o2 by omega]

include hV hD in
/-- One chunk's part of the gradient of one head's weights, added to what was there. -/
theorem dws_tile (hs hs' : S256x1024.Slices ![o1, o2] S128x128) (A : FVec Idealize.ShloMosaic.Ideal S1x128x128 .f32) (a b : Fin 128) :
    shapeCast S1x128x128 (addf (shapeCast S128x128 A shapeCasts_S1x128x128_S128x128)
      (matmul dot_S128x128_S128x128_S128x128_1_1_0_0_n_n none (extractStridedSlice S128x128 ![o1, o2] DM hs)
        (extractStridedSlice S128x128 ![o1, o2] VN hs') (constant S128x128 .f32 0x00000000#32))) shapeCasts_S128x128_S1x128x128 (ix3 0 a b)
      = A (ix3 0 a b) + ((∑ d : Fin 128, I.dmix (256 * n + (o1 + a)) (o2 + d) * I.vn (256 * n + (o1 + b)) (o2 + d) : ℝ) : EReal) := by
  have hT := tile DM (fun r c => I.dmix (256 * n + r) c) hD hs
  have hU := tile VN (fun r c => I.vn (256 * n + r) c) hV hs'
  generalize extractStridedSlice S128x128 ![o1, o2] DM hs = T at hT ⊢
  generalize extractStridedSlice S128x128 ![o1, o2] VN hs' = U at hU ⊢
  pointwise [hT, hU]
  simp only [coe_sum, EReal.coe_mul]

end Tile

end Cert.KernelIdeal.Mix
-- ==== Proof.KernGroups.lean ====
module

public import proofs.«01_k».proof.Proof.KernPool

/-!
The four pooled groups of a block, forwards and backwards.
-/

@[expose] public section

set_option maxRecDepth 16384

noncomputable section

namespace Cert.KernelIdeal.Mix

open Idealize.ShloMosaic Idealize.ShloMosaic.TcCoe Idealize.SL.Sem
open Cert.KernelIdeal Cert.KernelIdeal.Gen
open Mixer

variable {I : Inputs} (i : grid0.Coords) (n : ℕ) (hi : (i 0).val = n) (hn : n < 32)
  (v3 v3' : Vec Ideal S256x1024 .bf16) (v6 : Vec Ideal S16x1024 .bf16)
  (h3 : ∀ (r : Fin 256) (c : Fin 1024), v3 (ix2 r c) = (I.z (256 * n + r) c : EReal))
  (h3' : ∀ (r : Fin 256) (c : Fin 1024), v3' (ix2 r c) = (I.z (256 * n + r) c : EReal))
  (h6 : 0 < n → ∀ (r : Fin 16) (c : Fin 1024), v6 (ix2 r c) = (I.z (256 * n - 16 + r) c : EReal))
  (v11 : Vec Ideal S256x1024 .bf16) (v14 : Vec Ideal S16x1024 .bf16)
  (h11 : ∀ (r : Fin 256) (c : Fin 1024), v11 (ix2 r c) = (I.da (256 * n + r) c : EReal))
  (h14 : n < 31 → ∀ (r : Fin 16) (c : Fin 1024), v14 (ix2 r c) = (I.da (256 * n + 256 + r) c : EReal))

include hi hn h3 h3' h6 in
/-- Group 0 of the block, pooled. -/
theorem pooled0 (r c : Fin 256) : k0_pay32 (F := Ideal) (k0_pay30 i v3 v6) (k0_pay31 v3') (ix2 r c) = (I.pooled 0 (256 * n + r) c : EReal) := by
  have s0 : ∀ (r : Fin 272) (c : Fin 256), 0 ≤ r.val →
      extractStridedSlice S272x256 ![0, 0] (k0_pay25 (F := Ideal) i v3 v6) slices_S272x1024_o0_0_S272x256 (ix2 r c)
        = (down 1 (fun s => ext I n s (0 + c)) r : EReal) := fun r c _ => by
    pointwise [e25 i v3 v6 n hi hn h3 h6]
    simp [down]
  have s1 := roll_down 1 1#32 rfl (by norm_num) (fun s c => ext I n s (0 + c)) _ 0 s0
  refine pool_end I n 2 0 (by norm_num) (by norm_num) _ _ _ (fun r c hr => s1 r c (by omega)) (fun r => ?_) (fun r c => ?_) r c
  · pointwise [k0_pay28, k0_pay53]
    rw [hi]
    exact count_row 2 n r _ rfl (by norm_num) hn (by omega)
  · pointwise [k0_pay31, k0_pay24, h3']

include hi hn h3 h3' h6 in
/-- Group 1 of the block, pooled. -/
theorem pooled1 (r c : Fin 256) : k0_pay39 (F := Ideal) (k0_pay24 v3') (k0_pay25 i v3 v6) (k0_pay28 i) (ix2 r c) = (I.pooled 1 (256 * n + r) c : EReal) := by
  have s0 : ∀ (r : Fin 272) (c : Fin 256), 0 ≤ r.val →
      extractStridedSlice S272x256 ![0, 256] (k0_pay25 (F := Ideal) i v3 v6) slices_S272x1024_o0_256_S272x256 (ix2 r c)
        = (down 1 (fun s => ext I n s (256 + c)) r : EReal) := fun r c _ => by
    pointwise [e25 i v3 v6 n hi hn h3 h6]
    simp [down]
  have s1 := roll_down 1 1#32 rfl (by norm_num) (fun s c => ext I n s (256 + c)) _ 0 s0
  have s2 := roll_down 2 2#32 rfl (by norm_num) (fun s c => ext I n s (256 + c)) _ 1 s1
  refine pool_end I n 4 256 (by norm_num) (by norm_num) _ _ _ (fun r c hr => s2 r c (by omega)) (fun r => ?_) (fun r c => ?_) r c
  · pointwise [k0_pay28, k0_pay53]
    rw [hi]
    exact count_row 4 n r _ rfl (by norm_num) hn (by omega)
  · pointwise [k0_pay31, k0_pay24, h3']

include hi hn h3 h3' h6 in
/-- Group 2 of the block, pooled. -/
theorem pooled2 (r c : Fin 256) : k0_pay46 (F := Ideal) (k0_pay24 v3') (k0_pay28 i) (k0_pay45 (k0_pay25 i v3 v6)) 2#32 (ix2 r c) = (I.pooled 2 (256 * n + r) c : EReal) := by
  have s0 : ∀ (r : Fin 272) (c : Fin 256), 0 ≤ r.val →
      extractStridedSlice S272x256 ![0, 512] (k0_pay25 (F := Ideal) i v3 v6) slices_S272x1024_o0_512_S272x256 (ix2 r c)
        = (down 1 (fun s => ext I n s (512 + c)) r : EReal) := fun r c _ => by
    pointwise [e25 i v3 v6 n hi hn h3 h6]
    simp [down]
  have s1 := roll_down 1 1#32 rfl (by norm_num) (fun s c => ext I n s (512 + c)) _ 0 s0
  have s2 := roll_down 2 2#32 rfl (by norm_num) (fun s c => ext I n s (512 + c)) _ 1 s1
  have s3 := roll_down 4 4#32 rfl (by norm_num) (fun s c => ext I n s (512 + c)) _ 3 s2
  refine pool_end I n 8 512 (by norm_num) (by norm_num) _ _ _ (fun r c hr => s3 r c (by omega)) (fun r => ?_) (fun r c => ?_) r c
  · pointwise [k0_pay28, k0_pay53]
    rw [hi]
    exact count_row 8 n r _ rfl (by norm_num) hn (by omega)
  · pointwise [k0_pay31, k0_pay24, h3']

include hi hn h3 h3' h6 in
/-- Group 3 of the block, pooled. -/
theorem pooled3 (r c : Fin 256) : k0_pay54 (F := Ideal) (k0_pay24 v3') (k0_pay52 (k0_pay25 i v3 v6)) (k0_pay53 (k0_pay28 i)) (ix2 r c) = (I.pooled 3 (256 * n + r) c : EReal) := by
  have s0 : ∀ (r : Fin 272) (c : Fin 256), 0 ≤ r.val →
      extractStridedSlice S272x256 ![0, 768] (k0_pay25 (F := Ideal) i v3 v6) slices_S272x1024_o0_768_S272x256 (ix2 r c)
        = (down 1 (fun s => ext I n s (768 + c)) r : EReal) := fun r c _ => by
    pointwise [e25 i v3 v6 n hi hn h3 h6]
    simp [down]
  have s1 := roll_down 1 1#32 rfl (by norm_num) (fun s c => ext I n s (768 + c)) _ 0 s0
  have s2 := roll_down 2 2#32 rfl (by norm_num) (fun s c => ext I n s (768 + c)) _ 1 s1
  have s3 := roll_down 4 4#32 rfl (by norm_num) (fun s c => ext I n s (768 + c)) _ 3 s2
  have s4 := roll_down 8 8#32 rfl (by norm_num) (fun s c => ext I n s (768 + c)) _ 7 s3
  refine pool_end I n 16 768 (by norm_num) (by norm_num) _ _ _ (fun r c hr => s4 r c (by omega)) (fun r => ?_) (fun r c => ?_) r c
  · pointwise [k0_pay28, k0_pay53]
    rw [hi]
    exact count_row 16 n r _ rfl (by norm_num) hn (by omega)
  · pointwise [k0_pay31, k0_pay24, h3']

include hi hn h11 h14 in
/-- The cotangent of mapped group 0, with its rows after the block. -/
theorem dq0 (v53 : Vec Ideal S1x1x256 .f32) (hs : ∀ c : Fin 256, v53 (ix3 0 0 c) = (I.sc (256 * 0 + c) : EReal)) (r : Fin 272) (c : Fin 256) :
    k0_pay34 (F := Ideal) (k0_pay27 i v11 v14) v53 (ix2 r c) = ((if 256 * n + r < 8192 then I.dq 0 (256 * n + r) c else 0 : ℝ) : EReal) := by
  refine (dq_end _ v53 (fun r c => dext I n r (256 * 0 + c)) (fun c => I.sc (256 * 0 + c)) (fun r c => ?_) hs r c).trans ?_
  · pointwise [k0_pay41, e27 i v11 v14 n hi hn h11 h14]
  · congr 1
    unfold dext
    split
    · rfl
    · exact zero_mul _

include hi hn h11 h14 in
/-- The cotangent of mapped group 1, with its rows after the block. -/
theorem dq1 (v53 : Vec Ideal S1x1x256 .f32) (hs : ∀ c : Fin 256, v53 (ix3 0 0 c) = (I.sc (256 * 1 + c) : EReal)) (r : Fin 272) (c : Fin 256) :
    k0_pay42 (F := Ideal) (k0_pay41 (k0_pay27 i v11 v14)) v53 (ix2 r c) = ((if 256 * n + r < 8192 then I.dq 1 (256 * n + r) c else 0 : ℝ) : EReal) := by
  refine (dq_end _ v53 (fun r c => dext I n r (256 * 1 + c)) (fun c => I.sc (256 * 1 + c)) (fun r c => ?_) hs r c).trans ?_
  · pointwise [k0_pay41, e27 i v11 v14 n hi hn h11 h14]
  · congr 1
    unfold dext
    split
    · rfl
    · exact zero_mul _

include hi hn h11 h14 in
/-- The cotangent of mapped group 2, with its rows after the block. -/
theorem dq2 (v53 : Vec Ideal S1x1x256 .f32) (hs : ∀ c : Fin 256, v53 (ix3 0 0 c) = (I.sc (256 * 2 + c) : EReal)) (r : Fin 272) (c : Fin 256) :
    k0_pay48 (F := Ideal) (k0_pay27 i v11 v14) v53 (ix2 r c) = ((if 256 * n + r < 8192 then I.dq 2 (256 * n + r) c else 0 : ℝ) : EReal) := by
  refine (dq_end _ v53 (fun r c => dext I n r (256 * 2 + c)) (fun c => I.sc (256 * 2 + c)) (fun r c => ?_) hs r c).trans ?_
  · pointwise [k0_pay41, e27 i v11 v14 n hi hn h11 h14]
  · congr 1
    unfold dext
    split
    · rfl
    · exact zero_mul _

include hi hn h11 h14 in
/-- The cotangent of mapped group 3, with its rows after the block. -/
theorem dq3 (v53 : Vec Ideal S1x1x256 .f32) (hs : ∀ c : Fin 256, v53 (ix3 0 0 c) = (I.sc (256 * 3 + c) : EReal)) (r : Fin 272) (c : Fin 256) :
    k0_pay56 (F := Ideal) (k0_pay27 i v11 v14) v53 (ix2 r c) = ((if 256 * n + r < 8192 then I.dq 3 (256 * n + r) c else 0 : ℝ) : EReal) := by
  refine (dq_end _ v53 (fun r c => dext I n r (256 * 3 + c)) (fun c => I.sc (256 * 3 + c)) (fun r c => ?_) hs r c).trans ?_
  · pointwise [k0_pay41, e27 i v11 v14 n hi hn h11 h14]
  · congr 1
    unfold dext
    split
    · rfl
    · exact zero_mul _

/-- A cotangent over the counts. -/
theorem quot_end (P : FVec Ideal S272x256 .f32) (k : FVec Ideal S272x1 .f32) (p : ℕ → ℕ → ℝ) (h : S272x1.Broadcasts S272x256) (w n : ℕ) (hw : 0 < w)
    (hP : ∀ (r : Fin 272) (c : Fin 256), P (ix2 r c) = ((if 256 * n + r < 8192 then p (256 * n + r) c else 0 : ℝ) : EReal))
    (hk : ∀ r : Fin 272, k (ix2 r 0) = (Inputs.cnt w (256 * n + r) : EReal)) (r : Fin 272) (c : Fin 256) :
    divf P (broadcastTo S272x256 k h) (ix2 r c)
      = (up 1 (fun s => if 256 * n + s < 8192 then p (256 * n + s) c / Inputs.cnt w (256 * n + s) else 0) r : EReal) := by
  pointwise [hP, hk]
  rw [div_coe_coe (cnt_ne w _ hw)]
  congr 1
  simp only [up, Finset.sum_range_one, Nat.add_zero]
  split
  · rfl
  · exact zero_div _

include hi hn h11 h14 in
/-- The gradient of the columns of group 0. -/
theorem dzp0 (v53 : Vec Ideal S1x1x256 .f32) (hs : ∀ c : Fin 256, v53 (ix3 0 0 c) = (I.sc (256 * 0 + c) : EReal))
    (W : Vec Ideal S1x1x256x256 .bf16) (hW : ∀ a b : Fin 256, W (ix4 0 0 a b) = (I.wp 0 a b : EReal)) (r c : Fin 256) :
    k0_pay38 (F := Ideal) (k0_pay36 (k0_pay27 i v11 v14) v53 W) (k0_pay37 (k0_pay29 i)) (ix2 r c) = (I.dzp 0 (256 * n + r) c : EReal) := by
  have hP : ∀ (r : Fin 272) (a : Fin 256), _ = ((if 256 * n + r < 8192 then I.dp 0 (256 * n + r) a else 0 : ℝ) : EReal) := fun r a =>
    (dp_end _ W (fun r b => if 256 * n + r < 8192 then I.dq 0 (256 * n + r) b else 0) (fun a b => I.wp 0 a b)
      (dq0 i n hi hn v11 v14 h11 h14 v53 hs) hW r a).trans (by
        congr 1
        split
        · rfl
        · exact Finset.sum_eq_zero fun b _ => zero_mul _)
  have hk : ∀ r : Fin 272, sitofp (F := Ideal) .f32 (minsi (addi (k0_pay29 i) (broadcast S272x1 1#32)) (broadcast S272x1 2#32)) (ix2 r 0)
      = (Inputs.cnt 2 (256 * n + r) : EReal) := fun r => by
    pointwise [k0_pay29]
    rw [hi]
    exact count_row 2 n r _ rfl (by norm_num) hn (by omega)
  have s0 : ∀ (r : Fin 272) (c : Fin 256), r.val + 0 < 272 → divf _ (broadcastTo S272x256 (sitofp (F := Ideal) .f32 (minsi (addi (k0_pay29 i) (broadcast S272x1 1#32)) (broadcast S272x1 2#32))) broadcasts_S272x1_S272x256) (ix2 r c)
      = (up 1 (fun s => if 256 * n + s < 8192 then I.dp 0 (256 * n + s) c / Inputs.cnt 2 (256 * n + s) else 0) r : EReal) := fun r c _ =>
    (quot_end _ _ _ _ 2 n (by norm_num) hP hk r c)
  have s1 := roll_up 1 271#32 rfl (by norm_num) (by norm_num) (fun s c => if 256 * n + s < 8192 then I.dp 0 (256 * n + s) c / Inputs.cnt 2 (256 * n + s) else 0) _ 0 s0
  exact unpool_end (I.dp 0) n 2 (by norm_num) (by norm_num) hn _ _ (fun r c hr => s1 r c (by omega)) hP r c

include hi hn h11 h14 in
/-- The gradient of the columns of group 1. -/
theorem dzp1 (v53 : Vec Ideal S1x1x256 .f32) (hs : ∀ c : Fin 256, v53 (ix3 0 0 c) = (I.sc (256 * 1 + c) : EReal))
    (W : Vec Ideal S1x1x256x256 .bf16) (hW : ∀ a b : Fin 256, W (ix4 0 0 a b) = (I.wp 1 a b : EReal)) (r c : Fin 256) :
    k0_pay44 (F := Ideal) (k0_pay29 i) (k0_pay41 (k0_pay27 i v11 v14)) v53 W (ix2 r c) = (I.dzp 1 (256 * n + r) c : EReal) := by
  have hP : ∀ (r : Fin 272) (a : Fin 256), _ = ((if 256 * n + r < 8192 then I.dp 1 (256 * n + r) a else 0 : ℝ) : EReal) := fun r a =>
    (dp_end _ W (fun r b => if 256 * n + r < 8192 then I.dq 1 (256 * n + r) b else 0) (fun a b => I.wp 1 a b)
      (dq1 i n hi hn v11 v14 h11 h14 v53 hs) hW r a).trans (by
        congr 1
        split
        · rfl
        · exact Finset.sum_eq_zero fun b _ => zero_mul _)
  have hk : ∀ r : Fin 272, sitofp (F := Ideal) .f32 (minsi (addi (k0_pay29 i) (broadcast S272x1 1#32)) (broadcast S272x1 4#32)) (ix2 r 0)
      = (Inputs.cnt 4 (256 * n + r) : EReal) := fun r => by
    pointwise [k0_pay29]
    rw [hi]
    exact count_row 4 n r _ rfl (by norm_num) hn (by omega)
  have s0 : ∀ (r : Fin 272) (c : Fin 256), r.val + 0 < 272 → divf _ (broadcastTo S272x256 (sitofp (F := Ideal) .f32 (minsi (addi (k0_pay29 i) (broadcast S272x1 1#32)) (broadcast S272x1 4#32))) broadcasts_S272x1_S272x256) (ix2 r c)
      = (up 1 (fun s => if 256 * n + s < 8192 then I.dp 1 (256 * n + s) c / Inputs.cnt 4 (256 * n + s) else 0) r : EReal) := fun r c _ =>
    (quot_end _ _ _ _ 4 n (by norm_num) hP hk r c)
  have s1 := roll_up 1 271#32 rfl (by norm_num) (by norm_num) (fun s c => if 256 * n + s < 8192 then I.dp 1 (256 * n + s) c / Inputs.cnt 4 (256 * n + s) else 0) _ 0 s0
  have s2 := roll_up 2 270#32 rfl (by norm_num) (by norm_num) (fun s c => if 256 * n + s < 8192 then I.dp 1 (256 * n + s) c / Inputs.cnt 4 (256 * n + s) else 0) _ 1 s1
  exact unpool_end (I.dp 1) n 4 (by norm_num) (by norm_num) hn _ _ (fun r c hr => s2 r c (by omega)) hP r c

include hi hn h11 h14 in
/-- The gradient of the columns of group 2. -/
theorem dzp2 (v53 : Vec Ideal S1x1x256 .f32) (hs : ∀ c : Fin 256, v53 (ix3 0 0 c) = (I.sc (256 * 2 + c) : EReal))
    (W : Vec Ideal S1x1x256x256 .bf16) (hW : ∀ a b : Fin 256, W (ix4 0 0 a b) = (I.wp 2 a b : EReal)) (r c : Fin 256) :
    k0_pay51 (F := Ideal) (k0_pay29 i) (k0_pay48 (k0_pay27 i v11 v14) v53) W (ix2 r c) = (I.dzp 2 (256 * n + r) c : EReal) := by
  have hP : ∀ (r : Fin 272) (a : Fin 256), _ = ((if 256 * n + r < 8192 then I.dp 2 (256 * n + r) a else 0 : ℝ) : EReal) := fun r a =>
    (dp_end _ W (fun r b => if 256 * n + r < 8192 then I.dq 2 (256 * n + r) b else 0) (fun a b => I.wp 2 a b)
      (dq2 i n hi hn v11 v14 h11 h14 v53 hs) hW r a).trans (by
        congr 1
        split
        · rfl
        · exact Finset.sum_eq_zero fun b _ => zero_mul _)
  have hk : ∀ r : Fin 272, sitofp (F := Ideal) .f32 (minsi (addi (k0_pay29 i) (broadcast S272x1 1#32)) (broadcast S272x1 8#32)) (ix2 r 0)
      = (Inputs.cnt 8 (256 * n + r) : EReal) := fun r => by
    pointwise [k0_pay29]
    rw [hi]
    exact count_row 8 n r _ rfl (by norm_num) hn (by omega)
  have s0 : ∀ (r : Fin 272) (c : Fin 256), r.val + 0 < 272 → divf _ (broadcastTo S272x256 (sitofp (F := Ideal) .f32 (minsi (addi (k0_pay29 i) (broadcast S272x1 1#32)) (broadcast S272x1 8#32))) broadcasts_S272x1_S272x256) (ix2 r c)
      = (up 1 (fun s => if 256 * n + s < 8192 then I.dp 2 (256 * n + s) c / Inputs.cnt 8 (256 * n + s) else 0) r : EReal) := fun r c _ =>
    (quot_end _ _ _ _ 8 n (by norm_num) hP hk r c)
  have s1 := roll_up 1 271#32 rfl (by norm_num) (by norm_num) (fun s c => if 256 * n + s < 8192 then I.dp 2 (256 * n + s) c / Inputs.cnt 8 (256 * n + s) else 0) _ 0 s0
  have s2 := roll_up 2 270#32 rfl (by norm_num) (by norm_num) (fun s c => if 256 * n + s < 8192 then I.dp 2 (256 * n + s) c / Inputs.cnt 8 (256 * n + s) else 0) _ 1 s1
  have s3 := roll_up 4 268#32 rfl (by norm_num) (by norm_num) (fun s c => if 256 * n + s < 8192 then I.dp 2 (256 * n + s) c / Inputs.cnt 8 (256 * n + s) else 0) _ 3 s2
  exact unpool_end (I.dp 2) n 8 (by norm_num) (by norm_num) hn _ _ (fun r c hr => s3 r c (by omega)) hP r c

include hi hn h11 h14 in
/-- The gradient of the columns of group 3. -/
theorem dzp3 (v53 : Vec Ideal S1x1x256 .f32) (hs : ∀ c : Fin 256, v53 (ix3 0 0 c) = (I.sc (256 * 3 + c) : EReal))
    (W : Vec Ideal S1x1x256x256 .bf16) (hW : ∀ a b : Fin 256, W (ix4 0 0 a b) = (I.wp 3 a b : EReal)) (r c : Fin 256) :
    k0_pay59 (F := Ideal) (k0_pay29 i) (k0_pay58 (k0_pay27 i v11 v14) v53 W) (ix2 r c) = (I.dzp 3 (256 * n + r) c : EReal) := by
  have hP : ∀ (r : Fin 272) (a : Fin 256), _ = ((if 256 * n + r < 8192 then I.dp 3 (256 * n + r) a else 0 : ℝ) : EReal) := fun r a =>
    (dp_end _ W (fun r b => if 256 * n + r < 8192 then I.dq 3 (256 * n + r) b else 0) (fun a b => I.wp 3 a b)
      (dq3 i n hi hn v11 v14 h11 h14 v53 hs) hW r a).trans (by
        congr 1
        split
        · rfl
        · exact Finset.sum_eq_zero fun b _ => zero_mul _)
  have hk : ∀ r : Fin 272, sitofp (F := Ideal) .f32 (minsi (addi (k0_pay29 i) (broadcast S272x1 1#32)) (broadcast S272x1 16#32)) (ix2 r 0)
      = (Inputs.cnt 16 (256 * n + r) : EReal) := fun r => by
    pointwise [k0_pay29]
    rw [hi]
    exact count_row 16 n r _ rfl (by norm_num) hn (by omega)
  have s0 : ∀ (r : Fin 272) (c : Fin 256), r.val + 0 < 272 → divf _ (broadcastTo S272x256 (sitofp (F := Ideal) .f32 (minsi (addi (k0_pay29 i) (broadcast S272x1 1#32)) (broadcast S272x1 16#32))) broadcasts_S272x1_S272x256) (ix2 r c)
      = (up 1 (fun s => if 256 * n + s < 8192 then I.dp 3 (256 * n + s) c / Inputs.cnt 16 (256 * n + s) else 0) r : EReal) := fun r c _ =>
    (quot_end _ _ _ _ 16 n (by norm_num) hP hk r c)
  have s1 := roll_up 1 271#32 rfl (by norm_num) (by norm_num) (fun s c => if 256 * n + s < 8192 then I.dp 3 (256 * n + s) c / Inputs.cnt 16 (256 * n + s) else 0) _ 0 s0
  have s2 := roll_up 2 270#32 rfl (by norm_num) (by norm_num) (fun s c => if 256 * n + s < 8192 then I.dp 3 (256 * n + s) c / Inputs.cnt 16 (256 * n + s) else 0) _ 1 s1
  have s3 := roll_up 4 268#32 rfl (by norm_num) (by norm_num) (fun s c => if 256 * n + s < 8192 then I.dp 3 (256 * n + s) c / Inputs.cnt 16 (256 * n + s) else 0) _ 3 s2
  have s4 := roll_up 8 264#32 rfl (by norm_num) (by norm_num) (fun s c => if 256 * n + s < 8192 then I.dp 3 (256 * n + s) c / Inputs.cnt 16 (256 * n + s) else 0) _ 7 s3
  exact unpool_end (I.dp 3) n 16 (by norm_num) (by norm_num) hn _ _ (fun r c hr => s4 r c (by omega)) hP r c

end Cert.KernelIdeal.Mix
-- ==== Proof.KernBlocks.lean ====
module

public import proofs.«01_k».proof.Proof.KernTiles
public import proofs.«01_k».proof.Proof.KernGroups
public import proofs.«01_k».proof.Proof.Gen.KernelIdeal.Value
public import Idealize.ShloMosaic.Lib.Pipeline.ValueKit

/-!
What the blocks hold that a point of the grid reads, and what the point makes of them.
-/

@[expose] public section

set_option maxRecDepth 16384

noncomputable section

namespace Cert.KernelIdeal.Mix

open Idealize.ShloMosaic Idealize.ShloMosaic.TcCoe Idealize.SL.Sem
open Cert.KernelIdeal Cert.KernelIdeal.Gen
open Mixer

variable (m : (ℓ : Loc nD τ sig) → Buf (Elt Idealize.ShloMosaic.Ideal) ℓ) (c : Dev nD) (I : Inputs)

/-- The blocks of the thirteen inputs at every point of the grid, as real numbers. -/
structure Blocks : Prop where
  b0 : ∀ (t : Fin cfg0.N) (r : Fin 256) (b : Fin 1024), iblk m c 0 t (ix2 r b) = (I.da (256 * t.val + r) b : EReal)
  b1 : ∀ t : Fin cfg0.N, t.val < 31 → ∀ (r : Fin 16) (b : Fin 1024), iblk m c 1 t (ix2 r b) = (I.da (256 * t.val + 256 + r) b : EReal)
  b2 : ∀ (t : Fin cfg0.N) (r : Fin 256) (b : Fin 1024), iblk m c 2 t (ix2 r b) = (I.ds (256 * t.val + r) b : EReal)
  b3 : ∀ (t : Fin cfg0.N) (r : Fin 256) (b : Fin 1024), iblk m c 3 t (ix2 r b) = (I.z (256 * t.val + r) b : EReal)
  b4 : ∀ t : Fin cfg0.N, 0 < t.val → ∀ (r : Fin 16) (b : Fin 1024), iblk m c 4 t (ix2 r b) = (I.z (256 * t.val - 16 + r) b : EReal)
  b5 : ∀ (t : Fin cfg0.N) (r : Fin 256) (b : Fin 1024), iblk m c 5 t (ix2 r b) = (I.z (256 * t.val + r) (1024 + b) : EReal)
  b6 : ∀ (t : Fin cfg0.N) (r : Fin 256) (b : Fin 1024), iblk m c 6 t (ix2 r b) = (I.z (256 * t.val + r) (2048 + b) : EReal)
  b7 : ∀ (t : Fin cfg0.N) (g : Fin 4) (a b : Fin 256), iblk m c 7 t (ix4 0 g a b) = (I.wp g a b : EReal)
  b8 : ∀ (t : Fin cfg0.N) (b : Fin 1024), iblk m c 8 t (ix3 0 0 b) = (I.sc b : EReal)
  b9 : ∀ (t : Fin cfg0.N) (b : Fin 1024), iblk m c 9 t (ix3 0 0 b) = (I.gn b : EReal)
  b10 : ∀ (t : Fin cfg0.N) (h : Fin 8) (a b : Fin 128), iblk m c 10 t (ix4 0 h a b) = (I.wm h a b : EReal)
  b11 : ∀ (t : Fin cfg0.N) (h : Fin 8) (a b : Fin 128), iblk m c 11 t (ix4 0 h a b) = (I.wm h b a : EReal)
  b12 : ∀ (t : Fin cfg0.N) (a : Fin 128) (h : Fin 8), iblk m c 12 t (ix3 0 a h) = (I.bs h a : EReal)

theorem lt32 (t : Fin cfg0.N) : t.val < 32 := t.isLt
theorem coord (t : Fin cfg0.N) : (grid0.coords t 0).val = t.val := (by decide +kernel : ∀ t : Fin grid0.N, (grid0.coords t 0).val = t.val) t

/-- The sums of a block of rows add up to the sum over all rows. -/
theorem sum_rows (f : ℕ → ℝ) (N : ℕ) :
    ∑ k ∈ Finset.range N, ∑ r : Fin 256, f (256 * k + r) = ∑ t ∈ Finset.range (256 * N), f t := by
  induction N with
  | zero => simp
  | succ N ih =>
    rw [Finset.sum_range_succ, ih, Nat.mul_succ, Finset.sum_range_add]
    congr 1

theorem sum_all (f : ℕ → ℝ) : ∑ k ∈ Finset.range 32, ∑ r : Fin 256, f (256 * k + r) = ∑ t : Fin 8192, f t := by
  rw [sum_rows, ← Finset.sum_range]

/-! ### Loads of a part of a block -/

theorem ld_read_all {sig' : RefSig} {k : Kind} {sp : Space} {s : Shape} {e : EltTy} {Val : EltTy → Type} (M : Memref sig' k sp s e) (hM : M.IsWhole)
    (X : s.Idx → Val e) {off : Fin s.rank → ℕ} (inb : ∀ a, off a + s.size a ≤ s.size a) (h : ∀ a, off a = 0) :
    View.ld (View.read Val M.view (hM.unread X)) (Rect.unit off s.size inb) = X := by
  rw [hM.read_unread]
  exact View.ld_unit_lit inb X h

variable {m c I}

section

variable (H : Blocks m c I) (t : Fin cfg0.N)
include H

theorem ld7 {g : ℕ} (hg : g < 4) (inb) (a b : Fin 256) :
    View.ld (iblk m c 7 t) (Rect.unit ![0, g, 0, 0] ![1, 1, 256, 256] inb) (ix4 0 0 a b) = (I.wp g a b : EReal) :=
  (View.ld_unit_apply_of (iblk m c 7 t) ![0, g, 0, 0] ![1, 1, 256, 256] inb (ix4 0 0 a b) (ix4 0 ⟨g, hg⟩ a b) (by intro x; fin_cases x <;> simp)).trans (H.b7 t ⟨g, hg⟩ a b)

theorem ld8 {o : ℕ} (ho : o + 256 ≤ 1024) (inb) (b : Fin 256) :
    View.ld (iblk m c 8 t) (Rect.unit ![0, 0, o] ![1, 1, 256] inb) (ix3 0 0 b) = (I.sc (o + b) : EReal) :=
  (View.ld_unit_apply_of (iblk m c 8 t) ![0, 0, o] ![1, 1, 256] inb (ix3 0 0 b) (ix3 0 0 ⟨o + b, by omega⟩) (by intro x; fin_cases x <;> simp)).trans (H.b8 t _)

theorem ld10 {h : ℕ} (hh : h < 8) (inb) (a b : Fin 128) :
    View.ld (iblk m c 10 t) (Rect.unit ![0, h, 0, 0] ![1, 1, 128, 128] inb) (ix4 0 0 a b) = (I.wm h a b : EReal) :=
  (View.ld_unit_apply_of (iblk m c 10 t) ![0, h, 0, 0] ![1, 1, 128, 128] inb (ix4 0 0 a b) (ix4 0 ⟨h, hh⟩ a b) (by intro x; fin_cases x <;> simp)).trans (H.b10 t ⟨h, hh⟩ a b)

theorem ld11 {h : ℕ} (hh : h < 8) (inb) (a b : Fin 128) :
    View.ld (iblk m c 11 t) (Rect.unit ![0, h, 0, 0] ![1, 1, 128, 128] inb) (ix4 0 0 a b) = (I.wm h b a : EReal) :=
  (View.ld_unit_apply_of (iblk m c 11 t) ![0, h, 0, 0] ![1, 1, 128, 128] inb (ix4 0 0 a b) (ix4 0 ⟨h, hh⟩ a b) (by intro x; fin_cases x <;> simp)).trans (H.b11 t ⟨h, hh⟩ a b)

theorem ld12 {h : ℕ} (hh : h < 8) (inb) (a : Fin 128) :
    View.ld (iblk m c 12 t) (Rect.unit ![0, 0, h] ![1, 128, 1] inb) (ix3 0 a 0) = (I.bs h a : EReal) :=
  (View.ld_unit_apply_of (iblk m c 12 t) ![0, 0, h] ![1, 128, 1] inb (ix3 0 a 0) (ix3 0 a ⟨h, hh⟩) (by intro x; fin_cases x <;> simp)).trans (H.b12 t a ⟨h, hh⟩)

theorem da_cols (o : ℕ) (hs : S256x1024.Slices ![0, o] S256x256) (r j : Fin 256) :
    extractStridedSlice S256x256 ![0, o] (extf (F := Idealize.ShloMosaic.Ideal) .f32 (iblk m c 0 t) bitsLt_bf16_f32) hs (ix2 r j) = (I.da (256 * t.val + r) (o + j) : EReal) := by
  have ho : o + 256 ≤ 1024 := hs.2 1
  have e : extractStridedSlice S256x256 ![0, o] (extf (F := Idealize.ShloMosaic.Ideal) .f32 (iblk m c 0 t) bitsLt_bf16_f32) hs (ix2 r j) = iblk m c 0 t (ix2 r ⟨o + j, by omega⟩) := by
    pointwise
  rw [e]
  exact H.b0 t r _

theorem rd0 (inb) (r : Fin 256) (b : Fin 1024) : View.ld (View.read (Elt Idealize.ShloMosaic.Ideal) (ms0_0 t).view ((hs0_0 t).unread (iblk m c 0 t)))
    (Rect.unit ![0, 0] ![256, 1024] inb) (ix2 r b) = (I.da (256 * t.val + r) b : EReal) :=
  (congrFun (ld_read_all (ms0_0 t) (hs0_0 t) (iblk m c 0 t) inb (by decide)) (ix2 r b)).trans (H.b0 t r b)

theorem rd1 (ht : t.val < 31) (inb) (r : Fin 16) (b : Fin 1024) : View.ld (View.read (Elt Idealize.ShloMosaic.Ideal) (ms0_1 t).view ((hs0_1 t).unread (iblk m c 1 t)))
    (Rect.unit ![0, 0] ![16, 1024] inb) (ix2 r b) = (I.da (256 * t.val + 256 + r) b : EReal) :=
  (congrFun (ld_read_all (ms0_1 t) (hs0_1 t) (iblk m c 1 t) inb (by decide)) (ix2 r b)).trans (H.b1 t ht r b)

theorem rd3 (inb) (r : Fin 256) (b : Fin 1024) : View.ld (View.read (Elt Idealize.ShloMosaic.Ideal) (ms0_3 t).view ((hs0_3 t).unread (iblk m c 3 t)))
    (Rect.unit ![0, 0] ![256, 1024] inb) (ix2 r b) = (I.z (256 * t.val + r) b : EReal) :=
  (congrFun (ld_read_all (ms0_3 t) (hs0_3 t) (iblk m c 3 t) inb (by decide)) (ix2 r b)).trans (H.b3 t r b)

theorem rd4 (ht : 0 < t.val) (inb) (r : Fin 16) (b : Fin 1024) : View.ld (View.read (Elt Idealize.ShloMosaic.Ideal) (ms0_4 t).view ((hs0_4 t).unread (iblk m c 4 t)))
    (Rect.unit ![0, 0] ![16, 1024] inb) (ix2 r b) = (I.z (256 * t.val - 16 + r) b : EReal) :=
  (congrFun (ld_read_all (ms0_4 t) (hs0_4 t) (iblk m c 4 t) inb (by decide)) (ix2 r b)).trans (H.b4 t ht r b)

end

end Cert.KernelIdeal.Mix
-- ==== Proof.KernScale.lean ====
module

public import proofs.«01_k».proof.Proof.KernBlocks
public import proofs.«01_k».proof.Proof.Gen.KernelIdeal.Value
public import Idealize.ShloMosaic.Lib.Pipeline.ValueKit

/-!
The gradient of the scale, point by point.
-/

@[expose] public section

set_option maxRecDepth 16384

noncomputable section

namespace Cert.KernelIdeal.Mix

open Idealize.ShloMosaic Idealize.ShloMosaic.TcCoe Idealize.SL.Sem
open Cert.KernelIdeal Cert.KernelIdeal.Gen
open Mixer

variable {m : (ℓ : Loc nD τ sig) → Buf (Elt Idealize.ShloMosaic.Ideal) ℓ} {c : Dev nD} {I : Inputs} (H : Blocks m c I)

/-- Point `k`'s part of the gradient of the scale. -/
def dscPart (I : Inputs) (g b k : ℕ) : ℝ := ∑ r : Fin 256, I.da (256 * k + r) (256 * g + b) * I.q g (256 * k + r) b

/-- What the buffer holds after the points up to `n`. -/
def dscSum (I : Inputs) (n : ℕ) (r b : ℕ) : ℝ := if r = 0 then ∑ k ∈ Finset.range (n + 1), dscPart I (b / 256) (b % 256) k else 0

theorem dsc_next (I : Inputs) (n : ℕ) (hn : 0 < n) (g : ℕ) {r r' b b' : ℕ} (j : Fin 256) (hr : r = 0) (hr' : r' = 0)
    (hb : b = 256 * g + j) (hb' : b' = 256 * g + j) :
    (dscSum I (n - 1) r' b' : EReal) + (dscPart I g j n : EReal) = (dscSum I n r b : EReal) := by
  have e : b / 256 = g := by omega
  have e' : b % 256 = j := by omega
  rw [hb', ← hb, ← EReal.coe_add, dscSum, dscSum, if_pos hr, if_pos hr', e, e', show n - 1 + 1 = n by omega, Finset.sum_range_succ]

theorem dsc_first (I : Inputs) (n : ℕ) (hn : n = 0) (g : ℕ) {r b : ℕ} (j : Fin 256) (hr : r = 0) (hb : b = 256 * g + j) {a : EReal} (ha : a = 0) :
    a + (dscPart I g j n : EReal) = (dscSum I n r b : EReal) := by
  have e : b / 256 = g := by omega
  have e' : b % 256 = j := by omega
  subst hn
  rw [ha, zero_add, dscSum, if_pos hr, e, e', Finset.sum_range_one]

theorem zero_word : (FloatOps.ofBits .f32 0x00000000#32 : Idealize.ShloMosaic.Ideal .f32) = (((0 : ℝ)) : EReal) := by
  simp [Ideal.ofBits_def, Ideal.ofBits, Ideal.ieee]

include H

set_option maxHeartbeats 1000000 in
/-- A later point adds its part. -/
theorem sc_next (t : Fin cfg0.N) (h0 : ¬ t.val % 32 = 0)
    (ih : ∀ (r : Fin 8) (b : Fin 1024), (outsAt0 m c (t.val - 1) (Nat.lt_of_le_of_lt (Nat.sub_le _ _) t.isLt)).2.2.1 (ix2 r b) = (dscSum I (t.val - 1) r b : EReal))
    (r : Fin 8) (b : Fin 1024) : (outsAt0 m c t.val t.isLt).2.2.1 (ix2 r b) = (dscSum I t.val r b : EReal) := by
  have hp : 0 < t.val := by have := lt32 t; omega
  by_cases h1 : t.val % 32 = 31
  · rw [outsAt0_C m c t h0 h1]
    frame_out
    generalize (outsAt0 m c (t.val - 1) (Nat.lt_of_le_of_lt (Nat.sub_le _ _) t.isLt)).2.2.1 = A at ih ⊢
    refine read_step2 _ _ (fun i j hr hb => ?_) fun n3 => read_step2 _ _ (fun i j hr hb => ?_) fun n2 =>
      read_step2 _ _ (fun i j hr hb => ?_) fun n1 => read_step2 _ _ (fun i j hr hb => ?_) fun n0 => ?_
    · obtain rfl : i = 0 := Subsingleton.elim _ _
      refine (dsc_end _ _ _ _ (fun r j => I.da (256 * t.val + r) (256 * 3 + j)) (fun r a => I.pooled 3 (256 * t.val + r) a) (I.wp 3) ?_ ?_ ?_ j).trans ?_
      · exact da_cols H t _ _
      · exact fun r a => pooled3 _ _ (coord t) (lt32 t) _ _ _ (rd3 H t _) (H.b3 t) (fun h => rd4 H t h _) r a
      · exact ld7 H t (by decide) _
      · rw [ld2 A 0 j (by decide) (by omega), ih]
        exact dsc_next I t.val hp 3 j hr rfl hb rfl
    · obtain rfl : i = 0 := Subsingleton.elim _ _
      refine (dsc_end _ _ _ _ (fun r j => I.da (256 * t.val + r) (256 * 2 + j)) (fun r a => I.pooled 2 (256 * t.val + r) a) (I.wp 2) ?_ ?_ ?_ j).trans ?_
      · exact da_cols H t _ _
      · exact fun r a => pooled2 _ _ (coord t) (lt32 t) _ _ _ (rd3 H t _) (H.b3 t) (fun h => rd4 H t h _) r a
      · exact ld7 H t (by decide) _
      · rw [ld2 A 0 j (by decide) (by omega), ih]
        exact dsc_next I t.val hp 2 j hr rfl hb rfl
    · obtain rfl : i = 0 := Subsingleton.elim _ _
      refine (dsc_end _ _ _ _ (fun r j => I.da (256 * t.val + r) (256 * 1 + j)) (fun r a => I.pooled 1 (256 * t.val + r) a) (I.wp 1) ?_ ?_ ?_ j).trans ?_
      · exact da_cols H t _ _
      · exact fun r a => pooled1 _ _ (coord t) (lt32 t) _ _ _ (rd3 H t _) (H.b3 t) (fun h => rd4 H t h _) r a
      · exact ld7 H t (by decide) _
      · rw [ld2 A 0 j (by decide) (by omega), ih]
        exact dsc_next I t.val hp 1 j hr rfl hb rfl
    · obtain rfl : i = 0 := Subsingleton.elim _ _
      refine (dsc_end _ _ _ _ (fun r j => I.da (256 * t.val + r) (256 * 0 + j)) (fun r a => I.pooled 0 (256 * t.val + r) a) (I.wp 0) ?_ ?_ ?_ j).trans ?_
      · exact da_cols H t _ _
      · exact fun r a => pooled0 _ _ (coord t) (lt32 t) _ _ _ (rd3 H t _) (H.b3 t) (fun h => rd4 H t h _) r a
      · exact ld7 H t (by decide) _
      · rw [ld2 A 0 j (by decide) (by omega), ih]
        exact dsc_next I t.val hp 0 j hr rfl hb rfl
    · have hr : r.val ≠ 0 := by omega
      rw [View.writes_nil, (hs0_15 t).read_unread, ih, dscSum, dscSum, if_neg hr, if_neg hr]
  · rw [outsAt0_B m c t h0 h1]
    frame_out
    generalize (outsAt0 m c (t.val - 1) (Nat.lt_of_le_of_lt (Nat.sub_le _ _) t.isLt)).2.2.1 = A at ih ⊢
    refine read_step2 _ _ (fun i j hr hb => ?_) fun n3 => read_step2 _ _ (fun i j hr hb => ?_) fun n2 =>
      read_step2 _ _ (fun i j hr hb => ?_) fun n1 => read_step2 _ _ (fun i j hr hb => ?_) fun n0 => ?_
    · obtain rfl : i = 0 := Subsingleton.elim _ _
      refine (dsc_end _ _ _ _ (fun r j => I.da (256 * t.val + r) (256 * 3 + j)) (fun r a => I.pooled 3 (256 * t.val + r) a) (I.wp 3) ?_ ?_ ?_ j).trans ?_
      · exact da_cols H t _ _
      · exact fun r a => pooled3 _ _ (coord t) (lt32 t) _ _ _ (rd3 H t _) (H.b3 t) (fun h => rd4 H t h _) r a
      · exact ld7 H t (by decide) _
      · rw [ld2 A 0 j (by decide) (by omega), ih]
        exact dsc_next I t.val hp 3 j hr rfl hb rfl
    · obtain rfl : i = 0 := Subsingleton.elim _ _
      refine (dsc_end _ _ _ _ (fun r j => I.da (256 * t.val + r) (256 * 2 + j)) (fun r a => I.pooled 2 (256 * t.val + r) a) (I.wp 2) ?_ ?_ ?_ j).trans ?_
      · exact da_cols H t _ _
      · exact fun r a => pooled2 _ _ (coord t) (lt32 t) _ _ _ (rd3 H t _) (H.b3 t) (fun h => rd4 H t h _) r a
      · exact ld7 H t (by decide) _
      · rw [ld2 A 0 j (by decide) (by omega), ih]
        exact dsc_next I t.val hp 2 j hr rfl hb rfl
    · obtain rfl : i = 0 := Subsingleton.elim _ _
      refine (dsc_end _ _ _ _ (fun r j => I.da (256 * t.val + r) (256 * 1 + j)) (fun r a => I.pooled 1 (256 * t.val + r) a) (I.wp 1) ?_ ?_ ?_ j).trans ?_
      · exact da_cols H t _ _
      · exact fun r a => pooled1 _ _ (coord t) (lt32 t) _ _ _ (rd3 H t _) (H.b3 t) (fun h => rd4 H t h _) r a
      · exact ld7 H t (by decide) _
      · rw [ld2 A 0 j (by decide) (by omega), ih]
        exact dsc_next I t.val hp 1 j hr rfl hb rfl
    · obtain rfl : i = 0 := Subsingleton.elim _ _
      refine (dsc_end _ _ _ _ (fun r j => I.da (256 * t.val + r) (256 * 0 + j)) (fun r a => I.pooled 0 (256 * t.val + r) a) (I.wp 0) ?_ ?_ ?_ j).trans ?_
      · exact da_cols H t _ _
      · exact fun r a => pooled0 _ _ (coord t) (lt32 t) _ _ _ (rd3 H t _) (H.b3 t) (fun h => rd4 H t h _) r a
      · exact ld7 H t (by decide) _
      · rw [ld2 A 0 j (by decide) (by omega), ih]
        exact dsc_next I t.val hp 0 j hr rfl hb rfl
    · have hr : r.val ≠ 0 := by omega
      rw [View.writes_nil, (hs0_15 t).read_unread, ih, dscSum, dscSum, if_neg hr, if_neg hr]

set_option maxHeartbeats 1000000 in
/-- The first point starts from nothing. -/
theorem sc_first (t : Fin cfg0.N) (h0 : t.val % 32 = 0)
    (r : Fin 8) (b : Fin 1024) : (outsAt0 m c t.val t.isLt).2.2.1 (ix2 r b) = (dscSum I t.val r b : EReal) := by
  have hp : t.val = 0 := by have := lt32 t; omega
  rw [outsAt0_A m c t h0 (by omega)]
  frame_out
  refine canon_step2 (fun i j hr hb => ?_) fun n3 => canon_step2 (fun i j hr hb => ?_) fun n2 =>
    canon_step2 (fun i j hr hb => ?_) fun n1 => canon_step2 (fun i j hr hb => ?_) fun n0 => canon_step2 (fun i j hr hb => ?_) fun n => ?_
  · obtain rfl : i = 0 := Subsingleton.elim _ _
    refine (dsc_end _ _ _ _ (fun r j => I.da (256 * t.val + r) (256 * 3 + j)) (fun r a => I.pooled 3 (256 * t.val + r) a) (I.wp 3) ?_ ?_ ?_ j).trans ?_
    · exact da_cols H t _ _
    · exact fun r a => pooled3 _ _ (coord t) (lt32 t) _ _ _ (rd3 H t _) (H.b3 t) (fun h => rd4 H t h _) r a
    · exact ld7 H t (by decide) _
    · refine dsc_first I t.val hp 3 j hr hb ?_
      refine readCov2 _ 0 j r b hr hb ?_
      refine canon_step2 (fun i' j' hr' hb' => absurd hb' (by omega)) fun _ => ?_
      refine canon_step2 (fun i' j' hr' hb' => absurd hb' (by omega)) fun _ => ?_
      refine canon_step2 (fun i' j' hr' hb' => absurd hb' (by omega)) fun _ => ?_
      exact canon_step2 (fun _ _ _ _ => zero_word) (fun h => absurd h (by simp))
  · obtain rfl : i = 0 := Subsingleton.elim _ _
    refine (dsc_end _ _ _ _ (fun r j => I.da (256 * t.val + r) (256 * 2 + j)) (fun r a => I.pooled 2 (256 * t.val + r) a) (I.wp 2) ?_ ?_ ?_ j).trans ?_
    · exact da_cols H t _ _
    · exact fun r a => pooled2 _ _ (coord t) (lt32 t) _ _ _ (rd3 H t _) (H.b3 t) (fun h => rd4 H t h _) r a
    · exact ld7 H t (by decide) _
    · refine dsc_first I t.val hp 2 j hr hb ?_
      refine readCov2 _ 0 j r b hr hb ?_
      refine canon_step2 (fun i' j' hr' hb' => absurd hb' (by omega)) fun _ => ?_
      refine canon_step2 (fun i' j' hr' hb' => absurd hb' (by omega)) fun _ => ?_
      exact canon_step2 (fun _ _ _ _ => zero_word) (fun h => absurd h (by simp))
  · obtain rfl : i = 0 := Subsingleton.elim _ _
    refine (dsc_end _ _ _ _ (fun r j => I.da (256 * t.val + r) (256 * 1 + j)) (fun r a => I.pooled 1 (256 * t.val + r) a) (I.wp 1) ?_ ?_ ?_ j).trans ?_
    · exact da_cols H t _ _
    · exact fun r a => pooled1 _ _ (coord t) (lt32 t) _ _ _ (rd3 H t _) (H.b3 t) (fun h => rd4 H t h _) r a
    · exact ld7 H t (by decide) _
    · refine dsc_first I t.val hp 1 j hr hb ?_
      refine readCov2 _ 0 j r b hr hb ?_
      refine canon_step2 (fun i' j' hr' hb' => absurd hb' (by omega)) fun _ => ?_
      exact canon_step2 (fun _ _ _ _ => zero_word) (fun h => absurd h (by simp))
  · obtain rfl : i = 0 := Subsingleton.elim _ _
    refine (dsc_end _ _ _ _ (fun r j => I.da (256 * t.val + r) (256 * 0 + j)) (fun r a => I.pooled 0 (256 * t.val + r) a) (I.wp 0) ?_ ?_ ?_ j).trans ?_
    · exact da_cols H t _ _
    · exact fun r a => pooled0 _ _ (coord t) (lt32 t) _ _ _ (rd3 H t _) (H.b3 t) (fun h => rd4 H t h _) r a
    · exact ld7 H t (by decide) _
    · refine dsc_first I t.val hp 0 j hr hb ?_
      refine readCov2 _ 0 j r b hr hb ?_
      exact canon_step2 (fun _ _ _ _ => zero_word) (fun h => absurd h (by simp))
  · have hr' : r.val ≠ 0 := by omega
    rw [dscSum, if_neg hr']
    exact zero_word
  · omega

/-- What the buffer of the scale's gradient holds after every point. -/
theorem sc_all : ∀ (n : ℕ) (hn : n < cfg0.N) (r : Fin 8) (b : Fin 1024), (outsAt0 m c n hn).2.2.1 (ix2 r b) = (dscSum I n r b : EReal)
  | 0, hn => fun r b => sc_first H ⟨0, hn⟩ rfl r b
  | n + 1, hn => fun r b => sc_next H ⟨n + 1, hn⟩ (by have : n + 1 < 32 := hn; show ¬ (n + 1) % 32 = 0; omega)
      (fun r b => sc_all n (Nat.lt_of_succ_lt hn) r b) r b

end Cert.KernelIdeal.Mix
-- ==== Proof.KernDz.lean ====
module

public import proofs.«01_k».proof.Proof.KernScale
public import proofs.«01_k».proof.Proof.Gen.KernelIdeal.Value
public import Idealize.ShloMosaic.Lib.Pipeline.ValueKit

/-!
The block of the gradient of `z` that a point writes.
-/

@[expose] public section

set_option maxRecDepth 16384

noncomputable section

namespace Cert.KernelIdeal.Mix

open Idealize.ShloMosaic Idealize.ShloMosaic.TcCoe Idealize.SL.Sem
open Cert.KernelIdeal Cert.KernelIdeal.Gen
open Mixer

variable {m : (ℓ : Loc nD τ sig) → Buf (Elt Idealize.ShloMosaic.Ideal) ℓ} {c : Dev nD} {I : Inputs} (H : Blocks m c I)

/-- The gradient of `z` at a row and one of its first three thousand and seventy-two columns. -/
def dzK (I : Inputs) (t b : ℕ) : ℝ :=
  if b < 1024 then I.dzp (b / 256) t (b % 256) else if b < 2048 then I.dzu t (b - 1024) else I.dzv t (b - 2048)

theorem dz_pool (I : Inputs) {n r b : ℕ} (g : ℕ) (hg : g < 4) {i j : Fin 256} (hr : r = 0 + i) (hb : b = 256 * g + j) :
    (I.dzp g (256 * n + i) j : EReal) = (dzK I (256 * n + r) b : EReal) := by
  have e : b / 256 = g := by omega
  have e' : b % 256 = j := by omega
  rw [hr, Nat.zero_add, dzK, if_pos (show b < 1024 by omega), e, e']

include H

theorem VN_eq (t : Fin cfg0.N) : ∀ (r : Fin 256) (b : Fin 1024),
    k0_pay69 (k0_pay61 (iblk m c 6 t)) (k0_pay63 (iblk m c 9 t)) (k0_pay65 (iblk m c 6 t)) (ix2 r b) = (I.vn (256 * t.val + r) b : EReal) :=
  e69 t.val _ _ (H.b6 t) (H.b9 t)

theorem DM_eq (t : Fin cfg0.N) : ∀ (r : Fin 256) (b : Fin 1024),
    k0_pay71 (k0_pay62 (iblk m c 2 t)) (k0_pay64 (iblk m c 5 t)) (ix2 r b) = (I.dmix (256 * t.val + r) b : EReal) :=
  e71 t.val _ _ (H.b5 t) (H.b2 t)

set_option maxHeartbeats 1000000 in
/-- The block the first point leaves. -/
theorem dz_A (t : Fin cfg0.N) (h0 : t.val % 32 = 0) (r : Fin 256) (b : Fin 3072) : (outsAt0 m c t.val t.isLt).1 (ix2 r b) = (dzK I (256 * t.val + r) b : EReal) := by
  rw [outsAt0_A m c t h0 (by omega)]
  frame_out
  refine canon_step2 (fun i j hr hb => ?_) fun n5 => canon_step2 (fun i j hr hb => ?_) fun n4 =>
    canon_step2 (fun i j hr hb => ?_) fun n3 => canon_step2 (fun i j hr hb => ?_) fun n2 =>
    canon_step2 (fun i j hr hb => ?_) fun n1 => canon_step2 (fun i j hr hb => ?_) fun n0 => ?_
  · have e := e138 t.val _ _ (H.b6 t) (H.b9 t)
    generalize hX : View.readCov (Val := Elt Idealize.ShloMosaic.Ideal) (View.whole cc0_scratch1) _ _ = X
    refine (e X (fun r b => (congrFun hX.symm _).trans ?_) i j).trans ?_
    · clear e hX X
      refine readCov2 _ r b r b (Nat.zero_add _).symm (Nat.zero_add _).symm ?_
      have hk : 8 * (r.val / 128) + b.val / 128 < 16 := by omega
      iterate 16
        refine tile_step hk (fun i j hr hb => ?_) (by decide) (by decide) (by decide) fun hk => ?_
        · try unfold k0_pay134
          refine dvn_tile t.val _ (DM_eq H t) (by decide) (by decide) _ _ ?_ i j hr hb
          exact fun s t' => ld11 H t (by decide) _ s t'
      exact absurd hk (Nat.not_lt_zero _)
    · rw [hr, hb, dzK, if_neg (by omega), if_neg (by omega), Nat.add_sub_cancel_left, Nat.zero_add]
  · have e := e135 t.val _ _ (H.b5 t) (H.b2 t)
    generalize hX : View.readCov (Val := Elt Idealize.ShloMosaic.Ideal) (View.whole cc0_scratch0) _ _ = X
    refine (e X (fun r b => (congrFun hX.symm _).trans ?_) i j).trans ?_
    · clear e hX X
      refine readCov2 _ r b r b (Nat.zero_add _).symm (Nat.zero_add _).symm ?_
      have hk : 8 * (r.val / 128) + b.val / 128 < 16 := by omega
      iterate 16
        refine tile_step hk (fun i j hr hb => ?_) (by decide) (by decide) (by decide) fun hk => ?_
        · refine mixed_tile t.val _ (VN_eq H t) (by decide) (by decide) _ _ ?_ _ ?_ i j hr hb
          · exact fun t' s => ld10 H t (by decide) _ t' s
          · exact fun t' => ld12 H t (by decide) _ t'
      exact absurd hk (Nat.not_lt_zero _)
    · rw [hr, hb, dzK, if_neg (by omega), if_pos (by omega), Nat.add_sub_cancel_left, Nat.zero_add]
  · refine (dzp3 _ _ (coord t) (lt32 t) _ _ (rd0 H t _) (fun h => rd1 H t h _) _ (fun b => ld8 H t (by decide) _ b) _ (fun a b => ld7 H t (by decide) _ a b) i j).trans ?_
    exact dz_pool I 3 (by decide) hr hb
  · refine (dzp2 _ _ (coord t) (lt32 t) _ _ (rd0 H t _) (fun h => rd1 H t h _) _ (fun b => ld8 H t (by decide) _ b) _ (fun a b => ld7 H t (by decide) _ a b) i j).trans ?_
    exact dz_pool I 2 (by decide) hr hb
  · refine (dzp1 _ _ (coord t) (lt32 t) _ _ (rd0 H t _) (fun h => rd1 H t h _) _ (fun b => ld8 H t (by decide) _ b) _ (fun a b => ld7 H t (by decide) _ a b) i j).trans ?_
    exact dz_pool I 1 (by decide) hr hb
  · refine (dzp0 _ _ (coord t) (lt32 t) _ _ (rd0 H t _) (fun h => rd1 H t h _) _ (fun b => ld8 H t (by decide) _ b) _ (fun a b => ld7 H t (by decide) _ a b) i j).trans ?_
    exact dz_pool I 0 (by decide) hr hb
  · omega

set_option maxHeartbeats 1000000 in
/-- The block a point between leaves. -/
theorem dz_B (t : Fin cfg0.N) (h0 : ¬ t.val % 32 = 0) (h1 : ¬ t.val % 32 = 31) (r : Fin 256) (b : Fin 3072) : (outsAt0 m c t.val t.isLt).1 (ix2 r b) = (dzK I (256 * t.val + r) b : EReal) := by
  rw [outsAt0_B m c t h0 h1]
  frame_out
  refine canon_step2 (fun i j hr hb => ?_) fun n5 => canon_step2 (fun i j hr hb => ?_) fun n4 =>
    canon_step2 (fun i j hr hb => ?_) fun n3 => canon_step2 (fun i j hr hb => ?_) fun n2 =>
    canon_step2 (fun i j hr hb => ?_) fun n1 => canon_step2 (fun i j hr hb => ?_) fun n0 => ?_
  · have e := e138 t.val _ _ (H.b6 t) (H.b9 t)
    generalize hX : View.readCov (Val := Elt Idealize.ShloMosaic.Ideal) (View.whole cc0_scratch1) _ _ = X
    refine (e X (fun r b => (congrFun hX.symm _).trans ?_) i j).trans ?_
    · clear e hX X
      refine readCov2 _ r b r b (Nat.zero_add _).symm (Nat.zero_add _).symm ?_
      have hk : 8 * (r.val / 128) + b.val / 128 < 16 := by omega
      iterate 16
        refine tile_step hk (fun i j hr hb => ?_) (by decide) (by decide) (by decide) fun hk => ?_
        · try unfold k0_pay134
          refine dvn_tile t.val _ (DM_eq H t) (by decide) (by decide) _ _ ?_ i j hr hb
          exact fun s t' => ld11 H t (by decide) _ s t'
      exact absurd hk (Nat.not_lt_zero _)
    · rw [hr, hb, dzK, if_neg (by omega), if_neg (by omega), Nat.add_sub_cancel_left, Nat.zero_add]
  · have e := e135 t.val _ _ (H.b5 t) (H.b2 t)
    generalize hX : View.readCov (Val := Elt Idealize.ShloMosaic.Ideal) (View.whole cc0_scratch0) _ _ = X
    refine (e X (fun r b => (congrFun hX.symm _).trans ?_) i j).trans ?_
    · clear e hX X
      refine readCov2 _ r b r b (Nat.zero_add _).symm (Nat.zero_add _).symm ?_
      have hk : 8 * (r.val / 128) + b.val / 128 < 16 := by omega
      iterate 16
        refine tile_step hk (fun i j hr hb => ?_) (by decide) (by decide) (by decide) fun hk => ?_
        · refine mixed_tile t.val _ (VN_eq H t) (by decide) (by decide) _ _ ?_ _ ?_ i j hr hb
          · exact fun t' s => ld10 H t (by decide) _ t' s
          · exact fun t' => ld12 H t (by decide) _ t'
      exact absurd hk (Nat.not_lt_zero _)
    · rw [hr, hb, dzK, if_neg (by omega), if_pos (by omega), Nat.add_sub_cancel_left, Nat.zero_add]
  · refine (dzp3 _ _ (coord t) (lt32 t) _ _ (rd0 H t _) (fun h => rd1 H t h _) _ (fun b => ld8 H t (by decide) _ b) _ (fun a b => ld7 H t (by decide) _ a b) i j).trans ?_
    exact dz_pool I 3 (by decide) hr hb
  · refine (dzp2 _ _ (coord t) (lt32 t) _ _ (rd0 H t _) (fun h => rd1 H t h _) _ (fun b => ld8 H t (by decide) _ b) _ (fun a b => ld7 H t (by decide) _ a b) i j).trans ?_
    exact dz_pool I 2 (by decide) hr hb
  · refine (dzp1 _ _ (coord t) (lt32 t) _ _ (rd0 H t _) (fun h => rd1 H t h _) _ (fun b => ld8 H t (by decide) _ b) _ (fun a b => ld7 H t (by decide) _ a b) i j).trans ?_
    exact dz_pool I 1 (by decide) hr hb
  · refine (dzp0 _ _ (coord t) (lt32 t) _ _ (rd0 H t _) (fun h => rd1 H t h _) _ (fun b => ld8 H t (by decide) _ b) _ (fun a b => ld7 H t (by decide) _ a b) i j).trans ?_
    exact dz_pool I 0 (by decide) hr hb
  · omega

set_option maxHeartbeats 1000000 in
/-- The block the last point leaves. -/
theorem dz_C (t : Fin cfg0.N) (h0 : ¬ t.val % 32 = 0) (h1 : t.val % 32 = 31) (r : Fin 256) (b : Fin 3072) : (outsAt0 m c t.val t.isLt).1 (ix2 r b) = (dzK I (256 * t.val + r) b : EReal) := by
  rw [outsAt0_C m c t h0 h1]
  frame_out
  refine canon_step2 (fun i j hr hb => ?_) fun n5 => canon_step2 (fun i j hr hb => ?_) fun n4 =>
    canon_step2 (fun i j hr hb => ?_) fun n3 => canon_step2 (fun i j hr hb => ?_) fun n2 =>
    canon_step2 (fun i j hr hb => ?_) fun n1 => canon_step2 (fun i j hr hb => ?_) fun n0 => ?_
  · have e := e138 t.val _ _ (H.b6 t) (H.b9 t)
    generalize hX : View.readCov (Val := Elt Idealize.ShloMosaic.Ideal) (View.whole cc0_scratch1) _ _ = X
    refine (e X (fun r b => (congrFun hX.symm _).trans ?_) i j).trans ?_
    · clear e hX X
      refine readCov2 _ r b r b (Nat.zero_add _).symm (Nat.zero_add _).symm ?_
      have hk : 8 * (r.val / 128) + b.val / 128 < 16 := by omega
      iterate 16
        refine tile_step hk (fun i j hr hb => ?_) (by decide) (by decide) (by decide) fun hk => ?_
        · try unfold k0_pay134
          refine dvn_tile t.val _ (DM_eq H t) (by decide) (by decide) _ _ ?_ i j hr hb
          exact fun s t' => ld11 H t (by decide) _ s t'
      exact absurd hk (Nat.not_lt_zero _)
    · rw [hr, hb, dzK, if_neg (by omega), if_neg (by omega), Nat.add_sub_cancel_left, Nat.zero_add]
  · have e := e135 t.val _ _ (H.b5 t) (H.b2 t)
    generalize hX : View.readCov (Val := Elt Idealize.ShloMosaic.Ideal) (View.whole cc0_scratch0) _ _ = X
    refine (e X (fun r b => (congrFun hX.symm _).trans ?_) i j).trans ?_
    · clear e hX X
      refine readCov2 _ r b r b (Nat.zero_add _).symm (Nat.zero_add _).symm ?_
      have hk : 8 * (r.val / 128) + b.val / 128 < 16 := by omega
      iterate 16
        refine tile_step hk (fun i j hr hb => ?_) (by decide) (by decide) (by decide) fun hk => ?_
        · refine mixed_tile t.val _ (VN_eq H t) (by decide) (by decide) _ _ ?_ _ ?_ i j hr hb
          · exact fun t' s => ld10 H t (by decide) _ t' s
          · exact fun t' => ld12 H t (by decide) _ t'
      exact absurd hk (Nat.not_lt_zero _)
    · rw [hr, hb, dzK, if_neg (by omega), if_pos (by omega), Nat.add_sub_cancel_left, Nat.zero_add]
  · refine (dzp3 _ _ (coord t) (lt32 t) _ _ (rd0 H t _) (fun h => rd1 H t h _) _ (fun b => ld8 H t (by decide) _ b) _ (fun a b => ld7 H t (by decide) _ a b) i j).trans ?_
    exact dz_pool I 3 (by decide) hr hb
  · refine (dzp2 _ _ (coord t) (lt32 t) _ _ (rd0 H t _) (fun h => rd1 H t h _) _ (fun b => ld8 H t (by decide) _ b) _ (fun a b => ld7 H t (by decide) _ a b) i j).trans ?_
    exact dz_pool I 2 (by decide) hr hb
  · refine (dzp1 _ _ (coord t) (lt32 t) _ _ (rd0 H t _) (fun h => rd1 H t h _) _ (fun b => ld8 H t (by decide) _ b) _ (fun a b => ld7 H t (by decide) _ a b) i j).trans ?_
    exact dz_pool I 1 (by decide) hr hb
  · refine (dzp0 _ _ (coord t) (lt32 t) _ _ (rd0 H t _) (fun h => rd1 H t h _) _ (fun b => ld8 H t (by decide) _ b) _ (fun a b => ld7 H t (by decide) _ a b) i j).trans ?_
    exact dz_pool I 0 (by decide) hr hb
  · omega

/-- The block every point leaves. -/
theorem dz_blk (t : Fin cfg0.N) (r : Fin 256) (b : Fin 3072) : (outsAt0 m c t.val t.isLt).1 (ix2 r b) = (dzK I (256 * t.val + r) b : EReal) := by
  by_cases h0 : t.val % 32 = 0
  · exact dz_A H t h0 r b
  · by_cases h1 : t.val % 32 = 31
    · exact dz_C H t h0 h1 r b
    · exact dz_B H t h0 h1 r b

end Cert.KernelIdeal.Mix
-- ==== Proof.KernGain.lean ====
module

public import proofs.«01_k».proof.Proof.KernDz
public import proofs.«01_k».proof.Proof.Gen.KernelIdeal.Value
public import Idealize.ShloMosaic.Lib.Pipeline.ValueKit

/-!
The gradient of the gain and of the bias, point by point.
-/

@[expose] public section

set_option maxRecDepth 16384

noncomputable section

namespace Cert.KernelIdeal.Mix

open Idealize.ShloMosaic Idealize.ShloMosaic.TcCoe Idealize.SL.Sem
open Cert.KernelIdeal Cert.KernelIdeal.Gen
open Mixer

variable {m : (ℓ : Loc nD τ sig) → Buf (Elt Idealize.ShloMosaic.Ideal) ℓ} {c : Dev nD} {I : Inputs} (H : Blocks m c I)

/-- Point `k`'s part of the gradient of the gain. -/
def dgsPart (I : Inputs) (b k : ℕ) : ℝ := ∑ r : Fin 256, I.dvn' (256 * k + r) b * I.vh (256 * k + r) b

/-- What the buffer holds after the points up to `n`. -/
def dgsSum (I : Inputs) (n r b : ℕ) : ℝ := if r = 0 then ∑ k ∈ Finset.range (n + 1), dgsPart I b k else 0

theorem dgs_next (I : Inputs) (n : ℕ) (hn : 0 < n) {r r' b b' : ℕ} (j : ℕ) (hr : r = 0) (hr' : r' = 0) (hb : b = 0 + j) (hb' : b' = 0 + j) :
    (dgsSum I (n - 1) r' b' : EReal) + (dgsPart I j n : EReal) = (dgsSum I n r b : EReal) := by
  rw [hb', hb, Nat.zero_add, ← EReal.coe_add, dgsSum, dgsSum, if_pos hr, if_pos hr', show n - 1 + 1 = n by omega, Finset.sum_range_succ]

theorem dgs_first (I : Inputs) (n : ℕ) (hn : n = 0) {r b : ℕ} (j : ℕ) (hr : r = 0) (hb : b = 0 + j) {a : EReal} (ha : a = 0) :
    a + (dgsPart I j n : EReal) = (dgsSum I n r b : EReal) := by
  subst hn
  rw [hb, Nat.zero_add, ha, zero_add, dgsSum, if_pos hr, Finset.sum_range_one]

/-- Point `k`'s part of the gradient of the bias, before the lanes are summed. -/
def dbPart (I : Inputs) (a b k : ℕ) : ℝ := I.dmix (256 * k + a) b + I.dmix (256 * k + (128 + a)) b

/-- What the scratch of the bias holds after the points up to `n`. -/
def dbSum (I : Inputs) (n a b : ℕ) : ℝ := ∑ k ∈ Finset.range (n + 1), dbPart I a b k

/-- The two chunks of a block, added to what was there. -/
theorem db_end (I : Inputs) (n : ℕ) (u v : Vec Idealize.ShloMosaic.Ideal S256x1024 .bf16) (hu : ∀ (r : Fin 256) (b : Fin 1024), u (ix2 r b) = (I.z (256 * n + r) (1024 + b) : EReal))
    (hv : ∀ (r : Fin 256) (b : Fin 1024), v (ix2 r b) = (I.ds (256 * n + r) b : EReal)) (A : FVec Idealize.ShloMosaic.Ideal S128x1024 .f32) (a : Fin 128) (b : Fin 1024) :
    shapeCast S128x1024 (addf (k0_pay72 (k0_pay62 v) (k0_pay64 u) A)
      (extractStridedSlice S128x1024 ![128, 0] (k0_pay70 (k0_pay62 v) (k0_pay64 u)) slices_S256x1024_o128_0_S128x1024)) shapeCasts_S128x1024_S128x1024 (ix2 a b)
      = A (ix2 a b) + (dbPart I a b n : EReal) := by
  unfold k0_pay72
  have hT := e70 n u v hu hv
  generalize k0_pay70 (k0_pay62 v) (k0_pay64 u) = T at hT ⊢
  pointwise [hT]
  rw [dbPart, EReal.coe_add]
  exact add_assoc _ _ _

include H

set_option maxHeartbeats 1000000 in
theorem db_first (t : Fin cfg0.N) (h0 : t.val % 32 = 0) (a : Fin 128) (b : Fin 1024) :
    (outsAt0 m c t.val t.isLt).2.2.2.2.2.2 (ix2 a b) = (dbSum I t.val a b : EReal) := by
  have hp : t.val = 0 := by have := lt32 t; omega
  rw [outsAt0_A m c t h0 (by omega)]
  frame_out
  refine (db_end I t.val _ _ (H.b5 t) (H.b2 t) _ a b).trans ?_
  have hz : shapeCast S128x1024 (broadcast S128x1024 (FloatOps.ofBits (F := Idealize.ShloMosaic.Ideal) .f32 0x00000000#32)) shapeCasts_S128x1024_S128x1024 (ix2 a b) = (0 : EReal) := by
    pointwise
  refine (congrArg (· + _) hz).trans ?_
  rw [hp]
  show (0 : EReal) + _ = _
  rw [zero_add, dbSum, Finset.sum_range_one]

set_option maxHeartbeats 1000000 in
theorem db_next (t : Fin cfg0.N) (h0 : ¬ t.val % 32 = 0)
    (ih : ∀ (a : Fin 128) (b : Fin 1024), (outsAt0 m c (t.val - 1) (Nat.lt_of_le_of_lt (Nat.sub_le _ _) t.isLt)).2.2.2.2.2.2 (ix2 a b) = (dbSum I (t.val - 1) a b : EReal))
    (a : Fin 128) (b : Fin 1024) : (outsAt0 m c t.val t.isLt).2.2.2.2.2.2 (ix2 a b) = (dbSum I t.val a b : EReal) := by
  have hp : 0 < t.val := by have := lt32 t; omega
  by_cases h1 : t.val % 32 = 31
  on_goal 1 => rw [outsAt0_C m c t h0 h1]
  on_goal 2 => rw [outsAt0_B m c t h0 h1]
  all_goals
    frame_out
    refine (db_end I t.val _ _ (H.b5 t) (H.b2 t) _ a b).trans ?_
    rw [read_unread_whole, ih, ← EReal.coe_add, dbSum, dbSum, show t.val - 1 + 1 = t.val by omega, Finset.sum_range_succ]

/-- What the scratch of the bias holds after every point. -/
theorem db_all : ∀ (n : ℕ) (hn : n < cfg0.N) (a : Fin 128) (b : Fin 1024), (outsAt0 m c n hn).2.2.2.2.2.2 (ix2 a b) = (dbSum I n a b : EReal)
  | 0, hn => fun a b => db_first H ⟨0, hn⟩ rfl a b
  | n + 1, hn => fun a b => db_next H ⟨n + 1, hn⟩ (by have : n + 1 < 32 := hn; show ¬ (n + 1) % 32 = 0; omega)
      (fun a b => db_all n (Nat.lt_of_succ_lt hn) a b) a b

set_option maxHeartbeats 1000000 in
theorem gs_first (t : Fin cfg0.N) (h0 : t.val % 32 = 0) (r : Fin 8) (b : Fin 1024) :
    (outsAt0 m c t.val t.isLt).2.2.2.2.2.1 (ix2 r b) = (dgsSum I t.val r b : EReal) := by
  have hp : t.val = 0 := by have := lt32 t; omega
  rw [outsAt0_A m c t h0 (by omega)]
  frame_out
  refine canon_step2 (fun i j hr hb => ?_) fun n0 => canon_step2 (fun i j hr hb => ?_) fun n => ?_
  · obtain rfl : i = 0 := Subsingleton.elim _ _
    have e := e136 t.val _ (H.b6 t)
    generalize hX : View.readCov (Val := Elt Idealize.ShloMosaic.Ideal) (View.whole cc0_scratch1) _ _ = X
    refine (e X (fun r b => (congrFun hX.symm _).trans ?_) _ j).trans ?_
    · clear e hX X
      refine readCov2 _ r b r b (Nat.zero_add _).symm (Nat.zero_add _).symm ?_
      have hk : 8 * (r.val / 128) + b.val / 128 < 16 := by omega
      iterate 16
        refine tile_step hk (fun i j hr hb => ?_) (by decide) (by decide) (by decide) fun hk => ?_
        · try unfold k0_pay134
          refine dvn_tile t.val _ (DM_eq H t) (by decide) (by decide) _ _ ?_ i j hr hb
          exact fun s t' => ld11 H t (by decide) _ s t'
      exact absurd hk (Nat.not_lt_zero _)
    · exact dgs_first I t.val hp j hr hb (readCov2 _ 0 j r b hr hb (canon_step2 (fun _ _ _ _ => zero_word) (fun h => absurd h (by omega))))
  · have hr' : r.val ≠ 0 := by omega
    rw [dgsSum, if_neg hr']
    exact zero_word
  · omega

set_option maxHeartbeats 1000000 in
theorem gs_next (t : Fin cfg0.N) (h0 : ¬ t.val % 32 = 0)
    (ih : ∀ (r : Fin 8) (b : Fin 1024), (outsAt0 m c (t.val - 1) (Nat.lt_of_le_of_lt (Nat.sub_le _ _) t.isLt)).2.2.2.2.2.1 (ix2 r b) = (dgsSum I (t.val - 1) r b : EReal))
    (r : Fin 8) (b : Fin 1024) : (outsAt0 m c t.val t.isLt).2.2.2.2.2.1 (ix2 r b) = (dgsSum I t.val r b : EReal) := by
  have hp : 0 < t.val := by have := lt32 t; omega
  by_cases h1 : t.val % 32 = 31
  on_goal 1 => rw [outsAt0_C m c t h0 h1]
  on_goal 2 => rw [outsAt0_B m c t h0 h1]
  all_goals
    frame_out
    generalize (outsAt0 m c (t.val - 1) (Nat.lt_of_le_of_lt (Nat.sub_le _ _) t.isLt)).2.2.2.2.2.1 = A at ih ⊢
    refine read_step2 _ _ (fun i j hr hb => ?_) fun n0 => ?_
    · obtain rfl : i = 0 := Subsingleton.elim _ _
      have e := e136 t.val _ (H.b6 t)
      generalize hX : View.readCov (Val := Elt Idealize.ShloMosaic.Ideal) (View.whole cc0_scratch1) _ _ = X
      refine (e X (fun r b => (congrFun hX.symm _).trans ?_) _ j).trans ?_
      · clear e hX X
        refine readCov2 _ r b r b (Nat.zero_add _).symm (Nat.zero_add _).symm ?_
        have hk : 8 * (r.val / 128) + b.val / 128 < 16 := by omega
        iterate 16
          refine tile_step hk (fun i j hr hb => ?_) (by decide) (by decide) (by decide) fun hk => ?_
          · try unfold k0_pay134
            refine dvn_tile t.val _ (DM_eq H t) (by decide) (by decide) _ _ ?_ i j hr hb
            exact fun s t' => ld11 H t (by decide) _ s t'
        exact absurd hk (Nat.not_lt_zero _)
      · rw [ld2 A 0 j (by decide) (by omega), ih]
        exact dgs_next I t.val hp j hr rfl hb rfl
    · have hr : r.val ≠ 0 := by omega
      rw [View.writes_nil, (hs0_18 t).read_unread, ih, dgsSum, dgsSum, if_neg hr, if_neg hr]

/-- What the buffer of the gain's gradient holds after every point. -/
theorem gs_all : ∀ (n : ℕ) (hn : n < cfg0.N) (r : Fin 8) (b : Fin 1024), (outsAt0 m c n hn).2.2.2.2.2.1 (ix2 r b) = (dgsSum I n r b : EReal)
  | 0, hn => fun a b => gs_first H ⟨0, hn⟩ rfl a b
  | n + 1, hn => fun a b => gs_next H ⟨n + 1, hn⟩ (by have : n + 1 < 32 := hn; show ¬ (n + 1) % 32 = 0; omega)
      (fun a b => gs_all n (Nat.lt_of_succ_lt hn) a b) a b

end Cert.KernelIdeal.Mix
-- ==== Proof.KernBias.lean ====
module

public import proofs.«01_k».proof.Proof.KernGain
public import proofs.«01_k».proof.Proof.Gen.KernelIdeal.Value
public import Idealize.ShloMosaic.Lib.Pipeline.ValueKit

/-!
The gradient of the bias: the lanes summed at the last point.
-/

@[expose] public section

set_option maxRecDepth 16384

noncomputable section

namespace Cert.KernelIdeal.Mix

open Idealize.ShloMosaic Idealize.ShloMosaic.TcCoe Idealize.SL.Sem
open Cert.KernelIdeal Cert.KernelIdeal.Gen
open Mixer

variable {m : (ℓ : Loc nD τ sig) → Buf (Elt Idealize.ShloMosaic.Ideal) ℓ} {c : Dev nD} {I : Inputs} (H : Blocks m c I)

/-- The lanes of a head summed. -/
theorem row_sum (V : Vec Idealize.ShloMosaic.Ideal S128x128 .f32) (f : ℕ → ℝ) (a : Fin 128) (hV : ∀ b : Fin 128, V (ix2 a b) = (f b : EReal)) :
    shapeCast S128x1 (multiReduction (F := Idealize.ShloMosaic.Ideal) .add [1] S128 V 0x00000000#32 reduces_S128x128_S128 (.inl rfl) rfl) shapeCasts_S128_S128x1 (ix2 a 0)
      = ((∑ b : Fin 128, f b : ℝ) : EReal) := by
  pointwise [hV]
  simp only [coe_sum]

include H

set_option maxHeartbeats 1000000 in
theorem bs_last (t : Fin cfg0.N) (h0 : ¬ t.val % 32 = 0) (h1 : t.val % 32 = 31) (a : Fin 128) (h : Fin 8) :
    (outsAt0 m c t.val t.isLt).2.2.2.2.1 (ix2 a h) = ((∑ d : Fin 128, dbSum I t.val a (128 * h + d) : ℝ) : EReal) := by
  have hp : 0 < t.val := by omega
  have ih := db_all H (t.val - 1) (Nat.lt_of_le_of_lt (Nat.sub_le _ _) t.isLt)
  rw [outsAt0_C m c t h0 h1]
  frame_out
  generalize (outsAt0 m c (t.val - 1) (Nat.lt_of_le_of_lt (Nat.sub_le _ _) t.isLt)).2.2.2.2.2.2 = A at ih ⊢
  iterate 8
    refine canon_step2 (fun i j hr hb => ?_) fun _ => ?_
    · first | unfold k0_pay1 | unfold k0_pay17 | unfold k0_pay15 | unfold k0_pay13 | unfold k0_pay11 | unfold k0_pay9 | unfold k0_pay6 | unfold k0_pay4
      obtain rfl : a = i := Fin.ext (by omega)
      obtain rfl : j = 0 := Subsingleton.elim _ _
      refine row_sum _ (fun d => dbSum I t.val a (128 * h + d)) a fun d => ?_
      refine readCov2 _ a d a ⟨128 * h.val + d.val, by omega⟩ (Nat.zero_add _).symm (by simp at hb; simp [hb]) ?_
      refine canon_step2 (fun x y hx hy => ?_) fun hn => absurd hn (by simp; omega)
      refine (db_end I t.val _ _ (H.b5 t) (H.b2 t) _ x y).trans ?_
      have ex : x.val = a := by omega
      have ey : y.val = 128 * h + d := by simp at hy; omega
      rw [read_unread_whole, ih, ← EReal.coe_add, dbSum, dbSum, show t.val - 1 + 1 = t.val by omega, Finset.sum_range_succ, ex, ey]
  omega

end Cert.KernelIdeal.Mix
-- ==== Proof.KernWs.lean ====
module

public import proofs.«01_k».proof.Proof.KernBias
public import proofs.«01_k».proof.Proof.Gen.KernelIdeal.Value
public import Idealize.ShloMosaic.Lib.Pipeline.ValueKit

/-!
The gradient of the spatial weights, point by point.
-/

@[expose] public section

set_option maxRecDepth 16384

noncomputable section

namespace Cert.KernelIdeal.Mix

open Idealize.ShloMosaic Idealize.ShloMosaic.TcCoe Idealize.SL.Sem
open Cert.KernelIdeal Cert.KernelIdeal.Gen
open Mixer

variable {m : (ℓ : Loc nD τ sig) → Buf (Elt Idealize.ShloMosaic.Ideal) ℓ} {c : Dev nD} {I : Inputs} (H : Blocks m c I)

/-- One chunk's part of the gradient of the spatial weights. -/
def dwsChunk (I : Inputs) (h a b t : ℕ) : ℝ := ∑ d : Fin 128, I.dmix (t + a) (128 * h + d) * I.vn (t + b) (128 * h + d)

/-- Point `k`'s part. -/
def dwsPart (I : Inputs) (h a b k : ℕ) : ℝ := dwsChunk I h a b (256 * k) + dwsChunk I h a b (256 * k + 128)

/-- What the buffer holds after the points up to `n`, before the mask. -/
def dwsSum (I : Inputs) (n h a b : ℕ) : ℝ := ∑ k ∈ Finset.range (n + 1), dwsPart I h a b k

/-- The same after the first chunk of point `n`. -/
def dwsSum0 (I : Inputs) (n h a b : ℕ) : ℝ := ∑ k ∈ Finset.range n, dwsPart I h a b k + dwsChunk I h a b (256 * n)

theorem dwsSum_eq (I : Inputs) (n h a b : ℕ) : dwsSum I n h a b = dwsSum0 I n h a b + dwsChunk I h a b (256 * n + 128) := by
  rw [dwsSum, dwsSum0, Finset.sum_range_succ, dwsPart, add_assoc]

include H

/-- A chunk's part of a head, added to what was there. -/
theorem dws_here (t : Fin cfg0.N) {o1 o2 h : ℕ} (h2 : o2 = 128 * h) (hs hs' : S256x1024.Slices ![o1, o2] S128x128) (A : FVec Idealize.ShloMosaic.Ideal S1x128x128 .f32) (a b : Fin 128)
    {u : ℝ} (hA : A (ix3 0 a b) = (u : EReal)) :
    shapeCast S1x128x128 (addf (shapeCast S128x128 A shapeCasts_S1x128x128_S128x128)
      (matmul dot_S128x128_S128x128_S128x128_1_1_0_0_n_n none
        (extractStridedSlice S128x128 ![o1, o2] (k0_pay71 (k0_pay62 (iblk m c 2 t)) (k0_pay64 (iblk m c 5 t))) hs)
        (extractStridedSlice S128x128 ![o1, o2] (k0_pay69 (k0_pay61 (iblk m c 6 t)) (k0_pay63 (iblk m c 9 t)) (k0_pay65 (iblk m c 6 t))) hs')
        (constant S128x128 .f32 0x00000000#32))) shapeCasts_S128x128_S1x128x128 (ix3 0 a b)
      = ((u + dwsChunk I h a b (256 * t.val + o1) : ℝ) : EReal) := by
  subst h2
  rw [dws_tile t.val _ _ (VN_eq H t) (DM_eq H t), hA, EReal.coe_add, dwsChunk]
  simp only [Nat.add_assoc]

set_option maxHeartbeats 2000000 in
theorem ws_first (t : Fin cfg0.N) (h0 : t.val % 32 = 0)
    (h : Fin 8) (a b : Fin 128) :
    (outsAt0 m c t.val t.isLt).2.2.2.1 (ix3 h a b) = (dwsSum I t.val h a b : EReal) := by
  have hp : t.val = 0 := by have := lt32 t; omega
  rw [outsAt0_A m c t h0 (by omega)]
  frame_out
  iterate 8
    refine canon_step3 (fun x i j hq hr hb => ?_) fun _ => ?_
    · obtain rfl : x = 0 := Subsingleton.elim _ _
      obtain rfl : a = i := Fin.ext (by omega)
      obtain rfl : b = j := Fin.ext (by omega)
      try unfold k0_pay133
      refine (dws_here H t (h := h) (by omega) _ _ _ a b (u := dwsSum0 I t.val h a b) ?_).trans ?_
      · refine readCov3 _ 0 a b h a b hq (Nat.zero_add _).symm (Nat.zero_add _).symm ?_
        iterate 7
          refine canon_step3 (fun x i j hq hr hb => absurd hq (by omega)) fun _ => ?_
        refine canon_step3 (fun x i j hq hr hb => ?_) fun hn => absurd (by omega) hn
        obtain rfl : x = 0 := Subsingleton.elim _ _
        obtain rfl : a = i := Fin.ext (by omega)
        obtain rfl : b = j := Fin.ext (by omega)
        try unfold k0_pay74
        refine (dws_here H t (h := h) (by omega) _ _ _ a b (u := 0) ?_).trans ?_
        · refine readCov3 _ 0 a b h a b hq (Nat.zero_add _).symm (Nat.zero_add _).symm ?_
          repeat refine canon_step3 (fun x i j hq hr hb => absurd hq (by omega)) fun _ => ?_
          exact canon_step3 (fun _ _ _ _ _ _ => zero_word) fun hn => absurd (by omega) hn
        · rw [dwsSum0, hp]; simp
      · rw [dwsSum_eq]
  omega

set_option maxHeartbeats 2000000 in
theorem ws_mid (t : Fin cfg0.N) (h0 : ¬ t.val % 32 = 0) (h1 : ¬ t.val % 32 = 31)
    (ih : ∀ (h : Fin 8) (a b : Fin 128), (outsAt0 m c (t.val - 1) (Nat.lt_of_le_of_lt (Nat.sub_le _ _) t.isLt)).2.2.2.1 (ix3 h a b) = (dwsSum I (t.val - 1) h a b : EReal))
    (h : Fin 8) (a b : Fin 128) :
    (outsAt0 m c t.val t.isLt).2.2.2.1 (ix3 h a b) = (dwsSum I t.val h a b : EReal) := by
  have hp : 0 < t.val := by have := lt32 t; omega
  rw [outsAt0_B m c t h0 h1]
  frame_out
  generalize (outsAt0 m c (t.val - 1) (Nat.lt_of_le_of_lt (Nat.sub_le _ _) t.isLt)).2.2.2.1 = A at ih ⊢
  iterate 8
    refine canon_step3 (fun x i j hq hr hb => ?_) fun _ => ?_
    · obtain rfl : x = 0 := Subsingleton.elim _ _
      obtain rfl : a = i := Fin.ext (by omega)
      obtain rfl : b = j := Fin.ext (by omega)
      try unfold k0_pay133
      refine (dws_here H t (h := h) (by omega) _ _ _ a b (u := dwsSum0 I t.val h a b) ?_).trans ?_
      · refine readCov3 _ 0 a b h a b hq (Nat.zero_add _).symm (Nat.zero_add _).symm ?_
        iterate 7
          refine canon_step3 (fun x i j hq hr hb => absurd hq (by omega)) fun _ => ?_
        refine canon_step3 (fun x i j hq hr hb => ?_) fun hn => absurd (by omega) hn
        obtain rfl : x = 0 := Subsingleton.elim _ _
        obtain rfl : a = i := Fin.ext (by omega)
        obtain rfl : b = j := Fin.ext (by omega)
        try unfold k0_pay74
        refine (dws_here H t (h := h) (by omega) _ _ _ a b (u := dwsSum I (t.val - 1) h a b) ?_).trans ?_
        · refine (ld3 A 0 a b (by omega) (by omega) (by omega)).trans ?_
          rw [show (⟨_, _⟩ : Fin 8) = h from Fin.ext hq.symm, show (⟨0 + a.val, _⟩ : Fin 128) = a from Fin.ext (Nat.zero_add _), show (⟨0 + b.val, _⟩ : Fin 128) = b from Fin.ext (Nat.zero_add _)]
          exact ih h a b
        · rw [dwsSum0, dwsSum, show t.val - 1 + 1 = t.val by omega, Nat.add_zero]
      · rw [dwsSum_eq]
  omega

/-- What the buffer holds after every point but the last. -/
theorem ws_all : ∀ (n : ℕ) (hn : n < cfg0.N) (hl : n < 31) (h : Fin 8) (a b : Fin 128), (outsAt0 m c n hn).2.2.2.1 (ix3 h a b) = (dwsSum I n h a b : EReal)
  | 0, hn, _ => fun h a b => ws_first H ⟨0, hn⟩ rfl h a b
  | n + 1, hn, hl => fun h a b => ws_mid H ⟨n + 1, hn⟩ (by show ¬ (n + 1) % 32 = 0; omega) (by show ¬ (n + 1) % 32 = 31; omega)
      (fun h a b => ws_all n (Nat.lt_of_succ_lt hn) (by omega) h a b) h a b

end Cert.KernelIdeal.Mix
-- ==== Proof.KernWsLast.lean ====
module

public import proofs.«01_k».proof.Proof.KernWs
public import proofs.«01_k».proof.Proof.Gen.KernelIdeal.Value
public import Idealize.ShloMosaic.Lib.Pipeline.ValueKit

/-!
The mask the last point puts on the gradient of the spatial weights.
-/

@[expose] public section

set_option maxRecDepth 16384

noncomputable section

namespace Cert.KernelIdeal.Mix

open Idealize.ShloMosaic Idealize.ShloMosaic.TcCoe Idealize.SL.Sem
open Cert.KernelIdeal Cert.KernelIdeal.Gen
open Mixer

variable {m : (ℓ : Loc nD τ sig) → Buf (Elt Idealize.ShloMosaic.Ideal) ℓ} {c : Dev nD} {I : Inputs} (H : Blocks m c I)

/-- The mask of the last point: one on and below the diagonal. -/
theorem mask_val (a b : Fin 128) : k0_pay2 (F := Idealize.ShloMosaic.Ideal) (ix2 a b) = ((if b.val ≤ a.val then 1 else 0 : ℝ) : EReal) := by
  have h : ∀ a b : Fin 128, BitVec.setWidth 32 (IntOp.cmpi CmpIPredicate.sge (BitVec.ofNat 32 a.val) (BitVec.ofNat 32 b.val)) = if b.val ≤ a.val then 1#32 else 0#32 := by decide +kernel
  pointwise [k0_pay2, h]
  split
  · show (((1#32 : BitVec 32).toInt : ℝ) : EReal) = _
    norm_num
  · show (((0#32 : BitVec 32).toInt : ℝ) : EReal) = _
    norm_num

theorem mask_end (V : Vec Idealize.ShloMosaic.Ideal S1x128x128 .f32) {x : Fin 1} {i j : Fin 128} {a b : ℕ} {u : ℝ} (hr : a = 0 + i) (hb : b = 0 + j) (hV : V (ix3 x i j) = (u : EReal)) :
    shapeCast S1x128x128 (mulf (shapeCast S128x128 V shapeCasts_S1x128x128_S128x128) (k0_pay2 (F := Idealize.ShloMosaic.Ideal))) shapeCasts_S128x128_S1x128x128 (ix3 x i j)
      = ((u * if b ≤ a then 1 else 0 : ℝ) : EReal) := by
  obtain rfl : x = 0 := Subsingleton.elim _ _
  rw [hr, hb, Nat.zero_add, Nat.zero_add]
  have h := mask_val i j
  generalize k0_pay2 (F := Idealize.ShloMosaic.Ideal) = M at h ⊢
  pointwise [hV, h]
  rw [EReal.coe_mul]

theorem mask18 {V : Vec Idealize.ShloMosaic.Ideal S1x128x128 .f32} {x : Fin 1} {i j : Fin 128} {a b : ℕ} {u : ℝ} (hr : a = 0 + i) (hb : b = 0 + j) (hV : V (ix3 x i j) = (u : EReal)) :
    k0_pay18 k0_pay2 V (ix3 x i j) = ((u * if b ≤ a then 1 else 0 : ℝ) : EReal) := mask_end V hr hb hV

theorem mask16 {V : Vec Idealize.ShloMosaic.Ideal S1x128x128 .f32} {x : Fin 1} {i j : Fin 128} {a b : ℕ} {u : ℝ} (hr : a = 0 + i) (hb : b = 0 + j) (hV : V (ix3 x i j) = (u : EReal)) :
    k0_pay16 k0_pay2 V (ix3 x i j) = ((u * if b ≤ a then 1 else 0 : ℝ) : EReal) := mask_end V hr hb hV

theorem mask14 {V : Vec Idealize.ShloMosaic.Ideal S1x128x128 .f32} {x : Fin 1} {i j : Fin 128} {a b : ℕ} {u : ℝ} (hr : a = 0 + i) (hb : b = 0 + j) (hV : V (ix3 x i j) = (u : EReal)) :
    k0_pay14 k0_pay2 V (ix3 x i j) = ((u * if b ≤ a then 1 else 0 : ℝ) : EReal) := mask_end V hr hb hV

theorem mask12 {V : Vec Idealize.ShloMosaic.Ideal S1x128x128 .f32} {x : Fin 1} {i j : Fin 128} {a b : ℕ} {u : ℝ} (hr : a = 0 + i) (hb : b = 0 + j) (hV : V (ix3 x i j) = (u : EReal)) :
    k0_pay12 k0_pay2 V (ix3 x i j) = ((u * if b ≤ a then 1 else 0 : ℝ) : EReal) := mask_end V hr hb hV

theorem mask10 {V : Vec Idealize.ShloMosaic.Ideal S1x128x128 .f32} {x : Fin 1} {i j : Fin 128} {a b : ℕ} {u : ℝ} (hr : a = 0 + i) (hb : b = 0 + j) (hV : V (ix3 x i j) = (u : EReal)) :
    k0_pay10 k0_pay2 V (ix3 x i j) = ((u * if b ≤ a then 1 else 0 : ℝ) : EReal) := mask_end V hr hb hV

theorem mask8 {V : Vec Idealize.ShloMosaic.Ideal S1x128x128 .f32} {x : Fin 1} {i j : Fin 128} {a b : ℕ} {u : ℝ} (hr : a = 0 + i) (hb : b = 0 + j) (hV : V (ix3 x i j) = (u : EReal)) :
    k0_pay8 (k0_pay7 V) (ix3 x i j) = ((u * if b ≤ a then 1 else 0 : ℝ) : EReal) := mask_end V hr hb hV

theorem mask5 {V : Vec Idealize.ShloMosaic.Ideal S1x128x128 .f32} {x : Fin 1} {i j : Fin 128} {a b : ℕ} {u : ℝ} (hr : a = 0 + i) (hb : b = 0 + j) (hV : V (ix3 x i j) = (u : EReal)) :
    k0_pay5 V (ix3 x i j) = ((u * if b ≤ a then 1 else 0 : ℝ) : EReal) := mask_end V hr hb hV

theorem mask3 {V : Vec Idealize.ShloMosaic.Ideal S1x128x128 .f32} {x : Fin 1} {i j : Fin 128} {a b : ℕ} {u : ℝ} (hr : a = 0 + i) (hb : b = 0 + j) (hV : V (ix3 x i j) = (u : EReal)) :
    k0_pay3 V (ix3 x i j) = ((u * if b ≤ a then 1 else 0 : ℝ) : EReal) := mask_end V hr hb hV

theorem ws_prev {I : Inputs} {k : ℕ} (A : Vec Idealize.ShloMosaic.Ideal S8x128x128 .f32) (hA : ∀ (h : Fin 8) (a b : Fin 128), A (ix3 h a b) = (dwsSum I k h a b : EReal))
    {h : Fin 8} {a b i j : Fin 128} {o : ℕ} {inb} (hq : h.val = o + (0 : Fin 1).val) (hr : a.val = 0 + i) (hb : b.val = 0 + j) :
    View.ld A (Rect.unit (s := S8x128x128) ![o, 0, 0] ![1, 128, 128] inb) (ix3 0 i j) = (dwsSum I k h a b : EReal) := by
  refine (ld3 A 0 i j (by omega) (by omega) (by omega)).trans ?_
  rw [show (⟨_, _⟩ : Fin 8) = h from Fin.ext hq.symm, show (⟨0 + i.val, _⟩ : Fin 128) = a from Fin.ext hr.symm, show (⟨0 + j.val, _⟩ : Fin 128) = b from Fin.ext hb.symm]
  exact hA h a b

theorem ws_first_chunk {I : Inputs} {n h a b i j : ℕ} (hn : 0 < n) (hr : a = 0 + i) (hb : b = 0 + j) :
    dwsSum I (n - 1) h a b + dwsChunk I h i j (256 * n + 0) = dwsSum0 I n h a b := by
  rw [dwsSum0, dwsSum, show n - 1 + 1 = n by omega, Nat.add_zero, hr, hb, Nat.zero_add, Nat.zero_add]

theorem ws_second_chunk {I : Inputs} {n h a b i j : ℕ} (hr : a = 0 + i) (hb : b = 0 + j) :
    dwsSum0 I n h a b + dwsChunk I h i j (256 * n + 128) = dwsSum I n h a b := by
  rw [dwsSum_eq, hr, hb, Nat.zero_add, Nat.zero_add]

include H

set_option maxHeartbeats 2000000 in
theorem ws_last (t : Fin cfg0.N) (h0 : ¬ t.val % 32 = 0) (h1 : t.val % 32 = 31)
    (ih : ∀ (h : Fin 8) (a b : Fin 128), (outsAt0 m c (t.val - 1) (Nat.lt_of_le_of_lt (Nat.sub_le _ _) t.isLt)).2.2.2.1 (ix3 h a b) = (dwsSum I (t.val - 1) h a b : EReal))
    (h : Fin 8) (a b : Fin 128) :
    (outsAt0 m c t.val t.isLt).2.2.2.1 (ix3 h a b) = ((dwsSum I t.val h a b * if b.val ≤ a.val then 1 else 0 : ℝ) : EReal) := by
  have hp : 0 < t.val := by have := lt32 t; omega
  rw [outsAt0_C m c t h0 h1]
  frame_open
  simp (disch := decide) only [↓ View.readCov_skip, ↓ View.readCov_cons_toLoadRect, ↓ View.readCov_fill]
  frame_out
  generalize (outsAt0 m c (t.val - 1) (Nat.lt_of_le_of_lt (Nat.sub_le _ _) t.isLt)).2.2.2.1 = A at ih ⊢
  refine canon_step3 (fun x i j hq hr hb => ?_) fun _ => ?_
  · obtain rfl : x = 0 := Subsingleton.elim _ _
    refine mask18 hr hb ((dws_here H t (h := h) (by omega) _ _ _ i j (u := dwsSum0 I t.val h a b)
      ((dws_here H t (h := h) (by omega) _ _ _ i j (u := dwsSum I (t.val - 1) h a b) ?_).trans ?_)).trans ?_)
    · exact ws_prev A ih hq hr hb
    · rw [ws_first_chunk hp hr hb]
    · rw [ws_second_chunk hr hb]
  refine canon_step3 (fun x i j hq hr hb => ?_) fun _ => ?_
  · obtain rfl : x = 0 := Subsingleton.elim _ _
    refine mask16 hr hb ((dws_here H t (h := h) (by omega) _ _ _ i j (u := dwsSum0 I t.val h a b)
      ((dws_here H t (h := h) (by omega) _ _ _ i j (u := dwsSum I (t.val - 1) h a b) ?_).trans ?_)).trans ?_)
    · exact ws_prev A ih hq hr hb
    · rw [ws_first_chunk hp hr hb]
    · rw [ws_second_chunk hr hb]
  refine canon_step3 (fun x i j hq hr hb => ?_) fun _ => ?_
  · obtain rfl : x = 0 := Subsingleton.elim _ _
    refine mask14 hr hb ((dws_here H t (h := h) (by omega) _ _ _ i j (u := dwsSum0 I t.val h a b)
      ((dws_here H t (h := h) (by omega) _ _ _ i j (u := dwsSum I (t.val - 1) h a b) ?_).trans ?_)).trans ?_)
    · exact ws_prev A ih hq hr hb
    · rw [ws_first_chunk hp hr hb]
    · rw [ws_second_chunk hr hb]
  refine canon_step3 (fun x i j hq hr hb => ?_) fun _ => ?_
  · obtain rfl : x = 0 := Subsingleton.elim _ _
    refine mask12 hr hb ((dws_here H t (h := h) (by omega) _ _ _ i j (u := dwsSum0 I t.val h a b)
      ((dws_here H t (h := h) (by omega) _ _ _ i j (u := dwsSum I (t.val - 1) h a b) ?_).trans ?_)).trans ?_)
    · exact ws_prev A ih hq hr hb
    · rw [ws_first_chunk hp hr hb]
    · rw [ws_second_chunk hr hb]
  refine canon_step3 (fun x i j hq hr hb => ?_) fun _ => ?_
  · obtain rfl : x = 0 := Subsingleton.elim _ _
    refine mask10 hr hb ((dws_here H t (h := h) (by omega) _ _ _ i j (u := dwsSum0 I t.val h a b)
      ((dws_here H t (h := h) (by omega) _ _ _ i j (u := dwsSum I (t.val - 1) h a b) ?_).trans ?_)).trans ?_)
    · exact ws_prev A ih hq hr hb
    · rw [ws_first_chunk hp hr hb]
    · rw [ws_second_chunk hr hb]
  refine canon_step3 (fun x i j hq hr hb => ?_) fun _ => ?_
  · obtain rfl : x = 0 := Subsingleton.elim _ _
    refine mask8 hr hb ((dws_here H t (h := h) (by omega) _ _ _ i j (u := dwsSum0 I t.val h a b)
      ((dws_here H t (h := h) (by omega) _ _ _ i j (u := dwsSum I (t.val - 1) h a b) ?_).trans ?_)).trans ?_)
    · exact ws_prev A ih hq hr hb
    · rw [ws_first_chunk hp hr hb]
    · rw [ws_second_chunk hr hb]
  refine canon_step3 (fun x i j hq hr hb => ?_) fun _ => ?_
  · obtain rfl : x = 0 := Subsingleton.elim _ _
    refine mask5 hr hb ((dws_here H t (h := h) (by omega) _ _ _ i j (u := dwsSum0 I t.val h a b)
      ((dws_here H t (h := h) (by omega) _ _ _ i j (u := dwsSum I (t.val - 1) h a b) ?_).trans ?_)).trans ?_)
    · exact ws_prev A ih hq hr hb
    · rw [ws_first_chunk hp hr hb]
    · rw [ws_second_chunk hr hb]
  refine canon_step3 (fun x i j hq hr hb => ?_) fun _ => ?_
  · obtain rfl : x = 0 := Subsingleton.elim _ _
    refine mask3 hr hb ((dws_here H t (h := h) (by omega) _ _ _ i j (u := dwsSum0 I t.val h a b)
      ((dws_here H t (h := h) (by omega) _ _ _ i j (u := dwsSum I (t.val - 1) h a b) ?_).trans ?_)).trans ?_)
    · exact ws_prev A ih hq hr hb
    · rw [ws_first_chunk hp hr hb]
    · rw [ws_second_chunk hr hb]
  omega

end Cert.KernelIdeal.Mix
-- ==== Proof.KernMaps.lean ====
module

public import proofs.«01_k».proof.Proof.KernScale
public import proofs.«01_k».proof.Proof.Gen.KernelIdeal.Value
public import Idealize.ShloMosaic.Lib.Pipeline.ValueKit

/-!
The gradient of the four maps, point by point.
-/

@[expose] public section

set_option maxRecDepth 16384

noncomputable section

namespace Cert.KernelIdeal.Mix

open Idealize.ShloMosaic Idealize.ShloMosaic.TcCoe Idealize.SL.Sem
open Cert.KernelIdeal Cert.KernelIdeal.Gen
open Mixer

variable {m : (ℓ : Loc nD τ sig) → Buf (Elt Idealize.ShloMosaic.Ideal) ℓ} {c : Dev nD} {I : Inputs} (H : Blocks m c I)

/-- Point `k`'s part of the gradient of a map. -/
def dwpPart (I : Inputs) (g a b k : ℕ) : ℝ := ∑ r : Fin 256, I.pooled g (256 * k + r) a * I.dq g (256 * k + r) b

/-- What the buffer holds after the points up to `n`. -/
def dwpSum (I : Inputs) (n : ℕ) (g a b : ℕ) : ℝ := ∑ k ∈ Finset.range (n + 1), dwpPart I g a b k

theorem dwp_next (I : Inputs) (n : ℕ) (hn : 0 < n) (g : ℕ) {q q' r r' b b' : ℕ} (i j : Fin 256) (hq : q = g + (0 : Fin 1).val) (hq' : q' = g + (0 : Fin 1).val)
    (hr : r = 0 + i) (hr' : r' = i) (hb : b = 0 + j) (hb' : b' = j) :
    (dwpSum I (n - 1) q' r' b' : EReal) + (dwpPart I g i j n : EReal) = (dwpSum I n q r b : EReal) := by
  rw [Nat.zero_add] at hr hb
  rw [hq, hq', hr, hr', hb, hb', ← EReal.coe_add, dwpSum, dwpSum, show n - 1 + 1 = n by omega, Finset.sum_range_succ]
  rfl

theorem dwp_first (I : Inputs) (n : ℕ) (hn : n = 0) (g : ℕ) {q r b : ℕ} (i j : Fin 256) (hq : q = g + (0 : Fin 1).val)
    (hr : r = 0 + i) (hb : b = 0 + j) {a : EReal} (ha : a = 0) :
    a + (dwpPart I g i j n : EReal) = (dwpSum I n q r b : EReal) := by
  rw [Nat.zero_add] at hr hb
  subst hn
  rw [ha, zero_add, hq, hr, hb, dwpSum, Finset.sum_range_one]
  rfl

include H

set_option maxHeartbeats 1000000 in
/-- A later point adds its part. -/
theorem wp_next (t : Fin cfg0.N) (h0 : ¬ t.val % 32 = 0)
    (ih : ∀ (q : Fin 4) (r b : Fin 256), (outsAt0 m c (t.val - 1) (Nat.lt_of_le_of_lt (Nat.sub_le _ _) t.isLt)).2.1 (ix3 q r b) = (dwpSum I (t.val - 1) q r b : EReal))
    (q : Fin 4) (r b : Fin 256) : (outsAt0 m c t.val t.isLt).2.1 (ix3 q r b) = (dwpSum I t.val q r b : EReal) := by
  have hp : 0 < t.val := by have := lt32 t; omega
  by_cases h1 : t.val % 32 = 31
  · rw [outsAt0_C m c t h0 h1]
    frame_out
    generalize (outsAt0 m c (t.val - 1) (Nat.lt_of_le_of_lt (Nat.sub_le _ _) t.isLt)).2.1 = A at ih ⊢
    refine canon_step3 (fun x i j hq hr hb => ?_) fun n3 => canon_step3 (fun x i j hq hr hb => ?_) fun n2 =>
      canon_step3 (fun x i j hq hr hb => ?_) fun n1 => canon_step3 (fun x i j hq hr hb => ?_) fun n0 => ?_
    · obtain rfl : x = 0 := Subsingleton.elim _ _
      refine (dwp_end _ _ _ (fun r a => I.pooled 3 (256 * t.val + r) a) (fun r a => I.dq 3 (256 * t.val + r) a) ?_ ?_ i j).trans ?_
      · exact fun r a => pooled3 _ _ (coord t) (lt32 t) _ _ _ (rd3 H t _) (H.b3 t) (fun h => rd4 H t h _) r a
      · exact fun r a hr => (dq3 _ _ (coord t) (lt32 t) _ _ (rd0 H t _) (fun h => rd1 H t h _) _ (fun b => ld8 H t (by decide) _ b) r a).trans
          (by rw [if_pos (show 256 * t.val + r.val < 8192 by have := lt32 t; omega)])
      · rw [ld3 A 0 i j (by decide) (by omega) (by omega), ih]
        exact dwp_next I t.val hp 3 i j hq rfl hr (Nat.zero_add _) hb (Nat.zero_add _)
    · obtain rfl : x = 0 := Subsingleton.elim _ _
      refine (dwp_end _ _ _ (fun r a => I.pooled 2 (256 * t.val + r) a) (fun r a => I.dq 2 (256 * t.val + r) a) ?_ ?_ i j).trans ?_
      · exact fun r a => pooled2 _ _ (coord t) (lt32 t) _ _ _ (rd3 H t _) (H.b3 t) (fun h => rd4 H t h _) r a
      · exact fun r a hr => (dq2 _ _ (coord t) (lt32 t) _ _ (rd0 H t _) (fun h => rd1 H t h _) _ (fun b => ld8 H t (by decide) _ b) r a).trans
          (by rw [if_pos (show 256 * t.val + r.val < 8192 by have := lt32 t; omega)])
      · rw [ld3 A 0 i j (by decide) (by omega) (by omega), ih]
        exact dwp_next I t.val hp 2 i j hq rfl hr (Nat.zero_add _) hb (Nat.zero_add _)
    · obtain rfl : x = 0 := Subsingleton.elim _ _
      refine (dwp_end _ _ _ (fun r a => I.pooled 1 (256 * t.val + r) a) (fun r a => I.dq 1 (256 * t.val + r) a) ?_ ?_ i j).trans ?_
      · exact fun r a => pooled1 _ _ (coord t) (lt32 t) _ _ _ (rd3 H t _) (H.b3 t) (fun h => rd4 H t h _) r a
      · exact fun r a hr => (dq1 _ _ (coord t) (lt32 t) _ _ (rd0 H t _) (fun h => rd1 H t h _) _ (fun b => ld8 H t (by decide) _ b) r a).trans
          (by rw [if_pos (show 256 * t.val + r.val < 8192 by have := lt32 t; omega)])
      · rw [ld3 A 0 i j (by decide) (by omega) (by omega), ih]
        exact dwp_next I t.val hp 1 i j hq rfl hr (Nat.zero_add _) hb (Nat.zero_add _)
    · obtain rfl : x = 0 := Subsingleton.elim _ _
      refine (dwp_end _ _ _ (fun r a => I.pooled 0 (256 * t.val + r) a) (fun r a => I.dq 0 (256 * t.val + r) a) ?_ ?_ i j).trans ?_
      · exact fun r a => pooled0 _ _ (coord t) (lt32 t) _ _ _ (rd3 H t _) (H.b3 t) (fun h => rd4 H t h _) r a
      · exact fun r a hr => (dq0 _ _ (coord t) (lt32 t) _ _ (rd0 H t _) (fun h => rd1 H t h _) _ (fun b => ld8 H t (by decide) _ b) r a).trans
          (by rw [if_pos (show 256 * t.val + r.val < 8192 by have := lt32 t; omega)])
      · rw [ld3 A 0 i j (by decide) (by omega) (by omega), ih]
        exact dwp_next I t.val hp 0 i j hq rfl hr (Nat.zero_add _) hb (Nat.zero_add _)
    · omega
  · rw [outsAt0_B m c t h0 h1]
    frame_out
    generalize (outsAt0 m c (t.val - 1) (Nat.lt_of_le_of_lt (Nat.sub_le _ _) t.isLt)).2.1 = A at ih ⊢
    refine canon_step3 (fun x i j hq hr hb => ?_) fun n3 => canon_step3 (fun x i j hq hr hb => ?_) fun n2 =>
      canon_step3 (fun x i j hq hr hb => ?_) fun n1 => canon_step3 (fun x i j hq hr hb => ?_) fun n0 => ?_
    · obtain rfl : x = 0 := Subsingleton.elim _ _
      refine (dwp_end _ _ _ (fun r a => I.pooled 3 (256 * t.val + r) a) (fun r a => I.dq 3 (256 * t.val + r) a) ?_ ?_ i j).trans ?_
      · exact fun r a => pooled3 _ _ (coord t) (lt32 t) _ _ _ (rd3 H t _) (H.b3 t) (fun h => rd4 H t h _) r a
      · exact fun r a hr => (dq3 _ _ (coord t) (lt32 t) _ _ (rd0 H t _) (fun h => rd1 H t h _) _ (fun b => ld8 H t (by decide) _ b) r a).trans
          (by rw [if_pos (show 256 * t.val + r.val < 8192 by have := lt32 t; omega)])
      · rw [ld3 A 0 i j (by decide) (by omega) (by omega), ih]
        exact dwp_next I t.val hp 3 i j hq rfl hr (Nat.zero_add _) hb (Nat.zero_add _)
    · obtain rfl : x = 0 := Subsingleton.elim _ _
      refine (dwp_end _ _ _ (fun r a => I.pooled 2 (256 * t.val + r) a) (fun r a => I.dq 2 (256 * t.val + r) a) ?_ ?_ i j).trans ?_
      · exact fun r a => pooled2 _ _ (coord t) (lt32 t) _ _ _ (rd3 H t _) (H.b3 t) (fun h => rd4 H t h _) r a
      · exact fun r a hr => (dq2 _ _ (coord t) (lt32 t) _ _ (rd0 H t _) (fun h => rd1 H t h _) _ (fun b => ld8 H t (by decide) _ b) r a).trans
          (by rw [if_pos (show 256 * t.val + r.val < 8192 by have := lt32 t; omega)])
      · rw [ld3 A 0 i j (by decide) (by omega) (by omega), ih]
        exact dwp_next I t.val hp 2 i j hq rfl hr (Nat.zero_add _) hb (Nat.zero_add _)
    · obtain rfl : x = 0 := Subsingleton.elim _ _
      refine (dwp_end _ _ _ (fun r a => I.pooled 1 (256 * t.val + r) a) (fun r a => I.dq 1 (256 * t.val + r) a) ?_ ?_ i j).trans ?_
      · exact fun r a => pooled1 _ _ (coord t) (lt32 t) _ _ _ (rd3 H t _) (H.b3 t) (fun h => rd4 H t h _) r a
      · exact fun r a hr => (dq1 _ _ (coord t) (lt32 t) _ _ (rd0 H t _) (fun h => rd1 H t h _) _ (fun b => ld8 H t (by decide) _ b) r a).trans
          (by rw [if_pos (show 256 * t.val + r.val < 8192 by have := lt32 t; omega)])
      · rw [ld3 A 0 i j (by decide) (by omega) (by omega), ih]
        exact dwp_next I t.val hp 1 i j hq rfl hr (Nat.zero_add _) hb (Nat.zero_add _)
    · obtain rfl : x = 0 := Subsingleton.elim _ _
      refine (dwp_end _ _ _ (fun r a => I.pooled 0 (256 * t.val + r) a) (fun r a => I.dq 0 (256 * t.val + r) a) ?_ ?_ i j).trans ?_
      · exact fun r a => pooled0 _ _ (coord t) (lt32 t) _ _ _ (rd3 H t _) (H.b3 t) (fun h => rd4 H t h _) r a
      · exact fun r a hr => (dq0 _ _ (coord t) (lt32 t) _ _ (rd0 H t _) (fun h => rd1 H t h _) _ (fun b => ld8 H t (by decide) _ b) r a).trans
          (by rw [if_pos (show 256 * t.val + r.val < 8192 by have := lt32 t; omega)])
      · rw [ld3 A 0 i j (by decide) (by omega) (by omega), ih]
        exact dwp_next I t.val hp 0 i j hq rfl hr (Nat.zero_add _) hb (Nat.zero_add _)
    · omega

set_option maxHeartbeats 1000000 in
/-- The first point starts from nothing. -/
theorem wp_first (t : Fin cfg0.N) (h0 : t.val % 32 = 0) (q : Fin 4) (r b : Fin 256) :
    (outsAt0 m c t.val t.isLt).2.1 (ix3 q r b) = (dwpSum I t.val q r b : EReal) := by
  have hp : t.val = 0 := by have := lt32 t; omega
  rw [outsAt0_A m c t h0 (by omega)]
  frame_out
  refine canon_step3 (fun x i j hq hr hb => ?_) fun n3 => canon_step3 (fun x i j hq hr hb => ?_) fun n2 =>
    canon_step3 (fun x i j hq hr hb => ?_) fun n1 => canon_step3 (fun x i j hq hr hb => ?_) fun n0 => ?_
  · obtain rfl : x = 0 := Subsingleton.elim _ _
    refine (dwp_end _ _ _ (fun r a => I.pooled 3 (256 * t.val + r) a) (fun r a => I.dq 3 (256 * t.val + r) a) ?_ ?_ i j).trans ?_
    · exact fun r a => pooled3 _ _ (coord t) (lt32 t) _ _ _ (rd3 H t _) (H.b3 t) (fun h => rd4 H t h _) r a
    · exact fun r a hr => (dq3 _ _ (coord t) (lt32 t) _ _ (rd0 H t _) (fun h => rd1 H t h _) _ (fun b => ld8 H t (by decide) _ b) r a).trans
        (by rw [if_pos (show 256 * t.val + r.val < 8192 by have := lt32 t; omega)])
    · refine dwp_first I t.val hp 3 i j hq hr hb ?_
      refine readCov3 _ 0 i j q r b hq hr hb ?_
      refine canon_step3 (fun x' _ _ hq' _ _ => absurd hq' (by omega)) fun _ => ?_
      refine canon_step3 (fun x' _ _ hq' _ _ => absurd hq' (by omega)) fun _ => ?_
      refine canon_step3 (fun x' _ _ hq' _ _ => absurd hq' (by omega)) fun _ => ?_
      exact canon_step3 (fun _ _ _ _ _ _ => zero_word) (fun h => absurd h (by omega))
  · obtain rfl : x = 0 := Subsingleton.elim _ _
    refine (dwp_end _ _ _ (fun r a => I.pooled 2 (256 * t.val + r) a) (fun r a => I.dq 2 (256 * t.val + r) a) ?_ ?_ i j).trans ?_
    · exact fun r a => pooled2 _ _ (coord t) (lt32 t) _ _ _ (rd3 H t _) (H.b3 t) (fun h => rd4 H t h _) r a
    · exact fun r a hr => (dq2 _ _ (coord t) (lt32 t) _ _ (rd0 H t _) (fun h => rd1 H t h _) _ (fun b => ld8 H t (by decide) _ b) r a).trans
        (by rw [if_pos (show 256 * t.val + r.val < 8192 by have := lt32 t; omega)])
    · refine dwp_first I t.val hp 2 i j hq hr hb ?_
      refine readCov3 _ 0 i j q r b hq hr hb ?_
      refine canon_step3 (fun x' _ _ hq' _ _ => absurd hq' (by omega)) fun _ => ?_
      refine canon_step3 (fun x' _ _ hq' _ _ => absurd hq' (by omega)) fun _ => ?_
      exact canon_step3 (fun _ _ _ _ _ _ => zero_word) (fun h => absurd h (by omega))
  · obtain rfl : x = 0 := Subsingleton.elim _ _
    refine (dwp_end _ _ _ (fun r a => I.pooled 1 (256 * t.val + r) a) (fun r a => I.dq 1 (256 * t.val + r) a) ?_ ?_ i j).trans ?_
    · exact fun r a => pooled1 _ _ (coord t) (lt32 t) _ _ _ (rd3 H t _) (H.b3 t) (fun h => rd4 H t h _) r a
    · exact fun r a hr => (dq1 _ _ (coord t) (lt32 t) _ _ (rd0 H t _) (fun h => rd1 H t h _) _ (fun b => ld8 H t (by decide) _ b) r a).trans
        (by rw [if_pos (show 256 * t.val + r.val < 8192 by have := lt32 t; omega)])
    · refine dwp_first I t.val hp 1 i j hq hr hb ?_
      refine readCov3 _ 0 i j q r b hq hr hb ?_
      refine canon_step3 (fun x' _ _ hq' _ _ => absurd hq' (by omega)) fun _ => ?_
      exact canon_step3 (fun _ _ _ _ _ _ => zero_word) (fun h => absurd h (by omega))
  · obtain rfl : x = 0 := Subsingleton.elim _ _
    refine (dwp_end _ _ _ (fun r a => I.pooled 0 (256 * t.val + r) a) (fun r a => I.dq 0 (256 * t.val + r) a) ?_ ?_ i j).trans ?_
    · exact fun r a => pooled0 _ _ (coord t) (lt32 t) _ _ _ (rd3 H t _) (H.b3 t) (fun h => rd4 H t h _) r a
    · exact fun r a hr => (dq0 _ _ (coord t) (lt32 t) _ _ (rd0 H t _) (fun h => rd1 H t h _) _ (fun b => ld8 H t (by decide) _ b) r a).trans
        (by rw [if_pos (show 256 * t.val + r.val < 8192 by have := lt32 t; omega)])
    · refine dwp_first I t.val hp 0 i j hq hr hb ?_
      refine readCov3 _ 0 i j q r b hq hr hb ?_
      exact canon_step3 (fun _ _ _ _ _ _ => zero_word) (fun h => absurd h (by omega))
  · omega

/-- What the buffer of the maps' gradient holds after every point. -/
theorem wp_all : ∀ (n : ℕ) (hn : n < cfg0.N) (q : Fin 4) (r b : Fin 256), (outsAt0 m c n hn).2.1 (ix3 q r b) = (dwpSum I n q r b : EReal)
  | 0, hn => fun q r b => wp_first H ⟨0, hn⟩ rfl q r b
  | n + 1, hn => fun q r b => wp_next H ⟨n + 1, hn⟩ (by have : n + 1 < 32 := hn; show ¬ (n + 1) % 32 = 0; omega)
      (fun q r b => wp_all n (Nat.lt_of_succ_lt hn) q r b) q r b

end Cert.KernelIdeal.Mix
-- ==== Proof.RunningSum.lean ====
module

public import proofs.«01_k».proof.Proof.RealMath
public import Idealize.ShloMosaic.Lib.Routing.OpsOne

/-!
The host's running sum of a matrix along its rows, forwards and backwards, read at an entry.
-/

@[expose] public section

set_option maxRecDepth 16384

noncomputable section

namespace Mixer

open Idealize.ShloMosaic

/-- Adding up a list from the left. -/
theorem foldl_add {ι : Type*} (g : ι → EReal) (l : List ι) (a : EReal) :
    l.foldl (fun r n => r + g n) a = a + (l.map g).sum := by
  induction l generalizing a with
  | nil => simp
  | cons n l ih => rw [List.foldl_cons, ih, List.map_cons, List.sum_cons, add_assoc]

/-- A fold from zero whose step adds a term is the sum of the terms. -/
theorem foldl_eq_sum {N : ℕ} (F : EReal → Fin N → EReal) (g : Fin N → EReal) (hF : ∀ r n, F r n = r + g n) :
    List.foldl F 0 (List.finRange N) = ∑ n, g n := by
  have e : F = fun r n => r + g n := funext fun r => funext fun n => hF r n
  rw [e, foldl_add, zero_add, Fin.sum_univ_def]

/-- A window of the whole height and one column, padded by `lo` rows above: the rows of the column that fall into it. -/
theorem window_rows {R C lo hi : ℕ} (x : (⟨2, ![R, C]⟩ : Shape).Idx → EReal)
    (h : (⟨2, ![R, C]⟩ : Shape).ReduceWindows (![R, 1] : Fin 2 → ℕ) ![1, 1] ![lo, 0] ![hi, 0] ⟨2, ![R, C]⟩)
    (j : Fin R) (c : Fin C) (f : ℕ → ℝ) (hx : ∀ s : Fin R, x (ix2 s c) = (f s : EReal)) :
    Ideal.hostReduceWindowAdd ![R, 1] ![1, 1] ![lo, 0] ![hi, 0] h x 0 (ix2 j c)
      = ((∑ n ∈ Finset.range R, if lo ≤ j + n ∧ j + n - lo < R then f (j + n - lo) else 0 : ℝ) : EReal) := by
  have hc := c.isLt
  unfold Ideal.hostReduceWindowAdd Host.reduceWindow
  refine (foldl_eq_sum _ (fun n : Fin (⟨2, ![R, 1]⟩ : Shape).numel =>
    ((if lo ≤ j + n.val ∧ j + n.val - lo < R then f (j + n.val - lo) else 0 : ℝ) : EReal)) (fun r n => ?_)).trans ?_
  · refine congrArg (r + ·) ?_
    have hw0 : ((⟨2, ![R, 1]⟩ : Shape).rowMajor.symm n 0).val = n.val := by rw [Routing.symm_col]; rfl
    have hw1 : ((⟨2, ![R, 1]⟩ : Shape).rowMajor.symm n 1).val = 0 := by rw [Routing.symm_col]; rfl
    split
    · next hin =>
      have h0 := hin 0
      change lo ≤ j.val * 1 + ((⟨2, ![R, 1]⟩ : Shape).rowMajor.symm n 0).val
        ∧ j.val * 1 + ((⟨2, ![R, 1]⟩ : Shape).rowMajor.symm n 0).val - lo < R at h0
      rw [hw0] at h0
      rw [if_pos (by omega)]
      refine (congrArg x (funext fun a => Fin.ext ?_)).trans (hx ⟨j.val + n.val - lo, by omega⟩)
      match a with
      | ⟨0, _⟩ =>
        show j.val * 1 + ((⟨2, ![R, 1]⟩ : Shape).rowMajor.symm n 0).val - lo = j.val + n.val - lo
        rw [hw0, Nat.mul_one]
      | ⟨1, _⟩ =>
        show c.val * 1 + ((⟨2, ![R, 1]⟩ : Shape).rowMajor.symm n 1).val - 0 = c.val
        rw [hw1]; omega
    · next hin =>
      rw [if_neg fun hle => hin fun a => by
        match a with
        | ⟨0, _⟩ =>
          show lo ≤ j.val * 1 + ((⟨2, ![R, 1]⟩ : Shape).rowMajor.symm n 0).val
            ∧ j.val * 1 + ((⟨2, ![R, 1]⟩ : Shape).rowMajor.symm n 0).val - lo < R
          rw [hw0]; omega
        | ⟨1, _⟩ =>
          show 0 ≤ c.val * 1 + ((⟨2, ![R, 1]⟩ : Shape).rowMajor.symm n 1).val
            ∧ c.val * 1 + ((⟨2, ![R, 1]⟩ : Shape).rowMajor.symm n 1).val - 0 < C
          rw [hw1]; omega]
      rfl
  rw [Fin.sum_univ_eq_sum_range (fun n : ℕ => ((if lo ≤ j + n ∧ j + n - lo < R then f (j + n - lo) else 0 : ℝ) : EReal)),
    coe_sum]
  exact congrArg (fun M => ∑ n ∈ Finset.range M, ((if lo ≤ j.val + n ∧ j.val + n - lo < R then f (j.val + n - lo) else 0 : ℝ) : EReal)) (Routing.numel_col R)

/-- The running sum down a column. -/
theorem cum_rows {R C lo : ℕ} (hlo : lo + 1 = R) (x : (⟨2, ![R, C]⟩ : Shape).Idx → EReal)
    (h : (⟨2, ![R, C]⟩ : Shape).ReduceWindows (![R, 1] : Fin 2 → ℕ) ![1, 1] ![lo, 0] ![0, 0] ⟨2, ![R, C]⟩)
    (j : Fin R) (c : Fin C) (f : ℕ → ℝ) (hx : ∀ s : Fin R, x (ix2 s c) = (f s : EReal)) :
    Ideal.hostReduceWindowAdd ![R, 1] ![1, 1] ![lo, 0] ![0, 0] h x 0 (ix2 j c) = (cum f j : EReal) := by
  rw [window_rows x h j c f hx]
  congr 1
  have hj := j.isLt
  have e : ∀ R : ℕ, R = (lo - j.val) + (j.val + 1) →
      (∑ n ∈ Finset.range R, if lo ≤ j.val + n ∧ j.val + n - lo < R then f (j.val + n - lo) else 0) = cum f j.val := by
    rintro R rfl
    rw [Finset.sum_range_add]
    have z : ∑ n ∈ Finset.range (lo - j.val),
        (if lo ≤ j.val + n ∧ j.val + n - lo < lo - j.val + (j.val + 1) then f (j.val + n - lo) else 0) = 0 :=
      Finset.sum_eq_zero fun n hn => if_neg (by rw [Finset.mem_range] at hn; omega)
    rw [z, zero_add]
    refine Finset.sum_congr rfl fun n hn => ?_
    rw [Finset.mem_range] at hn
    rw [if_pos (by omega)]
    congr 1; omega
  exact e R (by omega)

/-- The running sum up a column. -/
theorem suffix_rows {R C hi : ℕ} (x : (⟨2, ![R, C]⟩ : Shape).Idx → EReal)
    (h : (⟨2, ![R, C]⟩ : Shape).ReduceWindows (![R, 1] : Fin 2 → ℕ) ![1, 1] ![0, 0] ![hi, 0] ⟨2, ![R, C]⟩)
    (j : Fin R) (c : Fin C) (f : ℕ → ℝ) (hx : ∀ s : Fin R, x (ix2 s c) = (f s : EReal)) :
    Ideal.hostReduceWindowAdd ![R, 1] ![1, 1] ![0, 0] ![hi, 0] h x 0 (ix2 j c)
      = ((∑ n ∈ Finset.range R, if j + n < R then f (j + n) else 0 : ℝ) : EReal) := by
  rw [window_rows x h j c f hx]
  simp only [Nat.zero_le, true_and, Nat.sub_zero]

end Mixer
-- ==== Proof.RefPool.lean ====
module

public import proofs.«01_k».proof.Proof.Words
public import proofs.«01_k».proof.Proof.RunningSum
public import proofs.«01_k».proof.Proof.Gen.ReferenceIdeal.Read

/-!
The reference's pooling and its gradient, stage by stage: each array holds the real numbers of the model.
-/

@[expose] public section

set_option maxRecDepth 16384

noncomputable section

namespace Cert.ReferenceIdeal.Mix

open Idealize.ShloMosaic Idealize.ShloMosaic.TcCoe Idealize.SL.Sem
open Cert.ReferenceIdeal Cert.ReferenceIdeal.Gen Cert.ReferenceIdeal.Read
open Mixer

variable (x0 x1 : FVec Ideal S8192x1024 .bf16) (x2 : FVec Ideal S8192x5120 .bf16) (x4 : FVec Ideal S1x4x256x256 .bf16)
  (x5 x6 : FVec Ideal S2x1024 .f32) (x7 : FVec Ideal S2x8x128x128 .f32) (x8 : FVec Ideal S2x8x128 .f32)

/-- The arguments hold the model's real numbers. -/
structure Holds (I : Inputs) : Prop where
  da : ∀ (t : Fin 8192) (c : Fin 1024), x0 (ix2 t c) = (I.da t c : EReal)
  ds : ∀ (t : Fin 8192) (c : Fin 1024), x1 (ix2 t c) = (I.ds t c : EReal)
  z : ∀ (t : Fin 8192) (c : Fin 5120), x2 (ix2 t c) = (I.z t c : EReal)
  wp : ∀ (g : Fin 4) (a b : Fin 256), x4 (ix4 0 g a b) = (I.wp g a b : EReal)
  sc : ∀ c : Fin 1024, x5 (ix2 1 c) = (I.sc c : EReal)
  gn : ∀ c : Fin 1024, x6 (ix2 1 c) = (I.gn c : EReal)
  ws : ∀ (h : Fin 8) (t s : Fin 128), x7 (ix4 1 h t s) = (I.ws h t s : EReal)
  bs : ∀ (h : Fin 8) (t : Fin 128), x8 (ix3 1 h t) = (I.bs h t : EReal)

variable {x0 x1 x2 x4 x5 x6 x7 x8} {I : Inputs} (H : Holds x0 x1 x2 x4 x5 x6 x7 x8 I)
include H

/-- The pooled columns. -/
theorem r12 (t : Fin 8192) (c : Fin 1024) : val_main_v12 (F := Ideal) x2 (ix2 t c) = (I.z t c : EReal) := by
  pointwise [val_main_v12, val_main_v1, val_main_v0]
  exact H.z t ⟨c, by omega⟩

/-- Their running sums. -/
theorem r13 (t : Fin 8192) (c : Fin 1024) : val_main_v13 (F := Ideal) x2 (ix2 t c) = (cum (fun s => I.z s c) t : EReal) := by
  have h := cum_rows (C := 1024) (f := fun s => I.z s c) rfl (val_main_v12 (F := Ideal) x2)
    reduceWindows_S8192x1024_S8192x1024_w8192s1p8191_0_w1s1p0_0 t c (fun s => r12 H s c)
  rw [← h]
  unfold val_main_v13 Host.reduceWindowAdd
  rw [show val_main_call0_call0_v0 (F := Ideal) (Shape.Idx.first h_S_) = 0 by
    pointwise [val_main_call0_call0_v0, val_main_call0_call0_cst]]
  rfl

omit H in
/-- A mean less the entry, from running sums. -/
theorem pool_of_cum (w : ℕ) (f : ℕ → ℝ) (t : ℕ) (hw : 0 < w) (X : EReal)
    (hX : X = if h : t < w then (0 : EReal) else (cum f (t - w) : EReal)) :
    Ideal.div ((cum f t : EReal) - X) (Inputs.cnt w t : EReal) - (f t : EReal) = (Inputs.pool w f t : EReal) := by
  have e : X = ((if t < w then 0 else cum f (t - w) : ℝ) : EReal) := by
    rw [hX]; by_cases h : t < w <;> simp [h]
  rw [e, ← EReal.coe_sub, ← back_eq_cum, div_coe_coe (cnt_ne w t hw), ← EReal.coe_sub]
  rfl

/-- Group 0 pooled. -/
theorem r30 (t : Fin 8192) (c : Fin 256) :
    val_main_v30 (F := Ideal) x2 (ix2 t c) = (I.pooled 0 t c : EReal) := by
  pointwise [val_main_v15, val_main_v16, val_main_v17, val_main_v18, val_main_c, val_main_c_1, val_main_cst, val_main_v20, val_main_v21, val_main_v22, val_main_v23, val_main_v24, val_main_v25, val_main_v26, val_main_v27, val_main_v28, val_main_v29, val_main_v30, val_main_v14, r13 H, r12 H]
  rw [count_word 2 t (by norm_num) (by omega)]
  simp only [Inputs.pooled, Nat.mul_zero, Nat.zero_add]
  exact pool_of_cum 2 (fun s => I.z s c) t (by norm_num) _ rfl

/-- The counts of group 0. -/
theorem rc0 (t : Fin 8192) (k : Fin 1) : val_main_v25 (F := Ideal) (ix2 t k) = (Inputs.cnt 2 t : EReal) := by
  pointwise [val_main_v20, val_main_v21, val_main_v22, val_main_v23, val_main_v24, val_main_v25, val_main_c, val_main_c_1, val_main_v14]
  exact count_word 2 t (by norm_num) (by omega)

/-- Group 1 pooled. -/
theorem r46 (t : Fin 8192) (c : Fin 256) :
    val_main_v46 (F := Ideal) x2 (ix2 t c) = (I.pooled 1 t c : EReal) := by
  pointwise [val_main_v31, val_main_v32, val_main_v33, val_main_v34, val_main_c_4, val_main_c_5, val_main_cst_2, val_main_v36, val_main_v37, val_main_v38, val_main_v39, val_main_v40, val_main_v41, val_main_v42, val_main_v43, val_main_v44, val_main_v45, val_main_v46, val_main_v14, r13 H, r12 H]
  rw [count_word 4 t (by norm_num) (by omega)]
  simp only [Inputs.pooled]
  exact pool_of_cum 4 (fun s => I.z s (256 + c)) t (by norm_num) _ rfl

/-- The counts of group 1. -/
theorem rc1 (t : Fin 8192) (k : Fin 1) : val_main_v41 (F := Ideal) (ix2 t k) = (Inputs.cnt 4 t : EReal) := by
  pointwise [val_main_v36, val_main_v37, val_main_v38, val_main_v39, val_main_v40, val_main_v41, val_main_c_4, val_main_c_5, val_main_v14]
  exact count_word 4 t (by norm_num) (by omega)

/-- Group 2 pooled. -/
theorem r62 (t : Fin 8192) (c : Fin 256) :
    val_main_v62 (F := Ideal) x2 (ix2 t c) = (I.pooled 2 t c : EReal) := by
  pointwise [val_main_v47, val_main_v48, val_main_v49, val_main_v50, val_main_c_8, val_main_c_9, val_main_cst_6, val_main_v52, val_main_v53, val_main_v54, val_main_v55, val_main_v56, val_main_v57, val_main_v58, val_main_v59, val_main_v60, val_main_v61, val_main_v62, val_main_v14, r13 H, r12 H]
  rw [count_word 8 t (by norm_num) (by omega)]
  simp only [Inputs.pooled]
  exact pool_of_cum 8 (fun s => I.z s (512 + c)) t (by norm_num) _ rfl

/-- The counts of group 2. -/
theorem rc2 (t : Fin 8192) (k : Fin 1) : val_main_v57 (F := Ideal) (ix2 t k) = (Inputs.cnt 8 t : EReal) := by
  pointwise [val_main_v52, val_main_v53, val_main_v54, val_main_v55, val_main_v56, val_main_v57, val_main_c_8, val_main_c_9, val_main_v14]
  exact count_word 8 t (by norm_num) (by omega)

/-- Group 3 pooled. -/
theorem r78 (t : Fin 8192) (c : Fin 256) :
    val_main_v78 (F := Ideal) x2 (ix2 t c) = (I.pooled 3 t c : EReal) := by
  pointwise [val_main_v63, val_main_v64, val_main_v65, val_main_v66, val_main_c_12, val_main_c_13, val_main_cst_10, val_main_v68, val_main_v69, val_main_v70, val_main_v71, val_main_v72, val_main_v73, val_main_v74, val_main_v75, val_main_v76, val_main_v77, val_main_v78, val_main_v14, r13 H, r12 H]
  rw [count_word 16 t (by norm_num) (by omega)]
  simp only [Inputs.pooled]
  exact pool_of_cum 16 (fun s => I.z s (768 + c)) t (by norm_num) _ rfl

/-- The counts of group 3. -/
theorem rc3 (t : Fin 8192) (k : Fin 1) : val_main_v73 (F := Ideal) (ix2 t k) = (Inputs.cnt 16 t : EReal) := by
  pointwise [val_main_v68, val_main_v69, val_main_v70, val_main_v71, val_main_v72, val_main_v73, val_main_c_12, val_main_c_13, val_main_v14]
  exact count_word 16 t (by norm_num) (by omega)

/-- The four groups, stacked. -/
theorem r83 (t : Fin 8192) (g : Fin 4) (a : Fin 256) :
    val_main_v83 (F := Ideal) x2 (ix3 t g a) = (I.pooled g t a : EReal) := by
  pointwise [val_main_v83, val_main_v82, val_main_v81, val_main_v80, val_main_v79, r30 H, r46 H, r62 H, r78 H]
  fin_vals g with hg
  all_goals simp only [hg, Nat.reduceSub, Nat.reduceLT, ↓reduceDIte]

theorem r3 (g : Fin 4) (a b : Fin 256) : val_main_v3 (F := Ideal) x4 (ix3 g a b) = (I.wp g a b : EReal) := by
  pointwise [val_main_v3, val_main_v2]
  exact H.wp g a b

/-- The mapped groups. -/
theorem r84 (g : Fin 4) (b : Fin 256) (t : Fin 8192) :
    val_main_v84 (F := Ideal) x2 x4 (ix3 g b t) = (I.q g t b : EReal) := by
  pointwise [val_main_v84, r83 H, r3 H]
  rw [Inputs.q, coe_sum]
  refine Finset.sum_congr rfl fun k _ => ?_
  rw [EReal.coe_mul, mul_comm]

theorem r86 (t : Fin 8192) (c : Fin 1024) :
    val_main_v86 (F := Ideal) x2 x4 (ix2 t c) = (I.q (c / 256) t (c % 256) : EReal) := by
  pointwise [val_main_v86, val_main_v85, r84 H]

theorem r137 (t : Fin 8192) (c : Fin 1024) : val_main_v137 (F := Ideal) x0 (ix2 t c) = (I.da t c : EReal) := by
  pointwise [val_main_v137]
  exact H.da t c

theorem r87 (k : Fin 1) (c : Fin 1024) : val_main_v87 (F := Ideal) x5 (ix2 k c) = (I.sc c : EReal) := by
  pointwise [val_main_v87, val_main_v5, val_main_v4]
  exact H.sc c

/-- The gradient of the scale. -/
theorem r193 (c : Fin 1024) :
    val_main_v193 (F := Ideal) x0 x2 x4 (ix1 c) = (I.dsc (c / 256) (c % 256) : EReal) := by
  pointwise [val_main_v193, val_main_v190, val_main_v189, val_main_v188, val_main_cst_35, val_main_cst_36, r86 H, r137 H]
  rw [Finset.sum_const, Finset.card_univ, Fintype.card_fin, one_smul, Inputs.dsc, coe_sum]
  refine Finset.sum_congr rfl fun t _ => ?_
  rw [Nat.div_add_mod, EReal.coe_mul, mul_comm]

theorem r263 (r : Fin 8) (c : Fin 1024) :
    val_main_v263 (F := Ideal) x0 x2 x4 (ix2 r c)
      = ((if (r : ℕ) = 0 then I.dsc (c / 256) (c % 256) else 0 : ℝ) : EReal) := by
  pointwise [val_main_v263, val_main_v262, val_main_v261, val_main_cst_50, r193 H]
  by_cases h : (r : ℕ) = 0
  · rw [dif_pos (by omega), if_pos h]
  · rw [dif_neg (by omega), if_neg h, EReal.coe_zero]

/-- The cotangent of the mapped groups. -/
theorem r195 (g : Fin 4) (b : Fin 256) (t : Fin 8192) :
    val_main_v195 (F := Ideal) x0 x5 (ix3 g b t) = (I.dq g t b : EReal) := by
  pointwise [val_main_v195, val_main_v194, val_main_v192, val_main_v191, r137 H, r87 H]
  rw [Inputs.dq, EReal.coe_mul, Nat.mul_comm]

/-- The cotangent of the pooled groups. -/
theorem r197 (t : Fin 8192) (g : Fin 4) (a : Fin 256) :
    val_main_v197 (F := Ideal) x0 x4 x5 (ix3 t g a) = (I.dp g t a : EReal) := by
  pointwise [val_main_v197, val_main_v196, r195 H, r3 H]
  rw [Inputs.dp, coe_sum]
  refine Finset.sum_congr rfl fun k _ => ?_
  rw [EReal.coe_mul]

/-- The gradient of the group maps. -/
theorem r199 (g : Fin 4) (a b : Fin 256) :
    val_main_v199 (F := Ideal) x0 x2 x5 (ix3 g a b) = (I.dwp g a b : EReal) := by
  pointwise [val_main_v199, val_main_v198, r195 H, r83 H]
  rw [Inputs.dwp, coe_sum]
  refine Finset.sum_congr rfl fun k _ => ?_
  rw [EReal.coe_mul, mul_comm]

/-! ### The gradient of the pooling -/

theorem r201 (t : Fin 8192) (a : Fin 256) :
    val_main_v201 (F := Ideal) x0 x4 x5 (ix2 t a) = (I.dp 0 t a : EReal) := by
  pointwise [val_main_v201, val_main_v200, r197 H]

/-- Group 0: the quotient by the count. -/
theorem r246 (t : Fin 8192) (a : Fin 256) :
    val_main_v246 (F := Ideal) x0 x4 x5 (ix2 t a) = ((I.dp 0 t a / Inputs.cnt 2 t : ℝ) : EReal) := by
  pointwise [val_main_v246, val_main_v245, r201 H, rc0 H]
  rw [div_coe_coe (cnt_ne 2 t (by norm_num))]

/-- Group 0: less the quotient a window later. -/
theorem r251 (t : Fin 8192) (a : Fin 256) :
    val_main_v251 (F := Ideal) x0 x4 x5 (ix2 t a)
      = ((I.dp 0 t a / Inputs.cnt 2 t
          - (if (t : ℕ) + 2 < 8192 then I.dp 0 (t + 2) a / Inputs.cnt 2 (t + 2) else 0) : ℝ) : EReal) := by
  pointwise [val_main_v251, val_main_v250, val_main_v249, val_main_v247, val_main_cst_47, r246 H]
  by_cases h : (t : ℕ) + 2 < 8192
  · rw [dif_pos (by omega), if_pos h, ← EReal.coe_neg, ← EReal.coe_add, Nat.add_comm 2, sub_eq_add_neg]
  · rw [dif_neg (by omega), if_neg h, add_zero, sub_zero]

theorem r203 (t : Fin 8192) (a : Fin 256) :
    val_main_v203 (F := Ideal) x0 x4 x5 (ix2 t a) = (I.dp 1 t a : EReal) := by
  pointwise [val_main_v203, val_main_v202, r197 H]

/-- Group 1: the quotient by the count. -/
theorem r234 (t : Fin 8192) (a : Fin 256) :
    val_main_v234 (F := Ideal) x0 x4 x5 (ix2 t a) = ((I.dp 1 t a / Inputs.cnt 4 t : ℝ) : EReal) := by
  pointwise [val_main_v234, val_main_v233, r203 H, rc1 H]
  rw [div_coe_coe (cnt_ne 4 t (by norm_num))]

/-- Group 1: less the quotient a window later. -/
theorem r239 (t : Fin 8192) (a : Fin 256) :
    val_main_v239 (F := Ideal) x0 x4 x5 (ix2 t a)
      = ((I.dp 1 t a / Inputs.cnt 4 t
          - (if (t : ℕ) + 4 < 8192 then I.dp 1 (t + 4) a / Inputs.cnt 4 (t + 4) else 0) : ℝ) : EReal) := by
  pointwise [val_main_v239, val_main_v238, val_main_v237, val_main_v235, val_main_cst_44, r234 H]
  by_cases h : (t : ℕ) + 4 < 8192
  · rw [dif_pos (by omega), if_pos h, ← EReal.coe_neg, ← EReal.coe_add, Nat.add_comm 4, sub_eq_add_neg]
  · rw [dif_neg (by omega), if_neg h, add_zero, sub_zero]

theorem r205 (t : Fin 8192) (a : Fin 256) :
    val_main_v205 (F := Ideal) x0 x4 x5 (ix2 t a) = (I.dp 2 t a : EReal) := by
  pointwise [val_main_v205, val_main_v204, r197 H]

/-- Group 2: the quotient by the count. -/
theorem r222 (t : Fin 8192) (a : Fin 256) :
    val_main_v222 (F := Ideal) x0 x4 x5 (ix2 t a) = ((I.dp 2 t a / Inputs.cnt 8 t : ℝ) : EReal) := by
  pointwise [val_main_v222, val_main_v221, r205 H, rc2 H]
  rw [div_coe_coe (cnt_ne 8 t (by norm_num))]

/-- Group 2: less the quotient a window later. -/
theorem r227 (t : Fin 8192) (a : Fin 256) :
    val_main_v227 (F := Ideal) x0 x4 x5 (ix2 t a)
      = ((I.dp 2 t a / Inputs.cnt 8 t
          - (if (t : ℕ) + 8 < 8192 then I.dp 2 (t + 8) a / Inputs.cnt 8 (t + 8) else 0) : ℝ) : EReal) := by
  pointwise [val_main_v227, val_main_v226, val_main_v225, val_main_v223, val_main_cst_41, r222 H]
  by_cases h : (t : ℕ) + 8 < 8192
  · rw [dif_pos (by omega), if_pos h, ← EReal.coe_neg, ← EReal.coe_add, Nat.add_comm 8, sub_eq_add_neg]
  · rw [dif_neg (by omega), if_neg h, add_zero, sub_zero]

theorem r207 (t : Fin 8192) (a : Fin 256) :
    val_main_v207 (F := Ideal) x0 x4 x5 (ix2 t a) = (I.dp 3 t a : EReal) := by
  pointwise [val_main_v207, val_main_v206, r197 H]

/-- Group 3: the quotient by the count. -/
theorem r211 (t : Fin 8192) (a : Fin 256) :
    val_main_v211 (F := Ideal) x0 x4 x5 (ix2 t a) = ((I.dp 3 t a / Inputs.cnt 16 t : ℝ) : EReal) := by
  pointwise [val_main_v211, val_main_v210, r207 H, rc3 H]
  rw [div_coe_coe (cnt_ne 16 t (by norm_num))]

/-- Group 3: less the quotient a window later. -/
theorem r216 (t : Fin 8192) (a : Fin 256) :
    val_main_v216 (F := Ideal) x0 x4 x5 (ix2 t a)
      = ((I.dp 3 t a / Inputs.cnt 16 t
          - (if (t : ℕ) + 16 < 8192 then I.dp 3 (t + 16) a / Inputs.cnt 16 (t + 16) else 0) : ℝ) : EReal) := by
  pointwise [val_main_v216, val_main_v215, val_main_v214, val_main_v212, val_main_cst_38, r211 H]
  by_cases h : (t : ℕ) + 16 < 8192
  · rw [dif_pos (by omega), if_pos h, ← EReal.coe_neg, ← EReal.coe_add, Nat.add_comm 16, sub_eq_add_neg]
  · rw [dif_neg (by omega), if_neg h, add_zero, sub_zero]

end Cert.ReferenceIdeal.Mix
-- ==== Proof.KernInputs.lean ====
module

public import proofs.«01_k».proof.Proof.KernBlocks
public import proofs.«01_k».proof.Proof.RefPool
public import proofs.«01_k».proof.Proof.Gen.KernelIdeal.Value
public import Idealize.ShloMosaic.Lib.Pipeline.ValueKit
public import Idealize.ShloMosaic.Lib.Claim

/-!
What the blocks of the kernel's inputs hold, when the arguments hold the model's real numbers.
-/

@[expose] public section

set_option maxRecDepth 16384

noncomputable section

namespace Cert.KernelIdeal.Mix

open Idealize.ShloMosaic Idealize.ShloMosaic.TcCoe Idealize.SL.Sem
open Cert.KernelIdeal Cert.KernelIdeal.Gen
open Mixer

variable (m : (ℓ : Loc nD τ sig) → Buf (Elt Idealize.ShloMosaic.Ideal) ℓ) (c : Dev nD)

/-- Where each window's block lies, at every point of the grid. -/
theorem place (t : Fin cfg0.N) :
    (win0_0.index t 0 = t.val ∧ win0_0.index t 1 = 0) ∧ (win0_1.index t 0 = min (t.val * 16 + 16) 511 ∧ win0_1.index t 1 = 0)
    ∧ (win0_2.index t 0 = t.val ∧ win0_2.index t 1 = 0) ∧ (win0_3.index t 0 = t.val ∧ win0_3.index t 1 = 0)
    ∧ (win0_4.index t 0 = t.val * 16 - 1 ∧ win0_4.index t 1 = 0) ∧ (win0_5.index t 0 = t.val ∧ win0_5.index t 1 = 1)
    ∧ (win0_6.index t 0 = t.val ∧ win0_6.index t 1 = 2)
    ∧ (win0_7.index t 0 = 0 ∧ win0_7.index t 1 = 0 ∧ win0_7.index t 2 = 0 ∧ win0_7.index t 3 = 0)
    ∧ (win0_8.index t 0 = 1 ∧ win0_8.index t 1 = 0 ∧ win0_8.index t 2 = 0)
    ∧ (win0_9.index t 0 = 1 ∧ win0_9.index t 1 = 0 ∧ win0_9.index t 2 = 0)
    ∧ (win0_10.index t 0 = 1 ∧ win0_10.index t 1 = 0 ∧ win0_10.index t 2 = 0 ∧ win0_10.index t 3 = 0)
    ∧ (win0_11.index t 0 = 1 ∧ win0_11.index t 1 = 0 ∧ win0_11.index t 2 = 0 ∧ win0_11.index t 3 = 0)
    ∧ (win0_12.index t 0 = 1 ∧ win0_12.index t 1 = 0 ∧ win0_12.index t 2 = 0)
    ∧ (win0_13.index t 0 = t.val ∧ win0_13.index t 1 = 0) :=
  (by decide +kernel : ∀ t : Fin grid0.N,
    (win0_0.index t 0 = t.val ∧ win0_0.index t 1 = 0) ∧ (win0_1.index t 0 = min (t.val * 16 + 16) 511 ∧ win0_1.index t 1 = 0)
    ∧ (win0_2.index t 0 = t.val ∧ win0_2.index t 1 = 0) ∧ (win0_3.index t 0 = t.val ∧ win0_3.index t 1 = 0)
    ∧ (win0_4.index t 0 = t.val * 16 - 1 ∧ win0_4.index t 1 = 0) ∧ (win0_5.index t 0 = t.val ∧ win0_5.index t 1 = 1)
    ∧ (win0_6.index t 0 = t.val ∧ win0_6.index t 1 = 2)
    ∧ (win0_7.index t 0 = 0 ∧ win0_7.index t 1 = 0 ∧ win0_7.index t 2 = 0 ∧ win0_7.index t 3 = 0)
    ∧ (win0_8.index t 0 = 1 ∧ win0_8.index t 1 = 0 ∧ win0_8.index t 2 = 0)
    ∧ (win0_9.index t 0 = 1 ∧ win0_9.index t 1 = 0 ∧ win0_9.index t 2 = 0)
    ∧ (win0_10.index t 0 = 1 ∧ win0_10.index t 1 = 0 ∧ win0_10.index t 2 = 0 ∧ win0_10.index t 3 = 0)
    ∧ (win0_11.index t 0 = 1 ∧ win0_11.index t 1 = 0 ∧ win0_11.index t 2 = 0 ∧ win0_11.index t 3 = 0)
    ∧ (win0_12.index t 0 = 1 ∧ win0_12.index t 1 = 0 ∧ win0_12.index t 2 = 0)
    ∧ (win0_13.index t 0 = t.val ∧ win0_13.index t 1 = 0)) t

/-! ### What the host prepares -/

theorem host0 : V m c main_v0 = shapeCast _ (m ((c : Thread nD τ).loc main_arg5)) shapeCasts_S2x1024_S2x1x1024 := by
  unfold V
  simp only [hostOps0, hostOps0_1, hostOps0_2, List.flatten_cons, List.flatten_nil, List.append_nil, List.cons_append, List.nil_append]
  after_results
  try rfl

theorem host1 : V m c main_v1 = shapeCast _ (m ((c : Thread nD τ).loc main_arg6)) shapeCasts_S2x1024_S2x1x1024 := by
  unfold V
  simp only [hostOps0, hostOps0_1, hostOps0_2, List.flatten_cons, List.flatten_nil, List.append_nil, List.cons_append, List.nil_append]
  after_results
  try rfl

/-- The mask of the spatial weights, as the host computes it. -/
def tri : FVec Idealize.ShloMosaic.Ideal S128x128 .f32 :=
  select (cmpi .sge (addi (iotaInDim S128x128 32 0) (broadcastInDim S128x128 ![] bcast_S_S128x128 (constantI S_ 32 0#32))) (iotaInDim S128x128 32 1))
    (broadcastInDim S128x128 ![] bcast_S_S128x128 (constant (F := Idealize.ShloMosaic.Ideal) S_ .f32 0x3F800000#32))
    (broadcastInDim S128x128 ![] bcast_S_S128x128 (constant (F := Idealize.ShloMosaic.Ideal) S_ .f32 0x00000000#32))

/-- The masked spatial weights, as the host computes them. -/
def masked : FVec Idealize.ShloMosaic.Ideal S2x8x128x128 .f32 :=
  mulf (m ((c : Thread nD τ).loc main_arg7))
    (broadcastInDim S2x8x128x128 ![0, 1, 2, 3] bcast_S1x1x128x128_S2x8x128x128_0_1_2_3 (broadcastInDim S1x1x128x128 ![2, 3] bcast_S128x128_S1x1x128x128_2_3 tri))

theorem host7 : V m c main_v7 = truncf .bf16 (masked m c) bitsLt_bf16_f32 := by
  unfold V
  simp only [hostOps0, hostOps0_1, hostOps0_2, List.flatten_cons, List.flatten_nil, List.append_nil, List.cons_append, List.nil_append]
  after_results
  try rfl

theorem host9 : V m c main_v9 = truncf .bf16 (transpose S2x8x128x128 [0, 1, 3, 2] (masked m c) transposes_S2x8x128x128_S2x8x128x128_0_1_3_2) bitsLt_bf16_f32 := by
  unfold V
  simp only [hostOps0, hostOps0_1, hostOps0_2, List.flatten_cons, List.flatten_nil, List.append_nil, List.cons_append, List.nil_append]
  after_results
  try rfl

theorem host10 : V m c main_v10 = transpose S2x128x8 [0, 2, 1] (m ((c : Thread nD τ).loc main_arg8)) transposes_S2x8x128_S2x128x8_0_2_1 := by
  unfold V
  simp only [hostOps0, hostOps0_1, hostOps0_2, List.flatten_cons, List.flatten_nil, List.append_nil, List.cons_append, List.nil_append]
  after_results
  try rfl

theorem host11 : V m c main_v11_0 = m ((c : Thread nD τ).loc main_arg3) := by
  unfold V
  simp only [hostOps0, hostOps0_1, hostOps0_2, List.flatten_cons, List.flatten_nil, List.append_nil, List.cons_append, List.nil_append]
  after_results
  try rfl

theorem tri_val (a b : Fin 128) : tri (ix2 a b) = ((if b.val ≤ a.val then 1 else 0 : ℝ) : EReal) := by
  have h : ∀ a b : Fin 128, IntOp.cmpi CmpIPredicate.sge (IntOp.addi (BitVec.ofNat 32 a.val) 0#32) (BitVec.ofNat 32 b.val) = if b.val ≤ a.val then 1#1 else 0#1 := by decide +kernel
  pointwise [tri, h]
  split <;> simp [Scalar.select, Ideal.ofBits, Ideal.ieee]

variable {m c} {I : Inputs}
  (H : Cert.ReferenceIdeal.Mix.Holds (m ((c : Thread nD τ).loc main_arg0)) (m ((c : Thread nD τ).loc main_arg1)) (m ((c : Thread nD τ).loc main_arg2)) (m ((c : Thread nD τ).loc main_arg4))
    (m ((c : Thread nD τ).loc main_arg5)) (m ((c : Thread nD τ).loc main_arg6)) (m ((c : Thread nD τ).loc main_arg7)) (m ((c : Thread nD τ).loc main_arg8)) I)
include H

theorem in0 (t : Fin cfg0.N) (r : Fin 256) (b : Fin 1024) : iblk m c 0 t (ix2 r b) = (I.da (256 * t.val + r) b : EReal) := by
  have ht := lt32 t
  refine Eq.trans ?_ (H.da ⟨256 * t.val + r, by omega⟩ b)
  blk_ext [iblk, V, place t]

theorem in1 (t : Fin cfg0.N) (ht' : t.val < 31) (r : Fin 16) (b : Fin 1024) : iblk m c 1 t (ix2 r b) = (I.da (256 * t.val + 256 + r) b : EReal) := by
  refine Eq.trans ?_ (H.da ⟨256 * t.val + 256 + r, by omega⟩ b)
  blk_ext [iblk, V, place t]

theorem in4 (t : Fin cfg0.N) (ht' : 0 < t.val) (r : Fin 16) (b : Fin 1024) : iblk m c 4 t (ix2 r b) = (I.z (256 * t.val - 16 + r) b : EReal) := by
  have ht := lt32 t
  refine Eq.trans ?_ (H.z ⟨256 * t.val - 16 + r, by omega⟩ ⟨b, by omega⟩)
  blk_ext [iblk, V, place t]

theorem in6 (t : Fin cfg0.N) (r : Fin 256) (b : Fin 1024) : iblk m c 6 t (ix2 r b) = (I.z (256 * t.val + r) (2048 + b) : EReal) := by
  have ht := lt32 t
  refine Eq.trans ?_ (H.z ⟨256 * t.val + r, by omega⟩ ⟨2048 + b, by omega⟩)
  blk_ext [iblk, V, place t]

theorem in2 (t : Fin cfg0.N) (r : Fin 256) (b : Fin 1024) : iblk m c 2 t (ix2 r b) = (I.ds (256 * t.val + r) b : EReal) := by
  have ht := lt32 t
  refine Eq.trans ?_ (H.ds ⟨256 * t.val + r, by omega⟩ b)
  blk_ext [iblk, V, place t]

theorem in3 (t : Fin cfg0.N) (r : Fin 256) (b : Fin 1024) : iblk m c 3 t (ix2 r b) = (I.z (256 * t.val + r) b : EReal) := by
  have ht := lt32 t
  refine Eq.trans ?_ (H.z ⟨256 * t.val + r, by omega⟩ ⟨b, by omega⟩)
  blk_ext [iblk, V, place t]

theorem in5 (t : Fin cfg0.N) (r : Fin 256) (b : Fin 1024) : iblk m c 5 t (ix2 r b) = (I.z (256 * t.val + r) (1024 + b) : EReal) := by
  have ht := lt32 t
  refine Eq.trans ?_ (H.z ⟨256 * t.val + r, by omega⟩ ⟨1024 + b, by omega⟩)
  blk_ext [iblk, V, place t]

theorem in7 (t : Fin cfg0.N) (g : Fin 4) (a b : Fin 256) : iblk m c 7 t (ix4 0 g a b) = (I.wp g a b : EReal) := by
  refine Eq.trans ?_ (H.wp g a b)
  blk_ext [iblk, V, place t]

theorem in8 (t : Fin cfg0.N) (b : Fin 1024) : iblk m c 8 t (ix3 0 0 b) = (I.sc b : EReal) := by
  have e : iblk m c 8 t (ix3 0 0 b) = V m c main_v0 (ix3 1 0 b) := by blk_ext [iblk, place t]
  rw [e, host0]
  refine Eq.trans ?_ (H.sc b)
  pointwise

theorem in9 (t : Fin cfg0.N) (b : Fin 1024) : iblk m c 9 t (ix3 0 0 b) = (I.gn b : EReal) := by
  have e : iblk m c 9 t (ix3 0 0 b) = V m c main_v1 (ix3 1 0 b) := by blk_ext [iblk, place t]
  rw [e, host1]
  refine Eq.trans ?_ (H.gn b)
  pointwise

theorem masked_val (h : Fin 8) (a b : Fin 128) : masked m c (ix4 1 h a b) = (I.wm h a b : EReal) := by
  have hw := H.ws
  have hm := tri_val
  pointwise [masked, hw, hm]
  push_cast [Inputs.wm]
  rfl

theorem in10 (t : Fin cfg0.N) (h : Fin 8) (a b : Fin 128) : iblk m c 10 t (ix4 0 h a b) = (I.wm h a b : EReal) := by
  have e : iblk m c 10 t (ix4 0 h a b) = V m c main_v7 (ix4 1 h a b) := by blk_ext [iblk, place t]
  rw [e, host7]
  refine Eq.trans ?_ (masked_val H h a b)
  pointwise

theorem in11 (t : Fin cfg0.N) (h : Fin 8) (a b : Fin 128) : iblk m c 11 t (ix4 0 h a b) = (I.wm h b a : EReal) := by
  have e : iblk m c 11 t (ix4 0 h a b) = V m c main_v9 (ix4 1 h a b) := by blk_ext [iblk, place t]
  rw [e, host9]
  refine Eq.trans ?_ (masked_val H h b a)
  pointwise

theorem in12 (t : Fin cfg0.N) (a : Fin 128) (h : Fin 8) : iblk m c 12 t (ix3 0 a h) = (I.bs h a : EReal) := by
  have e : iblk m c 12 t (ix3 0 a h) = V m c main_v10 (ix3 1 a h) := by blk_ext [iblk, place t]
  rw [e, host10]
  refine Eq.trans ?_ (H.bs h a)
  pointwise

/-- The blocks hold the model's numbers when the arguments do. -/
theorem blocks : Blocks m c I :=
  ⟨in0 H, in1 H, in2 H, in3 H, in4 H, in5 H, in6 H, in7 H, in8 H, in9 H, in10 H, in11 H, in12 H⟩

end Cert.KernelIdeal.Mix
-- ==== Proof.KernArrays.lean ====
module

public import proofs.«01_k».proof.Proof.KernWsLast
public import proofs.«01_k».proof.Proof.KernDz
public import proofs.«01_k».proof.Proof.KernMaps
public import proofs.«01_k».proof.Proof.KernScale
public import proofs.«01_k».proof.Proof.KernBias
public import proofs.«01_k».proof.Proof.KernInputs

/-!
What the six result arrays of the kernel hold when its run ends.
-/

@[expose] public section

set_option maxRecDepth 16384

noncomputable section

namespace Cert.KernelIdeal.Mix

open Idealize.ShloMosaic Idealize.ShloMosaic.TcCoe Idealize.SL.Sem
open Cert.KernelIdeal Cert.KernelIdeal.Gen
open Mixer

/-! ### The sums of all points -/

section

variable (I : Inputs)

theorem dsc_total (r b : ℕ) : dscSum I 31 r b = if r = 0 then I.dsc (b / 256) (b % 256) else 0 := by
  unfold dscSum dscPart
  split
  · exact sum_all fun t => I.da t (256 * (b / 256) + b % 256) * I.q (b / 256) t (b % 256)
  · rfl

theorem dwp_total (q r b : ℕ) : dwpSum I 31 q r b = I.dwp q r b := by
  unfold dwpSum
  exact sum_all fun t => I.pooled q t r * I.dq q t b

theorem dgs_total (r b : ℕ) : dgsSum I 31 r b = if r = 0 then I.dgs b else 0 := by
  unfold dgsSum dgsPart
  split
  · exact sum_all fun t => I.dvn' t b * I.vh t b
  · rfl

/-- Two chunks a block: the sum over all chunks. -/
theorem sum_chunks (f : ℕ → ℝ) (N : ℕ) : ∑ k ∈ Finset.range N, (f (2 * k) + f (2 * k + 1)) = ∑ n ∈ Finset.range (2 * N), f n := by
  induction N with
  | zero => simp
  | succ N ih => rw [Finset.sum_range_succ, ih, Nat.mul_succ, Finset.sum_range_succ, Finset.sum_range_succ, add_assoc]

theorem sum_chunks64 (f : ℕ → ℝ) : ∑ k ∈ Finset.range 32, (f (2 * k) + f (2 * k + 1)) = ∑ n : Fin 64, f n := by
  rw [sum_chunks, ← Finset.sum_range]

theorem dbs_total (h a : ℕ) : ∑ d : Fin 128, dbSum I 31 a (128 * h + d) = I.dbs h a := by
  unfold dbSum dbPart Inputs.dbs
  rw [Finset.sum_comm, ← sum_chunks64 fun n => ∑ d : Fin 128, I.dmix (128 * n + a) (128 * h + d)]
  refine Finset.sum_congr rfl fun k _ => ?_
  rw [← Finset.sum_add_distrib]
  refine Finset.sum_congr rfl fun d _ => ?_
  rw [show 128 * (2 * k) + a = 256 * k + a by ring, show 128 * (2 * k + 1) + a = 256 * k + (128 + a) by ring]

theorem dws_total (h a b : ℕ) : dwsSum I 31 h a b * (if b ≤ a then 1 else 0) = I.dws h a b := by
  unfold dwsSum dwsPart dwsChunk Inputs.dws
  congr 1
  rw [← sum_chunks64 fun n => ∑ d : Fin 128, I.dmix (128 * n + a) (128 * h + d) * I.vn (128 * n + b) (128 * h + d)]
  refine Finset.sum_congr rfl fun k _ => ?_
  rw [show 128 * (2 * k) = 256 * k by ring, show 128 * (2 * k + 1) = 256 * k + 128 by ring]

end

/-! ### The arrays -/

variable {m : (ℓ : Loc nD τ sig) → Buf (Elt Idealize.ShloMosaic.Ideal) ℓ} {c : Dev nD} {I : Inputs} (H : Blocks m c I)

/-- The last point. -/
abbrev lastPt : Fin cfg0.N := ⟨31, by decide⟩

include H

theorem arr14 : (dats m 0 c).arrAt 14 cfg0.N = fun i : S4x256x256.Idx => (I.dwp (i 0) (i 1) (i 2) : EReal) := by
  refine (dats m 0 c).arrAt_eq_of_after_last 14 lastPt (by decide +kernel) _ fun j => ?_
  blk_simp
  rw [after0_14]
  obtain ⟨a, b, d, rfl⟩ : ∃ (a : Fin 4) (b d : Fin 256), j = ix3 a b d := ⟨j 0, j 1, j 2, by funext x; fin_cases x <;> rfl⟩
  exact (wp_all H 31 lastPt.isLt a b d).trans (congrArg _ (dwp_total I a b d))

theorem arr15 : (dats m 0 c).arrAt 15 cfg0.N = fun i : S8x1024.Idx => ((if (i 0).val = 0 then I.dsc ((i 1) / 256) ((i 1) % 256) else 0 : ℝ) : EReal) := by
  refine (dats m 0 c).arrAt_eq_of_after_last 15 lastPt (by decide +kernel) _ fun j => ?_
  blk_simp
  rw [after0_15]
  obtain ⟨a, b, rfl⟩ : ∃ (a : Fin 8) (b : Fin 1024), j = ix2 a b := ⟨j 0, j 1, by funext x; fin_cases x <;> rfl⟩
  exact (sc_all H 31 lastPt.isLt a b).trans (congrArg _ (dsc_total I a b))

theorem arr16 : (dats m 0 c).arrAt 16 cfg0.N = fun i : S8x128x128.Idx => (I.dws (i 0) (i 1) (i 2) : EReal) := by
  refine (dats m 0 c).arrAt_eq_of_after_last 16 lastPt (by decide +kernel) _ fun j => ?_
  blk_simp
  rw [after0_16]
  obtain ⟨a, b, d, rfl⟩ : ∃ (a : Fin 8) (b d : Fin 128), j = ix3 a b d := ⟨j 0, j 1, j 2, by funext x; fin_cases x <;> rfl⟩
  exact (ws_last H lastPt (by decide) (by decide) (fun h a b => ws_all H 30 _ (by decide) h a b) a b d).trans (congrArg _ (dws_total I a b d))

theorem arr17 : (dats m 0 c).arrAt 17 cfg0.N = fun i : S128x8.Idx => (I.dbs (i 1) (i 0) : EReal) := by
  refine (dats m 0 c).arrAt_eq_of_after_last 17 lastPt (by decide +kernel) _ fun j => ?_
  blk_simp
  rw [after0_17]
  obtain ⟨a, b, rfl⟩ : ∃ (a : Fin 128) (b : Fin 8), j = ix2 a b := ⟨j 0, j 1, by funext x; fin_cases x <;> rfl⟩
  exact (bs_last H lastPt (by decide) (by decide) a b).trans (congrArg _ (dbs_total I b a))

theorem arr18 : (dats m 0 c).arrAt 18 cfg0.N = fun i : S8x1024.Idx => ((if (i 0).val = 0 then I.dgs (i 1) else 0 : ℝ) : EReal) := by
  refine (dats m 0 c).arrAt_eq_of_after_last 18 lastPt (by decide +kernel) _ fun j => ?_
  blk_simp
  rw [after0_18]
  obtain ⟨a, b, rfl⟩ : ∃ (a : Fin 8) (b : Fin 1024), j = ix2 a b := ⟨j 0, j 1, by funext x; fin_cases x <;> rfl⟩
  exact (gs_all H 31 lastPt.isLt a b).trans (congrArg _ (dgs_total I a b))

theorem dz_any (t : Fin cfg0.N) (x : S256x3072.Idx) : (outsAt0 m c t.val t.isLt).1 x = (dzK I (256 * t.val + (x 0).val) (x 1).val : EReal) := by
  obtain ⟨a, b, rfl⟩ : ∃ (a : Fin 256) (b : Fin 3072), x = ix2 a b := ⟨x 0, x 1, by funext x; fin_cases x <;> rfl⟩
  exact dz_blk H t a b

set_option maxHeartbeats 1000000 in
theorem arr13 : (dats m 0 c).arrAt 13 cfg0.N
    = fun i : S8192x5120.Idx => if (i 1).val < 3072 then (dzK I (i 0) (i 1) : EReal) else V m c main_v11_0 i := by
  refine (dats m 0 c).arrAt_eq_of_coversWhere 13 (fun i : S8192x5120.Idx => (dzK I (i 0) (i 1) : EReal)) (fun β => β (1 : Fin 2) < 1) (by decide +kernel) (fun t hf y => ?_)
    (fun j => by blk_simp [Pipeline.Window.cell_apply]; omega)
  blk_simp
  rw [after0_13]
  refine (dz_any H t _).trans ?_
  blk_simp [place t]
  rw [Nat.mul_comm 256]

end Cert.KernelIdeal.Mix
-- ==== Proof.RefGate.lean ====
module

public import proofs.«01_k».proof.Proof.RefPool

/-!
The reference's gating, forward, stage by stage: each array holds the real numbers of the model.
-/

@[expose] public section

set_option maxRecDepth 16384

noncomputable section

namespace Cert.ReferenceIdeal.Mix

open Idealize.ShloMosaic Idealize.ShloMosaic.TcCoe Idealize.SL.Sem
open Cert.ReferenceIdeal Cert.ReferenceIdeal.Gen Cert.ReferenceIdeal.Read
open Mixer

variable {x0 x1 : FVec Ideal S8192x1024 .bf16} {x2 : FVec Ideal S8192x5120 .bf16} {x4 : FVec Ideal S1x4x256x256 .bf16}
  {x5 x6 : FVec Ideal S2x1024 .f32} {x7 : FVec Ideal S2x8x128x128 .f32} {x8 : FVec Ideal S2x8x128 .f32}
  {I : Inputs} (H : Holds x0 x1 x2 x4 x5 x6 x7 x8 I)

/-! ### Constants -/

/-- One over the root of two. -/
theorem r94 (i : S_.Idx) : val_main_v94 (F := Ideal) i = (((Real.sqrt 2)⁻¹ : ℝ) : EReal) := by
  pointwise [val_main_v94, val_main_cst_15]
  rw [lit_two, rsqrt_pos (by norm_num)]

/-- Minus two over the root of pi. -/
theorem r100 (i : S_.Idx) : val_main_v100 (F := Ideal) i = ((-2 * (Real.sqrt Real.pi)⁻¹ : ℝ) : EReal) := by
  pointwise [val_main_v100, val_main_v99, val_main_v98, val_main_cst_16, val_main_cst_17, val_main_cst_18]
  rw [lit_neg_two, lit_neg_one, ← EReal.coe_zero]
  have h : Ideal.atan2 ((0 : ℝ) : EReal) ((-1 : ℝ) : EReal) = (Real.pi : EReal) := by
    rw [show Ideal.atan2 ((0 : ℝ) : EReal) ((-1 : ℝ) : EReal)
      = ((if 0 < (-1 : ℝ) then Real.arctan (0 / -1)
          else if (-1 : ℝ) < 0 then (if (0 : ℝ) ≤ 0 then Real.arctan (0 / -1) + Real.pi else Real.arctan (0 / -1) - Real.pi)
          else if (0 : ℝ) < 0 then Real.pi / 2 else if (0 : ℝ) < 0 then -(Real.pi / 2) else 0 : ℝ) : EReal) from rfl]
    norm_num
  rw [h, rsqrt_pos Real.pi_pos, ← EReal.coe_mul]

include H

/-! ### The two halves after the unit -/

theorem r90 (t : Fin 8192) (c : Fin 2048) : val_main_v90 (F := Ideal) x2 (ix2 t c) = (I.z t (1024 + c) : EReal) := by
  pointwise [val_main_v90, val_main_v1, val_main_v0]
  exact H.z t ⟨1024 + c, by omega⟩

theorem r92 (t : Fin 8192) (c : Fin 2048) :
    val_main_v92 (F := Ideal) x2 (ix2 t c) = ((1 / 2 * I.z t (1024 + c) : ℝ) : EReal) := by
  pointwise [val_main_v92, val_main_v91, val_main_cst_14, r90 H]
  rw [lit_half, ← EReal.coe_mul]

theorem r96 (t : Fin 8192) (c : Fin 2048) :
    val_main_v96 (F := Ideal) x2 (ix2 t c) = ((-(I.z t (1024 + c) * (Real.sqrt 2)⁻¹) : ℝ) : EReal) := by
  pointwise [val_main_v96, val_main_v95, val_main_v93, r90 H, r94]
  rw [← EReal.coe_neg, ← EReal.coe_mul, neg_mul]

theorem r97 (t : Fin 8192) (c : Fin 2048) :
    val_main_v97 (F := Ideal) x2 (ix2 t c) = ((1 + erfR (I.z t (1024 + c) * (Real.sqrt 2)⁻¹) : ℝ) : EReal) := by
  pointwise [val_main_v97, r96 H]
  rw [erfc_neg_coe]

theorem r103 (t : Fin 8192) (c : Fin 2048) :
    val_main_v103 (F := Ideal) x2 (ix2 t c)
      = ((Real.exp (-((-(I.z t (1024 + c)) * (Real.sqrt 2)⁻¹) * (-(I.z t (1024 + c)) * (Real.sqrt 2)⁻¹))) : ℝ) : EReal) := by
  pointwise [val_main_v103, val_main_v102, val_main_v101, r96 H]
  rw [← EReal.coe_mul, ← EReal.coe_neg, Ideal.exp_coe, neg_mul (I.z _ _)]

theorem r104 (t : Fin 8192) (c : Fin 2048) :
    val_main_v104 (F := Ideal) x2 (ix2 t c) = (gelu (I.z t (1024 + c)) : EReal) := by
  pointwise [val_main_v104, r92 H, r97 H]
  rw [← EReal.coe_mul, gelu]

theorem r105 (t : Fin 8192) (c : Fin 1024) : val_main_v105 (F := Ideal) x2 (ix2 t c) = (I.gu t c : EReal) := by
  pointwise [val_main_v105, r104 H]
  rfl

theorem r106 (t : Fin 8192) (c : Fin 1024) : val_main_v106 (F := Ideal) x2 (ix2 t c) = (I.gv t c : EReal) := by
  pointwise [val_main_v106, r104 H]
  rw [Inputs.gv, ← Nat.add_assoc]

/-! ### The norm -/

theorem r113 (t : Fin 8192) : val_main_v113 (F := Ideal) x2 (ix2 t 0) = (I.ms t : EReal) := by
  pointwise [val_main_v113, val_main_v112, val_main_v111, val_main_v110, val_main_v109, val_main_v108, val_main_v107,
    val_main_cst_19, val_main_cst_20, val_main_cst_21, r106 H, lit_eps]
  rw [lit_1024, Inputs.ms, EReal.coe_add, ← div_coe_coe (by norm_num), coe_sum]
  simp only [EReal.coe_mul]

theorem r114 (t : Fin 8192) : val_main_v114 (F := Ideal) x2 (ix2 t 0) = (I.rv t : EReal) := by
  pointwise [val_main_v114, r113 H]
  rw [rsqrt_pos (I.ms_pos t), Inputs.rv]

theorem r117 (t : Fin 8192) :
    val_main_v117 (F := Ideal) x2 (ix2 t 0) = ((-1 / 2 * (I.rv t / I.ms t) : ℝ) : EReal) := by
  pointwise [val_main_v117, val_main_v116, val_main_v115, val_main_cst_22, r114 H, r113 H]
  rw [lit_neg_half, div_coe_coe (I.ms_pos t).ne', ← EReal.coe_mul]

theorem r119 (t : Fin 8192) (c : Fin 1024) : val_main_v119 (F := Ideal) x2 (ix2 t c) = (I.vh t c : EReal) := by
  pointwise [val_main_v119, val_main_v118, r106 H, r114 H]
  rw [Inputs.vh, EReal.coe_mul]

theorem r121 (t : Fin 8192) (c : Fin 1024) : val_main_v121 (F := Ideal) x6 (ix2 t c) = (I.gn c : EReal) := by
  pointwise [val_main_v121, val_main_v120, val_main_v7, val_main_v6]
  exact H.gn ⟨c, by omega⟩

theorem r122 (t : Fin 8192) (c : Fin 1024) : val_main_v122 (F := Ideal) x2 x6 (ix2 t c) = (I.vn t c : EReal) := by
  pointwise [val_main_v122, r119 H, r121 H]
  rw [Inputs.vn, EReal.coe_mul]

theorem r123 (n : Fin 64) (s : Fin 128) (h : Fin 8) (d : Fin 128) :
    val_main_v123 (F := Ideal) x2 x6 (ix4 n s h d) = (I.vn (128 * n + s) (128 * h + d) : EReal) := by
  pointwise [val_main_v123, r122 H]
  rw [Nat.mul_comm 128, Nat.mul_comm 128]

/-! ### The mask and the mixing -/

omit H in
theorem r125 (a b : Fin 128) :
    val_main_v125 (F := Ideal) (ix2 a b) = ((if (b : ℕ) ≤ a then 1 else 0 : ℝ) : EReal) := by
  pointwise [val_main_v125, val_main_v124, val_main_call1_v0, val_main_call1_v1, val_main_call1_v2, val_main_call1_v3,
    val_main_call1_v4, val_main_call1_v5, val_main_call1_c, val_main_call1_cst, val_main_cst_23]
  rw [show IntOp.addi (BitVec.ofNat 32 a) 0#32 = BitVec.ofNat 32 a from BitVec.add_zero _,
    select_sge a b (by omega) (by omega), coe_ite, EReal.coe_one, EReal.coe_zero]

theorem r128 (h : Fin 8) (a b : Fin 128) :
    val_main_v128 (F := Ideal) x7 (ix3 h a b) = (I.wm h a b : EReal) := by
  pointwise [val_main_v128, val_main_v127, val_main_v126, val_main_v9, val_main_v8, r125]
  rw [H.ws, Inputs.wm, EReal.coe_mul]

theorem r134 (n : Fin 64) (t : Fin 128) (h : Fin 8) (d : Fin 128) :
    val_main_v134 (F := Ideal) x2 x6 x7 x8 (ix4 n t h d) = (I.mixed n t h d : EReal) := by
  pointwise [val_main_v134, val_main_v130, val_main_v129, val_main_v133, val_main_v132, val_main_v131, val_main_v11,
    val_main_v10, r123 H, r128 H]
  rw [H.bs, Inputs.mixed, EReal.coe_add, coe_sum]
  simp only [EReal.coe_mul, mul_comm]

theorem r135 (t : Fin 8192) (c : Fin 1024) :
    val_main_v135 (F := Ideal) x2 x6 x7 x8 (ix2 t c) = (I.mix t c : EReal) := by
  pointwise [val_main_v135, r134 H]
  rfl

end Cert.ReferenceIdeal.Mix
-- ==== Proof.RefPoolBack.lean ====
module

public import proofs.«01_k».proof.Proof.RefPool

/-!
The reference's gradient of the pooled columns: the groups' differences side by side, summed up each column.
-/

@[expose] public section

set_option maxRecDepth 16384

noncomputable section

namespace Cert.ReferenceIdeal.Mix

open Idealize.ShloMosaic Idealize.ShloMosaic.TcCoe Idealize.SL.Sem
open Cert.ReferenceIdeal Cert.ReferenceIdeal.Gen Cert.ReferenceIdeal.Read
open Mixer

variable {x0 x1 : FVec Ideal S8192x1024 .bf16} {x2 : FVec Ideal S8192x5120 .bf16} {x4 : FVec Ideal S1x4x256x256 .bf16}
  {x5 x6 : FVec Ideal S2x1024 .f32} {x7 : FVec Ideal S2x8x128x128 .f32} {x8 : FVec Ideal S2x8x128 .f32}
  {I : Inputs} (H : Holds x0 x1 x2 x4 x5 x6 x7 x8 I)
include H

/-- The quotient of group `g` less the quotient a window later. -/
def step (I : Inputs) (g t a : ℕ) : ℝ :=
  I.dp g t a / Inputs.cnt (2 ^ (g + 1)) t
    - if t + 2 ^ (g + 1) < 8192 then I.dp g (t + 2 ^ (g + 1)) a / Inputs.cnt (2 ^ (g + 1)) (t + 2 ^ (g + 1)) else 0

/-- The four groups' differences side by side. -/
theorem r253 (t : Fin 8192) (c : Fin 1024) :
    val_main_v253 (F := Ideal) x0 x4 x5 (ix2 t c) = (step I (c / 256) t (c % 256) : EReal) := by
  pointwise [val_main_v253, val_main_v241, val_main_v229, val_main_v217, val_main_v228, val_main_v240, val_main_v252,
    val_main_cst_39, val_main_cst_42, val_main_cst_45, val_main_cst_48, r251 H, r239 H, r227 H, r216 H]
  have hc := c.isLt
  rcases (by omega : (c : ℕ) < 256 ∨ (256 ≤ (c : ℕ) ∧ (c : ℕ) < 512) ∨ (512 ≤ (c : ℕ) ∧ (c : ℕ) < 768) ∨ 768 ≤ (c : ℕ)) with h | h | h | h
  · rw [dif_neg (by omega), dif_neg (by omega), dif_neg (by omega), dif_pos (by omega), show (c : ℕ) / 256 = 0 by omega, show (c : ℕ) % 256 = (c : ℕ) by omega]
    simp only [step, Nat.reduceAdd, Nat.reducePow, add_zero, zero_add]
  · rw [dif_neg (by omega), dif_neg (by omega), dif_pos (by omega), dif_neg (by omega), show (c : ℕ) / 256 = 1 by omega, show (c : ℕ) % 256 = (c : ℕ) - 256 by omega]
    simp only [step, Nat.reduceAdd, Nat.reducePow, add_zero, zero_add]
  · rw [dif_neg (by omega), dif_pos (by omega), dif_neg (by omega), dif_neg (by omega), show (c : ℕ) / 256 = 2 by omega, show (c : ℕ) % 256 = (c : ℕ) - 512 by omega]
    simp only [step, Nat.reduceAdd, Nat.reducePow, add_zero, zero_add]
  · rw [dif_pos (by omega), dif_neg (by omega), dif_neg (by omega), dif_neg (by omega), show (c : ℕ) / 256 = 3 by omega, show (c : ℕ) % 256 = (c : ℕ) - 768 by omega]
    simp only [step, Nat.reduceAdd, Nat.reducePow, add_zero, zero_add]

/-- The four groups' cotangents side by side, negated. -/
theorem r244 (t : Fin 8192) (c : Fin 1024) :
    val_main_v244 (F := Ideal) x0 x4 x5 (ix2 t c) = ((-I.dp (c / 256) t (c % 256) : ℝ) : EReal) := by
  pointwise [val_main_v244, val_main_v232, val_main_v220, val_main_v209, val_main_v219, val_main_v231, val_main_v243,
    val_main_v208, val_main_v218, val_main_v230, val_main_v242,
    val_main_cst_37, val_main_cst_40, val_main_cst_43, val_main_cst_46, r201 H, r203 H, r205 H, r207 H]
  have hc := c.isLt
  rcases (by omega : (c : ℕ) < 256 ∨ (256 ≤ (c : ℕ) ∧ (c : ℕ) < 512) ∨ (512 ≤ (c : ℕ) ∧ (c : ℕ) < 768) ∨ 768 ≤ (c : ℕ)) with h | h | h | h
  · rw [dif_neg (by omega), dif_neg (by omega), dif_neg (by omega), dif_pos (by omega), show (c : ℕ) / 256 = 0 by omega, show (c : ℕ) % 256 = (c : ℕ) by omega]
    simp only [EReal.coe_neg, add_zero, zero_add]
  · rw [dif_neg (by omega), dif_neg (by omega), dif_pos (by omega), dif_neg (by omega), show (c : ℕ) / 256 = 1 by omega, show (c : ℕ) % 256 = (c : ℕ) - 256 by omega]
    simp only [EReal.coe_neg, add_zero, zero_add]
  · rw [dif_neg (by omega), dif_pos (by omega), dif_neg (by omega), dif_neg (by omega), show (c : ℕ) / 256 = 2 by omega, show (c : ℕ) % 256 = (c : ℕ) - 512 by omega]
    simp only [EReal.coe_neg, add_zero, zero_add]
  · rw [dif_pos (by omega), dif_neg (by omega), dif_neg (by omega), dif_neg (by omega), show (c : ℕ) / 256 = 3 by omega, show (c : ℕ) % 256 = (c : ℕ) - 768 by omega]
    simp only [EReal.coe_neg, add_zero, zero_add]

/-- The gradient of the pooled columns. -/
theorem r255 (t : Fin 8192) (c : Fin 1024) :
    val_main_v255 (F := Ideal) x0 x4 x5 (ix2 t c) = (I.dzp (c / 256) t (c % 256) : EReal) := by
  have h := suffix_rows (C := 1024) (f := fun s => step I (c / 256) s (c % 256)) (val_main_v253 (F := Ideal) x0 x4 x5)
    reduceWindows_S8192x1024_S8192x1024_w8192s1p0_8191_w1s1p0_0 t c (fun s => r253 H s c)
  have e : val_main_v254 (F := Ideal) x0 x4 x5 (ix2 t c)
      = (ahead 8192 (2 ^ ((c : ℕ) / 256 + 1)) (fun s => I.dp (c / 256) s (c % 256) / Inputs.cnt (2 ^ ((c : ℕ) / 256 + 1)) s) t : EReal) := by
    unfold val_main_v254 Host.reduceWindowAdd
    rw [show val_main_call2_call0_v0 (F := Ideal) (Shape.Idx.first h_S_) = 0 by
      pointwise [val_main_call2_call0_v0, val_main_call2_call0_cst], ← suffix_eq_ahead]
    exact h
  rw [val_main_v255_apply, r244 H, e, Ideal.addf_def, ← EReal.coe_add, Inputs.dzp, Inputs.unpool, add_comm, ← sub_eq_add_neg]

end Cert.ReferenceIdeal.Mix
-- ==== Proof.RefGateBack.lean ====
module

public import proofs.«01_k».proof.Proof.RefGate
public import proofs.«01_k».proof.Proof.RefPoolBack

/-!
The reference's gradient of the gating, stage by stage: each array holds the real numbers of the model.
-/

@[expose] public section

set_option maxRecDepth 16384

noncomputable section

namespace Cert.ReferenceIdeal.Mix

open Idealize.ShloMosaic Idealize.ShloMosaic.TcCoe Idealize.SL.Sem
open Cert.ReferenceIdeal Cert.ReferenceIdeal.Gen Cert.ReferenceIdeal.Read
open Mixer

variable {x0 x1 : FVec Ideal S8192x1024 .bf16} {x2 : FVec Ideal S8192x5120 .bf16} {x4 : FVec Ideal S1x4x256x256 .bf16}
  {x5 x6 : FVec Ideal S2x1024 .f32} {x7 : FVec Ideal S2x8x128x128 .f32} {x8 : FVec Ideal S2x8x128 .f32}
  {I : Inputs} (H : Holds x0 x1 x2 x4 x5 x6 x7 x8 I)

/-- A sum over the first and the last of four axes. -/
theorem sum_outer {N A B D : ℕ} (h : (⟨4, ![N, A, B, D]⟩ : Shape).ReducesTo [0, 3] ⟨2, ![A, B]⟩)
    (x : (⟨4, ![N, A, B, D]⟩ : Shape).Idx → EReal) (init : EReal) (a : Fin A) (b : Fin B) :
    Ideal.hostReduceAdd h x init (ix2 a b) = init + ∑ n : Fin N, ∑ d : Fin D, x (ix4 n a b d) := by
  refine congrArg (init + ·) ?_
  rw [← Fintype.sum_prod_type']
  refine Finset.sum_nbij' (fun i => (i 0, i 3)) (fun k => ix4 k.1 a b k.2) (fun _ _ => Finset.mem_univ _) ?_ ?_
    (fun _ _ => rfl) ?_
  · intro k _
    rw [Finset.mem_filter]
    refine ⟨Finset.mem_univ _, funext fun c => Fin.ext ?_⟩
    match c with
    | ⟨0, _⟩ => rfl
    | ⟨1, _⟩ => rfl
  · intro i hi
    have e := (Finset.mem_filter.mp hi).2
    funext c; apply Fin.ext
    match c with
    | ⟨0, _⟩ => rfl
    | ⟨1, _⟩ => exact (congrArg Fin.val (congrFun e 0)).symm
    | ⟨2, _⟩ => exact (congrArg Fin.val (congrFun e 1)).symm
    | ⟨3, _⟩ => rfl
  · intro i hi
    have e := (Finset.mem_filter.mp hi).2
    refine congrArg x (funext fun c => Fin.ext ?_)
    match c with
    | ⟨0, _⟩ => rfl
    | ⟨1, _⟩ => exact congrArg Fin.val (congrFun e 0)
    | ⟨2, _⟩ => exact congrArg Fin.val (congrFun e 1)
    | ⟨3, _⟩ => rfl

include H

/-! ### The mixing -/

theorem r138 (t : Fin 8192) (c : Fin 1024) : val_main_v138 (F := Ideal) x1 (ix2 t c) = (I.ds t c : EReal) := by
  pointwise [val_main_v138]
  exact H.ds t c

theorem r139 (t : Fin 8192) (c : Fin 1024) : val_main_v139 (F := Ideal) x1 x2 (ix2 t c) = (I.dmix t c : EReal) := by
  pointwise [val_main_v139, r105 H, r138 H]
  rw [Inputs.dmix, EReal.coe_mul, mul_comm]

theorem r140 (t : Fin 8192) (c : Fin 1024) :
    val_main_v140 (F := Ideal) x1 x2 x6 x7 x8 (ix2 t c) = ((I.ds t c * I.mix t c : ℝ) : EReal) := by
  pointwise [val_main_v140, r135 H, r138 H]
  rw [EReal.coe_mul]

theorem r141 (n : Fin 64) (s : Fin 128) (h : Fin 8) (d : Fin 128) :
    val_main_v141 (F := Ideal) x1 x2 (ix4 n s h d) = (I.dmix (128 * n + s) (128 * h + d) : EReal) := by
  pointwise [val_main_v141, r139 H]
  rw [Nat.mul_comm 128, Nat.mul_comm 128]

theorem r142 (a : Fin 128) (h : Fin 8) : val_main_v142 (F := Ideal) x1 x2 (ix2 a h) = (I.dbs h a : EReal) := by
  refine (sum_outer _ _ _ a h).trans ?_
  rw [show (val_main_cst_24 (F := Ideal) (Shape.Idx.first h_S_) : EReal) = 0 by pointwise [val_main_cst_24], zero_add,
    Inputs.dbs, coe_sum]
  refine Finset.sum_congr rfl fun n _ => ?_
  rw [coe_sum]
  exact Finset.sum_congr rfl fun d _ => r141 H n a h d

theorem r143 (a : Fin 128) (h : Fin 8) :
    val_main_v143 (F := Ideal) x1 x2 (ix4 0 a h 0) = (I.dbs h a : EReal) := by
  pointwise [val_main_v143, r142 H]

/-- The gradient of the biases. -/
theorem r145 (h : Fin 8) (a : Fin 128) : val_main_v145 (F := Ideal) x1 x2 (ix2 h a) = (I.dbs h a : EReal) := by
  pointwise [val_main_v145]
  refine (sum_outer _ _ _ a h).trans ?_
  rw [show (val_main_cst_25 (F := Ideal) (Shape.Idx.first h_S_) : EReal) = 0 by pointwise [val_main_cst_25], zero_add,
    Fin.sum_univ_one, Fin.sum_univ_one, r143 H]

theorem r264 (a : Fin 128) (h : Fin 8) : val_main_v264 (F := Ideal) x1 x2 (ix2 a h) = (I.dbs h a : EReal) := by
  pointwise [val_main_v264, r145 H]

/-- The gradient of the spatial weights. -/
theorem r151 (h : Fin 8) (a b : Fin 128) :
    val_main_v151 (F := Ideal) x1 x2 x6 (ix3 h a b) = (I.dws h a b : EReal) := by
  pointwise [val_main_v151, val_main_v150, val_main_v147, val_main_v146, val_main_v126, r141 H, r123 H, r125]
  rw [Inputs.dws, EReal.coe_mul]
  refine congrArg (· * _) ?_
  rw [coe_sum]
  refine Finset.sum_congr rfl fun n _ => ?_
  rw [coe_sum]
  exact Finset.sum_congr rfl fun d _ => by rw [EReal.coe_mul]

theorem r149 (n : Fin 64) (s : Fin 128) (h : Fin 8) (d : Fin 128) :
    val_main_v149 (F := Ideal) x1 x2 x7 (ix4 n s h d) = (I.dvn n s h d : EReal) := by
  pointwise [val_main_v149, val_main_v148, val_main_v146, r141 H, r128 H]
  rw [Inputs.dvn, coe_sum]
  exact Finset.sum_congr rfl fun m _ => by rw [EReal.coe_mul, mul_comm]

theorem r152 (t : Fin 8192) (c : Fin 1024) :
    val_main_v152 (F := Ideal) x1 x2 x7 (ix2 t c) = (I.dvn' t c : EReal) := by
  pointwise [val_main_v152, r149 H]
  rfl

/-! ### The gain -/

theorem r158 (c : Fin 1024) : val_main_v158 (F := Ideal) x1 x2 x7 (ix1 c) = (I.dgs c : EReal) := by
  pointwise [val_main_v158, val_main_v155, val_main_v154, val_main_v153, val_main_cst_26, val_main_cst_27, r119 H, r152 H]
  rw [Finset.sum_const, Finset.card_univ, Fintype.card_fin, one_smul]
  rw [Inputs.dgs, coe_sum]
  exact Finset.sum_congr rfl fun s _ => by rw [EReal.coe_mul, mul_comm]

/-- The gradient of the gain, in the first of eight rows. -/
theorem r267 (r : Fin 8) (c : Fin 1024) :
    val_main_v267 (F := Ideal) x1 x2 x7 (ix2 r c) = ((if (r : ℕ) = 0 then I.dgs c else 0 : ℝ) : EReal) := by
  pointwise [val_main_v267, val_main_v266, val_main_v265, val_main_cst_51, r158 H]
  by_cases h : (r : ℕ) = 0
  · rw [dif_pos (by omega), if_pos h]
  · rw [dif_neg (by omega), if_neg h, EReal.coe_zero]

/-! ### The norm -/

theorem r157 (t : Fin 8192) (c : Fin 1024) :
    val_main_v157 (F := Ideal) x1 x2 x6 x7 (ix2 t c) = (I.dvg t c : EReal) := by
  pointwise [val_main_v157, val_main_v156, val_main_v120, val_main_v7, val_main_v6, r152 H]
  rw [H.gn, Inputs.dvg, EReal.coe_mul]

theorem r167 (t : Fin 8192) :
    val_main_v167 (F := Ideal) x1 x2 x6 x7 (ix1 t)
      = (((∑ j : Fin 1024, I.gv t j * I.dvg t j) * (-1 / 2 * (I.rv t / I.ms t)) / 1024 : ℝ) : EReal) := by
  pointwise [val_main_v167, val_main_v166, val_main_v165, val_main_v164, val_main_v161, val_main_v160, val_main_v159,
    val_main_cst_28, val_main_cst_29, val_main_cst_30, r106 H, r157 H, r117 H]
  rw [Fin.sum_univ_one, r117 H, lit_1024, show (∑ j : Fin 1024, (I.gv t j : EReal) * (I.dvg t j : EReal))
    = ((∑ j : Fin 1024, I.gv t j * I.dvg t j : ℝ) : EReal) by rw [coe_sum]; rfl, ← EReal.coe_mul,
    div_coe_coe (by norm_num)]

theorem r172 (t : Fin 8192) (c : Fin 1024) :
    val_main_v172 (F := Ideal) x1 x2 x6 x7 (ix2 t c) = (I.dgv t c : EReal) := by
  pointwise [val_main_v172, val_main_v171, val_main_v170, val_main_v169, val_main_v168, val_main_v163, val_main_v162,
    r106 H, r157 H, r114 H, r167 H]
  have h := rms_grad (I.gv t c) (I.dvg t c) (∑ j : Fin 1024, I.gv t j * I.dvg t j) (I.ms t) (I.ms_pos t)
  have e : ∑ j : Fin 1024, I.dvg t j * I.vh t j = (∑ j : Fin 1024, I.gv t j * I.dvg t j) * (Real.sqrt (I.ms t))⁻¹ := by
    rw [Finset.sum_mul]
    exact Finset.sum_congr rfl fun j _ => by rw [Inputs.vh, Inputs.rv]; ring
  simp only [← EReal.coe_mul, ← EReal.coe_add]
  rw [Inputs.dgv, e, Inputs.vh, Inputs.rv, ← h]

/-! ### The unit -/

theorem r175 (t : Fin 8192) (c : Fin 2048) :
    val_main_v175 (F := Ideal) x1 x2 x6 x7 x8 (ix2 t c)
      = ((if (c : ℕ) < 1024 then I.ds t c * I.mix t c else I.dgv t (c - 1024) : ℝ) : EReal) := by
  pointwise [val_main_v175, val_main_v174, val_main_v173, val_main_cst_31, val_main_cst_32, r172 H, r140 H]
  by_cases h : (c : ℕ) < 1024
  · rw [dif_neg (by omega), dif_pos h, if_pos h, zero_add]
  · rw [dif_pos (by omega), dif_neg h, if_neg h, add_zero]

theorem r186 (t : Fin 8192) (c : Fin 2048) :
    val_main_v186 (F := Ideal) x1 x2 x6 x7 x8 (ix2 t c)
      = (((if (c : ℕ) < 1024 then I.ds t c * I.mix t c else I.dgv t (c - 1024)) * gelu' (I.z t (1024 + c)) : ℝ) : EReal) := by
  pointwise [val_main_v186, val_main_v185, val_main_v184, val_main_v183, val_main_v182, val_main_v181, val_main_v180,
    val_main_v179, val_main_v178, val_main_v177, val_main_v176, val_main_cst_33, r175 H, r92 H, r97 H, r103 H, r94, r100]
  rw [← gelu'_chain]
  simp only [lit_half, ← EReal.coe_mul, ← EReal.coe_neg, ← EReal.coe_add]

/-! ### The whole array -/

/-- The first result, entry by entry. -/
def dz (I : Inputs) (rest : ℕ → ℕ → EReal) (t c : ℕ) : EReal :=
  if c < 1024 then (I.dzp (c / 256) t (c % 256) : EReal)
  else if c < 2048 then (I.dzu t (c - 1024) : EReal)
  else if c < 3072 then (I.dzv t (c - 2048) : EReal)
  else rest t c

theorem r257 (t : Fin 8192) (c : Fin 3072) :
    val_main_v257 (F := Ideal) x0 x1 x2 x4 x5 x6 x7 x8 (ix2 t c) = dz I (fun _ _ => 0) t c := by
  pointwise [val_main_v257, val_main_v256, val_main_v187, val_main_cst_34, val_main_cst_49, r186 H, r255 H]
  unfold dz
  rcases (by omega : (c : ℕ) < 1024 ∨ (1024 ≤ (c : ℕ) ∧ (c : ℕ) < 2048) ∨ (2048 ≤ (c : ℕ) ∧ (c : ℕ) < 3072)) with h | h | h
  · rw [dif_neg (by omega), dif_pos h, if_pos h, zero_add]
  · rw [dif_pos ⟨h.1, by omega⟩, dif_neg (by omega), if_pos (by omega : (c : ℕ) - 1024 < 1024), if_neg (by omega), if_pos h.2, add_zero,
      show 1024 + ((c : ℕ) - 1024) = 1024 + (c - 1024) by omega]
    rfl
  · rw [dif_pos ⟨by omega, by omega⟩, dif_neg (by omega), if_neg (by omega : ¬(c : ℕ) - 1024 < 1024), if_neg (by omega), if_neg (by omega),
      if_pos h.2, add_zero,
      show (c : ℕ) - 1024 - 1024 = c - 2048 by omega, show 1024 + ((c : ℕ) - 1024) = 2048 + (c - 2048) by omega]
    rfl

theorem r260 (x3 : FVec Ideal S8192x5120 .bf16) (t : Fin 8192) (c : Fin 5120) :
    val_main_v260 (F := Ideal) x0 x1 x2 x3 x4 x5 x6 x7 x8 (ix2 t c)
      = if (c : ℕ) < 3072 then dz I (fun _ _ => 0) t c else x3 (ix2 t c) := by
  pointwise [val_main_v260, val_main_v259, val_main_v258, r257 H]
  by_cases h : (c : ℕ) < 3072
  · rw [dif_pos h, if_pos h]
  · rw [dif_neg h, if_neg h]
    exact congrArg (fun k => x3 (ix2 t k)) (Fin.ext (by show 3072 + ((c : ℕ) - 3072) = c; omega))

end Cert.ReferenceIdeal.Mix
-- ==== Proof.PreFinite.lean ====
module

public import proofs.«01_k».proof.Pre_finite
public import Idealize.ShloMosaic.Lib.ReduceAll
public import Idealize.ShloMosaic.Lib.Affine
public import Idealize.ShloMosaic.Lib.Decide
public import Idealize.ShloMosaic.PureOps.Ideal

/-!
The precondition read back: every entry of the eight arrays it speaks of is a real number.
-/

@[expose] public section

set_option maxRecDepth 16384

noncomputable section

namespace Cert.Pre_finite

open Idealize.ShloMosaic

/-- The shape relations the precondition's operations take. -/
theorem shapes : Facts where
  bitsLt_bf16_f32 := by decide
  bcast_S_S8192x1024 := by decide
  reducesTo_S8192x1024_S_d0_1 := by decide
  h_S_ := by decide
  bcast_S_S8192x5120 := by decide
  reducesTo_S8192x5120_S_d0_1 := by decide
  bcast_S_S1x4x256x256 := by decide
  reducesTo_S1x4x256x256_S_d0_1_2_3 := by decide
  bcast_S_S2x1024 := by decide
  reducesTo_S2x1024_S_d0_1 := by decide
  bcast_S_S2x8x128x128 := by decide
  reducesTo_S2x8x128x128_S_d0_1_2_3 := by decide
  bcast_S_S2x8x128 := by decide
  reducesTo_S2x8x128_S_d0_1_2 := by decide

/-- A value whose magnitude is below infinity is a real number. -/
theorem real_of_lt (x : EReal) (h : (FloatOps.cmpf (F := Idealize.ShloMosaic.Ideal) (φ := .f32) .olt (FloatOps.hostAbsf (F := Idealize.ShloMosaic.Ideal) (φ := .f32) x)
      (FloatOps.ofBits (F := Idealize.ShloMosaic.Ideal) .f32 0x7F800000#32)) = 1#1) : ∃ r : ℝ, x = (r : EReal) := by
  have htop : Ideal.ofBits .f32 0x7F800000#32 = ⊤ := by simp [Ideal.ofBits, Ideal.ieee]
  have h' : Ideal.cmp .olt (max x (-x)) (Ideal.ofBits .f32 0x7F800000#32) = 1#1 := h
  rw [htop] at h'
  have hlt : max x (-x) < ⊤ := by
    by_contra hn
    simp [Ideal.cmp, hn] at h'
  induction x with
  | bot => simp at hlt
  | top => simp at hlt
  | coe r => exact ⟨r, rfl⟩

instance : Subsingleton S_.Idx := ⟨fun a b => funext fun x => x.elim0⟩

/-- A magnitude test over a whole array that came out true says that every entry is a real number. -/
theorem reals {s : Shape} {axes : List (Fin s.rank)} (x : s.Idx → EReal) (hb : S_.BroadcastsInDim s (![] : Fin 0 → Fin s.rank)) (h : s.ReducesTo axes S_) (hu : 0 < S_.numel)
    (e : Host.reduce IntOp.andi (cmpf (F := Idealize.ShloMosaic.Ideal) (φ := .f32) .olt (Host.absf (F := Idealize.ShloMosaic.Ideal) (φ := .f32) x)
      (broadcastInDim s ![] hb (constant (F := Idealize.ShloMosaic.Ideal) S_ .f32 0x7F800000#32))) (constantI S_ 1 1#1) h hu (fun a => a.elim0) = 1#1) (i : s.Idx) :
    ∃ r : ℝ, x i = (r : EReal) :=
  real_of_lt (x i) (Host.reduce_andi_all _ _ h hu _ e i)

theorem finite_of [Facts] (a0 a1 : S8192x1024.Idx → EReal) (a2 a3 : S8192x5120.Idx → EReal) (a4 : S1x4x256x256.Idx → EReal) (a5 a6 : S2x1024.Idx → EReal)
    (a7 : S2x8x128x128.Idx → EReal) (a8 : S2x8x128.Idx → EReal)
    (e : fn (F := Idealize.ShloMosaic.Ideal) a0 a1 a2 a3 a4 a5 a6 a7 a8 = fun _ => 1#1) :
    (∀ i, ∃ r : ℝ, a0 i = (r : EReal)) ∧ (∀ i, ∃ r : ℝ, a1 i = (r : EReal)) ∧ (∀ i, ∃ r : ℝ, a2 i = (r : EReal)) ∧ (∀ i, ∃ r : ℝ, a4 i = (r : EReal))
      ∧ (∀ i, ∃ r : ℝ, a5 i = (r : EReal)) ∧ (∀ i, ∃ r : ℝ, a6 i = (r : EReal)) ∧ (∀ i, ∃ r : ℝ, a7 i = (r : EReal)) ∧ (∀ i, ∃ r : ℝ, a8 i = (r : EReal)) := by
  have e' := congrFun e (fun a => a.elim0)
  unfold fn fn_part1 fn_part2 at e'
  obtain ⟨e', h8⟩ := IntOp.andi_eq_one.1 e'
  obtain ⟨e', h7⟩ := IntOp.andi_eq_one.1 e'
  obtain ⟨e', h6⟩ := IntOp.andi_eq_one.1 e'
  obtain ⟨e', h5⟩ := IntOp.andi_eq_one.1 e'
  obtain ⟨e', h4⟩ := IntOp.andi_eq_one.1 e'
  obtain ⟨e', h2⟩ := IntOp.andi_eq_one.1 e'
  obtain ⟨h0, h1⟩ := IntOp.andi_eq_one.1 e'
  exact ⟨reals a0 _ _ _ h0, reals a1 _ _ _ h1, reals a2 _ _ _ h2, reals a4 _ _ _ h4, reals a5 _ _ _ h5, reals a6 _ _ _ h6, reals a7 _ _ _ h7, reals a8 _ _ _ h8⟩

end Cert.Pre_finite
-- ==== Proof.Equal.lean ====
module

public import proofs.«01_k».proof.Proof.KernArrays
public import proofs.«01_k».proof.Proof.RefGateBack
public import proofs.«01_k».proof.Proof.PreFinite

/-!
The reference's six results are the six arrays the kernel leaves.
-/

@[expose] public section

set_option maxRecDepth 16384

noncomputable section

namespace Cert.KernelIdeal.Mix

open Idealize.ShloMosaic Idealize.ShloMosaic.TcCoe Idealize.SL.Sem
open Cert.KernelIdeal Cert.KernelIdeal.Gen
open Cert.ReferenceIdeal.Read
open Mixer

/-! ### The model's numbers, taken from the arguments -/

section

variable {n0 n1 n2 n3 : ℕ}

/-- The real number at a place of an array, zero outside it. -/
def at2 (X : (⟨2, ![n0, n1]⟩ : Shape).Idx → EReal) (a b : ℕ) : ℝ :=
  if h : a < n0 ∧ b < n1 then (X (ix2 ⟨a, h.1⟩ ⟨b, h.2⟩)).toReal else 0

def at3 (X : (⟨3, ![n0, n1, n2]⟩ : Shape).Idx → EReal) (a b c : ℕ) : ℝ :=
  if h : a < n0 ∧ b < n1 ∧ c < n2 then (X (ix3 ⟨a, h.1⟩ ⟨b, h.2.1⟩ ⟨c, h.2.2⟩)).toReal else 0

def at4 (X : (⟨4, ![n0, n1, n2, n3]⟩ : Shape).Idx → EReal) (a b c d : ℕ) : ℝ :=
  if h : a < n0 ∧ b < n1 ∧ c < n2 ∧ d < n3 then (X (ix4 ⟨a, h.1⟩ ⟨b, h.2.1⟩ ⟨c, h.2.2.1⟩ ⟨d, h.2.2.2⟩)).toReal else 0

theorem back {s : Shape} {X : s.Idx → EReal} (hX : ∀ i, ∃ r : ℝ, X i = (r : EReal)) (i : s.Idx) : X i = ((X i).toReal : EReal) := by
  obtain ⟨r, hr⟩ := hX i
  rw [hr, EReal.toReal_coe]

theorem at2_eq {X : (⟨2, ![n0, n1]⟩ : Shape).Idx → EReal} (hX : ∀ i, ∃ r : ℝ, X i = (r : EReal)) (a : Fin n0) (b : Fin n1) :
    X (ix2 a b) = (at2 X a b : EReal) := by
  rw [at2, dif_pos ⟨a.isLt, b.isLt⟩]
  exact back hX _

theorem at3_eq {X : (⟨3, ![n0, n1, n2]⟩ : Shape).Idx → EReal} (hX : ∀ i, ∃ r : ℝ, X i = (r : EReal)) (a : Fin n0) (b : Fin n1) (c : Fin n2) :
    X (ix3 a b c) = (at3 X a b c : EReal) := by
  rw [at3, dif_pos ⟨a.isLt, b.isLt, c.isLt⟩]
  exact back hX _

theorem at4_eq {X : (⟨4, ![n0, n1, n2, n3]⟩ : Shape).Idx → EReal} (hX : ∀ i, ∃ r : ℝ, X i = (r : EReal)) (a : Fin n0) (b : Fin n1) (c : Fin n2) (d : Fin n3) :
    X (ix4 a b c d) = (at4 X a b c d : EReal) := by
  rw [at4, dif_pos ⟨a.isLt, b.isLt, c.isLt, d.isLt⟩]
  exact back hX _

end

/-- The model's numbers, read from the arguments: the second layer's rows where an argument holds both. -/
def inputs (x0 x1 : S8192x1024.Idx → EReal) (x2 : S8192x5120.Idx → EReal) (x4 : S1x4x256x256.Idx → EReal) (x5 x6 : S2x1024.Idx → EReal)
    (x7 : S2x8x128x128.Idx → EReal) (x8 : S2x8x128.Idx → EReal) : Inputs where
  da := at2 x0
  ds := at2 x1
  z := at2 x2
  wp := at4 x4 0
  sc := at2 x5 1
  gn := at2 x6 1
  ws := at4 x7 1
  bs := at3 x8 1

theorem holds {x0 x1 : S8192x1024.Idx → EReal} {x2 x3 : S8192x5120.Idx → EReal} {x4 : S1x4x256x256.Idx → EReal} {x5 x6 : S2x1024.Idx → EReal}
    {x7 : S2x8x128x128.Idx → EReal} {x8 : S2x8x128.Idx → EReal}
    (e : @Cert.Pre_finite.fn Cert.Pre_finite.shapes Idealize.ShloMosaic.Ideal _ x0 x1 x2 x3 x4 x5 x6 x7 x8 = fun _ => 1#1) :
    Cert.ReferenceIdeal.Mix.Holds x0 x1 x2 x4 x5 x6 x7 x8 (inputs x0 x1 x2 x4 x5 x6 x7 x8) := by
  haveI := Cert.Pre_finite.shapes
  obtain ⟨h0, h1, h2, h4, h5, h6, h7, h8⟩ := Cert.Pre_finite.finite_of x0 x1 x2 x3 x4 x5 x6 x7 x8 e
  exact ⟨at2_eq h0, at2_eq h1, at2_eq h2, at4_eq h4 0, at2_eq h5 1, at2_eq h6 1, at4_eq h7 1, at3_eq h8 1⟩

/-! ### The equations -/

variable {m : (ℓ : Loc nD τ sig) → Buf (Elt Idealize.ShloMosaic.Ideal) ℓ} {c : Dev nD} {I : Inputs}
  (H : Cert.ReferenceIdeal.Mix.Holds (m ((c : Thread nD τ).loc main_arg0)) (m ((c : Thread nD τ).loc main_arg1)) (m ((c : Thread nD τ).loc main_arg2)) (m ((c : Thread nD τ).loc main_arg4))
    (m ((c : Thread nD τ).loc main_arg5)) (m ((c : Thread nD τ).loc main_arg6)) (m ((c : Thread nD τ).loc main_arg7)) (m ((c : Thread nD τ).loc main_arg8)) I)

theorem dz_same (x : ℕ → ℕ → EReal) (t b : ℕ) (hb : b < 3072) : Cert.ReferenceIdeal.Mix.dz I x t b = (dzK I t b : EReal) := by
  unfold Cert.ReferenceIdeal.Mix.dz dzK
  split_ifs <;> rfl

include H

theorem eq13 : val_main_v260 (F := Idealize.ShloMosaic.Ideal) (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5)) (m ((c : Thread nD τ).loc main_arg6)) (m ((c : Thread nD τ).loc main_arg7))
    (m ((c : Thread nD τ).loc main_arg8)) = (dats m 0 c).arrAt 13 cfg0.N := by
  rw [arr13 (blocks H), host11]
  funext i
  obtain ⟨a, b, rfl⟩ : ∃ (a : Fin 8192) (b : Fin 5120), i = ix2 a b := ⟨i 0, i 1, by funext x; fin_cases x <;> rfl⟩
  refine (Cert.ReferenceIdeal.Mix.r260 H _ a b).trans ?_
  show _ = if b.val < 3072 then (dzK I a b : EReal) else m ((c : Thread nD τ).loc main_arg3) (ix2 a b)
  by_cases hb : b.val < 3072
  · rw [if_pos hb, if_pos hb]
    exact dz_same _ _ _ hb
  · rw [if_neg hb, if_neg hb]

theorem eq14 : val_main_v199 (F := Idealize.ShloMosaic.Ideal) (m ((c : Thread nD τ).loc main_arg0)) (m ((c : Thread nD τ).loc main_arg2)) (m ((c : Thread nD τ).loc main_arg5))
    = (dats m 0 c).arrAt 14 cfg0.N := by
  rw [arr14 (blocks H)]
  funext i
  obtain ⟨a, b, d, rfl⟩ : ∃ (a : Fin 4) (b d : Fin 256), i = ix3 a b d := ⟨i 0, i 1, i 2, by funext x; fin_cases x <;> rfl⟩
  exact Cert.ReferenceIdeal.Mix.r199 H a b d

theorem eq15 : val_main_v263 (F := Idealize.ShloMosaic.Ideal) (m ((c : Thread nD τ).loc main_arg0)) (m ((c : Thread nD τ).loc main_arg2)) (m ((c : Thread nD τ).loc main_arg4))
    = (dats m 0 c).arrAt 15 cfg0.N := by
  rw [arr15 (blocks H)]
  funext i
  obtain ⟨a, b, rfl⟩ : ∃ (a : Fin 8) (b : Fin 1024), i = ix2 a b := ⟨i 0, i 1, by funext x; fin_cases x <;> rfl⟩
  exact Cert.ReferenceIdeal.Mix.r263 H a b

theorem eq16 : val_main_v151 (F := Idealize.ShloMosaic.Ideal) (m ((c : Thread nD τ).loc main_arg1)) (m ((c : Thread nD τ).loc main_arg2)) (m ((c : Thread nD τ).loc main_arg6))
    = (dats m 0 c).arrAt 16 cfg0.N := by
  rw [arr16 (blocks H)]
  funext i
  obtain ⟨a, b, d, rfl⟩ : ∃ (a : Fin 8) (b d : Fin 128), i = ix3 a b d := ⟨i 0, i 1, i 2, by funext x; fin_cases x <;> rfl⟩
  exact Cert.ReferenceIdeal.Mix.r151 H a b d

theorem eq17 : val_main_v264 (F := Idealize.ShloMosaic.Ideal) (m ((c : Thread nD τ).loc main_arg1)) (m ((c : Thread nD τ).loc main_arg2)) = (dats m 0 c).arrAt 17 cfg0.N := by
  rw [arr17 (blocks H)]
  funext i
  obtain ⟨a, b, rfl⟩ : ∃ (a : Fin 128) (b : Fin 8), i = ix2 a b := ⟨i 0, i 1, by funext x; fin_cases x <;> rfl⟩
  exact Cert.ReferenceIdeal.Mix.r264 H a b

theorem eq18 : val_main_v267 (F := Idealize.ShloMosaic.Ideal) (m ((c : Thread nD τ).loc main_arg1)) (m ((c : Thread nD τ).loc main_arg2)) (m ((c : Thread nD τ).loc main_arg7))
    = (dats m 0 c).arrAt 18 cfg0.N := by
  rw [arr18 (blocks H)]
  funext i
  obtain ⟨a, b, rfl⟩ : ∃ (a : Fin 8) (b : Fin 1024), i = ix2 a b := ⟨i 0, i 1, by funext x; fin_cases x <;> rfl⟩
  exact Cert.ReferenceIdeal.Mix.r267 H a b

end Cert.KernelIdeal.Mix
-- ==== Proof.Algebraic.lean ====
module

public import proofs.«01_k».proof.Defs
public import proofs.«01_k».proof.Proof.Equal
public import Idealize.ShloMosaic.Lib.Claim

/-!
The kernel ends as the reference does.
-/

@[expose] public section

set_option maxRecDepth 16384

noncomputable section

namespace Cert.Proof

open Idealize.ShloMosaic Idealize.SL.Sem

/-- The shape relations of the precondition. -/
abbrev preShapes : Cert.Pre_finite.Facts := Cert.Pre_finite.shapes

theorem algebraic : @Cert.algebraic_KernelIdeal_ReferenceIdeal_pre_finite Cert.KernelIdeal.Gen.facts Cert.ReferenceIdeal.Gen.facts preShapes := by
  haveI := preShapes
  pair_intro
  · run_from Cert.KernelIdeal.Value.run_blocks m g
  · run_from Cert.ReferenceIdeal.Value.run m' g'
    all_goals
      obtain ⟨a0, a1, a2, a3, a4, a5, a6, a7, a8⟩ := hagree c
      have H := Cert.KernelIdeal.Mix.holds (hpre c)
    · refine (Cert.ReferenceIdeal.Read.val_main_v260_eq (StableHlo.launchContents m' c)).trans ?_
      show Cert.ReferenceIdeal.Read.val_main_v260 (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) = _
      rw [a0, a1, a2, a3, a4, a5, a6, a7, a8]
      exact Cert.KernelIdeal.Mix.eq13 H
    · refine (Cert.ReferenceIdeal.Read.val_main_v199_eq (StableHlo.launchContents m' c)).trans ?_
      show Cert.ReferenceIdeal.Read.val_main_v199 (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg5)) = _
      rw [a0, a2, a5]
      exact Cert.KernelIdeal.Mix.eq14 H
    · refine (Cert.ReferenceIdeal.Read.val_main_v263_eq (StableHlo.launchContents m' c)).trans ?_
      show Cert.ReferenceIdeal.Read.val_main_v263 (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg4)) = _
      rw [a0, a2, a4]
      exact Cert.KernelIdeal.Mix.eq15 H
    · refine (Cert.ReferenceIdeal.Read.val_main_v151_eq (StableHlo.launchContents m' c)).trans ?_
      show Cert.ReferenceIdeal.Read.val_main_v151 (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg6)) = _
      rw [a1, a2, a6]
      exact Cert.KernelIdeal.Mix.eq16 H
    · refine (Cert.ReferenceIdeal.Read.val_main_v264_eq (StableHlo.launchContents m' c)).trans ?_
      show Cert.ReferenceIdeal.Read.val_main_v264 (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) = _
      rw [a1, a2]
      exact Cert.KernelIdeal.Mix.eq17 H
    · refine (Cert.ReferenceIdeal.Read.val_main_v267_eq (StableHlo.launchContents m' c)).trans ?_
      show Cert.ReferenceIdeal.Read.val_main_v267 (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg7)) = _
      rw [a1, a2, a7]
      exact Cert.KernelIdeal.Mix.eq18 H

end Cert.Proof
-- ==== Proof.Chunks.lean ====
module

public import Idealize.ShloMosaic.Lib.Pipeline.ValueKit
public import Idealize.ShloMosaic.Lib.Claim

/-!
A product whose long axis is walked in chunks, one a grid point, is the product over the whole axis.
-/

@[expose] public section

noncomputable section

namespace Mixer

open Idealize.ShloMosaic

variable {N : ℕ} {ι κ : Type}

/-- A block of sums that is set to the first chunk's products every `J` points and to which each later point adds its chunk's,
    holds at the last point of such a run the sum over the whole axis. -/
theorem chunks_total (f : (n : ℕ) → n < N → ι → κ → EReal) (J n : ℕ) [NeZero J]
    (p : Fin N → Fin n → ι → κ → EReal)
    (h0 : ∀ t : Fin N, t.val % J = 0 → ∀ a b, f t.val t.isLt a b = ∑ k, p t k a b)
    (hs : ∀ t : Fin N, ¬t.val % J = 0 → ∀ a b,
      f t.val t.isLt a b = f (t.val - 1) (Nat.lt_of_le_of_lt (Nat.sub_le _ _) t.isLt) a b + ∑ k, p t k a b)
    (t : Fin N) (hr : t.val % J = J - 1) (a : ι) (b : κ) {L : ℕ} (q : Fin L → EReal) (hL : L = J * n)
    (hq : ∀ (s : Fin J) (k : Fin n) (h : J * (t.val / J) + s.val < N) (h' : s.val * n + k.val < L),
      p ⟨J * (t.val / J) + s.val, h⟩ k a b = q ⟨s.val * n + k.val, h'⟩) :
    f t.val t.isLt a b = ∑ l, q l := by
  have e := Pipeline.eq_sum_fin_of_reset_step_apply_of_flush (fun n h (i : ι × κ) => f n h i.1 i.2) J (fun _ => 0)
    (fun t i => ∑ k, p t k i.1 i.2) (fun t h i => by rw [zero_add]; exact h0 t h i.1 i.2) (fun t h i => hs t h i.1 i.2) t hr (a, b)
  refine e.trans ?_
  rw [zero_add]
  exact Fin.sum_mul_add_congr (hL := hL) fun s k h' => hq s k _ h'

end Mixer
-- ==== Proof.WUp.lean ====
module

public import proofs.«01_k».proof.Defs
public import proofs.«01_k».proof.Proof.Chunks
public import proofs.«01_k».proof.Proof.Gen.WUp.Frame
public import proofs.«01_k».proof.Proof.Gen.WUpIdeal.Value
public import proofs.«01_k».proof.Proof.Gen.WUpRefIdeal.Run
public import proofs.«01_k».proof.Proof.Gen.WUpRefIdeal.Read
public import Idealize.ShloMosaic.Lib.Pipeline.ValueKit
public import Idealize.ShloMosaic.Lib.Quiescent
public import Idealize.ShloMosaic.Lib.Claim

/-!
The gradient of the widening weights: the product of the saved rows, transposed, by the incoming gradient.
-/

@[expose] public section

set_option maxRecDepth 16384

noncomputable section

namespace Cert.WUpIdeal.Mix

open Idealize.ShloMosaic Idealize.ShloMosaic.TcCoe Idealize.SL.Sem
open Cert.WUpIdeal Cert.WUpIdeal.Gen

variable (m : (ℓ : Loc nD τ sig) → Buf (Elt Idealize.ShloMosaic.Ideal) ℓ) (c : Dev nD)

/-- A point's products. -/
theorem part (x : Vec Ideal S1024x1024 .bf16) (y : Vec Ideal S1x1024x2816 .bf16) (a : Fin 1024) (b : Fin 2816) :
    k0_pay1 (F := Ideal) x y (ix2 a b) = ∑ k : Fin 1024, x (ix2 k a) * y (ix3 0 k b) := by
  pointwise [k0_pay1]

/-- The saved rows that a point takes. -/
abbrev rows (t : Fin cfg0.N) : Vec Ideal S1024x1024 .bf16 := iblk m c 0 t

/-- The incoming gradient's rows that a point takes. -/
abbrev back (t : Fin cfg0.N) : Vec Ideal S1x1024x2816 .bf16 := iblk m c 1 t

/-- The sums after the first point of a run. -/
theorem first (t : Fin cfg0.N) (h : t.val % 8 = 0) (a : Fin 1024) (b : Fin 2816) :
    (outsAt0 m c t.val t.isLt).2 (ix2 a b) = ∑ k : Fin 1024, rows m c t (ix2 k a) * back m c t (ix3 0 k b) := by
  rw [outsAt0_A m c t h (by omega) (by omega)]
  frame_out
  pointwise [k0_pay2, part]

/-- The sums after a later point. -/
theorem next (t : Fin cfg0.N) (h : ¬t.val % 8 = 0) (a : Fin 1024) (b : Fin 2816) :
    (outsAt0 m c t.val t.isLt).2 (ix2 a b) = (outsAt0 m c (t.val - 1) (Nat.lt_of_le_of_lt (Nat.sub_le _ _) t.isLt)).2 (ix2 a b)
      + ∑ k : Fin 1024, rows m c t (ix2 k a) * back m c t (ix3 0 k b) := by
  by_cases h7 : t.val % 8 = 7
  · rw [outsAt0_C m c t h (by omega) h7]
    frame_out
    pointwise [k0_pay3, part]
    exact congrArg (· + _) (congrFun ((Memref.isWhole_whole _).read_unread _) _)
  · rw [outsAt0_B m c t h (by omega) h7]
    frame_out
    pointwise [k0_pay3, part]
    exact congrArg (· + _) (congrFun ((Memref.isWhole_whole _).read_unread _) _)

/-- What the last point of a run writes back is its sums. -/
theorem last (t : Fin cfg0.N) (h7 : t.val % 8 = 7) (a : Fin 1024) (b : Fin 2816) :
    (outsAt0 m c t.val t.isLt).1 (ix3 0 a b) = (outsAt0 m c t.val t.isLt).2 (ix2 a b) := by
  rw [outsAt0_C m c t (by omega) (by omega) h7]
  frame_out
  pointwise [k0_pay4]

/-- Where each window's block lies. -/
theorem place (t : Fin cfg0.N) : (win0_0.index t 0 = t.val % 8 ∧ win0_0.index t 1 = 0)
    ∧ (win0_1.index t 0 = t.val / 8 ∧ win0_1.index t 1 = t.val % 8 ∧ win0_1.index t 2 = 0)
    ∧ (win0_2.index t 0 = 0 ∧ win0_2.index t 1 = 0 ∧ win0_2.index t 2 = t.val / 8) :=
  (by decide +kernel : ∀ t : Fin grid0.N, (win0_0.index t 0 = t.val % 8 ∧ win0_0.index t 1 = 0)
    ∧ (win0_1.index t 0 = t.val / 8 ∧ win0_1.index t 1 = t.val % 8 ∧ win0_1.index t 2 = 0)
    ∧ (win0_2.index t 0 = 0 ∧ win0_2.index t 1 = 0 ∧ win0_2.index t 2 = t.val / 8)) t

/-- The saved rows. -/
abbrev h : Vec Ideal S8192x1024 .bf16 := m ((c : Thread nD τ).loc main_arg0)

/-- The incoming gradient. -/
abbrev dy : Vec Ideal S2x8192x2816 .bf16 := m ((c : Thread nD τ).loc main_arg1)

/-- The sums at the last point of a run. -/
theorem total (t : Fin cfg0.N) (h7 : t.val % 8 = 7) (a : Fin 1024) (b : Fin 2816) :
    (outsAt0 m c t.val t.isLt).2 (ix2 a b)
      = ∑ l : Fin 8192, h m c (ix2 l a) * dy m c (ix3 (⟨t.val / 8, by have h := t.isLt; have e : cfg0.N = 16 := N_0; omega⟩ : Fin 2) l b) := by
  refine Mixer.chunks_total (fun n h a b => (outsAt0 m c n h).2 (ix2 a b)) 8 1024
    (fun t k a b => rows m c t (ix2 k a) * back m c t (ix3 0 k b)) (first m c) (next m c) t h7 a b _ rfl
    fun s k h h' => ?_
  have e := place ⟨8 * (t.val / 8) + s.val, h⟩
  have hs := s.isLt
  congr 1 <;> blk_ext [iblk, V, e]

/-- The reference's product. -/
theorem reference (x0 : Vec Ideal S8192x1024 .bf16) (x1 : Vec Ideal S2x8192x2816 .bf16) (j : Fin 2) (a : Fin 1024) (b : Fin 2816) (e : Fin 5632)
    (he : e.val = j.val * 2816 + b.val) :
    Cert.WUpRefIdeal.Read.val_main_v12 (F := Ideal) x0 x1 (ix3 0 a e) = ∑ l : Fin 8192, x0 (ix2 l a) * x1 (ix3 j l b) := by
  pointwise [Cert.WUpRefIdeal.Read.val_main_v12, Cert.WUpRefIdeal.Read.val_main_v11, Cert.WUpRefIdeal.Read.val_main_v10, Cert.WUpRefIdeal.Read.val_main_v9, Cert.WUpRefIdeal.Read.val_main_v8, Cert.WUpRefIdeal.Read.val_main_v6, Cert.WUpRefIdeal.Read.val_main_v4, Cert.WUpRefIdeal.Read.val_main_v3, Cert.WUpRefIdeal.Read.val_main_v2, Cert.WUpRefIdeal.Read.val_main_v1, Cert.WUpRefIdeal.Read.val_main_v0]
  refine Finset.sum_congr rfl fun l _ => ?_
  rw [mul_comm]
  congr 1
  rcases (show j = 0 ∨ j = 1 by omega) with rfl | rfl
  · replace he : e.val = 0 * 2816 + b.val := he
    rw [dif_pos (by omega)]
    congr 2; ext; show e.val = b.val; omega
  · replace he : e.val = 1 * 2816 + b.val := he
    rw [dif_neg (by omega)]
    congr 2; ext; show e.val - 2816 = b.val; omega

/-- The kernel's array is the reference's. -/
theorem result : (dats m 0 c).arrAt 2 (cfgs 0).N = Cert.WUpRefIdeal.Read.val_main_v12 (F := Ideal) (h m c) (dy m c) := by
  refine (dats m 0 c).arrAt_eq_of_covers 2 _ (by decide +kernel) fun t hf y => ?_
  have h7 : t.val % 8 = 7 := (flush0_2 t).mp hf
  have e := place t
  blk_simp [e]
  rw [after0_2]
  obtain ⟨a, b, rfl⟩ : ∃ (a : Fin 1024) (b : Fin 2816), y = ix3 (0 : Fin 1) a b :=
    ⟨y 1, y 2, by funext x; fin_cases x <;> first | rfl | exact Fin.ext (Nat.lt_one_iff.mp (y 0).isLt)⟩
  refine (last m c t h7 a b).trans ((total m c t h7 a b).trans ?_)
  rw [show (win0_2.blk t).view.emb (ix3 (0 : Fin 1) a b) = ix3 (0 : Fin 1) a (⟨t.val / 8 * 2816 + b.val, by have h := t.isLt; have e : cfg0.grid.N = 16 := N_0; omega⟩ : Fin 5632) by
    funext x; apply Fin.ext; fin_cases x <;> blk_simp [e] <;> rfl]
  exact (reference _ _ _ a b _ rfl).symm

theorem frameBits : @Cert.quiescent_WUp Cert.WUp.Gen.facts := fun m g _ => Cert.WUp.Gen.frame m g
theorem frameIdeal : @Cert.quiescent_WUpIdeal Cert.WUpIdeal.Gen.facts := fun m g _ => Cert.WUpIdeal.Gen.frame m g
theorem frameRef : @Cert.quiescent_WUpRefIdeal Cert.WUpRefIdeal.Gen.facts := fun m g _ =>
  (θ_run _ _ _).mono (fun r h => ⟨fun c => (h c).2, sem_eq_zero_of_no_sems (by decide) _⟩) (Cert.WUpRefIdeal.Value.run m g)

theorem algebraic : @Cert.algebraic_WUpIdeal_WUpRefIdeal Cert.WUpIdeal.Gen.facts Cert.WUpRefIdeal.Gen.facts := by
  pair_intro
  · run_from Cert.WUpIdeal.Value.run_blocks m g
  · run_from Cert.WUpRefIdeal.Value.run m' g'
    obtain ⟨a0, a1⟩ := hagree c
    refine (Cert.WUpRefIdeal.Read.val_main_v12_eq _ _).trans ?_
    exact (result m c).symm

end Cert.WUpIdeal.Mix
-- ==== Proof.WIn.lean ====
module

public import proofs.«01_k».proof.Defs
public import proofs.«01_k».proof.Proof.Chunks
public import proofs.«01_k».proof.Proof.Gen.WIn.Frame
public import proofs.«01_k».proof.Proof.Gen.WInIdeal.Value
public import proofs.«01_k».proof.Proof.Gen.WInRefIdeal.Run
public import proofs.«01_k».proof.Proof.Gen.WInRefIdeal.Read
public import Idealize.ShloMosaic.Lib.Pipeline.ValueKit
public import Idealize.ShloMosaic.Lib.Quiescent
public import Idealize.ShloMosaic.Lib.Claim

/-!
The gradient of the input weights: the product of the saved rows, transposed, by the incoming gradient.
-/

@[expose] public section

set_option maxRecDepth 16384

noncomputable section

namespace Cert.WInIdeal.Mix

open Idealize.ShloMosaic Idealize.ShloMosaic.TcCoe Idealize.SL.Sem
open Cert.WInIdeal Cert.WInIdeal.Gen

variable (m : (ℓ : Loc nD τ sig) → Buf (Elt Idealize.ShloMosaic.Ideal) ℓ) (c : Dev nD)

/-- A point's products. -/
theorem part (x : Vec Ideal S2048x1024 .bf16) (y : Vec Ideal S2048x1280 .bf16) (a : Fin 1024) (b : Fin 1280) :
    k0_pay1 (F := Ideal) x y (ix2 a b) = ∑ k : Fin 2048, x (ix2 k a) * y (ix2 k b) := by
  pointwise [k0_pay1]

/-- The saved rows that a point takes. -/
abbrev rows (t : Fin cfg0.N) : Vec Ideal S2048x1024 .bf16 := iblk m c 0 t

/-- The incoming gradient's rows that a point takes. -/
abbrev back (t : Fin cfg0.N) : Vec Ideal S2048x1280 .bf16 := iblk m c 1 t

/-- The sums after the first point of a run. -/
theorem first (t : Fin cfg0.N) (h : t.val % 4 = 0) (a : Fin 1024) (b : Fin 1280) :
    (outsAt0 m c t.val t.isLt).2 (ix2 a b) = ∑ k : Fin 2048, rows m c t (ix2 k a) * back m c t (ix2 k b) := by
  rw [outsAt0_A m c t h (by omega) (by omega)]
  frame_out
  pointwise [k0_pay2, part]

/-- The sums after a later point. -/
theorem next (t : Fin cfg0.N) (h : ¬t.val % 4 = 0) (a : Fin 1024) (b : Fin 1280) :
    (outsAt0 m c t.val t.isLt).2 (ix2 a b) = (outsAt0 m c (t.val - 1) (Nat.lt_of_le_of_lt (Nat.sub_le _ _) t.isLt)).2 (ix2 a b)
      + ∑ k : Fin 2048, rows m c t (ix2 k a) * back m c t (ix2 k b) := by
  by_cases h3 : t.val % 4 = 3
  · rw [outsAt0_C m c t h (by omega) h3]
    frame_out
    pointwise [k0_pay3, part]
    exact congrArg (· + _) (congrFun ((Memref.isWhole_whole _).read_unread _) _)
  · rw [outsAt0_B m c t h (by omega) h3]
    frame_out
    pointwise [k0_pay3, part]
    exact congrArg (· + _) (congrFun ((Memref.isWhole_whole _).read_unread _) _)

/-- What the last point of a run writes back is its sums. -/
theorem last (t : Fin cfg0.N) (h3 : t.val % 4 = 3) (a : Fin 1024) (b : Fin 1280) :
    (outsAt0 m c t.val t.isLt).1 (ix3 0 a b) = (outsAt0 m c t.val t.isLt).2 (ix2 a b) := by
  rw [outsAt0_C m c t (by omega) (by omega) h3]
  frame_out
  pointwise [k0_pay4]

/-- Where each window's block lies. -/
theorem place (t : Fin cfg0.N) : (win0_0.index t 0 = t.val % 4 ∧ win0_0.index t 1 = 0)
    ∧ (win0_1.index t 0 = t.val % 4 ∧ win0_1.index t 1 = t.val / 4)
    ∧ (win0_2.index t 0 = 0 ∧ win0_2.index t 1 = 0 ∧ win0_2.index t 2 = t.val / 4) :=
  (by decide +kernel : ∀ t : Fin grid0.N, (win0_0.index t 0 = t.val % 4 ∧ win0_0.index t 1 = 0)
    ∧ (win0_1.index t 0 = t.val % 4 ∧ win0_1.index t 1 = t.val / 4)
    ∧ (win0_2.index t 0 = 0 ∧ win0_2.index t 1 = 0 ∧ win0_2.index t 2 = t.val / 4)) t

/-- The saved rows. -/
abbrev h : Vec Ideal S8192x1024 .bf16 := m ((c : Thread nD τ).loc main_arg0)

/-- The incoming gradient. -/
abbrev dy : Vec Ideal S8192x5120 .bf16 := m ((c : Thread nD τ).loc main_arg1)

/-- The sums at the last point of a run. -/
theorem total (t : Fin cfg0.N) (h3 : t.val % 4 = 3) (a : Fin 1024) (b : Fin 1280) :
    (outsAt0 m c t.val t.isLt).2 (ix2 a b)
      = ∑ l : Fin 8192, h m c (ix2 l a) * dy m c (ix2 l (⟨t.val / 4 * 1280 + b.val, by have h := t.isLt; have e : cfg0.N = 16 := N_0; omega⟩ : Fin 5120)) := by
  refine Mixer.chunks_total (fun n h a b => (outsAt0 m c n h).2 (ix2 a b)) 4 2048
    (fun t k a b => rows m c t (ix2 k a) * back m c t (ix2 k b)) (first m c) (next m c) t h3 a b _ rfl
    fun s k h h' => ?_
  have e := place ⟨4 * (t.val / 4) + s.val, h⟩
  have hs := s.isLt
  congr 1 <;> blk_ext [iblk, V, e]

/-- The reference's product. -/
theorem reference (x0 : Vec Ideal S8192x1024 .bf16) (x1 : Vec Ideal S8192x5120 .bf16) (a : Fin 1024) (e : Fin 5120) :
    Cert.WInRefIdeal.Read.val_main_v7 (F := Ideal) x0 x1 (ix3 0 a e) = ∑ l : Fin 8192, x0 (ix2 l a) * x1 (ix2 l e) := by
  pointwise [Cert.WInRefIdeal.Read.val_main_v7, Cert.WInRefIdeal.Read.val_main_v6, Cert.WInRefIdeal.Read.val_main_v5, Cert.WInRefIdeal.Read.val_main_v4, Cert.WInRefIdeal.Read.val_main_v3, Cert.WInRefIdeal.Read.val_main_v1]
  refine Finset.sum_congr rfl fun l _ => ?_
  rw [mul_comm]

/-- The kernel's array is the reference's. -/
theorem result : (dats m 0 c).arrAt 2 (cfgs 0).N = Cert.WInRefIdeal.Read.val_main_v7 (F := Ideal) (h m c) (dy m c) := by
  refine (dats m 0 c).arrAt_eq_of_covers 2 _ (by decide +kernel) fun t hf y => ?_
  have h3 : t.val % 4 = 3 := (flush0_2 t).mp hf
  have e := place t
  blk_simp [e]
  rw [after0_2]
  obtain ⟨a, b, rfl⟩ : ∃ (a : Fin 1024) (b : Fin 1280), y = ix3 (0 : Fin 1) a b :=
    ⟨y 1, y 2, by funext x; fin_cases x <;> first | rfl | exact Fin.ext (Nat.lt_one_iff.mp (y 0).isLt)⟩
  refine (last m c t h3 a b).trans ((total m c t h3 a b).trans ?_)
  rw [show (win0_2.blk t).view.emb (ix3 (0 : Fin 1) a b) = ix3 (0 : Fin 1) a (⟨t.val / 4 * 1280 + b.val, by have h := t.isLt; have e : cfg0.grid.N = 16 := N_0; omega⟩ : Fin 5120) by
    funext x; apply Fin.ext; fin_cases x <;> blk_simp [e] <;> rfl]
  exact (reference _ _ _ _).symm

theorem frameBits : @Cert.quiescent_WIn Cert.WIn.Gen.facts := fun m g _ => Cert.WIn.Gen.frame m g
theorem frameIdeal : @Cert.quiescent_WInIdeal Cert.WInIdeal.Gen.facts := fun m g _ => Cert.WInIdeal.Gen.frame m g
theorem frameRef : @Cert.quiescent_WInRefIdeal Cert.WInRefIdeal.Gen.facts := fun m g _ =>
  (θ_run _ _ _).mono (fun r h => ⟨fun c => (h c).2, sem_eq_zero_of_no_sems (by decide) _⟩) (Cert.WInRefIdeal.Value.run m g)

theorem algebraic : @Cert.algebraic_WInIdeal_WInRefIdeal Cert.WInIdeal.Gen.facts Cert.WInRefIdeal.Gen.facts := by
  pair_intro
  · run_from Cert.WInIdeal.Value.run_blocks m g
  · run_from Cert.WInRefIdeal.Value.run m' g'
    obtain ⟨a0, a1⟩ := hagree c
    refine (Cert.WInRefIdeal.Read.val_main_v7_eq _ _).trans ?_
    exact (result m c).symm

end Cert.WInIdeal.Mix
-- ==== Proof.WDown.lean ====
module

public import proofs.«01_k».proof.Defs
public import proofs.«01_k».proof.Proof.Chunks
public import proofs.«01_k».proof.Proof.Gen.WDown.Frame
public import proofs.«01_k».proof.Proof.Gen.WDownIdeal.Value
public import proofs.«01_k».proof.Proof.Gen.WDownRefIdeal.Run
public import proofs.«01_k».proof.Proof.Gen.WDownRefIdeal.Read
public import Idealize.ShloMosaic.Lib.Pipeline.ValueKit
public import Idealize.ShloMosaic.Lib.Quiescent
public import Idealize.ShloMosaic.Lib.Claim

/-!
The gradient of the narrowing weights: the product of the saved rows, transposed, by the incoming gradient.
-/

@[expose] public section

set_option maxRecDepth 16384

noncomputable section

namespace Cert.WDownIdeal.Mix

open Idealize.ShloMosaic Idealize.ShloMosaic.TcCoe Idealize.SL.Sem
open Cert.WDownIdeal Cert.WDownIdeal.Gen

variable (m : (ℓ : Loc nD τ sig) → Buf (Elt Idealize.ShloMosaic.Ideal) ℓ) (c : Dev nD)

/-- A point's products. -/
theorem part (x : Vec Ideal S2048x1408 .bf16) (y : Vec Ideal S2048x1024 .f32) (a : Fin 1408) (b : Fin 1024) :
    k0_pay1 (F := Ideal) x y (ix2 a b) = ∑ k : Fin 2048, x (ix2 k a) * y (ix2 k b) := by
  pointwise [k0_pay1]

/-- The saved rows that a point takes. -/
abbrev rows (t : Fin cfg0.N) : Vec Ideal S2048x1408 .bf16 := iblk m c 0 t

/-- The incoming gradient's rows that a point takes. -/
abbrev back (t : Fin cfg0.N) : Vec Ideal S2048x1024 .f32 := iblk m c 1 t

/-- The sums after the first point of a run. -/
theorem first (t : Fin cfg0.N) (h : t.val % 4 = 0) (a : Fin 1408) (b : Fin 1024) :
    (outsAt0 m c t.val t.isLt).2 (ix2 a b) = ∑ k : Fin 2048, rows m c t (ix2 k a) * back m c t (ix2 k b) := by
  rw [outsAt0_A m c t h (by omega) (by omega)]
  frame_out
  pointwise [k0_pay2, part]

/-- The sums after a later point. -/
theorem next (t : Fin cfg0.N) (h : ¬t.val % 4 = 0) (a : Fin 1408) (b : Fin 1024) :
    (outsAt0 m c t.val t.isLt).2 (ix2 a b) = (outsAt0 m c (t.val - 1) (Nat.lt_of_le_of_lt (Nat.sub_le _ _) t.isLt)).2 (ix2 a b)
      + ∑ k : Fin 2048, rows m c t (ix2 k a) * back m c t (ix2 k b) := by
  by_cases h3 : t.val % 4 = 3
  · rw [outsAt0_C m c t h (by omega) h3]
    frame_out
    pointwise [k0_pay3, part]
    exact congrArg (· + _) (congrFun ((Memref.isWhole_whole _).read_unread _) _)
  · rw [outsAt0_B m c t h (by omega) h3]
    frame_out
    pointwise [k0_pay3, part]
    exact congrArg (· + _) (congrFun ((Memref.isWhole_whole _).read_unread _) _)

/-- What the last point of a run writes back is its sums. -/
theorem last (t : Fin cfg0.N) (h3 : t.val % 4 = 3) (a : Fin 1408) (b : Fin 1024) :
    (outsAt0 m c t.val t.isLt).1 (ix3 0 a b) = (outsAt0 m c t.val t.isLt).2 (ix2 a b) := by
  rw [outsAt0_C m c t (by omega) (by omega) h3]
  frame_out
  pointwise [k0_pay4]

/-- Where each window's block lies. -/
theorem place (t : Fin cfg0.N) : (win0_0.index t 0 = t.val % 4 ∧ win0_0.index t 1 = t.val / 4)
    ∧ (win0_1.index t 0 = t.val % 4 ∧ win0_1.index t 1 = 0)
    ∧ (win0_2.index t 0 = 0 ∧ win0_2.index t 1 = t.val / 4 ∧ win0_2.index t 2 = 0) :=
  (by decide +kernel : ∀ t : Fin grid0.N, (win0_0.index t 0 = t.val % 4 ∧ win0_0.index t 1 = t.val / 4)
    ∧ (win0_1.index t 0 = t.val % 4 ∧ win0_1.index t 1 = 0)
    ∧ (win0_2.index t 0 = 0 ∧ win0_2.index t 1 = t.val / 4 ∧ win0_2.index t 2 = 0)) t

/-- The saved rows. -/
abbrev h : Vec Ideal S8192x2816 .bf16 := m ((c : Thread nD τ).loc main_arg0)

/-- The incoming gradient. -/
abbrev dy : Vec Ideal S8192x1024 .f32 := m ((c : Thread nD τ).loc main_arg1)

/-- The sums at the last point of a run. -/
theorem total (t : Fin cfg0.N) (h3 : t.val % 4 = 3) (a : Fin 1408) (b : Fin 1024) :
    (outsAt0 m c t.val t.isLt).2 (ix2 a b)
      = ∑ l : Fin 8192, h m c (ix2 l (⟨t.val / 4 * 1408 + a.val, by have h := t.isLt; have e : cfg0.N = 8 := N_0; omega⟩ : Fin 2816)) * dy m c (ix2 l b) := by
  refine Mixer.chunks_total (fun n h a b => (outsAt0 m c n h).2 (ix2 a b)) 4 2048
    (fun t k a b => rows m c t (ix2 k a) * back m c t (ix2 k b)) (first m c) (next m c) t h3 a b _ rfl
    fun s k h h' => ?_
  have e := place ⟨4 * (t.val / 4) + s.val, h⟩
  have hs := s.isLt
  congr 1 <;> blk_ext [iblk, V, e]

/-- The reference's product. -/
theorem reference (x0 : Vec Ideal S8192x2816 .bf16) (x1 : Vec Ideal S8192x1024 .f32) (a : Fin 2816) (e : Fin 1024) :
    Cert.WDownRefIdeal.Read.val_main_v6 (F := Ideal) x0 x1 (ix3 0 a e) = ∑ l : Fin 8192, x0 (ix2 l a) * x1 (ix2 l e) := by
  pointwise [Cert.WDownRefIdeal.Read.val_main_v6, Cert.WDownRefIdeal.Read.val_main_v5, Cert.WDownRefIdeal.Read.val_main_v4, Cert.WDownRefIdeal.Read.val_main_v3, Cert.WDownRefIdeal.Read.val_main_v1]
  refine Finset.sum_congr rfl fun l _ => ?_
  rw [mul_comm]

/-- The kernel's array is the reference's. -/
theorem result : (dats m 0 c).arrAt 2 (cfgs 0).N = Cert.WDownRefIdeal.Read.val_main_v6 (F := Ideal) (h m c) (dy m c) := by
  refine (dats m 0 c).arrAt_eq_of_covers 2 _ (by decide +kernel) fun t hf y => ?_
  have h3 : t.val % 4 = 3 := (flush0_2 t).mp hf
  have e := place t
  blk_simp [e]
  rw [after0_2]
  obtain ⟨a, b, rfl⟩ : ∃ (a : Fin 1408) (b : Fin 1024), y = ix3 (0 : Fin 1) a b :=
    ⟨y 1, y 2, by funext x; fin_cases x <;> first | rfl | exact Fin.ext (Nat.lt_one_iff.mp (y 0).isLt)⟩
  refine (last m c t h3 a b).trans ((total m c t h3 a b).trans ?_)
  rw [show (win0_2.blk t).view.emb (ix3 (0 : Fin 1) a b) = ix3 (0 : Fin 1) (⟨t.val / 4 * 1408 + a.val, by have h := t.isLt; have e : cfg0.grid.N = 8 := N_0; omega⟩ : Fin 2816) b by
    funext x; apply Fin.ext; fin_cases x <;> blk_simp [e] <;> rfl]
  exact (reference _ _ _ _).symm

theorem frameBits : @Cert.quiescent_WDown Cert.WDown.Gen.facts := fun m g _ => Cert.WDown.Gen.frame m g
theorem frameIdeal : @Cert.quiescent_WDownIdeal Cert.WDownIdeal.Gen.facts := fun m g _ => Cert.WDownIdeal.Gen.frame m g
theorem frameRef : @Cert.quiescent_WDownRefIdeal Cert.WDownRefIdeal.Gen.facts := fun m g _ =>
  (θ_run _ _ _).mono (fun r h => ⟨fun c => (h c).2, sem_eq_zero_of_no_sems (by decide) _⟩) (Cert.WDownRefIdeal.Value.run m g)

theorem algebraic : @Cert.algebraic_WDownIdeal_WDownRefIdeal Cert.WDownIdeal.Gen.facts Cert.WDownRefIdeal.Gen.facts := by
  pair_intro
  · run_from Cert.WDownIdeal.Value.run_blocks m g
  · run_from Cert.WDownRefIdeal.Value.run m' g'
    obtain ⟨a0, a1⟩ := hagree c
    refine (Cert.WDownRefIdeal.Read.val_main_v6_eq _ _).trans ?_
    exact (result m c).symm

end Cert.WDownIdeal.Mix
-- ==== Proof.WOut.lean ====
module

public import proofs.«01_k».proof.Defs
public import proofs.«01_k».proof.Proof.Chunks
public import proofs.«01_k».proof.Proof.Gen.WOut.Frame
public import proofs.«01_k».proof.Proof.Gen.WOutIdeal.Value
public import proofs.«01_k».proof.Proof.Gen.WOutRefIdeal.Run
public import proofs.«01_k».proof.Proof.Gen.WOutRefIdeal.Read
public import Idealize.ShloMosaic.Lib.Pipeline.ValueKit
public import Idealize.ShloMosaic.Lib.Quiescent
public import Idealize.ShloMosaic.Lib.Claim

/-!
The gradient of the output weights: the product of the saved rows, transposed, by the incoming gradient.
-/

@[expose] public section

set_option maxRecDepth 16384

noncomputable section

namespace Cert.WOutIdeal.Mix

open Idealize.ShloMosaic Idealize.ShloMosaic.TcCoe Idealize.SL.Sem
open Cert.WOutIdeal Cert.WOutIdeal.Gen

variable (m : (ℓ : Loc nD τ sig) → Buf (Elt Idealize.ShloMosaic.Ideal) ℓ) (c : Dev nD)

/-- A point's products. -/
theorem part (x : Vec Ideal S2048x1024 .bf16) (y : Vec Ideal S2048x1024 .f32) (a : Fin 1024) (b : Fin 1024) :
    k0_pay1 (F := Ideal) x y (ix2 a b) = ∑ k : Fin 2048, x (ix2 k a) * y (ix2 k b) := by
  pointwise [k0_pay1]

/-- The saved rows that a point takes. -/
abbrev rows (t : Fin cfg0.N) : Vec Ideal S2048x1024 .bf16 := iblk m c 0 t

/-- The incoming gradient's rows that a point takes. -/
abbrev back (t : Fin cfg0.N) : Vec Ideal S2048x1024 .f32 := iblk m c 1 t

/-- The sums after the first point of a run. -/
theorem first (t : Fin cfg0.N) (h : t.val % 4 = 0) (a : Fin 1024) (b : Fin 1024) :
    (outsAt0 m c t.val t.isLt).2 (ix2 a b) = ∑ k : Fin 2048, rows m c t (ix2 k a) * back m c t (ix2 k b) := by
  have hN : t.val < 4 := lt_of_lt_of_eq t.isLt (show cfg0.N = 4 from N_0)
  rw [outsAt0_A m c t h (by omega) (by omega)]
  frame_out
  pointwise [k0_pay2, part]

/-- The sums after a later point. -/
theorem next (t : Fin cfg0.N) (h : ¬t.val % 4 = 0) (a : Fin 1024) (b : Fin 1024) :
    (outsAt0 m c t.val t.isLt).2 (ix2 a b) = (outsAt0 m c (t.val - 1) (Nat.lt_of_le_of_lt (Nat.sub_le _ _) t.isLt)).2 (ix2 a b)
      + ∑ k : Fin 2048, rows m c t (ix2 k a) * back m c t (ix2 k b) := by
  by_cases h3 : t.val % 4 = 3
  · rw [outsAt0_C m c t h (by omega) h3]
    frame_out
    pointwise [k0_pay3, part]
    exact congrArg (· + _) (congrFun ((Memref.isWhole_whole _).read_unread _) _)
  · rw [outsAt0_B m c t h (by omega) h3]
    frame_out
    pointwise [k0_pay3, part]
    exact congrArg (· + _) (congrFun ((Memref.isWhole_whole _).read_unread _) _)

/-- What the last point of a run writes back is its sums. -/
theorem last (t : Fin cfg0.N) (h3 : t.val % 4 = 3) (a : Fin 1024) (b : Fin 1024) :
    (outsAt0 m c t.val t.isLt).1 (ix3 0 a b) = (outsAt0 m c t.val t.isLt).2 (ix2 a b) := by
  rw [outsAt0_C m c t (by omega) (by omega) h3]
  frame_out
  pointwise [k0_pay4]

/-- Where each window's block lies. -/
theorem place (t : Fin cfg0.N) : (win0_0.index t 0 = t.val % 4 ∧ win0_0.index t 1 = 0)
    ∧ (win0_1.index t 0 = t.val % 4 ∧ win0_1.index t 1 = 0)
    ∧ (win0_2.index t 0 = 0 ∧ win0_2.index t 1 = 0 ∧ win0_2.index t 2 = 0) :=
  (by decide +kernel : ∀ t : Fin grid0.N, (win0_0.index t 0 = t.val % 4 ∧ win0_0.index t 1 = 0)
    ∧ (win0_1.index t 0 = t.val % 4 ∧ win0_1.index t 1 = 0)
    ∧ (win0_2.index t 0 = 0 ∧ win0_2.index t 1 = 0 ∧ win0_2.index t 2 = 0)) t

/-- The saved rows. -/
abbrev h : Vec Ideal S8192x1024 .bf16 := m ((c : Thread nD τ).loc main_arg0)

/-- The incoming gradient. -/
abbrev dy : Vec Ideal S8192x1024 .f32 := m ((c : Thread nD τ).loc main_arg1)

/-- The sums at the last point of a run. -/
theorem total (t : Fin cfg0.N) (h3 : t.val % 4 = 3) (a : Fin 1024) (b : Fin 1024) :
    (outsAt0 m c t.val t.isLt).2 (ix2 a b)
      = ∑ l : Fin 8192, h m c (ix2 l a) * dy m c (ix2 l b) := by
  refine Mixer.chunks_total (fun n h a b => (outsAt0 m c n h).2 (ix2 a b)) 4 2048
    (fun t k a b => rows m c t (ix2 k a) * back m c t (ix2 k b)) (first m c) (next m c) t h3 a b _ rfl
    fun s k h h' => ?_
  have e := place ⟨4 * (t.val / 4) + s.val, h⟩
  have hs := s.isLt
  congr 1 <;> blk_ext [iblk, V, e]

/-- The reference's product. -/
theorem reference (x0 : Vec Ideal S8192x1024 .bf16) (x1 : Vec Ideal S8192x1024 .f32) (a : Fin 1024) (e : Fin 1024) :
    Cert.WOutRefIdeal.Read.val_main_v6 (F := Ideal) x0 x1 (ix3 0 a e) = ∑ l : Fin 8192, x0 (ix2 l a) * x1 (ix2 l e) := by
  pointwise [Cert.WOutRefIdeal.Read.val_main_v6, Cert.WOutRefIdeal.Read.val_main_v5, Cert.WOutRefIdeal.Read.val_main_v4, Cert.WOutRefIdeal.Read.val_main_v3, Cert.WOutRefIdeal.Read.val_main_v1]
  refine Finset.sum_congr rfl fun l _ => ?_
  rw [mul_comm]

/-- The kernel's array is the reference's. -/
theorem result : (dats m 0 c).arrAt 2 (cfgs 0).N = Cert.WOutRefIdeal.Read.val_main_v6 (F := Ideal) (h m c) (dy m c) := by
  refine (dats m 0 c).arrAt_eq_of_covers 2 _ (by decide +kernel) fun t hf y => ?_
  have h3 : t.val % 4 = 3 := (flush0_2 t).mp hf
  have e := place t
  blk_simp [e]
  rw [after0_2]
  obtain ⟨a, b, rfl⟩ : ∃ (a : Fin 1024) (b : Fin 1024), y = ix3 (0 : Fin 1) a b :=
    ⟨y 1, y 2, by funext x; fin_cases x <;> first | rfl | exact Fin.ext (Nat.lt_one_iff.mp (y 0).isLt)⟩
  refine (last m c t h3 a b).trans ((total m c t h3 a b).trans ?_)
  rw [show (win0_2.blk t).view.emb (ix3 (0 : Fin 1) a b) = ix3 (0 : Fin 1) a b by
    funext x; apply Fin.ext; fin_cases x <;> blk_simp [e] <;> rfl]
  exact (reference _ _ _ _).symm

theorem frameBits : @Cert.quiescent_WOut Cert.WOut.Gen.facts := fun m g _ => Cert.WOut.Gen.frame m g
theorem frameIdeal : @Cert.quiescent_WOutIdeal Cert.WOutIdeal.Gen.facts := fun m g _ => Cert.WOutIdeal.Gen.frame m g
theorem frameRef : @Cert.quiescent_WOutRefIdeal Cert.WOutRefIdeal.Gen.facts := fun m g _ =>
  (θ_run _ _ _).mono (fun r h => ⟨fun c => (h c).2, sem_eq_zero_of_no_sems (by decide) _⟩) (Cert.WOutRefIdeal.Value.run m g)

theorem algebraic : @Cert.algebraic_WOutIdeal_WOutRefIdeal Cert.WOutIdeal.Gen.facts Cert.WOutRefIdeal.Gen.facts := by
  pair_intro
  · run_from Cert.WOutIdeal.Value.run_blocks m g
  · run_from Cert.WOutRefIdeal.Value.run m' g'
    obtain ⟨a0, a1⟩ := hagree c
    refine (Cert.WOutRefIdeal.Read.val_main_v6_eq _ _).trans ?_
    exact (result m c).symm

end Cert.WOutIdeal.Mix
-- ==== Proof.WPleGate.lean ====
module

public import proofs.«01_k».proof.Defs
public import proofs.«01_k».proof.Proof.Chunks
public import proofs.«01_k».proof.Proof.Gen.WPleGate.Frame
public import proofs.«01_k».proof.Proof.Gen.WPleGateIdeal.Value
public import proofs.«01_k».proof.Proof.Gen.WPleGateRefIdeal.Run
public import proofs.«01_k».proof.Proof.Gen.WPleGateRefIdeal.Read
public import Idealize.ShloMosaic.Lib.Pipeline.ValueKit
public import Idealize.ShloMosaic.Lib.Quiescent
public import Idealize.ShloMosaic.Lib.Claim

/-!
The gradient of the weights of the embeddings' gate: the product of the saved rows, transposed, by the incoming gradient.
-/

@[expose] public section

set_option maxRecDepth 16384

noncomputable section

namespace Cert.WPleGateIdeal.Mix

open Idealize.ShloMosaic Idealize.ShloMosaic.TcCoe Idealize.SL.Sem
open Cert.WPleGateIdeal Cert.WPleGateIdeal.Gen

variable (m : (ℓ : Loc nD τ sig) → Buf (Elt Idealize.ShloMosaic.Ideal) ℓ) (c : Dev nD)

/-- A point's products. -/
theorem part (x : Vec Ideal S2048x1024 .bf16) (y : Vec Ideal S2048x1024 .bf16) (a : Fin 1024) (b : Fin 1024) :
    k0_pay1 (F := Ideal) x y (ix2 a b) = ∑ k : Fin 2048, x (ix2 k a) * y (ix2 k b) := by
  pointwise [k0_pay1]

/-- The saved rows that a point takes. -/
abbrev rows (t : Fin cfg0.N) : Vec Ideal S2048x1024 .bf16 := iblk m c 0 t

/-- The incoming gradient's rows that a point takes. -/
abbrev back (t : Fin cfg0.N) : Vec Ideal S2048x1024 .bf16 := iblk m c 1 t

/-- The sums after the first point of a run. -/
theorem first (t : Fin cfg0.N) (h : t.val % 4 = 0) (a : Fin 1024) (b : Fin 1024) :
    (outsAt0 m c t.val t.isLt).2 (ix2 a b) = ∑ k : Fin 2048, rows m c t (ix2 k a) * back m c t (ix2 k b) := by
  have hN : t.val < 4 := lt_of_lt_of_eq t.isLt (show cfg0.N = 4 from N_0)
  rw [outsAt0_A m c t h (by omega) (by omega)]
  frame_out
  pointwise [k0_pay2, part]

/-- The sums after a later point. -/
theorem next (t : Fin cfg0.N) (h : ¬t.val % 4 = 0) (a : Fin 1024) (b : Fin 1024) :
    (outsAt0 m c t.val t.isLt).2 (ix2 a b) = (outsAt0 m c (t.val - 1) (Nat.lt_of_le_of_lt (Nat.sub_le _ _) t.isLt)).2 (ix2 a b)
      + ∑ k : Fin 2048, rows m c t (ix2 k a) * back m c t (ix2 k b) := by
  by_cases h3 : t.val % 4 = 3
  · rw [outsAt0_C m c t h (by omega) h3]
    frame_out
    pointwise [k0_pay3, part]
    exact congrArg (· + _) (congrFun ((Memref.isWhole_whole _).read_unread _) _)
  · rw [outsAt0_B m c t h (by omega) h3]
    frame_out
    pointwise [k0_pay3, part]
    exact congrArg (· + _) (congrFun ((Memref.isWhole_whole _).read_unread _) _)

/-- What the last point of a run writes back is its sums. -/
theorem last (t : Fin cfg0.N) (h3 : t.val % 4 = 3) (a : Fin 1024) (b : Fin 1024) :
    (outsAt0 m c t.val t.isLt).1 (ix3 0 a b) = (outsAt0 m c t.val t.isLt).2 (ix2 a b) := by
  rw [outsAt0_C m c t (by omega) (by omega) h3]
  frame_out
  pointwise [k0_pay4]

/-- Where each window's block lies. -/
theorem place (t : Fin cfg0.N) : (win0_0.index t 0 = t.val % 4 ∧ win0_0.index t 1 = 0)
    ∧ (win0_1.index t 0 = t.val % 4 ∧ win0_1.index t 1 = 0)
    ∧ (win0_2.index t 0 = 0 ∧ win0_2.index t 1 = 0 ∧ win0_2.index t 2 = 0) :=
  (by decide +kernel : ∀ t : Fin grid0.N, (win0_0.index t 0 = t.val % 4 ∧ win0_0.index t 1 = 0)
    ∧ (win0_1.index t 0 = t.val % 4 ∧ win0_1.index t 1 = 0)
    ∧ (win0_2.index t 0 = 0 ∧ win0_2.index t 1 = 0 ∧ win0_2.index t 2 = 0)) t

/-- The saved rows. -/
abbrev h : Vec Ideal S8192x1024 .bf16 := m ((c : Thread nD τ).loc main_arg0)

/-- The incoming gradient. -/
abbrev dy : Vec Ideal S8192x1024 .bf16 := m ((c : Thread nD τ).loc main_arg1)

/-- The sums at the last point of a run. -/
theorem total (t : Fin cfg0.N) (h3 : t.val % 4 = 3) (a : Fin 1024) (b : Fin 1024) :
    (outsAt0 m c t.val t.isLt).2 (ix2 a b)
      = ∑ l : Fin 8192, h m c (ix2 l a) * dy m c (ix2 l b) := by
  refine Mixer.chunks_total (fun n h a b => (outsAt0 m c n h).2 (ix2 a b)) 4 2048
    (fun t k a b => rows m c t (ix2 k a) * back m c t (ix2 k b)) (first m c) (next m c) t h3 a b _ rfl
    fun s k h h' => ?_
  have e := place ⟨4 * (t.val / 4) + s.val, h⟩
  have hs := s.isLt
  congr 1 <;> blk_ext [iblk, V, e]

/-- The reference's product. -/
theorem reference (x0 : Vec Ideal S8192x1024 .bf16) (x1 : Vec Ideal S8192x1024 .bf16) (a : Fin 1024) (e : Fin 1024) :
    Cert.WPleGateRefIdeal.Read.val_main_v7 (F := Ideal) x0 x1 (ix3 0 a e) = ∑ l : Fin 8192, x0 (ix2 l a) * x1 (ix2 l e) := by
  pointwise [Cert.WPleGateRefIdeal.Read.val_main_v7, Cert.WPleGateRefIdeal.Read.val_main_v6, Cert.WPleGateRefIdeal.Read.val_main_v5, Cert.WPleGateRefIdeal.Read.val_main_v4, Cert.WPleGateRefIdeal.Read.val_main_v3, Cert.WPleGateRefIdeal.Read.val_main_v1]
  refine Finset.sum_congr rfl fun l _ => ?_
  rw [mul_comm]

/-- The kernel's array is the reference's. -/
theorem result : (dats m 0 c).arrAt 2 (cfgs 0).N = Cert.WPleGateRefIdeal.Read.val_main_v7 (F := Ideal) (h m c) (dy m c) := by
  refine (dats m 0 c).arrAt_eq_of_covers 2 _ (by decide +kernel) fun t hf y => ?_
  have h3 : t.val % 4 = 3 := (flush0_2 t).mp hf
  have e := place t
  blk_simp [e]
  rw [after0_2]
  obtain ⟨a, b, rfl⟩ : ∃ (a : Fin 1024) (b : Fin 1024), y = ix3 (0 : Fin 1) a b :=
    ⟨y 1, y 2, by funext x; fin_cases x <;> first | rfl | exact Fin.ext (Nat.lt_one_iff.mp (y 0).isLt)⟩
  refine (last m c t h3 a b).trans ((total m c t h3 a b).trans ?_)
  rw [show (win0_2.blk t).view.emb (ix3 (0 : Fin 1) a b) = ix3 (0 : Fin 1) a b by
    funext x; apply Fin.ext; fin_cases x <;> blk_simp [e] <;> rfl]
  exact (reference _ _ _ _).symm

theorem frameBits : @Cert.quiescent_WPleGate Cert.WPleGate.Gen.facts := fun m g _ => Cert.WPleGate.Gen.frame m g
theorem frameIdeal : @Cert.quiescent_WPleGateIdeal Cert.WPleGateIdeal.Gen.facts := fun m g _ => Cert.WPleGateIdeal.Gen.frame m g
theorem frameRef : @Cert.quiescent_WPleGateRefIdeal Cert.WPleGateRefIdeal.Gen.facts := fun m g _ =>
  (θ_run _ _ _).mono (fun r h => ⟨fun c => (h c).2, sem_eq_zero_of_no_sems (by decide) _⟩) (Cert.WPleGateRefIdeal.Value.run m g)

theorem algebraic : @Cert.algebraic_WPleGateIdeal_WPleGateRefIdeal Cert.WPleGateIdeal.Gen.facts Cert.WPleGateRefIdeal.Gen.facts := by
  pair_intro
  · run_from Cert.WPleGateIdeal.Value.run_blocks m g
  · run_from Cert.WPleGateRefIdeal.Value.run m' g'
    obtain ⟨a0, a1⟩ := hagree c
    refine (Cert.WPleGateRefIdeal.Read.val_main_v7_eq _ _).trans ?_
    exact (result m c).symm

end Cert.WPleGateIdeal.Mix
-- ==== Proof.WBranchA.lean ====
module

public import proofs.«01_k».proof.Defs
public import proofs.«01_k».proof.Proof.Chunks
public import proofs.«01_k».proof.Proof.Gen.WBranchA.Frame
public import proofs.«01_k».proof.Proof.Gen.WBranchAIdeal.Value
public import proofs.«01_k».proof.Proof.Gen.WBranchARefIdeal.Run
public import proofs.«01_k».proof.Proof.Gen.WBranchARefIdeal.Read
public import Idealize.ShloMosaic.Lib.Pipeline.ValueKit
public import Idealize.ShloMosaic.Lib.Quiescent
public import Idealize.ShloMosaic.Lib.Claim

/-!
The gradient of the pooling branch's weights: the product of the saved rows, transposed, by the incoming gradient.
-/

@[expose] public section

set_option maxRecDepth 16384

noncomputable section

namespace Cert.WBranchAIdeal.Mix

open Idealize.ShloMosaic Idealize.ShloMosaic.TcCoe Idealize.SL.Sem
open Cert.WBranchAIdeal Cert.WBranchAIdeal.Gen

variable (m : (ℓ : Loc nD τ sig) → Buf (Elt Idealize.ShloMosaic.Ideal) ℓ) (c : Dev nD)

/-- A point's products. -/
theorem part (x : Vec Ideal S2048x1024 .bf16) (y : Vec Ideal S2048x1024 .bf16) (a : Fin 1024) (b : Fin 1024) :
    k0_pay1 (F := Ideal) x y (ix2 a b) = ∑ k : Fin 2048, x (ix2 k a) * y (ix2 k b) := by
  pointwise [k0_pay1]

/-- The saved rows that a point takes. -/
abbrev rows (t : Fin cfg0.N) : Vec Ideal S2048x1024 .bf16 := iblk m c 0 t

/-- The incoming gradient's rows that a point takes. -/
abbrev back (t : Fin cfg0.N) : Vec Ideal S2048x1024 .bf16 := iblk m c 1 t

/-- The sums after the first point of a run. -/
theorem first (t : Fin cfg0.N) (h : t.val % 4 = 0) (a : Fin 1024) (b : Fin 1024) :
    (outsAt0 m c t.val t.isLt).2 (ix2 a b) = ∑ k : Fin 2048, rows m c t (ix2 k a) * back m c t (ix2 k b) := by
  have hN : t.val < 4 := lt_of_lt_of_eq t.isLt (show cfg0.N = 4 from N_0)
  rw [outsAt0_A m c t h (by omega) (by omega)]
  frame_out
  pointwise [k0_pay2, part]

/-- The sums after a later point. -/
theorem next (t : Fin cfg0.N) (h : ¬t.val % 4 = 0) (a : Fin 1024) (b : Fin 1024) :
    (outsAt0 m c t.val t.isLt).2 (ix2 a b) = (outsAt0 m c (t.val - 1) (Nat.lt_of_le_of_lt (Nat.sub_le _ _) t.isLt)).2 (ix2 a b)
      + ∑ k : Fin 2048, rows m c t (ix2 k a) * back m c t (ix2 k b) := by
  by_cases h3 : t.val % 4 = 3
  · rw [outsAt0_C m c t h (by omega) h3]
    frame_out
    pointwise [k0_pay3, part]
    exact congrArg (· + _) (congrFun ((Memref.isWhole_whole _).read_unread _) _)
  · rw [outsAt0_B m c t h (by omega) h3]
    frame_out
    pointwise [k0_pay3, part]
    exact congrArg (· + _) (congrFun ((Memref.isWhole_whole _).read_unread _) _)

/-- What the last point of a run writes back is its sums. -/
theorem last (t : Fin cfg0.N) (h3 : t.val % 4 = 3) (a : Fin 1024) (b : Fin 1024) :
    (outsAt0 m c t.val t.isLt).1 (ix3 0 a b) = (outsAt0 m c t.val t.isLt).2 (ix2 a b) := by
  rw [outsAt0_C m c t (by omega) (by omega) h3]
  frame_out
  pointwise [k0_pay4]

/-- Where each window's block lies. -/
theorem place (t : Fin cfg0.N) : (win0_0.index t 0 = t.val % 4 ∧ win0_0.index t 1 = 0)
    ∧ (win0_1.index t 0 = t.val % 4 ∧ win0_1.index t 1 = 0)
    ∧ (win0_2.index t 0 = 0 ∧ win0_2.index t 1 = 0 ∧ win0_2.index t 2 = 0) :=
  (by decide +kernel : ∀ t : Fin grid0.N, (win0_0.index t 0 = t.val % 4 ∧ win0_0.index t 1 = 0)
    ∧ (win0_1.index t 0 = t.val % 4 ∧ win0_1.index t 1 = 0)
    ∧ (win0_2.index t 0 = 0 ∧ win0_2.index t 1 = 0 ∧ win0_2.index t 2 = 0)) t

/-- The saved rows. -/
abbrev h : Vec Ideal S8192x1024 .bf16 := m ((c : Thread nD τ).loc main_arg0)

/-- The incoming gradient. -/
abbrev dy : Vec Ideal S8192x2048 .bf16 := m ((c : Thread nD τ).loc main_arg1)

/-- The sums at the last point of a run. -/
theorem total (t : Fin cfg0.N) (h3 : t.val % 4 = 3) (a : Fin 1024) (b : Fin 1024) :
    (outsAt0 m c t.val t.isLt).2 (ix2 a b)
      = ∑ l : Fin 8192, h m c (ix2 l a) * dy m c (ix2 l (⟨b.val, by omega⟩ : Fin 2048)) := by
  refine Mixer.chunks_total (fun n h a b => (outsAt0 m c n h).2 (ix2 a b)) 4 2048
    (fun t k a b => rows m c t (ix2 k a) * back m c t (ix2 k b)) (first m c) (next m c) t h3 a b _ rfl
    fun s k h h' => ?_
  have e := place ⟨4 * (t.val / 4) + s.val, h⟩
  have hs := s.isLt
  congr 1 <;> blk_ext [iblk, V, e]

/-- The reference's product. -/
theorem reference (x0 : Vec Ideal S8192x1024 .bf16) (x1 : Vec Ideal S8192x2048 .bf16) (a : Fin 1024) (e : Fin 1024) :
    Cert.WBranchARefIdeal.Read.val_main_v8 (F := Ideal) x0 x1 (ix3 0 a e) = ∑ l : Fin 8192, x0 (ix2 l a) * x1 (ix2 l (⟨e.val, by omega⟩ : Fin 2048)) := by
  pointwise [Cert.WBranchARefIdeal.Read.val_main_v8, Cert.WBranchARefIdeal.Read.val_main_v7, Cert.WBranchARefIdeal.Read.val_main_v6, Cert.WBranchARefIdeal.Read.val_main_v5, Cert.WBranchARefIdeal.Read.val_main_v4, Cert.WBranchARefIdeal.Read.val_main_v2, Cert.WBranchARefIdeal.Read.val_main_v0]
  refine Finset.sum_congr rfl fun l _ => ?_
  rw [mul_comm]

/-- The kernel's array is the reference's. -/
theorem result : (dats m 0 c).arrAt 2 (cfgs 0).N = Cert.WBranchARefIdeal.Read.val_main_v8 (F := Ideal) (h m c) (dy m c) := by
  refine (dats m 0 c).arrAt_eq_of_covers 2 _ (by decide +kernel) fun t hf y => ?_
  have h3 : t.val % 4 = 3 := (flush0_2 t).mp hf
  have e := place t
  blk_simp [e]
  rw [after0_2]
  obtain ⟨a, b, rfl⟩ : ∃ (a : Fin 1024) (b : Fin 1024), y = ix3 (0 : Fin 1) a b :=
    ⟨y 1, y 2, by funext x; fin_cases x <;> first | rfl | exact Fin.ext (Nat.lt_one_iff.mp (y 0).isLt)⟩
  refine (last m c t h3 a b).trans ((total m c t h3 a b).trans ?_)
  rw [show (win0_2.blk t).view.emb (ix3 (0 : Fin 1) a b) = ix3 (0 : Fin 1) a b by
    funext x; apply Fin.ext; fin_cases x <;> blk_simp [e] <;> rfl]
  exact (reference _ _ _ _).symm

theorem frameBits : @Cert.quiescent_WBranchA Cert.WBranchA.Gen.facts := fun m g _ => Cert.WBranchA.Gen.frame m g
theorem frameIdeal : @Cert.quiescent_WBranchAIdeal Cert.WBranchAIdeal.Gen.facts := fun m g _ => Cert.WBranchAIdeal.Gen.frame m g
theorem frameRef : @Cert.quiescent_WBranchARefIdeal Cert.WBranchARefIdeal.Gen.facts := fun m g _ =>
  (θ_run _ _ _).mono (fun r h => ⟨fun c => (h c).2, sem_eq_zero_of_no_sems (by decide) _⟩) (Cert.WBranchARefIdeal.Value.run m g)

theorem algebraic : @Cert.algebraic_WBranchAIdeal_WBranchARefIdeal Cert.WBranchAIdeal.Gen.facts Cert.WBranchARefIdeal.Gen.facts := by
  pair_intro
  · run_from Cert.WBranchAIdeal.Value.run_blocks m g
  · run_from Cert.WBranchARefIdeal.Value.run m' g'
    obtain ⟨a0, a1⟩ := hagree c
    refine (Cert.WBranchARefIdeal.Read.val_main_v8_eq _ _).trans ?_
    exact (result m c).symm

end Cert.WBranchAIdeal.Mix
-- ==== Proof.WBranchB.lean ====
module

public import proofs.«01_k».proof.Defs
public import proofs.«01_k».proof.Proof.Chunks
public import proofs.«01_k».proof.Proof.Gen.WBranchB.Frame
public import proofs.«01_k».proof.Proof.Gen.WBranchBIdeal.Value
public import proofs.«01_k».proof.Proof.Gen.WBranchBRefIdeal.Run
public import proofs.«01_k».proof.Proof.Gen.WBranchBRefIdeal.Read
public import Idealize.ShloMosaic.Lib.Pipeline.ValueKit
public import Idealize.ShloMosaic.Lib.Quiescent
public import Idealize.ShloMosaic.Lib.Claim

/-!
The gradient of the gating branch's weights: the product of the saved rows, transposed, by the incoming gradient.
-/

@[expose] public section

set_option maxRecDepth 16384

noncomputable section

namespace Cert.WBranchBIdeal.Mix

open Idealize.ShloMosaic Idealize.ShloMosaic.TcCoe Idealize.SL.Sem
open Cert.WBranchBIdeal Cert.WBranchBIdeal.Gen

variable (m : (ℓ : Loc nD τ sig) → Buf (Elt Idealize.ShloMosaic.Ideal) ℓ) (c : Dev nD)

/-- A point's products. -/
theorem part (x : Vec Ideal S2048x1024 .bf16) (y : Vec Ideal S2048x1024 .bf16) (a : Fin 1024) (b : Fin 1024) :
    k0_pay1 (F := Ideal) x y (ix2 a b) = ∑ k : Fin 2048, x (ix2 k a) * y (ix2 k b) := by
  pointwise [k0_pay1]

/-- The saved rows that a point takes. -/
abbrev rows (t : Fin cfg0.N) : Vec Ideal S2048x1024 .bf16 := iblk m c 0 t

/-- The incoming gradient's rows that a point takes. -/
abbrev back (t : Fin cfg0.N) : Vec Ideal S2048x1024 .bf16 := iblk m c 1 t

/-- The sums after the first point of a run. -/
theorem first (t : Fin cfg0.N) (h : t.val % 4 = 0) (a : Fin 1024) (b : Fin 1024) :
    (outsAt0 m c t.val t.isLt).2 (ix2 a b) = ∑ k : Fin 2048, rows m c t (ix2 k a) * back m c t (ix2 k b) := by
  have hN : t.val < 4 := lt_of_lt_of_eq t.isLt (show cfg0.N = 4 from N_0)
  rw [outsAt0_A m c t h (by omega) (by omega)]
  frame_out
  pointwise [k0_pay2, part]

/-- The sums after a later point. -/
theorem next (t : Fin cfg0.N) (h : ¬t.val % 4 = 0) (a : Fin 1024) (b : Fin 1024) :
    (outsAt0 m c t.val t.isLt).2 (ix2 a b) = (outsAt0 m c (t.val - 1) (Nat.lt_of_le_of_lt (Nat.sub_le _ _) t.isLt)).2 (ix2 a b)
      + ∑ k : Fin 2048, rows m c t (ix2 k a) * back m c t (ix2 k b) := by
  by_cases h3 : t.val % 4 = 3
  · rw [outsAt0_C m c t h (by omega) h3]
    frame_out
    pointwise [k0_pay3, part]
    exact congrArg (· + _) (congrFun ((Memref.isWhole_whole _).read_unread _) _)
  · rw [outsAt0_B m c t h (by omega) h3]
    frame_out
    pointwise [k0_pay3, part]
    exact congrArg (· + _) (congrFun ((Memref.isWhole_whole _).read_unread _) _)

/-- What the last point of a run writes back is its sums. -/
theorem last (t : Fin cfg0.N) (h3 : t.val % 4 = 3) (a : Fin 1024) (b : Fin 1024) :
    (outsAt0 m c t.val t.isLt).1 (ix3 0 a b) = (outsAt0 m c t.val t.isLt).2 (ix2 a b) := by
  rw [outsAt0_C m c t (by omega) (by omega) h3]
  frame_out
  pointwise [k0_pay4]

/-- Where each window's block lies. -/
theorem place (t : Fin cfg0.N) : (win0_0.index t 0 = t.val % 4 ∧ win0_0.index t 1 = 0)
    ∧ (win0_1.index t 0 = t.val % 4 ∧ win0_1.index t 1 = 1)
    ∧ (win0_2.index t 0 = 0 ∧ win0_2.index t 1 = 0 ∧ win0_2.index t 2 = 0) :=
  (by decide +kernel : ∀ t : Fin grid0.N, (win0_0.index t 0 = t.val % 4 ∧ win0_0.index t 1 = 0)
    ∧ (win0_1.index t 0 = t.val % 4 ∧ win0_1.index t 1 = 1)
    ∧ (win0_2.index t 0 = 0 ∧ win0_2.index t 1 = 0 ∧ win0_2.index t 2 = 0)) t

/-- The saved rows. -/
abbrev h : Vec Ideal S8192x1024 .bf16 := m ((c : Thread nD τ).loc main_arg0)

/-- The incoming gradient. -/
abbrev dy : Vec Ideal S8192x2048 .bf16 := m ((c : Thread nD τ).loc main_arg1)

/-- The sums at the last point of a run. -/
theorem total (t : Fin cfg0.N) (h3 : t.val % 4 = 3) (a : Fin 1024) (b : Fin 1024) :
    (outsAt0 m c t.val t.isLt).2 (ix2 a b)
      = ∑ l : Fin 8192, h m c (ix2 l a) * dy m c (ix2 l (⟨1024 + b.val, by omega⟩ : Fin 2048)) := by
  refine Mixer.chunks_total (fun n h a b => (outsAt0 m c n h).2 (ix2 a b)) 4 2048
    (fun t k a b => rows m c t (ix2 k a) * back m c t (ix2 k b)) (first m c) (next m c) t h3 a b _ rfl
    fun s k h h' => ?_
  have e := place ⟨4 * (t.val / 4) + s.val, h⟩
  have hs := s.isLt
  congr 1 <;> blk_ext [iblk, V, e]

/-- The reference's product. -/
theorem reference (x0 : Vec Ideal S8192x1024 .bf16) (x1 : Vec Ideal S8192x2048 .bf16) (a : Fin 1024) (e : Fin 1024) :
    Cert.WBranchBRefIdeal.Read.val_main_v8 (F := Ideal) x0 x1 (ix3 0 a e) = ∑ l : Fin 8192, x0 (ix2 l a) * x1 (ix2 l (⟨1024 + e.val, by omega⟩ : Fin 2048)) := by
  pointwise [Cert.WBranchBRefIdeal.Read.val_main_v8, Cert.WBranchBRefIdeal.Read.val_main_v7, Cert.WBranchBRefIdeal.Read.val_main_v6, Cert.WBranchBRefIdeal.Read.val_main_v5, Cert.WBranchBRefIdeal.Read.val_main_v4, Cert.WBranchBRefIdeal.Read.val_main_v2, Cert.WBranchBRefIdeal.Read.val_main_v0]
  refine Finset.sum_congr rfl fun l _ => ?_
  rw [mul_comm]

/-- The kernel's array is the reference's. -/
theorem result : (dats m 0 c).arrAt 2 (cfgs 0).N = Cert.WBranchBRefIdeal.Read.val_main_v8 (F := Ideal) (h m c) (dy m c) := by
  refine (dats m 0 c).arrAt_eq_of_covers 2 _ (by decide +kernel) fun t hf y => ?_
  have h3 : t.val % 4 = 3 := (flush0_2 t).mp hf
  have e := place t
  blk_simp [e]
  rw [after0_2]
  obtain ⟨a, b, rfl⟩ : ∃ (a : Fin 1024) (b : Fin 1024), y = ix3 (0 : Fin 1) a b :=
    ⟨y 1, y 2, by funext x; fin_cases x <;> first | rfl | exact Fin.ext (Nat.lt_one_iff.mp (y 0).isLt)⟩
  refine (last m c t h3 a b).trans ((total m c t h3 a b).trans ?_)
  rw [show (win0_2.blk t).view.emb (ix3 (0 : Fin 1) a b) = ix3 (0 : Fin 1) a b by
    funext x; apply Fin.ext; fin_cases x <;> blk_simp [e] <;> rfl]
  exact (reference _ _ _ _).symm

theorem frameBits : @Cert.quiescent_WBranchB Cert.WBranchB.Gen.facts := fun m g _ => Cert.WBranchB.Gen.frame m g
theorem frameIdeal : @Cert.quiescent_WBranchBIdeal Cert.WBranchBIdeal.Gen.facts := fun m g _ => Cert.WBranchBIdeal.Gen.frame m g
theorem frameRef : @Cert.quiescent_WBranchBRefIdeal Cert.WBranchBRefIdeal.Gen.facts := fun m g _ =>
  (θ_run _ _ _).mono (fun r h => ⟨fun c => (h c).2, sem_eq_zero_of_no_sems (by decide) _⟩) (Cert.WBranchBRefIdeal.Value.run m g)

theorem algebraic : @Cert.algebraic_WBranchBIdeal_WBranchBRefIdeal Cert.WBranchBIdeal.Gen.facts Cert.WBranchBRefIdeal.Gen.facts := by
  pair_intro
  · run_from Cert.WBranchBIdeal.Value.run_blocks m g
  · run_from Cert.WBranchBRefIdeal.Value.run m' g'
    obtain ⟨a0, a1⟩ := hagree c
    refine (Cert.WBranchBRefIdeal.Read.val_main_v8_eq _ _).trans ?_
    exact (result m c).symm

end Cert.WBranchBIdeal.Mix
-- ==== Proof.FfnAct.lean ====
module

public import proofs.«01_k».proof.Defs
public import proofs.«01_k».proof.Proof.Gen.FfnAct.Frame
public import proofs.«01_k».proof.Proof.Gen.FfnActIdeal.Value
public import proofs.«01_k».proof.Proof.Gen.FfnActRefIdeal.Run
public import proofs.«01_k».proof.Proof.Gen.FfnActRefIdeal.Read
public import Idealize.ShloMosaic.Lib.Pipeline.ValueKit
public import Idealize.ShloMosaic.Lib.Quiescent
public import Idealize.ShloMosaic.Lib.Claim

/-!
The gradient of the activated rows: the product of the incoming gradient by the weights, transposed.
-/

@[expose] public section

set_option maxRecDepth 16384

noncomputable section

namespace Cert.FfnActIdeal.Mix

open Idealize.ShloMosaic Idealize.ShloMosaic.TcCoe Idealize.SL.Sem
open Cert.FfnActIdeal Cert.FfnActIdeal.Gen

variable (m : (ℓ : Loc nD τ sig) → Buf (Elt Idealize.ShloMosaic.Ideal) ℓ) (c : Dev nD)

/-- A point's products. -/
theorem part (x : Vec Ideal S1024x1024 .f32) (y : Vec Ideal S1x2816x1024 .bf16) (a : Fin 1024) (b : Fin 2816) :
    k0_pay1 (F := Ideal) x y (ix2 a b) = ∑ k : Fin 1024, x (ix2 a k) * y (ix3 0 b k) := by
  pointwise [k0_pay1]

/-- Where each window's block lies. -/
theorem place (t : Fin cfg0.N) : (win0_0.index t 0 = t.val ∧ win0_0.index t 1 = 0)
    ∧ (win0_1.index t 0 = 0 ∧ win0_1.index t 1 = 0 ∧ win0_1.index t 2 = 0)
    ∧ (win0_2.index t 0 = t.val ∧ win0_2.index t 1 = 0) :=
  (by decide +kernel : ∀ t : Fin grid0.N, (win0_0.index t 0 = t.val ∧ win0_0.index t 1 = 0)
    ∧ (win0_1.index t 0 = 0 ∧ win0_1.index t 1 = 0 ∧ win0_1.index t 2 = 0)
    ∧ (win0_2.index t 0 = t.val ∧ win0_2.index t 1 = 0)) t

/-- The incoming gradient. -/
abbrev dy : Vec Ideal S8192x1024 .f32 := m ((c : Thread nD τ).loc main_arg0)

/-- The weights. -/
abbrev w : Vec Ideal S1x2816x1024 .bf16 := m ((c : Thread nD τ).loc main_arg1)

/-- The incoming gradient's rows that a point takes. -/
abbrev back (t : Fin cfg0.N) : Vec Ideal S1024x1024 .f32 := iblk m c 0 t

/-- The weights that a point takes. -/
abbrev weights (t : Fin cfg0.N) : Vec Ideal S1x2816x1024 .bf16 := iblk m c 1 t

/-- What a point's blocks hold. -/
theorem total (t : Fin cfg0.N) (a : Fin 1024) (b : Fin 2816) :
    ∑ k : Fin 1024, back m c t (ix2 a k) * weights m c t (ix3 0 b k)
      = ∑ k : Fin 1024, dy m c (ix2 (⟨t.val * 1024 + a.val, by have h := t.isLt; have e : cfg0.N = 8 := N_0; omega⟩ : Fin 8192) k) * w m c (ix3 0 b k) := by
  refine Finset.sum_congr rfl fun k _ => ?_
  have e := place t
  congr 1 <;> blk_ext [iblk, V, e]

/-- The reference's product. -/
theorem reference (x0 : Vec Ideal S8192x1024 .f32) (x1 : Vec Ideal S1x2816x1024 .bf16) (a : Fin 8192) (b : Fin 2816) :
    Cert.FfnActRefIdeal.Read.val_main_v4 (F := Ideal) x0 x1 (ix2 a b) = ∑ k : Fin 1024, x0 (ix2 a k) * x1 (ix3 0 b k) := by
  pointwise [Cert.FfnActRefIdeal.Read.val_main_v4, Cert.FfnActRefIdeal.Read.val_main_v2, Cert.FfnActRefIdeal.Read.val_main_v1]

/-- The kernel's array is the reference's. -/
theorem result : (dats m 0 c).arrAt 2 (cfgs 0).N = Cert.FfnActRefIdeal.Read.val_main_v4 (F := Ideal) (dy m c) (w m c) := by
  refine (dats m 0 c).arrAt_eq_of_covers 2 _ (by decide +kernel) fun t hf y => ?_
  have e := place t
  blk_simp [e]
  rw [after0_2]
  obtain ⟨a, b, rfl⟩ : ∃ (a : Fin 1024) (b : Fin 2816), y = ix2 a b :=
    ⟨y 0, y 1, by funext x; fin_cases x <;> rfl⟩
  rw [show (win0_2.blk t).view.emb (ix2 a b) = ix2 (⟨t.val * 1024 + a.val, by have h := t.isLt; have e : cfg0.grid.N = 8 := N_0; omega⟩ : Fin 8192) b by
    funext x; apply Fin.ext; fin_cases x <;> blk_simp [e] <;> rfl]
  frame_out
  exact (part (back m c t) (weights m c t) a b).trans ((total m c t a b).trans (reference _ _ _ _).symm)

theorem frameBits : @Cert.quiescent_FfnAct Cert.FfnAct.Gen.facts := fun m g _ => Cert.FfnAct.Gen.frame m g
theorem frameIdeal : @Cert.quiescent_FfnActIdeal Cert.FfnActIdeal.Gen.facts := fun m g _ => Cert.FfnActIdeal.Gen.frame m g
theorem frameRef : @Cert.quiescent_FfnActRefIdeal Cert.FfnActRefIdeal.Gen.facts := fun m g _ =>
  (θ_run _ _ _).mono (fun r h => ⟨fun c => (h c).2, sem_eq_zero_of_no_sems (by decide) _⟩) (Cert.FfnActRefIdeal.Value.run m g)

theorem algebraic : @Cert.algebraic_FfnActIdeal_FfnActRefIdeal Cert.FfnActIdeal.Gen.facts Cert.FfnActRefIdeal.Gen.facts := by
  pair_intro
  · run_from Cert.FfnActIdeal.Value.run_blocks m g
  · run_from Cert.FfnActRefIdeal.Value.run m' g'
    obtain ⟨a0, a1⟩ := hagree c
    refine (Cert.FfnActRefIdeal.Read.val_main_v4_eq (F := Idealize.ShloMosaic.Ideal) _ _).trans ?_
    exact (result m c).symm

end Cert.FfnActIdeal.Mix
-- ==== Proof.Gated.lean ====
module

public import proofs.«01_k».proof.Defs
public import proofs.«01_k».proof.Proof.Gen.Gated.Frame
public import proofs.«01_k».proof.Proof.Gen.GatedIdeal.Value
public import proofs.«01_k».proof.Proof.Gen.GatedRefIdeal.Run
public import proofs.«01_k».proof.Proof.Gen.GatedRefIdeal.Read
public import Idealize.ShloMosaic.Lib.Pipeline.ValueKit
public import Idealize.ShloMosaic.Lib.Quiescent
public import Idealize.ShloMosaic.Lib.Claim

/-!
The gradient of the gated rows: the product of the incoming gradient by the weights, transposed.
-/

@[expose] public section

set_option maxRecDepth 16384

noncomputable section

namespace Cert.GatedIdeal.Mix

open Idealize.ShloMosaic Idealize.ShloMosaic.TcCoe Idealize.SL.Sem
open Cert.GatedIdeal Cert.GatedIdeal.Gen

variable (m : (ℓ : Loc nD τ sig) → Buf (Elt Idealize.ShloMosaic.Ideal) ℓ) (c : Dev nD)

/-- A point's products. -/
theorem part (x : Vec Ideal S1024x1024 .f32) (y : Vec Ideal S1x1024x1024 .bf16) (a : Fin 1024) (b : Fin 1024) :
    k0_pay1 (F := Ideal) x y (ix2 a b) = ∑ k : Fin 1024, x (ix2 a k) * y (ix3 0 b k) := by
  pointwise [k0_pay1]

/-- Where each window's block lies. -/
theorem place (t : Fin cfg0.N) : (win0_0.index t 0 = t.val ∧ win0_0.index t 1 = 0)
    ∧ (win0_1.index t 0 = 0 ∧ win0_1.index t 1 = 0 ∧ win0_1.index t 2 = 0)
    ∧ (win0_2.index t 0 = t.val ∧ win0_2.index t 1 = 0) :=
  (by decide +kernel : ∀ t : Fin grid0.N, (win0_0.index t 0 = t.val ∧ win0_0.index t 1 = 0)
    ∧ (win0_1.index t 0 = 0 ∧ win0_1.index t 1 = 0 ∧ win0_1.index t 2 = 0)
    ∧ (win0_2.index t 0 = t.val ∧ win0_2.index t 1 = 0)) t

/-- The incoming gradient. -/
abbrev dy : Vec Ideal S8192x1024 .f32 := m ((c : Thread nD τ).loc main_arg0)

/-- The weights. -/
abbrev w : Vec Ideal S1x1024x1024 .bf16 := m ((c : Thread nD τ).loc main_arg1)

/-- The incoming gradient's rows that a point takes. -/
abbrev back (t : Fin cfg0.N) : Vec Ideal S1024x1024 .f32 := iblk m c 0 t

/-- The weights that a point takes. -/
abbrev weights (t : Fin cfg0.N) : Vec Ideal S1x1024x1024 .bf16 := iblk m c 1 t

/-- What a point's blocks hold. -/
theorem total (t : Fin cfg0.N) (a : Fin 1024) (b : Fin 1024) :
    ∑ k : Fin 1024, back m c t (ix2 a k) * weights m c t (ix3 0 b k)
      = ∑ k : Fin 1024, dy m c (ix2 (⟨t.val * 1024 + a.val, by have h := t.isLt; have e : cfg0.N = 8 := N_0; omega⟩ : Fin 8192) k) * w m c (ix3 0 b k) := by
  refine Finset.sum_congr rfl fun k _ => ?_
  have e := place t
  congr 1 <;> blk_ext [iblk, V, e]

/-- The reference's product. -/
theorem reference (x0 : Vec Ideal S8192x1024 .f32) (x1 : Vec Ideal S1x1024x1024 .bf16) (a : Fin 8192) (b : Fin 1024) :
    Cert.GatedRefIdeal.Read.val_main_v5 (F := Ideal) x0 x1 (ix2 a b) = ∑ k : Fin 1024, x0 (ix2 a k) * x1 (ix3 0 b k) := by
  pointwise [Cert.GatedRefIdeal.Read.val_main_v5, Cert.GatedRefIdeal.Read.val_main_v4, Cert.GatedRefIdeal.Read.val_main_v2, Cert.GatedRefIdeal.Read.val_main_v1]

/-- The kernel's array is the reference's. -/
theorem result : (dats m 0 c).arrAt 2 (cfgs 0).N = Cert.GatedRefIdeal.Read.val_main_v5 (F := Ideal) (dy m c) (w m c) := by
  refine (dats m 0 c).arrAt_eq_of_covers 2 _ (by decide +kernel) fun t hf y => ?_
  have e := place t
  blk_simp [e]
  rw [after0_2]
  obtain ⟨a, b, rfl⟩ : ∃ (a : Fin 1024) (b : Fin 1024), y = ix2 a b :=
    ⟨y 0, y 1, by funext x; fin_cases x <;> rfl⟩
  rw [show (win0_2.blk t).view.emb (ix2 a b) = ix2 (⟨t.val * 1024 + a.val, by have h := t.isLt; have e : cfg0.grid.N = 8 := N_0; omega⟩ : Fin 8192) b by
    funext x; apply Fin.ext; fin_cases x <;> blk_simp [e] <;> rfl]
  frame_out
  exact (part (back m c t) (weights m c t) a b).trans ((total m c t a b).trans (reference _ _ _ _).symm)

theorem frameBits : @Cert.quiescent_Gated Cert.Gated.Gen.facts := fun m g _ => Cert.Gated.Gen.frame m g
theorem frameIdeal : @Cert.quiescent_GatedIdeal Cert.GatedIdeal.Gen.facts := fun m g _ => Cert.GatedIdeal.Gen.frame m g
theorem frameRef : @Cert.quiescent_GatedRefIdeal Cert.GatedRefIdeal.Gen.facts := fun m g _ =>
  (θ_run _ _ _).mono (fun r h => ⟨fun c => (h c).2, sem_eq_zero_of_no_sems (by decide) _⟩) (Cert.GatedRefIdeal.Value.run m g)

theorem algebraic : @Cert.algebraic_GatedIdeal_GatedRefIdeal Cert.GatedIdeal.Gen.facts Cert.GatedRefIdeal.Gen.facts := by
  pair_intro
  · run_from Cert.GatedIdeal.Value.run_blocks m g
  · run_from Cert.GatedRefIdeal.Value.run m' g'
    obtain ⟨a0, a1⟩ := hagree c
    refine (Cert.GatedRefIdeal.Read.val_main_v5_eq _ _).trans ?_
    exact (result m c).symm

end Cert.GatedIdeal.Mix
-- ==== Proof.PoolOut.lean ====
module

public import proofs.«01_k».proof.Defs
public import proofs.«01_k».proof.Proof.Gen.PoolOut.Frame
public import proofs.«01_k».proof.Proof.Gen.PoolOutIdeal.Value
public import proofs.«01_k».proof.Proof.Gen.PoolOutRefIdeal.Run
public import proofs.«01_k».proof.Proof.Gen.PoolOutRefIdeal.Read
public import Idealize.ShloMosaic.Lib.Pipeline.ValueKit
public import Idealize.ShloMosaic.Lib.Quiescent
public import Idealize.ShloMosaic.Lib.Claim

/-!
The gradient of the pooling branch's rows: the product of the incoming gradient by the weights, transposed.
-/

@[expose] public section

set_option maxRecDepth 16384

noncomputable section

namespace Cert.PoolOutIdeal.Mix

open Idealize.ShloMosaic Idealize.ShloMosaic.TcCoe Idealize.SL.Sem
open Cert.PoolOutIdeal Cert.PoolOutIdeal.Gen

variable (m : (ℓ : Loc nD τ sig) → Buf (Elt Idealize.ShloMosaic.Ideal) ℓ) (c : Dev nD)

/-- A point's products. -/
theorem part (x : Vec Ideal S1024x1024 .bf16) (y : Vec Ideal S1x1024x1024 .bf16) (a : Fin 1024) (b : Fin 1024) :
    k0_pay1 (F := Ideal) x y (ix2 a b) = ∑ k : Fin 1024, x (ix2 a k) * y (ix3 0 b k) := by
  pointwise [k0_pay1]

/-- Where each window's block lies. -/
theorem place (t : Fin cfg0.N) : (win0_0.index t 0 = t.val ∧ win0_0.index t 1 = 0)
    ∧ (win0_1.index t 0 = 0 ∧ win0_1.index t 1 = 0 ∧ win0_1.index t 2 = 0)
    ∧ (win0_2.index t 0 = t.val ∧ win0_2.index t 1 = 0) :=
  (by decide +kernel : ∀ t : Fin grid0.N, (win0_0.index t 0 = t.val ∧ win0_0.index t 1 = 0)
    ∧ (win0_1.index t 0 = 0 ∧ win0_1.index t 1 = 0 ∧ win0_1.index t 2 = 0)
    ∧ (win0_2.index t 0 = t.val ∧ win0_2.index t 1 = 0)) t

/-- The incoming gradient. -/
abbrev dy : Vec Ideal S8192x2048 .bf16 := m ((c : Thread nD τ).loc main_arg0)

/-- The weights. -/
abbrev w : Vec Ideal S1x1024x1024 .bf16 := m ((c : Thread nD τ).loc main_arg1)

/-- The incoming gradient's rows that a point takes. -/
abbrev back (t : Fin cfg0.N) : Vec Ideal S1024x1024 .bf16 := iblk m c 0 t

/-- The weights that a point takes. -/
abbrev weights (t : Fin cfg0.N) : Vec Ideal S1x1024x1024 .bf16 := iblk m c 1 t

/-- What a point's blocks hold. -/
theorem total (t : Fin cfg0.N) (a : Fin 1024) (b : Fin 1024) :
    ∑ k : Fin 1024, back m c t (ix2 a k) * weights m c t (ix3 0 b k)
      = ∑ k : Fin 1024, dy m c (ix2 (⟨t.val * 1024 + a.val, by have h := t.isLt; have e : cfg0.N = 8 := N_0; omega⟩ : Fin 8192) (⟨k.val, by omega⟩ : Fin 2048)) * w m c (ix3 0 b k) := by
  refine Finset.sum_congr rfl fun k _ => ?_
  have e := place t
  congr 1 <;> blk_ext [iblk, V, e]

/-- The reference's product. -/
theorem reference (x0 : Vec Ideal S8192x2048 .bf16) (x1 : Vec Ideal S1x1024x1024 .bf16) (a : Fin 8192) (b : Fin 1024) :
    Cert.PoolOutRefIdeal.Read.val_main_v7 (F := Ideal) x0 x1 (ix2 a b) = ∑ k : Fin 1024, x0 (ix2 a (⟨k.val, by omega⟩ : Fin 2048)) * x1 (ix3 0 b k) := by
  pointwise [Cert.PoolOutRefIdeal.Read.val_main_v7, Cert.PoolOutRefIdeal.Read.val_main_v6, Cert.PoolOutRefIdeal.Read.val_main_v5, Cert.PoolOutRefIdeal.Read.val_main_v3, Cert.PoolOutRefIdeal.Read.val_main_v2, Cert.PoolOutRefIdeal.Read.val_main_v0]

/-- The kernel's array is the reference's. -/
theorem result : (dats m 0 c).arrAt 2 (cfgs 0).N = Cert.PoolOutRefIdeal.Read.val_main_v7 (F := Ideal) (dy m c) (w m c) := by
  refine (dats m 0 c).arrAt_eq_of_covers 2 _ (by decide +kernel) fun t hf y => ?_
  have e := place t
  blk_simp [e]
  rw [after0_2]
  obtain ⟨a, b, rfl⟩ : ∃ (a : Fin 1024) (b : Fin 1024), y = ix2 a b :=
    ⟨y 0, y 1, by funext x; fin_cases x <;> rfl⟩
  rw [show (win0_2.blk t).view.emb (ix2 a b) = ix2 (⟨t.val * 1024 + a.val, by have h := t.isLt; have e : cfg0.grid.N = 8 := N_0; omega⟩ : Fin 8192) b by
    funext x; apply Fin.ext; fin_cases x <;> blk_simp [e] <;> rfl]
  frame_out
  exact (part (back m c t) (weights m c t) a b).trans ((total m c t a b).trans (reference _ _ _ _).symm)

theorem frameBits : @Cert.quiescent_PoolOut Cert.PoolOut.Gen.facts := fun m g _ => Cert.PoolOut.Gen.frame m g
theorem frameIdeal : @Cert.quiescent_PoolOutIdeal Cert.PoolOutIdeal.Gen.facts := fun m g _ => Cert.PoolOutIdeal.Gen.frame m g
theorem frameRef : @Cert.quiescent_PoolOutRefIdeal Cert.PoolOutRefIdeal.Gen.facts := fun m g _ =>
  (θ_run _ _ _).mono (fun r h => ⟨fun c => (h c).2, sem_eq_zero_of_no_sems (by decide) _⟩) (Cert.PoolOutRefIdeal.Value.run m g)

theorem algebraic : @Cert.algebraic_PoolOutIdeal_PoolOutRefIdeal Cert.PoolOutIdeal.Gen.facts Cert.PoolOutRefIdeal.Gen.facts := by
  pair_intro
  · run_from Cert.PoolOutIdeal.Value.run_blocks m g
  · run_from Cert.PoolOutRefIdeal.Value.run m' g'
    obtain ⟨a0, a1⟩ := hagree c
    refine (Cert.PoolOutRefIdeal.Read.val_main_v7_eq _ _).trans ?_
    exact (result m c).symm

end Cert.PoolOutIdeal.Mix
-- ==== Proof.SguOut.lean ====
module

public import proofs.«01_k».proof.Defs
public import proofs.«01_k».proof.Proof.Gen.SguOut.Frame
public import proofs.«01_k».proof.Proof.Gen.SguOutIdeal.Value
public import proofs.«01_k».proof.Proof.Gen.SguOutRefIdeal.Run
public import proofs.«01_k».proof.Proof.Gen.SguOutRefIdeal.Read
public import Idealize.ShloMosaic.Lib.Pipeline.ValueKit
public import Idealize.ShloMosaic.Lib.Quiescent
public import Idealize.ShloMosaic.Lib.Claim

/-!
The gradient of the gating branch's rows: the product of the incoming gradient by the weights, transposed.
-/

@[expose] public section

set_option maxRecDepth 16384

noncomputable section

namespace Cert.SguOutIdeal.Mix

open Idealize.ShloMosaic Idealize.ShloMosaic.TcCoe Idealize.SL.Sem
open Cert.SguOutIdeal Cert.SguOutIdeal.Gen

variable (m : (ℓ : Loc nD τ sig) → Buf (Elt Idealize.ShloMosaic.Ideal) ℓ) (c : Dev nD)

/-- A point's products. -/
theorem part (x : Vec Ideal S1024x1024 .bf16) (y : Vec Ideal S1x1024x1024 .bf16) (a : Fin 1024) (b : Fin 1024) :
    k0_pay1 (F := Ideal) x y (ix2 a b) = ∑ k : Fin 1024, x (ix2 a k) * y (ix3 0 b k) := by
  pointwise [k0_pay1]

/-- Where each window's block lies. -/
theorem place (t : Fin cfg0.N) : (win0_0.index t 0 = t.val ∧ win0_0.index t 1 = 1)
    ∧ (win0_1.index t 0 = 0 ∧ win0_1.index t 1 = 0 ∧ win0_1.index t 2 = 0)
    ∧ (win0_2.index t 0 = t.val ∧ win0_2.index t 1 = 0) :=
  (by decide +kernel : ∀ t : Fin grid0.N, (win0_0.index t 0 = t.val ∧ win0_0.index t 1 = 1)
    ∧ (win0_1.index t 0 = 0 ∧ win0_1.index t 1 = 0 ∧ win0_1.index t 2 = 0)
    ∧ (win0_2.index t 0 = t.val ∧ win0_2.index t 1 = 0)) t

/-- The incoming gradient. -/
abbrev dy : Vec Ideal S8192x2048 .bf16 := m ((c : Thread nD τ).loc main_arg0)

/-- The weights. -/
abbrev w : Vec Ideal S1x1024x1024 .bf16 := m ((c : Thread nD τ).loc main_arg1)

/-- The incoming gradient's rows that a point takes. -/
abbrev back (t : Fin cfg0.N) : Vec Ideal S1024x1024 .bf16 := iblk m c 0 t

/-- The weights that a point takes. -/
abbrev weights (t : Fin cfg0.N) : Vec Ideal S1x1024x1024 .bf16 := iblk m c 1 t

/-- What a point's blocks hold. -/
theorem total (t : Fin cfg0.N) (a : Fin 1024) (b : Fin 1024) :
    ∑ k : Fin 1024, back m c t (ix2 a k) * weights m c t (ix3 0 b k)
      = ∑ k : Fin 1024, dy m c (ix2 (⟨t.val * 1024 + a.val, by have h := t.isLt; have e : cfg0.N = 8 := N_0; omega⟩ : Fin 8192) (⟨1024 + k.val, by omega⟩ : Fin 2048)) * w m c (ix3 0 b k) := by
  refine Finset.sum_congr rfl fun k _ => ?_
  have e := place t
  congr 1 <;> blk_ext [iblk, V, e]

/-- The reference's product. -/
theorem reference (x0 : Vec Ideal S8192x2048 .bf16) (x1 : Vec Ideal S1x1024x1024 .bf16) (a : Fin 8192) (b : Fin 1024) :
    Cert.SguOutRefIdeal.Read.val_main_v7 (F := Ideal) x0 x1 (ix2 a b) = ∑ k : Fin 1024, x0 (ix2 a (⟨1024 + k.val, by omega⟩ : Fin 2048)) * x1 (ix3 0 b k) := by
  pointwise [Cert.SguOutRefIdeal.Read.val_main_v7, Cert.SguOutRefIdeal.Read.val_main_v6, Cert.SguOutRefIdeal.Read.val_main_v5, Cert.SguOutRefIdeal.Read.val_main_v3, Cert.SguOutRefIdeal.Read.val_main_v2, Cert.SguOutRefIdeal.Read.val_main_v0]

/-- The kernel's array is the reference's. -/
theorem result : (dats m 0 c).arrAt 2 (cfgs 0).N = Cert.SguOutRefIdeal.Read.val_main_v7 (F := Ideal) (dy m c) (w m c) := by
  refine (dats m 0 c).arrAt_eq_of_covers 2 _ (by decide +kernel) fun t hf y => ?_
  have e := place t
  blk_simp [e]
  rw [after0_2]
  obtain ⟨a, b, rfl⟩ : ∃ (a : Fin 1024) (b : Fin 1024), y = ix2 a b :=
    ⟨y 0, y 1, by funext x; fin_cases x <;> rfl⟩
  rw [show (win0_2.blk t).view.emb (ix2 a b) = ix2 (⟨t.val * 1024 + a.val, by have h := t.isLt; have e : cfg0.grid.N = 8 := N_0; omega⟩ : Fin 8192) b by
    funext x; apply Fin.ext; fin_cases x <;> blk_simp [e] <;> rfl]
  frame_out
  exact (part (back m c t) (weights m c t) a b).trans ((total m c t a b).trans (reference _ _ _ _).symm)

theorem frameBits : @Cert.quiescent_SguOut Cert.SguOut.Gen.facts := fun m g _ => Cert.SguOut.Gen.frame m g
theorem frameIdeal : @Cert.quiescent_SguOutIdeal Cert.SguOutIdeal.Gen.facts := fun m g _ => Cert.SguOutIdeal.Gen.frame m g
theorem frameRef : @Cert.quiescent_SguOutRefIdeal Cert.SguOutRefIdeal.Gen.facts := fun m g _ =>
  (θ_run _ _ _).mono (fun r h => ⟨fun c => (h c).2, sem_eq_zero_of_no_sems (by decide) _⟩) (Cert.SguOutRefIdeal.Value.run m g)

theorem algebraic : @Cert.algebraic_SguOutIdeal_SguOutRefIdeal Cert.SguOutIdeal.Gen.facts Cert.SguOutRefIdeal.Gen.facts := by
  pair_intro
  · run_from Cert.SguOutIdeal.Value.run_blocks m g
  · run_from Cert.SguOutRefIdeal.Value.run m' g'
    obtain ⟨a0, a1⟩ := hagree c
    refine (Cert.SguOutRefIdeal.Read.val_main_v7_eq _ _).trans ?_
    exact (result m c).symm

end Cert.SguOutIdeal.Mix
-- ==== Proof.UpProj.lean ====
module

public import proofs.«01_k».proof.Defs
public import proofs.«01_k».proof.Proof.Gen.UpProj.Frame
public import proofs.«01_k».proof.Proof.Gen.UpProjIdeal.Value
public import proofs.«01_k».proof.Proof.Gen.UpProjRefIdeal.Run
public import proofs.«01_k».proof.Proof.Gen.UpProjRefIdeal.Read
public import Idealize.ShloMosaic.Lib.Pipeline.ValueKit
public import Idealize.ShloMosaic.Lib.Quiescent
public import Idealize.ShloMosaic.Lib.Claim

/-!
The projection up to the two halves of the feed-forward block: the product of the rows by the weights.
-/

@[expose] public section

set_option maxRecDepth 16384

noncomputable section

namespace Cert.UpProjIdeal.Mix

open Idealize.ShloMosaic Idealize.ShloMosaic.TcCoe Idealize.SL.Sem
open Cert.UpProjIdeal Cert.UpProjIdeal.Gen

variable (m : (ℓ : Loc nD τ sig) → Buf (Elt Idealize.ShloMosaic.Ideal) ℓ) (c : Dev nD)

/-- A point's products. -/
theorem part (x : Vec Ideal S1024x1024 .bf16) (y : Vec Ideal S1x1024x2816 .bf16) (a : Fin 1024) (b : Fin 2816) :
    k0_pay1 (F := Ideal) x y (ix2 a b) = ∑ k : Fin 1024, x (ix2 a k) * y (ix3 0 k b) := by
  pointwise [k0_pay1]

/-- Where each window's block lies. -/
theorem place (t : Fin cfg0.N) : (win0_0.index t 0 = t.val % 8 ∧ win0_0.index t 1 = 0)
    ∧ (win0_1.index t 0 = 0 ∧ win0_1.index t 1 = 0 ∧ win0_1.index t 2 = t.val / 8)
    ∧ (win0_2.index t 0 = t.val % 8 ∧ win0_2.index t 1 = t.val / 8) :=
  (by decide +kernel : ∀ t : Fin grid0.N, (win0_0.index t 0 = t.val % 8 ∧ win0_0.index t 1 = 0)
    ∧ (win0_1.index t 0 = 0 ∧ win0_1.index t 1 = 0 ∧ win0_1.index t 2 = t.val / 8)
    ∧ (win0_2.index t 0 = t.val % 8 ∧ win0_2.index t 1 = t.val / 8)) t

/-- The rows. -/
abbrev x : Vec Ideal S8192x1024 .bf16 := m ((c : Thread nD τ).loc main_arg0)

/-- The weights. -/
abbrev w : Vec Ideal S1x1024x5632 .bf16 := m ((c : Thread nD τ).loc main_arg1)

/-- The rows that a point takes. -/
abbrev rows (t : Fin cfg0.N) : Vec Ideal S1024x1024 .bf16 := iblk m c 0 t

/-- The weights that a point takes. -/
abbrev weights (t : Fin cfg0.N) : Vec Ideal S1x1024x2816 .bf16 := iblk m c 1 t

/-- What a point's blocks hold. -/
theorem total (t : Fin cfg0.N) (a : Fin 1024) (b : Fin 2816) :
    ∑ k : Fin 1024, rows m c t (ix2 a k) * weights m c t (ix3 0 k b)
      = ∑ k : Fin 1024, x m c (ix2 (⟨(t.val % 8) * 1024 + a.val, by have h := t.isLt; have e : cfg0.N = 16 := N_0; omega⟩ : Fin 8192) k) * w m c (ix3 0 k (⟨(t.val / 8) * 2816 + b.val, by have h := t.isLt; have e : cfg0.N = 16 := N_0; omega⟩ : Fin 5632)) := by
  refine Finset.sum_congr rfl fun k _ => ?_
  have e := place t
  congr 1 <;> blk_ext [iblk, V, e]

/-- The reference's product. -/
theorem reference (x0 : Vec Ideal S8192x1024 .bf16) (x1 : Vec Ideal S1x1024x5632 .bf16) (a : Fin 8192) (b : Fin 5632) :
    Cert.UpProjRefIdeal.Read.val_main_v3 (F := Ideal) x0 x1 (ix2 a b) = ∑ k : Fin 1024, x0 (ix2 a k) * x1 (ix3 0 k b) := by
  pointwise [Cert.UpProjRefIdeal.Read.val_main_v3, Cert.UpProjRefIdeal.Read.val_main_v2, Cert.UpProjRefIdeal.Read.val_main_v1, Cert.UpProjRefIdeal.Read.val_main_v0]

/-- The kernel's array is the reference's. -/
theorem result : (dats m 0 c).arrAt 2 (cfgs 0).N = Cert.UpProjRefIdeal.Read.val_main_v3 (F := Ideal) (x m c) (w m c) := by
  refine (dats m 0 c).arrAt_eq_of_covers 2 _ (by decide +kernel) fun t hf y => ?_
  have e := place t
  blk_simp [e]
  rw [after0_2]
  obtain ⟨a, b, rfl⟩ : ∃ (a : Fin 1024) (b : Fin 2816), y = ix2 a b :=
    ⟨y 0, y 1, by funext x; fin_cases x <;> rfl⟩
  rw [show (win0_2.blk t).view.emb (ix2 a b) = ix2 (⟨(t.val % 8) * 1024 + a.val, by have h := t.isLt; have e : cfg0.N = 16 := N_0; omega⟩ : Fin 8192) (⟨(t.val / 8) * 2816 + b.val, by have h := t.isLt; have e : cfg0.N = 16 := N_0; omega⟩ : Fin 5632) by
    funext x; apply Fin.ext; fin_cases x <;> blk_simp [e] <;> rfl]
  frame_out
  exact (part (rows m c t) (weights m c t) a b).trans ((total m c t a b).trans (reference _ _ _ _).symm)

theorem frameBits : @Cert.quiescent_UpProj Cert.UpProj.Gen.facts := fun m g _ => Cert.UpProj.Gen.frame m g
theorem frameIdeal : @Cert.quiescent_UpProjIdeal Cert.UpProjIdeal.Gen.facts := fun m g _ => Cert.UpProjIdeal.Gen.frame m g
theorem frameRef : @Cert.quiescent_UpProjRefIdeal Cert.UpProjRefIdeal.Gen.facts := fun m g _ =>
  (θ_run _ _ _).mono (fun r h => ⟨fun c => (h c).2, sem_eq_zero_of_no_sems (by decide) _⟩) (Cert.UpProjRefIdeal.Value.run m g)

theorem algebraic : @Cert.algebraic_UpProjIdeal_UpProjRefIdeal Cert.UpProjIdeal.Gen.facts Cert.UpProjRefIdeal.Gen.facts := by
  pair_intro
  · run_from Cert.UpProjIdeal.Value.run_blocks m g
  · run_from Cert.UpProjRefIdeal.Value.run m' g'
    obtain ⟨a0, a1⟩ := hagree c
    refine (Cert.UpProjRefIdeal.Read.val_main_v3_eq (F := Idealize.ShloMosaic.Ideal) _ _).trans ?_
    exact (result m c).symm

end Cert.UpProjIdeal.Mix
-- ==== Proof.PleGateProj.lean ====
module

public import proofs.«01_k».proof.Defs
public import proofs.«01_k».proof.Proof.Gen.PleGateProj.Frame
public import proofs.«01_k».proof.Proof.Gen.PleGateProjIdeal.Value
public import proofs.«01_k».proof.Proof.Gen.PleGateProjRefIdeal.Run
public import proofs.«01_k».proof.Proof.Gen.PleGateProjRefIdeal.Read
public import Idealize.ShloMosaic.Lib.Pipeline.ValueKit
public import Idealize.ShloMosaic.Lib.Quiescent
public import Idealize.ShloMosaic.Lib.Claim

/-!
The projection to the gates of the per-layer embedding: the product of the rows by the weights.
-/

@[expose] public section

set_option maxRecDepth 16384

noncomputable section

namespace Cert.PleGateProjIdeal.Mix

open Idealize.ShloMosaic Idealize.ShloMosaic.TcCoe Idealize.SL.Sem
open Cert.PleGateProjIdeal Cert.PleGateProjIdeal.Gen

variable (m : (ℓ : Loc nD τ sig) → Buf (Elt Idealize.ShloMosaic.Ideal) ℓ) (c : Dev nD)

/-- A point's products. -/
theorem part (x : Vec Ideal S1024x1024 .bf16) (y : Vec Ideal S1x1024x1024 .bf16) (a : Fin 1024) (b : Fin 1024) :
    k0_pay1 (F := Ideal) x y (ix2 a b) = ∑ k : Fin 1024, x (ix2 a k) * y (ix3 0 k b) := by
  pointwise [k0_pay1]

/-- Where each window's block lies. -/
theorem place (t : Fin cfg0.N) : (win0_0.index t 0 = t.val ∧ win0_0.index t 1 = 0)
    ∧ (win0_1.index t 0 = 0 ∧ win0_1.index t 1 = 0 ∧ win0_1.index t 2 = 0)
    ∧ (win0_2.index t 0 = t.val ∧ win0_2.index t 1 = 0) :=
  (by decide +kernel : ∀ t : Fin grid0.N, (win0_0.index t 0 = t.val ∧ win0_0.index t 1 = 0)
    ∧ (win0_1.index t 0 = 0 ∧ win0_1.index t 1 = 0 ∧ win0_1.index t 2 = 0)
    ∧ (win0_2.index t 0 = t.val ∧ win0_2.index t 1 = 0)) t

/-- The rows. -/
abbrev x : Vec Ideal S8192x1024 .bf16 := m ((c : Thread nD τ).loc main_arg0)

/-- The weights. -/
abbrev w : Vec Ideal S1x1024x1024 .bf16 := m ((c : Thread nD τ).loc main_arg1)

/-- The rows that a point takes. -/
abbrev rows (t : Fin cfg0.N) : Vec Ideal S1024x1024 .bf16 := iblk m c 0 t

/-- The weights that a point takes. -/
abbrev weights (t : Fin cfg0.N) : Vec Ideal S1x1024x1024 .bf16 := iblk m c 1 t

/-- What a point's blocks hold. -/
theorem total (t : Fin cfg0.N) (a : Fin 1024) (b : Fin 1024) :
    ∑ k : Fin 1024, rows m c t (ix2 a k) * weights m c t (ix3 0 k b)
      = ∑ k : Fin 1024, x m c (ix2 (⟨(t.val) * 1024 + a.val, by have h := t.isLt; have e : cfg0.N = 8 := N_0; omega⟩ : Fin 8192) k) * w m c (ix3 0 k b) := by
  refine Finset.sum_congr rfl fun k _ => ?_
  have e := place t
  congr 1 <;> blk_ext [iblk, V, e]

/-- The reference's product. -/
theorem reference (x0 : Vec Ideal S8192x1024 .bf16) (x1 : Vec Ideal S1x1024x1024 .bf16) (a : Fin 8192) (b : Fin 1024) :
    Cert.PleGateProjRefIdeal.Read.val_main_v4 (F := Ideal) x0 x1 (ix2 a b) = ∑ k : Fin 1024, x0 (ix2 a k) * x1 (ix3 0 k b) := by
  pointwise [Cert.PleGateProjRefIdeal.Read.val_main_v4, Cert.PleGateProjRefIdeal.Read.val_main_v3, Cert.PleGateProjRefIdeal.Read.val_main_v2, Cert.PleGateProjRefIdeal.Read.val_main_v1, Cert.PleGateProjRefIdeal.Read.val_main_v0]

/-- The kernel's array is the reference's. -/
theorem result : (dats m 0 c).arrAt 2 (cfgs 0).N = Cert.PleGateProjRefIdeal.Read.val_main_v4 (F := Ideal) (x m c) (w m c) := by
  refine (dats m 0 c).arrAt_eq_of_covers 2 _ (by decide +kernel) fun t hf y => ?_
  have e := place t
  blk_simp [e]
  rw [after0_2]
  obtain ⟨a, b, rfl⟩ : ∃ (a : Fin 1024) (b : Fin 1024), y = ix2 a b :=
    ⟨y 0, y 1, by funext x; fin_cases x <;> rfl⟩
  rw [show (win0_2.blk t).view.emb (ix2 a b) = ix2 (⟨t.val * 1024 + a.val, by have h := t.isLt; have e : cfg0.N = 8 := N_0; omega⟩ : Fin 8192) b by
    funext x; apply Fin.ext; fin_cases x <;> blk_simp [e] <;> rfl]
  frame_out
  exact (part (rows m c t) (weights m c t) a b).trans ((total m c t a b).trans (reference _ _ _ _).symm)

theorem frameBits : @Cert.quiescent_PleGateProj Cert.PleGateProj.Gen.facts := fun m g _ => Cert.PleGateProj.Gen.frame m g
theorem frameIdeal : @Cert.quiescent_PleGateProjIdeal Cert.PleGateProjIdeal.Gen.facts := fun m g _ => Cert.PleGateProjIdeal.Gen.frame m g
theorem frameRef : @Cert.quiescent_PleGateProjRefIdeal Cert.PleGateProjRefIdeal.Gen.facts := fun m g _ =>
  (θ_run _ _ _).mono (fun r h => ⟨fun c => (h c).2, sem_eq_zero_of_no_sems (by decide) _⟩) (Cert.PleGateProjRefIdeal.Value.run m g)

theorem algebraic : @Cert.algebraic_PleGateProjIdeal_PleGateProjRefIdeal Cert.PleGateProjIdeal.Gen.facts Cert.PleGateProjRefIdeal.Gen.facts := by
  pair_intro
  · run_from Cert.PleGateProjIdeal.Value.run_blocks m g
  · run_from Cert.PleGateProjRefIdeal.Value.run m' g'
    obtain ⟨a0, a1⟩ := hagree c
    refine (Cert.PleGateProjRefIdeal.Read.val_main_v4_eq (F := Idealize.ShloMosaic.Ideal) _ _).trans ?_
    exact (result m c).symm

end Cert.PleGateProjIdeal.Mix
-- ==== Proof.PleProj.lean ====
module

public import proofs.«01_k».proof.Defs
public import proofs.«01_k».proof.Proof.Gen.PleProj.Frame
public import proofs.«01_k».proof.Proof.Gen.PleProjIdeal.Value
public import proofs.«01_k».proof.Proof.Gen.PleProjRefIdeal.Run
public import proofs.«01_k».proof.Proof.Gen.PleProjRefIdeal.Read
public import Idealize.ShloMosaic.Lib.Pipeline.ValueKit
public import Idealize.ShloMosaic.Lib.Quiescent
public import Idealize.ShloMosaic.Lib.Claim

/-!
The projection of the layer's embeddings: the product of that layer's rows by the weights.
-/

@[expose] public section

set_option maxRecDepth 16384

noncomputable section

namespace Cert.PleProjIdeal.Mix

open Idealize.ShloMosaic Idealize.ShloMosaic.TcCoe Idealize.SL.Sem
open Cert.PleProjIdeal Cert.PleProjIdeal.Gen

variable (m : (ℓ : Loc nD τ sig) → Buf (Elt Idealize.ShloMosaic.Ideal) ℓ) (c : Dev nD)

/-- A point's products. -/
theorem part (x : Vec Ideal S1024x256 .f32) (y : Vec Ideal S1x256x1024 .bf16) (a : Fin 1024) (b : Fin 1024) :
    k0_pay1 (F := Ideal) x y (ix2 a b) = ∑ k : Fin 256, x (ix2 a k) * y (ix3 0 k b) := by
  pointwise [k0_pay1]

/-- Where each window's block lies. -/
theorem place (t : Fin cfg0.N) : (win0_0.index t 0 = t.val + 8 ∧ win0_0.index t 1 = 0)
    ∧ (win0_1.index t 0 = 0 ∧ win0_1.index t 1 = 0 ∧ win0_1.index t 2 = 0)
    ∧ (win0_2.index t 0 = t.val ∧ win0_2.index t 1 = 0) :=
  (by decide +kernel : ∀ t : Fin grid0.N, (win0_0.index t 0 = t.val + 8 ∧ win0_0.index t 1 = 0)
    ∧ (win0_1.index t 0 = 0 ∧ win0_1.index t 1 = 0 ∧ win0_1.index t 2 = 0)
    ∧ (win0_2.index t 0 = t.val ∧ win0_2.index t 1 = 0)) t

/-- The rows. -/
abbrev x : Vec Ideal S16384x256 .f32 := m ((c : Thread nD τ).loc main_arg0)

/-- The weights. -/
abbrev w : Vec Ideal S1x256x1024 .bf16 := m ((c : Thread nD τ).loc main_arg1)

/-- The rows that a point takes. -/
abbrev rows (t : Fin cfg0.N) : Vec Ideal S1024x256 .f32 := iblk m c 0 t

/-- The weights that a point takes. -/
abbrev weights (t : Fin cfg0.N) : Vec Ideal S1x256x1024 .bf16 := iblk m c 1 t

/-- What a point's blocks hold. -/
theorem total (t : Fin cfg0.N) (a : Fin 1024) (b : Fin 1024) :
    ∑ k : Fin 256, rows m c t (ix2 a k) * weights m c t (ix3 0 k b)
      = ∑ k : Fin 256, x m c (ix2 (⟨(t.val + 8) * 1024 + a.val, by have h := t.isLt; have e : cfg0.N = 8 := N_0; omega⟩ : Fin 16384) k) * w m c (ix3 0 k b) := by
  refine Finset.sum_congr rfl fun k _ => ?_
  have e := place t
  congr 1 <;> blk_ext [iblk, V, e]

/-- The reference's product. -/
theorem reference (x0 : Vec Ideal S16384x256 .f32) (x1 : Vec Ideal S1x256x1024 .bf16) (a : Fin 8192) (b : Fin 1024) :
    Cert.PleProjRefIdeal.Read.val_main_v4 (F := Ideal) x0 x1 (ix2 a b) = ∑ k : Fin 256, x0 (ix2 (⟨8192 + a.val, by omega⟩ : Fin 16384) k) * x1 (ix3 0 k b) := by
  pointwise [Cert.PleProjRefIdeal.Read.val_main_v4, Cert.PleProjRefIdeal.Read.val_main_v3, Cert.PleProjRefIdeal.Read.val_main_v2, Cert.PleProjRefIdeal.Read.val_main_v1, Cert.PleProjRefIdeal.Read.val_main_v0]

/-- The kernel's array is the reference's. -/
theorem result : (dats m 0 c).arrAt 2 (cfgs 0).N = Cert.PleProjRefIdeal.Read.val_main_v4 (F := Ideal) (x m c) (w m c) := by
  refine (dats m 0 c).arrAt_eq_of_covers 2 _ (by decide +kernel) fun t hf y => ?_
  have e := place t
  blk_simp [e]
  rw [after0_2]
  obtain ⟨a, b, rfl⟩ : ∃ (a : Fin 1024) (b : Fin 1024), y = ix2 a b :=
    ⟨y 0, y 1, by funext x; fin_cases x <;> rfl⟩
  rw [show (win0_2.blk t).view.emb (ix2 a b) = ix2 (⟨t.val * 1024 + a.val, by have h := t.isLt; have e : cfg0.N = 8 := N_0; omega⟩ : Fin 8192) b by
    funext x; apply Fin.ext; fin_cases x <;> blk_simp [e] <;> rfl]
  frame_out
  refine (part (rows m c t) (weights m c t) a b).trans ((total m c t a b).trans (Eq.trans ?_ (reference _ _ _ _).symm))
  refine Finset.sum_congr rfl fun k _ => ?_
  congr 2
  funext q; apply Fin.ext; fin_cases q
  · show (t.val + 8) * 1024 + a.val = 8192 + (t.val * 1024 + a.val)
    omega
  · rfl

theorem frameBits : @Cert.quiescent_PleProj Cert.PleProj.Gen.facts := fun m g _ => Cert.PleProj.Gen.frame m g
theorem frameIdeal : @Cert.quiescent_PleProjIdeal Cert.PleProjIdeal.Gen.facts := fun m g _ => Cert.PleProjIdeal.Gen.frame m g
theorem frameRef : @Cert.quiescent_PleProjRefIdeal Cert.PleProjRefIdeal.Gen.facts := fun m g _ =>
  (θ_run _ _ _).mono (fun r h => ⟨fun c => (h c).2, sem_eq_zero_of_no_sems (by decide) _⟩) (Cert.PleProjRefIdeal.Value.run m g)

theorem algebraic : @Cert.algebraic_PleProjIdeal_PleProjRefIdeal Cert.PleProjIdeal.Gen.facts Cert.PleProjRefIdeal.Gen.facts := by
  pair_intro
  · run_from Cert.PleProjIdeal.Value.run_blocks m g
  · run_from Cert.PleProjRefIdeal.Value.run m' g'
    obtain ⟨a0, a1⟩ := hagree c
    refine (Cert.PleProjRefIdeal.Read.val_main_v4_eq (F := Idealize.ShloMosaic.Ideal) _ _).trans ?_
    exact (result m c).symm

end Cert.PleProjIdeal.Mix
-- ==== Proof.RowNorm.lean ====
module

public import Idealize.ShloMosaic.Lib.Pipeline.ValueKit

/-!
A row over the root of its mean square, times a gain, at one entry.
-/

@[expose] public section

noncomputable section

namespace Mixer

open Idealize.ShloMosaic

/-- The entry `b` of a row of 1024 numbers over the root of their mean square, times a gain. -/
def rowNorm (y : Fin 1024 → Ideal .f32) (g : Ideal .f32) (b : Fin 1024) : Ideal .f32 :=
  FloatOps.mulf (FloatOps.mulf (y b) (FloatOps.rsqrt (FloatOps.addf
    (FloatOps.divf (∑ k, y k * y k : EReal) (FloatOps.ofBits .f32 0x44800000#32)) (FloatOps.ofBits .f32 0x358637BD#32)))) g

end Mixer
-- ==== Proof.OutProj.lean ====
module

public import proofs.«01_k».proof.Defs
public import proofs.«01_k».proof.Proof.RowNorm
public import proofs.«01_k».proof.Proof.Gen.OutProj.Frame
public import proofs.«01_k».proof.Proof.Gen.OutProjIdeal.Value
public import proofs.«01_k».proof.Proof.Gen.OutProjRefIdeal.Run
public import proofs.«01_k».proof.Proof.Gen.OutProjRefIdeal.Read
public import Idealize.ShloMosaic.Lib.Pipeline.ValueKit
public import Idealize.ShloMosaic.Lib.Quiescent
public import Idealize.ShloMosaic.Lib.Claim

/-!
The projection out of the mixers: the sum of the stream and the product of the rows by the weights, and that sum's
rows normalised for the next block.
-/

@[expose] public section

set_option maxRecDepth 16384

noncomputable section

namespace Cert.OutProjIdeal.Mix

open Idealize.ShloMosaic Idealize.ShloMosaic.TcCoe Idealize.SL.Sem
open Cert.OutProjIdeal Cert.OutProjIdeal.Gen

variable (m : (ℓ : Loc nD τ sig) → Buf (Elt Idealize.ShloMosaic.Ideal) ℓ) (c : Dev nD)

/-- A point's sums. -/
theorem part (x : Vec Ideal S1024x1024 .bf16) (w : Vec Ideal S1x1024x1024 .bf16) (r : Vec Ideal S1024x1024 .f32) (a : Fin 1024) (b : Fin 1024) :
    k0_pay1 (F := Ideal) x w r (ix2 a b) = r (ix2 a b) + ∑ k : Fin 1024, x (ix2 a k) * w (ix3 0 k b) := by
  pointwise [k0_pay1]
  exact add_comm _ _

/-- A point's normalised rows. -/
theorem partNorm (x : Vec Ideal S1024x1024 .bf16) (w : Vec Ideal S1x1024x1024 .bf16) (r : Vec Ideal S1024x1024 .f32) (g : Vec Ideal S1x1x1024 .f32)
    (a : Fin 1024) (b : Fin 1024) :
    k0_pay2 (F := Ideal) x w r g (ix2 a b) = Mixer.rowNorm (fun k => k0_pay1 (F := Ideal) x w r (ix2 a k)) (g (ix3 0 0 b)) b := by
  pointwise [k0_pay2, Mixer.rowNorm]

/-- The reference's sums. -/
theorem reference (x : Vec Ideal S8192x1024 .bf16) (w : Vec Ideal S1x1024x1024 .bf16) (r : Vec Ideal S8192x1024 .f32) (a : Fin 8192) (b : Fin 1024) :
    Cert.OutProjRefIdeal.Read.val_main_v4 (F := Ideal) x w r (ix2 a b) = r (ix2 a b) + ∑ k : Fin 1024, x (ix2 a k) * w (ix3 0 k b) := by
  pointwise [Cert.OutProjRefIdeal.Read.val_main_v4, Cert.OutProjRefIdeal.Read.val_main_v3, Cert.OutProjRefIdeal.Read.val_main_v2, Cert.OutProjRefIdeal.Read.val_main_v1, Cert.OutProjRefIdeal.Read.val_main_v0]

/-- The reference's normalised rows. -/
theorem referenceNorm (x : Vec Ideal S8192x1024 .bf16) (w : Vec Ideal S1x1024x1024 .bf16) (r : Vec Ideal S8192x1024 .f32) (g : Vec Ideal S1x1x1024 .f32)
    (a : Fin 8192) (b : Fin 1024) :
    Cert.OutProjRefIdeal.Read.val_main_v19 (F := Ideal) x w r g (ix2 a b)
      = Mixer.rowNorm (fun k => Cert.OutProjRefIdeal.Read.val_main_v4 (F := Ideal) x w r (ix2 a k)) (g (ix3 0 0 b)) b := by
  pointwise [Cert.OutProjRefIdeal.Read.val_main_v19, Cert.OutProjRefIdeal.Read.val_main_v18, Cert.OutProjRefIdeal.Read.val_main_v17, Cert.OutProjRefIdeal.Read.val_main_v16, Cert.OutProjRefIdeal.Read.val_main_v15, Cert.OutProjRefIdeal.Read.val_main_v14, Cert.OutProjRefIdeal.Read.val_main_v13, Cert.OutProjRefIdeal.Read.val_main_v12, Cert.OutProjRefIdeal.Read.val_main_v11, Cert.OutProjRefIdeal.Read.val_main_v10, Cert.OutProjRefIdeal.Read.val_main_v9, Cert.OutProjRefIdeal.Read.val_main_v8, Cert.OutProjRefIdeal.Read.val_main_v7, Cert.OutProjRefIdeal.Read.val_main_v6, Cert.OutProjRefIdeal.Read.val_main_v5, Cert.OutProjRefIdeal.Read.val_main_cst, Cert.OutProjRefIdeal.Read.val_main_cst_0, Cert.OutProjRefIdeal.Read.val_main_cst_1, Mixer.rowNorm]

/-- Where each window's block lies. -/
theorem place (t : Fin cfg0.N) : (win0_0.index t 0 = t.val ∧ win0_0.index t 1 = 0)
    ∧ (win0_1.index t 0 = 0 ∧ win0_1.index t 1 = 0 ∧ win0_1.index t 2 = 0)
    ∧ (win0_2.index t 0 = t.val ∧ win0_2.index t 1 = 0)
    ∧ (win0_3.index t 0 = 0 ∧ win0_3.index t 1 = 0 ∧ win0_3.index t 2 = 0)
    ∧ (win0_4.index t 0 = t.val ∧ win0_4.index t 1 = 0)
    ∧ (win0_5.index t 0 = t.val ∧ win0_5.index t 1 = 0) :=
  (by decide +kernel : ∀ t : Fin grid0.N, (win0_0.index t 0 = t.val ∧ win0_0.index t 1 = 0)
    ∧ (win0_1.index t 0 = 0 ∧ win0_1.index t 1 = 0 ∧ win0_1.index t 2 = 0)
    ∧ (win0_2.index t 0 = t.val ∧ win0_2.index t 1 = 0)
    ∧ (win0_3.index t 0 = 0 ∧ win0_3.index t 1 = 0 ∧ win0_3.index t 2 = 0)
    ∧ (win0_4.index t 0 = t.val ∧ win0_4.index t 1 = 0)
    ∧ (win0_5.index t 0 = t.val ∧ win0_5.index t 1 = 0)) t

/-- The rows. -/
abbrev x : Vec Ideal S8192x1024 .bf16 := m ((c : Thread nD τ).loc main_arg0)

/-- The weights. -/
abbrev w : Vec Ideal S1x1024x1024 .bf16 := m ((c : Thread nD τ).loc main_arg1)

/-- The stream. -/
abbrev stream : Vec Ideal S8192x1024 .f32 := m ((c : Thread nD τ).loc main_arg2)

/-- The gains. -/
abbrev gain : Vec Ideal S1x1x1024 .f32 := m ((c : Thread nD τ).loc main_arg3)

/-- The rows that a point takes. -/
abbrev rows (t : Fin cfg0.N) : Vec Ideal S1024x1024 .bf16 := iblk m c 0 t

/-- The weights that a point takes. -/
abbrev weights (t : Fin cfg0.N) : Vec Ideal S1x1024x1024 .bf16 := iblk m c 1 t

/-- The stream that a point takes. -/
abbrev streamAt (t : Fin cfg0.N) : Vec Ideal S1024x1024 .f32 := iblk m c 2 t

/-- The gains that a point takes. -/
abbrev gainAt (t : Fin cfg0.N) : Vec Ideal S1x1x1024 .f32 := iblk m c 3 t

/-- A point's sums are the reference's in the rows that it takes. -/
theorem total (t : Fin cfg0.N) (a : Fin 1024) (b : Fin 1024) :
    k0_pay1 (F := Ideal) (rows m c t) (weights m c t) (streamAt m c t) (ix2 a b)
      = Cert.OutProjRefIdeal.Read.val_main_v4 (F := Ideal) (x m c) (w m c) (stream m c) (ix2 (⟨t.val * 1024 + a.val, by have h := t.isLt; have e : cfg0.N = 8 := N_0; omega⟩ : Fin 8192) b) := by
  rw [part, reference]
  have e := place t
  have hr : streamAt m c t (ix2 a b) = stream m c (ix2 (⟨t.val * 1024 + a.val, by have h := t.isLt; have e : cfg0.N = 8 := N_0; omega⟩ : Fin 8192) b) := by blk_ext [iblk, V, e]
  rw [hr]
  refine congrArg (_ + ·) (Finset.sum_congr rfl fun k _ => ?_)
  congr 1 <;> blk_ext [iblk, V, e]

/-- The kernel's sums are the reference's. -/
theorem sums : (dats m 0 c).arrAt 4 (cfgs 0).N = Cert.OutProjRefIdeal.Read.val_main_v4 (F := Ideal) (x m c) (w m c) (stream m c) := by
  refine (dats m 0 c).arrAt_eq_of_covers 4 _ (by decide +kernel) fun t hf y => ?_
  have e := place t
  blk_simp [e]
  rw [after0_4]
  obtain ⟨a, b, rfl⟩ : ∃ (a : Fin 1024) (b : Fin 1024), y = ix2 a b :=
    ⟨y 0, y 1, by funext x; fin_cases x <;> rfl⟩
  rw [show (win0_4.blk t).view.emb (ix2 a b) = ix2 (⟨t.val * 1024 + a.val, by have h := t.isLt; have e : cfg0.grid.N = 8 := N_0; omega⟩ : Fin 8192) b by
    funext x; apply Fin.ext; fin_cases x <;> blk_simp [e] <;> rfl]
  frame_out
  exact total m c t a b

/-- The kernel's normalised rows are the reference's. -/
theorem norms : (dats m 0 c).arrAt 5 (cfgs 0).N = Cert.OutProjRefIdeal.Read.val_main_v19 (F := Ideal) (x m c) (w m c) (stream m c) (gain m c) := by
  refine (dats m 0 c).arrAt_eq_of_covers 5 _ (by decide +kernel) fun t hf y => ?_
  have e := place t
  blk_simp [e]
  rw [after0_5]
  obtain ⟨a, b, rfl⟩ : ∃ (a : Fin 1024) (b : Fin 1024), y = ix2 a b :=
    ⟨y 0, y 1, by funext x; fin_cases x <;> rfl⟩
  rw [show (win0_5.blk t).view.emb (ix2 a b) = ix2 (⟨t.val * 1024 + a.val, by have h := t.isLt; have e : cfg0.grid.N = 8 := N_0; omega⟩ : Fin 8192) b by
    funext x; apply Fin.ext; fin_cases x <;> blk_simp [e] <;> rfl]
  frame_out
  refine (partNorm (rows m c t) (weights m c t) (streamAt m c t) (gainAt m c t) a b).trans (Eq.trans ?_ (referenceNorm _ _ _ _ _ _).symm)
  have hg : gainAt m c t (ix3 0 0 b) = gain m c (ix3 0 0 b) := by blk_ext [iblk, V, e]
  exact congrArg₂ (Mixer.rowNorm · · b) (funext fun k => total m c t a k) hg

theorem frameBits : @Cert.quiescent_OutProj Cert.OutProj.Gen.facts := fun m g _ => Cert.OutProj.Gen.frame m g
theorem frameIdeal : @Cert.quiescent_OutProjIdeal Cert.OutProjIdeal.Gen.facts := fun m g _ => Cert.OutProjIdeal.Gen.frame m g
theorem frameRef : @Cert.quiescent_OutProjRefIdeal Cert.OutProjRefIdeal.Gen.facts := fun m g _ =>
  (θ_run _ _ _).mono (fun r h => ⟨fun c => (h c).2.2, sem_eq_zero_of_no_sems (by decide) _⟩) (Cert.OutProjRefIdeal.Value.run m g)

theorem algebraic : @Cert.algebraic_OutProjIdeal_OutProjRefIdeal Cert.OutProjIdeal.Gen.facts Cert.OutProjRefIdeal.Gen.facts := by
  pair_intro
  · run_from Cert.OutProjIdeal.Value.run_blocks m g
  · run_from Cert.OutProjRefIdeal.Value.run m' g'
    all_goals obtain ⟨a0, a1, a2, a3⟩ := hagree c
    · refine (Cert.OutProjRefIdeal.Read.val_main_v4_eq (F := Idealize.ShloMosaic.Ideal) _ _ _).trans ?_
      exact (sums m c).symm
    · refine (Cert.OutProjRefIdeal.Read.val_main_v19_eq (F := Idealize.ShloMosaic.Ideal) _ _ _ _).trans ?_
      exact (norms m c).symm

end Cert.OutProjIdeal.Mix
-- ==== Proof.DownProj.lean ====
module

public import proofs.«01_k».proof.Defs
public import proofs.«01_k».proof.Proof.RowNorm
public import proofs.«01_k».proof.Proof.Gen.DownProj.Frame
public import proofs.«01_k».proof.Proof.Gen.DownProjIdeal.Value
public import proofs.«01_k».proof.Proof.Gen.DownProjRefIdeal.Run
public import proofs.«01_k».proof.Proof.Gen.DownProjRefIdeal.Read
public import Idealize.ShloMosaic.Lib.Pipeline.ValueKit
public import Idealize.ShloMosaic.Lib.Quiescent
public import Idealize.ShloMosaic.Lib.Claim

/-!
The projection out of the feed-forward block: the sum of the stream and the product of the rows by the weights, and
that sum's rows normalised for the next block.
-/

@[expose] public section

set_option maxRecDepth 16384

noncomputable section

namespace Cert.DownProjIdeal.Mix

open Idealize.ShloMosaic Idealize.ShloMosaic.TcCoe Idealize.SL.Sem
open Cert.DownProjIdeal Cert.DownProjIdeal.Gen

variable (m : (ℓ : Loc nD τ sig) → Buf (Elt Idealize.ShloMosaic.Ideal) ℓ) (c : Dev nD)

/-- A point's sums. -/
theorem part (x : Vec Ideal S1024x2816 .bf16) (w : Vec Ideal S1x2816x1024 .bf16) (r : Vec Ideal S1024x1024 .f32) (a : Fin 1024) (b : Fin 1024) :
    k0_pay1 (F := Ideal) x w r (ix2 a b) = r (ix2 a b) + ∑ k : Fin 2816, x (ix2 a k) * w (ix3 0 k b) := by
  pointwise [k0_pay1]
  exact add_comm _ _

/-- A point's normalised rows. -/
theorem partNorm (x : Vec Ideal S1024x2816 .bf16) (w : Vec Ideal S1x2816x1024 .bf16) (r : Vec Ideal S1024x1024 .f32) (g : Vec Ideal S1x1x1024 .f32)
    (a : Fin 1024) (b : Fin 1024) :
    k0_pay2 (F := Ideal) x w r g (ix2 a b) = Mixer.rowNorm (fun k => k0_pay1 (F := Ideal) x w r (ix2 a k)) (g (ix3 0 0 b)) b := by
  pointwise [k0_pay2, Mixer.rowNorm]

/-- The reference's sums. -/
theorem reference (x : Vec Ideal S8192x2816 .bf16) (w : Vec Ideal S1x2816x1024 .bf16) (r : Vec Ideal S8192x1024 .f32) (a : Fin 8192) (b : Fin 1024) :
    Cert.DownProjRefIdeal.Read.val_main_v4 (F := Ideal) x w r (ix2 a b) = r (ix2 a b) + ∑ k : Fin 2816, x (ix2 a k) * w (ix3 0 k b) := by
  pointwise [Cert.DownProjRefIdeal.Read.val_main_v4, Cert.DownProjRefIdeal.Read.val_main_v3, Cert.DownProjRefIdeal.Read.val_main_v2, Cert.DownProjRefIdeal.Read.val_main_v1, Cert.DownProjRefIdeal.Read.val_main_v0]

/-- The reference's normalised rows. -/
theorem referenceNorm (x : Vec Ideal S8192x2816 .bf16) (w : Vec Ideal S1x2816x1024 .bf16) (r : Vec Ideal S8192x1024 .f32) (g : Vec Ideal S1x1x1024 .f32)
    (a : Fin 8192) (b : Fin 1024) :
    Cert.DownProjRefIdeal.Read.val_main_v19 (F := Ideal) x w r g (ix2 a b)
      = Mixer.rowNorm (fun k => Cert.DownProjRefIdeal.Read.val_main_v4 (F := Ideal) x w r (ix2 a k)) (g (ix3 0 0 b)) b := by
  pointwise [Cert.DownProjRefIdeal.Read.val_main_v19, Cert.DownProjRefIdeal.Read.val_main_v18, Cert.DownProjRefIdeal.Read.val_main_v17, Cert.DownProjRefIdeal.Read.val_main_v16, Cert.DownProjRefIdeal.Read.val_main_v15, Cert.DownProjRefIdeal.Read.val_main_v14, Cert.DownProjRefIdeal.Read.val_main_v13, Cert.DownProjRefIdeal.Read.val_main_v12, Cert.DownProjRefIdeal.Read.val_main_v11, Cert.DownProjRefIdeal.Read.val_main_v10, Cert.DownProjRefIdeal.Read.val_main_v9, Cert.DownProjRefIdeal.Read.val_main_v8, Cert.DownProjRefIdeal.Read.val_main_v7, Cert.DownProjRefIdeal.Read.val_main_v6, Cert.DownProjRefIdeal.Read.val_main_v5, Cert.DownProjRefIdeal.Read.val_main_cst, Cert.DownProjRefIdeal.Read.val_main_cst_0, Cert.DownProjRefIdeal.Read.val_main_cst_1, Mixer.rowNorm]

/-- Where each window's block lies. -/
theorem place (t : Fin cfg0.N) : (win0_0.index t 0 = t.val ∧ win0_0.index t 1 = 0)
    ∧ (win0_1.index t 0 = 0 ∧ win0_1.index t 1 = 0 ∧ win0_1.index t 2 = 0)
    ∧ (win0_2.index t 0 = t.val ∧ win0_2.index t 1 = 0)
    ∧ (win0_3.index t 0 = 0 ∧ win0_3.index t 1 = 0 ∧ win0_3.index t 2 = 0)
    ∧ (win0_4.index t 0 = t.val ∧ win0_4.index t 1 = 0)
    ∧ (win0_5.index t 0 = t.val ∧ win0_5.index t 1 = 0) :=
  (by decide +kernel : ∀ t : Fin grid0.N, (win0_0.index t 0 = t.val ∧ win0_0.index t 1 = 0)
    ∧ (win0_1.index t 0 = 0 ∧ win0_1.index t 1 = 0 ∧ win0_1.index t 2 = 0)
    ∧ (win0_2.index t 0 = t.val ∧ win0_2.index t 1 = 0)
    ∧ (win0_3.index t 0 = 0 ∧ win0_3.index t 1 = 0 ∧ win0_3.index t 2 = 0)
    ∧ (win0_4.index t 0 = t.val ∧ win0_4.index t 1 = 0)
    ∧ (win0_5.index t 0 = t.val ∧ win0_5.index t 1 = 0)) t

/-- The rows. -/
abbrev x : Vec Ideal S8192x2816 .bf16 := m ((c : Thread nD τ).loc main_arg0)

/-- The weights. -/
abbrev w : Vec Ideal S1x2816x1024 .bf16 := m ((c : Thread nD τ).loc main_arg1)

/-- The stream. -/
abbrev stream : Vec Ideal S8192x1024 .f32 := m ((c : Thread nD τ).loc main_arg2)

/-- The gains. -/
abbrev gain : Vec Ideal S1x1x1024 .f32 := m ((c : Thread nD τ).loc main_arg3)

/-- The rows that a point takes. -/
abbrev rows (t : Fin cfg0.N) : Vec Ideal S1024x2816 .bf16 := iblk m c 0 t

/-- The weights that a point takes. -/
abbrev weights (t : Fin cfg0.N) : Vec Ideal S1x2816x1024 .bf16 := iblk m c 1 t

/-- The stream that a point takes. -/
abbrev streamAt (t : Fin cfg0.N) : Vec Ideal S1024x1024 .f32 := iblk m c 2 t

/-- The gains that a point takes. -/
abbrev gainAt (t : Fin cfg0.N) : Vec Ideal S1x1x1024 .f32 := iblk m c 3 t

/-- A point's sums are the reference's in the rows that it takes. -/
theorem total (t : Fin cfg0.N) (a : Fin 1024) (b : Fin 1024) :
    k0_pay1 (F := Ideal) (rows m c t) (weights m c t) (streamAt m c t) (ix2 a b)
      = Cert.DownProjRefIdeal.Read.val_main_v4 (F := Ideal) (x m c) (w m c) (stream m c) (ix2 (⟨t.val * 1024 + a.val, by have h := t.isLt; have e : cfg0.N = 8 := N_0; omega⟩ : Fin 8192) b) := by
  rw [part, reference]
  have e := place t
  have hr : streamAt m c t (ix2 a b) = stream m c (ix2 (⟨t.val * 1024 + a.val, by have h := t.isLt; have e : cfg0.N = 8 := N_0; omega⟩ : Fin 8192) b) := by blk_ext [iblk, V, e]
  rw [hr]
  refine congrArg (_ + ·) (Finset.sum_congr rfl fun k _ => ?_)
  congr 1 <;> blk_ext [iblk, V, e]

/-- The kernel's sums are the reference's. -/
theorem sums : (dats m 0 c).arrAt 4 (cfgs 0).N = Cert.DownProjRefIdeal.Read.val_main_v4 (F := Ideal) (x m c) (w m c) (stream m c) := by
  refine (dats m 0 c).arrAt_eq_of_covers 4 _ (by decide +kernel) fun t hf y => ?_
  have e := place t
  blk_simp [e]
  rw [after0_4]
  obtain ⟨a, b, rfl⟩ : ∃ (a : Fin 1024) (b : Fin 1024), y = ix2 a b :=
    ⟨y 0, y 1, by funext x; fin_cases x <;> rfl⟩
  rw [show (win0_4.blk t).view.emb (ix2 a b) = ix2 (⟨t.val * 1024 + a.val, by have h := t.isLt; have e : cfg0.grid.N = 8 := N_0; omega⟩ : Fin 8192) b by
    funext x; apply Fin.ext; fin_cases x <;> blk_simp [e] <;> rfl]
  frame_out
  exact total m c t a b

/-- The kernel's normalised rows are the reference's. -/
theorem norms : (dats m 0 c).arrAt 5 (cfgs 0).N = Cert.DownProjRefIdeal.Read.val_main_v19 (F := Ideal) (x m c) (w m c) (stream m c) (gain m c) := by
  refine (dats m 0 c).arrAt_eq_of_covers 5 _ (by decide +kernel) fun t hf y => ?_
  have e := place t
  blk_simp [e]
  rw [after0_5]
  obtain ⟨a, b, rfl⟩ : ∃ (a : Fin 1024) (b : Fin 1024), y = ix2 a b :=
    ⟨y 0, y 1, by funext x; fin_cases x <;> rfl⟩
  rw [show (win0_5.blk t).view.emb (ix2 a b) = ix2 (⟨t.val * 1024 + a.val, by have h := t.isLt; have e : cfg0.grid.N = 8 := N_0; omega⟩ : Fin 8192) b by
    funext x; apply Fin.ext; fin_cases x <;> blk_simp [e] <;> rfl]
  frame_out
  refine (partNorm (rows m c t) (weights m c t) (streamAt m c t) (gainAt m c t) a b).trans (Eq.trans ?_ (referenceNorm _ _ _ _ _ _).symm)
  have hg : gainAt m c t (ix3 0 0 b) = gain m c (ix3 0 0 b) := by blk_ext [iblk, V, e]
  exact congrArg₂ (Mixer.rowNorm · · b) (funext fun k => total m c t a k) hg

theorem frameBits : @Cert.quiescent_DownProj Cert.DownProj.Gen.facts := fun m g _ => Cert.DownProj.Gen.frame m g
theorem frameIdeal : @Cert.quiescent_DownProjIdeal Cert.DownProjIdeal.Gen.facts := fun m g _ => Cert.DownProjIdeal.Gen.frame m g
theorem frameRef : @Cert.quiescent_DownProjRefIdeal Cert.DownProjRefIdeal.Gen.facts := fun m g _ =>
  (θ_run _ _ _).mono (fun r h => ⟨fun c => (h c).2.2, sem_eq_zero_of_no_sems (by decide) _⟩) (Cert.DownProjRefIdeal.Value.run m g)

theorem algebraic : @Cert.algebraic_DownProjIdeal_DownProjRefIdeal Cert.DownProjIdeal.Gen.facts Cert.DownProjRefIdeal.Gen.facts := by
  pair_intro
  · run_from Cert.DownProjIdeal.Value.run_blocks m g
  · run_from Cert.DownProjRefIdeal.Value.run m' g'
    all_goals obtain ⟨a0, a1, a2, a3⟩ := hagree c
    · refine (Cert.DownProjRefIdeal.Read.val_main_v4_eq (F := Idealize.ShloMosaic.Ideal) _ _ _).trans ?_
      exact (sums m c).symm
    · refine (Cert.DownProjRefIdeal.Read.val_main_v19_eq (F := Idealize.ShloMosaic.Ideal) _ _ _ _).trans ?_
      exact (norms m c).symm

end Cert.DownProjIdeal.Mix
-- ==== Proof.WPle.lean ====
module

public import proofs.«01_k».proof.Defs
public import proofs.«01_k».proof.Proof.Chunks
public import proofs.«01_k».proof.Proof.Gen.WPle.Frame
public import proofs.«01_k».proof.Proof.Gen.WPleIdeal.Value
public import proofs.«01_k».proof.Proof.Gen.WPleRefIdeal.Run
public import proofs.«01_k».proof.Proof.Gen.WPleRefIdeal.Read
public import Idealize.ShloMosaic.Lib.Pipeline.ValueKit
public import Idealize.ShloMosaic.Lib.Quiescent
public import Idealize.ShloMosaic.Lib.Claim

/-!
The gradient of the weights that project a layer's embeddings: the product of that layer's rows, transposed, by the
incoming gradient.
-/

@[expose] public section

set_option maxRecDepth 16384

noncomputable section

namespace Cert.WPleIdeal.Mix

open Idealize.ShloMosaic Idealize.ShloMosaic.TcCoe Idealize.SL.Sem
open Cert.WPleIdeal Cert.WPleIdeal.Gen

variable (m : (ℓ : Loc nD τ sig) → Buf (Elt Idealize.ShloMosaic.Ideal) ℓ) (c : Dev nD)

/-- A point's products. -/
theorem part (x : Vec Ideal S2048x256 .f32) (y : Vec Ideal S2048x1024 .bf16) (a : Fin 256) (b : Fin 1024) :
    k0_pay1 (F := Ideal) x y (ix2 a b) = ∑ k : Fin 2048, x (ix2 k a) * y (ix2 k b) := by
  pointwise [k0_pay1]

/-- The embeddings that a point takes. -/
abbrev rows (t : Fin cfg0.N) : Vec Ideal S2048x256 .f32 := iblk m c 0 t

/-- The incoming gradient's rows that a point takes. -/
abbrev back (t : Fin cfg0.N) : Vec Ideal S2048x1024 .bf16 := iblk m c 1 t

/-- The sums after the first point of a run. -/
theorem first (t : Fin cfg0.N) (h : t.val % 4 = 0) (a : Fin 256) (b : Fin 1024) :
    (outsAt0 m c t.val t.isLt).2 (ix2 a b) = ∑ k : Fin 2048, rows m c t (ix2 k a) * back m c t (ix2 k b) := by
  have hN : t.val < 4 := lt_of_lt_of_eq t.isLt (show cfg0.N = 4 from N_0)
  rw [outsAt0_A m c t h (by omega) (by omega)]
  frame_out
  pointwise [k0_pay2, part]

/-- The sums after a later point. -/
theorem next (t : Fin cfg0.N) (h : ¬t.val % 4 = 0) (a : Fin 256) (b : Fin 1024) :
    (outsAt0 m c t.val t.isLt).2 (ix2 a b) = (outsAt0 m c (t.val - 1) (Nat.lt_of_le_of_lt (Nat.sub_le _ _) t.isLt)).2 (ix2 a b)
      + ∑ k : Fin 2048, rows m c t (ix2 k a) * back m c t (ix2 k b) := by
  by_cases h3 : t.val % 4 = 3
  · rw [outsAt0_C m c t h (by omega) h3]
    frame_out
    pointwise [k0_pay3, part]
    exact congrArg (· + _) (congrFun ((Memref.isWhole_whole _).read_unread _) _)
  · rw [outsAt0_B m c t h (by omega) h3]
    frame_out
    pointwise [k0_pay3, part]
    exact congrArg (· + _) (congrFun ((Memref.isWhole_whole _).read_unread _) _)

/-- What the last point of a run writes back is its sums. -/
theorem last (t : Fin cfg0.N) (h3 : t.val % 4 = 3) (a : Fin 256) (b : Fin 1024) :
    (outsAt0 m c t.val t.isLt).1 (ix3 0 a b) = (outsAt0 m c t.val t.isLt).2 (ix2 a b) := by
  rw [outsAt0_C m c t (by omega) (by omega) h3]
  frame_out
  pointwise [k0_pay4]

/-- Where each window's block lies. -/
theorem place (t : Fin cfg0.N) : (win0_0.index t 0 = t.val % 4 + 4 ∧ win0_0.index t 1 = 0)
    ∧ (win0_1.index t 0 = t.val % 4 ∧ win0_1.index t 1 = 0)
    ∧ (win0_2.index t 0 = 0 ∧ win0_2.index t 1 = 0 ∧ win0_2.index t 2 = 0) :=
  (by decide +kernel : ∀ t : Fin grid0.N, (win0_0.index t 0 = t.val % 4 + 4 ∧ win0_0.index t 1 = 0)
    ∧ (win0_1.index t 0 = t.val % 4 ∧ win0_1.index t 1 = 0)
    ∧ (win0_2.index t 0 = 0 ∧ win0_2.index t 1 = 0 ∧ win0_2.index t 2 = 0)) t

/-- The embeddings. -/
abbrev h : Vec Ideal S16384x256 .f32 := m ((c : Thread nD τ).loc main_arg0)

/-- The incoming gradient. -/
abbrev dy : Vec Ideal S8192x1024 .bf16 := m ((c : Thread nD τ).loc main_arg1)

/-- The sums at the last point of a run. -/
theorem total (t : Fin cfg0.N) (h3 : t.val % 4 = 3) (a : Fin 256) (b : Fin 1024) :
    (outsAt0 m c t.val t.isLt).2 (ix2 a b)
      = ∑ l : Fin 8192, h m c (ix2 (⟨8192 + l.val, by omega⟩ : Fin 16384) a) * dy m c (ix2 l b) := by
  refine Mixer.chunks_total (fun n h a b => (outsAt0 m c n h).2 (ix2 a b)) 4 2048
    (fun t k a b => rows m c t (ix2 k a) * back m c t (ix2 k b)) (first m c) (next m c) t h3 a b _ rfl
    fun s k h h' => ?_
  have e := place ⟨4 * (t.val / 4) + s.val, h⟩
  have hs := s.isLt
  congr 1 <;> blk_ext [iblk, V, e]

/-- The reference's product. -/
theorem reference (x0 : Vec Ideal S16384x256 .f32) (x1 : Vec Ideal S8192x1024 .bf16) (a : Fin 256) (e : Fin 1024) :
    Cert.WPleRefIdeal.Read.val_main_v7 (F := Ideal) x0 x1 (ix3 0 a e) = ∑ l : Fin 8192, x0 (ix2 (⟨8192 + l.val, by omega⟩ : Fin 16384) a) * x1 (ix2 l e) := by
  pointwise [Cert.WPleRefIdeal.Read.val_main_v7, Cert.WPleRefIdeal.Read.val_main_v6, Cert.WPleRefIdeal.Read.val_main_v5, Cert.WPleRefIdeal.Read.val_main_v4, Cert.WPleRefIdeal.Read.val_main_v3, Cert.WPleRefIdeal.Read.val_main_v0]
  refine Finset.sum_congr rfl fun l _ => ?_
  rw [mul_comm]

/-- The kernel's array is the reference's. -/
theorem result : (dats m 0 c).arrAt 2 (cfgs 0).N = Cert.WPleRefIdeal.Read.val_main_v7 (F := Ideal) (h m c) (dy m c) := by
  refine (dats m 0 c).arrAt_eq_of_covers 2 _ (by decide +kernel) fun t hf y => ?_
  have h3 : t.val % 4 = 3 := (flush0_2 t).mp hf
  have e := place t
  blk_simp [e]
  rw [after0_2]
  obtain ⟨a, b, rfl⟩ : ∃ (a : Fin 256) (b : Fin 1024), y = ix3 (0 : Fin 1) a b :=
    ⟨y 1, y 2, by funext x; fin_cases x <;> first | rfl | exact Fin.ext (Nat.lt_one_iff.mp (y 0).isLt)⟩
  refine (last m c t h3 a b).trans ((total m c t h3 a b).trans ?_)
  rw [show (win0_2.blk t).view.emb (ix3 (0 : Fin 1) a b) = ix3 (0 : Fin 1) a b by
    funext x; apply Fin.ext; fin_cases x <;> blk_simp [e] <;> rfl]
  exact (reference _ _ _ _).symm

theorem frameBits : @Cert.quiescent_WPle Cert.WPle.Gen.facts := fun m g _ => Cert.WPle.Gen.frame m g
theorem frameIdeal : @Cert.quiescent_WPleIdeal Cert.WPleIdeal.Gen.facts := fun m g _ => Cert.WPleIdeal.Gen.frame m g
theorem frameRef : @Cert.quiescent_WPleRefIdeal Cert.WPleRefIdeal.Gen.facts := fun m g _ =>
  (θ_run _ _ _).mono (fun r h => ⟨fun c => (h c).2, sem_eq_zero_of_no_sems (by decide) _⟩) (Cert.WPleRefIdeal.Value.run m g)

theorem algebraic : @Cert.algebraic_WPleIdeal_WPleRefIdeal Cert.WPleIdeal.Gen.facts Cert.WPleRefIdeal.Gen.facts := by
  pair_intro
  · run_from Cert.WPleIdeal.Value.run_blocks m g
  · run_from Cert.WPleRefIdeal.Value.run m' g'
    obtain ⟨a0, a1⟩ := hagree c
    refine (Cert.WPleRefIdeal.Read.val_main_v7_eq _ _).trans ?_
    exact (result m c).symm

end Cert.WPleIdeal.Mix
-- ==== Proof.AdamStep.lean ====
module

public import Idealize.ShloMosaic.Lib.Pipeline.ValueKit

/-!
The optimiser's step on one entry of a weight, as the kernel writes it: the two running averages, then the change of the
weight.
-/

@[expose] public section

noncomputable section

namespace Mixer.Adam

open Idealize.ShloMosaic

/-- The running average of the gradient. -/
def mean (g m : Ideal .f32) : Ideal .f32 :=
  FloatOps.addf (FloatOps.mulf (FloatOps.ofBits .f32 0x3F666666#32) m) (FloatOps.mulf (FloatOps.ofBits .f32 0x3DCCCCCD#32) g)

/-- The running average of the gradient's square. -/
def square (g v : Ideal .f32) : Ideal .f32 :=
  FloatOps.addf (FloatOps.mulf (FloatOps.ofBits .f32 0x3F7FBE77#32) v) (FloatOps.mulf (FloatOps.ofBits .f32 0x3A83126F#32) (FloatOps.mulf g g))

/-- The change of the weight. -/
def change (w g m v : Ideal .f32) : Ideal .f32 :=
  FloatOps.mulf (FloatOps.ofBits .f32 0xBA83126F#32)
    (FloatOps.addf
      (FloatOps.divf (FloatOps.divf (mean g m) (FloatOps.ofBits .f32 0x3F26BD02#32))
        (FloatOps.addf (FloatOps.sqrt (FloatOps.divf (square g v) (FloatOps.ofBits .f32 0x3C231ACC#32))) (FloatOps.ofBits .f32 0x322BCC77#32)))
      (FloatOps.mulf (FloatOps.ofBits .f32 0x3C23D70A#32) w))

end Mixer.Adam
-- ==== Proof.AdamIn.lean ====
module

public import proofs.«01_k».proof.Defs
public import proofs.«01_k».proof.Proof.AdamStep
public import proofs.«01_k».proof.Proof.Gen.AdamIn.Frame
public import proofs.«01_k».proof.Proof.Gen.AdamInIdeal.Value
public import proofs.«01_k».proof.Proof.Gen.AdamInRefIdeal.Run
public import proofs.«01_k».proof.Proof.Gen.AdamInRefIdeal.Read
public import Idealize.ShloMosaic.Lib.Pipeline.ValueKit
public import Idealize.ShloMosaic.Lib.Quiescent
public import Idealize.ShloMosaic.Lib.Claim

/-!
The optimiser's step for the weights into the two branches.
-/

@[expose] public section

set_option maxRecDepth 16384

noncomputable section

namespace Cert.AdamInIdeal.Mix

open Idealize.ShloMosaic Idealize.ShloMosaic.TcCoe Idealize.SL.Sem
open Cert.AdamInIdeal Cert.AdamInIdeal.Gen

variable (m : (ℓ : Loc nD τ sig) → Buf (Elt Idealize.ShloMosaic.Ideal) ℓ) (c : Dev nD)

/-- Where each window's block lies. -/
theorem place (t : Fin cfg0.N) : (win0_0.index t 0 = t.val ∧ win0_0.index t 1 = 0)
    ∧ (win0_1.index t 0 = t.val ∧ win0_1.index t 1 = 0)
    ∧ (win0_2.index t 0 = t.val ∧ win0_2.index t 1 = 0)
    ∧ (win0_3.index t 0 = t.val ∧ win0_3.index t 1 = 0)
    ∧ (win0_4.index t 0 = t.val ∧ win0_4.index t 1 = 0)
    ∧ (win0_5.index t 0 = t.val ∧ win0_5.index t 1 = 0)
    ∧ (win0_6.index t 0 = t.val ∧ win0_6.index t 1 = 0)
    ∧ (win0_7.index t 0 = t.val ∧ win0_7.index t 1 = 0) :=
  (by decide +kernel : ∀ t : Fin grid0.N, (win0_0.index t 0 = t.val ∧ win0_0.index t 1 = 0)
    ∧ (win0_1.index t 0 = t.val ∧ win0_1.index t 1 = 0)
    ∧ (win0_2.index t 0 = t.val ∧ win0_2.index t 1 = 0)
    ∧ (win0_3.index t 0 = t.val ∧ win0_3.index t 1 = 0)
    ∧ (win0_4.index t 0 = t.val ∧ win0_4.index t 1 = 0)
    ∧ (win0_5.index t 0 = t.val ∧ win0_5.index t 1 = 0)
    ∧ (win0_6.index t 0 = t.val ∧ win0_6.index t 1 = 0)
    ∧ (win0_7.index t 0 = t.val ∧ win0_7.index t 1 = 0)) t

/-- The weights. -/
abbrev w : Vec Ideal S2048x1280 .f32 := m ((c : Thread nD τ).loc main_arg0)

/-- The gradient. -/
abbrev dw : Vec Ideal S2048x1280 .f32 := m ((c : Thread nD τ).loc main_arg1)

/-- The running average of the gradient. -/
abbrev mean : Vec Ideal S2048x1280 .f32 := m ((c : Thread nD τ).loc main_arg2)

/-- The running average of its square. -/
abbrev square : Vec Ideal S2048x1280 .f32 := m ((c : Thread nD τ).loc main_arg3)

/-- The weights, as a point takes it. -/
abbrev wAt (t : Fin cfg0.N) : Vec Ideal S256x1280 .f32 := iblk m c 0 t

/-- The gradient, as a point takes it. -/
abbrev dwAt (t : Fin cfg0.N) : Vec Ideal S256x1280 .f32 := iblk m c 1 t

/-- The running average of the gradient, as a point takes it. -/
abbrev meanAt (t : Fin cfg0.N) : Vec Ideal S256x1280 .f32 := iblk m c 2 t

/-- The running average of its square, as a point takes it. -/
abbrev squareAt (t : Fin cfg0.N) : Vec Ideal S256x1280 .f32 := iblk m c 3 t

/-- The change of the weights. -/
theorem change : (dats m 0 c).arrAt 4 (cfgs 0).N = Cert.AdamInRefIdeal.Read.val_main_v23 (F := Ideal) (w m c) (dw m c) (mean m c) (square m c) := by
  refine (dats m 0 c).arrAt_eq_of_covers 4 _ (by decide +kernel) fun t hf y => ?_
  have e := place t
  have hw : wAt m c t y = w m c ((win0_4.blk t).view.emb y) := by blk_ext [iblk, V, e]
  have hdw : dwAt m c t y = dw m c ((win0_4.blk t).view.emb y) := by blk_ext [iblk, V, e]
  have hmean : meanAt m c t y = mean m c ((win0_4.blk t).view.emb y) := by blk_ext [iblk, V, e]
  have hsquare : squareAt m c t y = square m c ((win0_4.blk t).view.emb y) := by blk_ext [iblk, V, e]
  have hp : k0_pay3 (F := Ideal) (wAt m c t) (dwAt m c t) (meanAt m c t) (squareAt m c t) y = Mixer.Adam.change (wAt m c t y) (dwAt m c t y) (meanAt m c t y) (squareAt m c t y) := rfl
  have hr : Mixer.Adam.change (w m c ((win0_4.blk t).view.emb y)) (dw m c ((win0_4.blk t).view.emb y)) (mean m c ((win0_4.blk t).view.emb y)) (square m c ((win0_4.blk t).view.emb y)) = Cert.AdamInRefIdeal.Read.val_main_v23 (F := Ideal) (w m c) (dw m c) (mean m c) (square m c) ((win0_4.blk t).view.emb y) := rfl
  rw [hw, hdw, hmean, hsquare] at hp
  blk_simp [e]
  rw [after0_4]
  frame_out
  exact hp.trans hr

/-- The new average of the gradient. -/
theorem newMean : (dats m 0 c).arrAt 5 (cfgs 0).N = Cert.AdamInRefIdeal.Read.val_main_v4 (F := Ideal) (dw m c) (mean m c) := by
  refine (dats m 0 c).arrAt_eq_of_covers 5 _ (by decide +kernel) fun t hf y => ?_
  have e := place t
  have hdw : dwAt m c t y = dw m c ((win0_5.blk t).view.emb y) := by blk_ext [iblk, V, e]
  have hmean : meanAt m c t y = mean m c ((win0_5.blk t).view.emb y) := by blk_ext [iblk, V, e]
  have hp : k0_pay1 (F := Ideal) (dwAt m c t) (meanAt m c t) y = Mixer.Adam.mean (dwAt m c t y) (meanAt m c t y) := rfl
  have hr : Mixer.Adam.mean (dw m c ((win0_5.blk t).view.emb y)) (mean m c ((win0_5.blk t).view.emb y)) = Cert.AdamInRefIdeal.Read.val_main_v4 (F := Ideal) (dw m c) (mean m c) ((win0_5.blk t).view.emb y) := rfl
  rw [hdw, hmean] at hp
  blk_simp [e]
  rw [after0_5]
  frame_out
  exact hp.trans hr

/-- The new average of the gradient's square. -/
theorem newSquare : (dats m 0 c).arrAt 6 (cfgs 0).N = Cert.AdamInRefIdeal.Read.val_main_v10 (F := Ideal) (dw m c) (square m c) := by
  refine (dats m 0 c).arrAt_eq_of_covers 6 _ (by decide +kernel) fun t hf y => ?_
  have e := place t
  have hdw : dwAt m c t y = dw m c ((win0_6.blk t).view.emb y) := by blk_ext [iblk, V, e]
  have hsquare : squareAt m c t y = square m c ((win0_6.blk t).view.emb y) := by blk_ext [iblk, V, e]
  have hp : k0_pay2 (F := Ideal) (dwAt m c t) (squareAt m c t) y = Mixer.Adam.square (dwAt m c t y) (squareAt m c t y) := rfl
  have hr : Mixer.Adam.square (dw m c ((win0_6.blk t).view.emb y)) (square m c ((win0_6.blk t).view.emb y)) = Cert.AdamInRefIdeal.Read.val_main_v10 (F := Ideal) (dw m c) (square m c) ((win0_6.blk t).view.emb y) := rfl
  rw [hdw, hsquare] at hp
  blk_simp [e]
  rw [after0_6]
  frame_out
  exact hp.trans hr

/-- The gradient, handed on. -/
theorem kept : (dats m 0 c).arrAt 7 (cfgs 0).N = dw m c := by
  refine (dats m 0 c).arrAt_eq_of_covers 7 _ (by decide +kernel) fun t hf y => ?_
  have e := place t
  have hdw : dwAt m c t y = dw m c ((win0_7.blk t).view.emb y) := by blk_ext [iblk, V, e]
  blk_simp [e]
  rw [after0_7]
  frame_out
  exact hdw

theorem frameBits : @Cert.quiescent_AdamIn Cert.AdamIn.Gen.facts := fun m g _ => Cert.AdamIn.Gen.frame m g
theorem frameIdeal : @Cert.quiescent_AdamInIdeal Cert.AdamInIdeal.Gen.facts := fun m g _ => Cert.AdamInIdeal.Gen.frame m g
theorem frameRef : @Cert.quiescent_AdamInRefIdeal Cert.AdamInRefIdeal.Gen.facts := fun m g _ =>
  (θ_run _ _ _).mono (fun r h => ⟨fun c => (h c).2.2.2.2, sem_eq_zero_of_no_sems (by decide) _⟩) (Cert.AdamInRefIdeal.Value.run m g)

theorem algebraic : @Cert.algebraic_AdamInIdeal_AdamInRefIdeal Cert.AdamInIdeal.Gen.facts Cert.AdamInRefIdeal.Gen.facts := by
  pair_intro
  · run_from Cert.AdamInIdeal.Value.run_blocks m g
  · run_from Cert.AdamInRefIdeal.Value.run m' g'
    all_goals obtain ⟨a0, a1, a2, a3⟩ := hagree c
    · exact (Cert.AdamInRefIdeal.Read.val_main_v23_eq (F := Idealize.ShloMosaic.Ideal) _ _ _ _).trans (change m c).symm
    · exact (Cert.AdamInRefIdeal.Read.val_main_v4_eq (F := Idealize.ShloMosaic.Ideal) _ _).trans (newMean m c).symm
    · exact (Cert.AdamInRefIdeal.Read.val_main_v10_eq (F := Idealize.ShloMosaic.Ideal) _ _).trans (newSquare m c).symm
    · exact (kept m c).symm

end Cert.AdamInIdeal.Mix
-- ==== Proof.AdamPool.lean ====
module

public import proofs.«01_k».proof.Defs
public import proofs.«01_k».proof.Proof.AdamStep
public import proofs.«01_k».proof.Proof.Gen.AdamPool.Frame
public import proofs.«01_k».proof.Proof.Gen.AdamPoolIdeal.Value
public import proofs.«01_k».proof.Proof.Gen.AdamPoolRefIdeal.Run
public import proofs.«01_k».proof.Proof.Gen.AdamPoolRefIdeal.Read
public import Idealize.ShloMosaic.Lib.Pipeline.ValueKit
public import Idealize.ShloMosaic.Lib.Quiescent
public import Idealize.ShloMosaic.Lib.Claim

/-!
The optimiser's step for the pooling weights and for those that project the embeddings.
-/

@[expose] public section

set_option maxRecDepth 16384

noncomputable section

namespace Cert.AdamPoolIdeal.Mix

open Idealize.ShloMosaic Idealize.ShloMosaic.TcCoe Idealize.SL.Sem
open Cert.AdamPoolIdeal Cert.AdamPoolIdeal.Gen

variable (m : (ℓ : Loc nD τ sig) → Buf (Elt Idealize.ShloMosaic.Ideal) ℓ) (c : Dev nD)

/-- Where each window's block lies. -/
theorem place (t : Fin cfg0.N) : (win0_0.index t 0 = 0 ∧ win0_0.index t 1 = 0)
    ∧ (win0_1.index t 0 = 0 ∧ win0_1.index t 1 = 0)
    ∧ (win0_2.index t 0 = 0 ∧ win0_2.index t 1 = 0)
    ∧ (win0_3.index t 0 = 0 ∧ win0_3.index t 1 = 0)
    ∧ (win0_4.index t 0 = 0 ∧ win0_4.index t 1 = 0)
    ∧ (win0_5.index t 0 = 0 ∧ win0_5.index t 1 = 0)
    ∧ (win0_6.index t 0 = 0 ∧ win0_6.index t 1 = 0)
    ∧ (win0_7.index t 0 = 0 ∧ win0_7.index t 1 = 0) :=
  (by decide +kernel : ∀ t : Fin grid0.N, (win0_0.index t 0 = 0 ∧ win0_0.index t 1 = 0)
    ∧ (win0_1.index t 0 = 0 ∧ win0_1.index t 1 = 0)
    ∧ (win0_2.index t 0 = 0 ∧ win0_2.index t 1 = 0)
    ∧ (win0_3.index t 0 = 0 ∧ win0_3.index t 1 = 0)
    ∧ (win0_4.index t 0 = 0 ∧ win0_4.index t 1 = 0)
    ∧ (win0_5.index t 0 = 0 ∧ win0_5.index t 1 = 0)
    ∧ (win0_6.index t 0 = 0 ∧ win0_6.index t 1 = 0)
    ∧ (win0_7.index t 0 = 0 ∧ win0_7.index t 1 = 0)) t

/-- The weights. -/
abbrev w : Vec Ideal S512x256 .f32 := m ((c : Thread nD τ).loc main_arg0)

/-- The gradient. -/
abbrev dw : Vec Ideal S512x256 .f32 := m ((c : Thread nD τ).loc main_arg1)

/-- The running average of the gradient. -/
abbrev mean : Vec Ideal S512x256 .f32 := m ((c : Thread nD τ).loc main_arg2)

/-- The running average of its square. -/
abbrev square : Vec Ideal S512x256 .f32 := m ((c : Thread nD τ).loc main_arg3)

/-- The weights, as a point takes it. -/
abbrev wAt (t : Fin cfg0.N) : Vec Ideal S512x256 .f32 := iblk m c 0 t

/-- The gradient, as a point takes it. -/
abbrev dwAt (t : Fin cfg0.N) : Vec Ideal S512x256 .f32 := iblk m c 1 t

/-- The running average of the gradient, as a point takes it. -/
abbrev meanAt (t : Fin cfg0.N) : Vec Ideal S512x256 .f32 := iblk m c 2 t

/-- The running average of its square, as a point takes it. -/
abbrev squareAt (t : Fin cfg0.N) : Vec Ideal S512x256 .f32 := iblk m c 3 t

/-- The change of the weights. -/
theorem change : (dats m 0 c).arrAt 4 (cfgs 0).N = Cert.AdamPoolRefIdeal.Read.val_main_v23 (F := Ideal) (w m c) (dw m c) (mean m c) (square m c) := by
  refine (dats m 0 c).arrAt_eq_of_covers 4 _ (by decide +kernel) fun t hf y => ?_
  have e := place t
  have hw : wAt m c t y = w m c ((win0_4.blk t).view.emb y) := by blk_ext [iblk, V, e]
  have hdw : dwAt m c t y = dw m c ((win0_4.blk t).view.emb y) := by blk_ext [iblk, V, e]
  have hmean : meanAt m c t y = mean m c ((win0_4.blk t).view.emb y) := by blk_ext [iblk, V, e]
  have hsquare : squareAt m c t y = square m c ((win0_4.blk t).view.emb y) := by blk_ext [iblk, V, e]
  have hp : k0_pay3 (F := Ideal) (wAt m c t) (dwAt m c t) (meanAt m c t) (squareAt m c t) y = Mixer.Adam.change (wAt m c t y) (dwAt m c t y) (meanAt m c t y) (squareAt m c t y) := rfl
  have hr : Mixer.Adam.change (w m c ((win0_4.blk t).view.emb y)) (dw m c ((win0_4.blk t).view.emb y)) (mean m c ((win0_4.blk t).view.emb y)) (square m c ((win0_4.blk t).view.emb y)) = Cert.AdamPoolRefIdeal.Read.val_main_v23 (F := Ideal) (w m c) (dw m c) (mean m c) (square m c) ((win0_4.blk t).view.emb y) := rfl
  rw [hw, hdw, hmean, hsquare] at hp
  blk_simp [e]
  rw [after0_4]
  frame_out
  exact hp.trans hr

/-- The new average of the gradient. -/
theorem newMean : (dats m 0 c).arrAt 5 (cfgs 0).N = Cert.AdamPoolRefIdeal.Read.val_main_v4 (F := Ideal) (dw m c) (mean m c) := by
  refine (dats m 0 c).arrAt_eq_of_covers 5 _ (by decide +kernel) fun t hf y => ?_
  have e := place t
  have hdw : dwAt m c t y = dw m c ((win0_5.blk t).view.emb y) := by blk_ext [iblk, V, e]
  have hmean : meanAt m c t y = mean m c ((win0_5.blk t).view.emb y) := by blk_ext [iblk, V, e]
  have hp : k0_pay1 (F := Ideal) (dwAt m c t) (meanAt m c t) y = Mixer.Adam.mean (dwAt m c t y) (meanAt m c t y) := rfl
  have hr : Mixer.Adam.mean (dw m c ((win0_5.blk t).view.emb y)) (mean m c ((win0_5.blk t).view.emb y)) = Cert.AdamPoolRefIdeal.Read.val_main_v4 (F := Ideal) (dw m c) (mean m c) ((win0_5.blk t).view.emb y) := rfl
  rw [hdw, hmean] at hp
  blk_simp [e]
  rw [after0_5]
  frame_out
  exact hp.trans hr

/-- The new average of the gradient's square. -/
theorem newSquare : (dats m 0 c).arrAt 6 (cfgs 0).N = Cert.AdamPoolRefIdeal.Read.val_main_v10 (F := Ideal) (dw m c) (square m c) := by
  refine (dats m 0 c).arrAt_eq_of_covers 6 _ (by decide +kernel) fun t hf y => ?_
  have e := place t
  have hdw : dwAt m c t y = dw m c ((win0_6.blk t).view.emb y) := by blk_ext [iblk, V, e]
  have hsquare : squareAt m c t y = square m c ((win0_6.blk t).view.emb y) := by blk_ext [iblk, V, e]
  have hp : k0_pay2 (F := Ideal) (dwAt m c t) (squareAt m c t) y = Mixer.Adam.square (dwAt m c t y) (squareAt m c t y) := rfl
  have hr : Mixer.Adam.square (dw m c ((win0_6.blk t).view.emb y)) (square m c ((win0_6.blk t).view.emb y)) = Cert.AdamPoolRefIdeal.Read.val_main_v10 (F := Ideal) (dw m c) (square m c) ((win0_6.blk t).view.emb y) := rfl
  rw [hdw, hsquare] at hp
  blk_simp [e]
  rw [after0_6]
  frame_out
  exact hp.trans hr

/-- The gradient, handed on. -/
theorem kept : (dats m 0 c).arrAt 7 (cfgs 0).N = dw m c := by
  refine (dats m 0 c).arrAt_eq_of_covers 7 _ (by decide +kernel) fun t hf y => ?_
  have e := place t
  have hdw : dwAt m c t y = dw m c ((win0_7.blk t).view.emb y) := by blk_ext [iblk, V, e]
  blk_simp [e]
  rw [after0_7]
  frame_out
  exact hdw

theorem frameBits : @Cert.quiescent_AdamPool Cert.AdamPool.Gen.facts := fun m g _ => Cert.AdamPool.Gen.frame m g
theorem frameIdeal : @Cert.quiescent_AdamPoolIdeal Cert.AdamPoolIdeal.Gen.facts := fun m g _ => Cert.AdamPoolIdeal.Gen.frame m g
theorem frameRef : @Cert.quiescent_AdamPoolRefIdeal Cert.AdamPoolRefIdeal.Gen.facts := fun m g _ =>
  (θ_run _ _ _).mono (fun r h => ⟨fun c => (h c).2.2.2.2, sem_eq_zero_of_no_sems (by decide) _⟩) (Cert.AdamPoolRefIdeal.Value.run m g)

theorem algebraic : @Cert.algebraic_AdamPoolIdeal_AdamPoolRefIdeal Cert.AdamPoolIdeal.Gen.facts Cert.AdamPoolRefIdeal.Gen.facts := by
  pair_intro
  · run_from Cert.AdamPoolIdeal.Value.run_blocks m g
  · run_from Cert.AdamPoolRefIdeal.Value.run m' g'
    all_goals obtain ⟨a0, a1, a2, a3⟩ := hagree c
    · exact (Cert.AdamPoolRefIdeal.Read.val_main_v23_eq (F := Idealize.ShloMosaic.Ideal) _ _ _ _).trans (change m c).symm
    · exact (Cert.AdamPoolRefIdeal.Read.val_main_v4_eq (F := Idealize.ShloMosaic.Ideal) _ _).trans (newMean m c).symm
    · exact (Cert.AdamPoolRefIdeal.Read.val_main_v10_eq (F := Idealize.ShloMosaic.Ideal) _ _).trans (newSquare m c).symm
    · exact (kept m c).symm

end Cert.AdamPoolIdeal.Mix
-- ==== Proof.AdamOut.lean ====
module

public import proofs.«01_k».proof.Defs
public import proofs.«01_k».proof.Proof.AdamStep
public import proofs.«01_k».proof.Proof.Gen.AdamOut.Frame
public import proofs.«01_k».proof.Proof.Gen.AdamOutIdeal.Value
public import proofs.«01_k».proof.Proof.Gen.AdamOutRefIdeal.Run
public import proofs.«01_k».proof.Proof.Gen.AdamOutRefIdeal.Read
public import Idealize.ShloMosaic.Lib.Pipeline.ValueKit
public import Idealize.ShloMosaic.Lib.Quiescent
public import Idealize.ShloMosaic.Lib.Claim

/-!
The optimiser's step for the four square matrices of a layer.
-/

@[expose] public section

set_option maxRecDepth 16384

noncomputable section

namespace Cert.AdamOutIdeal.Mix

open Idealize.ShloMosaic Idealize.ShloMosaic.TcCoe Idealize.SL.Sem
open Cert.AdamOutIdeal Cert.AdamOutIdeal.Gen

variable (m : (ℓ : Loc nD τ sig) → Buf (Elt Idealize.ShloMosaic.Ideal) ℓ) (c : Dev nD)

/-- Where each window's block lies. -/
theorem place (t : Fin cfg0.N) : (win0_0.index t 0 = 0 ∧ win0_0.index t 1 = 0)
    ∧ (win0_1.index t 0 = 0 ∧ win0_1.index t 1 = 0)
    ∧ (win0_2.index t 0 = 0 ∧ win0_2.index t 1 = 0)
    ∧ (win0_3.index t 0 = 0 ∧ win0_3.index t 1 = 0)
    ∧ (win0_4.index t 0 = 0 ∧ win0_4.index t 1 = 0)
    ∧ (win0_5.index t 0 = 0 ∧ win0_5.index t 1 = 0)
    ∧ (win0_6.index t 0 = 0 ∧ win0_6.index t 1 = 0)
    ∧ (win0_7.index t 0 = 0 ∧ win0_7.index t 1 = 0) :=
  (by decide +kernel : ∀ t : Fin grid0.N, (win0_0.index t 0 = 0 ∧ win0_0.index t 1 = 0)
    ∧ (win0_1.index t 0 = 0 ∧ win0_1.index t 1 = 0)
    ∧ (win0_2.index t 0 = 0 ∧ win0_2.index t 1 = 0)
    ∧ (win0_3.index t 0 = 0 ∧ win0_3.index t 1 = 0)
    ∧ (win0_4.index t 0 = 0 ∧ win0_4.index t 1 = 0)
    ∧ (win0_5.index t 0 = 0 ∧ win0_5.index t 1 = 0)
    ∧ (win0_6.index t 0 = 0 ∧ win0_6.index t 1 = 0)
    ∧ (win0_7.index t 0 = 0 ∧ win0_7.index t 1 = 0)) t

/-- The weights. -/
abbrev w : Vec Ideal S512x1024 .f32 := m ((c : Thread nD τ).loc main_arg0)

/-- The gradient. -/
abbrev dw : Vec Ideal S512x1024 .f32 := m ((c : Thread nD τ).loc main_arg1)

/-- The running average of the gradient. -/
abbrev mean : Vec Ideal S512x1024 .f32 := m ((c : Thread nD τ).loc main_arg2)

/-- The running average of its square. -/
abbrev square : Vec Ideal S512x1024 .f32 := m ((c : Thread nD τ).loc main_arg3)

/-- The weights, as a point takes it. -/
abbrev wAt (t : Fin cfg0.N) : Vec Ideal S512x1024 .f32 := iblk m c 0 t

/-- The gradient, as a point takes it. -/
abbrev dwAt (t : Fin cfg0.N) : Vec Ideal S512x1024 .f32 := iblk m c 1 t

/-- The running average of the gradient, as a point takes it. -/
abbrev meanAt (t : Fin cfg0.N) : Vec Ideal S512x1024 .f32 := iblk m c 2 t

/-- The running average of its square, as a point takes it. -/
abbrev squareAt (t : Fin cfg0.N) : Vec Ideal S512x1024 .f32 := iblk m c 3 t

/-- The change of the weights. -/
theorem change : (dats m 0 c).arrAt 4 (cfgs 0).N = Cert.AdamOutRefIdeal.Read.val_main_v23 (F := Ideal) (w m c) (dw m c) (mean m c) (square m c) := by
  refine (dats m 0 c).arrAt_eq_of_covers 4 _ (by decide +kernel) fun t hf y => ?_
  have e := place t
  have hw : wAt m c t y = w m c ((win0_4.blk t).view.emb y) := by blk_ext [iblk, V, e]
  have hdw : dwAt m c t y = dw m c ((win0_4.blk t).view.emb y) := by blk_ext [iblk, V, e]
  have hmean : meanAt m c t y = mean m c ((win0_4.blk t).view.emb y) := by blk_ext [iblk, V, e]
  have hsquare : squareAt m c t y = square m c ((win0_4.blk t).view.emb y) := by blk_ext [iblk, V, e]
  have hp : k0_pay3 (F := Ideal) (wAt m c t) (dwAt m c t) (meanAt m c t) (squareAt m c t) y = Mixer.Adam.change (wAt m c t y) (dwAt m c t y) (meanAt m c t y) (squareAt m c t y) := rfl
  have hr : Mixer.Adam.change (w m c ((win0_4.blk t).view.emb y)) (dw m c ((win0_4.blk t).view.emb y)) (mean m c ((win0_4.blk t).view.emb y)) (square m c ((win0_4.blk t).view.emb y)) = Cert.AdamOutRefIdeal.Read.val_main_v23 (F := Ideal) (w m c) (dw m c) (mean m c) (square m c) ((win0_4.blk t).view.emb y) := rfl
  rw [hw, hdw, hmean, hsquare] at hp
  blk_simp [e]
  rw [after0_4]
  frame_out
  exact hp.trans hr

/-- The new average of the gradient. -/
theorem newMean : (dats m 0 c).arrAt 5 (cfgs 0).N = Cert.AdamOutRefIdeal.Read.val_main_v4 (F := Ideal) (dw m c) (mean m c) := by
  refine (dats m 0 c).arrAt_eq_of_covers 5 _ (by decide +kernel) fun t hf y => ?_
  have e := place t
  have hdw : dwAt m c t y = dw m c ((win0_5.blk t).view.emb y) := by blk_ext [iblk, V, e]
  have hmean : meanAt m c t y = mean m c ((win0_5.blk t).view.emb y) := by blk_ext [iblk, V, e]
  have hp : k0_pay1 (F := Ideal) (dwAt m c t) (meanAt m c t) y = Mixer.Adam.mean (dwAt m c t y) (meanAt m c t y) := rfl
  have hr : Mixer.Adam.mean (dw m c ((win0_5.blk t).view.emb y)) (mean m c ((win0_5.blk t).view.emb y)) = Cert.AdamOutRefIdeal.Read.val_main_v4 (F := Ideal) (dw m c) (mean m c) ((win0_5.blk t).view.emb y) := rfl
  rw [hdw, hmean] at hp
  blk_simp [e]
  rw [after0_5]
  frame_out
  exact hp.trans hr

/-- The new average of the gradient's square. -/
theorem newSquare : (dats m 0 c).arrAt 6 (cfgs 0).N = Cert.AdamOutRefIdeal.Read.val_main_v10 (F := Ideal) (dw m c) (square m c) := by
  refine (dats m 0 c).arrAt_eq_of_covers 6 _ (by decide +kernel) fun t hf y => ?_
  have e := place t
  have hdw : dwAt m c t y = dw m c ((win0_6.blk t).view.emb y) := by blk_ext [iblk, V, e]
  have hsquare : squareAt m c t y = square m c ((win0_6.blk t).view.emb y) := by blk_ext [iblk, V, e]
  have hp : k0_pay2 (F := Ideal) (dwAt m c t) (squareAt m c t) y = Mixer.Adam.square (dwAt m c t y) (squareAt m c t y) := rfl
  have hr : Mixer.Adam.square (dw m c ((win0_6.blk t).view.emb y)) (square m c ((win0_6.blk t).view.emb y)) = Cert.AdamOutRefIdeal.Read.val_main_v10 (F := Ideal) (dw m c) (square m c) ((win0_6.blk t).view.emb y) := rfl
  rw [hdw, hsquare] at hp
  blk_simp [e]
  rw [after0_6]
  frame_out
  exact hp.trans hr

/-- The gradient, handed on. -/
theorem kept : (dats m 0 c).arrAt 7 (cfgs 0).N = dw m c := by
  refine (dats m 0 c).arrAt_eq_of_covers 7 _ (by decide +kernel) fun t hf y => ?_
  have e := place t
  have hdw : dwAt m c t y = dw m c ((win0_7.blk t).view.emb y) := by blk_ext [iblk, V, e]
  blk_simp [e]
  rw [after0_7]
  frame_out
  exact hdw

theorem frameBits : @Cert.quiescent_AdamOut Cert.AdamOut.Gen.facts := fun m g _ => Cert.AdamOut.Gen.frame m g
theorem frameIdeal : @Cert.quiescent_AdamOutIdeal Cert.AdamOutIdeal.Gen.facts := fun m g _ => Cert.AdamOutIdeal.Gen.frame m g
theorem frameRef : @Cert.quiescent_AdamOutRefIdeal Cert.AdamOutRefIdeal.Gen.facts := fun m g _ =>
  (θ_run _ _ _).mono (fun r h => ⟨fun c => (h c).2.2.2.2, sem_eq_zero_of_no_sems (by decide) _⟩) (Cert.AdamOutRefIdeal.Value.run m g)

theorem algebraic : @Cert.algebraic_AdamOutIdeal_AdamOutRefIdeal Cert.AdamOutIdeal.Gen.facts Cert.AdamOutRefIdeal.Gen.facts := by
  pair_intro
  · run_from Cert.AdamOutIdeal.Value.run_blocks m g
  · run_from Cert.AdamOutRefIdeal.Value.run m' g'
    all_goals obtain ⟨a0, a1, a2, a3⟩ := hagree c
    · exact (Cert.AdamOutRefIdeal.Read.val_main_v23_eq (F := Idealize.ShloMosaic.Ideal) _ _ _ _).trans (change m c).symm
    · exact (Cert.AdamOutRefIdeal.Read.val_main_v4_eq (F := Idealize.ShloMosaic.Ideal) _ _).trans (newMean m c).symm
    · exact (Cert.AdamOutRefIdeal.Read.val_main_v10_eq (F := Idealize.ShloMosaic.Ideal) _ _).trans (newSquare m c).symm
    · exact (kept m c).symm

end Cert.AdamOutIdeal.Mix
-- ==== Proof.AdamUp.lean ====
module

public import proofs.«01_k».proof.Defs
public import proofs.«01_k».proof.Proof.AdamStep
public import proofs.«01_k».proof.Proof.Gen.AdamUp.Frame
public import proofs.«01_k».proof.Proof.Gen.AdamUpIdeal.Value
public import proofs.«01_k».proof.Proof.Gen.AdamUpRefIdeal.Run
public import proofs.«01_k».proof.Proof.Gen.AdamUpRefIdeal.Read
public import Idealize.ShloMosaic.Lib.Pipeline.ValueKit
public import Idealize.ShloMosaic.Lib.Quiescent
public import Idealize.ShloMosaic.Lib.Claim

/-!
The optimiser's step for the feed-forward block's first weights.
-/

@[expose] public section

set_option maxRecDepth 16384

noncomputable section

namespace Cert.AdamUpIdeal.Mix

open Idealize.ShloMosaic Idealize.ShloMosaic.TcCoe Idealize.SL.Sem
open Cert.AdamUpIdeal Cert.AdamUpIdeal.Gen

variable (m : (ℓ : Loc nD τ sig) → Buf (Elt Idealize.ShloMosaic.Ideal) ℓ) (c : Dev nD)

/-- Where each window's block lies. -/
theorem place (t : Fin cfg0.N) : (win0_0.index t 0 = t.val ∧ win0_0.index t 1 = 0)
    ∧ (win0_1.index t 0 = t.val ∧ win0_1.index t 1 = 0)
    ∧ (win0_2.index t 0 = t.val ∧ win0_2.index t 1 = 0)
    ∧ (win0_3.index t 0 = t.val ∧ win0_3.index t 1 = 0)
    ∧ (win0_4.index t 0 = t.val ∧ win0_4.index t 1 = 0)
    ∧ (win0_5.index t 0 = t.val ∧ win0_5.index t 1 = 0)
    ∧ (win0_6.index t 0 = t.val ∧ win0_6.index t 1 = 0)
    ∧ (win0_7.index t 0 = t.val ∧ win0_7.index t 1 = 0) :=
  (by decide +kernel : ∀ t : Fin grid0.N, (win0_0.index t 0 = t.val ∧ win0_0.index t 1 = 0)
    ∧ (win0_1.index t 0 = t.val ∧ win0_1.index t 1 = 0)
    ∧ (win0_2.index t 0 = t.val ∧ win0_2.index t 1 = 0)
    ∧ (win0_3.index t 0 = t.val ∧ win0_3.index t 1 = 0)
    ∧ (win0_4.index t 0 = t.val ∧ win0_4.index t 1 = 0)
    ∧ (win0_5.index t 0 = t.val ∧ win0_5.index t 1 = 0)
    ∧ (win0_6.index t 0 = t.val ∧ win0_6.index t 1 = 0)
    ∧ (win0_7.index t 0 = t.val ∧ win0_7.index t 1 = 0)) t

/-- The weights. -/
abbrev w : Vec Ideal S2048x1408 .f32 := m ((c : Thread nD τ).loc main_arg0)

/-- The gradient. -/
abbrev dw : Vec Ideal S2048x1408 .f32 := m ((c : Thread nD τ).loc main_arg1)

/-- The running average of the gradient. -/
abbrev mean : Vec Ideal S2048x1408 .f32 := m ((c : Thread nD τ).loc main_arg2)

/-- The running average of its square. -/
abbrev square : Vec Ideal S2048x1408 .f32 := m ((c : Thread nD τ).loc main_arg3)

/-- The weights, as a point takes it. -/
abbrev wAt (t : Fin cfg0.N) : Vec Ideal S256x1408 .f32 := iblk m c 0 t

/-- The gradient, as a point takes it. -/
abbrev dwAt (t : Fin cfg0.N) : Vec Ideal S256x1408 .f32 := iblk m c 1 t

/-- The running average of the gradient, as a point takes it. -/
abbrev meanAt (t : Fin cfg0.N) : Vec Ideal S256x1408 .f32 := iblk m c 2 t

/-- The running average of its square, as a point takes it. -/
abbrev squareAt (t : Fin cfg0.N) : Vec Ideal S256x1408 .f32 := iblk m c 3 t

/-- The change of the weights. -/
theorem change : (dats m 0 c).arrAt 4 (cfgs 0).N = Cert.AdamUpRefIdeal.Read.val_main_v23 (F := Ideal) (w m c) (dw m c) (mean m c) (square m c) := by
  refine (dats m 0 c).arrAt_eq_of_covers 4 _ (by decide +kernel) fun t hf y => ?_
  have e := place t
  have hw : wAt m c t y = w m c ((win0_4.blk t).view.emb y) := by blk_ext [iblk, V, e]
  have hdw : dwAt m c t y = dw m c ((win0_4.blk t).view.emb y) := by blk_ext [iblk, V, e]
  have hmean : meanAt m c t y = mean m c ((win0_4.blk t).view.emb y) := by blk_ext [iblk, V, e]
  have hsquare : squareAt m c t y = square m c ((win0_4.blk t).view.emb y) := by blk_ext [iblk, V, e]
  have hp : k0_pay3 (F := Ideal) (wAt m c t) (dwAt m c t) (meanAt m c t) (squareAt m c t) y = Mixer.Adam.change (wAt m c t y) (dwAt m c t y) (meanAt m c t y) (squareAt m c t y) := rfl
  have hr : Mixer.Adam.change (w m c ((win0_4.blk t).view.emb y)) (dw m c ((win0_4.blk t).view.emb y)) (mean m c ((win0_4.blk t).view.emb y)) (square m c ((win0_4.blk t).view.emb y)) = Cert.AdamUpRefIdeal.Read.val_main_v23 (F := Ideal) (w m c) (dw m c) (mean m c) (square m c) ((win0_4.blk t).view.emb y) := rfl
  rw [hw, hdw, hmean, hsquare] at hp
  blk_simp [e]
  rw [after0_4]
  frame_out
  exact hp.trans hr

/-- The new average of the gradient. -/
theorem newMean : (dats m 0 c).arrAt 5 (cfgs 0).N = Cert.AdamUpRefIdeal.Read.val_main_v4 (F := Ideal) (dw m c) (mean m c) := by
  refine (dats m 0 c).arrAt_eq_of_covers 5 _ (by decide +kernel) fun t hf y => ?_
  have e := place t
  have hdw : dwAt m c t y = dw m c ((win0_5.blk t).view.emb y) := by blk_ext [iblk, V, e]
  have hmean : meanAt m c t y = mean m c ((win0_5.blk t).view.emb y) := by blk_ext [iblk, V, e]
  have hp : k0_pay1 (F := Ideal) (dwAt m c t) (meanAt m c t) y = Mixer.Adam.mean (dwAt m c t y) (meanAt m c t y) := rfl
  have hr : Mixer.Adam.mean (dw m c ((win0_5.blk t).view.emb y)) (mean m c ((win0_5.blk t).view.emb y)) = Cert.AdamUpRefIdeal.Read.val_main_v4 (F := Ideal) (dw m c) (mean m c) ((win0_5.blk t).view.emb y) := rfl
  rw [hdw, hmean] at hp
  blk_simp [e]
  rw [after0_5]
  frame_out
  exact hp.trans hr

/-- The new average of the gradient's square. -/
theorem newSquare : (dats m 0 c).arrAt 6 (cfgs 0).N = Cert.AdamUpRefIdeal.Read.val_main_v10 (F := Ideal) (dw m c) (square m c) := by
  refine (dats m 0 c).arrAt_eq_of_covers 6 _ (by decide +kernel) fun t hf y => ?_
  have e := place t
  have hdw : dwAt m c t y = dw m c ((win0_6.blk t).view.emb y) := by blk_ext [iblk, V, e]
  have hsquare : squareAt m c t y = square m c ((win0_6.blk t).view.emb y) := by blk_ext [iblk, V, e]
  have hp : k0_pay2 (F := Ideal) (dwAt m c t) (squareAt m c t) y = Mixer.Adam.square (dwAt m c t y) (squareAt m c t y) := rfl
  have hr : Mixer.Adam.square (dw m c ((win0_6.blk t).view.emb y)) (square m c ((win0_6.blk t).view.emb y)) = Cert.AdamUpRefIdeal.Read.val_main_v10 (F := Ideal) (dw m c) (square m c) ((win0_6.blk t).view.emb y) := rfl
  rw [hdw, hsquare] at hp
  blk_simp [e]
  rw [after0_6]
  frame_out
  exact hp.trans hr

/-- The gradient, handed on. -/
theorem kept : (dats m 0 c).arrAt 7 (cfgs 0).N = dw m c := by
  refine (dats m 0 c).arrAt_eq_of_covers 7 _ (by decide +kernel) fun t hf y => ?_
  have e := place t
  have hdw : dwAt m c t y = dw m c ((win0_7.blk t).view.emb y) := by blk_ext [iblk, V, e]
  blk_simp [e]
  rw [after0_7]
  frame_out
  exact hdw

theorem frameBits : @Cert.quiescent_AdamUp Cert.AdamUp.Gen.facts := fun m g _ => Cert.AdamUp.Gen.frame m g
theorem frameIdeal : @Cert.quiescent_AdamUpIdeal Cert.AdamUpIdeal.Gen.facts := fun m g _ => Cert.AdamUpIdeal.Gen.frame m g
theorem frameRef : @Cert.quiescent_AdamUpRefIdeal Cert.AdamUpRefIdeal.Gen.facts := fun m g _ =>
  (θ_run _ _ _).mono (fun r h => ⟨fun c => (h c).2.2.2.2, sem_eq_zero_of_no_sems (by decide) _⟩) (Cert.AdamUpRefIdeal.Value.run m g)

theorem algebraic : @Cert.algebraic_AdamUpIdeal_AdamUpRefIdeal Cert.AdamUpIdeal.Gen.facts Cert.AdamUpRefIdeal.Gen.facts := by
  pair_intro
  · run_from Cert.AdamUpIdeal.Value.run_blocks m g
  · run_from Cert.AdamUpRefIdeal.Value.run m' g'
    all_goals obtain ⟨a0, a1, a2, a3⟩ := hagree c
    · exact (Cert.AdamUpRefIdeal.Read.val_main_v23_eq (F := Idealize.ShloMosaic.Ideal) _ _ _ _).trans (change m c).symm
    · exact (Cert.AdamUpRefIdeal.Read.val_main_v4_eq (F := Idealize.ShloMosaic.Ideal) _ _).trans (newMean m c).symm
    · exact (Cert.AdamUpRefIdeal.Read.val_main_v10_eq (F := Idealize.ShloMosaic.Ideal) _ _).trans (newSquare m c).symm
    · exact (kept m c).symm

end Cert.AdamUpIdeal.Mix
-- ==== Proof.AdamDown.lean ====
module

public import proofs.«01_k».proof.Defs
public import proofs.«01_k».proof.Proof.AdamStep
public import proofs.«01_k».proof.Proof.Gen.AdamDown.Frame
public import proofs.«01_k».proof.Proof.Gen.AdamDownIdeal.Value
public import proofs.«01_k».proof.Proof.Gen.AdamDownRefIdeal.Run
public import proofs.«01_k».proof.Proof.Gen.AdamDownRefIdeal.Read
public import Idealize.ShloMosaic.Lib.Pipeline.ValueKit
public import Idealize.ShloMosaic.Lib.Quiescent
public import Idealize.ShloMosaic.Lib.Claim

/-!
The optimiser's step for the feed-forward block's second weights.
-/

@[expose] public section

set_option maxRecDepth 16384

noncomputable section

namespace Cert.AdamDownIdeal.Mix

open Idealize.ShloMosaic Idealize.ShloMosaic.TcCoe Idealize.SL.Sem
open Cert.AdamDownIdeal Cert.AdamDownIdeal.Gen

variable (m : (ℓ : Loc nD τ sig) → Buf (Elt Idealize.ShloMosaic.Ideal) ℓ) (c : Dev nD)

/-- Where each window's block lies. -/
theorem place (t : Fin cfg0.N) : (win0_0.index t 0 = t.val ∧ win0_0.index t 1 = 0)
    ∧ (win0_1.index t 0 = t.val ∧ win0_1.index t 1 = 0)
    ∧ (win0_2.index t 0 = t.val ∧ win0_2.index t 1 = 0)
    ∧ (win0_3.index t 0 = t.val ∧ win0_3.index t 1 = 0)
    ∧ (win0_4.index t 0 = t.val ∧ win0_4.index t 1 = 0)
    ∧ (win0_5.index t 0 = t.val ∧ win0_5.index t 1 = 0)
    ∧ (win0_6.index t 0 = t.val ∧ win0_6.index t 1 = 0)
    ∧ (win0_7.index t 0 = t.val ∧ win0_7.index t 1 = 0) :=
  (by decide +kernel : ∀ t : Fin grid0.N, (win0_0.index t 0 = t.val ∧ win0_0.index t 1 = 0)
    ∧ (win0_1.index t 0 = t.val ∧ win0_1.index t 1 = 0)
    ∧ (win0_2.index t 0 = t.val ∧ win0_2.index t 1 = 0)
    ∧ (win0_3.index t 0 = t.val ∧ win0_3.index t 1 = 0)
    ∧ (win0_4.index t 0 = t.val ∧ win0_4.index t 1 = 0)
    ∧ (win0_5.index t 0 = t.val ∧ win0_5.index t 1 = 0)
    ∧ (win0_6.index t 0 = t.val ∧ win0_6.index t 1 = 0)
    ∧ (win0_7.index t 0 = t.val ∧ win0_7.index t 1 = 0)) t

/-- The weights. -/
abbrev w : Vec Ideal S1408x1024 .f32 := m ((c : Thread nD τ).loc main_arg0)

/-- The gradient. -/
abbrev dw : Vec Ideal S1408x1024 .f32 := m ((c : Thread nD τ).loc main_arg1)

/-- The running average of the gradient. -/
abbrev mean : Vec Ideal S1408x1024 .f32 := m ((c : Thread nD τ).loc main_arg2)

/-- The running average of its square. -/
abbrev square : Vec Ideal S1408x1024 .f32 := m ((c : Thread nD τ).loc main_arg3)

/-- The weights, as a point takes it. -/
abbrev wAt (t : Fin cfg0.N) : Vec Ideal S352x1024 .f32 := iblk m c 0 t

/-- The gradient, as a point takes it. -/
abbrev dwAt (t : Fin cfg0.N) : Vec Ideal S352x1024 .f32 := iblk m c 1 t

/-- The running average of the gradient, as a point takes it. -/
abbrev meanAt (t : Fin cfg0.N) : Vec Ideal S352x1024 .f32 := iblk m c 2 t

/-- The running average of its square, as a point takes it. -/
abbrev squareAt (t : Fin cfg0.N) : Vec Ideal S352x1024 .f32 := iblk m c 3 t

/-- The change of the weights. -/
theorem change : (dats m 0 c).arrAt 4 (cfgs 0).N = Cert.AdamDownRefIdeal.Read.val_main_v23 (F := Ideal) (w m c) (dw m c) (mean m c) (square m c) := by
  refine (dats m 0 c).arrAt_eq_of_covers 4 _ (by decide +kernel) fun t hf y => ?_
  have e := place t
  have hw : wAt m c t y = w m c ((win0_4.blk t).view.emb y) := by blk_ext [iblk, V, e]
  have hdw : dwAt m c t y = dw m c ((win0_4.blk t).view.emb y) := by blk_ext [iblk, V, e]
  have hmean : meanAt m c t y = mean m c ((win0_4.blk t).view.emb y) := by blk_ext [iblk, V, e]
  have hsquare : squareAt m c t y = square m c ((win0_4.blk t).view.emb y) := by blk_ext [iblk, V, e]
  have hp : k0_pay3 (F := Ideal) (wAt m c t) (dwAt m c t) (meanAt m c t) (squareAt m c t) y = Mixer.Adam.change (wAt m c t y) (dwAt m c t y) (meanAt m c t y) (squareAt m c t y) := rfl
  have hr : Mixer.Adam.change (w m c ((win0_4.blk t).view.emb y)) (dw m c ((win0_4.blk t).view.emb y)) (mean m c ((win0_4.blk t).view.emb y)) (square m c ((win0_4.blk t).view.emb y)) = Cert.AdamDownRefIdeal.Read.val_main_v23 (F := Ideal) (w m c) (dw m c) (mean m c) (square m c) ((win0_4.blk t).view.emb y) := rfl
  rw [hw, hdw, hmean, hsquare] at hp
  blk_simp [e]
  rw [after0_4]
  frame_out
  exact hp.trans hr

/-- The new average of the gradient. -/
theorem newMean : (dats m 0 c).arrAt 5 (cfgs 0).N = Cert.AdamDownRefIdeal.Read.val_main_v4 (F := Ideal) (dw m c) (mean m c) := by
  refine (dats m 0 c).arrAt_eq_of_covers 5 _ (by decide +kernel) fun t hf y => ?_
  have e := place t
  have hdw : dwAt m c t y = dw m c ((win0_5.blk t).view.emb y) := by blk_ext [iblk, V, e]
  have hmean : meanAt m c t y = mean m c ((win0_5.blk t).view.emb y) := by blk_ext [iblk, V, e]
  have hp : k0_pay1 (F := Ideal) (dwAt m c t) (meanAt m c t) y = Mixer.Adam.mean (dwAt m c t y) (meanAt m c t y) := rfl
  have hr : Mixer.Adam.mean (dw m c ((win0_5.blk t).view.emb y)) (mean m c ((win0_5.blk t).view.emb y)) = Cert.AdamDownRefIdeal.Read.val_main_v4 (F := Ideal) (dw m c) (mean m c) ((win0_5.blk t).view.emb y) := rfl
  rw [hdw, hmean] at hp
  blk_simp [e]
  rw [after0_5]
  frame_out
  exact hp.trans hr

/-- The new average of the gradient's square. -/
theorem newSquare : (dats m 0 c).arrAt 6 (cfgs 0).N = Cert.AdamDownRefIdeal.Read.val_main_v10 (F := Ideal) (dw m c) (square m c) := by
  refine (dats m 0 c).arrAt_eq_of_covers 6 _ (by decide +kernel) fun t hf y => ?_
  have e := place t
  have hdw : dwAt m c t y = dw m c ((win0_6.blk t).view.emb y) := by blk_ext [iblk, V, e]
  have hsquare : squareAt m c t y = square m c ((win0_6.blk t).view.emb y) := by blk_ext [iblk, V, e]
  have hp : k0_pay2 (F := Ideal) (dwAt m c t) (squareAt m c t) y = Mixer.Adam.square (dwAt m c t y) (squareAt m c t y) := rfl
  have hr : Mixer.Adam.square (dw m c ((win0_6.blk t).view.emb y)) (square m c ((win0_6.blk t).view.emb y)) = Cert.AdamDownRefIdeal.Read.val_main_v10 (F := Ideal) (dw m c) (square m c) ((win0_6.blk t).view.emb y) := rfl
  rw [hdw, hsquare] at hp
  blk_simp [e]
  rw [after0_6]
  frame_out
  exact hp.trans hr

/-- The gradient, handed on. -/
theorem kept : (dats m 0 c).arrAt 7 (cfgs 0).N = dw m c := by
  refine (dats m 0 c).arrAt_eq_of_covers 7 _ (by decide +kernel) fun t hf y => ?_
  have e := place t
  have hdw : dwAt m c t y = dw m c ((win0_7.blk t).view.emb y) := by blk_ext [iblk, V, e]
  blk_simp [e]
  rw [after0_7]
  frame_out
  exact hdw

theorem frameBits : @Cert.quiescent_AdamDown Cert.AdamDown.Gen.facts := fun m g _ => Cert.AdamDown.Gen.frame m g
theorem frameIdeal : @Cert.quiescent_AdamDownIdeal Cert.AdamDownIdeal.Gen.facts := fun m g _ => Cert.AdamDownIdeal.Gen.frame m g
theorem frameRef : @Cert.quiescent_AdamDownRefIdeal Cert.AdamDownRefIdeal.Gen.facts := fun m g _ =>
  (θ_run _ _ _).mono (fun r h => ⟨fun c => (h c).2.2.2.2, sem_eq_zero_of_no_sems (by decide) _⟩) (Cert.AdamDownRefIdeal.Value.run m g)

theorem algebraic : @Cert.algebraic_AdamDownIdeal_AdamDownRefIdeal Cert.AdamDownIdeal.Gen.facts Cert.AdamDownRefIdeal.Gen.facts := by
  pair_intro
  · run_from Cert.AdamDownIdeal.Value.run_blocks m g
  · run_from Cert.AdamDownRefIdeal.Value.run m' g'
    all_goals obtain ⟨a0, a1, a2, a3⟩ := hagree c
    · exact (Cert.AdamDownRefIdeal.Read.val_main_v23_eq (F := Idealize.ShloMosaic.Ideal) _ _ _ _).trans (change m c).symm
    · exact (Cert.AdamDownRefIdeal.Read.val_main_v4_eq (F := Idealize.ShloMosaic.Ideal) _ _).trans (newMean m c).symm
    · exact (Cert.AdamDownRefIdeal.Read.val_main_v10_eq (F := Idealize.ShloMosaic.Ideal) _ _).trans (newSquare m c).symm
    · exact (kept m c).symm

end Cert.AdamDownIdeal.Mix
-- ==== Proof.AdamSmall.lean ====
module

public import proofs.«01_k».proof.Defs
public import proofs.«01_k».proof.Proof.AdamStep
public import proofs.«01_k».proof.Proof.Gen.AdamSmall.Frame
public import proofs.«01_k».proof.Proof.Gen.AdamSmallIdeal.Value
public import proofs.«01_k».proof.Proof.Gen.AdamSmallRefIdeal.Run
public import proofs.«01_k».proof.Proof.Gen.AdamSmallRefIdeal.Read
public import Idealize.ShloMosaic.Lib.Pipeline.ValueKit
public import Idealize.ShloMosaic.Lib.Quiescent
public import Idealize.ShloMosaic.Lib.Claim

/-!
The optimiser's step for the small weights, packed in rows.
-/

@[expose] public section

set_option maxRecDepth 16384

noncomputable section

namespace Cert.AdamSmallIdeal.Mix

open Idealize.ShloMosaic Idealize.ShloMosaic.TcCoe Idealize.SL.Sem
open Cert.AdamSmallIdeal Cert.AdamSmallIdeal.Gen

variable (m : (ℓ : Loc nD τ sig) → Buf (Elt Idealize.ShloMosaic.Ideal) ℓ) (c : Dev nD)

/-- Where each window's block lies. -/
theorem place (t : Fin cfg0.N) : (win0_0.index t 0 = 0 ∧ win0_0.index t 1 = 0)
    ∧ (win0_1.index t 0 = 0 ∧ win0_1.index t 1 = 0)
    ∧ (win0_2.index t 0 = 0 ∧ win0_2.index t 1 = 0)
    ∧ (win0_3.index t 0 = 0 ∧ win0_3.index t 1 = 0)
    ∧ (win0_4.index t 0 = 0 ∧ win0_4.index t 1 = 0)
    ∧ (win0_5.index t 0 = 0 ∧ win0_5.index t 1 = 0)
    ∧ (win0_6.index t 0 = 0 ∧ win0_6.index t 1 = 0) :=
  (by decide +kernel : ∀ t : Fin grid0.N, (win0_0.index t 0 = 0 ∧ win0_0.index t 1 = 0)
    ∧ (win0_1.index t 0 = 0 ∧ win0_1.index t 1 = 0)
    ∧ (win0_2.index t 0 = 0 ∧ win0_2.index t 1 = 0)
    ∧ (win0_3.index t 0 = 0 ∧ win0_3.index t 1 = 0)
    ∧ (win0_4.index t 0 = 0 ∧ win0_4.index t 1 = 0)
    ∧ (win0_5.index t 0 = 0 ∧ win0_5.index t 1 = 0)
    ∧ (win0_6.index t 0 = 0 ∧ win0_6.index t 1 = 0)) t

/-- The weights. -/
abbrev w : Vec Ideal S2312x128 .f32 := m ((c : Thread nD τ).loc main_arg0)

/-- The gradient. -/
abbrev dw : Vec Ideal S2312x128 .f32 := m ((c : Thread nD τ).loc main_arg1)

/-- The running average of the gradient. -/
abbrev mean : Vec Ideal S2312x128 .f32 := m ((c : Thread nD τ).loc main_arg2)

/-- The running average of its square. -/
abbrev square : Vec Ideal S2312x128 .f32 := m ((c : Thread nD τ).loc main_arg3)

/-- The weights, as a point takes it. -/
abbrev wAt (t : Fin cfg0.N) : Vec Ideal S2312x128 .f32 := iblk m c 0 t

/-- The gradient, as a point takes it. -/
abbrev dwAt (t : Fin cfg0.N) : Vec Ideal S2312x128 .f32 := iblk m c 1 t

/-- The running average of the gradient, as a point takes it. -/
abbrev meanAt (t : Fin cfg0.N) : Vec Ideal S2312x128 .f32 := iblk m c 2 t

/-- The running average of its square, as a point takes it. -/
abbrev squareAt (t : Fin cfg0.N) : Vec Ideal S2312x128 .f32 := iblk m c 3 t

/-- The change of the weights. -/
theorem change : (dats m 0 c).arrAt 4 (cfgs 0).N = Cert.AdamSmallRefIdeal.Read.val_main_v23 (F := Ideal) (w m c) (dw m c) (mean m c) (square m c) := by
  refine (dats m 0 c).arrAt_eq_of_covers 4 _ (by decide +kernel) fun t hf y => ?_
  have e := place t
  have hw : wAt m c t y = w m c ((win0_4.blk t).view.emb y) := by blk_ext [iblk, V, e]
  have hdw : dwAt m c t y = dw m c ((win0_4.blk t).view.emb y) := by blk_ext [iblk, V, e]
  have hmean : meanAt m c t y = mean m c ((win0_4.blk t).view.emb y) := by blk_ext [iblk, V, e]
  have hsquare : squareAt m c t y = square m c ((win0_4.blk t).view.emb y) := by blk_ext [iblk, V, e]
  have hp : k0_pay3 (F := Ideal) (wAt m c t) (dwAt m c t) (meanAt m c t) (squareAt m c t) y = Mixer.Adam.change (wAt m c t y) (dwAt m c t y) (meanAt m c t y) (squareAt m c t y) := rfl
  have hr : Mixer.Adam.change (w m c ((win0_4.blk t).view.emb y)) (dw m c ((win0_4.blk t).view.emb y)) (mean m c ((win0_4.blk t).view.emb y)) (square m c ((win0_4.blk t).view.emb y)) = Cert.AdamSmallRefIdeal.Read.val_main_v23 (F := Ideal) (w m c) (dw m c) (mean m c) (square m c) ((win0_4.blk t).view.emb y) := rfl
  rw [hw, hdw, hmean, hsquare] at hp
  blk_simp [e]
  rw [after0_4]
  frame_out
  exact hp.trans hr

/-- The new average of the gradient. -/
theorem newMean : (dats m 0 c).arrAt 5 (cfgs 0).N = Cert.AdamSmallRefIdeal.Read.val_main_v4 (F := Ideal) (dw m c) (mean m c) := by
  refine (dats m 0 c).arrAt_eq_of_covers 5 _ (by decide +kernel) fun t hf y => ?_
  have e := place t
  have hdw : dwAt m c t y = dw m c ((win0_5.blk t).view.emb y) := by blk_ext [iblk, V, e]
  have hmean : meanAt m c t y = mean m c ((win0_5.blk t).view.emb y) := by blk_ext [iblk, V, e]
  have hp : k0_pay1 (F := Ideal) (dwAt m c t) (meanAt m c t) y = Mixer.Adam.mean (dwAt m c t y) (meanAt m c t y) := rfl
  have hr : Mixer.Adam.mean (dw m c ((win0_5.blk t).view.emb y)) (mean m c ((win0_5.blk t).view.emb y)) = Cert.AdamSmallRefIdeal.Read.val_main_v4 (F := Ideal) (dw m c) (mean m c) ((win0_5.blk t).view.emb y) := rfl
  rw [hdw, hmean] at hp
  blk_simp [e]
  rw [after0_5]
  frame_out
  exact hp.trans hr

/-- The new average of the gradient's square. -/
theorem newSquare : (dats m 0 c).arrAt 6 (cfgs 0).N = Cert.AdamSmallRefIdeal.Read.val_main_v10 (F := Ideal) (dw m c) (square m c) := by
  refine (dats m 0 c).arrAt_eq_of_covers 6 _ (by decide +kernel) fun t hf y => ?_
  have e := place t
  have hdw : dwAt m c t y = dw m c ((win0_6.blk t).view.emb y) := by blk_ext [iblk, V, e]
  have hsquare : squareAt m c t y = square m c ((win0_6.blk t).view.emb y) := by blk_ext [iblk, V, e]
  have hp : k0_pay2 (F := Ideal) (dwAt m c t) (squareAt m c t) y = Mixer.Adam.square (dwAt m c t y) (squareAt m c t y) := rfl
  have hr : Mixer.Adam.square (dw m c ((win0_6.blk t).view.emb y)) (square m c ((win0_6.blk t).view.emb y)) = Cert.AdamSmallRefIdeal.Read.val_main_v10 (F := Ideal) (dw m c) (square m c) ((win0_6.blk t).view.emb y) := rfl
  rw [hdw, hsquare] at hp
  blk_simp [e]
  rw [after0_6]
  frame_out
  exact hp.trans hr

theorem frameBits : @Cert.quiescent_AdamSmall Cert.AdamSmall.Gen.facts := fun m g _ => Cert.AdamSmall.Gen.frame m g
theorem frameIdeal : @Cert.quiescent_AdamSmallIdeal Cert.AdamSmallIdeal.Gen.facts := fun m g _ => Cert.AdamSmallIdeal.Gen.frame m g
theorem frameRef : @Cert.quiescent_AdamSmallRefIdeal Cert.AdamSmallRefIdeal.Gen.facts := fun m g _ =>
  (θ_run _ _ _).mono (fun r h => ⟨fun c => (h c).2.2.2, sem_eq_zero_of_no_sems (by decide) _⟩) (Cert.AdamSmallRefIdeal.Value.run m g)

theorem algebraic : @Cert.algebraic_AdamSmallIdeal_AdamSmallRefIdeal Cert.AdamSmallIdeal.Gen.facts Cert.AdamSmallRefIdeal.Gen.facts := by
  pair_intro
  · run_from Cert.AdamSmallIdeal.Value.run_blocks m g
  · run_from Cert.AdamSmallRefIdeal.Value.run m' g'
    all_goals obtain ⟨a0, a1, a2, a3⟩ := hagree c
    · exact (Cert.AdamSmallRefIdeal.Read.val_main_v23_eq (F := Idealize.ShloMosaic.Ideal) _ _ _ _).trans (change m c).symm
    · exact (Cert.AdamSmallRefIdeal.Read.val_main_v4_eq (F := Idealize.ShloMosaic.Ideal) _ _).trans (newMean m c).symm
    · exact (Cert.AdamSmallRefIdeal.Read.val_main_v10_eq (F := Idealize.ShloMosaic.Ideal) _ _).trans (newSquare m c).symm

end Cert.AdamSmallIdeal.Mix
-- ==== Proof.RowGrad.lean ====
module

public import proofs.«01_k».proof.Proof.Words
public import proofs.«01_k».proof.Proof.RealMath

/-!
The gradient through a row's normalisation: as the product rule writes it and as a projection.
-/

@[expose] public section

noncomputable section

namespace Mixer

open Idealize.ShloMosaic

/-- The mean square of a row, plus the small constant. -/
def rowMean (y : Fin 1024 → Ideal .f32) : Ideal .f32 :=
  FloatOps.addf (FloatOps.divf (∑ k, y k * y k : EReal) (FloatOps.ofBits .f32 0x44800000#32)) (FloatOps.ofBits .f32 0x358637BD#32)

/-- The reciprocal root of a row's mean square. -/
def rowRoot (y : Fin 1024 → Ideal .f32) : Ideal .f32 := FloatOps.rsqrt (rowMean y)

/-- The entry `b` of a row over the root of its mean square. -/
def rowUnit (y : Fin 1024 → Ideal .f32) (b : Fin 1024) : Ideal .f32 := FloatOps.mulf (y b) (rowRoot y)

/-- The gradient `d` less its part along the row, over the root. -/
def rowProj (y d : Fin 1024 → Ideal .f32) (b : Fin 1024) : Ideal .f32 :=
  FloatOps.mulf (rowRoot y) (FloatOps.subf (d b) (FloatOps.mulf (rowUnit y b)
    (FloatOps.divf (∑ k, d k * rowUnit y k : EReal) (FloatOps.ofBits .f32 0x44800000#32))))

/-- What the mean square of the row takes of the gradient. -/
def rowPull (y d : Fin 1024 → Ideal .f32) : Ideal .f32 :=
  FloatOps.divf (FloatOps.mulf (∑ k, y k * d k : EReal) (FloatOps.mulf (FloatOps.ofBits .f32 0xBF000000#32) (FloatOps.divf (rowRoot y) (rowMean y))))
    (FloatOps.ofBits .f32 0x44800000#32)

/-- The gradient by the product rule. -/
def rowChain (y d : Fin 1024 → Ideal .f32) (b : Fin 1024) : Ideal .f32 :=
  FloatOps.addf (FloatOps.addf (FloatOps.mulf (d b) (rowRoot y)) (FloatOps.mulf (y b) (rowPull y d))) (FloatOps.mulf (rowPull y d) (y b))

/-- The mean square as a real number. -/
def meanR (v : Fin 1024 → ℝ) : ℝ := (∑ k, v k * v k) / 1024 + Inputs.eps

theorem meanR_pos (v : Fin 1024 → ℝ) : 0 < meanR v := by
  have h : 0 ≤ ∑ k, v k * v k := Finset.sum_nonneg fun k _ => mul_self_nonneg _
  have e : 0 < Inputs.eps := by unfold Inputs.eps; norm_num
  unfold meanR; positivity

theorem sum_coe (f g : Fin 1024 → ℝ) : (∑ k, (f k : EReal) * (g k : EReal)) = ((∑ k, f k * g k : ℝ) : EReal) := by
  rw [coe_sum]
  exact Finset.sum_congr rfl fun k _ => (EReal.coe_mul _ _).symm

theorem rowMean_coe (v : Fin 1024 → ℝ) : rowMean (fun k => (v k : EReal)) = ((meanR v : ℝ) : EReal) := by
  show Ideal.div (∑ k, (v k : EReal) * (v k : EReal)) (Ideal.ofBits .f32 0x44800000#32) + Ideal.ofBits .f32 0x358637BD#32 = _
  rw [sum_coe, lit_1024, lit_eps, div_coe_coe (by norm_num), ← EReal.coe_add, meanR]

theorem rowRoot_coe (v : Fin 1024 → ℝ) : rowRoot (fun k => (v k : EReal)) = (((Real.sqrt (meanR v))⁻¹ : ℝ) : EReal) := by
  show Ideal.rsqrt (rowMean _) = _
  rw [rowMean_coe, rsqrt_pos (meanR_pos v)]

theorem rowUnit_coe (v : Fin 1024 → ℝ) (b : Fin 1024) : rowUnit (fun k => (v k : EReal)) b = ((v b * (Real.sqrt (meanR v))⁻¹ : ℝ) : EReal) := by
  show (v b : EReal) * rowRoot _ = _
  rw [rowRoot_coe, ← EReal.coe_mul]

theorem rowPull_coe (v g : Fin 1024 → ℝ) : rowPull (fun k => (v k : EReal)) (fun k => (g k : EReal))
    = (((∑ k, v k * g k) * (-1 / 2 * ((Real.sqrt (meanR v))⁻¹ / meanR v)) / 1024 : ℝ) : EReal) := by
  show Ideal.div ((∑ k, (v k : EReal) * (g k : EReal)) * (Ideal.ofBits .f32 0xBF000000#32 * Ideal.div (rowRoot _) (rowMean _))) (Ideal.ofBits .f32 0x44800000#32) = _
  rw [sum_coe, lit_neg_half, rowRoot_coe, rowMean_coe, div_coe_coe (meanR_pos v).ne', ← EReal.coe_mul, ← EReal.coe_mul, lit_1024, div_coe_coe (by norm_num)]

/-- For a row and a gradient of real numbers the two ways give the same number. -/
theorem rowChain_eq (y d : Fin 1024 → Ideal .f32) (hy : ∀ k, ∃ r : ℝ, y k = (r : EReal)) (hd : ∀ k, ∃ r : ℝ, d k = (r : EReal)) (b : Fin 1024) :
    rowChain y d b = rowProj y d b := by
  choose v hv using hy
  choose g hg using hd
  obtain rfl : y = fun k => (v k : EReal) := funext hv
  obtain rfl : d = fun k => (g k : EReal) := funext hg
  have e : (∑ k, (g k : EReal) * rowUnit (fun k => (v k : EReal)) k) = (((∑ k, v k * g k) * (Real.sqrt (meanR v))⁻¹ : ℝ) : EReal) := by
    simp only [rowUnit_coe]
    rw [sum_coe, Finset.sum_mul]
    refine congrArg _ (Finset.sum_congr rfl fun k _ => ?_)
    ring
  show ((g b : EReal) * rowRoot _ + (v b : EReal) * rowPull _ _) + rowPull _ _ * (v b : EReal)
    = rowRoot _ * ((g b : EReal) - rowUnit _ b * Ideal.div (∑ k, (g k : EReal) * rowUnit (fun k => (v k : EReal)) k) (Ideal.ofBits .f32 0x44800000#32))
  rw [e, rowPull_coe, rowRoot_coe, rowUnit_coe, lit_1024, div_coe_coe (by norm_num)]
  simp only [← EReal.coe_mul, ← EReal.coe_add, ← EReal.coe_sub]
  exact congrArg _ (rms_grad (v b) (g b) _ _ (meanR_pos v))

/-- A sum of products of real numbers is a real number. -/
theorem real_sum_mul {n : ℕ} (f g : Fin n → EReal) (hf : ∀ k, ∃ r : ℝ, f k = (r : EReal)) (hg : ∀ k, ∃ r : ℝ, g k = (r : EReal)) :
    ∃ r : ℝ, (∑ k, f k * g k) = (r : EReal) := by
  choose v hv using hf
  choose u hu using hg
  refine ⟨∑ k, v k * u k, ?_⟩
  rw [coe_sum]
  exact Finset.sum_congr rfl fun k _ => by rw [hv, hu, EReal.coe_mul]

/-- A product of real numbers is a real number. -/
theorem real_mul {a b : EReal} (ha : ∃ r : ℝ, a = (r : EReal)) (hb : ∃ r : ℝ, b = (r : EReal)) : ∃ r : ℝ, a * b = (r : EReal) := by
  obtain ⟨r, rfl⟩ := ha
  obtain ⟨s, rfl⟩ := hb
  exact ⟨r * s, (EReal.coe_mul _ _).symm⟩

end Mixer
-- ==== Proof.FirstRow.lean ====
module

public import proofs.«01_k».proof.Proof.Chunks
public import proofs.«01_k».proof.Proof.KernTiles
public import proofs.«01_k».proof.Proof.KernScale

/-!
A buffer of eight rows whose first row gathers sums, and a buffer that gathers only at the end of each run of points.
-/

@[expose] public section

noncomputable section

namespace Mixer

open Idealize.ShloMosaic

section Rows

variable {sig : RefSig} {k : Kind} {sp : Space}
  {i8 : ∀ a, (![0, 0] : Fin 2 → ℕ) a + (![8, 1024] : Fin 2 → ℕ) a ≤ (⟨2, ![8, 1024]⟩ : Shape).size a}
  {i1 : ∀ a, (![0, 0] : Fin 2 → ℕ) a + (![1, 1024] : Fin 2 → ℕ) a ≤ (⟨2, ![8, 1024]⟩ : Shape).size a}

/-- The rows after they were set to `z`, where the first was then set to `p`. -/
theorem rows_set {p : (Rect.unit (s := ⟨2, ![8, 1024]⟩) ![0, 0] ![1, 1024] i1).shape.Idx → Elt Ideal .f32}
    {z : (Rect.unit (s := ⟨2, ![8, 1024]⟩) ![0, 0] ![8, 1024] i8).shape.Idx → Elt Ideal .f32} {S : Fin 8 → Fin 1024 → EReal}
    (hp : ∀ b : Fin 1024, p (ix2 0 b) = S 0 b) (hz : ∀ (i : Fin 8) (j : Fin 1024), z (ix2 i j) = (0 : EReal)) (hS : ∀ a b, a.val ≠ 0 → S a b = 0)
    (a : Fin 8) (b : Fin 1024) :
    View.canon (Val := Elt Ideal) [⟨Rect.unit (s := ⟨2, ![8, 1024]⟩) ![0, 0] ![1, 1024] i1, p⟩, ⟨Rect.unit (s := ⟨2, ![8, 1024]⟩) ![0, 0] ![8, 1024] i8, z⟩] (ix2 a b) = S a b := by
  refine Cert.KernelIdeal.Mix.canon_step2 (fun i j hr hb => ?_) fun n0 => Cert.KernelIdeal.Mix.canon_step2 (fun i j hr hb => ?_) fun n => ?_
  · obtain rfl : i = 0 := Subsingleton.elim _ _
    obtain rfl : a = 0 := Fin.ext hr
    obtain rfl : b = j := Fin.ext (hb.trans (Nat.zero_add _))
    exact hp b
  · exact (hz i j).trans (hS a b (by omega)).symm
  · omega

/-- The first row of zeros, read back. -/
theorem rows_zero (v : View sig k sp ⟨2, ![8, 1024]⟩ .f32) {z : (Rect.unit (s := ⟨2, ![8, 1024]⟩) ![0, 0] ![8, 1024] i8).shape.Idx → Elt Ideal .f32}
    (hz : ∀ (i : Fin 8) (j : Fin 1024), z (ix2 i j) = (0 : EReal)) (b : Fin 1024) :
    v.readCov (Val := Elt Ideal) [⟨Rect.unit (s := ⟨2, ![8, 1024]⟩) ![0, 0] ![8, 1024] i8, z⟩] (Rect.unit (s := ⟨2, ![8, 1024]⟩) ![0, 0] ![1, 1024] i1).toLoadRect (ix2 0 b) = (0 : EReal) :=
  Cert.KernelIdeal.Mix.readCov2 v 0 b 0 b rfl (Nat.zero_add _).symm
    (Cert.KernelIdeal.Mix.canon_step2 (fun i j _ _ => hz i j) (fun h => absurd h (by omega)))

/-- The rows `A` after the first was set to `p`, which adds to what it held. -/
theorem rows_add (v : View sig k sp ⟨2, ![8, 1024]⟩ .f32) (f : v.ty.Contents (Elt Ideal)) {A : (⟨2, ![8, 1024]⟩ : Shape).Idx → Elt Ideal .f32}
    {p : (Rect.unit (s := ⟨2, ![8, 1024]⟩) ![0, 0] ![1, 1024] i1).shape.Idx → Elt Ideal .f32} {S : Fin 8 → Fin 1024 → EReal}
    (hf : v.read (Elt Ideal) f = A)
    (hp : ∀ b : Fin 1024, p (ix2 0 b) = (View.ld A (Rect.unit (s := ⟨2, ![8, 1024]⟩) ![0, 0] ![1, 1024] i1) (ix2 0 b) : EReal) + S 0 b)
    (hS : ∀ a b, a.val ≠ 0 → S a b = 0) (a : Fin 8) (b : Fin 1024) :
    v.read (Elt Ideal) (v.writes (Elt Ideal) f [⟨Rect.unit (s := ⟨2, ![8, 1024]⟩) ![0, 0] ![1, 1024] i1, p⟩]) (ix2 a b) = (A (ix2 a b) : EReal) + S a b := by
  refine Cert.KernelIdeal.Mix.read_step2 _ _ (fun i j hr hb => ?_) fun n0 => ?_
  · obtain rfl : i = 0 := Subsingleton.elim _ _
    obtain rfl : a = 0 := Fin.ext hr
    obtain rfl : b = j := Fin.ext (hb.trans (Nat.zero_add _))
    rw [hp, Cert.KernelIdeal.Mix.ld2 A 0 b (by decide) (by omega)]
    congr 2
    funext x; apply Fin.ext; fin_cases x <;> simp
  · rw [View.writes_nil, hf, hS a b (by omega), add_zero]

end Rows

section Runs

variable {N : ℕ} {f : (n : ℕ) → n < N → Fin 8 → Fin 1024 → EReal}

theorem at_eq {n n' : ℕ} (e : n = n') (h : n < N) (h' : n' < N) : f n h = f n' h' := by
  subst e; rfl

/-- A buffer that is set at the end of the first of eight runs of four points, to which the end of each later run adds, and which the other points
    leave as it was, holds at the last point the sum over the whole axis. -/
theorem runs_total (hN : N = 32) (p : Fin N → Fin 1024 → Fin 8 → Fin 1024 → EReal)
    (first : ∀ t : Fin N, t.val % 4 = 3 → t.val < 4 → ∀ a b, f t.val t.isLt a b = ∑ k, p t k a b)
    (next : ∀ t : Fin N, t.val % 4 = 3 → ¬ t.val < 4 → ∀ a b,
      f t.val t.isLt a b = f (t.val - 1) (Nat.lt_of_le_of_lt (Nat.sub_le _ _) t.isLt) a b + ∑ k, p t k a b)
    (carry : ∀ t : Fin N, ¬ t.val % 4 = 3 → ∀ a b, f t.val t.isLt a b = f (t.val - 1) (Nat.lt_of_le_of_lt (Nat.sub_le _ _) t.isLt) a b)
    (t : Fin N) (ht : t.val = 31) (a : Fin 8) (b : Fin 1024) (q : Fin 8192 → EReal)
    (hq : ∀ (s : Fin N) (k : Fin 1024) (h' : s.val / 4 * 1024 + k.val < 8192), p s k a b = q ⟨s.val / 4 * 1024 + k.val, h'⟩) :
    f t.val t.isLt a b = ∑ l, q l := by
  have lt (j : Fin 8) : 4 * j.val + 3 < N := by omega
  obtain ⟨l, hl⟩ : ∃ l : Fin 8, l.val = 7 := ⟨7, rfl⟩
  refine (congrFun (congrFun (at_eq (show t.val = 4 * l.val + 3 by omega) t.isLt (lt l)) a) b).trans ?_
  refine chunks_total (fun n h => f (4 * n + 3) (lt ⟨n, h⟩)) 8 1024 (fun j => p ⟨4 * j.val + 3, lt j⟩) (fun j h a b => ?_) (fun j h a b => ?_) l (by omega) a b q
    rfl fun s k h h' => ?_
  · exact first ⟨4 * j.val + 3, lt j⟩ (by show (4 * j.val + 3) % 4 = 3; omega) (by show 4 * j.val + 3 < 4; omega) a b
  · have hj := lt j
    refine (next ⟨4 * j.val + 3, lt j⟩ (by show (4 * j.val + 3) % 4 = 3; omega) (by show ¬ 4 * j.val + 3 < 4; omega) a b).trans (congrArg (· + _) ?_)
    refine (carry ⟨4 * j.val + 3 - 1, by omega⟩ (by show ¬ (4 * j.val + 3 - 1) % 4 = 3; omega) a b).trans ?_
    refine (carry ⟨4 * j.val + 3 - 1 - 1, by omega⟩ (by show ¬ (4 * j.val + 3 - 1 - 1) % 4 = 3; omega) a b).trans ?_
    refine (carry ⟨4 * j.val + 3 - 1 - 1 - 1, by omega⟩ (by show ¬ (4 * j.val + 3 - 1 - 1 - 1) % 4 = 3; omega) a b).trans ?_
    exact congrFun (congrFun (at_eq (by show 4 * j.val + 3 - 1 - 1 - 1 - 1 = 4 * (j.val - 1) + 3; omega) _ _) a) b
  · have e : (4 * (8 * (l.val / 8) + s.val) + 3) / 4 = s.val := by omega
    have hs := s.isLt
    have hk := k.isLt
    refine (hq ⟨4 * (8 * (l.val / 8) + s.val) + 3, by omega⟩ k (by show (4 * (8 * (l.val / 8) + s.val) + 3) / 4 * 1024 + k.val < 8192; omega)).trans (congrArg q (Fin.ext ?_))
    show (4 * (8 * (l.val / 8) + s.val) + 3) / 4 * 1024 + k.val = s.val * 1024 + k.val
    rw [e]

end Runs

end Mixer
-- ==== Proof.LossHead.lean ====
module

public import proofs.«01_k».proof.Defs
public import proofs.«01_k».proof.Pre_finite_loss
public import proofs.«01_k».proof.Proof.PreFinite
public import proofs.«01_k».proof.Proof.RowGrad
public import proofs.«01_k».proof.Proof.FirstRow
public import proofs.«01_k».proof.Proof.Gen.LossHead.Frame
public import proofs.«01_k».proof.Proof.Gen.LossHeadIdeal.Value
public import proofs.«01_k».proof.Proof.Gen.LossHeadRefIdeal.Run
public import proofs.«01_k».proof.Proof.Gen.LossHeadRefIdeal.Read
public import Idealize.ShloMosaic.Lib.Pipeline.ValueKit
public import Idealize.ShloMosaic.Lib.Quiescent
public import Idealize.ShloMosaic.Lib.Claim

/-!
The head of the loss: the loss of the normalised rows, and its gradients of the rows and of the gain.
-/

@[expose] public section

set_option maxRecDepth 16384

noncomputable section

namespace Cert.LossHeadIdeal.Mix

open Idealize.ShloMosaic Idealize.ShloMosaic.TcCoe Idealize.SL.Sem
open Cert.LossHeadIdeal Cert.LossHeadIdeal.Gen

variable (m : (ℓ : Loc nD τ sig) → Buf (Elt Idealize.ShloMosaic.Ideal) ℓ) (c : Dev nD)

/-- The error of a normalised row. -/
def err (y g t : Fin 1024 → Ideal .f32) (b : Fin 1024) : Ideal .f32 := FloatOps.subf (FloatOps.mulf (Mixer.rowUnit y b) (g b)) (t b)

/-- A row's mean square error. -/
def mse (e : Fin 1024 → Ideal .f32) : Ideal .f32 := FloatOps.divf (∑ k, e k * e k : EReal) (FloatOps.ofBits .f32 0x44800000#32)

/-- One half, as the word that both programs hold. -/
abbrev half : EReal := Ideal.ofBits .f32 0x3F000000#32

/-- A point's errors. -/
theorem partErr (x : Vec Ideal S1024x1024 .f32) (g : Vec Ideal S1x1024 .f32) (t : Vec Ideal S1024x1024 .f32) (a b : Fin 1024) :
    k0_pay7 (F := Ideal) x g t (ix2 a b) = err (fun k => x (ix2 a k)) (fun k => g (ix2 0 k)) (fun k => t (ix2 a k)) b := by
  pointwise [k0_pay7, k0_pay6, k0_pay5, err, Mixer.rowUnit, Mixer.rowRoot, Mixer.rowMean]

theorem partUp (x : Vec Ideal S1024x1024 .f32) (g : Vec Ideal S1x1024 .f32) (t : Vec Ideal S1024x1024 .f32) (a b : Fin 1024) :
    k0_pay9 (F := Ideal) x g t (ix2 a b) = k0_pay7 (F := Ideal) x g t (ix2 a b) * Ideal.ofBits .f32 0x3A800000#32 := by
  pointwise [k0_pay9]

/-- A point's gradient of the rows. -/
theorem partRows (x : Vec Ideal S1024x1024 .f32) (g : Vec Ideal S1x1024 .f32) (p : FVec Ideal S1024x1024 .f32) (a b : Fin 1024) :
    k0_pay1 (F := Ideal) (k0_pay5 x) (k0_pay6 x) p (k0_pay10 g) (ix2 a b)
      = Mixer.rowProj (fun k => x (ix2 a k)) (fun k => p (ix2 a k) * g (ix2 0 k)) b := by
  pointwise [k0_pay1, k0_pay6, k0_pay5, k0_pay10, Mixer.rowProj, Mixer.rowUnit, Mixer.rowRoot, Mixer.rowMean]

/-- A point's rows over their roots. -/
theorem partUnit (x : Vec Ideal S1024x1024 .f32) (a b : Fin 1024) : k0_pay6 (F := Ideal) x (ix2 a b) = Mixer.rowUnit (fun k => x (ix2 a k)) b := by
  pointwise [k0_pay6, k0_pay5, Mixer.rowUnit, Mixer.rowRoot, Mixer.rowMean]

/-- A point's gradient of the gain, added to what was there. -/
theorem partGain (p u : FVec Ideal S1024x1024 .f32) (v : Vec Ideal S1x1024 .f32) (b : Fin 1024) :
    k0_pay2 (F := Ideal) u p v (ix2 0 b) = v (ix2 0 b) + ∑ r : Fin 1024, u (ix2 r b) * p (ix2 r b) := by
  pointwise [k0_pay2]
  exact congrArg (v (ix2 0 b) + ·) (Finset.sum_congr rfl fun _ _ => mul_comm (_ : EReal) _)

/-- A point's loss, added to what was there. -/
theorem partLoss (x : Vec Ideal S1024x1024 .f32) (g : Vec Ideal S1x1024 .f32) (t : Vec Ideal S1024x1024 .f32) (v : Vec Ideal S8x128 .f32) (a : Fin 8) (b : Fin 128) :
    k0_pay8 (F := Ideal) x g t v (ix2 a b) = v (ix2 a b) + half * ∑ r : Fin 1024, mse (fun k => k0_pay7 (F := Ideal) x g t (ix2 r k)) := by
  pointwise [k0_pay8, mse]
  simp only [Fin.sum_univ_one]

/-- The reference's errors. -/
theorem referenceErr (x : Vec Ideal S8192x1024 .f32) (g : Vec Ideal S1x1024 .f32) (t : Vec Ideal S8192x1024 .f32) (a : Fin 8192) (b : Fin 1024) :
    Cert.LossHeadRefIdeal.Read.val_main_v17 (F := Ideal) x g t (ix2 a b) = err (fun k => x (ix2 a k)) (fun k => g (ix2 0 k)) (fun k => t (ix2 a k)) b := by
  pointwise [Cert.LossHeadRefIdeal.Read.val_main_v17, Cert.LossHeadRefIdeal.Read.val_main_v16, Cert.LossHeadRefIdeal.Read.val_main_v15, Cert.LossHeadRefIdeal.Read.val_main_v14, Cert.LossHeadRefIdeal.Read.val_main_v13, Cert.LossHeadRefIdeal.Read.val_main_v0, Cert.LossHeadRefIdeal.Read.val_main_v2, Cert.LossHeadRefIdeal.Read.val_main_v3, Cert.LossHeadRefIdeal.Read.val_main_v4, Cert.LossHeadRefIdeal.Read.val_main_v5, Cert.LossHeadRefIdeal.Read.val_main_v6, Cert.LossHeadRefIdeal.Read.val_main_v7, Cert.LossHeadRefIdeal.Read.val_main_v8, Cert.LossHeadRefIdeal.Read.val_main_v1, Cert.LossHeadRefIdeal.Read.val_main_v12, Cert.LossHeadRefIdeal.Read.val_main_cst, Cert.LossHeadRefIdeal.Read.val_main_cst_0, Cert.LossHeadRefIdeal.Read.val_main_cst_1, err, Mixer.rowUnit, Mixer.rowRoot, Mixer.rowMean]

theorem referenceUp (x : Vec Ideal S8192x1024 .f32) (g : Vec Ideal S1x1024 .f32) (t : Vec Ideal S8192x1024 .f32) (a : Fin 8192) (b : Fin 1024) :
    Cert.LossHeadRefIdeal.Read.val_main_v31 (F := Ideal) x g t (ix2 a b) = Ideal.div (half * Ideal.ofBits .f32 0x3F800000#32) (Ideal.ofBits .f32 0x44800000#32) * (Ideal.ofBits .f32 0x40000000#32 * Cert.LossHeadRefIdeal.Read.val_main_v17 (F := Ideal) x g t (ix2 a b)) := by
  pointwise [Cert.LossHeadRefIdeal.Read.val_main_v31, Cert.LossHeadRefIdeal.Read.val_main_v30, Cert.LossHeadRefIdeal.Read.val_main_v29, Cert.LossHeadRefIdeal.Read.val_main_v28, Cert.LossHeadRefIdeal.Read.val_main_v27, Cert.LossHeadRefIdeal.Read.val_main_v26, Cert.LossHeadRefIdeal.Read.val_main_v20, Cert.LossHeadRefIdeal.Read.val_main_v19, Cert.LossHeadRefIdeal.Read.val_main_cst_3, Cert.LossHeadRefIdeal.Read.val_main_cst_8, Cert.LossHeadRefIdeal.Read.val_main_cst_9, Cert.LossHeadRefIdeal.Read.val_main_cst_10]

/-- The reference's gradient of the rows. -/
theorem referenceRows (x : Vec Ideal S8192x1024 .f32) (g : Vec Ideal S1x1024 .f32) (t : Vec Ideal S8192x1024 .f32) (a : Fin 8192) (b : Fin 1024) :
    Cert.LossHeadRefIdeal.Read.val_main_v51 (F := Ideal) x g t (ix2 a b) = Mixer.rowChain (fun k => x (ix2 a k)) (fun k => Cert.LossHeadRefIdeal.Read.val_main_v31 (F := Ideal) x g t (ix2 a k) * g (ix2 0 k)) b := by
  pointwise [Cert.LossHeadRefIdeal.Read.val_main_v51, Cert.LossHeadRefIdeal.Read.val_main_v50, Cert.LossHeadRefIdeal.Read.val_main_v49, Cert.LossHeadRefIdeal.Read.val_main_v48, Cert.LossHeadRefIdeal.Read.val_main_v47, Cert.LossHeadRefIdeal.Read.val_main_v46, Cert.LossHeadRefIdeal.Read.val_main_v45, Cert.LossHeadRefIdeal.Read.val_main_v44, Cert.LossHeadRefIdeal.Read.val_main_v43, Cert.LossHeadRefIdeal.Read.val_main_v42, Cert.LossHeadRefIdeal.Read.val_main_v41, Cert.LossHeadRefIdeal.Read.val_main_v40, Cert.LossHeadRefIdeal.Read.val_main_v39, Cert.LossHeadRefIdeal.Read.val_main_v38, Cert.LossHeadRefIdeal.Read.val_main_v36, Cert.LossHeadRefIdeal.Read.val_main_v35, Cert.LossHeadRefIdeal.Read.val_main_v14, Cert.LossHeadRefIdeal.Read.val_main_v0, Cert.LossHeadRefIdeal.Read.val_main_v11, Cert.LossHeadRefIdeal.Read.val_main_v10, Cert.LossHeadRefIdeal.Read.val_main_v9, Cert.LossHeadRefIdeal.Read.val_main_cst_2, Cert.LossHeadRefIdeal.Read.val_main_cst_13, Cert.LossHeadRefIdeal.Read.val_main_cst_14, Cert.LossHeadRefIdeal.Read.val_main_cst_15, Cert.LossHeadRefIdeal.Read.val_main_v2, Cert.LossHeadRefIdeal.Read.val_main_v3, Cert.LossHeadRefIdeal.Read.val_main_v4, Cert.LossHeadRefIdeal.Read.val_main_v5, Cert.LossHeadRefIdeal.Read.val_main_v6, Cert.LossHeadRefIdeal.Read.val_main_v7, Cert.LossHeadRefIdeal.Read.val_main_v8, Cert.LossHeadRefIdeal.Read.val_main_v1, Cert.LossHeadRefIdeal.Read.val_main_v12, Cert.LossHeadRefIdeal.Read.val_main_cst, Cert.LossHeadRefIdeal.Read.val_main_cst_0, Cert.LossHeadRefIdeal.Read.val_main_cst_1, Mixer.rowChain, Mixer.rowPull, Mixer.rowRoot, Mixer.rowMean]
  simp only [Fin.sum_univ_one]

/-- The reference's rows over their roots. -/
theorem referenceUnit (x : Vec Ideal S8192x1024 .f32) (a : Fin 8192) (b : Fin 1024) :
    Cert.LossHeadRefIdeal.Read.val_main_v13 (F := Ideal) x (ix2 a b) = Mixer.rowUnit (fun k => x (ix2 a k)) b := by
  pointwise [Cert.LossHeadRefIdeal.Read.val_main_v13, Cert.LossHeadRefIdeal.Read.val_main_v2, Cert.LossHeadRefIdeal.Read.val_main_v3, Cert.LossHeadRefIdeal.Read.val_main_v4, Cert.LossHeadRefIdeal.Read.val_main_v5, Cert.LossHeadRefIdeal.Read.val_main_v6, Cert.LossHeadRefIdeal.Read.val_main_v7, Cert.LossHeadRefIdeal.Read.val_main_v8, Cert.LossHeadRefIdeal.Read.val_main_v1, Cert.LossHeadRefIdeal.Read.val_main_v12, Cert.LossHeadRefIdeal.Read.val_main_cst, Cert.LossHeadRefIdeal.Read.val_main_cst_0, Cert.LossHeadRefIdeal.Read.val_main_cst_1, Mixer.rowUnit, Mixer.rowRoot, Mixer.rowMean]

/-- The reference's gradient of the gain. -/
theorem referenceGain (x : Vec Ideal S8192x1024 .f32) (g : Vec Ideal S1x1024 .f32) (t : Vec Ideal S8192x1024 .f32) (b : Fin 1024) :
    Cert.LossHeadRefIdeal.Read.val_main_v37 (F := Ideal) x g t (ix1 b) = ∑ l : Fin 8192, Cert.LossHeadRefIdeal.Read.val_main_v13 (F := Ideal) x (ix2 l b) * Cert.LossHeadRefIdeal.Read.val_main_v31 (F := Ideal) x g t (ix2 l b) := by
  pointwise [Cert.LossHeadRefIdeal.Read.val_main_v37, Cert.LossHeadRefIdeal.Read.val_main_v34, Cert.LossHeadRefIdeal.Read.val_main_v33, Cert.LossHeadRefIdeal.Read.val_main_v32, Cert.LossHeadRefIdeal.Read.val_main_cst_11, Cert.LossHeadRefIdeal.Read.val_main_cst_12]
  simp only [Fin.sum_univ_one]

theorem referenceFirst (x : Vec Ideal S8192x1024 .f32) (g : Vec Ideal S1x1024 .f32) (t : Vec Ideal S8192x1024 .f32) (r : Fin 8) (b : Fin 1024) :
    Cert.LossHeadRefIdeal.Read.val_main_v55 (F := Ideal) x g t (ix2 r b) = if r.val = 0 then Cert.LossHeadRefIdeal.Read.val_main_v37 (F := Ideal) x g t (ix1 b) else 0 := by
  pointwise [Cert.LossHeadRefIdeal.Read.val_main_v55, Cert.LossHeadRefIdeal.Read.val_main_v54, Cert.LossHeadRefIdeal.Read.val_main_v53, Cert.LossHeadRefIdeal.Read.val_main_cst_16]
  simp only [Nat.lt_one_iff, dite_eq_ite]

/-- The reference's loss. -/
theorem referenceLoss (x : Vec Ideal S8192x1024 .f32) (g : Vec Ideal S1x1024 .f32) (t : Vec Ideal S8192x1024 .f32) (r : Fin 8) (b : Fin 128) :
    Cert.LossHeadRefIdeal.Read.val_main_v52 (F := Ideal) x g t (ix2 r b) = half * ∑ l : Fin 8192, mse (fun k => Cert.LossHeadRefIdeal.Read.val_main_v17 (F := Ideal) x g t (ix2 l k)) := by
  pointwise [Cert.LossHeadRefIdeal.Read.val_main_v52, Cert.LossHeadRefIdeal.Read.val_main_v25, Cert.LossHeadRefIdeal.Read.val_main_v24, Cert.LossHeadRefIdeal.Read.val_main_v23, Cert.LossHeadRefIdeal.Read.val_main_v22, Cert.LossHeadRefIdeal.Read.val_main_v21, Cert.LossHeadRefIdeal.Read.val_main_v18, Cert.LossHeadRefIdeal.Read.val_main_cst_4, Cert.LossHeadRefIdeal.Read.val_main_cst_5, Cert.LossHeadRefIdeal.Read.val_main_cst_6, Cert.LossHeadRefIdeal.Read.val_main_cst_7, mse]

/-- Where each window's block lies. -/
theorem place (t : Fin cfg0.N) : (win0_0.index t 0 = t.val ∧ win0_0.index t 1 = 0)
    ∧ (win0_1.index t 0 = 0 ∧ win0_1.index t 1 = 0)
    ∧ (win0_2.index t 0 = t.val ∧ win0_2.index t 1 = 0)
    ∧ (win0_3.index t 0 = 0 ∧ win0_3.index t 1 = 0)
    ∧ (win0_4.index t 0 = t.val ∧ win0_4.index t 1 = 0)
    ∧ (win0_5.index t 0 = 0 ∧ win0_5.index t 1 = 0) :=
  (by decide +kernel : ∀ t : Fin grid0.N, (win0_0.index t 0 = t.val ∧ win0_0.index t 1 = 0)
    ∧ (win0_1.index t 0 = 0 ∧ win0_1.index t 1 = 0)
    ∧ (win0_2.index t 0 = t.val ∧ win0_2.index t 1 = 0)
    ∧ (win0_3.index t 0 = 0 ∧ win0_3.index t 1 = 0)
    ∧ (win0_4.index t 0 = t.val ∧ win0_4.index t 1 = 0)
    ∧ (win0_5.index t 0 = 0 ∧ win0_5.index t 1 = 0)) t

/-- The rows. -/
abbrev x : Vec Ideal S8192x1024 .f32 := m ((c : Thread nD τ).loc main_arg0)

/-- The gain. -/
abbrev gain : Vec Ideal S1x1024 .f32 := m ((c : Thread nD τ).loc main_arg1)

/-- The targets. -/
abbrev tgt : Vec Ideal S8192x1024 .f32 := m ((c : Thread nD τ).loc main_arg2)

/-- The rows that a point takes. -/
abbrev rows (t : Fin cfg0.N) : Vec Ideal S1024x1024 .f32 := iblk m c 0 t

/-- The gain that a point takes. -/
abbrev gainAt (t : Fin cfg0.N) : Vec Ideal S1x1024 .f32 := iblk m c 1 t

/-- The targets that a point takes. -/
abbrev tgtAt (t : Fin cfg0.N) : Vec Ideal S1024x1024 .f32 := iblk m c 2 t

/-- The row of the arrays that is row `a` of a point's block. -/
abbrev row (t : Fin cfg0.N) (a : Fin 1024) : Fin 8192 := ⟨t.val * 1024 + a.val, by have h := t.isLt; have e : cfg0.N = 8 := N_0; omega⟩

theorem rows_eq (t : Fin cfg0.N) (a b : Fin 1024) : rows m c t (ix2 a b) = x m c (ix2 (row t a) b) := by
  have e := place t
  blk_ext [iblk, V, e]

theorem gain_eq (t : Fin cfg0.N) (b : Fin 1024) : gainAt m c t (ix2 0 b) = gain m c (ix2 0 b) := by
  have e := place t
  blk_ext [iblk, V, e]

theorem tgt_eq (t : Fin cfg0.N) (a b : Fin 1024) : tgtAt m c t (ix2 a b) = tgt m c (ix2 (row t a) b) := by
  have e := place t
  blk_ext [iblk, V, e]

/-- A point's errors are the reference's in the rows that it takes. -/
theorem err_eq (t : Fin cfg0.N) (a b : Fin 1024) :
    k0_pay7 (F := Ideal) (rows m c t) (gainAt m c t) (tgtAt m c t) (ix2 a b) = Cert.LossHeadRefIdeal.Read.val_main_v17 (F := Ideal) (x m c) (gain m c) (tgt m c) (ix2 (row t a) b) := by
  rw [partErr, referenceErr]
  simp only [rows_eq, gain_eq, tgt_eq]

theorem lit_one : Ideal.ofBits .f32 0x3F800000#32 = ((1 : ℝ) : EReal) := by
  simp [Ideal.ofBits, Ideal.ieee, -EReal.coe_mul]; norm_num

theorem lit_inv : Ideal.ofBits .f32 0x3A800000#32 = ((1 / 1024 : ℝ) : EReal) := by
  simp [Ideal.ofBits, Ideal.ieee, -EReal.coe_mul]; norm_num

/-- The error of real numbers is a real number. -/
theorem real_err (y g t : Fin 1024 → Ideal .f32) (hy : ∀ k, ∃ r : ℝ, y k = (r : EReal)) (hg : ∀ k, ∃ r : ℝ, g k = (r : EReal))
    (ht : ∀ k, ∃ r : ℝ, t k = (r : EReal)) (b : Fin 1024) : ∃ r : ℝ, err y g t b = (r : EReal) := by
  choose v hv using hy
  obtain rfl : y = fun k => (v k : EReal) := funext hv
  obtain ⟨p, hp⟩ := hg b
  obtain ⟨q, hq⟩ := ht b
  refine ⟨v b * (Real.sqrt (Mixer.meanR v))⁻¹ * p - q, ?_⟩
  show Mixer.rowUnit _ b * g b - t b = _
  rw [Mixer.rowUnit_coe, hp, hq, ← EReal.coe_mul, ← EReal.coe_sub]

/-- The two ways of writing the error over the width. -/
theorem up_form {e : EReal} (h : ∃ r : ℝ, e = (r : EReal)) :
    e * Ideal.ofBits .f32 0x3A800000#32 = Ideal.div (half * Ideal.ofBits .f32 0x3F800000#32) (Ideal.ofBits .f32 0x44800000#32) * (Ideal.ofBits .f32 0x40000000#32 * e) := by
  obtain ⟨r, rfl⟩ := h
  rw [half, lit_inv, lit_one, Mixer.lit_half, Mixer.lit_1024, Mixer.lit_two, ← EReal.coe_mul, ← EReal.coe_mul, ← EReal.coe_mul,
    Mixer.div_coe_coe (by norm_num), ← EReal.coe_mul]
  refine congrArg _ ?_
  ring

/-- A point's part of the gradient of the gain, at its row `r`. -/
def gainPart (t : Fin cfg0.N) (r : Fin 1024) (a : Fin 8) (b : Fin 1024) : EReal :=
  if a.val = 0 then Mixer.rowUnit (fun k => x m c (ix2 (row t r) k)) b * Cert.LossHeadRefIdeal.Read.val_main_v31 (F := Ideal) (x m c) (gain m c) (tgt m c) (ix2 (row t r) b) else 0

theorem gainOther (t : Fin cfg0.N) (a : Fin 8) (b : Fin 1024) (h : a.val ≠ 0) : ∑ r, gainPart m c t r a b = 0 :=
  Finset.sum_eq_zero fun r _ => if_neg h

theorem row_eq (t : Fin cfg0.N) (s : Fin 8) (k : Fin 1024) (h : 8 * (t.val / 8) + s.val < cfg0.N) (h' : s.val * 1024 + k.val < 8192) :
    row ⟨8 * (t.val / 8) + s.val, h⟩ k = ⟨s.val * 1024 + k.val, h'⟩ := by
  have ht := t.isLt
  have e : cfg0.N = 8 := N_0
  exact Fin.ext (by show (8 * (t.val / 8) + s.val) * 1024 + k.val = s.val * 1024 + k.val; omega)

section Real

variable (hx : ∀ i, ∃ r : ℝ, x m c i = (r : EReal)) (hg : ∀ i, ∃ r : ℝ, gain m c i = (r : EReal)) (ht : ∀ i, ∃ r : ℝ, tgt m c i = (r : EReal))
include hx hg ht

theorem real_up (a : Fin 8192) (b : Fin 1024) : ∃ r : ℝ, Cert.LossHeadRefIdeal.Read.val_main_v17 (F := Ideal) (x m c) (gain m c) (tgt m c) (ix2 a b) = (r : EReal) := by
  rw [referenceErr]
  exact real_err _ _ _ (fun _ => hx _) (fun _ => hg _) (fun _ => ht _) b

/-- A point's gradient of the normalised rows is the reference's in the rows that it takes. -/
theorem up_eq (t : Fin cfg0.N) (a b : Fin 1024) :
    k0_pay9 (F := Ideal) (rows m c t) (gainAt m c t) (tgtAt m c t) (ix2 a b) = Cert.LossHeadRefIdeal.Read.val_main_v31 (F := Ideal) (x m c) (gain m c) (tgt m c) (ix2 (row t a) b) := by
  rw [partUp, referenceUp, err_eq]
  exact up_form (real_up m c hx hg ht _ _)

/-- A point's gradient of the rows is the reference's. -/
theorem point (t : Fin cfg0.N) (a b : Fin 1024) :
    k0_pay1 (F := Ideal) (k0_pay5 (rows m c t)) (k0_pay6 (rows m c t)) (k0_pay9 (rows m c t) (gainAt m c t) (tgtAt m c t)) (k0_pay10 (gainAt m c t)) (ix2 a b)
      = Cert.LossHeadRefIdeal.Read.val_main_v51 (F := Ideal) (x m c) (gain m c) (tgt m c) (ix2 (row t a) b) := by
  rw [partRows, referenceRows, Mixer.rowChain_eq _ _ (fun k => hx _) (fun k => Mixer.real_mul ?_ (hg _))]
  · simp only [rows_eq, gain_eq, up_eq m c hx hg ht]
  · obtain ⟨r, hr⟩ := real_up m c hx hg ht (row t a) k
    rw [referenceUp, ← up_form ⟨r, hr⟩, hr, lit_inv]
    exact ⟨_, (EReal.coe_mul _ _).symm⟩

/-- The kernel's gradient of the rows is the reference's. -/
theorem gradRows : (dats m 0 c).arrAt 4 (cfgs 0).N = Cert.LossHeadRefIdeal.Read.val_main_v51 (F := Ideal) (x m c) (gain m c) (tgt m c) := by
  refine (dats m 0 c).arrAt_eq_of_covers 4 _ (by decide +kernel) fun t hf y => ?_
  have e := place t
  blk_simp [e]
  rw [after0_4]
  obtain ⟨a, b, rfl⟩ : ∃ (a : Fin 1024) (b : Fin 1024), y = ix2 a b :=
    ⟨y 0, y 1, by funext x; fin_cases x <;> rfl⟩
  rw [show (win0_4.blk t).view.emb (ix2 a b) = ix2 (row t a) b by
    funext x; apply Fin.ext; fin_cases x <;> blk_simp [e] <;> rfl]
  by_cases h0 : t.val % 8 = 0
  on_goal 1 => rw [outsAt0_A m c t h0]
  on_goal 2 => rw [outsAt0_B m c t h0]
  all_goals
    frame_out
    exact point m c hx hg ht t a b

/-- What a point puts in the first row. -/
theorem addGain (t : Fin cfg0.N) (v : Vec Ideal S1x1024 .f32) (b : Fin 1024) :
    k0_pay2 (F := Ideal) (k0_pay6 (rows m c t)) (k0_pay9 (rows m c t) (gainAt m c t) (tgtAt m c t)) v (ix2 0 b)
      = v (ix2 0 b) + ∑ r, gainPart m c t r 0 b := by
  rw [partGain]
  refine congrArg (_ + ·) (Finset.sum_congr rfl fun r _ => ?_)
  rw [partUnit, up_eq m c hx hg ht, gainPart, if_pos (show (0 : Fin 8).val = 0 from rfl)]
  simp only [rows_eq]

set_option maxHeartbeats 1000000 in
theorem gainFirst (t : Fin cfg0.N) (h0 : t.val % 8 = 0) (a : Fin 8) (b : Fin 1024) :
    (outsAt0 m c t.val t.isLt).2.2 (ix2 a b) = ∑ r, gainPart m c t r a b := by
  rw [outsAt0_A m c t h0]
  frame_out
  refine Mixer.rows_set (S := fun a b => ∑ r, gainPart m c t r a b) (fun b => ?_) (fun _ _ => Cert.KernelIdeal.Mix.zero_word) (gainOther m c t) a b
  refine (addGain m c hx hg ht t _ b).trans ?_
  rw [Mixer.rows_zero _ fun _ _ => Cert.KernelIdeal.Mix.zero_word]
  exact zero_add _

set_option maxHeartbeats 1000000 in
theorem gainNext (t : Fin cfg0.N) (h0 : ¬ t.val % 8 = 0) (a : Fin 8) (b : Fin 1024) :
    (outsAt0 m c t.val t.isLt).2.2 (ix2 a b)
      = (outsAt0 m c (t.val - 1) (Nat.lt_of_le_of_lt (Nat.sub_le _ _) t.isLt)).2.2 (ix2 a b) + ∑ r, gainPart m c t r a b := by
  rw [outsAt0_B m c t h0]
  frame_out
  exact Mixer.rows_add (S := fun a b => ∑ r, gainPart m c t r a b) _ _ ((hs0_5 t).read_unread _) (fun b => addGain m c hx hg ht t _ b) (gainOther m c t) a b

/-- The kernel's gradient of the gain is the reference's. -/
theorem gradGain : (dats m 0 c).arrAt 5 (cfgs 0).N = Cert.LossHeadRefIdeal.Read.val_main_v55 (F := Ideal) (x m c) (gain m c) (tgt m c) := by
  refine (dats m 0 c).arrAt_eq_of_covers 5 _ (by decide +kernel) fun t hf y => ?_
  have e := place t
  have hl : t.val % 8 = 7 := (by decide +kernel : ∀ t : Fin grid0.N, win0_5.flush t = true → t.val % 8 = 7) t hf
  blk_simp [e]
  rw [after0_5]
  obtain ⟨a, b, rfl⟩ : ∃ (a : Fin 8) (b : Fin 1024), y = ix2 a b :=
    ⟨y 0, y 1, by funext x; fin_cases x <;> rfl⟩
  rw [show (win0_5.blk t).view.emb (ix2 a b) = ix2 a b by
    funext x; apply Fin.ext; fin_cases x <;> blk_simp [e] <;> rfl]
  rw [referenceFirst, referenceGain]
  refine (Mixer.chunks_total (fun n h a b => (outsAt0 m c n h).2.2 (ix2 a b)) 8 1024 (gainPart m c) (gainFirst m c hx hg ht) (gainNext m c hx hg ht) t (by omega) a b
    (fun l : Fin 8192 => if a.val = 0 then Cert.LossHeadRefIdeal.Read.val_main_v13 (F := Ideal) (x m c) (ix2 l b) * Cert.LossHeadRefIdeal.Read.val_main_v31 (F := Ideal) (x m c) (gain m c) (tgt m c) (ix2 l b) else 0)
    rfl fun s k h h' => ?_).trans ?_
  · simp only [gainPart, referenceUnit, row_eq t s k h h']
  · by_cases ha : a.val = 0
    · simp only [if_pos ha]
    · simp only [if_neg ha, Finset.sum_const_zero]

end Real

/-- One half of a sum. -/
theorem half_sum {n : ℕ} (q : Fin n → EReal) : half * ∑ l, q l = ∑ l, half * q l := by
  have h0 : (0 : EReal) ≤ half := by rw [half, Mixer.lit_half]; exact_mod_cast (by norm_num : (0 : ℝ) ≤ 1 / 2)
  have h1 : half ≠ ⊤ := by rw [half, Mixer.lit_half]; exact EReal.coe_ne_top _
  exact map_sum ({ toFun := fun z => half * z, map_zero' := mul_zero _, map_add' := EReal.left_distrib_of_nonneg_of_ne_top h0 h1 } : EReal →+ EReal) q _

/-- What row `r` of a point's block adds to the loss. -/
def lossPart (t : Fin cfg0.N) (r : Fin 1024) (a : Fin 8) (b : Fin 128) : EReal :=
  half * mse (fun k => Cert.LossHeadRefIdeal.Read.val_main_v17 (F := Ideal) (x m c) (gain m c) (tgt m c) (ix2 (row t r) k))

theorem addLoss (t : Fin cfg0.N) (v : Vec Ideal S8x128 .f32) (a : Fin 8) (b : Fin 128) :
    k0_pay8 (F := Ideal) (rows m c t) (gainAt m c t) (tgtAt m c t) v (ix2 a b) = v (ix2 a b) + ∑ r, lossPart m c t r a b := by
  rw [partLoss, half_sum]
  simp only [err_eq, lossPart]

theorem lossFirst (t : Fin cfg0.N) (h0 : t.val % 8 = 0) (a : Fin 8) (b : Fin 128) :
    (outsAt0 m c t.val t.isLt).1 (ix2 a b) = ∑ r, lossPart m c t r a b := by
  rw [outsAt0_A m c t h0]
  frame_out
  refine (addLoss m c t _ a b).trans ?_
  rw [show k0_pay3 (F := Ideal) (ix2 a b) = 0 from Cert.KernelIdeal.Mix.zero_word, zero_add]

theorem lossNext (t : Fin cfg0.N) (h0 : ¬ t.val % 8 = 0) (a : Fin 8) (b : Fin 128) :
    (outsAt0 m c t.val t.isLt).1 (ix2 a b)
      = (outsAt0 m c (t.val - 1) (Nat.lt_of_le_of_lt (Nat.sub_le _ _) t.isLt)).1 (ix2 a b) + ∑ r, lossPart m c t r a b := by
  rw [outsAt0_B m c t h0]
  frame_out
  exact addLoss m c t _ a b

/-- The kernel's loss is the reference's. -/
theorem loss : (dats m 0 c).arrAt 3 (cfgs 0).N = Cert.LossHeadRefIdeal.Read.val_main_v52 (F := Ideal) (x m c) (gain m c) (tgt m c) := by
  refine (dats m 0 c).arrAt_eq_of_covers 3 _ (by decide +kernel) fun t hf y => ?_
  have e := place t
  have hl : t.val % 8 = 7 := (by decide +kernel : ∀ t : Fin grid0.N, win0_3.flush t = true → t.val % 8 = 7) t hf
  blk_simp [e]
  rw [after0_3]
  obtain ⟨a, b, rfl⟩ : ∃ (a : Fin 8) (b : Fin 128), y = ix2 a b :=
    ⟨y 0, y 1, by funext x; fin_cases x <;> rfl⟩
  rw [show (win0_3.blk t).view.emb (ix2 a b) = ix2 a b by
    funext x; apply Fin.ext; fin_cases x <;> blk_simp [e] <;> rfl]
  rw [referenceLoss, half_sum]
  refine Mixer.chunks_total (fun n h a b => (outsAt0 m c n h).1 (ix2 a b)) 8 1024 (lossPart m c) (lossFirst m c) (lossNext m c) t (by omega) a b
    (fun l : Fin 8192 => half * mse (fun k => Cert.LossHeadRefIdeal.Read.val_main_v17 (F := Ideal) (x m c) (gain m c) (tgt m c) (ix2 l k))) rfl fun s k h h' => ?_
  simp only [lossPart, row_eq t s k h h']

/-- The shape relations of the precondition. -/
theorem preShapes : Cert.Pre_finite_loss.Facts where
  bcast_S_S8192x1024 := by decide
  reducesTo_S8192x1024_S_d0_1 := by decide
  h_S_ := by decide
  bcast_S_S1x1024 := by decide
  reducesTo_S1x1024_S_d0_1 := by decide

/-- The precondition says that all entries are real numbers. -/
theorem finite [Cert.Pre_finite_loss.Facts] {a0 : S8192x1024.Idx → EReal} {a1 : S1x1024.Idx → EReal} {a2 : S8192x1024.Idx → EReal}
    (e : Cert.Pre_finite_loss.fn (F := Idealize.ShloMosaic.Ideal) a0 a1 a2 = fun _ => 1#1) :
    (∀ i, ∃ r : ℝ, a0 i = (r : EReal)) ∧ (∀ i, ∃ r : ℝ, a1 i = (r : EReal)) ∧ (∀ i, ∃ r : ℝ, a2 i = (r : EReal)) := by
  have e' := congrFun e (fun a => a.elim0)
  unfold Cert.Pre_finite_loss.fn at e'
  obtain ⟨e', h2⟩ := IntOp.andi_eq_one.1 e'
  obtain ⟨h0, h1⟩ := IntOp.andi_eq_one.1 e'
  exact ⟨Cert.Pre_finite.reals a0 _ _ _ h0, Cert.Pre_finite.reals a1 _ _ _ h1, Cert.Pre_finite.reals a2 _ _ _ h2⟩

theorem frameBits : @Cert.quiescent_LossHead Cert.LossHead.Gen.facts := fun m g _ => Cert.LossHead.Gen.frame m g
theorem frameIdeal : @Cert.quiescent_LossHeadIdeal Cert.LossHeadIdeal.Gen.facts := fun m g _ => Cert.LossHeadIdeal.Gen.frame m g
theorem frameRef : @Cert.quiescent_LossHeadRefIdeal Cert.LossHeadRefIdeal.Gen.facts := fun m g _ =>
  (θ_run _ _ _).mono (fun r h => ⟨fun c => (h c).2.2.2, sem_eq_zero_of_no_sems (by decide) _⟩) (Cert.LossHeadRefIdeal.Value.run m g)

theorem algebraic : @Cert.algebraic_LossHeadIdeal_LossHeadRefIdeal_pre_finite_loss Cert.LossHeadIdeal.Gen.facts Cert.LossHeadRefIdeal.Gen.facts preShapes := by
  haveI := preShapes
  pair_intro
  · run_from Cert.LossHeadIdeal.Value.run_blocks m g
  · run_from Cert.LossHeadRefIdeal.Value.run m' g'
    all_goals
      obtain ⟨a0, a1, a2⟩ := hagree c
      obtain ⟨f0, f1, f2⟩ := finite (hpre c)
    · refine (Cert.LossHeadRefIdeal.Read.val_main_v52_eq (F := Idealize.ShloMosaic.Ideal) _ _ _).trans ?_
      exact (loss m c).symm
    · refine (Cert.LossHeadRefIdeal.Read.val_main_v51_eq (F := Idealize.ShloMosaic.Ideal) m' c).trans ?_
      rw [a0, a1, a2]
      exact (gradRows m c f0 f1 f2).symm
    · refine (Cert.LossHeadRefIdeal.Read.val_main_v55_eq (F := Idealize.ShloMosaic.Ideal) _ _ _).trans ?_
      rw [a2]
      exact (gradGain m c f0 f1 f2).symm

end Cert.LossHeadIdeal.Mix
-- ==== Proof.FfnNorm.lean ====
module

public import proofs.«01_k».proof.Defs
public import proofs.«01_k».proof.Pre_finite_ffn_norm_bwd
public import proofs.«01_k».proof.Proof.PreFinite
public import proofs.«01_k».proof.Proof.RowGrad
public import proofs.«01_k».proof.Proof.FirstRow
public import proofs.«01_k».proof.Proof.Gen.FfnNorm.Frame
public import proofs.«01_k».proof.Proof.Gen.FfnNormIdeal.Value
public import proofs.«01_k».proof.Proof.Gen.FfnNormRefIdeal.Run
public import proofs.«01_k».proof.Proof.Gen.FfnNormRefIdeal.Read
public import Idealize.ShloMosaic.Lib.Pipeline.ValueKit
public import Idealize.ShloMosaic.Lib.Quiescent
public import Idealize.ShloMosaic.Lib.Claim

/-!
The gradient through the norm before the feed-forward block: of the rows, by way of the projection, and of the gain.
-/

@[expose] public section

set_option maxRecDepth 16384

noncomputable section

namespace Cert.FfnNormIdeal.Mix

open Idealize.ShloMosaic Idealize.ShloMosaic.TcCoe Idealize.SL.Sem
open Cert.FfnNormIdeal Cert.FfnNormIdeal.Gen

variable (m : (ℓ : Loc nD τ sig) → Buf (Elt Idealize.ShloMosaic.Ideal) ℓ) (c : Dev nD)

/-- A point's product. -/
theorem part (y : Vec Ideal S1x1024x1408 .bf16) (w : Vec Ideal S1x1024x1408 .bf16) (a b : Fin 1024) :
    k0_pay2 (F := Ideal) y w (ix2 a b) = ∑ k : Fin 1408, y (ix3 0 a k) * w (ix3 0 b k) := by
  pointwise [k0_pay2, k0_pay1]

/-- A point's product added to what was there. -/
theorem partNext (y : Vec Ideal S1x1024x1408 .bf16) (w : Vec Ideal S1x1024x1408 .bf16) (v : Vec Ideal S1024x1024 .f32) (a b : Fin 1024) :
    k0_pay3 (F := Ideal) y w v (ix2 a b) = v (ix2 a b) + ∑ k : Fin 1408, y (ix3 0 a k) * w (ix3 0 b k) := by
  pointwise [k0_pay3, k0_pay1]

/-- A point's gradient of the rows. -/
theorem partRows (p x : Vec Ideal S1024x1024 .f32) (g : Vec Ideal S1x1x1024 .f32) (d : Vec Ideal S1024x1024 .f32) (a b : Fin 1024) :
    k0_pay8 (F := Ideal) p x g d (ix2 a b) = d (ix2 a b) + Mixer.rowProj (fun k => x (ix2 a k)) (fun k => p (ix2 a k) * g (ix3 0 0 k)) b := by
  pointwise [k0_pay8, k0_pay7, k0_pay6, Mixer.rowProj, Mixer.rowUnit, Mixer.rowRoot, Mixer.rowMean]

/-- A point's gradient of the gain, added to what was there. -/
theorem partGain (p x : Vec Ideal S1024x1024 .f32) (v : Vec Ideal S1x1024 .f32) (b : Fin 1024) :
    k0_pay4 (F := Ideal) (k0_pay9 v) (k0_pay10 p x) (ix2 0 b) = v (ix2 0 b) + ∑ r : Fin 1024, Mixer.rowUnit (fun k => x (ix2 r k)) b * p (ix2 r b) := by
  pointwise [k0_pay4, k0_pay9, k0_pay10, k0_pay7, k0_pay6, Mixer.rowUnit, Mixer.rowRoot, Mixer.rowMean]
  exact congrArg (v (ix2 0 b) + ·) (Finset.sum_congr rfl fun _ _ => mul_comm (_ : EReal) _)

/-- The two halves of the upstream gradient beside each other. -/
def beside (y : Vec Ideal S2x8192x2816 .bf16) (a : Fin 8192) (k : Fin 5632) : EReal :=
  if h : k.val < 2816 then y (ix3 0 a ⟨k.val, h⟩) else y (ix3 1 a ⟨k.val - 2816, by have := k.isLt; omega⟩)

/-- The reference's product. -/
theorem reference (y : Vec Ideal S2x8192x2816 .bf16) (w : Vec Ideal S1x1024x5632 .bf16) (a : Fin 8192) (b : Fin 1024) :
    Cert.FfnNormRefIdeal.Read.val_main_v27 (F := Ideal) y w (ix2 a b) = ∑ k : Fin 5632, beside y a k * w (ix3 0 b k) := by
  pointwise [Cert.FfnNormRefIdeal.Read.val_main_v27, Cert.FfnNormRefIdeal.Read.val_main_v26, Cert.FfnNormRefIdeal.Read.val_main_v24, Cert.FfnNormRefIdeal.Read.val_main_v23, Cert.FfnNormRefIdeal.Read.val_main_v4, Cert.FfnNormRefIdeal.Read.val_main_v3, Cert.FfnNormRefIdeal.Read.val_main_v2, Cert.FfnNormRefIdeal.Read.val_main_v1, Cert.FfnNormRefIdeal.Read.val_main_v0, beside]

/-- The reference's gradient of the rows. -/
theorem referenceRows (y : Vec Ideal S2x8192x2816 .bf16) (w : Vec Ideal S1x1024x5632 .bf16) (x : Vec Ideal S8192x1024 .f32) (g : Vec Ideal S2x1x1024 .f32)
    (d : Vec Ideal S8192x1024 .f32) (a : Fin 8192) (b : Fin 1024) :
    Cert.FfnNormRefIdeal.Read.val_main_v48 (F := Ideal) y w x g d (ix2 a b)
      = d (ix2 a b) + Mixer.rowChain (fun k => x (ix2 a k)) (fun k => Cert.FfnNormRefIdeal.Read.val_main_v27 (F := Ideal) y w (ix2 a k) * g (ix3 1 0 k)) b := by
  pointwise [Cert.FfnNormRefIdeal.Read.val_main_v48, Cert.FfnNormRefIdeal.Read.val_main_v47, Cert.FfnNormRefIdeal.Read.val_main_v46, Cert.FfnNormRefIdeal.Read.val_main_v45, Cert.FfnNormRefIdeal.Read.val_main_v44, Cert.FfnNormRefIdeal.Read.val_main_v43, Cert.FfnNormRefIdeal.Read.val_main_v42, Cert.FfnNormRefIdeal.Read.val_main_v41, Cert.FfnNormRefIdeal.Read.val_main_v40, Cert.FfnNormRefIdeal.Read.val_main_v39, Cert.FfnNormRefIdeal.Read.val_main_v38, Cert.FfnNormRefIdeal.Read.val_main_v37, Cert.FfnNormRefIdeal.Read.val_main_v36, Cert.FfnNormRefIdeal.Read.val_main_v35, Cert.FfnNormRefIdeal.Read.val_main_v34, Cert.FfnNormRefIdeal.Read.val_main_v32, Cert.FfnNormRefIdeal.Read.val_main_v31, Cert.FfnNormRefIdeal.Read.val_main_v21, Cert.FfnNormRefIdeal.Read.val_main_v20, Cert.FfnNormRefIdeal.Read.val_main_v18, Cert.FfnNormRefIdeal.Read.val_main_v17, Cert.FfnNormRefIdeal.Read.val_main_v16, Cert.FfnNormRefIdeal.Read.val_main_v15, Cert.FfnNormRefIdeal.Read.val_main_v14, Cert.FfnNormRefIdeal.Read.val_main_v13, Cert.FfnNormRefIdeal.Read.val_main_v12, Cert.FfnNormRefIdeal.Read.val_main_v11, Cert.FfnNormRefIdeal.Read.val_main_v10, Cert.FfnNormRefIdeal.Read.val_main_v9, Cert.FfnNormRefIdeal.Read.val_main_v8, Cert.FfnNormRefIdeal.Read.val_main_v7, Cert.FfnNormRefIdeal.Read.val_main_v6, Cert.FfnNormRefIdeal.Read.val_main_v5, Cert.FfnNormRefIdeal.Read.val_main_cst, Cert.FfnNormRefIdeal.Read.val_main_cst_0, Cert.FfnNormRefIdeal.Read.val_main_cst_1, Cert.FfnNormRefIdeal.Read.val_main_cst_2, Cert.FfnNormRefIdeal.Read.val_main_cst_5, Cert.FfnNormRefIdeal.Read.val_main_cst_6, Cert.FfnNormRefIdeal.Read.val_main_cst_7, Mixer.rowChain, Mixer.rowPull, Mixer.rowRoot, Mixer.rowMean]
  simp only [Fin.sum_univ_one]

/-- The reference's rows over their roots. -/
theorem referenceUnit (x : Vec Ideal S8192x1024 .f32) (a : Fin 8192) (b : Fin 1024) :
    Cert.FfnNormRefIdeal.Read.val_main_v19 (F := Ideal) x (ix2 a b) = Mixer.rowUnit (fun k => x (ix2 a k)) b := by
  pointwise [Cert.FfnNormRefIdeal.Read.val_main_v19, Cert.FfnNormRefIdeal.Read.val_main_v18, Cert.FfnNormRefIdeal.Read.val_main_v14, Cert.FfnNormRefIdeal.Read.val_main_v13, Cert.FfnNormRefIdeal.Read.val_main_v12, Cert.FfnNormRefIdeal.Read.val_main_v11, Cert.FfnNormRefIdeal.Read.val_main_v10, Cert.FfnNormRefIdeal.Read.val_main_v9, Cert.FfnNormRefIdeal.Read.val_main_v8, Cert.FfnNormRefIdeal.Read.val_main_v7, Cert.FfnNormRefIdeal.Read.val_main_cst, Cert.FfnNormRefIdeal.Read.val_main_cst_0, Cert.FfnNormRefIdeal.Read.val_main_cst_1, Mixer.rowUnit, Mixer.rowRoot, Mixer.rowMean]

/-- The reference's gradient of the gain. -/
theorem referenceGain (y : Vec Ideal S2x8192x2816 .bf16) (w : Vec Ideal S1x1024x5632 .bf16) (x : Vec Ideal S8192x1024 .f32) (b : Fin 1024) :
    Cert.FfnNormRefIdeal.Read.val_main_v33 (F := Ideal) y w x (ix1 b)
      = ∑ l : Fin 8192, Cert.FfnNormRefIdeal.Read.val_main_v19 (F := Ideal) x (ix2 l b) * Cert.FfnNormRefIdeal.Read.val_main_v27 (F := Ideal) y w (ix2 l b) := by
  pointwise [Cert.FfnNormRefIdeal.Read.val_main_v33, Cert.FfnNormRefIdeal.Read.val_main_v30, Cert.FfnNormRefIdeal.Read.val_main_v29, Cert.FfnNormRefIdeal.Read.val_main_v28, Cert.FfnNormRefIdeal.Read.val_main_cst_3, Cert.FfnNormRefIdeal.Read.val_main_cst_4]
  simp only [Fin.sum_univ_one]

theorem referenceFirst (y : Vec Ideal S2x8192x2816 .bf16) (w : Vec Ideal S1x1024x5632 .bf16) (x : Vec Ideal S8192x1024 .f32) (r : Fin 8) (b : Fin 1024) :
    Cert.FfnNormRefIdeal.Read.val_main_v51 (F := Ideal) y w x (ix2 r b) = if r.val = 0 then Cert.FfnNormRefIdeal.Read.val_main_v33 (F := Ideal) y w x (ix1 b) else 0 := by
  pointwise [Cert.FfnNormRefIdeal.Read.val_main_v51, Cert.FfnNormRefIdeal.Read.val_main_v50, Cert.FfnNormRefIdeal.Read.val_main_v49, Cert.FfnNormRefIdeal.Read.val_main_cst_8]
  simp only [Nat.lt_one_iff, dite_eq_ite]

/-- Where each window's block lies. -/
theorem place (t : Fin cfg0.N) : (win0_0.index t 0 = t.val % 4 / 2 ∧ win0_0.index t 1 = t.val / 4 ∧ win0_0.index t 2 = t.val % 2)
    ∧ (win0_1.index t 0 = 0 ∧ win0_1.index t 1 = 0 ∧ win0_1.index t 2 = t.val % 4)
    ∧ (win0_2.index t 0 = t.val / 4 ∧ win0_2.index t 1 = 0)
    ∧ (win0_3.index t 0 = 1 ∧ win0_3.index t 1 = 0 ∧ win0_3.index t 2 = 0)
    ∧ (win0_4.index t 0 = t.val / 4 ∧ win0_4.index t 1 = 0)
    ∧ (win0_5.index t 0 = t.val / 4 ∧ win0_5.index t 1 = 0)
    ∧ (win0_6.index t 0 = 0 ∧ win0_6.index t 1 = 0) :=
  (by decide +kernel : ∀ t : Fin grid0.N, (win0_0.index t 0 = t.val % 4 / 2 ∧ win0_0.index t 1 = t.val / 4 ∧ win0_0.index t 2 = t.val % 2)
    ∧ (win0_1.index t 0 = 0 ∧ win0_1.index t 1 = 0 ∧ win0_1.index t 2 = t.val % 4)
    ∧ (win0_2.index t 0 = t.val / 4 ∧ win0_2.index t 1 = 0)
    ∧ (win0_3.index t 0 = 1 ∧ win0_3.index t 1 = 0 ∧ win0_3.index t 2 = 0)
    ∧ (win0_4.index t 0 = t.val / 4 ∧ win0_4.index t 1 = 0)
    ∧ (win0_5.index t 0 = t.val / 4 ∧ win0_5.index t 1 = 0)
    ∧ (win0_6.index t 0 = 0 ∧ win0_6.index t 1 = 0)) t

/-- The upstream gradient. -/
abbrev up : Vec Ideal S2x8192x2816 .bf16 := m ((c : Thread nD τ).loc main_arg0)

/-- The weights. -/
abbrev w : Vec Ideal S1x1024x5632 .bf16 := m ((c : Thread nD τ).loc main_arg1)

/-- The rows before the norm. -/
abbrev x : Vec Ideal S8192x1024 .f32 := m ((c : Thread nD τ).loc main_arg2)

/-- The gains. -/
abbrev gain : Vec Ideal S2x1x1024 .f32 := m ((c : Thread nD τ).loc main_arg3)

/-- The gradient that is added to. -/
abbrev stream : Vec Ideal S8192x1024 .f32 := m ((c : Thread nD τ).loc main_arg4)

/-- The upstream gradient that a point takes. -/
abbrev upAt (t : Fin cfg0.N) : Vec Ideal S1x1024x1408 .bf16 := iblk m c 0 t

/-- The weights that a point takes. -/
abbrev weights (t : Fin cfg0.N) : Vec Ideal S1x1024x1408 .bf16 := iblk m c 1 t

/-- The rows that a point takes. -/
abbrev rows (t : Fin cfg0.N) : Vec Ideal S1024x1024 .f32 := iblk m c 2 t

/-- The gains that a point takes. -/
abbrev gainAt (t : Fin cfg0.N) : Vec Ideal S1x1x1024 .f32 := iblk m c 3 t

/-- The gradient that a point adds to. -/
abbrev streamAt (t : Fin cfg0.N) : Vec Ideal S1024x1024 .f32 := iblk m c 4 t

/-- The row of the arrays that is row `a` of a point's block. -/
abbrev row (t : Fin cfg0.N) (a : Fin 1024) : Fin 8192 := ⟨t.val / 4 * 1024 + a.val, by have h := t.isLt; have e : cfg0.N = 32 := N_0; omega⟩

/-- What the scratch holds after a point. -/
abbrev acc (n : ℕ) (h : n < cfg0.N) : Vec Ideal S1024x1024 .f32 := (outsAt0 m c n h).2.2

/-- The factors of a point's product. -/
abbrev factors (t : Fin cfg0.N) (k : Fin 1408) (a b : Fin 1024) : EReal := upAt m c t (ix3 0 a k) * weights m c t (ix3 0 b k)

theorem accFirst (t : Fin cfg0.N) (h0 : t.val % 4 = 0) (a b : Fin 1024) : acc m c t.val t.isLt (ix2 a b) = ∑ k, factors m c t k a b := by
  show (outsAt0 m c t.val t.isLt).2.2 (ix2 a b) = _
  rw [outsAt0_A m c t h0 (by omega) (by omega)]
  frame_out
  exact part _ _ a b

theorem accNext (t : Fin cfg0.N) (h0 : ¬ t.val % 4 = 0) (a b : Fin 1024) :
    acc m c t.val t.isLt (ix2 a b) = acc m c (t.val - 1) (Nat.lt_of_le_of_lt (Nat.sub_le _ _) t.isLt) (ix2 a b) + ∑ k, factors m c t k a b := by
  show (outsAt0 m c t.val t.isLt).2.2 (ix2 a b) = _
  by_cases h2 : t.val % 4 = 3
  on_goal 1 => by_cases h3 : t.val < 4
  on_goal 1 => rw [outsAt0_C m c t h0 (by omega) h2 h3]
  on_goal 2 => rw [outsAt0_D m c t h0 (by omega) h2 h3]
  on_goal 3 => rw [outsAt0_B m c t h0 (by omega) h2]
  all_goals
    frame_out
    refine (partNext _ _ _ a b).trans ?_
    exact congrArg (· + _) (congrFun ((Memref.isWhole_whole _).read_unread _) _)

/-- What the last point of a run writes back. -/
theorem last (t : Fin cfg0.N) (h2 : t.val % 4 = 3) (a b : Fin 1024) :
    (outsAt0 m c t.val t.isLt).1 (ix2 a b) = k0_pay8 (F := Ideal) (acc m c t.val t.isLt) (rows m c t) (gainAt m c t) (streamAt m c t) (ix2 a b) := by
  by_cases h3 : t.val < 4
  on_goal 1 => rw [acc, outsAt0_C m c t (by omega) (by omega) h2 h3]
  on_goal 2 => rw [acc, outsAt0_D m c t (by omega) (by omega) h2 h3]
  all_goals frame_out

/-- The scratch at the last point of a run is the reference's product in the rows that the run takes. -/
theorem total (t : Fin cfg0.N) (h2 : t.val % 4 = 3) (a b : Fin 1024) :
    acc m c t.val t.isLt (ix2 a b) = Cert.FfnNormRefIdeal.Read.val_main_v27 (F := Ideal) (up m c) (w m c) (ix2 (row t a) b) := by
  rw [reference]
  refine Mixer.chunks_total (fun n h a b => acc m c n h (ix2 a b)) 4 1408 (factors m c) (accFirst m c) (accNext m c) t h2 a b _ rfl
    fun s k h h' => ?_
  have e := place ⟨4 * (t.val / 4) + s.val, h⟩
  have hs := s.isLt
  have hk := k.isLt
  have hd : (4 * (t.val / 4) + s.val) / 4 = t.val / 4 := by omega
  have hm : (4 * (t.val / 4) + s.val) % 4 = s.val := by omega
  unfold factors
  refine congrArg₂ (fun p q : EReal => p * q) ?_ ?_
  · unfold beside
    split
    · next q =>
      have hq : s.val * 1408 + k.val < 2816 := q
      blk_ext [iblk, V, e, hd, hm] <;> omega
    · next q =>
      have hq : ¬ s.val * 1408 + k.val < 2816 := q
      blk_ext [iblk, V, e, hd, hm] <;> omega
  · blk_ext [iblk, V, e, hd, hm]

theorem rows_eq (t : Fin cfg0.N) (a b : Fin 1024) : rows m c t (ix2 a b) = x m c (ix2 (row t a) b) := by
  have e := place t
  blk_ext [iblk, V, e]

theorem gain_eq (t : Fin cfg0.N) (b : Fin 1024) : gainAt m c t (ix3 0 0 b) = gain m c (ix3 1 0 b) := by
  have e := place t
  blk_ext [iblk, V, e]

theorem stream_eq (t : Fin cfg0.N) (a b : Fin 1024) : streamAt m c t (ix2 a b) = stream m c (ix2 (row t a) b) := by
  have e := place t
  blk_ext [iblk, V, e]

/-- The gradient of the rows at the last point of a run is the reference's, for real numbers. -/
theorem point (hy : ∀ i, ∃ r : ℝ, up m c i = (r : EReal)) (hw : ∀ i, ∃ r : ℝ, w m c i = (r : EReal)) (hx : ∀ i, ∃ r : ℝ, x m c i = (r : EReal))
    (hg : ∀ i, ∃ r : ℝ, gain m c i = (r : EReal)) (t : Fin cfg0.N) (h2 : t.val % 4 = 3) (a b : Fin 1024) :
    k0_pay8 (F := Ideal) (acc m c t.val t.isLt) (rows m c t) (gainAt m c t) (streamAt m c t) (ix2 a b)
      = Cert.FfnNormRefIdeal.Read.val_main_v48 (F := Ideal) (up m c) (w m c) (x m c) (gain m c) (stream m c) (ix2 (row t a) b) := by
  rw [partRows, referenceRows, stream_eq, Mixer.rowChain_eq _ _ (fun k => hx _) (fun k => Mixer.real_mul ?_ (hg _))]
  · simp only [rows_eq, gain_eq, total m c t h2]
  · rw [reference]
    exact Mixer.real_sum_mul _ _ (fun k => by unfold beside; split <;> exact hy _) (fun _ => hw _)

/-- The kernel's gradient of the rows is the reference's. -/
theorem gradRows (hy : ∀ i, ∃ r : ℝ, up m c i = (r : EReal)) (hw : ∀ i, ∃ r : ℝ, w m c i = (r : EReal)) (hx : ∀ i, ∃ r : ℝ, x m c i = (r : EReal))
    (hg : ∀ i, ∃ r : ℝ, gain m c i = (r : EReal)) :
    (dats m 0 c).arrAt 5 (cfgs 0).N = Cert.FfnNormRefIdeal.Read.val_main_v48 (F := Ideal) (up m c) (w m c) (x m c) (gain m c) (stream m c) := by
  refine (dats m 0 c).arrAt_eq_of_covers 5 _ (by decide +kernel) fun t hf y => ?_
  have e := place t
  have h2 : t.val % 4 = 3 := (by decide +kernel : ∀ t : Fin grid0.N, win0_5.flush t = true → t.val % 4 = 3) t hf
  blk_simp [e]
  rw [after0_5]
  obtain ⟨a, b, rfl⟩ : ∃ (a : Fin 1024) (b : Fin 1024), y = ix2 a b :=
    ⟨y 0, y 1, by funext x; fin_cases x <;> rfl⟩
  rw [show (win0_5.blk t).view.emb (ix2 a b) = ix2 (row t a) b by
    funext x; apply Fin.ext; fin_cases x <;> blk_simp [e] <;> rfl]
  exact (last m c t h2 a b).trans (point m c hy hw hx hg t h2 a b)

/-- The part of the gradient of the gain from row `r` of a block, in the row `a` of its buffer. -/
def gainPart (t : Fin cfg0.N) (r : Fin 1024) (a : Fin 8) (b : Fin 1024) : EReal :=
  if a.val = 0 then Mixer.rowUnit (fun k => x m c (ix2 (row t r) k)) b * Cert.FfnNormRefIdeal.Read.val_main_v27 (F := Ideal) (up m c) (w m c) (ix2 (row t r) b) else 0

/-- The product read at the last point of a run is the reference's. -/
theorem read (t : Fin cfg0.N) (h2 : t.val % 4 = 3) (a b : Fin 1024) :
    k0_pay3 (F := Ideal) (upAt m c t) (weights m c t) ((View.whole cc0_scratch0).read (Elt Idealize.ShloMosaic.Ideal)
        ((Memref.isWhole_whole cc0_scratch0).unread (acc m c (t.val - 1) (Nat.lt_of_le_of_lt (Nat.sub_le _ _) t.isLt)))) (ix2 a b)
      = Cert.FfnNormRefIdeal.Read.val_main_v27 (F := Ideal) (up m c) (w m c) (ix2 (row t a) b) :=
  (partNext _ _ _ a b).trans ((congrArg (fun z : EReal => z + _) (congrFun ((Memref.isWhole_whole _).read_unread _) _)).trans
    ((accNext m c t (by omega) a b).symm.trans (total m c t h2 a b)))

/-- What the last point of a run puts in the first row. -/
theorem addGain (t : Fin cfg0.N) (p : Vec Ideal S1024x1024 .f32) (hp : ∀ a b, p (ix2 a b) = Cert.FfnNormRefIdeal.Read.val_main_v27 (F := Ideal) (up m c) (w m c) (ix2 (row t a) b))
    (v : Vec Ideal S1x1024 .f32) (b : Fin 1024) :
    k0_pay4 (F := Ideal) (k0_pay9 v) (k0_pay10 p (rows m c t)) (ix2 0 b) = v (ix2 0 b) + ∑ r, gainPart m c t r 0 b := by
  rw [partGain]
  refine congrArg (_ + ·) (Finset.sum_congr rfl fun r _ => ?_)
  rw [hp, gainPart, if_pos (show (0 : Fin 8).val = 0 from rfl)]
  simp only [rows_eq]

theorem gainOther (t : Fin cfg0.N) (a : Fin 8) (b : Fin 1024) (h : a.val ≠ 0) : ∑ r, gainPart m c t r a b = 0 :=
  Finset.sum_eq_zero fun r _ => if_neg h

set_option maxHeartbeats 1000000 in
theorem gainFirst (t : Fin cfg0.N) (h2 : t.val % 4 = 3) (h3 : t.val < 4) (a : Fin 8) (b : Fin 1024) :
    (outsAt0 m c t.val t.isLt).2.1 (ix2 a b) = ∑ r, gainPart m c t r a b := by
  rw [outsAt0_C m c t (by omega) (by omega) h2 h3]
  frame_out
  refine Mixer.rows_set (S := fun a b => ∑ r, gainPart m c t r a b) (fun b => ?_) (fun _ _ => Cert.KernelIdeal.Mix.zero_word) (gainOther m c t) a b
  refine (addGain m c t _ (read m c t h2) _ b).trans ?_
  rw [Mixer.rows_zero _ fun _ _ => Cert.KernelIdeal.Mix.zero_word]
  exact zero_add _

set_option maxHeartbeats 1000000 in
theorem gainNext (t : Fin cfg0.N) (h2 : t.val % 4 = 3) (h3 : ¬ t.val < 4) (a : Fin 8) (b : Fin 1024) :
    (outsAt0 m c t.val t.isLt).2.1 (ix2 a b)
      = (outsAt0 m c (t.val - 1) (Nat.lt_of_le_of_lt (Nat.sub_le _ _) t.isLt)).2.1 (ix2 a b) + ∑ r, gainPart m c t r a b := by
  rw [outsAt0_D m c t (by omega) (by omega) h2 h3]
  frame_out
  exact Mixer.rows_add (S := fun a b => ∑ r, gainPart m c t r a b) _ _ ((hs0_6 t).read_unread _) (fun b => addGain m c t _ (read m c t h2) _ b) (gainOther m c t) a b

/-- The other points leave the buffer of the gain's gradient as it was. -/
theorem carry (t : Fin cfg0.N) (h2 : ¬ t.val % 4 = 3) :
    (outsAt0 m c t.val t.isLt).2.1 = (outsAt0 m c (t.val - 1) (Nat.lt_of_le_of_lt (Nat.sub_le _ _) t.isLt)).2.1 := by
  by_cases h0 : t.val % 4 = 0
  · exact congrArg (fun o => o.2.1) (outsAt0_A m c t h0 (by omega) h2)
  · exact congrArg (fun o => o.2.1) (outsAt0_B m c t h0 (by omega) h2)

/-- The kernel's gradient of the gain is the reference's. -/
theorem gradGain : (dats m 0 c).arrAt 6 (cfgs 0).N = Cert.FfnNormRefIdeal.Read.val_main_v51 (F := Ideal) (up m c) (w m c) (x m c) := by
  refine (dats m 0 c).arrAt_eq_of_covers 6 _ (by decide +kernel) fun t hf y => ?_
  have e := place t
  have hl : t.val = 31 := (by decide +kernel : ∀ t : Fin grid0.N, win0_6.flush t = true → t.val = 31) t hf
  blk_simp [e]
  rw [after0_6]
  obtain ⟨a, b, rfl⟩ : ∃ (a : Fin 8) (b : Fin 1024), y = ix2 a b :=
    ⟨y 0, y 1, by funext x; fin_cases x <;> rfl⟩
  rw [show (win0_6.blk t).view.emb (ix2 a b) = ix2 a b by
    funext x; apply Fin.ext; fin_cases x <;> blk_simp [e] <;> rfl]
  rw [referenceFirst, referenceGain]
  refine (Mixer.runs_total (f := fun n h a b => (outsAt0 m c n h).2.1 (ix2 a b)) N_0 (gainPart m c) (gainFirst m c) (gainNext m c)
    (fun t h a b => congrFun (carry m c t h) (ix2 a b)) t hl a b
    (fun i : Fin 8192 => if a.val = 0 then Cert.FfnNormRefIdeal.Read.val_main_v19 (F := Ideal) (x m c) (ix2 i b) * Cert.FfnNormRefIdeal.Read.val_main_v27 (F := Ideal) (up m c) (w m c) (ix2 i b) else 0)
    fun s k h' => by simp only [gainPart, referenceUnit]).trans ?_
  by_cases ha : a.val = 0
  · simp only [if_pos ha]
  · simp only [if_neg ha, Finset.sum_const_zero]

/-- The shape relations of the precondition. -/
theorem preShapes : Cert.Pre_finite_ffn_norm_bwd.Facts where
  bitsLt_bf16_f32 := by decide
  bcast_S_S2x8192x2816 := by decide
  reducesTo_S2x8192x2816_S_d0_1_2 := by decide
  h_S_ := by decide
  bcast_S_S1x1024x5632 := by decide
  reducesTo_S1x1024x5632_S_d0_1_2 := by decide
  bcast_S_S8192x1024 := by decide
  reducesTo_S8192x1024_S_d0_1 := by decide
  bcast_S_S2x1x1024 := by decide
  reducesTo_S2x1x1024_S_d0_1_2 := by decide

/-- The precondition says that the entries of the first four arrays are real numbers. -/
theorem finite [Cert.Pre_finite_ffn_norm_bwd.Facts] {a0 : S2x8192x2816.Idx → EReal} {a1 : S1x1024x5632.Idx → EReal} {a2 : S8192x1024.Idx → EReal}
    {a3 : S2x1x1024.Idx → EReal} {a4 : S8192x1024.Idx → EReal} (e : Cert.Pre_finite_ffn_norm_bwd.fn (F := Idealize.ShloMosaic.Ideal) a0 a1 a2 a3 a4 = fun _ => 1#1) :
    (∀ i, ∃ r : ℝ, a0 i = (r : EReal)) ∧ (∀ i, ∃ r : ℝ, a1 i = (r : EReal)) ∧ (∀ i, ∃ r : ℝ, a2 i = (r : EReal)) ∧ (∀ i, ∃ r : ℝ, a3 i = (r : EReal)) := by
  have e' := congrFun e (fun a => a.elim0)
  unfold Cert.Pre_finite_ffn_norm_bwd.fn Cert.Pre_finite_ffn_norm_bwd.fn_part1 at e'
  obtain ⟨e', h3⟩ := IntOp.andi_eq_one.1 e'
  obtain ⟨e', h2⟩ := IntOp.andi_eq_one.1 e'
  obtain ⟨h0, h1⟩ := IntOp.andi_eq_one.1 e'
  exact ⟨Cert.Pre_finite.reals a0 _ _ _ h0, Cert.Pre_finite.reals a1 _ _ _ h1, Cert.Pre_finite.reals a2 _ _ _ h2, Cert.Pre_finite.reals a3 _ _ _ h3⟩

theorem frameBits : @Cert.quiescent_FfnNorm Cert.FfnNorm.Gen.facts := fun m g _ => Cert.FfnNorm.Gen.frame m g
theorem frameIdeal : @Cert.quiescent_FfnNormIdeal Cert.FfnNormIdeal.Gen.facts := fun m g _ => Cert.FfnNormIdeal.Gen.frame m g
theorem frameRef : @Cert.quiescent_FfnNormRefIdeal Cert.FfnNormRefIdeal.Gen.facts := fun m g _ =>
  (θ_run _ _ _).mono (fun r h => ⟨fun c => (h c).2.2, sem_eq_zero_of_no_sems (by decide) _⟩) (Cert.FfnNormRefIdeal.Value.run m g)

theorem algebraic : @Cert.algebraic_FfnNormIdeal_FfnNormRefIdeal_pre_finite_ffn_norm_bwd Cert.FfnNormIdeal.Gen.facts Cert.FfnNormRefIdeal.Gen.facts preShapes := by
  haveI := preShapes
  pair_intro
  · run_from Cert.FfnNormIdeal.Value.run_blocks m g
  · run_from Cert.FfnNormRefIdeal.Value.run m' g'
    all_goals obtain ⟨a0, a1, a2, a3, a4⟩ := hagree c
    · refine (Cert.FfnNormRefIdeal.Read.val_main_v48_eq (F := Idealize.ShloMosaic.Ideal) m' c).trans ?_
      obtain ⟨f0, f1, f2, f3⟩ := finite (hpre c)
      rw [a0, a1, a2, a3, a4]
      exact (gradRows m c f0 f1 f2 f3).symm
    · refine (Cert.FfnNormRefIdeal.Read.val_main_v51_eq (F := Idealize.ShloMosaic.Ideal) _ _ _).trans ?_
      exact (gradGain m c).symm

end Cert.FfnNormIdeal.Mix
-- ==== Proof.MixNorm.lean ====
module

public import proofs.«01_k».proof.Defs
public import proofs.«01_k».proof.Pre_finite_mix_norm_bwd
public import proofs.«01_k».proof.Proof.PreFinite
public import proofs.«01_k».proof.Proof.RowGrad
public import proofs.«01_k».proof.Proof.FirstRow
public import proofs.«01_k».proof.Proof.Gen.MixNorm.Frame
public import proofs.«01_k».proof.Proof.Gen.MixNormIdeal.Value
public import proofs.«01_k».proof.Proof.Gen.MixNormRefIdeal.Run
public import proofs.«01_k».proof.Proof.Gen.MixNormRefIdeal.Read
public import Idealize.ShloMosaic.Lib.Pipeline.ValueKit
public import Idealize.ShloMosaic.Lib.Quiescent
public import Idealize.ShloMosaic.Lib.Claim

/-!
The gradient through the norm before the mixing branches: of the rows, by way of the projection, and of the gain.
-/

@[expose] public section

set_option maxRecDepth 16384

noncomputable section

namespace Cert.MixNormIdeal.Mix

open Idealize.ShloMosaic Idealize.ShloMosaic.TcCoe Idealize.SL.Sem
open Cert.MixNormIdeal Cert.MixNormIdeal.Gen

variable (m : (ℓ : Loc nD τ sig) → Buf (Elt Idealize.ShloMosaic.Ideal) ℓ) (c : Dev nD)

/-- A point's product. -/
theorem part (y : Vec Ideal S1024x1280 .bf16) (w : Vec Ideal S1x1024x1280 .bf16) (a b : Fin 1024) :
    k0_pay2 (F := Ideal) y w (ix2 a b) = ∑ k : Fin 1280, y (ix2 a k) * w (ix3 0 b k) := by
  pointwise [k0_pay2, k0_pay1]

/-- A point's product added to what was there. -/
theorem partNext (y : Vec Ideal S1024x1280 .bf16) (w : Vec Ideal S1x1024x1280 .bf16) (v : Vec Ideal S1024x1024 .f32) (a b : Fin 1024) :
    k0_pay3 (F := Ideal) y w v (ix2 a b) = v (ix2 a b) + ∑ k : Fin 1280, y (ix2 a k) * w (ix3 0 b k) := by
  pointwise [k0_pay3, k0_pay1]

/-- A point's gradient of the rows. -/
theorem partRows (p x : Vec Ideal S1024x1024 .f32) (g : Vec Ideal S1x1x1024 .f32) (d : Vec Ideal S1024x1024 .f32) (a b : Fin 1024) :
    k0_pay8 (F := Ideal) p x g d (ix2 a b) = d (ix2 a b) + Mixer.rowProj (fun k => x (ix2 a k)) (fun k => p (ix2 a k) * g (ix3 0 0 k)) b := by
  pointwise [k0_pay8, k0_pay7, k0_pay6, Mixer.rowProj, Mixer.rowUnit, Mixer.rowRoot, Mixer.rowMean]

/-- A point's gradient of the gain, added to what was there. -/
theorem partGain (p x : Vec Ideal S1024x1024 .f32) (v : Vec Ideal S1x1024 .f32) (b : Fin 1024) :
    k0_pay4 (F := Ideal) (k0_pay9 v) (k0_pay10 p x) (ix2 0 b) = v (ix2 0 b) + ∑ r : Fin 1024, Mixer.rowUnit (fun k => x (ix2 r k)) b * p (ix2 r b) := by
  pointwise [k0_pay4, k0_pay9, k0_pay10, k0_pay7, k0_pay6, Mixer.rowUnit, Mixer.rowRoot, Mixer.rowMean]
  exact congrArg (v (ix2 0 b) + ·) (Finset.sum_congr rfl fun _ _ => mul_comm (_ : EReal) _)

/-- The reference's product. -/
theorem reference (y : Vec Ideal S8192x5120 .bf16) (w : Vec Ideal S1x1024x5120 .bf16) (a : Fin 8192) (b : Fin 1024) :
    Cert.MixNormRefIdeal.Read.val_main_v22 (F := Ideal) y w (ix2 a b) = ∑ k : Fin 5120, y (ix2 a k) * w (ix3 0 b k) := by
  pointwise [Cert.MixNormRefIdeal.Read.val_main_v22, Cert.MixNormRefIdeal.Read.val_main_v21, Cert.MixNormRefIdeal.Read.val_main_v19, Cert.MixNormRefIdeal.Read.val_main_v18]

/-- The reference's gradient of the rows. -/
theorem referenceRows (y : Vec Ideal S8192x5120 .bf16) (w : Vec Ideal S1x1024x5120 .bf16) (x : Vec Ideal S8192x1024 .f32) (g : Vec Ideal S2x1x1024 .f32)
    (d : Vec Ideal S8192x1024 .f32) (a : Fin 8192) (b : Fin 1024) :
    Cert.MixNormRefIdeal.Read.val_main_v43 (F := Ideal) y w x g d (ix2 a b)
      = d (ix2 a b) + Mixer.rowChain (fun k => x (ix2 a k)) (fun k => Cert.MixNormRefIdeal.Read.val_main_v22 (F := Ideal) y w (ix2 a k) * g (ix3 1 0 k)) b := by
  pointwise [Cert.MixNormRefIdeal.Read.val_main_v43, Cert.MixNormRefIdeal.Read.val_main_v42, Cert.MixNormRefIdeal.Read.val_main_v41, Cert.MixNormRefIdeal.Read.val_main_v40, Cert.MixNormRefIdeal.Read.val_main_v39, Cert.MixNormRefIdeal.Read.val_main_v38, Cert.MixNormRefIdeal.Read.val_main_v37, Cert.MixNormRefIdeal.Read.val_main_v36, Cert.MixNormRefIdeal.Read.val_main_v35, Cert.MixNormRefIdeal.Read.val_main_v34, Cert.MixNormRefIdeal.Read.val_main_v33, Cert.MixNormRefIdeal.Read.val_main_v32, Cert.MixNormRefIdeal.Read.val_main_v31, Cert.MixNormRefIdeal.Read.val_main_v30, Cert.MixNormRefIdeal.Read.val_main_v29, Cert.MixNormRefIdeal.Read.val_main_v27, Cert.MixNormRefIdeal.Read.val_main_v26, Cert.MixNormRefIdeal.Read.val_main_v16, Cert.MixNormRefIdeal.Read.val_main_v15, Cert.MixNormRefIdeal.Read.val_main_v13, Cert.MixNormRefIdeal.Read.val_main_v12, Cert.MixNormRefIdeal.Read.val_main_v11, Cert.MixNormRefIdeal.Read.val_main_v10, Cert.MixNormRefIdeal.Read.val_main_v9, Cert.MixNormRefIdeal.Read.val_main_v8, Cert.MixNormRefIdeal.Read.val_main_v7, Cert.MixNormRefIdeal.Read.val_main_v6, Cert.MixNormRefIdeal.Read.val_main_v5, Cert.MixNormRefIdeal.Read.val_main_v4, Cert.MixNormRefIdeal.Read.val_main_v3, Cert.MixNormRefIdeal.Read.val_main_v2, Cert.MixNormRefIdeal.Read.val_main_v1, Cert.MixNormRefIdeal.Read.val_main_v0, Cert.MixNormRefIdeal.Read.val_main_cst, Cert.MixNormRefIdeal.Read.val_main_cst_0, Cert.MixNormRefIdeal.Read.val_main_cst_1, Cert.MixNormRefIdeal.Read.val_main_cst_2, Cert.MixNormRefIdeal.Read.val_main_cst_5, Cert.MixNormRefIdeal.Read.val_main_cst_6, Cert.MixNormRefIdeal.Read.val_main_cst_7, Mixer.rowChain, Mixer.rowPull, Mixer.rowRoot, Mixer.rowMean]
  simp only [Fin.sum_univ_one]

/-- The reference's rows over their roots. -/
theorem referenceUnit (x : Vec Ideal S8192x1024 .f32) (a : Fin 8192) (b : Fin 1024) :
    Cert.MixNormRefIdeal.Read.val_main_v14 (F := Ideal) x (ix2 a b) = Mixer.rowUnit (fun k => x (ix2 a k)) b := by
  pointwise [Cert.MixNormRefIdeal.Read.val_main_v14, Cert.MixNormRefIdeal.Read.val_main_v13, Cert.MixNormRefIdeal.Read.val_main_v9, Cert.MixNormRefIdeal.Read.val_main_v8, Cert.MixNormRefIdeal.Read.val_main_v7, Cert.MixNormRefIdeal.Read.val_main_v6, Cert.MixNormRefIdeal.Read.val_main_v5, Cert.MixNormRefIdeal.Read.val_main_v4, Cert.MixNormRefIdeal.Read.val_main_v3, Cert.MixNormRefIdeal.Read.val_main_v2, Cert.MixNormRefIdeal.Read.val_main_cst, Cert.MixNormRefIdeal.Read.val_main_cst_0, Cert.MixNormRefIdeal.Read.val_main_cst_1, Mixer.rowUnit, Mixer.rowRoot, Mixer.rowMean]

/-- The reference's gradient of the gain. -/
theorem referenceGain (y : Vec Ideal S8192x5120 .bf16) (w : Vec Ideal S1x1024x5120 .bf16) (x : Vec Ideal S8192x1024 .f32) (b : Fin 1024) :
    Cert.MixNormRefIdeal.Read.val_main_v28 (F := Ideal) y w x (ix1 b)
      = ∑ l : Fin 8192, Cert.MixNormRefIdeal.Read.val_main_v14 (F := Ideal) x (ix2 l b) * Cert.MixNormRefIdeal.Read.val_main_v22 (F := Ideal) y w (ix2 l b) := by
  pointwise [Cert.MixNormRefIdeal.Read.val_main_v28, Cert.MixNormRefIdeal.Read.val_main_v25, Cert.MixNormRefIdeal.Read.val_main_v24, Cert.MixNormRefIdeal.Read.val_main_v23, Cert.MixNormRefIdeal.Read.val_main_cst_3, Cert.MixNormRefIdeal.Read.val_main_cst_4]
  simp only [Fin.sum_univ_one]

theorem referenceFirst (y : Vec Ideal S8192x5120 .bf16) (w : Vec Ideal S1x1024x5120 .bf16) (x : Vec Ideal S8192x1024 .f32) (r : Fin 8) (b : Fin 1024) :
    Cert.MixNormRefIdeal.Read.val_main_v46 (F := Ideal) y w x (ix2 r b) = if r.val = 0 then Cert.MixNormRefIdeal.Read.val_main_v28 (F := Ideal) y w x (ix1 b) else 0 := by
  pointwise [Cert.MixNormRefIdeal.Read.val_main_v46, Cert.MixNormRefIdeal.Read.val_main_v45, Cert.MixNormRefIdeal.Read.val_main_v44, Cert.MixNormRefIdeal.Read.val_main_cst_8]
  simp only [Nat.lt_one_iff, dite_eq_ite]

/-- Where each window's block lies. -/
theorem place (t : Fin cfg0.N) : (win0_0.index t 0 = t.val / 4 ∧ win0_0.index t 1 = t.val % 4)
    ∧ (win0_1.index t 0 = 0 ∧ win0_1.index t 1 = 0 ∧ win0_1.index t 2 = t.val % 4)
    ∧ (win0_2.index t 0 = t.val / 4 ∧ win0_2.index t 1 = 0)
    ∧ (win0_3.index t 0 = 1 ∧ win0_3.index t 1 = 0 ∧ win0_3.index t 2 = 0)
    ∧ (win0_4.index t 0 = t.val / 4 ∧ win0_4.index t 1 = 0)
    ∧ (win0_5.index t 0 = t.val / 4 ∧ win0_5.index t 1 = 0)
    ∧ (win0_6.index t 0 = 0 ∧ win0_6.index t 1 = 0) :=
  (by decide +kernel : ∀ t : Fin grid0.N, (win0_0.index t 0 = t.val / 4 ∧ win0_0.index t 1 = t.val % 4)
    ∧ (win0_1.index t 0 = 0 ∧ win0_1.index t 1 = 0 ∧ win0_1.index t 2 = t.val % 4)
    ∧ (win0_2.index t 0 = t.val / 4 ∧ win0_2.index t 1 = 0)
    ∧ (win0_3.index t 0 = 1 ∧ win0_3.index t 1 = 0 ∧ win0_3.index t 2 = 0)
    ∧ (win0_4.index t 0 = t.val / 4 ∧ win0_4.index t 1 = 0)
    ∧ (win0_5.index t 0 = t.val / 4 ∧ win0_5.index t 1 = 0)
    ∧ (win0_6.index t 0 = 0 ∧ win0_6.index t 1 = 0)) t

/-- The upstream gradient. -/
abbrev up : Vec Ideal S8192x5120 .bf16 := m ((c : Thread nD τ).loc main_arg0)

/-- The weights. -/
abbrev w : Vec Ideal S1x1024x5120 .bf16 := m ((c : Thread nD τ).loc main_arg1)

/-- The rows before the norm. -/
abbrev x : Vec Ideal S8192x1024 .f32 := m ((c : Thread nD τ).loc main_arg2)

/-- The gains. -/
abbrev gain : Vec Ideal S2x1x1024 .f32 := m ((c : Thread nD τ).loc main_arg3)

/-- The gradient that is added to. -/
abbrev stream : Vec Ideal S8192x1024 .f32 := m ((c : Thread nD τ).loc main_arg4)

/-- The upstream gradient that a point takes. -/
abbrev upAt (t : Fin cfg0.N) : Vec Ideal S1024x1280 .bf16 := iblk m c 0 t

/-- The weights that a point takes. -/
abbrev weights (t : Fin cfg0.N) : Vec Ideal S1x1024x1280 .bf16 := iblk m c 1 t

/-- The rows that a point takes. -/
abbrev rows (t : Fin cfg0.N) : Vec Ideal S1024x1024 .f32 := iblk m c 2 t

/-- The gains that a point takes. -/
abbrev gainAt (t : Fin cfg0.N) : Vec Ideal S1x1x1024 .f32 := iblk m c 3 t

/-- The gradient that a point adds to. -/
abbrev streamAt (t : Fin cfg0.N) : Vec Ideal S1024x1024 .f32 := iblk m c 4 t

/-- The row of the arrays that is row `a` of a point's block. -/
abbrev row (t : Fin cfg0.N) (a : Fin 1024) : Fin 8192 := ⟨t.val / 4 * 1024 + a.val, by have h := t.isLt; have e : cfg0.N = 32 := N_0; omega⟩

/-- What the scratch holds after a point. -/
abbrev acc (n : ℕ) (h : n < cfg0.N) : Vec Ideal S1024x1024 .f32 := (outsAt0 m c n h).2.2

/-- The factors of a point's product. -/
abbrev factors (t : Fin cfg0.N) (k : Fin 1280) (a b : Fin 1024) : EReal := upAt m c t (ix2 a k) * weights m c t (ix3 0 b k)

theorem accFirst (t : Fin cfg0.N) (h0 : t.val % 4 = 0) (a b : Fin 1024) : acc m c t.val t.isLt (ix2 a b) = ∑ k, factors m c t k a b := by
  show (outsAt0 m c t.val t.isLt).2.2 (ix2 a b) = _
  rw [outsAt0_A m c t h0 (by omega) (by omega)]
  frame_out
  exact part _ _ a b

theorem accNext (t : Fin cfg0.N) (h0 : ¬ t.val % 4 = 0) (a b : Fin 1024) :
    acc m c t.val t.isLt (ix2 a b) = acc m c (t.val - 1) (Nat.lt_of_le_of_lt (Nat.sub_le _ _) t.isLt) (ix2 a b) + ∑ k, factors m c t k a b := by
  show (outsAt0 m c t.val t.isLt).2.2 (ix2 a b) = _
  by_cases h2 : t.val % 4 = 3
  on_goal 1 => by_cases h3 : t.val < 4
  on_goal 1 => rw [outsAt0_C m c t h0 (by omega) h2 h3]
  on_goal 2 => rw [outsAt0_D m c t h0 (by omega) h2 h3]
  on_goal 3 => rw [outsAt0_B m c t h0 (by omega) h2]
  all_goals
    frame_out
    refine (partNext _ _ _ a b).trans ?_
    exact congrArg (· + _) (congrFun ((Memref.isWhole_whole _).read_unread _) _)

/-- What the last point of a run writes back. -/
theorem last (t : Fin cfg0.N) (h2 : t.val % 4 = 3) (a b : Fin 1024) :
    (outsAt0 m c t.val t.isLt).1 (ix2 a b) = k0_pay8 (F := Ideal) (acc m c t.val t.isLt) (rows m c t) (gainAt m c t) (streamAt m c t) (ix2 a b) := by
  by_cases h3 : t.val < 4
  on_goal 1 => rw [acc, outsAt0_C m c t (by omega) (by omega) h2 h3]
  on_goal 2 => rw [acc, outsAt0_D m c t (by omega) (by omega) h2 h3]
  all_goals frame_out

/-- The scratch at the last point of a run is the reference's product in the rows that the run takes. -/
theorem total (t : Fin cfg0.N) (h2 : t.val % 4 = 3) (a b : Fin 1024) :
    acc m c t.val t.isLt (ix2 a b) = Cert.MixNormRefIdeal.Read.val_main_v22 (F := Ideal) (up m c) (w m c) (ix2 (row t a) b) := by
  rw [reference]
  refine Mixer.chunks_total (fun n h a b => acc m c n h (ix2 a b)) 4 1280 (factors m c) (accFirst m c) (accNext m c) t h2 a b _ rfl
    fun s k h h' => ?_
  have e := place ⟨4 * (t.val / 4) + s.val, h⟩
  have hs := s.isLt
  have hk := k.isLt
  have hd : (4 * (t.val / 4) + s.val) / 4 = t.val / 4 := by omega
  have hm : (4 * (t.val / 4) + s.val) % 4 = s.val := by omega
  unfold factors
  refine congrArg₂ (fun p q : EReal => p * q) ?_ ?_ <;> blk_ext [iblk, V, e, hd, hm]

theorem rows_eq (t : Fin cfg0.N) (a b : Fin 1024) : rows m c t (ix2 a b) = x m c (ix2 (row t a) b) := by
  have e := place t
  blk_ext [iblk, V, e]

theorem gain_eq (t : Fin cfg0.N) (b : Fin 1024) : gainAt m c t (ix3 0 0 b) = gain m c (ix3 1 0 b) := by
  have e := place t
  blk_ext [iblk, V, e]

theorem stream_eq (t : Fin cfg0.N) (a b : Fin 1024) : streamAt m c t (ix2 a b) = stream m c (ix2 (row t a) b) := by
  have e := place t
  blk_ext [iblk, V, e]

/-- The gradient of the rows at the last point of a run is the reference's, for real numbers. -/
theorem point (hy : ∀ i, ∃ r : ℝ, up m c i = (r : EReal)) (hw : ∀ i, ∃ r : ℝ, w m c i = (r : EReal)) (hx : ∀ i, ∃ r : ℝ, x m c i = (r : EReal))
    (hg : ∀ i, ∃ r : ℝ, gain m c i = (r : EReal)) (t : Fin cfg0.N) (h2 : t.val % 4 = 3) (a b : Fin 1024) :
    k0_pay8 (F := Ideal) (acc m c t.val t.isLt) (rows m c t) (gainAt m c t) (streamAt m c t) (ix2 a b)
      = Cert.MixNormRefIdeal.Read.val_main_v43 (F := Ideal) (up m c) (w m c) (x m c) (gain m c) (stream m c) (ix2 (row t a) b) := by
  rw [partRows, referenceRows, stream_eq, Mixer.rowChain_eq _ _ (fun k => hx _) (fun k => Mixer.real_mul ?_ (hg _))]
  · simp only [rows_eq, gain_eq, total m c t h2]
  · rw [reference]
    exact Mixer.real_sum_mul _ _ (fun k => hy _) (fun _ => hw _)

/-- The kernel's gradient of the rows is the reference's. -/
theorem gradRows (hy : ∀ i, ∃ r : ℝ, up m c i = (r : EReal)) (hw : ∀ i, ∃ r : ℝ, w m c i = (r : EReal)) (hx : ∀ i, ∃ r : ℝ, x m c i = (r : EReal))
    (hg : ∀ i, ∃ r : ℝ, gain m c i = (r : EReal)) :
    (dats m 0 c).arrAt 5 (cfgs 0).N = Cert.MixNormRefIdeal.Read.val_main_v43 (F := Ideal) (up m c) (w m c) (x m c) (gain m c) (stream m c) := by
  refine (dats m 0 c).arrAt_eq_of_covers 5 _ (by decide +kernel) fun t hf y => ?_
  have e := place t
  have h2 : t.val % 4 = 3 := (by decide +kernel : ∀ t : Fin grid0.N, win0_5.flush t = true → t.val % 4 = 3) t hf
  blk_simp [e]
  rw [after0_5]
  obtain ⟨a, b, rfl⟩ : ∃ (a : Fin 1024) (b : Fin 1024), y = ix2 a b :=
    ⟨y 0, y 1, by funext x; fin_cases x <;> rfl⟩
  rw [show (win0_5.blk t).view.emb (ix2 a b) = ix2 (row t a) b by
    funext x; apply Fin.ext; fin_cases x <;> blk_simp [e] <;> rfl]
  exact (last m c t h2 a b).trans (point m c hy hw hx hg t h2 a b)

/-- The part of the gradient of the gain from row `r` of a block, in the row `a` of its buffer. -/
def gainPart (t : Fin cfg0.N) (r : Fin 1024) (a : Fin 8) (b : Fin 1024) : EReal :=
  if a.val = 0 then Mixer.rowUnit (fun k => x m c (ix2 (row t r) k)) b * Cert.MixNormRefIdeal.Read.val_main_v22 (F := Ideal) (up m c) (w m c) (ix2 (row t r) b) else 0

/-- The product read at the last point of a run is the reference's. -/
theorem read (t : Fin cfg0.N) (h2 : t.val % 4 = 3) (a b : Fin 1024) :
    k0_pay3 (F := Ideal) (upAt m c t) (weights m c t) ((View.whole cc0_scratch0).read (Elt Idealize.ShloMosaic.Ideal)
        ((Memref.isWhole_whole cc0_scratch0).unread (acc m c (t.val - 1) (Nat.lt_of_le_of_lt (Nat.sub_le _ _) t.isLt)))) (ix2 a b)
      = Cert.MixNormRefIdeal.Read.val_main_v22 (F := Ideal) (up m c) (w m c) (ix2 (row t a) b) :=
  (partNext _ _ _ a b).trans ((congrArg (fun z : EReal => z + _) (congrFun ((Memref.isWhole_whole _).read_unread _) _)).trans
    ((accNext m c t (by omega) a b).symm.trans (total m c t h2 a b)))

/-- What the last point of a run puts in the first row. -/
theorem addGain (t : Fin cfg0.N) (p : Vec Ideal S1024x1024 .f32) (hp : ∀ a b, p (ix2 a b) = Cert.MixNormRefIdeal.Read.val_main_v22 (F := Ideal) (up m c) (w m c) (ix2 (row t a) b))
    (v : Vec Ideal S1x1024 .f32) (b : Fin 1024) :
    k0_pay4 (F := Ideal) (k0_pay9 v) (k0_pay10 p (rows m c t)) (ix2 0 b) = v (ix2 0 b) + ∑ r, gainPart m c t r 0 b := by
  rw [partGain]
  refine congrArg (_ + ·) (Finset.sum_congr rfl fun r _ => ?_)
  rw [hp, gainPart, if_pos (show (0 : Fin 8).val = 0 from rfl)]
  simp only [rows_eq]

theorem gainOther (t : Fin cfg0.N) (a : Fin 8) (b : Fin 1024) (h : a.val ≠ 0) : ∑ r, gainPart m c t r a b = 0 :=
  Finset.sum_eq_zero fun r _ => if_neg h

set_option maxHeartbeats 1000000 in
theorem gainFirst (t : Fin cfg0.N) (h2 : t.val % 4 = 3) (h3 : t.val < 4) (a : Fin 8) (b : Fin 1024) :
    (outsAt0 m c t.val t.isLt).2.1 (ix2 a b) = ∑ r, gainPart m c t r a b := by
  rw [outsAt0_C m c t (by omega) (by omega) h2 h3]
  frame_out
  refine Mixer.rows_set (S := fun a b => ∑ r, gainPart m c t r a b) (fun b => ?_) (fun _ _ => Cert.KernelIdeal.Mix.zero_word) (gainOther m c t) a b
  refine (addGain m c t _ (read m c t h2) _ b).trans ?_
  rw [Mixer.rows_zero _ fun _ _ => Cert.KernelIdeal.Mix.zero_word]
  exact zero_add _

set_option maxHeartbeats 1000000 in
theorem gainNext (t : Fin cfg0.N) (h2 : t.val % 4 = 3) (h3 : ¬ t.val < 4) (a : Fin 8) (b : Fin 1024) :
    (outsAt0 m c t.val t.isLt).2.1 (ix2 a b)
      = (outsAt0 m c (t.val - 1) (Nat.lt_of_le_of_lt (Nat.sub_le _ _) t.isLt)).2.1 (ix2 a b) + ∑ r, gainPart m c t r a b := by
  rw [outsAt0_D m c t (by omega) (by omega) h2 h3]
  frame_out
  exact Mixer.rows_add (S := fun a b => ∑ r, gainPart m c t r a b) _ _ ((hs0_6 t).read_unread _) (fun b => addGain m c t _ (read m c t h2) _ b) (gainOther m c t) a b

/-- The other points leave the buffer of the gain's gradient as it was. -/
theorem carry (t : Fin cfg0.N) (h2 : ¬ t.val % 4 = 3) :
    (outsAt0 m c t.val t.isLt).2.1 = (outsAt0 m c (t.val - 1) (Nat.lt_of_le_of_lt (Nat.sub_le _ _) t.isLt)).2.1 := by
  by_cases h0 : t.val % 4 = 0
  · exact congrArg (fun o => o.2.1) (outsAt0_A m c t h0 (by omega) h2)
  · exact congrArg (fun o => o.2.1) (outsAt0_B m c t h0 (by omega) h2)

/-- The kernel's gradient of the gain is the reference's. -/
theorem gradGain : (dats m 0 c).arrAt 6 (cfgs 0).N = Cert.MixNormRefIdeal.Read.val_main_v46 (F := Ideal) (up m c) (w m c) (x m c) := by
  refine (dats m 0 c).arrAt_eq_of_covers 6 _ (by decide +kernel) fun t hf y => ?_
  have e := place t
  have hl : t.val = 31 := (by decide +kernel : ∀ t : Fin grid0.N, win0_6.flush t = true → t.val = 31) t hf
  blk_simp [e]
  rw [after0_6]
  obtain ⟨a, b, rfl⟩ : ∃ (a : Fin 8) (b : Fin 1024), y = ix2 a b :=
    ⟨y 0, y 1, by funext x; fin_cases x <;> rfl⟩
  rw [show (win0_6.blk t).view.emb (ix2 a b) = ix2 a b by
    funext x; apply Fin.ext; fin_cases x <;> blk_simp [e] <;> rfl]
  rw [referenceFirst, referenceGain]
  refine (Mixer.runs_total (f := fun n h a b => (outsAt0 m c n h).2.1 (ix2 a b)) N_0 (gainPart m c) (gainFirst m c) (gainNext m c)
    (fun t h a b => congrFun (carry m c t h) (ix2 a b)) t hl a b
    (fun i : Fin 8192 => if a.val = 0 then Cert.MixNormRefIdeal.Read.val_main_v14 (F := Ideal) (x m c) (ix2 i b) * Cert.MixNormRefIdeal.Read.val_main_v22 (F := Ideal) (up m c) (w m c) (ix2 i b) else 0)
    fun s k h' => by simp only [gainPart, referenceUnit]).trans ?_
  by_cases ha : a.val = 0
  · simp only [if_pos ha]
  · simp only [if_neg ha, Finset.sum_const_zero]

/-- The shape relations of the precondition. -/
theorem preShapes : Cert.Pre_finite_mix_norm_bwd.Facts where
  bitsLt_bf16_f32 := by decide
  bcast_S_S8192x5120 := by decide
  reducesTo_S8192x5120_S_d0_1 := by decide
  h_S_ := by decide
  bcast_S_S1x1024x5120 := by decide
  reducesTo_S1x1024x5120_S_d0_1_2 := by decide
  bcast_S_S8192x1024 := by decide
  reducesTo_S8192x1024_S_d0_1 := by decide
  bcast_S_S2x1x1024 := by decide
  reducesTo_S2x1x1024_S_d0_1_2 := by decide

/-- The precondition says that the entries of the first four arrays are real numbers. -/
theorem finite [Cert.Pre_finite_mix_norm_bwd.Facts] {a0 : S8192x5120.Idx → EReal} {a1 : S1x1024x5120.Idx → EReal} {a2 : S8192x1024.Idx → EReal}
    {a3 : S2x1x1024.Idx → EReal} {a4 : S8192x1024.Idx → EReal} (e : Cert.Pre_finite_mix_norm_bwd.fn (F := Idealize.ShloMosaic.Ideal) a0 a1 a2 a3 a4 = fun _ => 1#1) :
    (∀ i, ∃ r : ℝ, a0 i = (r : EReal)) ∧ (∀ i, ∃ r : ℝ, a1 i = (r : EReal)) ∧ (∀ i, ∃ r : ℝ, a2 i = (r : EReal)) ∧ (∀ i, ∃ r : ℝ, a3 i = (r : EReal)) := by
  have e' := congrFun e (fun a => a.elim0)
  unfold Cert.Pre_finite_mix_norm_bwd.fn Cert.Pre_finite_mix_norm_bwd.fn_part1 at e'
  obtain ⟨e', h3⟩ := IntOp.andi_eq_one.1 e'
  obtain ⟨e', h2⟩ := IntOp.andi_eq_one.1 e'
  obtain ⟨h0, h1⟩ := IntOp.andi_eq_one.1 e'
  exact ⟨Cert.Pre_finite.reals a0 _ _ _ h0, Cert.Pre_finite.reals a1 _ _ _ h1, Cert.Pre_finite.reals a2 _ _ _ h2, Cert.Pre_finite.reals a3 _ _ _ h3⟩

theorem frameBits : @Cert.quiescent_MixNorm Cert.MixNorm.Gen.facts := fun m g _ => Cert.MixNorm.Gen.frame m g
theorem frameIdeal : @Cert.quiescent_MixNormIdeal Cert.MixNormIdeal.Gen.facts := fun m g _ => Cert.MixNormIdeal.Gen.frame m g
theorem frameRef : @Cert.quiescent_MixNormRefIdeal Cert.MixNormRefIdeal.Gen.facts := fun m g _ =>
  (θ_run _ _ _).mono (fun r h => ⟨fun c => (h c).2.2, sem_eq_zero_of_no_sems (by decide) _⟩) (Cert.MixNormRefIdeal.Value.run m g)

theorem algebraic : @Cert.algebraic_MixNormIdeal_MixNormRefIdeal_pre_finite_mix_norm_bwd Cert.MixNormIdeal.Gen.facts Cert.MixNormRefIdeal.Gen.facts preShapes := by
  haveI := preShapes
  pair_intro
  · run_from Cert.MixNormIdeal.Value.run_blocks m g
  · run_from Cert.MixNormRefIdeal.Value.run m' g'
    all_goals obtain ⟨a0, a1, a2, a3, a4⟩ := hagree c
    · refine (Cert.MixNormRefIdeal.Read.val_main_v43_eq (F := Idealize.ShloMosaic.Ideal) m' c).trans ?_
      obtain ⟨f0, f1, f2, f3⟩ := finite (hpre c)
      rw [a0, a1, a2, a3, a4]
      exact (gradRows m c f0 f1 f2 f3).symm
    · refine (Cert.MixNormRefIdeal.Read.val_main_v46_eq (F := Idealize.ShloMosaic.Ideal) _ _ _).trans ?_
      exact (gradGain m c).symm

end Cert.MixNormIdeal.Mix
-- ==== Proof.PleNorm.lean ====
module

public import proofs.«01_k».proof.Defs
public import proofs.«01_k».proof.Pre_finite_ple_norm_bwd
public import proofs.«01_k».proof.Proof.PreFinite
public import proofs.«01_k».proof.Proof.RowGrad
public import proofs.«01_k».proof.Proof.FirstRow
public import proofs.«01_k».proof.Proof.Gen.PleNorm.Frame
public import proofs.«01_k».proof.Proof.Gen.PleNormIdeal.Value
public import proofs.«01_k».proof.Proof.Gen.PleNormRefIdeal.Run
public import proofs.«01_k».proof.Proof.Gen.PleNormRefIdeal.Read
public import Idealize.ShloMosaic.Lib.Pipeline.ValueKit
public import Idealize.ShloMosaic.Lib.Quiescent
public import Idealize.ShloMosaic.Lib.Claim

/-!
The gradient through the norm after the product with the per-layer weights: of the rows, by way of the projection, and of the gain.
-/

@[expose] public section

set_option maxRecDepth 16384

noncomputable section

namespace Cert.PleNormIdeal.Mix

open Idealize.ShloMosaic Idealize.ShloMosaic.TcCoe Idealize.SL.Sem
open Cert.PleNormIdeal Cert.PleNormIdeal.Gen

variable (m : (ℓ : Loc nD τ sig) → Buf (Elt Idealize.ShloMosaic.Ideal) ℓ) (c : Dev nD)

/-- A point's product. -/
theorem part (y : Vec Ideal S1024x1024 .bf16) (w : Vec Ideal S1x1024x1024 .bf16) (a b : Fin 1024) :
    k0_pay2 (F := Ideal) y w (ix2 a b) = ∑ k : Fin 1024, y (ix2 a k) * w (ix3 0 b k) := by
  pointwise [k0_pay2]

/-- A point's gradient of the rows. -/
theorem partRows (y : Vec Ideal S1024x1024 .bf16) (w : Vec Ideal S1x1024x1024 .bf16) (x : Vec Ideal S1024x1024 .f32) (g : Vec Ideal S1x1x1024 .f32)
    (d : Vec Ideal S1024x1024 .f32) (a b : Fin 1024) :
    k0_pay6 (F := Ideal) y w x g d (ix2 a b)
      = d (ix2 a b) + Mixer.rowProj (fun k => x (ix2 a k)) (fun k => k0_pay2 (F := Ideal) y w (ix2 a k) * g (ix3 0 0 k)) b := by
  pointwise [k0_pay6, k0_pay5, k0_pay4, Mixer.rowProj, Mixer.rowUnit, Mixer.rowRoot, Mixer.rowMean]

/-- A point's rows over their roots. -/
theorem partUnit (x : Vec Ideal S1024x1024 .f32) (a b : Fin 1024) : k0_pay5 (F := Ideal) x (ix2 a b) = Mixer.rowUnit (fun k => x (ix2 a k)) b := by
  pointwise [k0_pay5, k0_pay4, Mixer.rowUnit, Mixer.rowRoot, Mixer.rowMean]

/-- A point's gradient of the gain, added to what was there. -/
theorem partGain (p u : FVec Ideal S1024x1024 .f32) (v : Vec Ideal S1x1024 .f32) (b : Fin 1024) :
    k0_pay1 (F := Ideal) p u v (ix2 0 b) = v (ix2 0 b) + ∑ r : Fin 1024, u (ix2 r b) * p (ix2 r b) := by
  pointwise [k0_pay1]
  exact congrArg (v (ix2 0 b) + ·) (Finset.sum_congr rfl fun _ _ => mul_comm (_ : EReal) _)

/-- The reference's product. -/
theorem reference (y : Vec Ideal S8192x1024 .bf16) (w : Vec Ideal S1x1024x1024 .bf16) (a : Fin 8192) (b : Fin 1024) :
    Cert.PleNormRefIdeal.Read.val_main_v22 (F := Ideal) y w (ix2 a b) = ∑ k : Fin 1024, y (ix2 a k) * w (ix3 0 b k) := by
  pointwise [Cert.PleNormRefIdeal.Read.val_main_v22, Cert.PleNormRefIdeal.Read.val_main_v21, Cert.PleNormRefIdeal.Read.val_main_v19, Cert.PleNormRefIdeal.Read.val_main_v18]

/-- The reference's gradient of the rows. -/
theorem referenceRows (y : Vec Ideal S8192x1024 .bf16) (w : Vec Ideal S1x1024x1024 .bf16) (x : Vec Ideal S8192x1024 .f32) (g : Vec Ideal S2x1x1024 .f32)
    (d : Vec Ideal S8192x1024 .f32) (a : Fin 8192) (b : Fin 1024) :
    Cert.PleNormRefIdeal.Read.val_main_v43 (F := Ideal) y w x g d (ix2 a b)
      = d (ix2 a b) + Mixer.rowChain (fun k => x (ix2 a k)) (fun k => Cert.PleNormRefIdeal.Read.val_main_v22 (F := Ideal) y w (ix2 a k) * g (ix3 1 0 k)) b := by
  pointwise [Cert.PleNormRefIdeal.Read.val_main_v43, Cert.PleNormRefIdeal.Read.val_main_v42, Cert.PleNormRefIdeal.Read.val_main_v41, Cert.PleNormRefIdeal.Read.val_main_v40, Cert.PleNormRefIdeal.Read.val_main_v39, Cert.PleNormRefIdeal.Read.val_main_v38, Cert.PleNormRefIdeal.Read.val_main_v37, Cert.PleNormRefIdeal.Read.val_main_v36, Cert.PleNormRefIdeal.Read.val_main_v35, Cert.PleNormRefIdeal.Read.val_main_v34, Cert.PleNormRefIdeal.Read.val_main_v33, Cert.PleNormRefIdeal.Read.val_main_v32, Cert.PleNormRefIdeal.Read.val_main_v31, Cert.PleNormRefIdeal.Read.val_main_v30, Cert.PleNormRefIdeal.Read.val_main_v29, Cert.PleNormRefIdeal.Read.val_main_v27, Cert.PleNormRefIdeal.Read.val_main_v26, Cert.PleNormRefIdeal.Read.val_main_v16, Cert.PleNormRefIdeal.Read.val_main_v15, Cert.PleNormRefIdeal.Read.val_main_v13, Cert.PleNormRefIdeal.Read.val_main_v12, Cert.PleNormRefIdeal.Read.val_main_v11, Cert.PleNormRefIdeal.Read.val_main_v10, Cert.PleNormRefIdeal.Read.val_main_v9, Cert.PleNormRefIdeal.Read.val_main_v8, Cert.PleNormRefIdeal.Read.val_main_v7, Cert.PleNormRefIdeal.Read.val_main_v6, Cert.PleNormRefIdeal.Read.val_main_v5, Cert.PleNormRefIdeal.Read.val_main_v4, Cert.PleNormRefIdeal.Read.val_main_v3, Cert.PleNormRefIdeal.Read.val_main_v2, Cert.PleNormRefIdeal.Read.val_main_v1, Cert.PleNormRefIdeal.Read.val_main_v0, Cert.PleNormRefIdeal.Read.val_main_cst, Cert.PleNormRefIdeal.Read.val_main_cst_0, Cert.PleNormRefIdeal.Read.val_main_cst_1, Cert.PleNormRefIdeal.Read.val_main_cst_2, Cert.PleNormRefIdeal.Read.val_main_cst_5, Cert.PleNormRefIdeal.Read.val_main_cst_6, Cert.PleNormRefIdeal.Read.val_main_cst_7, Mixer.rowChain, Mixer.rowPull, Mixer.rowRoot, Mixer.rowMean]
  simp only [Fin.sum_univ_one]

/-- The reference's rows over their roots. -/
theorem referenceUnit (x : Vec Ideal S8192x1024 .f32) (a : Fin 8192) (b : Fin 1024) :
    Cert.PleNormRefIdeal.Read.val_main_v14 (F := Ideal) x (ix2 a b) = Mixer.rowUnit (fun k => x (ix2 a k)) b := by
  pointwise [Cert.PleNormRefIdeal.Read.val_main_v14, Cert.PleNormRefIdeal.Read.val_main_v13, Cert.PleNormRefIdeal.Read.val_main_v9, Cert.PleNormRefIdeal.Read.val_main_v8, Cert.PleNormRefIdeal.Read.val_main_v7, Cert.PleNormRefIdeal.Read.val_main_v6, Cert.PleNormRefIdeal.Read.val_main_v5, Cert.PleNormRefIdeal.Read.val_main_v4, Cert.PleNormRefIdeal.Read.val_main_v3, Cert.PleNormRefIdeal.Read.val_main_v2, Cert.PleNormRefIdeal.Read.val_main_cst, Cert.PleNormRefIdeal.Read.val_main_cst_0, Cert.PleNormRefIdeal.Read.val_main_cst_1, Mixer.rowUnit, Mixer.rowRoot, Mixer.rowMean]

/-- The reference's gradient of the gain. -/
theorem referenceGain (y : Vec Ideal S8192x1024 .bf16) (w : Vec Ideal S1x1024x1024 .bf16) (x : Vec Ideal S8192x1024 .f32) (b : Fin 1024) :
    Cert.PleNormRefIdeal.Read.val_main_v28 (F := Ideal) y w x (ix1 b)
      = ∑ l : Fin 8192, Cert.PleNormRefIdeal.Read.val_main_v14 (F := Ideal) x (ix2 l b) * Cert.PleNormRefIdeal.Read.val_main_v22 (F := Ideal) y w (ix2 l b) := by
  pointwise [Cert.PleNormRefIdeal.Read.val_main_v28, Cert.PleNormRefIdeal.Read.val_main_v25, Cert.PleNormRefIdeal.Read.val_main_v24, Cert.PleNormRefIdeal.Read.val_main_v23, Cert.PleNormRefIdeal.Read.val_main_cst_3, Cert.PleNormRefIdeal.Read.val_main_cst_4]
  simp only [Fin.sum_univ_one]

theorem referenceFirst (y : Vec Ideal S8192x1024 .bf16) (w : Vec Ideal S1x1024x1024 .bf16) (x : Vec Ideal S8192x1024 .f32) (r : Fin 8) (b : Fin 1024) :
    Cert.PleNormRefIdeal.Read.val_main_v46 (F := Ideal) y w x (ix2 r b)
      = if r.val = 0 then Cert.PleNormRefIdeal.Read.val_main_v28 (F := Ideal) y w x (ix1 b) else 0 := by
  pointwise [Cert.PleNormRefIdeal.Read.val_main_v46, Cert.PleNormRefIdeal.Read.val_main_v45, Cert.PleNormRefIdeal.Read.val_main_v44, Cert.PleNormRefIdeal.Read.val_main_cst_8]
  simp only [Nat.lt_one_iff, dite_eq_ite]

/-- Where each window's block lies. -/
theorem place (t : Fin cfg0.N) : (win0_0.index t 0 = t.val ∧ win0_0.index t 1 = 0)
    ∧ (win0_1.index t 0 = 0 ∧ win0_1.index t 1 = 0 ∧ win0_1.index t 2 = 0)
    ∧ (win0_2.index t 0 = t.val ∧ win0_2.index t 1 = 0)
    ∧ (win0_3.index t 0 = 1 ∧ win0_3.index t 1 = 0 ∧ win0_3.index t 2 = 0)
    ∧ (win0_4.index t 0 = t.val ∧ win0_4.index t 1 = 0)
    ∧ (win0_5.index t 0 = t.val ∧ win0_5.index t 1 = 0)
    ∧ (win0_6.index t 0 = 0 ∧ win0_6.index t 1 = 0) :=
  (by decide +kernel : ∀ t : Fin grid0.N, (win0_0.index t 0 = t.val ∧ win0_0.index t 1 = 0)
    ∧ (win0_1.index t 0 = 0 ∧ win0_1.index t 1 = 0 ∧ win0_1.index t 2 = 0)
    ∧ (win0_2.index t 0 = t.val ∧ win0_2.index t 1 = 0)
    ∧ (win0_3.index t 0 = 1 ∧ win0_3.index t 1 = 0 ∧ win0_3.index t 2 = 0)
    ∧ (win0_4.index t 0 = t.val ∧ win0_4.index t 1 = 0)
    ∧ (win0_5.index t 0 = t.val ∧ win0_5.index t 1 = 0)
    ∧ (win0_6.index t 0 = 0 ∧ win0_6.index t 1 = 0)) t

/-- The upstream gradient. -/
abbrev up : Vec Ideal S8192x1024 .bf16 := m ((c : Thread nD τ).loc main_arg0)

/-- The weights. -/
abbrev w : Vec Ideal S1x1024x1024 .bf16 := m ((c : Thread nD τ).loc main_arg1)

/-- The rows before the norm. -/
abbrev x : Vec Ideal S8192x1024 .f32 := m ((c : Thread nD τ).loc main_arg2)

/-- The gains. -/
abbrev gain : Vec Ideal S2x1x1024 .f32 := m ((c : Thread nD τ).loc main_arg3)

/-- The gradient that is added to. -/
abbrev stream : Vec Ideal S8192x1024 .f32 := m ((c : Thread nD τ).loc main_arg4)

/-- The upstream gradient that a point takes. -/
abbrev upAt (t : Fin cfg0.N) : Vec Ideal S1024x1024 .bf16 := iblk m c 0 t

/-- The weights that a point takes. -/
abbrev weights (t : Fin cfg0.N) : Vec Ideal S1x1024x1024 .bf16 := iblk m c 1 t

/-- The rows that a point takes. -/
abbrev rows (t : Fin cfg0.N) : Vec Ideal S1024x1024 .f32 := iblk m c 2 t

/-- The gains that a point takes. -/
abbrev gainAt (t : Fin cfg0.N) : Vec Ideal S1x1x1024 .f32 := iblk m c 3 t

/-- The gradient that a point adds to. -/
abbrev streamAt (t : Fin cfg0.N) : Vec Ideal S1024x1024 .f32 := iblk m c 4 t

/-- The row of the arrays that is row `a` of a point's block. -/
abbrev row (t : Fin cfg0.N) (a : Fin 1024) : Fin 8192 := ⟨t.val * 1024 + a.val, by have h := t.isLt; have e : cfg0.N = 8 := N_0; omega⟩

/-- A point's product is the reference's in the rows that it takes. -/
theorem total (t : Fin cfg0.N) (a b : Fin 1024) :
    k0_pay2 (F := Ideal) (upAt m c t) (weights m c t) (ix2 a b) = Cert.PleNormRefIdeal.Read.val_main_v22 (F := Ideal) (up m c) (w m c) (ix2 (row t a) b) := by
  rw [part, reference]
  have e := place t
  refine Finset.sum_congr rfl fun k _ => ?_
  congr 1 <;> blk_ext [iblk, V, e]

theorem rows_eq (t : Fin cfg0.N) (a b : Fin 1024) : rows m c t (ix2 a b) = x m c (ix2 (row t a) b) := by
  have e := place t
  blk_ext [iblk, V, e]

theorem gain_eq (t : Fin cfg0.N) (b : Fin 1024) : gainAt m c t (ix3 0 0 b) = gain m c (ix3 1 0 b) := by
  have e := place t
  blk_ext [iblk, V, e]

theorem stream_eq (t : Fin cfg0.N) (a b : Fin 1024) : streamAt m c t (ix2 a b) = stream m c (ix2 (row t a) b) := by
  have e := place t
  blk_ext [iblk, V, e]

/-- A point's gradient of the rows is the reference's, for real numbers. -/
theorem point (hy : ∀ i, ∃ r : ℝ, up m c i = (r : EReal)) (hw : ∀ i, ∃ r : ℝ, w m c i = (r : EReal)) (hx : ∀ i, ∃ r : ℝ, x m c i = (r : EReal))
    (hg : ∀ i, ∃ r : ℝ, gain m c i = (r : EReal)) (t : Fin cfg0.N) (a b : Fin 1024) :
    k0_pay6 (F := Ideal) (upAt m c t) (weights m c t) (rows m c t) (gainAt m c t) (streamAt m c t) (ix2 a b)
      = Cert.PleNormRefIdeal.Read.val_main_v43 (F := Ideal) (up m c) (w m c) (x m c) (gain m c) (stream m c) (ix2 (row t a) b) := by
  rw [partRows, referenceRows, stream_eq, Mixer.rowChain_eq _ _ (fun k => hx _) (fun k => Mixer.real_mul ?_ (hg _))]
  · simp only [rows_eq, gain_eq, total]
  · rw [reference]
    exact Mixer.real_sum_mul _ _ (fun _ => hy _) (fun _ => hw _)

/-- The kernel's gradient of the rows is the reference's. -/
theorem gradRows (hy : ∀ i, ∃ r : ℝ, up m c i = (r : EReal)) (hw : ∀ i, ∃ r : ℝ, w m c i = (r : EReal)) (hx : ∀ i, ∃ r : ℝ, x m c i = (r : EReal))
    (hg : ∀ i, ∃ r : ℝ, gain m c i = (r : EReal)) :
    (dats m 0 c).arrAt 5 (cfgs 0).N = Cert.PleNormRefIdeal.Read.val_main_v43 (F := Ideal) (up m c) (w m c) (x m c) (gain m c) (stream m c) := by
  refine (dats m 0 c).arrAt_eq_of_covers 5 _ (by decide +kernel) fun t hf y => ?_
  have e := place t
  blk_simp [e]
  rw [after0_5]
  obtain ⟨a, b, rfl⟩ : ∃ (a : Fin 1024) (b : Fin 1024), y = ix2 a b :=
    ⟨y 0, y 1, by funext x; fin_cases x <;> rfl⟩
  rw [show (win0_5.blk t).view.emb (ix2 a b) = ix2 (row t a) b by
    funext x; apply Fin.ext; fin_cases x <;> blk_simp [e] <;> rfl]
  by_cases h0 : t.val % 8 = 0
  on_goal 1 => rw [outsAt0_A m c t h0]
  on_goal 2 => rw [outsAt0_B m c t h0]
  all_goals
    frame_out
    exact point m c hy hw hx hg t a b

/-- A point's part of the gradient of the gain, at its row `r`. -/
def gainPart (t : Fin cfg0.N) (r : Fin 1024) (a : Fin 8) (b : Fin 1024) : EReal :=
  if a.val = 0 then Mixer.rowUnit (fun k => x m c (ix2 (row t r) k)) b * Cert.PleNormRefIdeal.Read.val_main_v22 (F := Ideal) (up m c) (w m c) (ix2 (row t r) b) else 0

/-- What a point puts in the first row. -/
theorem addGain (t : Fin cfg0.N) (v : Vec Ideal S1x1024 .f32) (b : Fin 1024) :
    k0_pay1 (F := Ideal) (k0_pay2 (upAt m c t) (weights m c t)) (k0_pay5 (rows m c t)) v (ix2 0 b) = v (ix2 0 b) + ∑ r, gainPart m c t r 0 b := by
  rw [partGain]
  refine congrArg (_ + ·) (Finset.sum_congr rfl fun r _ => ?_)
  rw [partUnit, total, gainPart, if_pos (show (0 : Fin 8).val = 0 from rfl)]
  simp only [rows_eq]

theorem gainOther (t : Fin cfg0.N) (a : Fin 8) (b : Fin 1024) (h : a.val ≠ 0) : ∑ r, gainPart m c t r a b = 0 :=
  Finset.sum_eq_zero fun r _ => if_neg h

set_option maxHeartbeats 1000000 in
theorem first (t : Fin cfg0.N) (h0 : t.val % 8 = 0) (a : Fin 8) (b : Fin 1024) :
    (outsAt0 m c t.val t.isLt).2 (ix2 a b) = ∑ r, gainPart m c t r a b := by
  rw [outsAt0_A m c t h0]
  frame_out
  refine Mixer.rows_set (S := fun a b => ∑ r, gainPart m c t r a b) (fun b => ?_) (fun _ _ => Cert.KernelIdeal.Mix.zero_word) (gainOther m c t) a b
  refine (addGain m c t _ b).trans ?_
  rw [Mixer.rows_zero _ fun _ _ => Cert.KernelIdeal.Mix.zero_word]
  exact zero_add _

set_option maxHeartbeats 1000000 in
theorem next (t : Fin cfg0.N) (h0 : ¬ t.val % 8 = 0) (a : Fin 8) (b : Fin 1024) :
    (outsAt0 m c t.val t.isLt).2 (ix2 a b)
      = (outsAt0 m c (t.val - 1) (Nat.lt_of_le_of_lt (Nat.sub_le _ _) t.isLt)).2 (ix2 a b) + ∑ r, gainPart m c t r a b := by
  rw [outsAt0_B m c t h0]
  frame_out
  exact Mixer.rows_add (S := fun a b => ∑ r, gainPart m c t r a b) _ _ ((hs0_6 t).read_unread _) (fun b => addGain m c t _ b) (gainOther m c t) a b

/-- The kernel's gradient of the gain is the reference's. -/
theorem gradGain : (dats m 0 c).arrAt 6 (cfgs 0).N = Cert.PleNormRefIdeal.Read.val_main_v46 (F := Ideal) (up m c) (w m c) (x m c) := by
  refine (dats m 0 c).arrAt_eq_of_covers 6 _ (by decide +kernel) fun t hf y => ?_
  have e := place t
  have hl : t.val % 8 = 7 := (by decide +kernel : ∀ t : Fin grid0.N, win0_6.flush t = true → t.val % 8 = 7) t hf
  blk_simp [e]
  rw [after0_6]
  obtain ⟨a, b, rfl⟩ : ∃ (a : Fin 8) (b : Fin 1024), y = ix2 a b :=
    ⟨y 0, y 1, by funext x; fin_cases x <;> rfl⟩
  rw [show (win0_6.blk t).view.emb (ix2 a b) = ix2 a b by
    funext x; apply Fin.ext; fin_cases x <;> blk_simp [e] <;> rfl]
  rw [referenceFirst, referenceGain]
  refine (Mixer.chunks_total (fun n h a b => (outsAt0 m c n h).2 (ix2 a b)) 8 1024 (gainPart m c) (first m c) (next m c) t (by omega) a b
    (fun l : Fin 8192 => if a.val = 0 then Cert.PleNormRefIdeal.Read.val_main_v14 (F := Ideal) (x m c) (ix2 l b) * Cert.PleNormRefIdeal.Read.val_main_v22 (F := Ideal) (up m c) (w m c) (ix2 l b) else 0)
    rfl fun s k h h' => ?_).trans ?_
  · have ht : t.val / 8 = 0 := by have h := t.isLt; have e : cfg0.N = 8 := N_0; omega
    have er : row ⟨8 * (t.val / 8) + s.val, h⟩ k = ⟨s.val * 1024 + k.val, h'⟩ := Fin.ext (by show (8 * (t.val / 8) + s.val) * 1024 + k.val = _; rw [ht]; simp)
    simp only [gainPart, referenceUnit, er]
  · by_cases ha : a.val = 0
    · simp only [if_pos ha]
    · simp only [if_neg ha, Finset.sum_const_zero]

/-- The shape relations of the precondition. -/
theorem preShapes : Cert.Pre_finite_ple_norm_bwd.Facts where
  bitsLt_bf16_f32 := by decide
  bcast_S_S8192x1024 := by decide
  reducesTo_S8192x1024_S_d0_1 := by decide
  h_S_ := by decide
  bcast_S_S1x1024x1024 := by decide
  reducesTo_S1x1024x1024_S_d0_1_2 := by decide
  bcast_S_S2x1x1024 := by decide
  reducesTo_S2x1x1024_S_d0_1_2 := by decide

/-- The precondition says that the entries of the first four arrays are real numbers. -/
theorem finite [Cert.Pre_finite_ple_norm_bwd.Facts] {a0 : S8192x1024.Idx → EReal} {a1 : S1x1024x1024.Idx → EReal} {a2 : S8192x1024.Idx → EReal}
    {a3 : S2x1x1024.Idx → EReal} {a4 : S8192x1024.Idx → EReal} (e : Cert.Pre_finite_ple_norm_bwd.fn (F := Idealize.ShloMosaic.Ideal) a0 a1 a2 a3 a4 = fun _ => 1#1) :
    (∀ i, ∃ r : ℝ, a0 i = (r : EReal)) ∧ (∀ i, ∃ r : ℝ, a1 i = (r : EReal)) ∧ (∀ i, ∃ r : ℝ, a2 i = (r : EReal)) ∧ (∀ i, ∃ r : ℝ, a3 i = (r : EReal)) := by
  have e' := congrFun e (fun a => a.elim0)
  unfold Cert.Pre_finite_ple_norm_bwd.fn Cert.Pre_finite_ple_norm_bwd.fn_part1 at e'
  obtain ⟨e', h3⟩ := IntOp.andi_eq_one.1 e'
  obtain ⟨e', h2⟩ := IntOp.andi_eq_one.1 e'
  obtain ⟨h0, h1⟩ := IntOp.andi_eq_one.1 e'
  exact ⟨Cert.Pre_finite.reals a0 _ _ _ h0, Cert.Pre_finite.reals a1 _ _ _ h1, Cert.Pre_finite.reals a2 _ _ _ h2, Cert.Pre_finite.reals a3 _ _ _ h3⟩

theorem frameBits : @Cert.quiescent_PleNorm Cert.PleNorm.Gen.facts := fun m g _ => Cert.PleNorm.Gen.frame m g
theorem frameIdeal : @Cert.quiescent_PleNormIdeal Cert.PleNormIdeal.Gen.facts := fun m g _ => Cert.PleNormIdeal.Gen.frame m g
theorem frameRef : @Cert.quiescent_PleNormRefIdeal Cert.PleNormRefIdeal.Gen.facts := fun m g _ =>
  (θ_run _ _ _).mono (fun r h => ⟨fun c => (h c).2.2, sem_eq_zero_of_no_sems (by decide) _⟩) (Cert.PleNormRefIdeal.Value.run m g)

theorem algebraic : @Cert.algebraic_PleNormIdeal_PleNormRefIdeal_pre_finite_ple_norm_bwd Cert.PleNormIdeal.Gen.facts Cert.PleNormRefIdeal.Gen.facts preShapes := by
  haveI := preShapes
  pair_intro
  · run_from Cert.PleNormIdeal.Value.run_blocks m g
  · run_from Cert.PleNormRefIdeal.Value.run m' g'
    all_goals obtain ⟨a0, a1, a2, a3, a4⟩ := hagree c
    · refine (Cert.PleNormRefIdeal.Read.val_main_v43_eq (F := Idealize.ShloMosaic.Ideal) m' c).trans ?_
      obtain ⟨f0, f1, f2, f3⟩ := finite (hpre c)
      show Cert.PleNormRefIdeal.Read.val_main_v43 (F := Idealize.ShloMosaic.Ideal) (m' ((c.tc : Thread Cert.PleNormRefIdeal.nD Cert.PleNormRefIdeal.τ).loc Cert.PleNormRefIdeal.main_arg0)) _ _ _ _ = _
      rw [a0, a1, a2, a3, a4]
      exact (gradRows m c f0 f1 f2 f3).symm
    · refine (Cert.PleNormRefIdeal.Read.val_main_v46_eq (F := Idealize.ShloMosaic.Ideal) _ _ _).trans ?_
      exact (gradGain m c).symm

end Cert.PleNormIdeal.Mix
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal.Run
public import proofs.«01_k».proof.Proof.Gen.ReferenceIdeal.Read
public import proofs.«01_k».proof.Proof.Gen.WUp
public import proofs.«01_k».proof.Proof.Gen.WUp.Skeleton
public import proofs.«01_k».proof.Proof.Gen.WUp.Launch
public import proofs.«01_k».proof.Proof.Gen.WUp.Points
public import proofs.«01_k».proof.Proof.Gen.WUp.Frame
public import proofs.«01_k».proof.Proof.Gen.WUpIdeal
public import proofs.«01_k».proof.Proof.Gen.WUpIdeal.Skeleton
public import proofs.«01_k».proof.Proof.Gen.WUpIdeal.Launch
public import proofs.«01_k».proof.Proof.Gen.WUpIdeal.Points
public import proofs.«01_k».proof.Proof.Gen.WUpIdeal.Frame
public import proofs.«01_k».proof.Proof.Gen.WUpIdeal.Value
public import proofs.«01_k».proof.Proof.Gen.WUpRefIdeal
public import proofs.«01_k».proof.Proof.Gen.WUpRefIdeal.Run
public import proofs.«01_k».proof.Proof.Gen.WUpRefIdeal.Read
public import proofs.«01_k».proof.Proof.Gen.WIn
public import proofs.«01_k».proof.Proof.Gen.WIn.Skeleton
public import proofs.«01_k».proof.Proof.Gen.WIn.Launch
public import proofs.«01_k».proof.Proof.Gen.WIn.Points
public import proofs.«01_k».proof.Proof.Gen.WIn.Frame
public import proofs.«01_k».proof.Proof.Gen.WInIdeal
public import proofs.«01_k».proof.Proof.Gen.WInIdeal.Skeleton
public import proofs.«01_k».proof.Proof.Gen.WInIdeal.Launch
public import proofs.«01_k».proof.Proof.Gen.WInIdeal.Points
public import proofs.«01_k».proof.Proof.Gen.WInIdeal.Frame
public import proofs.«01_k».proof.Proof.Gen.WInIdeal.Value
public import proofs.«01_k».proof.Proof.Gen.WInRefIdeal
public import proofs.«01_k».proof.Proof.Gen.WInRefIdeal.Run
public import proofs.«01_k».proof.Proof.Gen.WInRefIdeal.Read
public import proofs.«01_k».proof.Proof.Gen.WDown
public import proofs.«01_k».proof.Proof.Gen.WDown.Skeleton
public import proofs.«01_k».proof.Proof.Gen.WDown.Launch
public import proofs.«01_k».proof.Proof.Gen.WDown.Points
public import proofs.«01_k».proof.Proof.Gen.WDown.Frame
public import proofs.«01_k».proof.Proof.Gen.WDownIdeal
public import proofs.«01_k».proof.Proof.Gen.WDownIdeal.Skeleton
public import proofs.«01_k».proof.Proof.Gen.WDownIdeal.Launch
public import proofs.«01_k».proof.Proof.Gen.WDownIdeal.Points
public import proofs.«01_k».proof.Proof.Gen.WDownIdeal.Frame
public import proofs.«01_k».proof.Proof.Gen.WDownIdeal.Value
public import proofs.«01_k».proof.Proof.Gen.WDownRefIdeal
public import proofs.«01_k».proof.Proof.Gen.WDownRefIdeal.Run
public import proofs.«01_k».proof.Proof.Gen.WDownRefIdeal.Read
public import proofs.«01_k».proof.Proof.Gen.WOut
public import proofs.«01_k».proof.Proof.Gen.WOut.Skeleton
public import proofs.«01_k».proof.Proof.Gen.WOut.Launch
public import proofs.«01_k».proof.Proof.Gen.WOut.Points
public import proofs.«01_k».proof.Proof.Gen.WOut.Frame
public import proofs.«01_k».proof.Proof.Gen.WOutIdeal
public import proofs.«01_k».proof.Proof.Gen.WOutIdeal.Skeleton
public import proofs.«01_k».proof.Proof.Gen.WOutIdeal.Launch
public import proofs.«01_k».proof.Proof.Gen.WOutIdeal.Points
public import proofs.«01_k».proof.Proof.Gen.WOutIdeal.Frame
public import proofs.«01_k».proof.Proof.Gen.WOutIdeal.Value
public import proofs.«01_k».proof.Proof.Gen.WOutRefIdeal
public import proofs.«01_k».proof.Proof.Gen.WOutRefIdeal.Run
public import proofs.«01_k».proof.Proof.Gen.WOutRefIdeal.Read
public import proofs.«01_k».proof.Proof.Gen.WPleGate
public import proofs.«01_k».proof.Proof.Gen.WPleGate.Skeleton
public import proofs.«01_k».proof.Proof.Gen.WPleGate.Launch
public import proofs.«01_k».proof.Proof.Gen.WPleGate.Points
public import proofs.«01_k».proof.Proof.Gen.WPleGate.Frame
public import proofs.«01_k».proof.Proof.Gen.WPleGateIdeal
public import proofs.«01_k».proof.Proof.Gen.WPleGateIdeal.Skeleton
public import proofs.«01_k».proof.Proof.Gen.WPleGateIdeal.Launch
public import proofs.«01_k».proof.Proof.Gen.WPleGateIdeal.Points
public import proofs.«01_k».proof.Proof.Gen.WPleGateIdeal.Frame
public import proofs.«01_k».proof.Proof.Gen.WPleGateIdeal.Value
public import proofs.«01_k».proof.Proof.Gen.WPleGateRefIdeal
public import proofs.«01_k».proof.Proof.Gen.WPleGateRefIdeal.Run
public import proofs.«01_k».proof.Proof.Gen.WPleGateRefIdeal.Read
public import proofs.«01_k».proof.Proof.Gen.WBranchA
public import proofs.«01_k».proof.Proof.Gen.WBranchA.Skeleton
public import proofs.«01_k».proof.Proof.Gen.WBranchA.Launch
public import proofs.«01_k».proof.Proof.Gen.WBranchA.Points
public import proofs.«01_k».proof.Proof.Gen.WBranchA.Frame
public import proofs.«01_k».proof.Proof.Gen.WBranchAIdeal
public import proofs.«01_k».proof.Proof.Gen.WBranchAIdeal.Skeleton
public import proofs.«01_k».proof.Proof.Gen.WBranchAIdeal.Launch
public import proofs.«01_k».proof.Proof.Gen.WBranchAIdeal.Points
public import proofs.«01_k».proof.Proof.Gen.WBranchAIdeal.Frame
public import proofs.«01_k».proof.Proof.Gen.WBranchAIdeal.Value
public import proofs.«01_k».proof.Proof.Gen.WBranchARefIdeal
public import proofs.«01_k».proof.Proof.Gen.WBranchARefIdeal.Run
public import proofs.«01_k».proof.Proof.Gen.WBranchARefIdeal.Read
public import proofs.«01_k».proof.Proof.Gen.WBranchB
public import proofs.«01_k».proof.Proof.Gen.WBranchB.Skeleton
public import proofs.«01_k».proof.Proof.Gen.WBranchB.Launch
public import proofs.«01_k».proof.Proof.Gen.WBranchB.Points
public import proofs.«01_k».proof.Proof.Gen.WBranchB.Frame
public import proofs.«01_k».proof.Proof.Gen.WBranchBIdeal
public import proofs.«01_k».proof.Proof.Gen.WBranchBIdeal.Skeleton
public import proofs.«01_k».proof.Proof.Gen.WBranchBIdeal.Launch
public import proofs.«01_k».proof.Proof.Gen.WBranchBIdeal.Points
public import proofs.«01_k».proof.Proof.Gen.WBranchBIdeal.Frame
public import proofs.«01_k».proof.Proof.Gen.WBranchBIdeal.Value
public import proofs.«01_k».proof.Proof.Gen.WBranchBRefIdeal
public import proofs.«01_k».proof.Proof.Gen.WBranchBRefIdeal.Run
public import proofs.«01_k».proof.Proof.Gen.WBranchBRefIdeal.Read
public import proofs.«01_k».proof.Proof.Gen.FfnAct
public import proofs.«01_k».proof.Proof.Gen.FfnAct.Skeleton
public import proofs.«01_k».proof.Proof.Gen.FfnAct.Launch
public import proofs.«01_k».proof.Proof.Gen.FfnAct.Points
public import proofs.«01_k».proof.Proof.Gen.FfnAct.Frame
public import proofs.«01_k».proof.Proof.Gen.FfnActIdeal
public import proofs.«01_k».proof.Proof.Gen.FfnActIdeal.Skeleton
public import proofs.«01_k».proof.Proof.Gen.FfnActIdeal.Launch
public import proofs.«01_k».proof.Proof.Gen.FfnActIdeal.Points
public import proofs.«01_k».proof.Proof.Gen.FfnActIdeal.Frame
public import proofs.«01_k».proof.Proof.Gen.FfnActIdeal.Value
public import proofs.«01_k».proof.Proof.Gen.FfnActRefIdeal
public import proofs.«01_k».proof.Proof.Gen.FfnActRefIdeal.Run
public import proofs.«01_k».proof.Proof.Gen.FfnActRefIdeal.Read
public import proofs.«01_k».proof.Proof.Gen.Gated
public import proofs.«01_k».proof.Proof.Gen.Gated.Skeleton
public import proofs.«01_k».proof.Proof.Gen.Gated.Launch
public import proofs.«01_k».proof.Proof.Gen.Gated.Points
public import proofs.«01_k».proof.Proof.Gen.Gated.Frame
public import proofs.«01_k».proof.Proof.Gen.GatedIdeal
public import proofs.«01_k».proof.Proof.Gen.GatedIdeal.Skeleton
public import proofs.«01_k».proof.Proof.Gen.GatedIdeal.Launch
public import proofs.«01_k».proof.Proof.Gen.GatedIdeal.Points
public import proofs.«01_k».proof.Proof.Gen.GatedIdeal.Frame
public import proofs.«01_k».proof.Proof.Gen.GatedIdeal.Value
public import proofs.«01_k».proof.Proof.Gen.GatedRefIdeal
public import proofs.«01_k».proof.Proof.Gen.GatedRefIdeal.Run
public import proofs.«01_k».proof.Proof.Gen.GatedRefIdeal.Read
public import proofs.«01_k».proof.Proof.Gen.PoolOut
public import proofs.«01_k».proof.Proof.Gen.PoolOut.Skeleton
public import proofs.«01_k».proof.Proof.Gen.PoolOut.Launch
public import proofs.«01_k».proof.Proof.Gen.PoolOut.Points
public import proofs.«01_k».proof.Proof.Gen.PoolOut.Frame
public import proofs.«01_k».proof.Proof.Gen.PoolOutIdeal
public import proofs.«01_k».proof.Proof.Gen.PoolOutIdeal.Skeleton
public import proofs.«01_k».proof.Proof.Gen.PoolOutIdeal.Launch
public import proofs.«01_k».proof.Proof.Gen.PoolOutIdeal.Points
public import proofs.«01_k».proof.Proof.Gen.PoolOutIdeal.Frame
public import proofs.«01_k».proof.Proof.Gen.PoolOutIdeal.Value
public import proofs.«01_k».proof.Proof.Gen.PoolOutRefIdeal
public import proofs.«01_k».proof.Proof.Gen.PoolOutRefIdeal.Run
public import proofs.«01_k».proof.Proof.Gen.PoolOutRefIdeal.Read
public import proofs.«01_k».proof.Proof.Gen.SguOut
public import proofs.«01_k».proof.Proof.Gen.SguOut.Skeleton
public import proofs.«01_k».proof.Proof.Gen.SguOut.Launch
public import proofs.«01_k».proof.Proof.Gen.SguOut.Points
public import proofs.«01_k».proof.Proof.Gen.SguOut.Frame
public import proofs.«01_k».proof.Proof.Gen.SguOutIdeal
public import proofs.«01_k».proof.Proof.Gen.SguOutIdeal.Skeleton
public import proofs.«01_k».proof.Proof.Gen.SguOutIdeal.Launch
public import proofs.«01_k».proof.Proof.Gen.SguOutIdeal.Points
public import proofs.«01_k».proof.Proof.Gen.SguOutIdeal.Frame
public import proofs.«01_k».proof.Proof.Gen.SguOutIdeal.Value
public import proofs.«01_k».proof.Proof.Gen.SguOutRefIdeal
public import proofs.«01_k».proof.Proof.Gen.SguOutRefIdeal.Run
public import proofs.«01_k».proof.Proof.Gen.SguOutRefIdeal.Read
public import proofs.«01_k».proof.Proof.Gen.UpProj
public import proofs.«01_k».proof.Proof.Gen.UpProj.Skeleton
public import proofs.«01_k».proof.Proof.Gen.UpProj.Launch
public import proofs.«01_k».proof.Proof.Gen.UpProj.Points
public import proofs.«01_k».proof.Proof.Gen.UpProj.Frame
public import proofs.«01_k».proof.Proof.Gen.UpProjIdeal
public import proofs.«01_k».proof.Proof.Gen.UpProjIdeal.Skeleton
public import proofs.«01_k».proof.Proof.Gen.UpProjIdeal.Launch
public import proofs.«01_k».proof.Proof.Gen.UpProjIdeal.Points
public import proofs.«01_k».proof.Proof.Gen.UpProjIdeal.Frame
public import proofs.«01_k».proof.Proof.Gen.UpProjIdeal.Value
public import proofs.«01_k».proof.Proof.Gen.UpProjRefIdeal
public import proofs.«01_k».proof.Proof.Gen.UpProjRefIdeal.Run
public import proofs.«01_k».proof.Proof.Gen.UpProjRefIdeal.Read
public import proofs.«01_k».proof.Proof.Gen.PleGateProj
public import proofs.«01_k».proof.Proof.Gen.PleGateProj.Skeleton
public import proofs.«01_k».proof.Proof.Gen.PleGateProj.Launch
public import proofs.«01_k».proof.Proof.Gen.PleGateProj.Points
public import proofs.«01_k».proof.Proof.Gen.PleGateProj.Frame
public import proofs.«01_k».proof.Proof.Gen.PleGateProjIdeal
public import proofs.«01_k».proof.Proof.Gen.PleGateProjIdeal.Skeleton
public import proofs.«01_k».proof.Proof.Gen.PleGateProjIdeal.Launch
public import proofs.«01_k».proof.Proof.Gen.PleGateProjIdeal.Points
public import proofs.«01_k».proof.Proof.Gen.PleGateProjIdeal.Frame
public import proofs.«01_k».proof.Proof.Gen.PleGateProjIdeal.Value
public import proofs.«01_k».proof.Proof.Gen.PleGateProjRefIdeal
public import proofs.«01_k».proof.Proof.Gen.PleGateProjRefIdeal.Run
public import proofs.«01_k».proof.Proof.Gen.PleGateProjRefIdeal.Read
public import proofs.«01_k».proof.Proof.Gen.PleProj
public import proofs.«01_k».proof.Proof.Gen.PleProj.Skeleton
public import proofs.«01_k».proof.Proof.Gen.PleProj.Launch
public import proofs.«01_k».proof.Proof.Gen.PleProj.Points
public import proofs.«01_k».proof.Proof.Gen.PleProj.Frame
public import proofs.«01_k».proof.Proof.Gen.PleProjIdeal
public import proofs.«01_k».proof.Proof.Gen.PleProjIdeal.Skeleton
public import proofs.«01_k».proof.Proof.Gen.PleProjIdeal.Launch
public import proofs.«01_k».proof.Proof.Gen.PleProjIdeal.Points
public import proofs.«01_k».proof.Proof.Gen.PleProjIdeal.Frame
public import proofs.«01_k».proof.Proof.Gen.PleProjIdeal.Value
public import proofs.«01_k».proof.Proof.Gen.PleProjRefIdeal
public import proofs.«01_k».proof.Proof.Gen.PleProjRefIdeal.Run
public import proofs.«01_k».proof.Proof.Gen.PleProjRefIdeal.Read
public import proofs.«01_k».proof.Proof.Gen.OutProj
public import proofs.«01_k».proof.Proof.Gen.OutProj.Skeleton
public import proofs.«01_k».proof.Proof.Gen.OutProj.Launch
public import proofs.«01_k».proof.Proof.Gen.OutProj.Points
public import proofs.«01_k».proof.Proof.Gen.OutProj.Frame
public import proofs.«01_k».proof.Proof.Gen.OutProjIdeal
public import proofs.«01_k».proof.Proof.Gen.OutProjIdeal.Skeleton
public import proofs.«01_k».proof.Proof.Gen.OutProjIdeal.Launch
public import proofs.«01_k».proof.Proof.Gen.OutProjIdeal.Points
public import proofs.«01_k».proof.Proof.Gen.OutProjIdeal.Frame
public import proofs.«01_k».proof.Proof.Gen.OutProjIdeal.Value
public import proofs.«01_k».proof.Proof.Gen.OutProjRefIdeal
public import proofs.«01_k».proof.Proof.Gen.OutProjRefIdeal.Run
public import proofs.«01_k».proof.Proof.Gen.OutProjRefIdeal.Read
public import proofs.«01_k».proof.Proof.Gen.DownProj
public import proofs.«01_k».proof.Proof.Gen.DownProj.Skeleton
public import proofs.«01_k».proof.Proof.Gen.DownProj.Launch
public import proofs.«01_k».proof.Proof.Gen.DownProj.Points
public import proofs.«01_k».proof.Proof.Gen.DownProj.Frame
public import proofs.«01_k».proof.Proof.Gen.DownProjIdeal
public import proofs.«01_k».proof.Proof.Gen.DownProjIdeal.Skeleton
public import proofs.«01_k».proof.Proof.Gen.DownProjIdeal.Launch
public import proofs.«01_k».proof.Proof.Gen.DownProjIdeal.Points
public import proofs.«01_k».proof.Proof.Gen.DownProjIdeal.Frame
public import proofs.«01_k».proof.Proof.Gen.DownProjIdeal.Value
public import proofs.«01_k».proof.Proof.Gen.DownProjRefIdeal
public import proofs.«01_k».proof.Proof.Gen.DownProjRefIdeal.Run
public import proofs.«01_k».proof.Proof.Gen.DownProjRefIdeal.Read
public import proofs.«01_k».proof.Proof.Gen.WPle
public import proofs.«01_k».proof.Proof.Gen.WPle.Skeleton
public import proofs.«01_k».proof.Proof.Gen.WPle.Launch
public import proofs.«01_k».proof.Proof.Gen.WPle.Points
public import proofs.«01_k».proof.Proof.Gen.WPle.Frame
public import proofs.«01_k».proof.Proof.Gen.WPleIdeal
public import proofs.«01_k».proof.Proof.Gen.WPleIdeal.Skeleton
public import proofs.«01_k».proof.Proof.Gen.WPleIdeal.Launch
public import proofs.«01_k».proof.Proof.Gen.WPleIdeal.Points
public import proofs.«01_k».proof.Proof.Gen.WPleIdeal.Frame
public import proofs.«01_k».proof.Proof.Gen.WPleIdeal.Value
public import proofs.«01_k».proof.Proof.Gen.WPleRefIdeal
public import proofs.«01_k».proof.Proof.Gen.WPleRefIdeal.Run
public import proofs.«01_k».proof.Proof.Gen.WPleRefIdeal.Read
public import proofs.«01_k».proof.Proof.Gen.AdamIn
public import proofs.«01_k».proof.Proof.Gen.AdamIn.Skeleton
public import proofs.«01_k».proof.Proof.Gen.AdamIn.Launch
public import proofs.«01_k».proof.Proof.Gen.AdamIn.Points
public import proofs.«01_k».proof.Proof.Gen.AdamIn.Frame
public import proofs.«01_k».proof.Proof.Gen.AdamInIdeal
public import proofs.«01_k».proof.Proof.Gen.AdamInIdeal.Skeleton
public import proofs.«01_k».proof.Proof.Gen.AdamInIdeal.Launch
public import proofs.«01_k».proof.Proof.Gen.AdamInIdeal.Points
public import proofs.«01_k».proof.Proof.Gen.AdamInIdeal.Frame
public import proofs.«01_k».proof.Proof.Gen.AdamInIdeal.Value
public import proofs.«01_k».proof.Proof.Gen.AdamInRefIdeal
public import proofs.«01_k».proof.Proof.Gen.AdamInRefIdeal.Run
public import proofs.«01_k».proof.Proof.Gen.AdamInRefIdeal.Read
public import proofs.«01_k».proof.Proof.Gen.AdamPool
public import proofs.«01_k».proof.Proof.Gen.AdamPool.Skeleton
public import proofs.«01_k».proof.Proof.Gen.AdamPool.Launch
public import proofs.«01_k».proof.Proof.Gen.AdamPool.Points
public import proofs.«01_k».proof.Proof.Gen.AdamPool.Frame
public import proofs.«01_k».proof.Proof.Gen.AdamPoolIdeal
public import proofs.«01_k».proof.Proof.Gen.AdamPoolIdeal.Skeleton
public import proofs.«01_k».proof.Proof.Gen.AdamPoolIdeal.Launch
public import proofs.«01_k».proof.Proof.Gen.AdamPoolIdeal.Points
public import proofs.«01_k».proof.Proof.Gen.AdamPoolIdeal.Frame
public import proofs.«01_k».proof.Proof.Gen.AdamPoolIdeal.Value
public import proofs.«01_k».proof.Proof.Gen.AdamPoolRefIdeal
public import proofs.«01_k».proof.Proof.Gen.AdamPoolRefIdeal.Run
public import proofs.«01_k».proof.Proof.Gen.AdamPoolRefIdeal.Read
public import proofs.«01_k».proof.Proof.Gen.AdamOut
public import proofs.«01_k».proof.Proof.Gen.AdamOut.Skeleton
public import proofs.«01_k».proof.Proof.Gen.AdamOut.Launch
public import proofs.«01_k».proof.Proof.Gen.AdamOut.Points
public import proofs.«01_k».proof.Proof.Gen.AdamOut.Frame
public import proofs.«01_k».proof.Proof.Gen.AdamOutIdeal
public import proofs.«01_k».proof.Proof.Gen.AdamOutIdeal.Skeleton
public import proofs.«01_k».proof.Proof.Gen.AdamOutIdeal.Launch
public import proofs.«01_k».proof.Proof.Gen.AdamOutIdeal.Points
public import proofs.«01_k».proof.Proof.Gen.AdamOutIdeal.Frame
public import proofs.«01_k».proof.Proof.Gen.AdamOutIdeal.Value
public import proofs.«01_k».proof.Proof.Gen.AdamOutRefIdeal
public import proofs.«01_k».proof.Proof.Gen.AdamOutRefIdeal.Run
public import proofs.«01_k».proof.Proof.Gen.AdamOutRefIdeal.Read
public import proofs.«01_k».proof.Proof.Gen.AdamUp
public import proofs.«01_k».proof.Proof.Gen.AdamUp.Skeleton
public import proofs.«01_k».proof.Proof.Gen.AdamUp.Launch
public import proofs.«01_k».proof.Proof.Gen.AdamUp.Points
public import proofs.«01_k».proof.Proof.Gen.AdamUp.Frame
public import proofs.«01_k».proof.Proof.Gen.AdamUpIdeal
public import proofs.«01_k».proof.Proof.Gen.AdamUpIdeal.Skeleton
public import proofs.«01_k».proof.Proof.Gen.AdamUpIdeal.Launch
public import proofs.«01_k».proof.Proof.Gen.AdamUpIdeal.Points
public import proofs.«01_k».proof.Proof.Gen.AdamUpIdeal.Frame
public import proofs.«01_k».proof.Proof.Gen.AdamUpIdeal.Value
public import proofs.«01_k».proof.Proof.Gen.AdamUpRefIdeal
public import proofs.«01_k».proof.Proof.Gen.AdamUpRefIdeal.Run
public import proofs.«01_k».proof.Proof.Gen.AdamUpRefIdeal.Read
public import proofs.«01_k».proof.Proof.Gen.AdamDown
public import proofs.«01_k».proof.Proof.Gen.AdamDown.Skeleton
public import proofs.«01_k».proof.Proof.Gen.AdamDown.Launch
public import proofs.«01_k».proof.Proof.Gen.AdamDown.Points
public import proofs.«01_k».proof.Proof.Gen.AdamDown.Frame
public import proofs.«01_k».proof.Proof.Gen.AdamDownIdeal
public import proofs.«01_k».proof.Proof.Gen.AdamDownIdeal.Skeleton
public import proofs.«01_k».proof.Proof.Gen.AdamDownIdeal.Launch
public import proofs.«01_k».proof.Proof.Gen.AdamDownIdeal.Points
public import proofs.«01_k».proof.Proof.Gen.AdamDownIdeal.Frame
public import proofs.«01_k».proof.Proof.Gen.AdamDownIdeal.Value
public import proofs.«01_k».proof.Proof.Gen.AdamDownRefIdeal
public import proofs.«01_k».proof.Proof.Gen.AdamDownRefIdeal.Run
public import proofs.«01_k».proof.Proof.Gen.AdamDownRefIdeal.Read
public import proofs.«01_k».proof.Proof.Gen.AdamSmall
public import proofs.«01_k».proof.Proof.Gen.AdamSmall.Skeleton
public import proofs.«01_k».proof.Proof.Gen.AdamSmall.Launch
public import proofs.«01_k».proof.Proof.Gen.AdamSmall.Points
public import proofs.«01_k».proof.Proof.Gen.AdamSmall.Frame
public import proofs.«01_k».proof.Proof.Gen.AdamSmallIdeal
public import proofs.«01_k».proof.Proof.Gen.AdamSmallIdeal.Skeleton
public import proofs.«01_k».proof.Proof.Gen.AdamSmallIdeal.Launch
public import proofs.«01_k».proof.Proof.Gen.AdamSmallIdeal.Points
public import proofs.«01_k».proof.Proof.Gen.AdamSmallIdeal.Frame
public import proofs.«01_k».proof.Proof.Gen.AdamSmallIdeal.Value
public import proofs.«01_k».proof.Proof.Gen.AdamSmallRefIdeal
public import proofs.«01_k».proof.Proof.Gen.AdamSmallRefIdeal.Run
public import proofs.«01_k».proof.Proof.Gen.AdamSmallRefIdeal.Read
public import proofs.«01_k».proof.Proof.Gen.LossHead
public import proofs.«01_k».proof.Proof.Gen.LossHead.Skeleton
public import proofs.«01_k».proof.Proof.Gen.LossHead.Launch
public import proofs.«01_k».proof.Proof.Gen.LossHead.Points
public import proofs.«01_k».proof.Proof.Gen.LossHead.Frame
public import proofs.«01_k».proof.Proof.Gen.LossHeadIdeal
public import proofs.«01_k».proof.Proof.Gen.LossHeadIdeal.Skeleton
public import proofs.«01_k».proof.Proof.Gen.LossHeadIdeal.Launch
public import proofs.«01_k».proof.Proof.Gen.LossHeadIdeal.Points
public import proofs.«01_k».proof.Proof.Gen.LossHeadIdeal.Frame
public import proofs.«01_k».proof.Proof.Gen.LossHeadIdeal.Value
public import proofs.«01_k».proof.Proof.Gen.LossHeadRefIdeal
public import proofs.«01_k».proof.Proof.Gen.LossHeadRefIdeal.Run
public import proofs.«01_k».proof.Proof.Gen.LossHeadRefIdeal.Read
public import proofs.«01_k».proof.Proof.Gen.FfnNorm
public import proofs.«01_k».proof.Proof.Gen.FfnNorm.Skeleton
public import proofs.«01_k».proof.Proof.Gen.FfnNorm.Launch
public import proofs.«01_k».proof.Proof.Gen.FfnNorm.Points
public import proofs.«01_k».proof.Proof.Gen.FfnNorm.Frame
public import proofs.«01_k».proof.Proof.Gen.FfnNormIdeal
public import proofs.«01_k».proof.Proof.Gen.FfnNormIdeal.Skeleton
public import proofs.«01_k».proof.Proof.Gen.FfnNormIdeal.Launch
public import proofs.«01_k».proof.Proof.Gen.FfnNormIdeal.Points
public import proofs.«01_k».proof.Proof.Gen.FfnNormIdeal.Frame
public import proofs.«01_k».proof.Proof.Gen.FfnNormIdeal.Value
public import proofs.«01_k».proof.Proof.Gen.FfnNormRefIdeal
public import proofs.«01_k».proof.Proof.Gen.FfnNormRefIdeal.Run
public import proofs.«01_k».proof.Proof.Gen.FfnNormRefIdeal.Read
public import proofs.«01_k».proof.Proof.Gen.MixNorm
public import proofs.«01_k».proof.Proof.Gen.MixNorm.Skeleton
public import proofs.«01_k».proof.Proof.Gen.MixNorm.Launch
public import proofs.«01_k».proof.Proof.Gen.MixNorm.Points
public import proofs.«01_k».proof.Proof.Gen.MixNorm.Frame
public import proofs.«01_k».proof.Proof.Gen.MixNormIdeal
public import proofs.«01_k».proof.Proof.Gen.MixNormIdeal.Skeleton
public import proofs.«01_k».proof.Proof.Gen.MixNormIdeal.Launch
public import proofs.«01_k».proof.Proof.Gen.MixNormIdeal.Points
public import proofs.«01_k».proof.Proof.Gen.MixNormIdeal.Frame
public import proofs.«01_k».proof.Proof.Gen.MixNormIdeal.Value
public import proofs.«01_k».proof.Proof.Gen.MixNormRefIdeal
public import proofs.«01_k».proof.Proof.Gen.MixNormRefIdeal.Run
public import proofs.«01_k».proof.Proof.Gen.MixNormRefIdeal.Read
public import proofs.«01_k».proof.Proof.Gen.PleNorm
public import proofs.«01_k».proof.Proof.Gen.PleNorm.Skeleton
public import proofs.«01_k».proof.Proof.Gen.PleNorm.Launch
public import proofs.«01_k».proof.Proof.Gen.PleNorm.Points
public import proofs.«01_k».proof.Proof.Gen.PleNorm.Frame
public import proofs.«01_k».proof.Proof.Gen.PleNormIdeal
public import proofs.«01_k».proof.Proof.Gen.PleNormIdeal.Skeleton
public import proofs.«01_k».proof.Proof.Gen.PleNormIdeal.Launch
public import proofs.«01_k».proof.Proof.Gen.PleNormIdeal.Points
public import proofs.«01_k».proof.Proof.Gen.PleNormIdeal.Frame
public import proofs.«01_k».proof.Proof.Gen.PleNormIdeal.Value
public import proofs.«01_k».proof.Proof.Gen.PleNormRefIdeal
public import proofs.«01_k».proof.Proof.Gen.PleNormRefIdeal.Run
public import proofs.«01_k».proof.Proof.Gen.PleNormRefIdeal.Read
public import proofs.«01_k».proof.Proof.RefRuns
public import proofs.«01_k».proof.Proof.Algebraic
public import proofs.«01_k».proof.Proof.WUp
public import proofs.«01_k».proof.Proof.WIn
public import proofs.«01_k».proof.Proof.WDown
public import proofs.«01_k».proof.Proof.WOut
public import proofs.«01_k».proof.Proof.WPleGate
public import proofs.«01_k».proof.Proof.WBranchA
public import proofs.«01_k».proof.Proof.WBranchB
public import proofs.«01_k».proof.Proof.FfnAct
public import proofs.«01_k».proof.Proof.Gated
public import proofs.«01_k».proof.Proof.PoolOut
public import proofs.«01_k».proof.Proof.SguOut
public import proofs.«01_k».proof.Proof.UpProj
public import proofs.«01_k».proof.Proof.PleGateProj
public import proofs.«01_k».proof.Proof.PleProj
public import proofs.«01_k».proof.Proof.OutProj
public import proofs.«01_k».proof.Proof.DownProj
public import proofs.«01_k».proof.Proof.WPle
public import proofs.«01_k».proof.Proof.AdamIn
public import proofs.«01_k».proof.Proof.AdamPool
public import proofs.«01_k».proof.Proof.AdamOut
public import proofs.«01_k».proof.Proof.AdamUp
public import proofs.«01_k».proof.Proof.AdamDown
public import proofs.«01_k».proof.Proof.AdamSmall
public import proofs.«01_k».proof.Proof.LossHead
public import proofs.«01_k».proof.Proof.FfnNorm
public import proofs.«01_k».proof.Proof.MixNorm
public import proofs.«01_k».proof.Proof.PleNorm
public import Idealize.ShloMosaic.Adequacy
public import Idealize.ShloMosaic.Init
public import Idealize.ShloMosaic.Lib.Claim

@[expose] public section

set_option maxRecDepth 16384

noncomputable section

namespace Cert.Proof

open Idealize.ShloMosaic Idealize.SL.Sem

theorem claim : Cert.Claim := ⟨Cert.Kernel.Gen.facts, Cert.KernelIdeal.Gen.facts, Cert.ReferenceIdeal.Gen.facts,
  Cert.WUp.Gen.facts, Cert.WUpIdeal.Gen.facts, Cert.WUpRefIdeal.Gen.facts,
  Cert.WIn.Gen.facts, Cert.WInIdeal.Gen.facts, Cert.WInRefIdeal.Gen.facts,
  Cert.WDown.Gen.facts, Cert.WDownIdeal.Gen.facts, Cert.WDownRefIdeal.Gen.facts,
  Cert.WOut.Gen.facts, Cert.WOutIdeal.Gen.facts, Cert.WOutRefIdeal.Gen.facts,
  Cert.WPleGate.Gen.facts, Cert.WPleGateIdeal.Gen.facts, Cert.WPleGateRefIdeal.Gen.facts,
  Cert.WBranchA.Gen.facts, Cert.WBranchAIdeal.Gen.facts, Cert.WBranchARefIdeal.Gen.facts,
  Cert.WBranchB.Gen.facts, Cert.WBranchBIdeal.Gen.facts, Cert.WBranchBRefIdeal.Gen.facts,
  Cert.FfnAct.Gen.facts, Cert.FfnActIdeal.Gen.facts, Cert.FfnActRefIdeal.Gen.facts,
  Cert.Gated.Gen.facts, Cert.GatedIdeal.Gen.facts, Cert.GatedRefIdeal.Gen.facts,
  Cert.PoolOut.Gen.facts, Cert.PoolOutIdeal.Gen.facts, Cert.PoolOutRefIdeal.Gen.facts,
  Cert.SguOut.Gen.facts, Cert.SguOutIdeal.Gen.facts, Cert.SguOutRefIdeal.Gen.facts,
  Cert.UpProj.Gen.facts, Cert.UpProjIdeal.Gen.facts, Cert.UpProjRefIdeal.Gen.facts,
  Cert.PleGateProj.Gen.facts, Cert.PleGateProjIdeal.Gen.facts, Cert.PleGateProjRefIdeal.Gen.facts,
  Cert.PleProj.Gen.facts, Cert.PleProjIdeal.Gen.facts, Cert.PleProjRefIdeal.Gen.facts,
  Cert.OutProj.Gen.facts, Cert.OutProjIdeal.Gen.facts, Cert.OutProjRefIdeal.Gen.facts,
  Cert.DownProj.Gen.facts, Cert.DownProjIdeal.Gen.facts, Cert.DownProjRefIdeal.Gen.facts,
  Cert.WPle.Gen.facts, Cert.WPleIdeal.Gen.facts, Cert.WPleRefIdeal.Gen.facts,
  Cert.AdamIn.Gen.facts, Cert.AdamInIdeal.Gen.facts, Cert.AdamInRefIdeal.Gen.facts,
  Cert.AdamPool.Gen.facts, Cert.AdamPoolIdeal.Gen.facts, Cert.AdamPoolRefIdeal.Gen.facts,
  Cert.AdamOut.Gen.facts, Cert.AdamOutIdeal.Gen.facts, Cert.AdamOutRefIdeal.Gen.facts,
  Cert.AdamUp.Gen.facts, Cert.AdamUpIdeal.Gen.facts, Cert.AdamUpRefIdeal.Gen.facts,
  Cert.AdamDown.Gen.facts, Cert.AdamDownIdeal.Gen.facts, Cert.AdamDownRefIdeal.Gen.facts,
  Cert.AdamSmall.Gen.facts, Cert.AdamSmallIdeal.Gen.facts, Cert.AdamSmallRefIdeal.Gen.facts,
  Cert.LossHead.Gen.facts, Cert.LossHeadIdeal.Gen.facts, Cert.LossHeadRefIdeal.Gen.facts,
  Cert.FfnNorm.Gen.facts, Cert.FfnNormIdeal.Gen.facts, Cert.FfnNormRefIdeal.Gen.facts,
  Cert.MixNorm.Gen.facts, Cert.MixNormIdeal.Gen.facts, Cert.MixNormRefIdeal.Gen.facts,
  Cert.PleNorm.Gen.facts, Cert.PleNormIdeal.Gen.facts, Cert.PleNormRefIdeal.Gen.facts,
  preShapes, Cert.LossHeadIdeal.Mix.preShapes, Cert.FfnNormIdeal.Mix.preShapes, Cert.MixNormIdeal.Mix.preShapes, Cert.PleNormIdeal.Mix.preShapes,
  fun m g _ => Cert.Kernel.Gen.frame m g, fun m g _ => Cert.KernelIdeal.Gen.frame m g, fun m g _ => Cert.KernelIdeal.Gen.frame m g,
  fun m g _ => refRuns m g trivial, fun m g _ => refRuns m g trivial,
  Cert.WUpIdeal.Mix.frameBits, Cert.WUpIdeal.Mix.frameIdeal, Cert.WUpIdeal.Mix.frameRef,
  Cert.WInIdeal.Mix.frameBits, Cert.WInIdeal.Mix.frameIdeal, Cert.WInIdeal.Mix.frameRef,
  Cert.WDownIdeal.Mix.frameBits, Cert.WDownIdeal.Mix.frameIdeal, Cert.WDownIdeal.Mix.frameRef,
  Cert.WOutIdeal.Mix.frameBits, Cert.WOutIdeal.Mix.frameIdeal, Cert.WOutIdeal.Mix.frameRef,
  Cert.WPleGateIdeal.Mix.frameBits, Cert.WPleGateIdeal.Mix.frameIdeal, Cert.WPleGateIdeal.Mix.frameRef,
  Cert.WBranchAIdeal.Mix.frameBits, Cert.WBranchAIdeal.Mix.frameIdeal, Cert.WBranchAIdeal.Mix.frameRef,
  Cert.WBranchBIdeal.Mix.frameBits, Cert.WBranchBIdeal.Mix.frameIdeal, Cert.WBranchBIdeal.Mix.frameRef,
  Cert.FfnActIdeal.Mix.frameBits, Cert.FfnActIdeal.Mix.frameIdeal, Cert.FfnActIdeal.Mix.frameRef,
  Cert.GatedIdeal.Mix.frameBits, Cert.GatedIdeal.Mix.frameIdeal, Cert.GatedIdeal.Mix.frameRef,
  Cert.PoolOutIdeal.Mix.frameBits, Cert.PoolOutIdeal.Mix.frameIdeal, Cert.PoolOutIdeal.Mix.frameRef,
  Cert.SguOutIdeal.Mix.frameBits, Cert.SguOutIdeal.Mix.frameIdeal, Cert.SguOutIdeal.Mix.frameRef,
  Cert.UpProjIdeal.Mix.frameBits, Cert.UpProjIdeal.Mix.frameIdeal, Cert.UpProjIdeal.Mix.frameRef,
  Cert.PleGateProjIdeal.Mix.frameBits, Cert.PleGateProjIdeal.Mix.frameIdeal, Cert.PleGateProjIdeal.Mix.frameRef,
  Cert.PleProjIdeal.Mix.frameBits, Cert.PleProjIdeal.Mix.frameIdeal, Cert.PleProjIdeal.Mix.frameRef,
  Cert.OutProjIdeal.Mix.frameBits, Cert.OutProjIdeal.Mix.frameIdeal, Cert.OutProjIdeal.Mix.frameRef,
  Cert.DownProjIdeal.Mix.frameBits, Cert.DownProjIdeal.Mix.frameIdeal, Cert.DownProjIdeal.Mix.frameRef,
  Cert.WPleIdeal.Mix.frameBits, Cert.WPleIdeal.Mix.frameIdeal, Cert.WPleIdeal.Mix.frameRef,
  Cert.AdamInIdeal.Mix.frameBits, Cert.AdamInIdeal.Mix.frameIdeal, Cert.AdamInIdeal.Mix.frameRef,
  Cert.AdamPoolIdeal.Mix.frameBits, Cert.AdamPoolIdeal.Mix.frameIdeal, Cert.AdamPoolIdeal.Mix.frameRef,
  Cert.AdamOutIdeal.Mix.frameBits, Cert.AdamOutIdeal.Mix.frameIdeal, Cert.AdamOutIdeal.Mix.frameRef,
  Cert.AdamUpIdeal.Mix.frameBits, Cert.AdamUpIdeal.Mix.frameIdeal, Cert.AdamUpIdeal.Mix.frameRef,
  Cert.AdamDownIdeal.Mix.frameBits, Cert.AdamDownIdeal.Mix.frameIdeal, Cert.AdamDownIdeal.Mix.frameRef,
  Cert.AdamSmallIdeal.Mix.frameBits, Cert.AdamSmallIdeal.Mix.frameIdeal, Cert.AdamSmallIdeal.Mix.frameRef,
  Cert.LossHeadIdeal.Mix.frameBits, Cert.LossHeadIdeal.Mix.frameIdeal, fun m g _ => Cert.LossHeadIdeal.Mix.frameIdeal m g trivial,
  Cert.LossHeadIdeal.Mix.frameRef, fun m g _ => Cert.LossHeadIdeal.Mix.frameRef m g trivial,
  Cert.FfnNormIdeal.Mix.frameBits, Cert.FfnNormIdeal.Mix.frameIdeal, fun m g _ => Cert.FfnNormIdeal.Mix.frameIdeal m g trivial,
  Cert.FfnNormIdeal.Mix.frameRef, fun m g _ => Cert.FfnNormIdeal.Mix.frameRef m g trivial,
  Cert.MixNormIdeal.Mix.frameBits, Cert.MixNormIdeal.Mix.frameIdeal, fun m g _ => Cert.MixNormIdeal.Mix.frameIdeal m g trivial,
  Cert.MixNormIdeal.Mix.frameRef, fun m g _ => Cert.MixNormIdeal.Mix.frameRef m g trivial,
  Cert.PleNormIdeal.Mix.frameBits, Cert.PleNormIdeal.Mix.frameIdeal, fun m g _ => Cert.PleNormIdeal.Mix.frameIdeal m g trivial,
  Cert.PleNormIdeal.Mix.frameRef, fun m g _ => Cert.PleNormIdeal.Mix.frameRef m g trivial,
  ⟨IdealRules.named_const.statement Cert.KernelIdeal.κ "inv_sqrt2" .f32 0x3F3504F3#32 _ rfl,
   IdealRules.named_const.statement Cert.KernelIdeal.κ "inv_sqrt_2pi" .f32 0x3ECC422A#32 _ rfl⟩,
  algebraic,
  trivial, Cert.WUpIdeal.Mix.algebraic,
  trivial, Cert.WInIdeal.Mix.algebraic,
  trivial, Cert.WDownIdeal.Mix.algebraic,
  trivial, Cert.WOutIdeal.Mix.algebraic,
  trivial, Cert.WPleGateIdeal.Mix.algebraic,
  trivial, Cert.WBranchAIdeal.Mix.algebraic,
  trivial, Cert.WBranchBIdeal.Mix.algebraic,
  trivial, Cert.FfnActIdeal.Mix.algebraic,
  trivial, Cert.GatedIdeal.Mix.algebraic,
  trivial, Cert.PoolOutIdeal.Mix.algebraic,
  trivial, Cert.SguOutIdeal.Mix.algebraic,
  trivial, Cert.UpProjIdeal.Mix.algebraic,
  trivial, Cert.PleGateProjIdeal.Mix.algebraic,
  trivial, Cert.PleProjIdeal.Mix.algebraic,
  trivial, Cert.OutProjIdeal.Mix.algebraic,
  trivial, Cert.DownProjIdeal.Mix.algebraic,
  trivial, Cert.WPleIdeal.Mix.algebraic,
  trivial, Cert.AdamInIdeal.Mix.algebraic,
  trivial, Cert.AdamPoolIdeal.Mix.algebraic,
  trivial, Cert.AdamOutIdeal.Mix.algebraic,
  trivial, Cert.AdamUpIdeal.Mix.algebraic,
  trivial, Cert.AdamDownIdeal.Mix.algebraic,
  trivial, Cert.AdamSmallIdeal.Mix.algebraic,
  trivial, Cert.LossHeadIdeal.Mix.algebraic,
  trivial, Cert.FfnNormIdeal.Mix.algebraic,
  trivial, Cert.MixNormIdeal.Mix.algebraic,
  trivial, Cert.PleNormIdeal.Mix.algebraic⟩

end Cert.Proof

end
